-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_PostCtx (m : (ℓ : Loc Cert.PostCtx.nD Cert.PostCtx.τ Cert.PostCtx.sig) → Buf (Elt Bits) ℓ) : Prop :=
  True

def Pre_PostCtxIdeal (m : (ℓ : Loc Cert.PostCtxIdeal.nD Cert.PostCtxIdeal.τ Cert.PostCtxIdeal.sig) → Buf (Elt Ideal) ℓ) : Prop :=
  True

def Pre_PostCtxRefIdeal (m : (ℓ : Loc Cert.PostCtxRefIdeal.nD Cert.PostCtxRefIdeal.τ Cert.PostCtxRefIdeal.sig) → Buf (Elt Ideal) ℓ) : Prop :=
  True

def Pre_PreEven (m : (ℓ : Loc Cert.PreEven.nD Cert.PreEven.τ Cert.PreEven.sig) → Buf (Elt Bits) ℓ) : Prop :=
  True

def Pre_PreEvenIdeal (m : (ℓ : Loc Cert.PreEvenIdeal.nD Cert.PreEvenIdeal.τ Cert.PreEvenIdeal.sig) → Buf (Elt Ideal) ℓ) : Prop :=
  True

def Pre_PreEvenRefIdeal (m : (ℓ : Loc Cert.PreEvenRefIdeal.nD Cert.PreEvenRefIdeal.τ Cert.PreEvenRefIdeal.sig) → Buf (Elt Ideal) ℓ) : Prop :=
  True

def Pre_PreOdd (m : (ℓ : Loc Cert.PreOdd.nD Cert.PreOdd.τ Cert.PreOdd.sig) → Buf (Elt Bits) ℓ) : Prop :=
  True

def Pre_PreOddIdeal (m : (ℓ : Loc Cert.PreOddIdeal.nD Cert.PreOddIdeal.τ Cert.PreOddIdeal.sig) → Buf (Elt Ideal) ℓ) : Prop :=
  True

def Pre_PreOddRefIdeal (m : (ℓ : Loc Cert.PreOddRefIdeal.nD Cert.PreOddRefIdeal.τ Cert.PreOddRefIdeal.sig) → Buf (Elt Ideal) ℓ) : Prop :=
  True

def Pre_PostEven (m : (ℓ : Loc Cert.PostEven.nD Cert.PostEven.τ Cert.PostEven.sig) → Buf (Elt Bits) ℓ) : Prop :=
  True

def Pre_PostEvenIdeal (m : (ℓ : Loc Cert.PostEvenIdeal.nD Cert.PostEvenIdeal.τ Cert.PostEvenIdeal.sig) → Buf (Elt Ideal) ℓ) : Prop :=
  True

def Pre_PostEvenRefIdeal (m : (ℓ : Loc Cert.PostEvenRefIdeal.nD Cert.PostEvenRefIdeal.τ Cert.PostEvenRefIdeal.sig) → Buf (Elt Ideal) ℓ) : Prop :=
  True

def Pre_PostEvenCtx (m : (ℓ : Loc Cert.PostEvenCtx.nD Cert.PostEvenCtx.τ Cert.PostEvenCtx.sig) → Buf (Elt Bits) ℓ) : Prop :=
  True

def Pre_PostEvenCtxIdeal (m : (ℓ : Loc Cert.PostEvenCtxIdeal.nD Cert.PostEvenCtxIdeal.τ Cert.PostEvenCtxIdeal.sig) → Buf (Elt Ideal) ℓ) : Prop :=
  True

def Pre_PostEvenCtxRefIdeal (m : (ℓ : Loc Cert.PostEvenCtxRefIdeal.nD Cert.PostEvenCtxRefIdeal.τ Cert.PostEvenCtxRefIdeal.sig) → Buf (Elt Ideal) ℓ) : Prop :=
  True

def Pre_PreOddLat (m : (ℓ : Loc Cert.PreOddLat.nD Cert.PreOddLat.τ Cert.PreOddLat.sig) → Buf (Elt Bits) ℓ) : Prop :=
  True

def Pre_PreOddLatIdeal (m : (ℓ : Loc Cert.PreOddLatIdeal.nD Cert.PreOddLatIdeal.τ Cert.PreOddLatIdeal.sig) → Buf (Elt Ideal) ℓ) : Prop :=
  True

def Pre_PreOddLatRefIdeal (m : (ℓ : Loc Cert.PreOddLatRefIdeal.nD Cert.PreOddLatRefIdeal.τ Cert.PreOddLatRefIdeal.sig) → Buf (Elt Ideal) ℓ) : Prop :=
  True

def Pre_PreEvenLat (m : (ℓ : Loc Cert.PreEvenLat.nD Cert.PreEvenLat.τ Cert.PreEvenLat.sig) → Buf (Elt Bits) ℓ) : Prop :=
  True

def Pre_PreEvenLatIdeal (m : (ℓ : Loc Cert.PreEvenLatIdeal.nD Cert.PreEvenLatIdeal.τ Cert.PreEvenLatIdeal.sig) → Buf (Elt Ideal) ℓ) : Prop :=
  True

def Pre_PreEvenLatIdeal_mean_table [hPre_mean_table : Cert.Pre_mean_table.Facts] (m : (ℓ : Loc Cert.PreEvenLatIdeal.nD Cert.PreEvenLatIdeal.τ Cert.PreEvenLatIdeal.sig) → Buf (Elt Ideal) ℓ) : Prop :=
  ∀ c : Dev Cert.PreEvenLatIdeal.nD,
    (Cert.Pre_mean_table.fn (F := Ideal) (m ((c.tc : Thread Cert.PreEvenLatIdeal.nD Cert.PreEvenLatIdeal.τ).loc Cert.PreEvenLatIdeal.main_arg0)) (m ((c.tc : Thread Cert.PreEvenLatIdeal.nD Cert.PreEvenLatIdeal.τ).loc Cert.PreEvenLatIdeal.main_arg1)) (m ((c.tc : Thread Cert.PreEvenLatIdeal.nD Cert.PreEvenLatIdeal.τ).loc Cert.PreEvenLatIdeal.main_arg2)) (m ((c.tc : Thread Cert.PreEvenLatIdeal.nD Cert.PreEvenLatIdeal.τ).loc Cert.PreEvenLatIdeal.main_arg3)) (m ((c.tc : Thread Cert.PreEvenLatIdeal.nD Cert.PreEvenLatIdeal.τ).loc Cert.PreEvenLatIdeal.main_arg4)) (m ((c.tc : Thread Cert.PreEvenLatIdeal.nD Cert.PreEvenLatIdeal.τ).loc Cert.PreEvenLatIdeal.main_arg5)) (m ((c.tc : Thread Cert.PreEvenLatIdeal.nD Cert.PreEvenLatIdeal.τ).loc Cert.PreEvenLatIdeal.main_arg6)) (m ((c.tc : Thread Cert.PreEvenLatIdeal.nD Cert.PreEvenLatIdeal.τ).loc Cert.PreEvenLatIdeal.main_arg7)) (m ((c.tc : Thread Cert.PreEvenLatIdeal.nD Cert.PreEvenLatIdeal.τ).loc Cert.PreEvenLatIdeal.main_arg8)) (m ((c.tc : Thread Cert.PreEvenLatIdeal.nD Cert.PreEvenLatIdeal.τ).loc Cert.PreEvenLatIdeal.main_arg9)) (m ((c.tc : Thread Cert.PreEvenLatIdeal.nD Cert.PreEvenLatIdeal.τ).loc Cert.PreEvenLatIdeal.main_arg10))) = (fun _ => 1#1)

def Pre_PreEvenLatRefIdeal (m : (ℓ : Loc Cert.PreEvenLatRefIdeal.nD Cert.PreEvenLatRefIdeal.τ Cert.PreEvenLatRefIdeal.sig) → Buf (Elt Ideal) ℓ) : Prop :=
  True

def Pre_PreEvenLatRefIdeal_mean_table [hPre_mean_table : Cert.Pre_mean_table.Facts] (m : (ℓ : Loc Cert.PreEvenLatRefIdeal.nD Cert.PreEvenLatRefIdeal.τ Cert.PreEvenLatRefIdeal.sig) → Buf (Elt Ideal) ℓ) : Prop :=
  ∀ c : Dev Cert.PreEvenLatRefIdeal.nD,
    (Cert.Pre_mean_table.fn (F := Ideal) (m ((c.tc : Thread Cert.PreEvenLatRefIdeal.nD Cert.PreEvenLatRefIdeal.τ).loc Cert.PreEvenLatRefIdeal.main_arg0)) (m ((c.tc : Thread Cert.PreEvenLatRefIdeal.nD Cert.PreEvenLatRefIdeal.τ).loc Cert.PreEvenLatRefIdeal.main_arg1)) (m ((c.tc : Thread Cert.PreEvenLatRefIdeal.nD Cert.PreEvenLatRefIdeal.τ).loc Cert.PreEvenLatRefIdeal.main_arg2)) (m ((c.tc : Thread Cert.PreEvenLatRefIdeal.nD Cert.PreEvenLatRefIdeal.τ).loc Cert.PreEvenLatRefIdeal.main_arg3)) (m ((c.tc : Thread Cert.PreEvenLatRefIdeal.nD Cert.PreEvenLatRefIdeal.τ).loc Cert.PreEvenLatRefIdeal.main_arg4)) (m ((c.tc : Thread Cert.PreEvenLatRefIdeal.nD Cert.PreEvenLatRefIdeal.τ).loc Cert.PreEvenLatRefIdeal.main_arg5)) (m ((c.tc : Thread Cert.PreEvenLatRefIdeal.nD Cert.PreEvenLatRefIdeal.τ).loc Cert.PreEvenLatRefIdeal.main_arg6)) (m ((c.tc : Thread Cert.PreEvenLatRefIdeal.nD Cert.PreEvenLatRefIdeal.τ).loc Cert.PreEvenLatRefIdeal.main_arg7)) (m ((c.tc : Thread Cert.PreEvenLatRefIdeal.nD Cert.PreEvenLatRefIdeal.τ).loc Cert.PreEvenLatRefIdeal.main_arg8)) (m ((c.tc : Thread Cert.PreEvenLatRefIdeal.nD Cert.PreEvenLatRefIdeal.τ).loc Cert.PreEvenLatRefIdeal.main_arg9)) (m ((c.tc : Thread Cert.PreEvenLatRefIdeal.nD Cert.PreEvenLatRefIdeal.τ).loc Cert.PreEvenLatRefIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7))
      ∧ r.2.sem = fun _ => 0)

def quiescent_PostCtx [hPostCtx : Cert.PostCtx.Facts] : Prop :=
  ∀ (m : (ℓ : Loc Cert.PostCtx.nD Cert.PostCtx.τ Cert.PostCtx.sig) → Buf (Elt Bits) ℓ) (g : Dev Cert.PostCtx.nD → PrngReg), Pre_PostCtx m →
    θ_run (Cert.PostCtx.defs (F := Bits)) (onTc (τ := Cert.PostCtx.τ) (Cert.PostCtx.main (F := Bits))) ⟨m, fun _ => 0, g⟩ (fun r => (∀ c : Dev Cert.PostCtx.nD,
      r.2.mem ((c.tc : Thread Cert.PostCtx.nD Cert.PostCtx.τ).loc Cert.PostCtx.main_arg0) = m ((c.tc : Thread Cert.PostCtx.nD Cert.PostCtx.τ).loc Cert.PostCtx.main_arg0)
      ∧ r.2.mem ((c.tc : Thread Cert.PostCtx.nD Cert.PostCtx.τ).loc Cert.PostCtx.main_arg1) = m ((c.tc : Thread Cert.PostCtx.nD Cert.PostCtx.τ).loc Cert.PostCtx.main_arg1)
      ∧ r.2.mem ((c.tc : Thread Cert.PostCtx.nD Cert.PostCtx.τ).loc Cert.PostCtx.main_arg2) = m ((c.tc : Thread Cert.PostCtx.nD Cert.PostCtx.τ).loc Cert.PostCtx.main_arg2)
      ∧ r.2.mem ((c.tc : Thread Cert.PostCtx.nD Cert.PostCtx.τ).loc Cert.PostCtx.main_arg3) = m ((c.tc : Thread Cert.PostCtx.nD Cert.PostCtx.τ).loc Cert.PostCtx.main_arg3)
      ∧ r.2.mem ((c.tc : Thread Cert.PostCtx.nD Cert.PostCtx.τ).loc Cert.PostCtx.main_arg4) = m ((c.tc : Thread Cert.PostCtx.nD Cert.PostCtx.τ).loc Cert.PostCtx.main_arg4)
      ∧ r.2.mem ((c.tc : Thread Cert.PostCtx.nD Cert.PostCtx.τ).loc Cert.PostCtx.main_arg5) = m ((c.tc : Thread Cert.PostCtx.nD Cert.PostCtx.τ).loc Cert.PostCtx.main_arg5)
      ∧ r.2.mem ((c.tc : Thread Cert.PostCtx.nD Cert.PostCtx.τ).loc Cert.PostCtx.main_arg6) = m ((c.tc : Thread Cert.PostCtx.nD Cert.PostCtx.τ).loc Cert.PostCtx.main_arg6)
      ∧ r.2.mem ((c.tc : Thread Cert.PostCtx.nD Cert.PostCtx.τ).loc Cert.PostCtx.main_arg7) = m ((c.tc : Thread Cert.PostCtx.nD Cert.PostCtx.τ).loc Cert.PostCtx.main_arg7))
      ∧ r.2.sem = fun _ => 0)

def quiescent_PostCtxIdeal [hPostCtxIdeal : Cert.PostCtxIdeal.Facts] : Prop :=
  ∀ (m : (ℓ : Loc Cert.PostCtxIdeal.nD Cert.PostCtxIdeal.τ Cert.PostCtxIdeal.sig) → Buf (Elt Ideal) ℓ) (g : Dev Cert.PostCtxIdeal.nD → PrngReg), Pre_PostCtxIdeal m →
    θ_run (Cert.PostCtxIdeal.defs (F := Ideal)) (onTc (τ := Cert.PostCtxIdeal.τ) (Cert.PostCtxIdeal.main (F := Ideal))) ⟨m, fun _ => 0, g⟩ (fun r => (∀ c : Dev Cert.PostCtxIdeal.nD,
      r.2.mem ((c.tc : Thread Cert.PostCtxIdeal.nD Cert.PostCtxIdeal.τ).loc Cert.PostCtxIdeal.main_arg0) = m ((c.tc : Thread Cert.PostCtxIdeal.nD Cert.PostCtxIdeal.τ).loc Cert.PostCtxIdeal.main_arg0)
      ∧ r.2.mem ((c.tc : Thread Cert.PostCtxIdeal.nD Cert.PostCtxIdeal.τ).loc Cert.PostCtxIdeal.main_arg1) = m ((c.tc : Thread Cert.PostCtxIdeal.nD Cert.PostCtxIdeal.τ).loc Cert.PostCtxIdeal.main_arg1)
      ∧ r.2.mem ((c.tc : Thread Cert.PostCtxIdeal.nD Cert.PostCtxIdeal.τ).loc Cert.PostCtxIdeal.main_arg2) = m ((c.tc : Thread Cert.PostCtxIdeal.nD Cert.PostCtxIdeal.τ).loc Cert.PostCtxIdeal.main_arg2)
      ∧ r.2.mem ((c.tc : Thread Cert.PostCtxIdeal.nD Cert.PostCtxIdeal.τ).loc Cert.PostCtxIdeal.main_arg3) = m ((c.tc : Thread Cert.PostCtxIdeal.nD Cert.PostCtxIdeal.τ).loc Cert.PostCtxIdeal.main_arg3)
      ∧ r.2.mem ((c.tc : Thread Cert.PostCtxIdeal.nD Cert.PostCtxIdeal.τ).loc Cert.PostCtxIdeal.main_arg4) = m ((c.tc : Thread Cert.PostCtxIdeal.nD Cert.PostCtxIdeal.τ).loc Cert.PostCtxIdeal.main_arg4)
      ∧ r.2.mem ((c.tc : Thread Cert.PostCtxIdeal.nD Cert.PostCtxIdeal.τ).loc Cert.PostCtxIdeal.main_arg5) = m ((c.tc : Thread Cert.PostCtxIdeal.nD Cert.PostCtxIdeal.τ).loc Cert.PostCtxIdeal.main_arg5)
      ∧ r.2.mem ((c.tc : Thread Cert.PostCtxIdeal.nD Cert.PostCtxIdeal.τ).loc Cert.PostCtxIdeal.main_arg6) = m ((c.tc : Thread Cert.PostCtxIdeal.nD Cert.PostCtxIdeal.τ).loc Cert.PostCtxIdeal.main_arg6)
      ∧ r.2.mem ((c.tc : Thread Cert.PostCtxIdeal.nD Cert.PostCtxIdeal.τ).loc Cert.PostCtxIdeal.main_arg7) = m ((c.tc : Thread Cert.PostCtxIdeal.nD Cert.PostCtxIdeal.τ).loc Cert.PostCtxIdeal.main_arg7))
      ∧ r.2.sem = fun _ => 0)

def quiescent_PostCtxRefIdeal [hPostCtxRefIdeal : Cert.PostCtxRefIdeal.Facts] : Prop :=
  ∀ (m : (ℓ : Loc Cert.PostCtxRefIdeal.nD Cert.PostCtxRefIdeal.τ Cert.PostCtxRefIdeal.sig) → Buf (Elt Ideal) ℓ) (g : Dev Cert.PostCtxRefIdeal.nD → PrngReg), Pre_PostCtxRefIdeal m →
    θ_run (Cert.PostCtxRefIdeal.defs (F := Ideal)) (onTc (τ := Cert.PostCtxRefIdeal.τ) (Cert.PostCtxRefIdeal.main (F := Ideal))) ⟨m, fun _ => 0, g⟩ (fun r => (∀ c : Dev Cert.PostCtxRefIdeal.nD,
      r.2.mem ((c.tc : Thread Cert.PostCtxRefIdeal.nD Cert.PostCtxRefIdeal.τ).loc Cert.PostCtxRefIdeal.main_arg0) = m ((c.tc : Thread Cert.PostCtxRefIdeal.nD Cert.PostCtxRefIdeal.τ).loc Cert.PostCtxRefIdeal.main_arg0)
      ∧ r.2.mem ((c.tc : Thread Cert.PostCtxRefIdeal.nD Cert.PostCtxRefIdeal.τ).loc Cert.PostCtxRefIdeal.main_arg1) = m ((c.tc : Thread Cert.PostCtxRefIdeal.nD Cert.PostCtxRefIdeal.τ).loc Cert.PostCtxRefIdeal.main_arg1)
      ∧ r.2.mem ((c.tc : Thread Cert.PostCtxRefIdeal.nD Cert.PostCtxRefIdeal.τ).loc Cert.PostCtxRefIdeal.main_arg2) = m ((c.tc : Thread Cert.PostCtxRefIdeal.nD Cert.PostCtxRefIdeal.τ).loc Cert.PostCtxRefIdeal.main_arg2)
      ∧ r.2.mem ((c.tc : Thread Cert.PostCtxRefIdeal.nD Cert.PostCtxRefIdeal.τ).loc Cert.PostCtxRefIdeal.main_arg3) = m ((c.tc : Thread Cert.PostCtxRefIdeal.nD Cert.PostCtxRefIdeal.τ).loc Cert.PostCtxRefIdeal.main_arg3)
      ∧ r.2.mem ((c.tc : Thread Cert.PostCtxRefIdeal.nD Cert.PostCtxRefIdeal.τ).loc Cert.PostCtxRefIdeal.main_arg4) = m ((c.tc : Thread Cert.PostCtxRefIdeal.nD Cert.PostCtxRefIdeal.τ).loc Cert.PostCtxRefIdeal.main_arg4)
      ∧ r.2.mem ((c.tc : Thread Cert.PostCtxRefIdeal.nD Cert.PostCtxRefIdeal.τ).loc Cert.PostCtxRefIdeal.main_arg5) = m ((c.tc : Thread Cert.PostCtxRefIdeal.nD Cert.PostCtxRefIdeal.τ).loc Cert.PostCtxRefIdeal.main_arg5)
      ∧ r.2.mem ((c.tc : Thread Cert.PostCtxRefIdeal.nD Cert.PostCtxRefIdeal.τ).loc Cert.PostCtxRefIdeal.main_arg6) = m ((c.tc : Thread Cert.PostCtxRefIdeal.nD Cert.PostCtxRefIdeal.τ).loc Cert.PostCtxRefIdeal.main_arg6)
      ∧ r.2.mem ((c.tc : Thread Cert.PostCtxRefIdeal.nD Cert.PostCtxRefIdeal.τ).loc Cert.PostCtxRefIdeal.main_arg7) = m ((c.tc : Thread Cert.PostCtxRefIdeal.nD Cert.PostCtxRefIdeal.τ).loc Cert.PostCtxRefIdeal.main_arg7))
      ∧ r.2.sem = fun _ => 0)

def quiescent_PreEven [hPreEven : Cert.PreEven.Facts] : Prop :=
  ∀ (m : (ℓ : Loc Cert.PreEven.nD Cert.PreEven.τ Cert.PreEven.sig) → Buf (Elt Bits) ℓ) (g : Dev Cert.PreEven.nD → PrngReg), Pre_PreEven m →
    θ_run (Cert.PreEven.defs (F := Bits)) (onTc (τ := Cert.PreEven.τ) (Cert.PreEven.main (F := Bits))) ⟨m, fun _ => 0, g⟩ (fun r => (∀ c : Dev Cert.PreEven.nD,
      r.2.mem ((c.tc : Thread Cert.PreEven.nD Cert.PreEven.τ).loc Cert.PreEven.main_arg0) = m ((c.tc : Thread Cert.PreEven.nD Cert.PreEven.τ).loc Cert.PreEven.main_arg0)
      ∧ r.2.mem ((c.tc : Thread Cert.PreEven.nD Cert.PreEven.τ).loc Cert.PreEven.main_arg1) = m ((c.tc : Thread Cert.PreEven.nD Cert.PreEven.τ).loc Cert.PreEven.main_arg1)
      ∧ r.2.mem ((c.tc : Thread Cert.PreEven.nD Cert.PreEven.τ).loc Cert.PreEven.main_arg2) = m ((c.tc : Thread Cert.PreEven.nD Cert.PreEven.τ).loc Cert.PreEven.main_arg2)
      ∧ r.2.mem ((c.tc : Thread Cert.PreEven.nD Cert.PreEven.τ).loc Cert.PreEven.main_arg3) = m ((c.tc : Thread Cert.PreEven.nD Cert.PreEven.τ).loc Cert.PreEven.main_arg3)
      ∧ r.2.mem ((c.tc : Thread Cert.PreEven.nD Cert.PreEven.τ).loc Cert.PreEven.main_arg4) = m ((c.tc : Thread Cert.PreEven.nD Cert.PreEven.τ).loc Cert.PreEven.main_arg4)
      ∧ r.2.mem ((c.tc : Thread Cert.PreEven.nD Cert.PreEven.τ).loc Cert.PreEven.main_arg5) = m ((c.tc : Thread Cert.PreEven.nD Cert.PreEven.τ).loc Cert.PreEven.main_arg5)
      ∧ r.2.mem ((c.tc : Thread Cert.PreEven.nD Cert.PreEven.τ).loc Cert.PreEven.main_arg6) = m ((c.tc : Thread Cert.PreEven.nD Cert.PreEven.τ).loc Cert.PreEven.main_arg6)
      ∧ r.2.mem ((c.tc : Thread Cert.PreEven.nD Cert.PreEven.τ).loc Cert.PreEven.main_arg7) = m ((c.tc : Thread Cert.PreEven.nD Cert.PreEven.τ).loc Cert.PreEven.main_arg7))
      ∧ r.2.sem = fun _ => 0)

def quiescent_PreEvenIdeal [hPreEvenIdeal : Cert.PreEvenIdeal.Facts] : Prop :=
  ∀ (m : (ℓ : Loc Cert.PreEvenIdeal.nD Cert.PreEvenIdeal.τ Cert.PreEvenIdeal.sig) → Buf (Elt Ideal) ℓ) (g : Dev Cert.PreEvenIdeal.nD → PrngReg), Pre_PreEvenIdeal m →
    θ_run (Cert.PreEvenIdeal.defs (F := Ideal)) (onTc (τ := Cert.PreEvenIdeal.τ) (Cert.PreEvenIdeal.main (F := Ideal))) ⟨m, fun _ => 0, g⟩ (fun r => (∀ c : Dev Cert.PreEvenIdeal.nD,
      r.2.mem ((c.tc : Thread Cert.PreEvenIdeal.nD Cert.PreEvenIdeal.τ).loc Cert.PreEvenIdeal.main_arg0) = m ((c.tc : Thread Cert.PreEvenIdeal.nD Cert.PreEvenIdeal.τ).loc Cert.PreEvenIdeal.main_arg0)
      ∧ r.2.mem ((c.tc : Thread Cert.PreEvenIdeal.nD Cert.PreEvenIdeal.τ).loc Cert.PreEvenIdeal.main_arg1) = m ((c.tc : Thread Cert.PreEvenIdeal.nD Cert.PreEvenIdeal.τ).loc Cert.PreEvenIdeal.main_arg1)
      ∧ r.2.mem ((c.tc : Thread Cert.PreEvenIdeal.nD Cert.PreEvenIdeal.τ).loc Cert.PreEvenIdeal.main_arg2) = m ((c.tc : Thread Cert.PreEvenIdeal.nD Cert.PreEvenIdeal.τ).loc Cert.PreEvenIdeal.main_arg2)
      ∧ r.2.mem ((c.tc : Thread Cert.PreEvenIdeal.nD Cert.PreEvenIdeal.τ).loc Cert.PreEvenIdeal.main_arg3) = m ((c.tc : Thread Cert.PreEvenIdeal.nD Cert.PreEvenIdeal.τ).loc Cert.PreEvenIdeal.main_arg3)
      ∧ r.2.mem ((c.tc : Thread Cert.PreEvenIdeal.nD Cert.PreEvenIdeal.τ).loc Cert.PreEvenIdeal.main_arg4) = m ((c.tc : Thread Cert.PreEvenIdeal.nD Cert.PreEvenIdeal.τ).loc Cert.PreEvenIdeal.main_arg4)
      ∧ r.2.mem ((c.tc : Thread Cert.PreEvenIdeal.nD Cert.PreEvenIdeal.τ).loc Cert.PreEvenIdeal.main_arg5) = m ((c.tc : Thread Cert.PreEvenIdeal.nD Cert.PreEvenIdeal.τ).loc Cert.PreEvenIdeal.main_arg5)
      ∧ r.2.mem ((c.tc : Thread Cert.PreEvenIdeal.nD Cert.PreEvenIdeal.τ).loc Cert.PreEvenIdeal.main_arg6) = m ((c.tc : Thread Cert.PreEvenIdeal.nD Cert.PreEvenIdeal.τ).loc Cert.PreEvenIdeal.main_arg6)
      ∧ r.2.mem ((c.tc : Thread Cert.PreEvenIdeal.nD Cert.PreEvenIdeal.τ).loc Cert.PreEvenIdeal.main_arg7) = m ((c.tc : Thread Cert.PreEvenIdeal.nD Cert.PreEvenIdeal.τ).loc Cert.PreEvenIdeal.main_arg7))
      ∧ r.2.sem = fun _ => 0)

def quiescent_PreEvenRefIdeal [hPreEvenRefIdeal : Cert.PreEvenRefIdeal.Facts] : Prop :=
  ∀ (m : (ℓ : Loc Cert.PreEvenRefIdeal.nD Cert.PreEvenRefIdeal.τ Cert.PreEvenRefIdeal.sig) → Buf (Elt Ideal) ℓ) (g : Dev Cert.PreEvenRefIdeal.nD → PrngReg), Pre_PreEvenRefIdeal m →
    θ_run (Cert.PreEvenRefIdeal.defs (F := Ideal)) (onTc (τ := Cert.PreEvenRefIdeal.τ) (Cert.PreEvenRefIdeal.main (F := Ideal))) ⟨m, fun _ => 0, g⟩ (fun r => (∀ c : Dev Cert.PreEvenRefIdeal.nD,
      r.2.mem ((c.tc : Thread Cert.PreEvenRefIdeal.nD Cert.PreEvenRefIdeal.τ).loc Cert.PreEvenRefIdeal.main_arg0) = m ((c.tc : Thread Cert.PreEvenRefIdeal.nD Cert.PreEvenRefIdeal.τ).loc Cert.PreEvenRefIdeal.main_arg0)
      ∧ r.2.mem ((c.tc : Thread Cert.PreEvenRefIdeal.nD Cert.PreEvenRefIdeal.τ).loc Cert.PreEvenRefIdeal.main_arg1) = m ((c.tc : Thread Cert.PreEvenRefIdeal.nD Cert.PreEvenRefIdeal.τ).loc Cert.PreEvenRefIdeal.main_arg1)
      ∧ r.2.mem ((c.tc : Thread Cert.PreEvenRefIdeal.nD Cert.PreEvenRefIdeal.τ).loc Cert.PreEvenRefIdeal.main_arg2) = m ((c.tc : Thread Cert.PreEvenRefIdeal.nD Cert.PreEvenRefIdeal.τ).loc Cert.PreEvenRefIdeal.main_arg2)
      ∧ r.2.mem ((c.tc : Thread Cert.PreEvenRefIdeal.nD Cert.PreEvenRefIdeal.τ).loc Cert.PreEvenRefIdeal.main_arg3) = m ((c.tc : Thread Cert.PreEvenRefIdeal.nD Cert.PreEvenRefIdeal.τ).loc Cert.PreEvenRefIdeal.main_arg3)
      ∧ r.2.mem ((c.tc : Thread Cert.PreEvenRefIdeal.nD Cert.PreEvenRefIdeal.τ).loc Cert.PreEvenRefIdeal.main_arg4) = m ((c.tc : Thread Cert.PreEvenRefIdeal.nD Cert.PreEvenRefIdeal.τ).loc Cert.PreEvenRefIdeal.main_arg4)
      ∧ r.2.mem ((c.tc : Thread Cert.PreEvenRefIdeal.nD Cert.PreEvenRefIdeal.τ).loc Cert.PreEvenRefIdeal.main_arg5) = m ((c.tc : Thread Cert.PreEvenRefIdeal.nD Cert.PreEvenRefIdeal.τ).loc Cert.PreEvenRefIdeal.main_arg5)
      ∧ r.2.mem ((c.tc : Thread Cert.PreEvenRefIdeal.nD Cert.PreEvenRefIdeal.τ).loc Cert.PreEvenRefIdeal.main_arg6) = m ((c.tc : Thread Cert.PreEvenRefIdeal.nD Cert.PreEvenRefIdeal.τ).loc Cert.PreEvenRefIdeal.main_arg6)
      ∧ r.2.mem ((c.tc : Thread Cert.PreEvenRefIdeal.nD Cert.PreEvenRefIdeal.τ).loc Cert.PreEvenRefIdeal.main_arg7) = m ((c.tc : Thread Cert.PreEvenRefIdeal.nD Cert.PreEvenRefIdeal.τ).loc Cert.PreEvenRefIdeal.main_arg7))
      ∧ r.2.sem = fun _ => 0)

def quiescent_PreOdd [hPreOdd : Cert.PreOdd.Facts] : Prop :=
  ∀ (m : (ℓ : Loc Cert.PreOdd.nD Cert.PreOdd.τ Cert.PreOdd.sig) → Buf (Elt Bits) ℓ) (g : Dev Cert.PreOdd.nD → PrngReg), Pre_PreOdd m →
    θ_run (Cert.PreOdd.defs (F := Bits)) (onTc (τ := Cert.PreOdd.τ) (Cert.PreOdd.main (F := Bits))) ⟨m, fun _ => 0, g⟩ (fun r => (∀ c : Dev Cert.PreOdd.nD,
      r.2.mem ((c.tc : Thread Cert.PreOdd.nD Cert.PreOdd.τ).loc Cert.PreOdd.main_arg0) = m ((c.tc : Thread Cert.PreOdd.nD Cert.PreOdd.τ).loc Cert.PreOdd.main_arg0)
      ∧ r.2.mem ((c.tc : Thread Cert.PreOdd.nD Cert.PreOdd.τ).loc Cert.PreOdd.main_arg1) = m ((c.tc : Thread Cert.PreOdd.nD Cert.PreOdd.τ).loc Cert.PreOdd.main_arg1)
      ∧ r.2.mem ((c.tc : Thread Cert.PreOdd.nD Cert.PreOdd.τ).loc Cert.PreOdd.main_arg2) = m ((c.tc : Thread Cert.PreOdd.nD Cert.PreOdd.τ).loc Cert.PreOdd.main_arg2)
      ∧ r.2.mem ((c.tc : Thread Cert.PreOdd.nD Cert.PreOdd.τ).loc Cert.PreOdd.main_arg3) = m ((c.tc : Thread Cert.PreOdd.nD Cert.PreOdd.τ).loc Cert.PreOdd.main_arg3)
      ∧ r.2.mem ((c.tc : Thread Cert.PreOdd.nD Cert.PreOdd.τ).loc Cert.PreOdd.main_arg4) = m ((c.tc : Thread Cert.PreOdd.nD Cert.PreOdd.τ).loc Cert.PreOdd.main_arg4))
      ∧ r.2.sem = fun _ => 0)

def quiescent_PreOddIdeal [hPreOddIdeal : Cert.PreOddIdeal.Facts] : Prop :=
  ∀ (m : (ℓ : Loc Cert.PreOddIdeal.nD Cert.PreOddIdeal.τ Cert.PreOddIdeal.sig) → Buf (Elt Ideal) ℓ) (g : Dev Cert.PreOddIdeal.nD → PrngReg), Pre_PreOddIdeal m →
    θ_run (Cert.PreOddIdeal.defs (F := Ideal)) (onTc (τ := Cert.PreOddIdeal.τ) (Cert.PreOddIdeal.main (F := Ideal))) ⟨m, fun _ => 0, g⟩ (fun r => (∀ c : Dev Cert.PreOddIdeal.nD,
      r.2.mem ((c.tc : Thread Cert.PreOddIdeal.nD Cert.PreOddIdeal.τ).loc Cert.PreOddIdeal.main_arg0) = m ((c.tc : Thread Cert.PreOddIdeal.nD Cert.PreOddIdeal.τ).loc Cert.PreOddIdeal.main_arg0)
      ∧ r.2.mem ((c.tc : Thread Cert.PreOddIdeal.nD Cert.PreOddIdeal.τ).loc Cert.PreOddIdeal.main_arg1) = m ((c.tc : Thread Cert.PreOddIdeal.nD Cert.PreOddIdeal.τ).loc Cert.PreOddIdeal.main_arg1)
      ∧ r.2.mem ((c.tc : Thread Cert.PreOddIdeal.nD Cert.PreOddIdeal.τ).loc Cert.PreOddIdeal.main_arg2) = m ((c.tc : Thread Cert.PreOddIdeal.nD Cert.PreOddIdeal.τ).loc Cert.PreOddIdeal.main_arg2)
      ∧ r.2.mem ((c.tc : Thread Cert.PreOddIdeal.nD Cert.PreOddIdeal.τ).loc Cert.PreOddIdeal.main_arg3) = m ((c.tc : Thread Cert.PreOddIdeal.nD Cert.PreOddIdeal.τ).loc Cert.PreOddIdeal.main_arg3)
      ∧ r.2.mem ((c.tc : Thread Cert.PreOddIdeal.nD Cert.PreOddIdeal.τ).loc Cert.PreOddIdeal.main_arg4) = m ((c.tc : Thread Cert.PreOddIdeal.nD Cert.PreOddIdeal.τ).loc Cert.PreOddIdeal.main_arg4))
      ∧ r.2.sem = fun _ => 0)

def quiescent_PreOddRefIdeal [hPreOddRefIdeal : Cert.PreOddRefIdeal.Facts] : Prop :=
  ∀ (m : (ℓ : Loc Cert.PreOddRefIdeal.nD Cert.PreOddRefIdeal.τ Cert.PreOddRefIdeal.sig) → Buf (Elt Ideal) ℓ) (g : Dev Cert.PreOddRefIdeal.nD → PrngReg), Pre_PreOddRefIdeal m →
    θ_run (Cert.PreOddRefIdeal.defs (F := Ideal)) (onTc (τ := Cert.PreOddRefIdeal.τ) (Cert.PreOddRefIdeal.main (F := Ideal))) ⟨m, fun _ => 0, g⟩ (fun r => (∀ c : Dev Cert.PreOddRefIdeal.nD,
      r.2.mem ((c.tc : Thread Cert.PreOddRefIdeal.nD Cert.PreOddRefIdeal.τ).loc Cert.PreOddRefIdeal.main_arg0) = m ((c.tc : Thread Cert.PreOddRefIdeal.nD Cert.PreOddRefIdeal.τ).loc Cert.PreOddRefIdeal.main_arg0)
      ∧ r.2.mem ((c.tc : Thread Cert.PreOddRefIdeal.nD Cert.PreOddRefIdeal.τ).loc Cert.PreOddRefIdeal.main_arg1) = m ((c.tc : Thread Cert.PreOddRefIdeal.nD Cert.PreOddRefIdeal.τ).loc Cert.PreOddRefIdeal.main_arg1)
      ∧ r.2.mem ((c.tc : Thread Cert.PreOddRefIdeal.nD Cert.PreOddRefIdeal.τ).loc Cert.PreOddRefIdeal.main_arg2) = m ((c.tc : Thread Cert.PreOddRefIdeal.nD Cert.PreOddRefIdeal.τ).loc Cert.PreOddRefIdeal.main_arg2)
      ∧ r.2.mem ((c.tc : Thread Cert.PreOddRefIdeal.nD Cert.PreOddRefIdeal.τ).loc Cert.PreOddRefIdeal.main_arg3) = m ((c.tc : Thread Cert.PreOddRefIdeal.nD Cert.PreOddRefIdeal.τ).loc Cert.PreOddRefIdeal.main_arg3)
      ∧ r.2.mem ((c.tc : Thread Cert.PreOddRefIdeal.nD Cert.PreOddRefIdeal.τ).loc Cert.PreOddRefIdeal.main_arg4) = m ((c.tc : Thread Cert.PreOddRefIdeal.nD Cert.PreOddRefIdeal.τ).loc Cert.PreOddRefIdeal.main_arg4))
      ∧ r.2.sem = fun _ => 0)

def quiescent_PostEven [hPostEven : Cert.PostEven.Facts] : Prop :=
  ∀ (m : (ℓ : Loc Cert.PostEven.nD Cert.PostEven.τ Cert.PostEven.sig) → Buf (Elt Bits) ℓ) (g : Dev Cert.PostEven.nD → PrngReg), Pre_PostEven m →
    θ_run (Cert.PostEven.defs (F := Bits)) (onTc (τ := Cert.PostEven.τ) (Cert.PostEven.main (F := Bits))) ⟨m, fun _ => 0, g⟩ (fun r => (∀ c : Dev Cert.PostEven.nD,
      r.2.mem ((c.tc : Thread Cert.PostEven.nD Cert.PostEven.τ).loc Cert.PostEven.main_arg0) = m ((c.tc : Thread Cert.PostEven.nD Cert.PostEven.τ).loc Cert.PostEven.main_arg0)
      ∧ r.2.mem ((c.tc : Thread Cert.PostEven.nD Cert.PostEven.τ).loc Cert.PostEven.main_arg1) = m ((c.tc : Thread Cert.PostEven.nD Cert.PostEven.τ).loc Cert.PostEven.main_arg1)
      ∧ r.2.mem ((c.tc : Thread Cert.PostEven.nD Cert.PostEven.τ).loc Cert.PostEven.main_arg2) = m ((c.tc : Thread Cert.PostEven.nD Cert.PostEven.τ).loc Cert.PostEven.main_arg2)
      ∧ r.2.mem ((c.tc : Thread Cert.PostEven.nD Cert.PostEven.τ).loc Cert.PostEven.main_arg3) = m ((c.tc : Thread Cert.PostEven.nD Cert.PostEven.τ).loc Cert.PostEven.main_arg3)
      ∧ r.2.mem ((c.tc : Thread Cert.PostEven.nD Cert.PostEven.τ).loc Cert.PostEven.main_arg4) = m ((c.tc : Thread Cert.PostEven.nD Cert.PostEven.τ).loc Cert.PostEven.main_arg4)
      ∧ r.2.mem ((c.tc : Thread Cert.PostEven.nD Cert.PostEven.τ).loc Cert.PostEven.main_arg5) = m ((c.tc : Thread Cert.PostEven.nD Cert.PostEven.τ).loc Cert.PostEven.main_arg5)
      ∧ r.2.mem ((c.tc : Thread Cert.PostEven.nD Cert.PostEven.τ).loc Cert.PostEven.main_arg6) = m ((c.tc : Thread Cert.PostEven.nD Cert.PostEven.τ).loc Cert.PostEven.main_arg6)
      ∧ r.2.mem ((c.tc : Thread Cert.PostEven.nD Cert.PostEven.τ).loc Cert.PostEven.main_arg7) = m ((c.tc : Thread Cert.PostEven.nD Cert.PostEven.τ).loc Cert.PostEven.main_arg7)
      ∧ r.2.mem ((c.tc : Thread Cert.PostEven.nD Cert.PostEven.τ).loc Cert.PostEven.main_arg8) = m ((c.tc : Thread Cert.PostEven.nD Cert.PostEven.τ).loc Cert.PostEven.main_arg8))
      ∧ r.2.sem = fun _ => 0)

def quiescent_PostEvenIdeal [hPostEvenIdeal : Cert.PostEvenIdeal.Facts] : Prop :=
  ∀ (m : (ℓ : Loc Cert.PostEvenIdeal.nD Cert.PostEvenIdeal.τ Cert.PostEvenIdeal.sig) → Buf (Elt Ideal) ℓ) (g : Dev Cert.PostEvenIdeal.nD → PrngReg), Pre_PostEvenIdeal m →
    θ_run (Cert.PostEvenIdeal.defs (F := Ideal)) (onTc (τ := Cert.PostEvenIdeal.τ) (Cert.PostEvenIdeal.main (F := Ideal))) ⟨m, fun _ => 0, g⟩ (fun r => (∀ c : Dev Cert.PostEvenIdeal.nD,
      r.2.mem ((c.tc : Thread Cert.PostEvenIdeal.nD Cert.PostEvenIdeal.τ).loc Cert.PostEvenIdeal.main_arg0) = m ((c.tc : Thread Cert.PostEvenIdeal.nD Cert.PostEvenIdeal.τ).loc Cert.PostEvenIdeal.main_arg0)
      ∧ r.2.mem ((c.tc : Thread Cert.PostEvenIdeal.nD Cert.PostEvenIdeal.τ).loc Cert.PostEvenIdeal.main_arg1) = m ((c.tc : Thread Cert.PostEvenIdeal.nD Cert.PostEvenIdeal.τ).loc Cert.PostEvenIdeal.main_arg1)
      ∧ r.2.mem ((c.tc : Thread Cert.PostEvenIdeal.nD Cert.PostEvenIdeal.τ).loc Cert.PostEvenIdeal.main_arg2) = m ((c.tc : Thread Cert.PostEvenIdeal.nD Cert.PostEvenIdeal.τ).loc Cert.PostEvenIdeal.main_arg2)
      ∧ r.2.mem ((c.tc : Thread Cert.PostEvenIdeal.nD Cert.PostEvenIdeal.τ).loc Cert.PostEvenIdeal.main_arg3) = m ((c.tc : Thread Cert.PostEvenIdeal.nD Cert.PostEvenIdeal.τ).loc Cert.PostEvenIdeal.main_arg3)
      ∧ r.2.mem ((c.tc : Thread Cert.PostEvenIdeal.nD Cert.PostEvenIdeal.τ).loc Cert.PostEvenIdeal.main_arg4) = m ((c.tc : Thread Cert.PostEvenIdeal.nD Cert.PostEvenIdeal.τ).loc Cert.PostEvenIdeal.main_arg4)
      ∧ r.2.mem ((c.tc : Thread Cert.PostEvenIdeal.nD Cert.PostEvenIdeal.τ).loc Cert.PostEvenIdeal.main_arg5) = m ((c.tc : Thread Cert.PostEvenIdeal.nD Cert.PostEvenIdeal.τ).loc Cert.PostEvenIdeal.main_arg5)
      ∧ r.2.mem ((c.tc : Thread Cert.PostEvenIdeal.nD Cert.PostEvenIdeal.τ).loc Cert.PostEvenIdeal.main_arg6) = m ((c.tc : Thread Cert.PostEvenIdeal.nD Cert.PostEvenIdeal.τ).loc Cert.PostEvenIdeal.main_arg6)
      ∧ r.2.mem ((c.tc : Thread Cert.PostEvenIdeal.nD Cert.PostEvenIdeal.τ).loc Cert.PostEvenIdeal.main_arg7) = m ((c.tc : Thread Cert.PostEvenIdeal.nD Cert.PostEvenIdeal.τ).loc Cert.PostEvenIdeal.main_arg7)
      ∧ r.2.mem ((c.tc : Thread Cert.PostEvenIdeal.nD Cert.PostEvenIdeal.τ).loc Cert.PostEvenIdeal.main_arg8) = m ((c.tc : Thread Cert.PostEvenIdeal.nD Cert.PostEvenIdeal.τ).loc Cert.PostEvenIdeal.main_arg8))
      ∧ r.2.sem = fun _ => 0)

def quiescent_PostEvenRefIdeal [hPostEvenRefIdeal : Cert.PostEvenRefIdeal.Facts] : Prop :=
  ∀ (m : (ℓ : Loc Cert.PostEvenRefIdeal.nD Cert.PostEvenRefIdeal.τ Cert.PostEvenRefIdeal.sig) → Buf (Elt Ideal) ℓ) (g : Dev Cert.PostEvenRefIdeal.nD → PrngReg), Pre_PostEvenRefIdeal m →
    θ_run (Cert.PostEvenRefIdeal.defs (F := Ideal)) (onTc (τ := Cert.PostEvenRefIdeal.τ) (Cert.PostEvenRefIdeal.main (F := Ideal))) ⟨m, fun _ => 0, g⟩ (fun r => (∀ c : Dev Cert.PostEvenRefIdeal.nD,
      r.2.mem ((c.tc : Thread Cert.PostEvenRefIdeal.nD Cert.PostEvenRefIdeal.τ).loc Cert.PostEvenRefIdeal.main_arg0) = m ((c.tc : Thread Cert.PostEvenRefIdeal.nD Cert.PostEvenRefIdeal.τ).loc Cert.PostEvenRefIdeal.main_arg0)
      ∧ r.2.mem ((c.tc : Thread Cert.PostEvenRefIdeal.nD Cert.PostEvenRefIdeal.τ).loc Cert.PostEvenRefIdeal.main_arg1) = m ((c.tc : Thread Cert.PostEvenRefIdeal.nD Cert.PostEvenRefIdeal.τ).loc Cert.PostEvenRefIdeal.main_arg1)
      ∧ r.2.mem ((c.tc : Thread Cert.PostEvenRefIdeal.nD Cert.PostEvenRefIdeal.τ).loc Cert.PostEvenRefIdeal.main_arg2) = m ((c.tc : Thread Cert.PostEvenRefIdeal.nD Cert.PostEvenRefIdeal.τ).loc Cert.PostEvenRefIdeal.main_arg2)
      ∧ r.2.mem ((c.tc : Thread Cert.PostEvenRefIdeal.nD Cert.PostEvenRefIdeal.τ).loc Cert.PostEvenRefIdeal.main_arg3) = m ((c.tc : Thread Cert.PostEvenRefIdeal.nD Cert.PostEvenRefIdeal.τ).loc Cert.PostEvenRefIdeal.main_arg3)
      ∧ r.2.mem ((c.tc : Thread Cert.PostEvenRefIdeal.nD Cert.PostEvenRefIdeal.τ).loc Cert.PostEvenRefIdeal.main_arg4) = m ((c.tc : Thread Cert.PostEvenRefIdeal.nD Cert.PostEvenRefIdeal.τ).loc Cert.PostEvenRefIdeal.main_arg4)
      ∧ r.2.mem ((c.tc : Thread Cert.PostEvenRefIdeal.nD Cert.PostEvenRefIdeal.τ).loc Cert.PostEvenRefIdeal.main_arg5) = m ((c.tc : Thread Cert.PostEvenRefIdeal.nD Cert.PostEvenRefIdeal.τ).loc Cert.PostEvenRefIdeal.main_arg5)
      ∧ r.2.mem ((c.tc : Thread Cert.PostEvenRefIdeal.nD Cert.PostEvenRefIdeal.τ).loc Cert.PostEvenRefIdeal.main_arg6) = m ((c.tc : Thread Cert.PostEvenRefIdeal.nD Cert.PostEvenRefIdeal.τ).loc Cert.PostEvenRefIdeal.main_arg6)
      ∧ r.2.mem ((c.tc : Thread Cert.PostEvenRefIdeal.nD Cert.PostEvenRefIdeal.τ).loc Cert.PostEvenRefIdeal.main_arg7) = m ((c.tc : Thread Cert.PostEvenRefIdeal.nD Cert.PostEvenRefIdeal.τ).loc Cert.PostEvenRefIdeal.main_arg7)
      ∧ r.2.mem ((c.tc : Thread Cert.PostEvenRefIdeal.nD Cert.PostEvenRefIdeal.τ).loc Cert.PostEvenRefIdeal.main_arg8) = m ((c.tc : Thread Cert.PostEvenRefIdeal.nD Cert.PostEvenRefIdeal.τ).loc Cert.PostEvenRefIdeal.main_arg8))
      ∧ r.2.sem = fun _ => 0)

def quiescent_PostEvenCtx [hPostEvenCtx : Cert.PostEvenCtx.Facts] : Prop :=
  ∀ (m : (ℓ : Loc Cert.PostEvenCtx.nD Cert.PostEvenCtx.τ Cert.PostEvenCtx.sig) → Buf (Elt Bits) ℓ) (g : Dev Cert.PostEvenCtx.nD → PrngReg), Pre_PostEvenCtx m →
    θ_run (Cert.PostEvenCtx.defs (F := Bits)) (onTc (τ := Cert.PostEvenCtx.τ) (Cert.PostEvenCtx.main (F := Bits))) ⟨m, fun _ => 0, g⟩ (fun r => (∀ c : Dev Cert.PostEvenCtx.nD,
      r.2.mem ((c.tc : Thread Cert.PostEvenCtx.nD Cert.PostEvenCtx.τ).loc Cert.PostEvenCtx.main_arg0) = m ((c.tc : Thread Cert.PostEvenCtx.nD Cert.PostEvenCtx.τ).loc Cert.PostEvenCtx.main_arg0)
      ∧ r.2.mem ((c.tc : Thread Cert.PostEvenCtx.nD Cert.PostEvenCtx.τ).loc Cert.PostEvenCtx.main_arg1) = m ((c.tc : Thread Cert.PostEvenCtx.nD Cert.PostEvenCtx.τ).loc Cert.PostEvenCtx.main_arg1)
      ∧ r.2.mem ((c.tc : Thread Cert.PostEvenCtx.nD Cert.PostEvenCtx.τ).loc Cert.PostEvenCtx.main_arg2) = m ((c.tc : Thread Cert.PostEvenCtx.nD Cert.PostEvenCtx.τ).loc Cert.PostEvenCtx.main_arg2)
      ∧ r.2.mem ((c.tc : Thread Cert.PostEvenCtx.nD Cert.PostEvenCtx.τ).loc Cert.PostEvenCtx.main_arg3) = m ((c.tc : Thread Cert.PostEvenCtx.nD Cert.PostEvenCtx.τ).loc Cert.PostEvenCtx.main_arg3)
      ∧ r.2.mem ((c.tc : Thread Cert.PostEvenCtx.nD Cert.PostEvenCtx.τ).loc Cert.PostEvenCtx.main_arg4) = m ((c.tc : Thread Cert.PostEvenCtx.nD Cert.PostEvenCtx.τ).loc Cert.PostEvenCtx.main_arg4)
      ∧ r.2.mem ((c.tc : Thread Cert.PostEvenCtx.nD Cert.PostEvenCtx.τ).loc Cert.PostEvenCtx.main_arg5) = m ((c.tc : Thread Cert.PostEvenCtx.nD Cert.PostEvenCtx.τ).loc Cert.PostEvenCtx.main_arg5)
      ∧ r.2.mem ((c.tc : Thread Cert.PostEvenCtx.nD Cert.PostEvenCtx.τ).loc Cert.PostEvenCtx.main_arg6) = m ((c.tc : Thread Cert.PostEvenCtx.nD Cert.PostEvenCtx.τ).loc Cert.PostEvenCtx.main_arg6)
      ∧ r.2.mem ((c.tc : Thread Cert.PostEvenCtx.nD Cert.PostEvenCtx.τ).loc Cert.PostEvenCtx.main_arg7) = m ((c.tc : Thread Cert.PostEvenCtx.nD Cert.PostEvenCtx.τ).loc Cert.PostEvenCtx.main_arg7)
      ∧ r.2.mem ((c.tc : Thread Cert.PostEvenCtx.nD Cert.PostEvenCtx.τ).loc Cert.PostEvenCtx.main_arg8) = m ((c.tc : Thread Cert.PostEvenCtx.nD Cert.PostEvenCtx.τ).loc Cert.PostEvenCtx.main_arg8))
      ∧ r.2.sem = fun _ => 0)

def quiescent_PostEvenCtxIdeal [hPostEvenCtxIdeal : Cert.PostEvenCtxIdeal.Facts] : Prop :=
  ∀ (m : (ℓ : Loc Cert.PostEvenCtxIdeal.nD Cert.PostEvenCtxIdeal.τ Cert.PostEvenCtxIdeal.sig) → Buf (Elt Ideal) ℓ) (g : Dev Cert.PostEvenCtxIdeal.nD → PrngReg), Pre_PostEvenCtxIdeal m →
    θ_run (Cert.PostEvenCtxIdeal.defs (F := Ideal)) (onTc (τ := Cert.PostEvenCtxIdeal.τ) (Cert.PostEvenCtxIdeal.main (F := Ideal))) ⟨m, fun _ => 0, g⟩ (fun r => (∀ c : Dev Cert.PostEvenCtxIdeal.nD,
      r.2.mem ((c.tc : Thread Cert.PostEvenCtxIdeal.nD Cert.PostEvenCtxIdeal.τ).loc Cert.PostEvenCtxIdeal.main_arg0) = m ((c.tc : Thread Cert.PostEvenCtxIdeal.nD Cert.PostEvenCtxIdeal.τ).loc Cert.PostEvenCtxIdeal.main_arg0)
      ∧ r.2.mem ((c.tc : Thread Cert.PostEvenCtxIdeal.nD Cert.PostEvenCtxIdeal.τ).loc Cert.PostEvenCtxIdeal.main_arg1) = m ((c.tc : Thread Cert.PostEvenCtxIdeal.nD Cert.PostEvenCtxIdeal.τ).loc Cert.PostEvenCtxIdeal.main_arg1)
      ∧ r.2.mem ((c.tc : Thread Cert.PostEvenCtxIdeal.nD Cert.PostEvenCtxIdeal.τ).loc Cert.PostEvenCtxIdeal.main_arg2) = m ((c.tc : Thread Cert.PostEvenCtxIdeal.nD Cert.PostEvenCtxIdeal.τ).loc Cert.PostEvenCtxIdeal.main_arg2)
      ∧ r.2.mem ((c.tc : Thread Cert.PostEvenCtxIdeal.nD Cert.PostEvenCtxIdeal.τ).loc Cert.PostEvenCtxIdeal.main_arg3) = m ((c.tc : Thread Cert.PostEvenCtxIdeal.nD Cert.PostEvenCtxIdeal.τ).loc Cert.PostEvenCtxIdeal.main_arg3)
      ∧ r.2.mem ((c.tc : Thread Cert.PostEvenCtxIdeal.nD Cert.PostEvenCtxIdeal.τ).loc Cert.PostEvenCtxIdeal.main_arg4) = m ((c.tc : Thread Cert.PostEvenCtxIdeal.nD Cert.PostEvenCtxIdeal.τ).loc Cert.PostEvenCtxIdeal.main_arg4)
      ∧ r.2.mem ((c.tc : Thread Cert.PostEvenCtxIdeal.nD Cert.PostEvenCtxIdeal.τ).loc Cert.PostEvenCtxIdeal.main_arg5) = m ((c.tc : Thread Cert.PostEvenCtxIdeal.nD Cert.PostEvenCtxIdeal.τ).loc Cert.PostEvenCtxIdeal.main_arg5)
      ∧ r.2.mem ((c.tc : Thread Cert.PostEvenCtxIdeal.nD Cert.PostEvenCtxIdeal.τ).loc Cert.PostEvenCtxIdeal.main_arg6) = m ((c.tc : Thread Cert.PostEvenCtxIdeal.nD Cert.PostEvenCtxIdeal.τ).loc Cert.PostEvenCtxIdeal.main_arg6)
      ∧ r.2.mem ((c.tc : Thread Cert.PostEvenCtxIdeal.nD Cert.PostEvenCtxIdeal.τ).loc Cert.PostEvenCtxIdeal.main_arg7) = m ((c.tc : Thread Cert.PostEvenCtxIdeal.nD Cert.PostEvenCtxIdeal.τ).loc Cert.PostEvenCtxIdeal.main_arg7)
      ∧ r.2.mem ((c.tc : Thread Cert.PostEvenCtxIdeal.nD Cert.PostEvenCtxIdeal.τ).loc Cert.PostEvenCtxIdeal.main_arg8) = m ((c.tc : Thread Cert.PostEvenCtxIdeal.nD Cert.PostEvenCtxIdeal.τ).loc Cert.PostEvenCtxIdeal.main_arg8))
      ∧ r.2.sem = fun _ => 0)

def quiescent_PostEvenCtxRefIdeal [hPostEvenCtxRefIdeal : Cert.PostEvenCtxRefIdeal.Facts] : Prop :=
  ∀ (m : (ℓ : Loc Cert.PostEvenCtxRefIdeal.nD Cert.PostEvenCtxRefIdeal.τ Cert.PostEvenCtxRefIdeal.sig) → Buf (Elt Ideal) ℓ) (g : Dev Cert.PostEvenCtxRefIdeal.nD → PrngReg), Pre_PostEvenCtxRefIdeal m →
    θ_run (Cert.PostEvenCtxRefIdeal.defs (F := Ideal)) (onTc (τ := Cert.PostEvenCtxRefIdeal.τ) (Cert.PostEvenCtxRefIdeal.main (F := Ideal))) ⟨m, fun _ => 0, g⟩ (fun r => (∀ c : Dev Cert.PostEvenCtxRefIdeal.nD,
      r.2.mem ((c.tc : Thread Cert.PostEvenCtxRefIdeal.nD Cert.PostEvenCtxRefIdeal.τ).loc Cert.PostEvenCtxRefIdeal.main_arg0) = m ((c.tc : Thread Cert.PostEvenCtxRefIdeal.nD Cert.PostEvenCtxRefIdeal.τ).loc Cert.PostEvenCtxRefIdeal.main_arg0)
      ∧ r.2.mem ((c.tc : Thread Cert.PostEvenCtxRefIdeal.nD Cert.PostEvenCtxRefIdeal.τ).loc Cert.PostEvenCtxRefIdeal.main_arg1) = m ((c.tc : Thread Cert.PostEvenCtxRefIdeal.nD Cert.PostEvenCtxRefIdeal.τ).loc Cert.PostEvenCtxRefIdeal.main_arg1)
      ∧ r.2.mem ((c.tc : Thread Cert.PostEvenCtxRefIdeal.nD Cert.PostEvenCtxRefIdeal.τ).loc Cert.PostEvenCtxRefIdeal.main_arg2) = m ((c.tc : Thread Cert.PostEvenCtxRefIdeal.nD Cert.PostEvenCtxRefIdeal.τ).loc Cert.PostEvenCtxRefIdeal.main_arg2)
      ∧ r.2.mem ((c.tc : Thread Cert.PostEvenCtxRefIdeal.nD Cert.PostEvenCtxRefIdeal.τ).loc Cert.PostEvenCtxRefIdeal.main_arg3) = m ((c.tc : Thread Cert.PostEvenCtxRefIdeal.nD Cert.PostEvenCtxRefIdeal.τ).loc Cert.PostEvenCtxRefIdeal.main_arg3)
      ∧ r.2.mem ((c.tc : Thread Cert.PostEvenCtxRefIdeal.nD Cert.PostEvenCtxRefIdeal.τ).loc Cert.PostEvenCtxRefIdeal.main_arg4) = m ((c.tc : Thread Cert.PostEvenCtxRefIdeal.nD Cert.PostEvenCtxRefIdeal.τ).loc Cert.PostEvenCtxRefIdeal.main_arg4)
      ∧ r.2.mem ((c.tc : Thread Cert.PostEvenCtxRefIdeal.nD Cert.PostEvenCtxRefIdeal.τ).loc Cert.PostEvenCtxRefIdeal.main_arg5) = m ((c.tc : Thread Cert.PostEvenCtxRefIdeal.nD Cert.PostEvenCtxRefIdeal.τ).loc Cert.PostEvenCtxRefIdeal.main_arg5)
      ∧ r.2.mem ((c.tc : Thread Cert.PostEvenCtxRefIdeal.nD Cert.PostEvenCtxRefIdeal.τ).loc Cert.PostEvenCtxRefIdeal.main_arg6) = m ((c.tc : Thread Cert.PostEvenCtxRefIdeal.nD Cert.PostEvenCtxRefIdeal.τ).loc Cert.PostEvenCtxRefIdeal.main_arg6)
      ∧ r.2.mem ((c.tc : Thread Cert.PostEvenCtxRefIdeal.nD Cert.PostEvenCtxRefIdeal.τ).loc Cert.PostEvenCtxRefIdeal.main_arg7) = m ((c.tc : Thread Cert.PostEvenCtxRefIdeal.nD Cert.PostEvenCtxRefIdeal.τ).loc Cert.PostEvenCtxRefIdeal.main_arg7)
      ∧ r.2.mem ((c.tc : Thread Cert.PostEvenCtxRefIdeal.nD Cert.PostEvenCtxRefIdeal.τ).loc Cert.PostEvenCtxRefIdeal.main_arg8) = m ((c.tc : Thread Cert.PostEvenCtxRefIdeal.nD Cert.PostEvenCtxRefIdeal.τ).loc Cert.PostEvenCtxRefIdeal.main_arg8))
      ∧ r.2.sem = fun _ => 0)

def quiescent_PreOddLat [hPreOddLat : Cert.PreOddLat.Facts] : Prop :=
  ∀ (m : (ℓ : Loc Cert.PreOddLat.nD Cert.PreOddLat.τ Cert.PreOddLat.sig) → Buf (Elt Bits) ℓ) (g : Dev Cert.PreOddLat.nD → PrngReg), Pre_PreOddLat m →
    θ_run (Cert.PreOddLat.defs (F := Bits)) (onTc (τ := Cert.PreOddLat.τ) (Cert.PreOddLat.main (F := Bits))) ⟨m, fun _ => 0, g⟩ (fun r => (∀ c : Dev Cert.PreOddLat.nD,
      r.2.mem ((c.tc : Thread Cert.PreOddLat.nD Cert.PreOddLat.τ).loc Cert.PreOddLat.main_arg0) = m ((c.tc : Thread Cert.PreOddLat.nD Cert.PreOddLat.τ).loc Cert.PreOddLat.main_arg0)
      ∧ r.2.mem ((c.tc : Thread Cert.PreOddLat.nD Cert.PreOddLat.τ).loc Cert.PreOddLat.main_arg1) = m ((c.tc : Thread Cert.PreOddLat.nD Cert.PreOddLat.τ).loc Cert.PreOddLat.main_arg1)
      ∧ r.2.mem ((c.tc : Thread Cert.PreOddLat.nD Cert.PreOddLat.τ).loc Cert.PreOddLat.main_arg2) = m ((c.tc : Thread Cert.PreOddLat.nD Cert.PreOddLat.τ).loc Cert.PreOddLat.main_arg2)
      ∧ r.2.mem ((c.tc : Thread Cert.PreOddLat.nD Cert.PreOddLat.τ).loc Cert.PreOddLat.main_arg3) = m ((c.tc : Thread Cert.PreOddLat.nD Cert.PreOddLat.τ).loc Cert.PreOddLat.main_arg3)
      ∧ r.2.mem ((c.tc : Thread Cert.PreOddLat.nD Cert.PreOddLat.τ).loc Cert.PreOddLat.main_arg4) = m ((c.tc : Thread Cert.PreOddLat.nD Cert.PreOddLat.τ).loc Cert.PreOddLat.main_arg4)
      ∧ r.2.mem ((c.tc : Thread Cert.PreOddLat.nD Cert.PreOddLat.τ).loc Cert.PreOddLat.main_arg5) = m ((c.tc : Thread Cert.PreOddLat.nD Cert.PreOddLat.τ).loc Cert.PreOddLat.main_arg5)
      ∧ r.2.mem ((c.tc : Thread Cert.PreOddLat.nD Cert.PreOddLat.τ).loc Cert.PreOddLat.main_arg6) = m ((c.tc : Thread Cert.PreOddLat.nD Cert.PreOddLat.τ).loc Cert.PreOddLat.main_arg6))
      ∧ r.2.sem = fun _ => 0)

def quiescent_PreOddLatIdeal [hPreOddLatIdeal : Cert.PreOddLatIdeal.Facts] : Prop :=
  ∀ (m : (ℓ : Loc Cert.PreOddLatIdeal.nD Cert.PreOddLatIdeal.τ Cert.PreOddLatIdeal.sig) → Buf (Elt Ideal) ℓ) (g : Dev Cert.PreOddLatIdeal.nD → PrngReg), Pre_PreOddLatIdeal m →
    θ_run (Cert.PreOddLatIdeal.defs (F := Ideal)) (onTc (τ := Cert.PreOddLatIdeal.τ) (Cert.PreOddLatIdeal.main (F := Ideal))) ⟨m, fun _ => 0, g⟩ (fun r => (∀ c : Dev Cert.PreOddLatIdeal.nD,
      r.2.mem ((c.tc : Thread Cert.PreOddLatIdeal.nD Cert.PreOddLatIdeal.τ).loc Cert.PreOddLatIdeal.main_arg0) = m ((c.tc : Thread Cert.PreOddLatIdeal.nD Cert.PreOddLatIdeal.τ).loc Cert.PreOddLatIdeal.main_arg0)
      ∧ r.2.mem ((c.tc : Thread Cert.PreOddLatIdeal.nD Cert.PreOddLatIdeal.τ).loc Cert.PreOddLatIdeal.main_arg1) = m ((c.tc : Thread Cert.PreOddLatIdeal.nD Cert.PreOddLatIdeal.τ).loc Cert.PreOddLatIdeal.main_arg1)
      ∧ r.2.mem ((c.tc : Thread Cert.PreOddLatIdeal.nD Cert.PreOddLatIdeal.τ).loc Cert.PreOddLatIdeal.main_arg2) = m ((c.tc : Thread Cert.PreOddLatIdeal.nD Cert.PreOddLatIdeal.τ).loc Cert.PreOddLatIdeal.main_arg2)
      ∧ r.2.mem ((c.tc : Thread Cert.PreOddLatIdeal.nD Cert.PreOddLatIdeal.τ).loc Cert.PreOddLatIdeal.main_arg3) = m ((c.tc : Thread Cert.PreOddLatIdeal.nD Cert.PreOddLatIdeal.τ).loc Cert.PreOddLatIdeal.main_arg3)
      ∧ r.2.mem ((c.tc : Thread Cert.PreOddLatIdeal.nD Cert.PreOddLatIdeal.τ).loc Cert.PreOddLatIdeal.main_arg4) = m ((c.tc : Thread Cert.PreOddLatIdeal.nD Cert.PreOddLatIdeal.τ).loc Cert.PreOddLatIdeal.main_arg4)
      ∧ r.2.mem ((c.tc : Thread Cert.PreOddLatIdeal.nD Cert.PreOddLatIdeal.τ).loc Cert.PreOddLatIdeal.main_arg5) = m ((c.tc : Thread Cert.PreOddLatIdeal.nD Cert.PreOddLatIdeal.τ).loc Cert.PreOddLatIdeal.main_arg5)
      ∧ r.2.mem ((c.tc : Thread Cert.PreOddLatIdeal.nD Cert.PreOddLatIdeal.τ).loc Cert.PreOddLatIdeal.main_arg6) = m ((c.tc : Thread Cert.PreOddLatIdeal.nD Cert.PreOddLatIdeal.τ).loc Cert.PreOddLatIdeal.main_arg6))
      ∧ r.2.sem = fun _ => 0)

def quiescent_PreOddLatRefIdeal [hPreOddLatRefIdeal : Cert.PreOddLatRefIdeal.Facts] : Prop :=
  ∀ (m : (ℓ : Loc Cert.PreOddLatRefIdeal.nD Cert.PreOddLatRefIdeal.τ Cert.PreOddLatRefIdeal.sig) → Buf (Elt Ideal) ℓ) (g : Dev Cert.PreOddLatRefIdeal.nD → PrngReg), Pre_PreOddLatRefIdeal m →
    θ_run (Cert.PreOddLatRefIdeal.defs (F := Ideal)) (onTc (τ := Cert.PreOddLatRefIdeal.τ) (Cert.PreOddLatRefIdeal.main (F := Ideal))) ⟨m, fun _ => 0, g⟩ (fun r => (∀ c : Dev Cert.PreOddLatRefIdeal.nD,
      r.2.mem ((c.tc : Thread Cert.PreOddLatRefIdeal.nD Cert.PreOddLatRefIdeal.τ).loc Cert.PreOddLatRefIdeal.main_arg0) = m ((c.tc : Thread Cert.PreOddLatRefIdeal.nD Cert.PreOddLatRefIdeal.τ).loc Cert.PreOddLatRefIdeal.main_arg0)
      ∧ r.2.mem ((c.tc : Thread Cert.PreOddLatRefIdeal.nD Cert.PreOddLatRefIdeal.τ).loc Cert.PreOddLatRefIdeal.main_arg1) = m ((c.tc : Thread Cert.PreOddLatRefIdeal.nD Cert.PreOddLatRefIdeal.τ).loc Cert.PreOddLatRefIdeal.main_arg1)
      ∧ r.2.mem ((c.tc : Thread Cert.PreOddLatRefIdeal.nD Cert.PreOddLatRefIdeal.τ).loc Cert.PreOddLatRefIdeal.main_arg2) = m ((c.tc : Thread Cert.PreOddLatRefIdeal.nD Cert.PreOddLatRefIdeal.τ).loc Cert.PreOddLatRefIdeal.main_arg2)
      ∧ r.2.mem ((c.tc : Thread Cert.PreOddLatRefIdeal.nD Cert.PreOddLatRefIdeal.τ).loc Cert.PreOddLatRefIdeal.main_arg3) = m ((c.tc : Thread Cert.PreOddLatRefIdeal.nD Cert.PreOddLatRefIdeal.τ).loc Cert.PreOddLatRefIdeal.main_arg3)
      ∧ r.2.mem ((c.tc : Thread Cert.PreOddLatRefIdeal.nD Cert.PreOddLatRefIdeal.τ).loc Cert.PreOddLatRefIdeal.main_arg4) = m ((c.tc : Thread Cert.PreOddLatRefIdeal.nD Cert.PreOddLatRefIdeal.τ).loc Cert.PreOddLatRefIdeal.main_arg4)
      ∧ r.2.mem ((c.tc : Thread Cert.PreOddLatRefIdeal.nD Cert.PreOddLatRefIdeal.τ).loc Cert.PreOddLatRefIdeal.main_arg5) = m ((c.tc : Thread Cert.PreOddLatRefIdeal.nD Cert.PreOddLatRefIdeal.τ).loc Cert.PreOddLatRefIdeal.main_arg5)
      ∧ r.2.mem ((c.tc : Thread Cert.PreOddLatRefIdeal.nD Cert.PreOddLatRefIdeal.τ).loc Cert.PreOddLatRefIdeal.main_arg6) = m ((c.tc : Thread Cert.PreOddLatRefIdeal.nD Cert.PreOddLatRefIdeal.τ).loc Cert.PreOddLatRefIdeal.main_arg6))
      ∧ r.2.sem = fun _ => 0)

def quiescent_PreEvenLat [hPreEvenLat : Cert.PreEvenLat.Facts] : Prop :=
  ∀ (m : (ℓ : Loc Cert.PreEvenLat.nD Cert.PreEvenLat.τ Cert.PreEvenLat.sig) → Buf (Elt Bits) ℓ) (g : Dev Cert.PreEvenLat.nD → PrngReg), Pre_PreEvenLat m →
    θ_run (Cert.PreEvenLat.defs (F := Bits)) (onTc (τ := Cert.PreEvenLat.τ) (Cert.PreEvenLat.main (F := Bits))) ⟨m, fun _ => 0, g⟩ (fun r => (∀ c : Dev Cert.PreEvenLat.nD,
      r.2.mem ((c.tc : Thread Cert.PreEvenLat.nD Cert.PreEvenLat.τ).loc Cert.PreEvenLat.main_arg0) = m ((c.tc : Thread Cert.PreEvenLat.nD Cert.PreEvenLat.τ).loc Cert.PreEvenLat.main_arg0)
      ∧ r.2.mem ((c.tc : Thread Cert.PreEvenLat.nD Cert.PreEvenLat.τ).loc Cert.PreEvenLat.main_arg1) = m ((c.tc : Thread Cert.PreEvenLat.nD Cert.PreEvenLat.τ).loc Cert.PreEvenLat.main_arg1)
      ∧ r.2.mem ((c.tc : Thread Cert.PreEvenLat.nD Cert.PreEvenLat.τ).loc Cert.PreEvenLat.main_arg2) = m ((c.tc : Thread Cert.PreEvenLat.nD Cert.PreEvenLat.τ).loc Cert.PreEvenLat.main_arg2)
      ∧ r.2.mem ((c.tc : Thread Cert.PreEvenLat.nD Cert.PreEvenLat.τ).loc Cert.PreEvenLat.main_arg3) = m ((c.tc : Thread Cert.PreEvenLat.nD Cert.PreEvenLat.τ).loc Cert.PreEvenLat.main_arg3)
      ∧ r.2.mem ((c.tc : Thread Cert.PreEvenLat.nD Cert.PreEvenLat.τ).loc Cert.PreEvenLat.main_arg4) = m ((c.tc : Thread Cert.PreEvenLat.nD Cert.PreEvenLat.τ).loc Cert.PreEvenLat.main_arg4)
      ∧ r.2.mem ((c.tc : Thread Cert.PreEvenLat.nD Cert.PreEvenLat.τ).loc Cert.PreEvenLat.main_arg5) = m ((c.tc : Thread Cert.PreEvenLat.nD Cert.PreEvenLat.τ).loc Cert.PreEvenLat.main_arg5)
      ∧ r.2.mem ((c.tc : Thread Cert.PreEvenLat.nD Cert.PreEvenLat.τ).loc Cert.PreEvenLat.main_arg6) = m ((c.tc : Thread Cert.PreEvenLat.nD Cert.PreEvenLat.τ).loc Cert.PreEvenLat.main_arg6)
      ∧ r.2.mem ((c.tc : Thread Cert.PreEvenLat.nD Cert.PreEvenLat.τ).loc Cert.PreEvenLat.main_arg7) = m ((c.tc : Thread Cert.PreEvenLat.nD Cert.PreEvenLat.τ).loc Cert.PreEvenLat.main_arg7)
      ∧ r.2.mem ((c.tc : Thread Cert.PreEvenLat.nD Cert.PreEvenLat.τ).loc Cert.PreEvenLat.main_arg8) = m ((c.tc : Thread Cert.PreEvenLat.nD Cert.PreEvenLat.τ).loc Cert.PreEvenLat.main_arg8)
      ∧ r.2.mem ((c.tc : Thread Cert.PreEvenLat.nD Cert.PreEvenLat.τ).loc Cert.PreEvenLat.main_arg9) = m ((c.tc : Thread Cert.PreEvenLat.nD Cert.PreEvenLat.τ).loc Cert.PreEvenLat.main_arg9)
      ∧ r.2.mem ((c.tc : Thread Cert.PreEvenLat.nD Cert.PreEvenLat.τ).loc Cert.PreEvenLat.main_arg10) = m ((c.tc : Thread Cert.PreEvenLat.nD Cert.PreEvenLat.τ).loc Cert.PreEvenLat.main_arg10))
      ∧ r.2.sem = fun _ => 0)

def quiescent_PreEvenLatIdeal [hPreEvenLatIdeal : Cert.PreEvenLatIdeal.Facts] : Prop :=
  ∀ (m : (ℓ : Loc Cert.PreEvenLatIdeal.nD Cert.PreEvenLatIdeal.τ Cert.PreEvenLatIdeal.sig) → Buf (Elt Ideal) ℓ) (g : Dev Cert.PreEvenLatIdeal.nD → PrngReg), Pre_PreEvenLatIdeal m →
    θ_run (Cert.PreEvenLatIdeal.defs (F := Ideal)) (onTc (τ := Cert.PreEvenLatIdeal.τ) (Cert.PreEvenLatIdeal.main (F := Ideal))) ⟨m, fun _ => 0, g⟩ (fun r => (∀ c : Dev Cert.PreEvenLatIdeal.nD,
      r.2.mem ((c.tc : Thread Cert.PreEvenLatIdeal.nD Cert.PreEvenLatIdeal.τ).loc Cert.PreEvenLatIdeal.main_arg0) = m ((c.tc : Thread Cert.PreEvenLatIdeal.nD Cert.PreEvenLatIdeal.τ).loc Cert.PreEvenLatIdeal.main_arg0)
      ∧ r.2.mem ((c.tc : Thread Cert.PreEvenLatIdeal.nD Cert.PreEvenLatIdeal.τ).loc Cert.PreEvenLatIdeal.main_arg1) = m ((c.tc : Thread Cert.PreEvenLatIdeal.nD Cert.PreEvenLatIdeal.τ).loc Cert.PreEvenLatIdeal.main_arg1)
      ∧ r.2.mem ((c.tc : Thread Cert.PreEvenLatIdeal.nD Cert.PreEvenLatIdeal.τ).loc Cert.PreEvenLatIdeal.main_arg2) = m ((c.tc : Thread Cert.PreEvenLatIdeal.nD Cert.PreEvenLatIdeal.τ).loc Cert.PreEvenLatIdeal.main_arg2)
      ∧ r.2.mem ((c.tc : Thread Cert.PreEvenLatIdeal.nD Cert.PreEvenLatIdeal.τ).loc Cert.PreEvenLatIdeal.main_arg3) = m ((c.tc : Thread Cert.PreEvenLatIdeal.nD Cert.PreEvenLatIdeal.τ).loc Cert.PreEvenLatIdeal.main_arg3)
      ∧ r.2.mem ((c.tc : Thread Cert.PreEvenLatIdeal.nD Cert.PreEvenLatIdeal.τ).loc Cert.PreEvenLatIdeal.main_arg4) = m ((c.tc : Thread Cert.PreEvenLatIdeal.nD Cert.PreEvenLatIdeal.τ).loc Cert.PreEvenLatIdeal.main_arg4)
      ∧ r.2.mem ((c.tc : Thread Cert.PreEvenLatIdeal.nD Cert.PreEvenLatIdeal.τ).loc Cert.PreEvenLatIdeal.main_arg5) = m ((c.tc : Thread Cert.PreEvenLatIdeal.nD Cert.PreEvenLatIdeal.τ).loc Cert.PreEvenLatIdeal.main_arg5)
      ∧ r.2.mem ((c.tc : Thread Cert.PreEvenLatIdeal.nD Cert.PreEvenLatIdeal.τ).loc Cert.PreEvenLatIdeal.main_arg6) = m ((c.tc : Thread Cert.PreEvenLatIdeal.nD Cert.PreEvenLatIdeal.τ).loc Cert.PreEvenLatIdeal.main_arg6)
      ∧ r.2.mem ((c.tc : Thread Cert.PreEvenLatIdeal.nD Cert.PreEvenLatIdeal.τ).loc Cert.PreEvenLatIdeal.main_arg7) = m ((c.tc : Thread Cert.PreEvenLatIdeal.nD Cert.PreEvenLatIdeal.τ).loc Cert.PreEvenLatIdeal.main_arg7)
      ∧ r.2.mem ((c.tc : Thread Cert.PreEvenLatIdeal.nD Cert.PreEvenLatIdeal.τ).loc Cert.PreEvenLatIdeal.main_arg8) = m ((c.tc : Thread Cert.PreEvenLatIdeal.nD Cert.PreEvenLatIdeal.τ).loc Cert.PreEvenLatIdeal.main_arg8)
      ∧ r.2.mem ((c.tc : Thread Cert.PreEvenLatIdeal.nD Cert.PreEvenLatIdeal.τ).loc Cert.PreEvenLatIdeal.main_arg9) = m ((c.tc : Thread Cert.PreEvenLatIdeal.nD Cert.PreEvenLatIdeal.τ).loc Cert.PreEvenLatIdeal.main_arg9)
      ∧ r.2.mem ((c.tc : Thread Cert.PreEvenLatIdeal.nD Cert.PreEvenLatIdeal.τ).loc Cert.PreEvenLatIdeal.main_arg10) = m ((c.tc : Thread Cert.PreEvenLatIdeal.nD Cert.PreEvenLatIdeal.τ).loc Cert.PreEvenLatIdeal.main_arg10))
      ∧ r.2.sem = fun _ => 0)

def quiescent_PreEvenLatIdeal_pre_mean_table [hPreEvenLatIdeal : Cert.PreEvenLatIdeal.Facts] [hPre_mean_table : Cert.Pre_mean_table.Facts] : Prop :=
  ∀ (m : (ℓ : Loc Cert.PreEvenLatIdeal.nD Cert.PreEvenLatIdeal.τ Cert.PreEvenLatIdeal.sig) → Buf (Elt Ideal) ℓ) (g : Dev Cert.PreEvenLatIdeal.nD → PrngReg), Pre_PreEvenLatIdeal_mean_table m →
    θ_run (Cert.PreEvenLatIdeal.defs (F := Ideal)) (onTc (τ := Cert.PreEvenLatIdeal.τ) (Cert.PreEvenLatIdeal.main (F := Ideal))) ⟨m, fun _ => 0, g⟩ (fun r => (∀ c : Dev Cert.PreEvenLatIdeal.nD,
      r.2.mem ((c.tc : Thread Cert.PreEvenLatIdeal.nD Cert.PreEvenLatIdeal.τ).loc Cert.PreEvenLatIdeal.main_arg0) = m ((c.tc : Thread Cert.PreEvenLatIdeal.nD Cert.PreEvenLatIdeal.τ).loc Cert.PreEvenLatIdeal.main_arg0)
      ∧ r.2.mem ((c.tc : Thread Cert.PreEvenLatIdeal.nD Cert.PreEvenLatIdeal.τ).loc Cert.PreEvenLatIdeal.main_arg1) = m ((c.tc : Thread Cert.PreEvenLatIdeal.nD Cert.PreEvenLatIdeal.τ).loc Cert.PreEvenLatIdeal.main_arg1)
      ∧ r.2.mem ((c.tc : Thread Cert.PreEvenLatIdeal.nD Cert.PreEvenLatIdeal.τ).loc Cert.PreEvenLatIdeal.main_arg2) = m ((c.tc : Thread Cert.PreEvenLatIdeal.nD Cert.PreEvenLatIdeal.τ).loc Cert.PreEvenLatIdeal.main_arg2)
      ∧ r.2.mem ((c.tc : Thread Cert.PreEvenLatIdeal.nD Cert.PreEvenLatIdeal.τ).loc Cert.PreEvenLatIdeal.main_arg3) = m ((c.tc : Thread Cert.PreEvenLatIdeal.nD Cert.PreEvenLatIdeal.τ).loc Cert.PreEvenLatIdeal.main_arg3)
      ∧ r.2.mem ((c.tc : Thread Cert.PreEvenLatIdeal.nD Cert.PreEvenLatIdeal.τ).loc Cert.PreEvenLatIdeal.main_arg4) = m ((c.tc : Thread Cert.PreEvenLatIdeal.nD Cert.PreEvenLatIdeal.τ).loc Cert.PreEvenLatIdeal.main_arg4)
      ∧ r.2.mem ((c.tc : Thread Cert.PreEvenLatIdeal.nD Cert.PreEvenLatIdeal.τ).loc Cert.PreEvenLatIdeal.main_arg5) = m ((c.tc : Thread Cert.PreEvenLatIdeal.nD Cert.PreEvenLatIdeal.τ).loc Cert.PreEvenLatIdeal.main_arg5)
      ∧ r.2.mem ((c.tc : Thread Cert.PreEvenLatIdeal.nD Cert.PreEvenLatIdeal.τ).loc Cert.PreEvenLatIdeal.main_arg6) = m ((c.tc : Thread Cert.PreEvenLatIdeal.nD Cert.PreEvenLatIdeal.τ).loc Cert.PreEvenLatIdeal.main_arg6)
      ∧ r.2.mem ((c.tc : Thread Cert.PreEvenLatIdeal.nD Cert.PreEvenLatIdeal.τ).loc Cert.PreEvenLatIdeal.main_arg7) = m ((c.tc : Thread Cert.PreEvenLatIdeal.nD Cert.PreEvenLatIdeal.τ).loc Cert.PreEvenLatIdeal.main_arg7)
      ∧ r.2.mem ((c.tc : Thread Cert.PreEvenLatIdeal.nD Cert.PreEvenLatIdeal.τ).loc Cert.PreEvenLatIdeal.main_arg8) = m ((c.tc : Thread Cert.PreEvenLatIdeal.nD Cert.PreEvenLatIdeal.τ).loc Cert.PreEvenLatIdeal.main_arg8)
      ∧ r.2.mem ((c.tc : Thread Cert.PreEvenLatIdeal.nD Cert.PreEvenLatIdeal.τ).loc Cert.PreEvenLatIdeal.main_arg9) = m ((c.tc : Thread Cert.PreEvenLatIdeal.nD Cert.PreEvenLatIdeal.τ).loc Cert.PreEvenLatIdeal.main_arg9)
      ∧ r.2.mem ((c.tc : Thread Cert.PreEvenLatIdeal.nD Cert.PreEvenLatIdeal.τ).loc Cert.PreEvenLatIdeal.main_arg10) = m ((c.tc : Thread Cert.PreEvenLatIdeal.nD Cert.PreEvenLatIdeal.τ).loc Cert.PreEvenLatIdeal.main_arg10))
      ∧ r.2.sem = fun _ => 0)

def quiescent_PreEvenLatRefIdeal [hPreEvenLatRefIdeal : Cert.PreEvenLatRefIdeal.Facts] : Prop :=
  ∀ (m : (ℓ : Loc Cert.PreEvenLatRefIdeal.nD Cert.PreEvenLatRefIdeal.τ Cert.PreEvenLatRefIdeal.sig) → Buf (Elt Ideal) ℓ) (g : Dev Cert.PreEvenLatRefIdeal.nD → PrngReg), Pre_PreEvenLatRefIdeal m →
    θ_run (Cert.PreEvenLatRefIdeal.defs (F := Ideal)) (onTc (τ := Cert.PreEvenLatRefIdeal.τ) (Cert.PreEvenLatRefIdeal.main (F := Ideal))) ⟨m, fun _ => 0, g⟩ (fun r => (∀ c : Dev Cert.PreEvenLatRefIdeal.nD,
      r.2.mem ((c.tc : Thread Cert.PreEvenLatRefIdeal.nD Cert.PreEvenLatRefIdeal.τ).loc Cert.PreEvenLatRefIdeal.main_arg0) = m ((c.tc : Thread Cert.PreEvenLatRefIdeal.nD Cert.PreEvenLatRefIdeal.τ).loc Cert.PreEvenLatRefIdeal.main_arg0)
      ∧ r.2.mem ((c.tc : Thread Cert.PreEvenLatRefIdeal.nD Cert.PreEvenLatRefIdeal.τ).loc Cert.PreEvenLatRefIdeal.main_arg1) = m ((c.tc : Thread Cert.PreEvenLatRefIdeal.nD Cert.PreEvenLatRefIdeal.τ).loc Cert.PreEvenLatRefIdeal.main_arg1)
      ∧ r.2.mem ((c.tc : Thread Cert.PreEvenLatRefIdeal.nD Cert.PreEvenLatRefIdeal.τ).loc Cert.PreEvenLatRefIdeal.main_arg2) = m ((c.tc : Thread Cert.PreEvenLatRefIdeal.nD Cert.PreEvenLatRefIdeal.τ).loc Cert.PreEvenLatRefIdeal.main_arg2)
      ∧ r.2.mem ((c.tc : Thread Cert.PreEvenLatRefIdeal.nD Cert.PreEvenLatRefIdeal.τ).loc Cert.PreEvenLatRefIdeal.main_arg3) = m ((c.tc : Thread Cert.PreEvenLatRefIdeal.nD Cert.PreEvenLatRefIdeal.τ).loc Cert.PreEvenLatRefIdeal.main_arg3)
      ∧ r.2.mem ((c.tc : Thread Cert.PreEvenLatRefIdeal.nD Cert.PreEvenLatRefIdeal.τ).loc Cert.PreEvenLatRefIdeal.main_arg4) = m ((c.tc : Thread Cert.PreEvenLatRefIdeal.nD Cert.PreEvenLatRefIdeal.τ).loc Cert.PreEvenLatRefIdeal.main_arg4)
      ∧ r.2.mem ((c.tc : Thread Cert.PreEvenLatRefIdeal.nD Cert.PreEvenLatRefIdeal.τ).loc Cert.PreEvenLatRefIdeal.main_arg5) = m ((c.tc : Thread Cert.PreEvenLatRefIdeal.nD Cert.PreEvenLatRefIdeal.τ).loc Cert.PreEvenLatRefIdeal.main_arg5)
      ∧ r.2.mem ((c.tc : Thread Cert.PreEvenLatRefIdeal.nD Cert.PreEvenLatRefIdeal.τ).loc Cert.PreEvenLatRefIdeal.main_arg6) = m ((c.tc : Thread Cert.PreEvenLatRefIdeal.nD Cert.PreEvenLatRefIdeal.τ).loc Cert.PreEvenLatRefIdeal.main_arg6)
      ∧ r.2.mem ((c.tc : Thread Cert.PreEvenLatRefIdeal.nD Cert.PreEvenLatRefIdeal.τ).loc Cert.PreEvenLatRefIdeal.main_arg7) = m ((c.tc : Thread Cert.PreEvenLatRefIdeal.nD Cert.PreEvenLatRefIdeal.τ).loc Cert.PreEvenLatRefIdeal.main_arg7)
      ∧ r.2.mem ((c.tc : Thread Cert.PreEvenLatRefIdeal.nD Cert.PreEvenLatRefIdeal.τ).loc Cert.PreEvenLatRefIdeal.main_arg8) = m ((c.tc : Thread Cert.PreEvenLatRefIdeal.nD Cert.PreEvenLatRefIdeal.τ).loc Cert.PreEvenLatRefIdeal.main_arg8)
      ∧ r.2.mem ((c.tc : Thread Cert.PreEvenLatRefIdeal.nD Cert.PreEvenLatRefIdeal.τ).loc Cert.PreEvenLatRefIdeal.main_arg9) = m ((c.tc : Thread Cert.PreEvenLatRefIdeal.nD Cert.PreEvenLatRefIdeal.τ).loc Cert.PreEvenLatRefIdeal.main_arg9)
      ∧ r.2.mem ((c.tc : Thread Cert.PreEvenLatRefIdeal.nD Cert.PreEvenLatRefIdeal.τ).loc Cert.PreEvenLatRefIdeal.main_arg10) = m ((c.tc : Thread Cert.PreEvenLatRefIdeal.nD Cert.PreEvenLatRefIdeal.τ).loc Cert.PreEvenLatRefIdeal.main_arg10))
      ∧ r.2.sem = fun _ => 0)

def quiescent_PreEvenLatRefIdeal_pre_mean_table [hPreEvenLatRefIdeal : Cert.PreEvenLatRefIdeal.Facts] [hPre_mean_table : Cert.Pre_mean_table.Facts] : Prop :=
  ∀ (m : (ℓ : Loc Cert.PreEvenLatRefIdeal.nD Cert.PreEvenLatRefIdeal.τ Cert.PreEvenLatRefIdeal.sig) → Buf (Elt Ideal) ℓ) (g : Dev Cert.PreEvenLatRefIdeal.nD → PrngReg), Pre_PreEvenLatRefIdeal_mean_table m →
    θ_run (Cert.PreEvenLatRefIdeal.defs (F := Ideal)) (onTc (τ := Cert.PreEvenLatRefIdeal.τ) (Cert.PreEvenLatRefIdeal.main (F := Ideal))) ⟨m, fun _ => 0, g⟩ (fun r => (∀ c : Dev Cert.PreEvenLatRefIdeal.nD,
      r.2.mem ((c.tc : Thread Cert.PreEvenLatRefIdeal.nD Cert.PreEvenLatRefIdeal.τ).loc Cert.PreEvenLatRefIdeal.main_arg0) = m ((c.tc : Thread Cert.PreEvenLatRefIdeal.nD Cert.PreEvenLatRefIdeal.τ).loc Cert.PreEvenLatRefIdeal.main_arg0)
      ∧ r.2.mem ((c.tc : Thread Cert.PreEvenLatRefIdeal.nD Cert.PreEvenLatRefIdeal.τ).loc Cert.PreEvenLatRefIdeal.main_arg1) = m ((c.tc : Thread Cert.PreEvenLatRefIdeal.nD Cert.PreEvenLatRefIdeal.τ).loc Cert.PreEvenLatRefIdeal.main_arg1)
      ∧ r.2.mem ((c.tc : Thread Cert.PreEvenLatRefIdeal.nD Cert.PreEvenLatRefIdeal.τ).loc Cert.PreEvenLatRefIdeal.main_arg2) = m ((c.tc : Thread Cert.PreEvenLatRefIdeal.nD Cert.PreEvenLatRefIdeal.τ).loc Cert.PreEvenLatRefIdeal.main_arg2)
      ∧ r.2.mem ((c.tc : Thread Cert.PreEvenLatRefIdeal.nD Cert.PreEvenLatRefIdeal.τ).loc Cert.PreEvenLatRefIdeal.main_arg3) = m ((c.tc : Thread Cert.PreEvenLatRefIdeal.nD Cert.PreEvenLatRefIdeal.τ).loc Cert.PreEvenLatRefIdeal.main_arg3)
      ∧ r.2.mem ((c.tc : Thread Cert.PreEvenLatRefIdeal.nD Cert.PreEvenLatRefIdeal.τ).loc Cert.PreEvenLatRefIdeal.main_arg4) = m ((c.tc : Thread Cert.PreEvenLatRefIdeal.nD Cert.PreEvenLatRefIdeal.τ).loc Cert.PreEvenLatRefIdeal.main_arg4)
      ∧ r.2.mem ((c.tc : Thread Cert.PreEvenLatRefIdeal.nD Cert.PreEvenLatRefIdeal.τ).loc Cert.PreEvenLatRefIdeal.main_arg5) = m ((c.tc : Thread Cert.PreEvenLatRefIdeal.nD Cert.PreEvenLatRefIdeal.τ).loc Cert.PreEvenLatRefIdeal.main_arg5)
      ∧ r.2.mem ((c.tc : Thread Cert.PreEvenLatRefIdeal.nD Cert.PreEvenLatRefIdeal.τ).loc Cert.PreEvenLatRefIdeal.main_arg6) = m ((c.tc : Thread Cert.PreEvenLatRefIdeal.nD Cert.PreEvenLatRefIdeal.τ).loc Cert.PreEvenLatRefIdeal.main_arg6)
      ∧ r.2.mem ((c.tc : Thread Cert.PreEvenLatRefIdeal.nD Cert.PreEvenLatRefIdeal.τ).loc Cert.PreEvenLatRefIdeal.main_arg7) = m ((c.tc : Thread Cert.PreEvenLatRefIdeal.nD Cert.PreEvenLatRefIdeal.τ).loc Cert.PreEvenLatRefIdeal.main_arg7)
      ∧ r.2.mem ((c.tc : Thread Cert.PreEvenLatRefIdeal.nD Cert.PreEvenLatRefIdeal.τ).loc Cert.PreEvenLatRefIdeal.main_arg8) = m ((c.tc : Thread Cert.PreEvenLatRefIdeal.nD Cert.PreEvenLatRefIdeal.τ).loc Cert.PreEvenLatRefIdeal.main_arg8)
      ∧ r.2.mem ((c.tc : Thread Cert.PreEvenLatRefIdeal.nD Cert.PreEvenLatRefIdeal.τ).loc Cert.PreEvenLatRefIdeal.main_arg9) = m ((c.tc : Thread Cert.PreEvenLatRefIdeal.nD Cert.PreEvenLatRefIdeal.τ).loc Cert.PreEvenLatRefIdeal.main_arg9)
      ∧ r.2.mem ((c.tc : Thread Cert.PreEvenLatRefIdeal.nD Cert.PreEvenLatRefIdeal.τ).loc Cert.PreEvenLatRefIdeal.main_arg10) = m ((c.tc : Thread Cert.PreEvenLatRefIdeal.nD Cert.PreEvenLatRefIdeal.τ).loc Cert.PreEvenLatRefIdeal.main_arg10))
      ∧ r.2.sem = fun _ => 0)

def preserves_Kernel_KernelIdeal : Prop :=
  True

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)) →
    ∃ (v0 : (c : Dev Cert.PostIdeal.nD) → Buf (Elt Ideal) ((c.tc : Thread Cert.PostIdeal.nD Cert.PostIdeal.τ).loc Cert.PostIdeal.main_v6)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v6) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v85) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7))

def preserves_PostCtx_PostCtxIdeal : Prop :=
  True

def algebraic_PostCtxIdeal_PostCtxRefIdeal [hPostCtxIdeal : Cert.PostCtxIdeal.Facts] [hPostCtxRefIdeal : Cert.PostCtxRefIdeal.Facts] : Prop :=
  ∀ (m : (ℓ : Loc Cert.PostCtxIdeal.nD Cert.PostCtxIdeal.τ Cert.PostCtxIdeal.sig) → Buf (Elt Ideal) ℓ) (g : Dev Cert.PostCtxIdeal.nD → PrngReg)
    (m' : (ℓ : Loc Cert.PostCtxRefIdeal.nD Cert.PostCtxRefIdeal.τ Cert.PostCtxRefIdeal.sig) → Buf (Elt Ideal) ℓ) (g' : Dev Cert.PostCtxRefIdeal.nD → PrngReg), Pre_PostCtxIdeal m →
    (∀ c : Dev Cert.PostCtxIdeal.nD,
      m' ((c.tc : Thread Cert.PostCtxRefIdeal.nD Cert.PostCtxRefIdeal.τ).loc Cert.PostCtxRefIdeal.main_arg0) = m ((c.tc : Thread Cert.PostCtxIdeal.nD Cert.PostCtxIdeal.τ).loc Cert.PostCtxIdeal.main_arg0)
      ∧ m' ((c.tc : Thread Cert.PostCtxRefIdeal.nD Cert.PostCtxRefIdeal.τ).loc Cert.PostCtxRefIdeal.main_arg1) = m ((c.tc : Thread Cert.PostCtxIdeal.nD Cert.PostCtxIdeal.τ).loc Cert.PostCtxIdeal.main_arg1)
      ∧ m' ((c.tc : Thread Cert.PostCtxRefIdeal.nD Cert.PostCtxRefIdeal.τ).loc Cert.PostCtxRefIdeal.main_arg2) = m ((c.tc : Thread Cert.PostCtxIdeal.nD Cert.PostCtxIdeal.τ).loc Cert.PostCtxIdeal.main_arg2)
      ∧ m' ((c.tc : Thread Cert.PostCtxRefIdeal.nD Cert.PostCtxRefIdeal.τ).loc Cert.PostCtxRefIdeal.main_arg3) = m ((c.tc : Thread Cert.PostCtxIdeal.nD Cert.PostCtxIdeal.τ).loc Cert.PostCtxIdeal.main_arg3)
      ∧ m' ((c.tc : Thread Cert.PostCtxRefIdeal.nD Cert.PostCtxRefIdeal.τ).loc Cert.PostCtxRefIdeal.main_arg4) = m ((c.tc : Thread Cert.PostCtxIdeal.nD Cert.PostCtxIdeal.τ).loc Cert.PostCtxIdeal.main_arg4)
      ∧ m' ((c.tc : Thread Cert.PostCtxRefIdeal.nD Cert.PostCtxRefIdeal.τ).loc Cert.PostCtxRefIdeal.main_arg5) = m ((c.tc : Thread Cert.PostCtxIdeal.nD Cert.PostCtxIdeal.τ).loc Cert.PostCtxIdeal.main_arg5)
      ∧ m' ((c.tc : Thread Cert.PostCtxRefIdeal.nD Cert.PostCtxRefIdeal.τ).loc Cert.PostCtxRefIdeal.main_arg6) = m ((c.tc : Thread Cert.PostCtxIdeal.nD Cert.PostCtxIdeal.τ).loc Cert.PostCtxIdeal.main_arg6)
      ∧ m' ((c.tc : Thread Cert.PostCtxRefIdeal.nD Cert.PostCtxRefIdeal.τ).loc Cert.PostCtxRefIdeal.main_arg7) = m ((c.tc : Thread Cert.PostCtxIdeal.nD Cert.PostCtxIdeal.τ).loc Cert.PostCtxIdeal.main_arg7)) →
    ∃ (v0 : (c : Dev Cert.PostCtxIdeal.nD) → Buf (Elt Ideal) ((c.tc : Thread Cert.PostCtxIdeal.nD Cert.PostCtxIdeal.τ).loc Cert.PostCtxIdeal.main_v6)),
      θ_run (Cert.PostCtxIdeal.defs (F := Ideal)) (onTc (τ := Cert.PostCtxIdeal.τ) (Cert.PostCtxIdeal.main (F := Ideal))) ⟨m, fun _ => 0, g⟩ (fun r => ∀ c : Dev Cert.PostCtxIdeal.nD,
          r.2.mem ((c.tc : Thread Cert.PostCtxIdeal.nD Cert.PostCtxIdeal.τ).loc Cert.PostCtxIdeal.main_v6) = v0 c
          ∧ r.2.mem ((c.tc : Thread Cert.PostCtxIdeal.nD Cert.PostCtxIdeal.τ).loc Cert.PostCtxIdeal.main_arg0) = m ((c.tc : Thread Cert.PostCtxIdeal.nD Cert.PostCtxIdeal.τ).loc Cert.PostCtxIdeal.main_arg0)
          ∧ r.2.mem ((c.tc : Thread Cert.PostCtxIdeal.nD Cert.PostCtxIdeal.τ).loc Cert.PostCtxIdeal.main_arg1) = m ((c.tc : Thread Cert.PostCtxIdeal.nD Cert.PostCtxIdeal.τ).loc Cert.PostCtxIdeal.main_arg1)
          ∧ r.2.mem ((c.tc : Thread Cert.PostCtxIdeal.nD Cert.PostCtxIdeal.τ).loc Cert.PostCtxIdeal.main_arg2) = m ((c.tc : Thread Cert.PostCtxIdeal.nD Cert.PostCtxIdeal.τ).loc Cert.PostCtxIdeal.main_arg2)
          ∧ r.2.mem ((c.tc : Thread Cert.PostCtxIdeal.nD Cert.PostCtxIdeal.τ).loc Cert.PostCtxIdeal.main_arg3) = m ((c.tc : Thread Cert.PostCtxIdeal.nD Cert.PostCtxIdeal.τ).loc Cert.PostCtxIdeal.main_arg3)
          ∧ r.2.mem ((c.tc : Thread Cert.PostCtxIdeal.nD Cert.PostCtxIdeal.τ).loc Cert.PostCtxIdeal.main_arg4) = m ((c.tc : Thread Cert.PostCtxIdeal.nD Cert.PostCtxIdeal.τ).loc Cert.PostCtxIdeal.main_arg4)
          ∧ r.2.mem ((c.tc : Thread Cert.PostCtxIdeal.nD Cert.PostCtxIdeal.τ).loc Cert.PostCtxIdeal.main_arg5) = m ((c.tc : Thread Cert.PostCtxIdeal.nD Cert.PostCtxIdeal.τ).loc Cert.PostCtxIdeal.main_arg5)
          ∧ r.2.mem ((c.tc : Thread Cert.PostCtxIdeal.nD Cert.PostCtxIdeal.τ).loc Cert.PostCtxIdeal.main_arg6) = m ((c.tc : Thread Cert.PostCtxIdeal.nD Cert.PostCtxIdeal.τ).loc Cert.PostCtxIdeal.main_arg6)
          ∧ r.2.mem ((c.tc : Thread Cert.PostCtxIdeal.nD Cert.PostCtxIdeal.τ).loc Cert.PostCtxIdeal.main_arg7) = m ((c.tc : Thread Cert.PostCtxIdeal.nD Cert.PostCtxIdeal.τ).loc Cert.PostCtxIdeal.main_arg7))
      ∧ θ_run (Cert.PostCtxRefIdeal.defs (F := Ideal)) (onTc (τ := Cert.PostCtxRefIdeal.τ) (Cert.PostCtxRefIdeal.main (F := Ideal))) ⟨m', fun _ => 0, g'⟩ (fun r => ∀ c : Dev Cert.PostCtxRefIdeal.nD,
          r.2.mem ((c.tc : Thread Cert.PostCtxRefIdeal.nD Cert.PostCtxRefIdeal.τ).loc Cert.PostCtxRefIdeal.main_v85) = v0 c
          ∧ r.2.mem ((c.tc : Thread Cert.PostCtxRefIdeal.nD Cert.PostCtxRefIdeal.τ).loc Cert.PostCtxRefIdeal.main_arg0) = m' ((c.tc : Thread Cert.PostCtxRefIdeal.nD Cert.PostCtxRefIdeal.τ).loc Cert.PostCtxRefIdeal.main_arg0)
          ∧ r.2.mem ((c.tc : Thread Cert.PostCtxRefIdeal.nD Cert.PostCtxRefIdeal.τ).loc Cert.PostCtxRefIdeal.main_arg1) = m' ((c.tc : Thread Cert.PostCtxRefIdeal.nD Cert.PostCtxRefIdeal.τ).loc Cert.PostCtxRefIdeal.main_arg1)
          ∧ r.2.mem ((c.tc : Thread Cert.PostCtxRefIdeal.nD Cert.PostCtxRefIdeal.τ).loc Cert.PostCtxRefIdeal.main_arg2) = m' ((c.tc : Thread Cert.PostCtxRefIdeal.nD Cert.PostCtxRefIdeal.τ).loc Cert.PostCtxRefIdeal.main_arg2)
          ∧ r.2.mem ((c.tc : Thread Cert.PostCtxRefIdeal.nD Cert.PostCtxRefIdeal.τ).loc Cert.PostCtxRefIdeal.main_arg3) = m' ((c.tc : Thread Cert.PostCtxRefIdeal.nD Cert.PostCtxRefIdeal.τ).loc Cert.PostCtxRefIdeal.main_arg3)
          ∧ r.2.mem ((c.tc : Thread Cert.PostCtxRefIdeal.nD Cert.PostCtxRefIdeal.τ).loc Cert.PostCtxRefIdeal.main_arg4) = m' ((c.tc : Thread Cert.PostCtxRefIdeal.nD Cert.PostCtxRefIdeal.τ).loc Cert.PostCtxRefIdeal.main_arg4)
          ∧ r.2.mem ((c.tc : Thread Cert.PostCtxRefIdeal.nD Cert.PostCtxRefIdeal.τ).loc Cert.PostCtxRefIdeal.main_arg5) = m' ((c.tc : Thread Cert.PostCtxRefIdeal.nD Cert.PostCtxRefIdeal.τ).loc Cert.PostCtxRefIdeal.main_arg5)
          ∧ r.2.mem ((c.tc : Thread Cert.PostCtxRefIdeal.nD Cert.PostCtxRefIdeal.τ).loc Cert.PostCtxRefIdeal.main_arg6) = m' ((c.tc : Thread Cert.PostCtxRefIdeal.nD Cert.PostCtxRefIdeal.τ).loc Cert.PostCtxRefIdeal.main_arg6)
          ∧ r.2.mem ((c.tc : Thread Cert.PostCtxRefIdeal.nD Cert.PostCtxRefIdeal.τ).loc Cert.PostCtxRefIdeal.main_arg7) = m' ((c.tc : Thread Cert.PostCtxRefIdeal.nD Cert.PostCtxRefIdeal.τ).loc Cert.PostCtxRefIdeal.main_arg7))

def preserves_PreEven_PreEvenIdeal : Prop :=
  True

def algebraic_PreEvenIdeal_PreEvenRefIdeal [hPreEvenIdeal : Cert.PreEvenIdeal.Facts] [hPreEvenRefIdeal : Cert.PreEvenRefIdeal.Facts] : Prop :=
  ∀ (m : (ℓ : Loc Cert.PreEvenIdeal.nD Cert.PreEvenIdeal.τ Cert.PreEvenIdeal.sig) → Buf (Elt Ideal) ℓ) (g : Dev Cert.PreEvenIdeal.nD → PrngReg)
    (m' : (ℓ : Loc Cert.PreEvenRefIdeal.nD Cert.PreEvenRefIdeal.τ Cert.PreEvenRefIdeal.sig) → Buf (Elt Ideal) ℓ) (g' : Dev Cert.PreEvenRefIdeal.nD → PrngReg), Pre_PreEvenIdeal m →
    (∀ c : Dev Cert.PreEvenIdeal.nD,
      m' ((c.tc : Thread Cert.PreEvenRefIdeal.nD Cert.PreEvenRefIdeal.τ).loc Cert.PreEvenRefIdeal.main_arg0) = m ((c.tc : Thread Cert.PreEvenIdeal.nD Cert.PreEvenIdeal.τ).loc Cert.PreEvenIdeal.main_arg0)
      ∧ m' ((c.tc : Thread Cert.PreEvenRefIdeal.nD Cert.PreEvenRefIdeal.τ).loc Cert.PreEvenRefIdeal.main_arg1) = m ((c.tc : Thread Cert.PreEvenIdeal.nD Cert.PreEvenIdeal.τ).loc Cert.PreEvenIdeal.main_arg1)
      ∧ m' ((c.tc : Thread Cert.PreEvenRefIdeal.nD Cert.PreEvenRefIdeal.τ).loc Cert.PreEvenRefIdeal.main_arg2) = m ((c.tc : Thread Cert.PreEvenIdeal.nD Cert.PreEvenIdeal.τ).loc Cert.PreEvenIdeal.main_arg2)
      ∧ m' ((c.tc : Thread Cert.PreEvenRefIdeal.nD Cert.PreEvenRefIdeal.τ).loc Cert.PreEvenRefIdeal.main_arg3) = m ((c.tc : Thread Cert.PreEvenIdeal.nD Cert.PreEvenIdeal.τ).loc Cert.PreEvenIdeal.main_arg3)
      ∧ m' ((c.tc : Thread Cert.PreEvenRefIdeal.nD Cert.PreEvenRefIdeal.τ).loc Cert.PreEvenRefIdeal.main_arg4) = m ((c.tc : Thread Cert.PreEvenIdeal.nD Cert.PreEvenIdeal.τ).loc Cert.PreEvenIdeal.main_arg4)
      ∧ m' ((c.tc : Thread Cert.PreEvenRefIdeal.nD Cert.PreEvenRefIdeal.τ).loc Cert.PreEvenRefIdeal.main_arg5) = m ((c.tc : Thread Cert.PreEvenIdeal.nD Cert.PreEvenIdeal.τ).loc Cert.PreEvenIdeal.main_arg5)
      ∧ m' ((c.tc : Thread Cert.PreEvenRefIdeal.nD Cert.PreEvenRefIdeal.τ).loc Cert.PreEvenRefIdeal.main_arg6) = m ((c.tc : Thread Cert.PreEvenIdeal.nD Cert.PreEvenIdeal.τ).loc Cert.PreEvenIdeal.main_arg6)
      ∧ m' ((c.tc : Thread Cert.PreEvenRefIdeal.nD Cert.PreEvenRefIdeal.τ).loc Cert.PreEvenRefIdeal.main_arg7) = m ((c.tc : Thread Cert.PreEvenIdeal.nD Cert.PreEvenIdeal.τ).loc Cert.PreEvenIdeal.main_arg7)) →
    ∃ (v0 : (c : Dev Cert.PreEvenIdeal.nD) → Buf (Elt Ideal) ((c.tc : Thread Cert.PreEvenIdeal.nD Cert.PreEvenIdeal.τ).loc Cert.PreEvenIdeal.main_v21_0)) (v1 : (c : Dev Cert.PreEvenIdeal.nD) → Buf (Elt Ideal) ((c.tc : Thread Cert.PreEvenIdeal.nD Cert.PreEvenIdeal.τ).loc Cert.PreEvenIdeal.main_v21_1)) (v2 : (c : Dev Cert.PreEvenIdeal.nD) → Buf (Elt Ideal) ((c.tc : Thread Cert.PreEvenIdeal.nD Cert.PreEvenIdeal.τ).loc Cert.PreEvenIdeal.main_v21_2)) (v3 : (c : Dev Cert.PreEvenIdeal.nD) → Buf (Elt Ideal) ((c.tc : Thread Cert.PreEvenIdeal.nD Cert.PreEvenIdeal.τ).loc Cert.PreEvenIdeal.main_v26)) (v4 : (c : Dev Cert.PreEvenIdeal.nD) → Buf (Elt Ideal) ((c.tc : Thread Cert.PreEvenIdeal.nD Cert.PreEvenIdeal.τ).loc Cert.PreEvenIdeal.main_v27)),
      θ_run (Cert.PreEvenIdeal.defs (F := Ideal)) (onTc (τ := Cert.PreEvenIdeal.τ) (Cert.PreEvenIdeal.main (F := Ideal))) ⟨m, fun _ => 0, g⟩ (fun r => ∀ c : Dev Cert.PreEvenIdeal.nD,
          r.2.mem ((c.tc : Thread Cert.PreEvenIdeal.nD Cert.PreEvenIdeal.τ).loc Cert.PreEvenIdeal.main_v21_0) = v0 c
          ∧ r.2.mem ((c.tc : Thread Cert.PreEvenIdeal.nD Cert.PreEvenIdeal.τ).loc Cert.PreEvenIdeal.main_v21_1) = v1 c
          ∧ r.2.mem ((c.tc : Thread Cert.PreEvenIdeal.nD Cert.PreEvenIdeal.τ).loc Cert.PreEvenIdeal.main_v21_2) = v2 c
          ∧ r.2.mem ((c.tc : Thread Cert.PreEvenIdeal.nD Cert.PreEvenIdeal.τ).loc Cert.PreEvenIdeal.main_v26) = v3 c
          ∧ r.2.mem ((c.tc : Thread Cert.PreEvenIdeal.nD Cert.PreEvenIdeal.τ).loc Cert.PreEvenIdeal.main_v27) = v4 c
          ∧ r.2.mem ((c.tc : Thread Cert.PreEvenIdeal.nD Cert.PreEvenIdeal.τ).loc Cert.PreEvenIdeal.main_arg0) = m ((c.tc : Thread Cert.PreEvenIdeal.nD Cert.PreEvenIdeal.τ).loc Cert.PreEvenIdeal.main_arg0)
          ∧ r.2.mem ((c.tc : Thread Cert.PreEvenIdeal.nD Cert.PreEvenIdeal.τ).loc Cert.PreEvenIdeal.main_arg1) = m ((c.tc : Thread Cert.PreEvenIdeal.nD Cert.PreEvenIdeal.τ).loc Cert.PreEvenIdeal.main_arg1)
          ∧ r.2.mem ((c.tc : Thread Cert.PreEvenIdeal.nD Cert.PreEvenIdeal.τ).loc Cert.PreEvenIdeal.main_arg2) = m ((c.tc : Thread Cert.PreEvenIdeal.nD Cert.PreEvenIdeal.τ).loc Cert.PreEvenIdeal.main_arg2)
          ∧ r.2.mem ((c.tc : Thread Cert.PreEvenIdeal.nD Cert.PreEvenIdeal.τ).loc Cert.PreEvenIdeal.main_arg3) = m ((c.tc : Thread Cert.PreEvenIdeal.nD Cert.PreEvenIdeal.τ).loc Cert.PreEvenIdeal.main_arg3)
          ∧ r.2.mem ((c.tc : Thread Cert.PreEvenIdeal.nD Cert.PreEvenIdeal.τ).loc Cert.PreEvenIdeal.main_arg4) = m ((c.tc : Thread Cert.PreEvenIdeal.nD Cert.PreEvenIdeal.τ).loc Cert.PreEvenIdeal.main_arg4)
          ∧ r.2.mem ((c.tc : Thread Cert.PreEvenIdeal.nD Cert.PreEvenIdeal.τ).loc Cert.PreEvenIdeal.main_arg5) = m ((c.tc : Thread Cert.PreEvenIdeal.nD Cert.PreEvenIdeal.τ).loc Cert.PreEvenIdeal.main_arg5)
          ∧ r.2.mem ((c.tc : Thread Cert.PreEvenIdeal.nD Cert.PreEvenIdeal.τ).loc Cert.PreEvenIdeal.main_arg6) = m ((c.tc : Thread Cert.PreEvenIdeal.nD Cert.PreEvenIdeal.τ).loc Cert.PreEvenIdeal.main_arg6)
          ∧ r.2.mem ((c.tc : Thread Cert.PreEvenIdeal.nD Cert.PreEvenIdeal.τ).loc Cert.PreEvenIdeal.main_arg7) = m ((c.tc : Thread Cert.PreEvenIdeal.nD Cert.PreEvenIdeal.τ).loc Cert.PreEvenIdeal.main_arg7))
      ∧ θ_run (Cert.PreEvenRefIdeal.defs (F := Ideal)) (onTc (τ := Cert.PreEvenRefIdeal.τ) (Cert.PreEvenRefIdeal.main (F := Ideal))) ⟨m', fun _ => 0, g'⟩ (fun r => ∀ c : Dev Cert.PreEvenRefIdeal.nD,
          r.2.mem ((c.tc : Thread Cert.PreEvenRefIdeal.nD Cert.PreEvenRefIdeal.τ).loc Cert.PreEvenRefIdeal.main_v115) = v0 c
          ∧ r.2.mem ((c.tc : Thread Cert.PreEvenRefIdeal.nD Cert.PreEvenRefIdeal.τ).loc Cert.PreEvenRefIdeal.main_v117) = v1 c
          ∧ r.2.mem ((c.tc : Thread Cert.PreEvenRefIdeal.nD Cert.PreEvenRefIdeal.τ).loc Cert.PreEvenRefIdeal.main_v119) = v2 c
          ∧ r.2.mem ((c.tc : Thread Cert.PreEvenRefIdeal.nD Cert.PreEvenRefIdeal.τ).loc Cert.PreEvenRefIdeal.main_v120) = v3 c
          ∧ r.2.mem ((c.tc : Thread Cert.PreEvenRefIdeal.nD Cert.PreEvenRefIdeal.τ).loc Cert.PreEvenRefIdeal.main_v121) = v4 c
          ∧ r.2.mem ((c.tc : Thread Cert.PreEvenRefIdeal.nD Cert.PreEvenRefIdeal.τ).loc Cert.PreEvenRefIdeal.main_arg0) = m' ((c.tc : Thread Cert.PreEvenRefIdeal.nD Cert.PreEvenRefIdeal.τ).loc Cert.PreEvenRefIdeal.main_arg0)
          ∧ r.2.mem ((c.tc : Thread Cert.PreEvenRefIdeal.nD Cert.PreEvenRefIdeal.τ).loc Cert.PreEvenRefIdeal.main_arg1) = m' ((c.tc : Thread Cert.PreEvenRefIdeal.nD Cert.PreEvenRefIdeal.τ).loc Cert.PreEvenRefIdeal.main_arg1)
          ∧ r.2.mem ((c.tc : Thread Cert.PreEvenRefIdeal.nD Cert.PreEvenRefIdeal.τ).loc Cert.PreEvenRefIdeal.main_arg2) = m' ((c.tc : Thread Cert.PreEvenRefIdeal.nD Cert.PreEvenRefIdeal.τ).loc Cert.PreEvenRefIdeal.main_arg2)
          ∧ r.2.mem ((c.tc : Thread Cert.PreEvenRefIdeal.nD Cert.PreEvenRefIdeal.τ).loc Cert.PreEvenRefIdeal.main_arg3) = m' ((c.tc : Thread Cert.PreEvenRefIdeal.nD Cert.PreEvenRefIdeal.τ).loc Cert.PreEvenRefIdeal.main_arg3)
          ∧ r.2.mem ((c.tc : Thread Cert.PreEvenRefIdeal.nD Cert.PreEvenRefIdeal.τ).loc Cert.PreEvenRefIdeal.main_arg4) = m' ((c.tc : Thread Cert.PreEvenRefIdeal.nD Cert.PreEvenRefIdeal.τ).loc Cert.PreEvenRefIdeal.main_arg4)
          ∧ r.2.mem ((c.tc : Thread Cert.PreEvenRefIdeal.nD Cert.PreEvenRefIdeal.τ).loc Cert.PreEvenRefIdeal.main_arg5) = m' ((c.tc : Thread Cert.PreEvenRefIdeal.nD Cert.PreEvenRefIdeal.τ).loc Cert.PreEvenRefIdeal.main_arg5)
          ∧ r.2.mem ((c.tc : Thread Cert.PreEvenRefIdeal.nD Cert.PreEvenRefIdeal.τ).loc Cert.PreEvenRefIdeal.main_arg6) = m' ((c.tc : Thread Cert.PreEvenRefIdeal.nD Cert.PreEvenRefIdeal.τ).loc Cert.PreEvenRefIdeal.main_arg6)
          ∧ r.2.mem ((c.tc : Thread Cert.PreEvenRefIdeal.nD Cert.PreEvenRefIdeal.τ).loc Cert.PreEvenRefIdeal.main_arg7) = m' ((c.tc : Thread Cert.PreEvenRefIdeal.nD Cert.PreEvenRefIdeal.τ).loc Cert.PreEvenRefIdeal.main_arg7))

def preserves_PreOdd_PreOddIdeal : Prop :=
  True

def algebraic_PreOddIdeal_PreOddRefIdeal [hPreOddIdeal : Cert.PreOddIdeal.Facts] [hPreOddRefIdeal : Cert.PreOddRefIdeal.Facts] : Prop :=
  ∀ (m : (ℓ : Loc Cert.PreOddIdeal.nD Cert.PreOddIdeal.τ Cert.PreOddIdeal.sig) → Buf (Elt Ideal) ℓ) (g : Dev Cert.PreOddIdeal.nD → PrngReg)
    (m' : (ℓ : Loc Cert.PreOddRefIdeal.nD Cert.PreOddRefIdeal.τ Cert.PreOddRefIdeal.sig) → Buf (Elt Ideal) ℓ) (g' : Dev Cert.PreOddRefIdeal.nD → PrngReg), Pre_PreOddIdeal m →
    (∀ c : Dev Cert.PreOddIdeal.nD,
      m' ((c.tc : Thread Cert.PreOddRefIdeal.nD Cert.PreOddRefIdeal.τ).loc Cert.PreOddRefIdeal.main_arg0) = m ((c.tc : Thread Cert.PreOddIdeal.nD Cert.PreOddIdeal.τ).loc Cert.PreOddIdeal.main_arg0)
      ∧ m' ((c.tc : Thread Cert.PreOddRefIdeal.nD Cert.PreOddRefIdeal.τ).loc Cert.PreOddRefIdeal.main_arg1) = m ((c.tc : Thread Cert.PreOddIdeal.nD Cert.PreOddIdeal.τ).loc Cert.PreOddIdeal.main_arg1)
      ∧ m' ((c.tc : Thread Cert.PreOddRefIdeal.nD Cert.PreOddRefIdeal.τ).loc Cert.PreOddRefIdeal.main_arg2) = m ((c.tc : Thread Cert.PreOddIdeal.nD Cert.PreOddIdeal.τ).loc Cert.PreOddIdeal.main_arg2)
      ∧ m' ((c.tc : Thread Cert.PreOddRefIdeal.nD Cert.PreOddRefIdeal.τ).loc Cert.PreOddRefIdeal.main_arg3) = m ((c.tc : Thread Cert.PreOddIdeal.nD Cert.PreOddIdeal.τ).loc Cert.PreOddIdeal.main_arg3)
      ∧ m' ((c.tc : Thread Cert.PreOddRefIdeal.nD Cert.PreOddRefIdeal.τ).loc Cert.PreOddRefIdeal.main_arg4) = m ((c.tc : Thread Cert.PreOddIdeal.nD Cert.PreOddIdeal.τ).loc Cert.PreOddIdeal.main_arg4)) →
    ∃ (v0 : (c : Dev Cert.PreOddIdeal.nD) → Buf (Elt Ideal) ((c.tc : Thread Cert.PreOddIdeal.nD Cert.PreOddIdeal.τ).loc Cert.PreOddIdeal.main_v14_0)) (v1 : (c : Dev Cert.PreOddIdeal.nD) → Buf (Elt Ideal) ((c.tc : Thread Cert.PreOddIdeal.nD Cert.PreOddIdeal.τ).loc Cert.PreOddIdeal.main_v14_1)) (v2 : (c : Dev Cert.PreOddIdeal.nD) → Buf (Elt Ideal) ((c.tc : Thread Cert.PreOddIdeal.nD Cert.PreOddIdeal.τ).loc Cert.PreOddIdeal.main_v19)) (v3 : (c : Dev Cert.PreOddIdeal.nD) → Buf (Elt Ideal) ((c.tc : Thread Cert.PreOddIdeal.nD Cert.PreOddIdeal.τ).loc Cert.PreOddIdeal.main_v20)),
      θ_run (Cert.PreOddIdeal.defs (F := Ideal)) (onTc (τ := Cert.PreOddIdeal.τ) (Cert.PreOddIdeal.main (F := Ideal))) ⟨m, fun _ => 0, g⟩ (fun r => ∀ c : Dev Cert.PreOddIdeal.nD,
          r.2.mem ((c.tc : Thread Cert.PreOddIdeal.nD Cert.PreOddIdeal.τ).loc Cert.PreOddIdeal.main_v14_0) = v0 c
          ∧ r.2.mem ((c.tc : Thread Cert.PreOddIdeal.nD Cert.PreOddIdeal.τ).loc Cert.PreOddIdeal.main_v14_1) = v1 c
          ∧ r.2.mem ((c.tc : Thread Cert.PreOddIdeal.nD Cert.PreOddIdeal.τ).loc Cert.PreOddIdeal.main_v19) = v2 c
          ∧ r.2.mem ((c.tc : Thread Cert.PreOddIdeal.nD Cert.PreOddIdeal.τ).loc Cert.PreOddIdeal.main_v20) = v3 c
          ∧ r.2.mem ((c.tc : Thread Cert.PreOddIdeal.nD Cert.PreOddIdeal.τ).loc Cert.PreOddIdeal.main_arg0) = m ((c.tc : Thread Cert.PreOddIdeal.nD Cert.PreOddIdeal.τ).loc Cert.PreOddIdeal.main_arg0)
          ∧ r.2.mem ((c.tc : Thread Cert.PreOddIdeal.nD Cert.PreOddIdeal.τ).loc Cert.PreOddIdeal.main_arg1) = m ((c.tc : Thread Cert.PreOddIdeal.nD Cert.PreOddIdeal.τ).loc Cert.PreOddIdeal.main_arg1)
          ∧ r.2.mem ((c.tc : Thread Cert.PreOddIdeal.nD Cert.PreOddIdeal.τ).loc Cert.PreOddIdeal.main_arg2) = m ((c.tc : Thread Cert.PreOddIdeal.nD Cert.PreOddIdeal.τ).loc Cert.PreOddIdeal.main_arg2)
          ∧ r.2.mem ((c.tc : Thread Cert.PreOddIdeal.nD Cert.PreOddIdeal.τ).loc Cert.PreOddIdeal.main_arg3) = m ((c.tc : Thread Cert.PreOddIdeal.nD Cert.PreOddIdeal.τ).loc Cert.PreOddIdeal.main_arg3)
          ∧ r.2.mem ((c.tc : Thread Cert.PreOddIdeal.nD Cert.PreOddIdeal.τ).loc Cert.PreOddIdeal.main_arg4) = m ((c.tc : Thread Cert.PreOddIdeal.nD Cert.PreOddIdeal.τ).loc Cert.PreOddIdeal.main_arg4))
      ∧ θ_run (Cert.PreOddRefIdeal.defs (F := Ideal)) (onTc (τ := Cert.PreOddRefIdeal.τ) (Cert.PreOddRefIdeal.main (F := Ideal))) ⟨m', fun _ => 0, g'⟩ (fun r => ∀ c : Dev Cert.PreOddRefIdeal.nD,
          r.2.mem ((c.tc : Thread Cert.PreOddRefIdeal.nD Cert.PreOddRefIdeal.τ).loc Cert.PreOddRefIdeal.main_v62) = v0 c
          ∧ r.2.mem ((c.tc : Thread Cert.PreOddRefIdeal.nD Cert.PreOddRefIdeal.τ).loc Cert.PreOddRefIdeal.main_v64) = v1 c
          ∧ r.2.mem ((c.tc : Thread Cert.PreOddRefIdeal.nD Cert.PreOddRefIdeal.τ).loc Cert.PreOddRefIdeal.main_v65) = v2 c
          ∧ r.2.mem ((c.tc : Thread Cert.PreOddRefIdeal.nD Cert.PreOddRefIdeal.τ).loc Cert.PreOddRefIdeal.main_v66) = v3 c
          ∧ r.2.mem ((c.tc : Thread Cert.PreOddRefIdeal.nD Cert.PreOddRefIdeal.τ).loc Cert.PreOddRefIdeal.main_arg0) = m' ((c.tc : Thread Cert.PreOddRefIdeal.nD Cert.PreOddRefIdeal.τ).loc Cert.PreOddRefIdeal.main_arg0)
          ∧ r.2.mem ((c.tc : Thread Cert.PreOddRefIdeal.nD Cert.PreOddRefIdeal.τ).loc Cert.PreOddRefIdeal.main_arg1) = m' ((c.tc : Thread Cert.PreOddRefIdeal.nD Cert.PreOddRefIdeal.τ).loc Cert.PreOddRefIdeal.main_arg1)
          ∧ r.2.mem ((c.tc : Thread Cert.PreOddRefIdeal.nD Cert.PreOddRefIdeal.τ).loc Cert.PreOddRefIdeal.main_arg2) = m' ((c.tc : Thread Cert.PreOddRefIdeal.nD Cert.PreOddRefIdeal.τ).loc Cert.PreOddRefIdeal.main_arg2)
          ∧ r.2.mem ((c.tc : Thread Cert.PreOddRefIdeal.nD Cert.PreOddRefIdeal.τ).loc Cert.PreOddRefIdeal.main_arg3) = m' ((c.tc : Thread Cert.PreOddRefIdeal.nD Cert.PreOddRefIdeal.τ).loc Cert.PreOddRefIdeal.main_arg3)
          ∧ r.2.mem ((c.tc : Thread Cert.PreOddRefIdeal.nD Cert.PreOddRefIdeal.τ).loc Cert.PreOddRefIdeal.main_arg4) = m' ((c.tc : Thread Cert.PreOddRefIdeal.nD Cert.PreOddRefIdeal.τ).loc Cert.PreOddRefIdeal.main_arg4))

def preserves_PostEven_PostEvenIdeal : Prop :=
  True

def algebraic_PostEvenIdeal_PostEvenRefIdeal [hPostEvenIdeal : Cert.PostEvenIdeal.Facts] [hPostEvenRefIdeal : Cert.PostEvenRefIdeal.Facts] : Prop :=
  ∀ (m : (ℓ : Loc Cert.PostEvenIdeal.nD Cert.PostEvenIdeal.τ Cert.PostEvenIdeal.sig) → Buf (Elt Ideal) ℓ) (g : Dev Cert.PostEvenIdeal.nD → PrngReg)
    (m' : (ℓ : Loc Cert.PostEvenRefIdeal.nD Cert.PostEvenRefIdeal.τ Cert.PostEvenRefIdeal.sig) → Buf (Elt Ideal) ℓ) (g' : Dev Cert.PostEvenRefIdeal.nD → PrngReg), Pre_PostEvenIdeal m →
    (∀ c : Dev Cert.PostEvenIdeal.nD,
      m' ((c.tc : Thread Cert.PostEvenRefIdeal.nD Cert.PostEvenRefIdeal.τ).loc Cert.PostEvenRefIdeal.main_arg0) = m ((c.tc : Thread Cert.PostEvenIdeal.nD Cert.PostEvenIdeal.τ).loc Cert.PostEvenIdeal.main_arg0)
      ∧ m' ((c.tc : Thread Cert.PostEvenRefIdeal.nD Cert.PostEvenRefIdeal.τ).loc Cert.PostEvenRefIdeal.main_arg1) = m ((c.tc : Thread Cert.PostEvenIdeal.nD Cert.PostEvenIdeal.τ).loc Cert.PostEvenIdeal.main_arg1)
      ∧ m' ((c.tc : Thread Cert.PostEvenRefIdeal.nD Cert.PostEvenRefIdeal.τ).loc Cert.PostEvenRefIdeal.main_arg2) = m ((c.tc : Thread Cert.PostEvenIdeal.nD Cert.PostEvenIdeal.τ).loc Cert.PostEvenIdeal.main_arg2)
      ∧ m' ((c.tc : Thread Cert.PostEvenRefIdeal.nD Cert.PostEvenRefIdeal.τ).loc Cert.PostEvenRefIdeal.main_arg3) = m ((c.tc : Thread Cert.PostEvenIdeal.nD Cert.PostEvenIdeal.τ).loc Cert.PostEvenIdeal.main_arg3)
      ∧ m' ((c.tc : Thread Cert.PostEvenRefIdeal.nD Cert.PostEvenRefIdeal.τ).loc Cert.PostEvenRefIdeal.main_arg4) = m ((c.tc : Thread Cert.PostEvenIdeal.nD Cert.PostEvenIdeal.τ).loc Cert.PostEvenIdeal.main_arg4)
      ∧ m' ((c.tc : Thread Cert.PostEvenRefIdeal.nD Cert.PostEvenRefIdeal.τ).loc Cert.PostEvenRefIdeal.main_arg5) = m ((c.tc : Thread Cert.PostEvenIdeal.nD Cert.PostEvenIdeal.τ).loc Cert.PostEvenIdeal.main_arg5)
      ∧ m' ((c.tc : Thread Cert.PostEvenRefIdeal.nD Cert.PostEvenRefIdeal.τ).loc Cert.PostEvenRefIdeal.main_arg6) = m ((c.tc : Thread Cert.PostEvenIdeal.nD Cert.PostEvenIdeal.τ).loc Cert.PostEvenIdeal.main_arg6)
      ∧ m' ((c.tc : Thread Cert.PostEvenRefIdeal.nD Cert.PostEvenRefIdeal.τ).loc Cert.PostEvenRefIdeal.main_arg7) = m ((c.tc : Thread Cert.PostEvenIdeal.nD Cert.PostEvenIdeal.τ).loc Cert.PostEvenIdeal.main_arg7)
      ∧ m' ((c.tc : Thread Cert.PostEvenRefIdeal.nD Cert.PostEvenRefIdeal.τ).loc Cert.PostEvenRefIdeal.main_arg8) = m ((c.tc : Thread Cert.PostEvenIdeal.nD Cert.PostEvenIdeal.τ).loc Cert.PostEvenIdeal.main_arg8)) →
    ∃ (v0 : (c : Dev Cert.PostEvenIdeal.nD) → Buf (Elt Ideal) ((c.tc : Thread Cert.PostEvenIdeal.nD Cert.PostEvenIdeal.τ).loc Cert.PostEvenIdeal.main_v6)),
      θ_run (Cert.PostEvenIdeal.defs (F := Ideal)) (onTc (τ := Cert.PostEvenIdeal.τ) (Cert.PostEvenIdeal.main (F := Ideal))) ⟨m, fun _ => 0, g⟩ (fun r => ∀ c : Dev Cert.PostEvenIdeal.nD,
          r.2.mem ((c.tc : Thread Cert.PostEvenIdeal.nD Cert.PostEvenIdeal.τ).loc Cert.PostEvenIdeal.main_v6) = v0 c
          ∧ r.2.mem ((c.tc : Thread Cert.PostEvenIdeal.nD Cert.PostEvenIdeal.τ).loc Cert.PostEvenIdeal.main_arg0) = m ((c.tc : Thread Cert.PostEvenIdeal.nD Cert.PostEvenIdeal.τ).loc Cert.PostEvenIdeal.main_arg0)
          ∧ r.2.mem ((c.tc : Thread Cert.PostEvenIdeal.nD Cert.PostEvenIdeal.τ).loc Cert.PostEvenIdeal.main_arg1) = m ((c.tc : Thread Cert.PostEvenIdeal.nD Cert.PostEvenIdeal.τ).loc Cert.PostEvenIdeal.main_arg1)
          ∧ r.2.mem ((c.tc : Thread Cert.PostEvenIdeal.nD Cert.PostEvenIdeal.τ).loc Cert.PostEvenIdeal.main_arg2) = m ((c.tc : Thread Cert.PostEvenIdeal.nD Cert.PostEvenIdeal.τ).loc Cert.PostEvenIdeal.main_arg2)
          ∧ r.2.mem ((c.tc : Thread Cert.PostEvenIdeal.nD Cert.PostEvenIdeal.τ).loc Cert.PostEvenIdeal.main_arg3) = m ((c.tc : Thread Cert.PostEvenIdeal.nD Cert.PostEvenIdeal.τ).loc Cert.PostEvenIdeal.main_arg3)
          ∧ r.2.mem ((c.tc : Thread Cert.PostEvenIdeal.nD Cert.PostEvenIdeal.τ).loc Cert.PostEvenIdeal.main_arg4) = m ((c.tc : Thread Cert.PostEvenIdeal.nD Cert.PostEvenIdeal.τ).loc Cert.PostEvenIdeal.main_arg4)
          ∧ r.2.mem ((c.tc : Thread Cert.PostEvenIdeal.nD Cert.PostEvenIdeal.τ).loc Cert.PostEvenIdeal.main_arg5) = m ((c.tc : Thread Cert.PostEvenIdeal.nD Cert.PostEvenIdeal.τ).loc Cert.PostEvenIdeal.main_arg5)
          ∧ r.2.mem ((c.tc : Thread Cert.PostEvenIdeal.nD Cert.PostEvenIdeal.τ).loc Cert.PostEvenIdeal.main_arg6) = m ((c.tc : Thread Cert.PostEvenIdeal.nD Cert.PostEvenIdeal.τ).loc Cert.PostEvenIdeal.main_arg6)
          ∧ r.2.mem ((c.tc : Thread Cert.PostEvenIdeal.nD Cert.PostEvenIdeal.τ).loc Cert.PostEvenIdeal.main_arg7) = m ((c.tc : Thread Cert.PostEvenIdeal.nD Cert.PostEvenIdeal.τ).loc Cert.PostEvenIdeal.main_arg7)
          ∧ r.2.mem ((c.tc : Thread Cert.PostEvenIdeal.nD Cert.PostEvenIdeal.τ).loc Cert.PostEvenIdeal.main_arg8) = m ((c.tc : Thread Cert.PostEvenIdeal.nD Cert.PostEvenIdeal.τ).loc Cert.PostEvenIdeal.main_arg8))
      ∧ θ_run (Cert.PostEvenRefIdeal.defs (F := Ideal)) (onTc (τ := Cert.PostEvenRefIdeal.τ) (Cert.PostEvenRefIdeal.main (F := Ideal))) ⟨m', fun _ => 0, g'⟩ (fun r => ∀ c : Dev Cert.PostEvenRefIdeal.nD,
          r.2.mem ((c.tc : Thread Cert.PostEvenRefIdeal.nD Cert.PostEvenRefIdeal.τ).loc Cert.PostEvenRefIdeal.main_v88) = v0 c
          ∧ r.2.mem ((c.tc : Thread Cert.PostEvenRefIdeal.nD Cert.PostEvenRefIdeal.τ).loc Cert.PostEvenRefIdeal.main_arg0) = m' ((c.tc : Thread Cert.PostEvenRefIdeal.nD Cert.PostEvenRefIdeal.τ).loc Cert.PostEvenRefIdeal.main_arg0)
          ∧ r.2.mem ((c.tc : Thread Cert.PostEvenRefIdeal.nD Cert.PostEvenRefIdeal.τ).loc Cert.PostEvenRefIdeal.main_arg1) = m' ((c.tc : Thread Cert.PostEvenRefIdeal.nD Cert.PostEvenRefIdeal.τ).loc Cert.PostEvenRefIdeal.main_arg1)
          ∧ r.2.mem ((c.tc : Thread Cert.PostEvenRefIdeal.nD Cert.PostEvenRefIdeal.τ).loc Cert.PostEvenRefIdeal.main_arg2) = m' ((c.tc : Thread Cert.PostEvenRefIdeal.nD Cert.PostEvenRefIdeal.τ).loc Cert.PostEvenRefIdeal.main_arg2)
          ∧ r.2.mem ((c.tc : Thread Cert.PostEvenRefIdeal.nD Cert.PostEvenRefIdeal.τ).loc Cert.PostEvenRefIdeal.main_arg3) = m' ((c.tc : Thread Cert.PostEvenRefIdeal.nD Cert.PostEvenRefIdeal.τ).loc Cert.PostEvenRefIdeal.main_arg3)
          ∧ r.2.mem ((c.tc : Thread Cert.PostEvenRefIdeal.nD Cert.PostEvenRefIdeal.τ).loc Cert.PostEvenRefIdeal.main_arg4) = m' ((c.tc : Thread Cert.PostEvenRefIdeal.nD Cert.PostEvenRefIdeal.τ).loc Cert.PostEvenRefIdeal.main_arg4)
          ∧ r.2.mem ((c.tc : Thread Cert.PostEvenRefIdeal.nD Cert.PostEvenRefIdeal.τ).loc Cert.PostEvenRefIdeal.main_arg5) = m' ((c.tc : Thread Cert.PostEvenRefIdeal.nD Cert.PostEvenRefIdeal.τ).loc Cert.PostEvenRefIdeal.main_arg5)
          ∧ r.2.mem ((c.tc : Thread Cert.PostEvenRefIdeal.nD Cert.PostEvenRefIdeal.τ).loc Cert.PostEvenRefIdeal.main_arg6) = m' ((c.tc : Thread Cert.PostEvenRefIdeal.nD Cert.PostEvenRefIdeal.τ).loc Cert.PostEvenRefIdeal.main_arg6)
          ∧ r.2.mem ((c.tc : Thread Cert.PostEvenRefIdeal.nD Cert.PostEvenRefIdeal.τ).loc Cert.PostEvenRefIdeal.main_arg7) = m' ((c.tc : Thread Cert.PostEvenRefIdeal.nD Cert.PostEvenRefIdeal.τ).loc Cert.PostEvenRefIdeal.main_arg7)
          ∧ r.2.mem ((c.tc : Thread Cert.PostEvenRefIdeal.nD Cert.PostEvenRefIdeal.τ).loc Cert.PostEvenRefIdeal.main_arg8) = m' ((c.tc : Thread Cert.PostEvenRefIdeal.nD Cert.PostEvenRefIdeal.τ).loc Cert.PostEvenRefIdeal.main_arg8))

def preserves_PostEvenCtx_PostEvenCtxIdeal : Prop :=
  True

def algebraic_PostEvenCtxIdeal_PostEvenCtxRefIdeal [hPostEvenCtxIdeal : Cert.PostEvenCtxIdeal.Facts] [hPostEvenCtxRefIdeal : Cert.PostEvenCtxRefIdeal.Facts] : Prop :=
  ∀ (m : (ℓ : Loc Cert.PostEvenCtxIdeal.nD Cert.PostEvenCtxIdeal.τ Cert.PostEvenCtxIdeal.sig) → Buf (Elt Ideal) ℓ) (g : Dev Cert.PostEvenCtxIdeal.nD → PrngReg)
    (m' : (ℓ : Loc Cert.PostEvenCtxRefIdeal.nD Cert.PostEvenCtxRefIdeal.τ Cert.PostEvenCtxRefIdeal.sig) → Buf (Elt Ideal) ℓ) (g' : Dev Cert.PostEvenCtxRefIdeal.nD → PrngReg), Pre_PostEvenCtxIdeal m →
    (∀ c : Dev Cert.PostEvenCtxIdeal.nD,
      m' ((c.tc : Thread Cert.PostEvenCtxRefIdeal.nD Cert.PostEvenCtxRefIdeal.τ).loc Cert.PostEvenCtxRefIdeal.main_arg0) = m ((c.tc : Thread Cert.PostEvenCtxIdeal.nD Cert.PostEvenCtxIdeal.τ).loc Cert.PostEvenCtxIdeal.main_arg0)
      ∧ m' ((c.tc : Thread Cert.PostEvenCtxRefIdeal.nD Cert.PostEvenCtxRefIdeal.τ).loc Cert.PostEvenCtxRefIdeal.main_arg1) = m ((c.tc : Thread Cert.PostEvenCtxIdeal.nD Cert.PostEvenCtxIdeal.τ).loc Cert.PostEvenCtxIdeal.main_arg1)
      ∧ m' ((c.tc : Thread Cert.PostEvenCtxRefIdeal.nD Cert.PostEvenCtxRefIdeal.τ).loc Cert.PostEvenCtxRefIdeal.main_arg2) = m ((c.tc : Thread Cert.PostEvenCtxIdeal.nD Cert.PostEvenCtxIdeal.τ).loc Cert.PostEvenCtxIdeal.main_arg2)
      ∧ m' ((c.tc : Thread Cert.PostEvenCtxRefIdeal.nD Cert.PostEvenCtxRefIdeal.τ).loc Cert.PostEvenCtxRefIdeal.main_arg3) = m ((c.tc : Thread Cert.PostEvenCtxIdeal.nD Cert.PostEvenCtxIdeal.τ).loc Cert.PostEvenCtxIdeal.main_arg3)
      ∧ m' ((c.tc : Thread Cert.PostEvenCtxRefIdeal.nD Cert.PostEvenCtxRefIdeal.τ).loc Cert.PostEvenCtxRefIdeal.main_arg4) = m ((c.tc : Thread Cert.PostEvenCtxIdeal.nD Cert.PostEvenCtxIdeal.τ).loc Cert.PostEvenCtxIdeal.main_arg4)
      ∧ m' ((c.tc : Thread Cert.PostEvenCtxRefIdeal.nD Cert.PostEvenCtxRefIdeal.τ).loc Cert.PostEvenCtxRefIdeal.main_arg5) = m ((c.tc : Thread Cert.PostEvenCtxIdeal.nD Cert.PostEvenCtxIdeal.τ).loc Cert.PostEvenCtxIdeal.main_arg5)
      ∧ m' ((c.tc : Thread Cert.PostEvenCtxRefIdeal.nD Cert.PostEvenCtxRefIdeal.τ).loc Cert.PostEvenCtxRefIdeal.main_arg6) = m ((c.tc : Thread Cert.PostEvenCtxIdeal.nD Cert.PostEvenCtxIdeal.τ).loc Cert.PostEvenCtxIdeal.main_arg6)
      ∧ m' ((c.tc : Thread Cert.PostEvenCtxRefIdeal.nD Cert.PostEvenCtxRefIdeal.τ).loc Cert.PostEvenCtxRefIdeal.main_arg7) = m ((c.tc : Thread Cert.PostEvenCtxIdeal.nD Cert.PostEvenCtxIdeal.τ).loc Cert.PostEvenCtxIdeal.main_arg7)
      ∧ m' ((c.tc : Thread Cert.PostEvenCtxRefIdeal.nD Cert.PostEvenCtxRefIdeal.τ).loc Cert.PostEvenCtxRefIdeal.main_arg8) = m ((c.tc : Thread Cert.PostEvenCtxIdeal.nD Cert.PostEvenCtxIdeal.τ).loc Cert.PostEvenCtxIdeal.main_arg8)) →
    ∃ (v0 : (c : Dev Cert.PostEvenCtxIdeal.nD) → Buf (Elt Ideal) ((c.tc : Thread Cert.PostEvenCtxIdeal.nD Cert.PostEvenCtxIdeal.τ).loc Cert.PostEvenCtxIdeal.main_v6)),
      θ_run (Cert.PostEvenCtxIdeal.defs (F := Ideal)) (onTc (τ := Cert.PostEvenCtxIdeal.τ) (Cert.PostEvenCtxIdeal.main (F := Ideal))) ⟨m, fun _ => 0, g⟩ (fun r => ∀ c : Dev Cert.PostEvenCtxIdeal.nD,
          r.2.mem ((c.tc : Thread Cert.PostEvenCtxIdeal.nD Cert.PostEvenCtxIdeal.τ).loc Cert.PostEvenCtxIdeal.main_v6) = v0 c
          ∧ r.2.mem ((c.tc : Thread Cert.PostEvenCtxIdeal.nD Cert.PostEvenCtxIdeal.τ).loc Cert.PostEvenCtxIdeal.main_arg0) = m ((c.tc : Thread Cert.PostEvenCtxIdeal.nD Cert.PostEvenCtxIdeal.τ).loc Cert.PostEvenCtxIdeal.main_arg0)
          ∧ r.2.mem ((c.tc : Thread Cert.PostEvenCtxIdeal.nD Cert.PostEvenCtxIdeal.τ).loc Cert.PostEvenCtxIdeal.main_arg1) = m ((c.tc : Thread Cert.PostEvenCtxIdeal.nD Cert.PostEvenCtxIdeal.τ).loc Cert.PostEvenCtxIdeal.main_arg1)
          ∧ r.2.mem ((c.tc : Thread Cert.PostEvenCtxIdeal.nD Cert.PostEvenCtxIdeal.τ).loc Cert.PostEvenCtxIdeal.main_arg2) = m ((c.tc : Thread Cert.PostEvenCtxIdeal.nD Cert.PostEvenCtxIdeal.τ).loc Cert.PostEvenCtxIdeal.main_arg2)
          ∧ r.2.mem ((c.tc : Thread Cert.PostEvenCtxIdeal.nD Cert.PostEvenCtxIdeal.τ).loc Cert.PostEvenCtxIdeal.main_arg3) = m ((c.tc : Thread Cert.PostEvenCtxIdeal.nD Cert.PostEvenCtxIdeal.τ).loc Cert.PostEvenCtxIdeal.main_arg3)
          ∧ r.2.mem ((c.tc : Thread Cert.PostEvenCtxIdeal.nD Cert.PostEvenCtxIdeal.τ).loc Cert.PostEvenCtxIdeal.main_arg4) = m ((c.tc : Thread Cert.PostEvenCtxIdeal.nD Cert.PostEvenCtxIdeal.τ).loc Cert.PostEvenCtxIdeal.main_arg4)
          ∧ r.2.mem ((c.tc : Thread Cert.PostEvenCtxIdeal.nD Cert.PostEvenCtxIdeal.τ).loc Cert.PostEvenCtxIdeal.main_arg5) = m ((c.tc : Thread Cert.PostEvenCtxIdeal.nD Cert.PostEvenCtxIdeal.τ).loc Cert.PostEvenCtxIdeal.main_arg5)
          ∧ r.2.mem ((c.tc : Thread Cert.PostEvenCtxIdeal.nD Cert.PostEvenCtxIdeal.τ).loc Cert.PostEvenCtxIdeal.main_arg6) = m ((c.tc : Thread Cert.PostEvenCtxIdeal.nD Cert.PostEvenCtxIdeal.τ).loc Cert.PostEvenCtxIdeal.main_arg6)
          ∧ r.2.mem ((c.tc : Thread Cert.PostEvenCtxIdeal.nD Cert.PostEvenCtxIdeal.τ).loc Cert.PostEvenCtxIdeal.main_arg7) = m ((c.tc : Thread Cert.PostEvenCtxIdeal.nD Cert.PostEvenCtxIdeal.τ).loc Cert.PostEvenCtxIdeal.main_arg7)
          ∧ r.2.mem ((c.tc : Thread Cert.PostEvenCtxIdeal.nD Cert.PostEvenCtxIdeal.τ).loc Cert.PostEvenCtxIdeal.main_arg8) = m ((c.tc : Thread Cert.PostEvenCtxIdeal.nD Cert.PostEvenCtxIdeal.τ).loc Cert.PostEvenCtxIdeal.main_arg8))
      ∧ θ_run (Cert.PostEvenCtxRefIdeal.defs (F := Ideal)) (onTc (τ := Cert.PostEvenCtxRefIdeal.τ) (Cert.PostEvenCtxRefIdeal.main (F := Ideal))) ⟨m', fun _ => 0, g'⟩ (fun r => ∀ c : Dev Cert.PostEvenCtxRefIdeal.nD,
          r.2.mem ((c.tc : Thread Cert.PostEvenCtxRefIdeal.nD Cert.PostEvenCtxRefIdeal.τ).loc Cert.PostEvenCtxRefIdeal.main_v88) = v0 c
          ∧ r.2.mem ((c.tc : Thread Cert.PostEvenCtxRefIdeal.nD Cert.PostEvenCtxRefIdeal.τ).loc Cert.PostEvenCtxRefIdeal.main_arg0) = m' ((c.tc : Thread Cert.PostEvenCtxRefIdeal.nD Cert.PostEvenCtxRefIdeal.τ).loc Cert.PostEvenCtxRefIdeal.main_arg0)
          ∧ r.2.mem ((c.tc : Thread Cert.PostEvenCtxRefIdeal.nD Cert.PostEvenCtxRefIdeal.τ).loc Cert.PostEvenCtxRefIdeal.main_arg1) = m' ((c.tc : Thread Cert.PostEvenCtxRefIdeal.nD Cert.PostEvenCtxRefIdeal.τ).loc Cert.PostEvenCtxRefIdeal.main_arg1)
          ∧ r.2.mem ((c.tc : Thread Cert.PostEvenCtxRefIdeal.nD Cert.PostEvenCtxRefIdeal.τ).loc Cert.PostEvenCtxRefIdeal.main_arg2) = m' ((c.tc : Thread Cert.PostEvenCtxRefIdeal.nD Cert.PostEvenCtxRefIdeal.τ).loc Cert.PostEvenCtxRefIdeal.main_arg2)
          ∧ r.2.mem ((c.tc : Thread Cert.PostEvenCtxRefIdeal.nD Cert.PostEvenCtxRefIdeal.τ).loc Cert.PostEvenCtxRefIdeal.main_arg3) = m' ((c.tc : Thread Cert.PostEvenCtxRefIdeal.nD Cert.PostEvenCtxRefIdeal.τ).loc Cert.PostEvenCtxRefIdeal.main_arg3)
          ∧ r.2.mem ((c.tc : Thread Cert.PostEvenCtxRefIdeal.nD Cert.PostEvenCtxRefIdeal.τ).loc Cert.PostEvenCtxRefIdeal.main_arg4) = m' ((c.tc : Thread Cert.PostEvenCtxRefIdeal.nD Cert.PostEvenCtxRefIdeal.τ).loc Cert.PostEvenCtxRefIdeal.main_arg4)
          ∧ r.2.mem ((c.tc : Thread Cert.PostEvenCtxRefIdeal.nD Cert.PostEvenCtxRefIdeal.τ).loc Cert.PostEvenCtxRefIdeal.main_arg5) = m' ((c.tc : Thread Cert.PostEvenCtxRefIdeal.nD Cert.PostEvenCtxRefIdeal.τ).loc Cert.PostEvenCtxRefIdeal.main_arg5)
          ∧ r.2.mem ((c.tc : Thread Cert.PostEvenCtxRefIdeal.nD Cert.PostEvenCtxRefIdeal.τ).loc Cert.PostEvenCtxRefIdeal.main_arg6) = m' ((c.tc : Thread Cert.PostEvenCtxRefIdeal.nD Cert.PostEvenCtxRefIdeal.τ).loc Cert.PostEvenCtxRefIdeal.main_arg6)
          ∧ r.2.mem ((c.tc : Thread Cert.PostEvenCtxRefIdeal.nD Cert.PostEvenCtxRefIdeal.τ).loc Cert.PostEvenCtxRefIdeal.main_arg7) = m' ((c.tc : Thread Cert.PostEvenCtxRefIdeal.nD Cert.PostEvenCtxRefIdeal.τ).loc Cert.PostEvenCtxRefIdeal.main_arg7)
          ∧ r.2.mem ((c.tc : Thread Cert.PostEvenCtxRefIdeal.nD Cert.PostEvenCtxRefIdeal.τ).loc Cert.PostEvenCtxRefIdeal.main_arg8) = m' ((c.tc : Thread Cert.PostEvenCtxRefIdeal.nD Cert.PostEvenCtxRefIdeal.τ).loc Cert.PostEvenCtxRefIdeal.main_arg8))

def preserves_PreOddLat_PreOddLatIdeal : Prop :=
  True

def algebraic_PreOddLatIdeal_PreOddLatRefIdeal [hPreOddLatIdeal : Cert.PreOddLatIdeal.Facts] [hPreOddLatRefIdeal : Cert.PreOddLatRefIdeal.Facts] : Prop :=
  ∀ (m : (ℓ : Loc Cert.PreOddLatIdeal.nD Cert.PreOddLatIdeal.τ Cert.PreOddLatIdeal.sig) → Buf (Elt Ideal) ℓ) (g : Dev Cert.PreOddLatIdeal.nD → PrngReg)
    (m' : (ℓ : Loc Cert.PreOddLatRefIdeal.nD Cert.PreOddLatRefIdeal.τ Cert.PreOddLatRefIdeal.sig) → Buf (Elt Ideal) ℓ) (g' : Dev Cert.PreOddLatRefIdeal.nD → PrngReg), Pre_PreOddLatIdeal m →
    (∀ c : Dev Cert.PreOddLatIdeal.nD,
      m' ((c.tc : Thread Cert.PreOddLatRefIdeal.nD Cert.PreOddLatRefIdeal.τ).loc Cert.PreOddLatRefIdeal.main_arg0) = m ((c.tc : Thread Cert.PreOddLatIdeal.nD Cert.PreOddLatIdeal.τ).loc Cert.PreOddLatIdeal.main_arg0)
      ∧ m' ((c.tc : Thread Cert.PreOddLatRefIdeal.nD Cert.PreOddLatRefIdeal.τ).loc Cert.PreOddLatRefIdeal.main_arg1) = m ((c.tc : Thread Cert.PreOddLatIdeal.nD Cert.PreOddLatIdeal.τ).loc Cert.PreOddLatIdeal.main_arg1)
      ∧ m' ((c.tc : Thread Cert.PreOddLatRefIdeal.nD Cert.PreOddLatRefIdeal.τ).loc Cert.PreOddLatRefIdeal.main_arg2) = m ((c.tc : Thread Cert.PreOddLatIdeal.nD Cert.PreOddLatIdeal.τ).loc Cert.PreOddLatIdeal.main_arg2)
      ∧ m' ((c.tc : Thread Cert.PreOddLatRefIdeal.nD Cert.PreOddLatRefIdeal.τ).loc Cert.PreOddLatRefIdeal.main_arg3) = m ((c.tc : Thread Cert.PreOddLatIdeal.nD Cert.PreOddLatIdeal.τ).loc Cert.PreOddLatIdeal.main_arg3)
      ∧ m' ((c.tc : Thread Cert.PreOddLatRefIdeal.nD Cert.PreOddLatRefIdeal.τ).loc Cert.PreOddLatRefIdeal.main_arg4) = m ((c.tc : Thread Cert.PreOddLatIdeal.nD Cert.PreOddLatIdeal.τ).loc Cert.PreOddLatIdeal.main_arg4)
      ∧ m' ((c.tc : Thread Cert.PreOddLatRefIdeal.nD Cert.PreOddLatRefIdeal.τ).loc Cert.PreOddLatRefIdeal.main_arg5) = m ((c.tc : Thread Cert.PreOddLatIdeal.nD Cert.PreOddLatIdeal.τ).loc Cert.PreOddLatIdeal.main_arg5)
      ∧ m' ((c.tc : Thread Cert.PreOddLatRefIdeal.nD Cert.PreOddLatRefIdeal.τ).loc Cert.PreOddLatRefIdeal.main_arg6) = m ((c.tc : Thread Cert.PreOddLatIdeal.nD Cert.PreOddLatIdeal.τ).loc Cert.PreOddLatIdeal.main_arg6)) →
    ∃ (v0 : (c : Dev Cert.PreOddLatIdeal.nD) → Buf (Elt Ideal) ((c.tc : Thread Cert.PreOddLatIdeal.nD Cert.PreOddLatIdeal.τ).loc Cert.PreOddLatIdeal.main_v27_0)) (v1 : (c : Dev Cert.PreOddLatIdeal.nD) → Buf (Elt Ideal) ((c.tc : Thread Cert.PreOddLatIdeal.nD Cert.PreOddLatIdeal.τ).loc Cert.PreOddLatIdeal.main_v27_1)) (v2 : (c : Dev Cert.PreOddLatIdeal.nD) → Buf (Elt Ideal) ((c.tc : Thread Cert.PreOddLatIdeal.nD Cert.PreOddLatIdeal.τ).loc Cert.PreOddLatIdeal.main_v27_2)),
      θ_run (Cert.PreOddLatIdeal.defs (F := Ideal)) (onTc (τ := Cert.PreOddLatIdeal.τ) (Cert.PreOddLatIdeal.main (F := Ideal))) ⟨m, fun _ => 0, g⟩ (fun r => ∀ c : Dev Cert.PreOddLatIdeal.nD,
          r.2.mem ((c.tc : Thread Cert.PreOddLatIdeal.nD Cert.PreOddLatIdeal.τ).loc Cert.PreOddLatIdeal.main_v27_0) = v0 c
          ∧ r.2.mem ((c.tc : Thread Cert.PreOddLatIdeal.nD Cert.PreOddLatIdeal.τ).loc Cert.PreOddLatIdeal.main_v27_1) = v1 c
          ∧ r.2.mem ((c.tc : Thread Cert.PreOddLatIdeal.nD Cert.PreOddLatIdeal.τ).loc Cert.PreOddLatIdeal.main_v27_2) = v2 c
          ∧ r.2.mem ((c.tc : Thread Cert.PreOddLatIdeal.nD Cert.PreOddLatIdeal.τ).loc Cert.PreOddLatIdeal.main_arg0) = m ((c.tc : Thread Cert.PreOddLatIdeal.nD Cert.PreOddLatIdeal.τ).loc Cert.PreOddLatIdeal.main_arg0)
          ∧ r.2.mem ((c.tc : Thread Cert.PreOddLatIdeal.nD Cert.PreOddLatIdeal.τ).loc Cert.PreOddLatIdeal.main_arg1) = m ((c.tc : Thread Cert.PreOddLatIdeal.nD Cert.PreOddLatIdeal.τ).loc Cert.PreOddLatIdeal.main_arg1)
          ∧ r.2.mem ((c.tc : Thread Cert.PreOddLatIdeal.nD Cert.PreOddLatIdeal.τ).loc Cert.PreOddLatIdeal.main_arg2) = m ((c.tc : Thread Cert.PreOddLatIdeal.nD Cert.PreOddLatIdeal.τ).loc Cert.PreOddLatIdeal.main_arg2)
          ∧ r.2.mem ((c.tc : Thread Cert.PreOddLatIdeal.nD Cert.PreOddLatIdeal.τ).loc Cert.PreOddLatIdeal.main_arg3) = m ((c.tc : Thread Cert.PreOddLatIdeal.nD Cert.PreOddLatIdeal.τ).loc Cert.PreOddLatIdeal.main_arg3)
          ∧ r.2.mem ((c.tc : Thread Cert.PreOddLatIdeal.nD Cert.PreOddLatIdeal.τ).loc Cert.PreOddLatIdeal.main_arg4) = m ((c.tc : Thread Cert.PreOddLatIdeal.nD Cert.PreOddLatIdeal.τ).loc Cert.PreOddLatIdeal.main_arg4)
          ∧ r.2.mem ((c.tc : Thread Cert.PreOddLatIdeal.nD Cert.PreOddLatIdeal.τ).loc Cert.PreOddLatIdeal.main_arg5) = m ((c.tc : Thread Cert.PreOddLatIdeal.nD Cert.PreOddLatIdeal.τ).loc Cert.PreOddLatIdeal.main_arg5)
          ∧ r.2.mem ((c.tc : Thread Cert.PreOddLatIdeal.nD Cert.PreOddLatIdeal.τ).loc Cert.PreOddLatIdeal.main_arg6) = m ((c.tc : Thread Cert.PreOddLatIdeal.nD Cert.PreOddLatIdeal.τ).loc Cert.PreOddLatIdeal.main_arg6))
      ∧ θ_run (Cert.PreOddLatRefIdeal.defs (F := Ideal)) (onTc (τ := Cert.PreOddLatRefIdeal.τ) (Cert.PreOddLatRefIdeal.main (F := Ideal))) ⟨m', fun _ => 0, g'⟩ (fun r => ∀ c : Dev Cert.PreOddLatRefIdeal.nD,
          r.2.mem ((c.tc : Thread Cert.PreOddLatRefIdeal.nD Cert.PreOddLatRefIdeal.τ).loc Cert.PreOddLatRefIdeal.main_v103) = v0 c
          ∧ r.2.mem ((c.tc : Thread Cert.PreOddLatRefIdeal.nD Cert.PreOddLatRefIdeal.τ).loc Cert.PreOddLatRefIdeal.main_v105) = v1 c
          ∧ r.2.mem ((c.tc : Thread Cert.PreOddLatRefIdeal.nD Cert.PreOddLatRefIdeal.τ).loc Cert.PreOddLatRefIdeal.main_v107) = v2 c
          ∧ r.2.mem ((c.tc : Thread Cert.PreOddLatRefIdeal.nD Cert.PreOddLatRefIdeal.τ).loc Cert.PreOddLatRefIdeal.main_arg0) = m' ((c.tc : Thread Cert.PreOddLatRefIdeal.nD Cert.PreOddLatRefIdeal.τ).loc Cert.PreOddLatRefIdeal.main_arg0)
          ∧ r.2.mem ((c.tc : Thread Cert.PreOddLatRefIdeal.nD Cert.PreOddLatRefIdeal.τ).loc Cert.PreOddLatRefIdeal.main_arg1) = m' ((c.tc : Thread Cert.PreOddLatRefIdeal.nD Cert.PreOddLatRefIdeal.τ).loc Cert.PreOddLatRefIdeal.main_arg1)
          ∧ r.2.mem ((c.tc : Thread Cert.PreOddLatRefIdeal.nD Cert.PreOddLatRefIdeal.τ).loc Cert.PreOddLatRefIdeal.main_arg2) = m' ((c.tc : Thread Cert.PreOddLatRefIdeal.nD Cert.PreOddLatRefIdeal.τ).loc Cert.PreOddLatRefIdeal.main_arg2)
          ∧ r.2.mem ((c.tc : Thread Cert.PreOddLatRefIdeal.nD Cert.PreOddLatRefIdeal.τ).loc Cert.PreOddLatRefIdeal.main_arg3) = m' ((c.tc : Thread Cert.PreOddLatRefIdeal.nD Cert.PreOddLatRefIdeal.τ).loc Cert.PreOddLatRefIdeal.main_arg3)
          ∧ r.2.mem ((c.tc : Thread Cert.PreOddLatRefIdeal.nD Cert.PreOddLatRefIdeal.τ).loc Cert.PreOddLatRefIdeal.main_arg4) = m' ((c.tc : Thread Cert.PreOddLatRefIdeal.nD Cert.PreOddLatRefIdeal.τ).loc Cert.PreOddLatRefIdeal.main_arg4)
          ∧ r.2.mem ((c.tc : Thread Cert.PreOddLatRefIdeal.nD Cert.PreOddLatRefIdeal.τ).loc Cert.PreOddLatRefIdeal.main_arg5) = m' ((c.tc : Thread Cert.PreOddLatRefIdeal.nD Cert.PreOddLatRefIdeal.τ).loc Cert.PreOddLatRefIdeal.main_arg5)
          ∧ r.2.mem ((c.tc : Thread Cert.PreOddLatRefIdeal.nD Cert.PreOddLatRefIdeal.τ).loc Cert.PreOddLatRefIdeal.main_arg6) = m' ((c.tc : Thread Cert.PreOddLatRefIdeal.nD Cert.PreOddLatRefIdeal.τ).loc Cert.PreOddLatRefIdeal.main_arg6))

def preserves_PreEvenLat_PreEvenLatIdeal : Prop :=
  True

def algebraic_PreEvenLatIdeal_PreEvenLatRefIdeal_pre_mean_table [hPreEvenLatIdeal : Cert.PreEvenLatIdeal.Facts] [hPreEvenLatRefIdeal : Cert.PreEvenLatRefIdeal.Facts] [hPre_mean_table : Cert.Pre_mean_table.Facts] : Prop :=
  ∀ (m : (ℓ : Loc Cert.PreEvenLatIdeal.nD Cert.PreEvenLatIdeal.τ Cert.PreEvenLatIdeal.sig) → Buf (Elt Ideal) ℓ) (g : Dev Cert.PreEvenLatIdeal.nD → PrngReg)
    (m' : (ℓ : Loc Cert.PreEvenLatRefIdeal.nD Cert.PreEvenLatRefIdeal.τ Cert.PreEvenLatRefIdeal.sig) → Buf (Elt Ideal) ℓ) (g' : Dev Cert.PreEvenLatRefIdeal.nD → PrngReg), Pre_PreEvenLatIdeal_mean_table m →
    (∀ c : Dev Cert.PreEvenLatIdeal.nD,
      m' ((c.tc : Thread Cert.PreEvenLatRefIdeal.nD Cert.PreEvenLatRefIdeal.τ).loc Cert.PreEvenLatRefIdeal.main_arg0) = m ((c.tc : Thread Cert.PreEvenLatIdeal.nD Cert.PreEvenLatIdeal.τ).loc Cert.PreEvenLatIdeal.main_arg0)
      ∧ m' ((c.tc : Thread Cert.PreEvenLatRefIdeal.nD Cert.PreEvenLatRefIdeal.τ).loc Cert.PreEvenLatRefIdeal.main_arg1) = m ((c.tc : Thread Cert.PreEvenLatIdeal.nD Cert.PreEvenLatIdeal.τ).loc Cert.PreEvenLatIdeal.main_arg1)
      ∧ m' ((c.tc : Thread Cert.PreEvenLatRefIdeal.nD Cert.PreEvenLatRefIdeal.τ).loc Cert.PreEvenLatRefIdeal.main_arg2) = m ((c.tc : Thread Cert.PreEvenLatIdeal.nD Cert.PreEvenLatIdeal.τ).loc Cert.PreEvenLatIdeal.main_arg2)
      ∧ m' ((c.tc : Thread Cert.PreEvenLatRefIdeal.nD Cert.PreEvenLatRefIdeal.τ).loc Cert.PreEvenLatRefIdeal.main_arg3) = m ((c.tc : Thread Cert.PreEvenLatIdeal.nD Cert.PreEvenLatIdeal.τ).loc Cert.PreEvenLatIdeal.main_arg3)
      ∧ m' ((c.tc : Thread Cert.PreEvenLatRefIdeal.nD Cert.PreEvenLatRefIdeal.τ).loc Cert.PreEvenLatRefIdeal.main_arg4) = m ((c.tc : Thread Cert.PreEvenLatIdeal.nD Cert.PreEvenLatIdeal.τ).loc Cert.PreEvenLatIdeal.main_arg4)
      ∧ m' ((c.tc : Thread Cert.PreEvenLatRefIdeal.nD Cert.PreEvenLatRefIdeal.τ).loc Cert.PreEvenLatRefIdeal.main_arg5) = m ((c.tc : Thread Cert.PreEvenLatIdeal.nD Cert.PreEvenLatIdeal.τ).loc Cert.PreEvenLatIdeal.main_arg5)
      ∧ m' ((c.tc : Thread Cert.PreEvenLatRefIdeal.nD Cert.PreEvenLatRefIdeal.τ).loc Cert.PreEvenLatRefIdeal.main_arg6) = m ((c.tc : Thread Cert.PreEvenLatIdeal.nD Cert.PreEvenLatIdeal.τ).loc Cert.PreEvenLatIdeal.main_arg6)
      ∧ m' ((c.tc : Thread Cert.PreEvenLatRefIdeal.nD Cert.PreEvenLatRefIdeal.τ).loc Cert.PreEvenLatRefIdeal.main_arg7) = m ((c.tc : Thread Cert.PreEvenLatIdeal.nD Cert.PreEvenLatIdeal.τ).loc Cert.PreEvenLatIdeal.main_arg7)
      ∧ m' ((c.tc : Thread Cert.PreEvenLatRefIdeal.nD Cert.PreEvenLatRefIdeal.τ).loc Cert.PreEvenLatRefIdeal.main_arg8) = m ((c.tc : Thread Cert.PreEvenLatIdeal.nD Cert.PreEvenLatIdeal.τ).loc Cert.PreEvenLatIdeal.main_arg8)
      ∧ m' ((c.tc : Thread Cert.PreEvenLatRefIdeal.nD Cert.PreEvenLatRefIdeal.τ).loc Cert.PreEvenLatRefIdeal.main_arg9) = m ((c.tc : Thread Cert.PreEvenLatIdeal.nD Cert.PreEvenLatIdeal.τ).loc Cert.PreEvenLatIdeal.main_arg9)
      ∧ m' ((c.tc : Thread Cert.PreEvenLatRefIdeal.nD Cert.PreEvenLatRefIdeal.τ).loc Cert.PreEvenLatRefIdeal.main_arg10) = m ((c.tc : Thread Cert.PreEvenLatIdeal.nD Cert.PreEvenLatIdeal.τ).loc Cert.PreEvenLatIdeal.main_arg10)) →
    ∃ (v0 : (c : Dev Cert.PreEvenLatIdeal.nD) → Buf (Elt Ideal) ((c.tc : Thread Cert.PreEvenLatIdeal.nD Cert.PreEvenLatIdeal.τ).loc Cert.PreEvenLatIdeal.main_v34_0)) (v1 : (c : Dev Cert.PreEvenLatIdeal.nD) → Buf (Elt Ideal) ((c.tc : Thread Cert.PreEvenLatIdeal.nD Cert.PreEvenLatIdeal.τ).loc Cert.PreEvenLatIdeal.main_v34_1)) (v2 : (c : Dev Cert.PreEvenLatIdeal.nD) → Buf (Elt Ideal) ((c.tc : Thread Cert.PreEvenLatIdeal.nD Cert.PreEvenLatIdeal.τ).loc Cert.PreEvenLatIdeal.main_v34_2)) (v3 : (c : Dev Cert.PreEvenLatIdeal.nD) → Buf (Elt Ideal) ((c.tc : Thread Cert.PreEvenLatIdeal.nD Cert.PreEvenLatIdeal.τ).loc Cert.PreEvenLatIdeal.main_v34_3)),
      θ_run (Cert.PreEvenLatIdeal.defs (F := Ideal)) (onTc (τ := Cert.PreEvenLatIdeal.τ) (Cert.PreEvenLatIdeal.main (F := Ideal))) ⟨m, fun _ => 0, g⟩ (fun r => ∀ c : Dev Cert.PreEvenLatIdeal.nD,
          r.2.mem ((c.tc : Thread Cert.PreEvenLatIdeal.nD Cert.PreEvenLatIdeal.τ).loc Cert.PreEvenLatIdeal.main_v34_0) = v0 c
          ∧ r.2.mem ((c.tc : Thread Cert.PreEvenLatIdeal.nD Cert.PreEvenLatIdeal.τ).loc Cert.PreEvenLatIdeal.main_v34_1) = v1 c
          ∧ r.2.mem ((c.tc : Thread Cert.PreEvenLatIdeal.nD Cert.PreEvenLatIdeal.τ).loc Cert.PreEvenLatIdeal.main_v34_2) = v2 c
          ∧ r.2.mem ((c.tc : Thread Cert.PreEvenLatIdeal.nD Cert.PreEvenLatIdeal.τ).loc Cert.PreEvenLatIdeal.main_v34_3) = v3 c
          ∧ r.2.mem ((c.tc : Thread Cert.PreEvenLatIdeal.nD Cert.PreEvenLatIdeal.τ).loc Cert.PreEvenLatIdeal.main_arg0) = m ((c.tc : Thread Cert.PreEvenLatIdeal.nD Cert.PreEvenLatIdeal.τ).loc Cert.PreEvenLatIdeal.main_arg0)
          ∧ r.2.mem ((c.tc : Thread Cert.PreEvenLatIdeal.nD Cert.PreEvenLatIdeal.τ).loc Cert.PreEvenLatIdeal.main_arg1) = m ((c.tc : Thread Cert.PreEvenLatIdeal.nD Cert.PreEvenLatIdeal.τ).loc Cert.PreEvenLatIdeal.main_arg1)
          ∧ r.2.mem ((c.tc : Thread Cert.PreEvenLatIdeal.nD Cert.PreEvenLatIdeal.τ).loc Cert.PreEvenLatIdeal.main_arg2) = m ((c.tc : Thread Cert.PreEvenLatIdeal.nD Cert.PreEvenLatIdeal.τ).loc Cert.PreEvenLatIdeal.main_arg2)
          ∧ r.2.mem ((c.tc : Thread Cert.PreEvenLatIdeal.nD Cert.PreEvenLatIdeal.τ).loc Cert.PreEvenLatIdeal.main_arg3) = m ((c.tc : Thread Cert.PreEvenLatIdeal.nD Cert.PreEvenLatIdeal.τ).loc Cert.PreEvenLatIdeal.main_arg3)
          ∧ r.2.mem ((c.tc : Thread Cert.PreEvenLatIdeal.nD Cert.PreEvenLatIdeal.τ).loc Cert.PreEvenLatIdeal.main_arg4) = m ((c.tc : Thread Cert.PreEvenLatIdeal.nD Cert.PreEvenLatIdeal.τ).loc Cert.PreEvenLatIdeal.main_arg4)
          ∧ r.2.mem ((c.tc : Thread Cert.PreEvenLatIdeal.nD Cert.PreEvenLatIdeal.τ).loc Cert.PreEvenLatIdeal.main_arg5) = m ((c.tc : Thread Cert.PreEvenLatIdeal.nD Cert.PreEvenLatIdeal.τ).loc Cert.PreEvenLatIdeal.main_arg5)
          ∧ r.2.mem ((c.tc : Thread Cert.PreEvenLatIdeal.nD Cert.PreEvenLatIdeal.τ).loc Cert.PreEvenLatIdeal.main_arg6) = m ((c.tc : Thread Cert.PreEvenLatIdeal.nD Cert.PreEvenLatIdeal.τ).loc Cert.PreEvenLatIdeal.main_arg6)
          ∧ r.2.mem ((c.tc : Thread Cert.PreEvenLatIdeal.nD Cert.PreEvenLatIdeal.τ).loc Cert.PreEvenLatIdeal.main_arg7) = m ((c.tc : Thread Cert.PreEvenLatIdeal.nD Cert.PreEvenLatIdeal.τ).loc Cert.PreEvenLatIdeal.main_arg7)
          ∧ r.2.mem ((c.tc : Thread Cert.PreEvenLatIdeal.nD Cert.PreEvenLatIdeal.τ).loc Cert.PreEvenLatIdeal.main_arg8) = m ((c.tc : Thread Cert.PreEvenLatIdeal.nD Cert.PreEvenLatIdeal.τ).loc Cert.PreEvenLatIdeal.main_arg8)
          ∧ r.2.mem ((c.tc : Thread Cert.PreEvenLatIdeal.nD Cert.PreEvenLatIdeal.τ).loc Cert.PreEvenLatIdeal.main_arg9) = m ((c.tc : Thread Cert.PreEvenLatIdeal.nD Cert.PreEvenLatIdeal.τ).loc Cert.PreEvenLatIdeal.main_arg9)
          ∧ r.2.mem ((c.tc : Thread Cert.PreEvenLatIdeal.nD Cert.PreEvenLatIdeal.τ).loc Cert.PreEvenLatIdeal.main_arg10) = m ((c.tc : Thread Cert.PreEvenLatIdeal.nD Cert.PreEvenLatIdeal.τ).loc Cert.PreEvenLatIdeal.main_arg10))
      ∧ θ_run (Cert.PreEvenLatRefIdeal.defs (F := Ideal)) (onTc (τ := Cert.PreEvenLatRefIdeal.τ) (Cert.PreEvenLatRefIdeal.main (F := Ideal))) ⟨m', fun _ => 0, g'⟩ (fun r => ∀ c : Dev Cert.PreEvenLatRefIdeal.nD,
          r.2.mem ((c.tc : Thread Cert.PreEvenLatRefIdeal.nD Cert.PreEvenLatRefIdeal.τ).loc Cert.PreEvenLatRefIdeal.main_v156) = v0 c
          ∧ r.2.mem ((c.tc : Thread Cert.PreEvenLatRefIdeal.nD Cert.PreEvenLatRefIdeal.τ).loc Cert.PreEvenLatRefIdeal.main_v158) = v1 c
          ∧ r.2.mem ((c.tc : Thread Cert.PreEvenLatRefIdeal.nD Cert.PreEvenLatRefIdeal.τ).loc Cert.PreEvenLatRefIdeal.main_v160) = v2 c
          ∧ r.2.mem ((c.tc : Thread Cert.PreEvenLatRefIdeal.nD Cert.PreEvenLatRefIdeal.τ).loc Cert.PreEvenLatRefIdeal.main_v162) = v3 c
          ∧ r.2.mem ((c.tc : Thread Cert.PreEvenLatRefIdeal.nD Cert.PreEvenLatRefIdeal.τ).loc Cert.PreEvenLatRefIdeal.main_arg0) = m' ((c.tc : Thread Cert.PreEvenLatRefIdeal.nD Cert.PreEvenLatRefIdeal.τ).loc Cert.PreEvenLatRefIdeal.main_arg0)
          ∧ r.2.mem ((c.tc : Thread Cert.PreEvenLatRefIdeal.nD Cert.PreEvenLatRefIdeal.τ).loc Cert.PreEvenLatRefIdeal.main_arg1) = m' ((c.tc : Thread Cert.PreEvenLatRefIdeal.nD Cert.PreEvenLatRefIdeal.τ).loc Cert.PreEvenLatRefIdeal.main_arg1)
          ∧ r.2.mem ((c.tc : Thread Cert.PreEvenLatRefIdeal.nD Cert.PreEvenLatRefIdeal.τ).loc Cert.PreEvenLatRefIdeal.main_arg2) = m' ((c.tc : Thread Cert.PreEvenLatRefIdeal.nD Cert.PreEvenLatRefIdeal.τ).loc Cert.PreEvenLatRefIdeal.main_arg2)
          ∧ r.2.mem ((c.tc : Thread Cert.PreEvenLatRefIdeal.nD Cert.PreEvenLatRefIdeal.τ).loc Cert.PreEvenLatRefIdeal.main_arg3) = m' ((c.tc : Thread Cert.PreEvenLatRefIdeal.nD Cert.PreEvenLatRefIdeal.τ).loc Cert.PreEvenLatRefIdeal.main_arg3)
          ∧ r.2.mem ((c.tc : Thread Cert.PreEvenLatRefIdeal.nD Cert.PreEvenLatRefIdeal.τ).loc Cert.PreEvenLatRefIdeal.main_arg4) = m' ((c.tc : Thread Cert.PreEvenLatRefIdeal.nD Cert.PreEvenLatRefIdeal.τ).loc Cert.PreEvenLatRefIdeal.main_arg4)
          ∧ r.2.mem ((c.tc : Thread Cert.PreEvenLatRefIdeal.nD Cert.PreEvenLatRefIdeal.τ).loc Cert.PreEvenLatRefIdeal.main_arg5) = m' ((c.tc : Thread Cert.PreEvenLatRefIdeal.nD Cert.PreEvenLatRefIdeal.τ).loc Cert.PreEvenLatRefIdeal.main_arg5)
          ∧ r.2.mem ((c.tc : Thread Cert.PreEvenLatRefIdeal.nD Cert.PreEvenLatRefIdeal.τ).loc Cert.PreEvenLatRefIdeal.main_arg6) = m' ((c.tc : Thread Cert.PreEvenLatRefIdeal.nD Cert.PreEvenLatRefIdeal.τ).loc Cert.PreEvenLatRefIdeal.main_arg6)
          ∧ r.2.mem ((c.tc : Thread Cert.PreEvenLatRefIdeal.nD Cert.PreEvenLatRefIdeal.τ).loc Cert.PreEvenLatRefIdeal.main_arg7) = m' ((c.tc : Thread Cert.PreEvenLatRefIdeal.nD Cert.PreEvenLatRefIdeal.τ).loc Cert.PreEvenLatRefIdeal.main_arg7)
          ∧ r.2.mem ((c.tc : Thread Cert.PreEvenLatRefIdeal.nD Cert.PreEvenLatRefIdeal.τ).loc Cert.PreEvenLatRefIdeal.main_arg8) = m' ((c.tc : Thread Cert.PreEvenLatRefIdeal.nD Cert.PreEvenLatRefIdeal.τ).loc Cert.PreEvenLatRefIdeal.main_arg8)
          ∧ r.2.mem ((c.tc : Thread Cert.PreEvenLatRefIdeal.nD Cert.PreEvenLatRefIdeal.τ).loc Cert.PreEvenLatRefIdeal.main_arg9) = m' ((c.tc : Thread Cert.PreEvenLatRefIdeal.nD Cert.PreEvenLatRefIdeal.τ).loc Cert.PreEvenLatRefIdeal.main_arg9)
          ∧ r.2.mem ((c.tc : Thread Cert.PreEvenLatRefIdeal.nD Cert.PreEvenLatRefIdeal.τ).loc Cert.PreEvenLatRefIdeal.main_arg10) = m' ((c.tc : Thread Cert.PreEvenLatRefIdeal.nD Cert.PreEvenLatRefIdeal.τ).loc Cert.PreEvenLatRefIdeal.main_arg10))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostRefIdeal : Cert.PostRefIdeal.Facts) (hPostCtx : Cert.PostCtx.Facts) (hPostCtxIdeal : Cert.PostCtxIdeal.Facts) (hPostCtxRefIdeal : Cert.PostCtxRefIdeal.Facts) (hPreEven : Cert.PreEven.Facts) (hPreEvenIdeal : Cert.PreEvenIdeal.Facts) (hPreEvenRefIdeal : Cert.PreEvenRefIdeal.Facts) (hPreOdd : Cert.PreOdd.Facts) (hPreOddIdeal : Cert.PreOddIdeal.Facts) (hPreOddRefIdeal : Cert.PreOddRefIdeal.Facts) (hPostEven : Cert.PostEven.Facts) (hPostEvenIdeal : Cert.PostEvenIdeal.Facts) (hPostEvenRefIdeal : Cert.PostEvenRefIdeal.Facts) (hPostEvenCtx : Cert.PostEvenCtx.Facts) (hPostEvenCtxIdeal : Cert.PostEvenCtxIdeal.Facts) (hPostEvenCtxRefIdeal : Cert.PostEvenCtxRefIdeal.Facts) (hPreOddLat : Cert.PreOddLat.Facts) (hPreOddLatIdeal : Cert.PreOddLatIdeal.Facts) (hPreOddLatRefIdeal : Cert.PreOddLatRefIdeal.Facts) (hPreEvenLat : Cert.PreEvenLat.Facts) (hPreEvenLatIdeal : Cert.PreEvenLatIdeal.Facts) (hPreEvenLatRefIdeal : Cert.PreEvenLatRefIdeal.Facts) (hPre_finite_keys : Cert.Pre_finite_keys.Facts) (hPre_mean_table : Cert.Pre_mean_table.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ quiescent_Post (hPost := hPost)
    ∧ quiescent_PostIdeal (hPostIdeal := hPostIdeal)
    ∧ quiescent_PostRefIdeal (hPostRefIdeal := hPostRefIdeal)
    ∧ quiescent_PostCtx (hPostCtx := hPostCtx)
    ∧ quiescent_PostCtxIdeal (hPostCtxIdeal := hPostCtxIdeal)
    ∧ quiescent_PostCtxRefIdeal (hPostCtxRefIdeal := hPostCtxRefIdeal)
    ∧ quiescent_PreEven (hPreEven := hPreEven)
    ∧ quiescent_PreEvenIdeal (hPreEvenIdeal := hPreEvenIdeal)
    ∧ quiescent_PreEvenRefIdeal (hPreEvenRefIdeal := hPreEvenRefIdeal)
    ∧ quiescent_PreOdd (hPreOdd := hPreOdd)
    ∧ quiescent_PreOddIdeal (hPreOddIdeal := hPreOddIdeal)
    ∧ quiescent_PreOddRefIdeal (hPreOddRefIdeal := hPreOddRefIdeal)
    ∧ quiescent_PostEven (hPostEven := hPostEven)
    ∧ quiescent_PostEvenIdeal (hPostEvenIdeal := hPostEvenIdeal)
    ∧ quiescent_PostEvenRefIdeal (hPostEvenRefIdeal := hPostEvenRefIdeal)
    ∧ quiescent_PostEvenCtx (hPostEvenCtx := hPostEvenCtx)
    ∧ quiescent_PostEvenCtxIdeal (hPostEvenCtxIdeal := hPostEvenCtxIdeal)
    ∧ quiescent_PostEvenCtxRefIdeal (hPostEvenCtxRefIdeal := hPostEvenCtxRefIdeal)
    ∧ quiescent_PreOddLat (hPreOddLat := hPreOddLat)
    ∧ quiescent_PreOddLatIdeal (hPreOddLatIdeal := hPreOddLatIdeal)
    ∧ quiescent_PreOddLatRefIdeal (hPreOddLatRefIdeal := hPreOddLatRefIdeal)
    ∧ quiescent_PreEvenLat (hPreEvenLat := hPreEvenLat)
    ∧ quiescent_PreEvenLatIdeal (hPreEvenLatIdeal := hPreEvenLatIdeal)
    ∧ quiescent_PreEvenLatIdeal_pre_mean_table (hPreEvenLatIdeal := hPreEvenLatIdeal) (hPre_mean_table := hPre_mean_table)
    ∧ quiescent_PreEvenLatRefIdeal (hPreEvenLatRefIdeal := hPreEvenLatRefIdeal)
    ∧ quiescent_PreEvenLatRefIdeal_pre_mean_table (hPreEvenLatRefIdeal := hPreEvenLatRefIdeal) (hPre_mean_table := hPre_mean_table)
    ∧ preserves_Kernel_KernelIdeal
    ∧ algebraic_KernelIdeal_ReferenceIdeal_pre_finite_keys (hKernelIdeal := hKernelIdeal) (hReferenceIdeal := hReferenceIdeal) (hPre_finite_keys := hPre_finite_keys)
    ∧ preserves_Post_PostIdeal
    ∧ algebraic_PostIdeal_PostRefIdeal (hPostIdeal := hPostIdeal) (hPostRefIdeal := hPostRefIdeal)
    ∧ preserves_PostCtx_PostCtxIdeal
    ∧ algebraic_PostCtxIdeal_PostCtxRefIdeal (hPostCtxIdeal := hPostCtxIdeal) (hPostCtxRefIdeal := hPostCtxRefIdeal)
    ∧ preserves_PreEven_PreEvenIdeal
    ∧ algebraic_PreEvenIdeal_PreEvenRefIdeal (hPreEvenIdeal := hPreEvenIdeal) (hPreEvenRefIdeal := hPreEvenRefIdeal)
    ∧ preserves_PreOdd_PreOddIdeal
    ∧ algebraic_PreOddIdeal_PreOddRefIdeal (hPreOddIdeal := hPreOddIdeal) (hPreOddRefIdeal := hPreOddRefIdeal)
    ∧ preserves_PostEven_PostEvenIdeal
    ∧ algebraic_PostEvenIdeal_PostEvenRefIdeal (hPostEvenIdeal := hPostEvenIdeal) (hPostEvenRefIdeal := hPostEvenRefIdeal)
    ∧ preserves_PostEvenCtx_PostEvenCtxIdeal
    ∧ algebraic_PostEvenCtxIdeal_PostEvenCtxRefIdeal (hPostEvenCtxIdeal := hPostEvenCtxIdeal) (hPostEvenCtxRefIdeal := hPostEvenCtxRefIdeal)
    ∧ preserves_PreOddLat_PreOddLatIdeal
    ∧ algebraic_PreOddLatIdeal_PreOddLatRefIdeal (hPreOddLatIdeal := hPreOddLatIdeal) (hPreOddLatRefIdeal := hPreOddLatRefIdeal)
    ∧ preserves_PreEvenLat_PreEvenLatIdeal
    ∧ algebraic_PreEvenLatIdeal_PreEvenLatRefIdeal_pre_mean_table (hPreEvenLatIdeal := hPreEvenLatIdeal) (hPreEvenLatRefIdeal := hPreEvenLatRefIdeal) (hPre_mean_table := hPre_mean_table)
-- ==== Pre_finite_keys.lean ====
abbrev S16384x512 : Shape := ⟨2, ![16384, 512]⟩
abbrev S16384x128 : Shape := ⟨2, ![16384, 128]⟩
abbrev S8x512x2x64 : Shape := ⟨4, ![8, 512, 2, 64]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  bcast_S_S16384x128 : S_.BroadcastsInDim S16384x128 (![] : Fin 0 → Fin S16384x128.rank)
  bcast_S_S8x512x2x64 : S_.BroadcastsInDim S8x512x2x64 (![] : Fin 0 → Fin S8x512x2x64.rank)

variable [Facts]

def fn {F : FTy → Type} [FloatOps F] (main_arg0 : FVec F S16384x512 .bf16) (main_arg1 : FVec F S16384x128 .bf16) (main_arg2 : FVec F S16384x128 .bf16) (main_arg3 : FVec F S8x512x2x64 .f32) (main_arg4 : FVec F S8x512x2x64 .f32) : IVec S16384x512 1 × IVec S16384x128 1 × IVec S8x512x2x64 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x128 .f32 := (extf .f32 · bitsLt_bf16_f32) main_arg1
  let main_v5 : FVec F S16384x128 .f32 := Host.absf main_v4
  let main_cst_0 : FVec F S_ .f32 := constant S_ .f32 0x7F800000#32
  let main_v6 : FVec F S16384x128 .f32 := broadcastInDim S16384x128 ![] bcast_S_S16384x128 main_cst_0
  let main_v7 : IVec S16384x128 1 := cmpf .olt main_v5 main_v6
  let main_v8 : FVec F S8x512x2x64 .f32 := Host.absf main_arg3
  let main_cst_1 : FVec F S_ .f32 := constant S_ .f32 0x7F800000#32
  let main_v9 : FVec F S8x512x2x64 .f32 := broadcastInDim S8x512x2x64 ![] bcast_S_S8x512x2x64 main_cst_1
  let main_v10 : IVec S8x512x2x64 1 := cmpf .olt main_v8 main_v9
  (main_v3, main_v7, main_v10)
-- ==== Pre_mean_table.lean ====
abbrev S16384x1024 : Shape := ⟨2, ![16384, 1024]⟩
abbrev S2x16x6x1024 : Shape := ⟨4, ![2, 16, 6, 1024]⟩
abbrev S1x1024x1792 : Shape := ⟨3, ![1, 1024, 1792]⟩
abbrev S1x64 : Shape := ⟨2, ![1, 64]⟩
abbrev S1x512 : Shape := ⟨2, ![1, 512]⟩
abbrev S1x4x128x128 : Shape := ⟨4, ![1, 4, 128, 128]⟩
abbrev S1x4x128 : Shape := ⟨3, ![1, 4, 128]⟩
abbrev S2048x32 : Shape := ⟨2, ![2048, 32]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S_ : Shape := ⟨0, ![]⟩

class Facts : Prop where
  bitsLt_bf16_f32 : FTy.bits .bf16 < FTy.bits .f32
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)

variable [Facts]

noncomputable abbrev lit0 : Fin 256 → BitVec 32 := fun
  | 0 => 0#32 | 1 => 0#32 | 2 => 0#32 | 3 => 0#32 | 4 => 0#32 | 5 => 0#32 | 6 => 0#32 | 7 => 0#32
  | 8 => 0#32 | 9 => 0#32 | 10 => 0#32 | 11 => 0#32 | 12 => 0#32 | 13 => 0#32 | 14 => 0#32 | 15 => 0#32
  | 16 => 0#32 | 17 => 0#32 | 18 => 0#32 | 19 => 0#32 | 20 => 0#32 | 21 => 0#32 | 22 => 0#32 | 23 => 0#32
  | 24 => 0#32 | 25 => 0#32 | 26 => 0#32 | 27 => 0#32 | 28 => 0#32 | 29 => 0#32 | 30 => 0#32 | 31 => 0#32
  | 32 => 0#32 | 33 => 0#32 | 34 => 0#32 | 35 => 0#32 | 36 => 0#32 | 37 => 0#32 | 38 => 0#32 | 39 => 0#32
  | 40 => 0#32 | 41 => 0#32 | 42 => 0#32 | 43 => 0#32 | 44 => 0#32 | 45 => 0#32 | 46 => 0#32 | 47 => 0#32
  | 48 => 0#32 | 49 => 0#32 | 50 => 0#32 | 51 => 0#32 | 52 => 0#32 | 53 => 0#32 | 54 => 0#32 | 55 => 0#32
  | 56 => 0#32 | 57 => 0#32 | 58 => 0#32 | 59 => 0#32 | 60 => 0#32 | 61 => 0#32 | 62 => 0#32 | 63 => 0#32
  | 64 => 1#32 | 65 => 1#32 | 66 => 1#32 | 67 => 1#32 | 68 => 1#32 | 69 => 1#32 | 70 => 1#32 | 71 => 1#32
  | 72 => 1#32 | 73 => 1#32 | 74 => 1#32 | 75 => 1#32 | 76 => 1#32 | 77 => 1#32 | 78 => 1#32 | 79 => 1#32
  | 80 => 1#32 | 81 => 1#32 | 82 => 1#32 | 83 => 1#32 | 84 => 1#32 | 85 => 1#32 | 86 => 1#32 | 87 => 1#32
  | 88 => 1#32 | 89 => 1#32 | 90 => 1#32 | 91 => 1#32 | 92 => 1#32 | 93 => 1#32 | 94 => 1#32 | 95 => 1#32
  | 96 => 1#32 | 97 => 1#32 | 98 => 1#32 | 99 => 1#32 | 100 => 1#32 | 101 => 1#32 | 102 => 1#32 | 103 => 1#32
  | 104 => 1#32 | 105 => 1#32 | 106 => 1#32 | 107 => 1#32 | 108 => 1#32 | 109 => 1#32 | 110 => 1#32 | 111 => 1#32
  | 112 => 1#32 | 113 => 1#32 | 114 => 1#32 | 115 => 1#32 | 116 => 1#32 | 117 => 1#32 | 118 => 1#32 | 119 => 1#32
  | 120 => 1#32 | 121 => 1#32 | 122 => 1#32 | 123 => 1#32 | 124 => 1#32 | 125 => 1#32 | 126 => 1#32 | 127 => 1#32
  | 128 => 2#32 | 129 => 2#32 | 130 => 2#32 | 131 => 2#32 | 132 => 2#32 | 133 => 2#32 | 134 => 2#32 | 135 => 2#32
  | 136 => 2#32 | 137 => 2#32 | 138 => 2#32 | 139 => 2#32 | 140 => 2#32 | 141 => 2#32 | 142 => 2#32 | 143 => 2#32
  | 144 => 2#32 | 145 => 2#32 | 146 => 2#32 | 147 => 2#32 | 148 => 2#32 | 149 => 2#32 | 150 => 2#32 | 151 => 2#32
  | 152 => 2#32 | 153 => 2#32 | 154 => 2#32 | 155 => 2#32 | 156 => 2#32 | 157 => 2#32 | 158 => 2#32 | 159 => 2#32
  | 160 => 2#32 | 161 => 2#32 | 162 => 2#32 | 163 => 2#32 | 164 => 2#32 | 165 => 2#32 | 166 => 2#32 | 167 => 2#32
  | 168 => 2#32 | 169 => 2#32 | 170 => 2#32 | 171 => 2#32 | 172 => 2#32 | 173 => 2#32 | 174 => 2#32 | 175 => 2#32
  | 176 => 2#32 | 177 => 2#32 | 178 => 2#32 | 179 => 2#32 | 180 => 2#32 | 181 => 2#32 | 182 => 2#32 | 183 => 2#32
  | 184 => 2#32 | 185 => 2#32 | 186 => 2#32 | 187 => 2#32 | 188 => 2#32 | 189 => 2#32 | 190 => 2#32 | 191 => 2#32
  | 192 => 3#32 | 193 => 3#32 | 194 => 3#32 | 195 => 3#32 | 196 => 3#32 | 197 => 3#32 | 198 => 3#32 | 199 => 3#32
  | 200 => 3#32 | 201 => 3#32 | 202 => 3#32 | 203 => 3#32 | 204 => 3#32 | 205 => 3#32 | 206 => 3#32 | 207 => 3#32
  | 208 => 3#32 | 209 => 3#32 | 210 => 3#32 | 211 => 3#32 | 212 => 3#32 | 213 => 3#32 | 214 => 3#32 | 215 => 3#32
  | 216 => 3#32 | 217 => 3#32 | 218 => 3#32 | 219 => 3#32 | 220 => 3#32 | 221 => 3#32 | 222 => 3#32 | 223 => 3#32
  | 224 => 3#32 | 225 => 3#32 | 226 => 3#32 | 227 => 3#32 | 228 => 3#32 | 229 => 3#32 | 230 => 3#32 | 231 => 3#32
  | 232 => 3#32 | 233 => 3#32 | 234 => 3#32 | 235 => 3#32 | 236 => 3#32 | 237 => 3#32 | 238 => 3#32 | 239 => 3#32
  | 240 => 3#32 | 241 => 3#32 | 242 => 3#32 | 243 => 3#32 | 244 => 3#32 | 245 => 3#32 | 246 => 3#32 | 247 => 3#32
  | 248 => 3#32 | 249 => 3#32 | 250 => 3#32 | 251 => 3#32 | 252 => 3#32 | 253 => 3#32 | 254 => 3#32 | 255 => 3#32
  | _ => 0#32

def fn_where {F : FTy → Type} [FloatOps F] (arg0 : IVec S256x256 1) (arg1 : FVec F S_ .f32) (arg2 : FVec F S_ .f32) : FVec F S256x256 .f32 :=
  let v0 : FVec F S256x256 .f32 := broadcastInDim S256x256 ![] bcast_S_S256x256 arg1
  let v1 : FVec F S256x256 .f32 := broadcastInDim S256x256 ![] bcast_S_S256x256 arg2
  let v2 : FVec F S256x256 .f32 := select arg0 v0 v1
  v2

def fn {F : FTy → Type} [FloatOps F] (main_arg0 : FVec F S16384x1024 .f32) (main_arg1 : FVec F S2x16x6x1024 .f32) (main_arg2 : FVec F S1x1024x1792 .f32) (main_arg3 : FVec F S1x64 .f32) (main_arg4 : FVec F S1x64 .f32) (main_arg5 : FVec F S1x512 .f32) (main_arg6 : FVec F S1x4x128x128 .f32) (main_arg7 : FVec F S1x4x128 .f32) (main_arg8 : FVec F S2048x32 .f32) (main_arg9 : FVec F S2048x32 .f32) (main_arg10 : FVec F S256x256 .bf16) : IVec S256x256 1 :=
  let main_c : IVec S256 32 := fun i => lit0 (S256.rowMajor i)
  let main_v0 : FVec F S256x256 .f32 := (extf .f32 · bitsLt_bf16_f32) main_arg10
  let main_v1 : IVec S256x1 32 := broadcastInDim S256x1 ![0] bcast_S256_S256x1_0 main_c
  let main_v2 : IVec S1x256 32 := broadcastInDim S1x256 ![1] bcast_S256_S1x256_1 main_c
  let main_v3 : IVec S256x256 32 := broadcastInDim S256x256 ![0, 1] bcast_S256x1_S256x256_0_1 main_v1
  let main_v4 : IVec S256x256 32 := broadcastInDim S256x256 ![0, 1] bcast_S1x256_S256x256_0_1 main_v2
  let main_v5 : IVec S256x256 1 := cmpi .eq main_v3 main_v4
  let main_cst : FVec F S_ .f32 := constant S_ .f32 0x3C800000#32
  let main_cst_0 : FVec F S_ .f32 := constant S_ .f32 0x00000000#32
  let main_v6 : FVec F S256x256 .f32 := fn_where (F := F) main_v5 main_cst main_cst_0
  let main_v7 : FVec F S256x256 .f32 := id main_v6
  let main_v8 : IVec S256x256 1 := cmpf .oeq main_v0 main_v7
  main_v8
-- ==== Kernel.lean ====
abbrev S16384x512 : Shape := ⟨2, ![16384, 512]⟩
abbrev S16384x128 : Shape := ⟨2, ![16384, 128]⟩
abbrev S8x512x2x64 : Shape := ⟨4, ![8, 512, 2, 64]⟩
abbrev S8x2x64x512 : Shape := ⟨4, ![8, 2, 64, 512]⟩
abbrev S8x128x512 : Shape := ⟨3, ![8, 128, 512]⟩
abbrev S512x512 : Shape := ⟨2, ![512, 512]⟩
abbrev S2048x128 : Shape := ⟨2, ![2048, 128]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S512x64 : Shape := ⟨2, ![512, 64]⟩
abbrev S1024x64 : Shape := ⟨2, ![1024, 64]⟩
abbrev S512x1024 : Shape := ⟨2, ![512, 1024]⟩
abbrev S64x512 : Shape := ⟨2, ![64, 512]⟩
abbrev S512x2560 : Shape := ⟨2, ![512, 2560]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S16384x512, .bf16⟩
  | .hbm, ⟨1, _⟩ => ⟨S16384x128, .bf16⟩
  | .hbm, ⟨2, _⟩ => ⟨S16384x128, .bf16⟩
  | .hbm, ⟨3, _⟩ => ⟨S8x512x2x64, .f32⟩
  | .hbm, ⟨4, _⟩ => ⟨S8x512x2x64, .f32⟩
  | .hbm, ⟨5, _⟩ => ⟨S8x512x2x64, .bf16⟩
  | .hbm, ⟨6, _⟩ => ⟨S8x2x64x512, .bf16⟩
  | .hbm, ⟨7, _⟩ => ⟨S8x128x512, .bf16⟩
  | .hbm, ⟨8, _⟩ => ⟨S8x512x2x64, .bf16⟩
  | .hbm, ⟨9, _⟩ => ⟨S8x2x64x512, .bf16⟩
  | .hbm, ⟨10, _⟩ => ⟨S8x128x512, .bf16⟩
  | .hbm, ⟨11, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S512x512, .bf16⟩
  | .local _ .vmem, ⟨11, _⟩ => ⟨S512x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16384x512 : Shape := ⟨2, ![16384, 512]⟩
abbrev S16384x128 : Shape := ⟨2, ![16384, 128]⟩
abbrev S8x512x2x64 : Shape := ⟨4, ![8, 512, 2, 64]⟩
abbrev S8x2048x2x4x64 : Shape := ⟨5, ![8, 2048, 2, 4, 64]⟩
abbrev S8x2048x2x64 : Shape := ⟨4, ![8, 2048, 2, 64]⟩
abbrev S8x2560x2x64 : Shape := ⟨4, ![8, 2560, 2, 64]⟩
abbrev S8x2x2560x2048x4 : Shape := ⟨5, ![8, 2, 2560, 2048, 4]⟩
abbrev S8x2x4x2048x2560 : Shape := ⟨5, ![8, 2, 4, 2048, 2560]⟩
abbrev S_ : Shape := ⟨0, ![]⟩
abbrev S8x2x4x2048 : Shape := ⟨4, ![8, 2, 4, 2048]⟩
abbrev S8x2x4x2048x1 : Shape := ⟨5, ![8, 2, 4, 2048, 1]⟩
abbrev S8x2x64x4x2048 : Shape := ⟨5, ![8, 2, 64, 4, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x128, .bf16⟩
  | .hbm, ⟨2, _⟩ => ⟨S16384x128, .bf16⟩
  | .hbm, ⟨3, _⟩ => ⟨S8x512x2x64, .f32⟩
  | .hbm, ⟨4, _⟩ => ⟨S8x512x2x64, .f32⟩
  | .hbm, ⟨5, _⟩ => ⟨S16384x512, .f32⟩
  | .hbm, ⟨6, _⟩ => ⟨S8x2048x2x4x64, .f32⟩
  | .hbm, ⟨7, _⟩ => ⟨S16384x128, .f32⟩
  | .hbm, ⟨8, _⟩ => ⟨S8x2048x2x64, .f32⟩
  | .hbm, ⟨9, _⟩ => ⟨S8x2560x2x64, .f32⟩
  | .hbm, ⟨10, _⟩ => ⟨S16384x128, .f32⟩
  | .hbm, ⟨11, _⟩ => ⟨S8x2048x2x64, .f32⟩
  | .hbm, ⟨12, _⟩ => ⟨S8x2560x2x64, .f32⟩
  | .hbm, ⟨13, _⟩ => ⟨S8x2x2560x2048x4, .f32⟩
  | .hbm, ⟨14, _⟩ => ⟨S8x2x4x2048x2560, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8x2x4x2048x2560, .f32⟩
  | .hbm, ⟨19, _⟩ => ⟨S8x2x4x2048x2560, .f32⟩
  | .hbm, ⟨20, _⟩ => ⟨S_, .f32⟩
  | .hbm, ⟨21, _⟩ => ⟨S8x2x4x2048, .f32⟩
  | .hbm, ⟨22, _⟩ => ⟨S_, .f32⟩
  | .hbm, ⟨23, _⟩ => ⟨S8x2x4x2048, .f32⟩
  | .hbm, ⟨24, _⟩ => ⟨S8x2x4x2048, .f32⟩
  | .hbm, ⟨25, _⟩ => ⟨S8x2x4x2048x1, .f32⟩
  | .hbm, ⟨26, _⟩ => ⟨S8x2x4x2048x2560, .f32⟩
  | .hbm, ⟨27, _⟩ => ⟨S8x2x4x2048x2560, .f32⟩
  | .hbm, ⟨28, _⟩ => ⟨S8x2x4x2048x2560, .f32⟩
  | .hbm, ⟨29, _⟩ => ⟨S_, .f32⟩
  | .hbm, ⟨30, _⟩ => ⟨S8x2x4x2048, .f32⟩
  | .hbm, ⟨31, _⟩ => ⟨S8x2x4x2048x1, .f32⟩
  | .hbm, ⟨32, _⟩ => ⟨S8x2x4x2048x2560, .f32⟩
  | .hbm, ⟨33, _⟩ => ⟨S8x2x4x2048x2560, .f32⟩
  | .hbm, ⟨34, _⟩ => ⟨S8x2x64x4x2048, .f32⟩
  | .hbm, ⟨35, _⟩ => ⟨S8x2048x2x4x64, .f32⟩
  | .hbm, ⟨36, _⟩ => ⟨S16384x512, .f32⟩
  | .hbm, ⟨37, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Post.lean ====
abbrev S16384x1024 : Shape := ⟨2, ![16384, 1024]⟩
abbrev S2x16x6x1024 : Shape := ⟨4, ![2, 16, 6, 1024]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x1x5632 : Shape := ⟨3, ![2, 1, 5632]⟩
abbrev S2x11x256x1024 : Shape := ⟨4, ![2, 11, 256, 1024]⟩
abbrev S1024x1024 : Shape := ⟨2, ![1024, 1024]⟩
abbrev S512x1024 : Shape := ⟨2, ![512, 1024]⟩
abbrev S16x1024 : Shape := ⟨2, ![16, 1024]⟩
abbrev S1x1x6x1024 : Shape := ⟨4, ![1, 1, 6, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x11x256x1024 : Shape := ⟨4, ![1, 11, 256, 1024]⟩
abbrev S544x1024 : Shape := ⟨2, ![544, 1024]⟩
abbrev S544x256 : Shape := ⟨2, ![544, 256]⟩
abbrev S6x1024 : Shape := ⟨2, ![6, 1024]⟩
abbrev S272x1024 : Shape := ⟨2, ![272, 1024]⟩
abbrev S1x1024 : Shape := ⟨2, ![1, 1024]⟩
abbrev S272 : Shape := ⟨1, ![272]⟩
abbrev S272x1 : Shape := ⟨2, ![272, 1]⟩
abbrev S256x1024 : Shape := ⟨2, ![256, 1024]⟩
abbrev S1x1024x256 : Shape := ⟨3, ![1, 1024, 256]⟩
abbrev S1024x256 : Shape := ⟨2, ![1024, 256]⟩
abbrev S512x256 : Shape := ⟨2, ![512, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩
abbrev S1x1x256x1024 : Shape := ⟨4, ![1, 1, 256, 1024]⟩

abbrev nBuf : Space → Nat
  | .hbm => 15
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2x16x6x1024, .f32⟩
  | .hbm, ⟨3, _⟩ => ⟨S1x1024x1024, .f32⟩
  | .hbm, ⟨4, _⟩ => ⟨S2x1024x5632, .f32⟩
  | .hbm, ⟨5, _⟩ => ⟨S2x3x5632, .f32⟩
  | .hbm, ⟨6, _⟩ => ⟨S2x5632, .f32⟩
  | .hbm, ⟨7, _⟩ => ⟨S2x2816x1024, .f32⟩
  | .hbm, ⟨8, _⟩ => ⟨S2x1024x5632, .bf16⟩
  | .hbm, ⟨9, _⟩ => ⟨S2x1x5632, .f32⟩
  | .hbm, ⟨10, _⟩ => ⟨S2x2816x1024, .bf16⟩
  | .hbm, ⟨11, _⟩ => ⟨S2x11x256x1024, .bf16⟩
  | .hbm, ⟨12, _⟩ => ⟨S1024x1024, .f32⟩
  | .hbm, ⟨13, _⟩ => ⟨S1024x1024, .bf16⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S1x1x6x1024, .f32⟩
  | .local _ .vmem, ⟨13, _⟩ => ⟨S1x1x6x1024, .f32⟩
  | .local _ .vmem, ⟨14, _⟩ => ⟨S1024x1024, .bf16⟩
  | .local _ .vmem, ⟨15, _⟩ => ⟨S1x1024x5632, .bf16⟩
  | .local _ .vmem, ⟨16, _⟩ => ⟨S1x3x5632, .f32⟩
  | .local _ .vmem, ⟨17, _⟩ => ⟨S1x1x5632, .f32⟩
  | .local _ .vmem, ⟨18, _⟩ => ⟨S1x11x256x1024, .bf16⟩
  | .local _ .vmem, ⟨19, _⟩ => ⟨S512x1024, .f32⟩
  | .local _ .vmem, ⟨20, _⟩ => ⟨S512x1024, .f32⟩
  | .local _ .vmem, ⟨21, _⟩ => ⟨S544x1024, .bf16⟩
  | .local _ .vmem, ⟨22, _⟩ => ⟨S512x1024, .f32⟩
  | .local _ .vmem, ⟨23, _⟩ => ⟨S512x1024, .f32⟩
  | .local _ .vmem, ⟨24, _⟩ => ⟨S544x256, .f32⟩
  | .local _ .vmem, ⟨25, _⟩ => ⟨S544x256, .f32⟩
  | .local _ .vmem, ⟨26, _⟩ => ⟨S544x256, .f32⟩
  | .local _ .vmem, ⟨27, _⟩ => ⟨S544x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c1_i32_5 : BitVec 32 := 1#32
  let c0_i32_6 : BitVec 32 := 0#32
  let c0_i32_7 : BitVec 32 := 0#32
  let c0_i32_8 : BitVec 32 := 0#32
  ![c1_i32_5.toNat, v17.toNat, c0_i32_6.toNat, c0_i32_7.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x11x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PostRefIdeal.lean ====
abbrev S16384x1024 : Shape := ⟨2, ![16384, 1024]⟩
abbrev S2x16x6x1024 : Shape := ⟨4, ![2, 16, 6, 1024]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S8x2048x1024 : Shape := ⟨3, ![8, 2048, 1024]⟩
abbrev S1x8x1x1024 : Shape := ⟨4, ![1, 8, 1, 1024]⟩
abbrev S8x1024 : Shape := ⟨2, ![8, 1024]⟩
abbrev S8x1x1024 : Shape := ⟨3, ![8, 1, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S8x2050x5632 : Shape := ⟨3, ![8, 2050, 5632]⟩
abbrev S1x1x5632 : Shape := ⟨3, ![1, 1, 5632]⟩
abbrev S8x2048x2816 : Shape := ⟨3, ![8, 2048, 2816]⟩

abbrev nBuf : Space → Nat
  | .hbm => 109
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2x16x6x1024, .f32⟩
  | .hbm, ⟨3, _⟩ => ⟨S1x1024x1024, .f32⟩
  | .hbm, ⟨4, _⟩ => ⟨S2x1024x5632, .f32⟩
  | .hbm, ⟨5, _⟩ => ⟨S2x3x5632, .f32⟩
  | .hbm, ⟨6, _⟩ => ⟨S2x5632, .f32⟩
  | .hbm, ⟨7, _⟩ => ⟨S2x2816x1024, .f32⟩
  | .hbm, ⟨8, _⟩ => ⟨S8x2048x1024, .f32⟩
  | .hbm, ⟨9, _⟩ => ⟨S16384x1024, .f32⟩
  | .hbm, ⟨10, _⟩ => ⟨S8x2048x1024, .f32⟩
  | .hbm, ⟨11, _⟩ => ⟨S1x8x1x1024, .f32⟩
  | .hbm, ⟨12, _⟩ => ⟨S8x1024, .f32⟩
  | .hbm, ⟨13, _⟩ => ⟨S8x1x1024, .f32⟩
  | .hbm, ⟨14, _⟩ => ⟨S1x8x1x1024, .f32⟩
  | .hbm, ⟨15, _⟩ => ⟨S8x1024, .f32⟩
  | .hbm, ⟨16, _⟩ => ⟨S8x1x1024, .f32⟩
  | .hbm, ⟨17, _⟩ => ⟨S1x8x1x1024, .f32⟩
  | .hbm, ⟨18, _⟩ => ⟨S8x1024, .f32⟩
  | .hbm, ⟨19, _⟩ => ⟨S8x1x1024, .f32⟩
  | .hbm, ⟨20, _⟩ => ⟨S1x8x1x1024, .f32⟩
  | .hbm, ⟨21, _⟩ => ⟨S8x1024, .f32⟩
  | .hbm, ⟨22, _⟩ => ⟨S8x1x1024, .f32⟩
  | .hbm, ⟨23, _⟩ => ⟨S1x8x1x1024, .f32⟩
  | .hbm, ⟨24, _⟩ => ⟨S8x1024, .f32⟩
  | .hbm, ⟨25, _⟩ => ⟨S8x1x1024, .f32⟩
  | .hbm, ⟨26, _⟩ => ⟨S1x8x1x1024, .f32⟩
  | .hbm, ⟨27, _⟩ => ⟨S8x1024, .f32⟩
  | .hbm, ⟨28, _⟩ => ⟨S8x1x1024, .f32⟩
  | .hbm, ⟨29, _⟩ => ⟨S1024x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S8x2048x1, .f32⟩
  | .hbm, ⟨45, _⟩ => ⟨S8x2048x1024, .f32⟩
  | .hbm, ⟨46, _⟩ => ⟨S8x2048x1024, .f32⟩
  | .hbm, ⟨47, _⟩ => ⟨S_, .f32⟩
  | .hbm, ⟨48, _⟩ => ⟨S8x1x1024, .f32⟩
  | .hbm, ⟨49, _⟩ => ⟨S8x1x1024, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S1x1024x5632, .f32⟩
  | .hbm, ⟨55, _⟩ => ⟨S1024x5632, .f32⟩
  | .hbm, ⟨56, _⟩ => ⟨S1x3x5632, .f32⟩
  | .hbm, ⟨57, _⟩ => ⟨S3x5632, .f32⟩
  | .hbm, ⟨58, _⟩ => ⟨S1x5632, .f32⟩
  | .hbm, ⟨59, _⟩ => ⟨S5632, .f32⟩
  | .hbm, ⟨60, _⟩ => ⟨S1x2816x1024, .f32⟩
  | .hbm, ⟨61, _⟩ => ⟨S2816x1024, .f32⟩
  | .hbm, ⟨62, _⟩ => ⟨S8x2048x5632, .f32⟩
  | .hbm, ⟨63, _⟩ => ⟨S_, .i32⟩
  | .hbm, ⟨64, _⟩ => ⟨S_, .f32⟩
  | .hbm, ⟨65, _⟩ => ⟨S8x2050x5632, .f32⟩
  | .hbm, ⟨66, _⟩ => ⟨S8x2048x5632, .f32⟩
  | .hbm, ⟨67, _⟩ => ⟨S1x5632, .f32⟩
  | .hbm, ⟨68, _⟩ => ⟨S5632, .f32⟩
  | .hbm, ⟨69, _⟩ => ⟨S1x1x5632, .f32⟩
  | .hbm, ⟨70, _⟩ => ⟨S8x2048x5632, .f32⟩
  | .hbm, ⟨71, _⟩ => ⟨S8x2048x5632, .f32⟩
  | .hbm, ⟨72, _⟩ => ⟨S_, .f32⟩
  | .hbm, ⟨73, _⟩ => ⟨S8x2048x5632, .f32⟩
  | .hbm, ⟨74, _⟩ => ⟨S8x2048x5632, .f32⟩
  | .hbm, ⟨75, _⟩ => ⟨S8x2048x5632, .f32⟩
  | .hbm, ⟨76, _⟩ => ⟨S1x5632, .f32⟩
  | .hbm, ⟨77, _⟩ => ⟨S5632, .f32⟩
  | .hbm, ⟨78, _⟩ => ⟨S1x1x5632, .f32⟩
  | .hbm, ⟨79, _⟩ => ⟨S8x2048x5632, .f32⟩
  | .hbm, ⟨80, _⟩ => ⟨S8x2048x5632, .f32⟩
  | .hbm, ⟨81, _⟩ => ⟨S8x2048x5632, .f32⟩
  | .hbm, ⟨82, _⟩ => ⟨S8x2048x5632, .f32⟩
  | .hbm, ⟨83, _⟩ => ⟨S1x5632, .f32⟩
  | .hbm, ⟨84, _⟩ => ⟨S5632, .f32⟩
  | .hbm, ⟨85, _⟩ => ⟨S1x1x5632, .f32⟩
  | .hbm, ⟨86, _⟩ => ⟨S8x2048x5632, .f32⟩
  | .hbm, ⟨87, _⟩ => ⟨S8x2048x5632, .f32⟩
  | .hbm, ⟨88, _⟩ => ⟨S8x2048x5632, .f32⟩
  | .hbm, ⟨89, _⟩ => ⟨S1x1x5632, .f32⟩
  | .hbm, ⟨90, _⟩ => ⟨S8x2048x5632, .f32⟩
  | .hbm, ⟨91, _⟩ => ⟨S8x2048x5632, .f32⟩
  | .hbm, ⟨92, _⟩ => ⟨S8x2048x2816, .f32⟩
  | .hbm, ⟨93, _⟩ => ⟨S8x2048x2816, .f32⟩
  | .hbm, ⟨94, _⟩ => ⟨S8x2048x2816, .f32⟩
  | .hbm, ⟨95, _⟩ => ⟨S8x2048x2816, .f32⟩
  | .hbm, ⟨96, _⟩ => ⟨S_, .f32⟩
  | .hbm, ⟨97, _⟩ => ⟨S8x2048x2816, .f32⟩
  | .hbm, ⟨98, _⟩ => ⟨S8x2048x2816, .f32⟩
  | .hbm, ⟨99, _⟩ => ⟨S_, .f32⟩
  | .hbm, ⟨100, _⟩ => ⟨S8x2048x2816, .f32⟩
  | .hbm, ⟨101, _⟩ => ⟨S8x2048x2816, .f32⟩
  | .hbm, ⟨102, _⟩ => ⟨S8x2048x2816, .f32⟩
  | .hbm, ⟨103, _⟩ => ⟨S8x2048x2816, .f32⟩
  | .hbm, ⟨104, _⟩ => ⟨S8x2048x1024, .f32⟩
  | .hbm, ⟨105, _⟩ => ⟨S8x2048x1024, .f32⟩
  | .hbm, ⟨106, _⟩ => ⟨S8x2048x1024, .f32⟩
  | .hbm, ⟨107, _⟩ => ⟨S8x2048x1024, .f32⟩
  | .hbm, ⟨108, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_cst_0 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_c : Ref sig .tc := ⟨.hbm, 63, rfl⟩
abbrev main_call0_v0 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_call1_v5 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩

abbrev nD : Nat := 1
abbrev τ : Topo := Topo.v7x

variable {F : FTy → Type} [FloatOps F]
-- ==== PostCtx.lean ====
abbrev S8192x1024 : Shape := ⟨2, ![8192, 1024]⟩
abbrev S2x16x6x1024 : Shape := ⟨4, ![2, 16, 6, 1024]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x1x5632 : Shape := ⟨3, ![2, 1, 5632]⟩
abbrev S2x11x256x1024 : Shape := ⟨4, ![2, 11, 256, 1024]⟩
abbrev S1024x1024 : Shape := ⟨2, ![1024, 1024]⟩
abbrev S512x1024 : Shape := ⟨2, ![512, 1024]⟩
abbrev S1x1x6x1024 : Shape := ⟨4, ![1, 1, 6, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x11x256x1024 : Shape := ⟨4, ![1, 11, 256, 1024]⟩
abbrev S512x256 : Shape := ⟨2, ![512, 256]⟩
abbrev S6x1024 : Shape := ⟨2, ![6, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩
abbrev S1x1x256x1024 : Shape := ⟨4, ![1, 1, 256, 1024]⟩

abbrev nBuf : Space → Nat
  | .hbm => 15
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S2x16x6x1024, .f32⟩
  | .hbm, ⟨3, _⟩ => ⟨S1x1024x1024, .f32⟩
  | .hbm, ⟨4, _⟩ => ⟨S2x1024x5632, .f32⟩
  | .hbm, ⟨5, _⟩ => ⟨S2x3x5632, .f32⟩
  | .hbm, ⟨6, _⟩ => ⟨S2x5632, .f32⟩
  | .hbm, ⟨7, _⟩ => ⟨S2x2816x1024, .f32⟩
  | .hbm, ⟨8, _⟩ => ⟨S2x1024x5632, .bf16⟩
  | .hbm, ⟨9, _⟩ => ⟨S2x1x5632, .f32⟩
  | .hbm, ⟨10, _⟩ => ⟨S2x2816x1024, .bf16⟩
  | .hbm, ⟨11, _⟩ => ⟨S2x11x256x1024, .bf16⟩
  | .hbm, ⟨12, _⟩ => ⟨S1024x1024, .f32⟩
  | .hbm, ⟨13, _⟩ => ⟨S1024x1024, .bf16⟩
  | .hbm, ⟨14, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x6x1024, .f32⟩
  | .local _ .vmem, ⟨5, _⟩ => ⟨S1024x1024, .bf16⟩
  | .local _ .vmem, ⟨6, _⟩ => ⟨S1x1024x5632, .bf16⟩
  | .local _ .vmem, ⟨7, _⟩ => ⟨S1x3x5632, .f32⟩
  | .local _ .vmem, ⟨8, _⟩ => ⟨S1x1x5632, .f32⟩
  | .local _ .vmem, ⟨9, _⟩ => ⟨S1x11x256x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x11x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostCtxRefIdeal.lean ====
abbrev S8192x1024 : Shape := ⟨2, ![8192, 1024]⟩
abbrev S2x16x6x1024 : Shape := ⟨4, ![2, 16, 6, 1024]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S32x256x1024 : Shape := ⟨3, ![32, 256, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S1024x1024 : Shape := ⟨2, ![1024, 1024]⟩
abbrev S_ : Shape := ⟨0, ![]⟩
abbrev S32x256 : Shape := ⟨2, ![32, 256]⟩
abbrev S32x256x1 : Shape := ⟨3, ![32, 256, 1]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S32x256x5632 : Shape := ⟨3, ![32, 256, 5632]⟩
abbrev S32x258x5632 : Shape := ⟨3, ![32, 258, 5632]⟩
abbrev S1x1x5632 : Shape := ⟨3, ![1, 1, 5632]⟩
abbrev S32x256x2816 : Shape := ⟨3, ![32, 256, 2816]⟩

abbrev nBuf : Space → Nat
  | .hbm => 109
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S2x16x6x1024, .f32⟩
  | .hbm, ⟨3, _⟩ => ⟨S1x1024x1024, .f32⟩
  | .hbm, ⟨4, _⟩ => ⟨S2x1024x5632, .f32⟩
  | .hbm, ⟨5, _⟩ => ⟨S2x3x5632, .f32⟩
  | .hbm, ⟨6, _⟩ => ⟨S2x5632, .f32⟩
  | .hbm, ⟨7, _⟩ => ⟨S2x2816x1024, .f32⟩
  | .hbm, ⟨8, _⟩ => ⟨S32x256x1024, .f32⟩
  | .hbm, ⟨9, _⟩ => ⟨S8192x1024, .f32⟩
  | .hbm, ⟨10, _⟩ => ⟨S32x256x1024, .f32⟩
  | .hbm, ⟨11, _⟩ => ⟨S1x1x1x1024, .f32⟩
  | .hbm, ⟨12, _⟩ => ⟨S1x1024, .f32⟩
  | .hbm, ⟨13, _⟩ => ⟨S1x1x1024, .f32⟩
  | .hbm, ⟨14, _⟩ => ⟨S1x1x1x1024, .f32⟩
  | .hbm, ⟨15, _⟩ => ⟨S1x1024, .f32⟩
  | .hbm, ⟨16, _⟩ => ⟨S1x1x1024, .f32⟩
  | .hbm, ⟨17, _⟩ => ⟨S1x1x1x1024, .f32⟩
  | .hbm, ⟨18, _⟩ => ⟨S1x1024, .f32⟩
  | .hbm, ⟨19, _⟩ => ⟨S1x1x1024, .f32⟩
  | .hbm, ⟨20, _⟩ => ⟨S1x1x1x1024, .f32⟩
  | .hbm, ⟨21, _⟩ => ⟨S1x1024, .f32⟩
  | .hbm, ⟨22, _⟩ => ⟨S1x1x1024, .f32⟩
  | .hbm, ⟨23, _⟩ => ⟨S1x1x1x1024, .f32⟩
  | .hbm, ⟨24, _⟩ => ⟨S1x1024, .f32⟩
  | .hbm, ⟨25, _⟩ => ⟨S1x1x1024, .f32⟩
  | .hbm, ⟨26, _⟩ => ⟨S1x1x1x1024, .f32⟩
  | .hbm, ⟨27, _⟩ => ⟨S1x1024, .f32⟩
  | .hbm, ⟨28, _⟩ => ⟨S1x1x1024, .f32⟩
  | .hbm, ⟨29, _⟩ => ⟨S1024x1024, .f32⟩
  | .hbm, ⟨30, _⟩ => ⟨S32x256x1024, .f32⟩
  | .hbm, ⟨31, _⟩ => ⟨S32x256x1024, .f32⟩
  | .hbm, ⟨32, _⟩ => ⟨S32x256x1024, .f32⟩
  | .hbm, ⟨33, _⟩ => ⟨S32x256x1024, .f32⟩
  | .hbm, ⟨34, _⟩ => ⟨S32x256x1024, .f32⟩
  | .hbm, ⟨35, _⟩ => ⟨S_, .f32⟩
  | .hbm, ⟨36, _⟩ => ⟨S32x256, .f32⟩
  | .hbm, ⟨37, _⟩ => ⟨S32x256x1, .f32⟩
  | .hbm, ⟨38, _⟩ => ⟨S_, .f32⟩
  | .hbm, ⟨39, _⟩ => ⟨S32x256x1, .f32⟩
  | .hbm, ⟨40, _⟩ => ⟨S32x256x1, .f32⟩
  | .hbm, ⟨41, _⟩ => ⟨S_, .f32⟩
  | .hbm, ⟨42, _⟩ => ⟨S32x256x1, .f32⟩
  | .hbm, ⟨43, _⟩ => ⟨S32x256x1, .f32⟩
  | .hbm, ⟨44, _⟩ => ⟨S32x256x1, .f32⟩
  | .hbm, ⟨45, _⟩ => ⟨S32x256x1024, .f32⟩
  | .hbm, ⟨46, _⟩ => ⟨S32x256x1024, .f32⟩
  | .hbm, ⟨47, _⟩ => ⟨S_, .f32⟩
  | .hbm, ⟨48, _⟩ => ⟨S1x1x1024, .f32⟩
  | .hbm, ⟨49, _⟩ => ⟨S1x1x1024, .f32⟩
  | .hbm, ⟨50, _⟩ => ⟨S32x256x1024, .f32⟩
  | .hbm, ⟨51, _⟩ => ⟨S32x256x1024, .f32⟩
  | .hbm, ⟨52, _⟩ => ⟨S32x256x1024, .f32⟩
  | .hbm, ⟨53, _⟩ => ⟨S32x256x1024, .f32⟩
  | .hbm, ⟨54, _⟩ => ⟨S1x1024x5632, .f32⟩
  | .hbm, ⟨55, _⟩ => ⟨S1024x5632, .f32⟩
  | .hbm, ⟨56, _⟩ => ⟨S1x3x5632, .f32⟩
  | .hbm, ⟨57, _⟩ => ⟨S3x5632, .f32⟩
  | .hbm, ⟨58, _⟩ => ⟨S1x5632, .f32⟩
  | .hbm, ⟨59, _⟩ => ⟨S5632, .f32⟩
  | .hbm, ⟨60, _⟩ => ⟨S1x2816x1024, .f32⟩
  | .hbm, ⟨61, _⟩ => ⟨S2816x1024, .f32⟩
  | .hbm, ⟨62, _⟩ => ⟨S32x256x5632, .f32⟩
  | .hbm, ⟨63, _⟩ => ⟨S_, .i32⟩
  | .hbm, ⟨64, _⟩ => ⟨S_, .f32⟩
  | .hbm, ⟨65, _⟩ => ⟨S32x258x5632, .f32⟩
  | .hbm, ⟨66, _⟩ => ⟨S32x256x5632, .f32⟩
  | .hbm, ⟨67, _⟩ => ⟨S1x5632, .f32⟩
  | .hbm, ⟨68, _⟩ => ⟨S5632, .f32⟩
  | .hbm, ⟨69, _⟩ => ⟨S1x1x5632, .f32⟩
  | .hbm, ⟨70, _⟩ => ⟨S32x256x5632, .f32⟩
  | .hbm, ⟨71, _⟩ => ⟨S32x256x5632, .f32⟩
  | .hbm, ⟨72, _⟩ => ⟨S_, .f32⟩
  | .hbm, ⟨73, _⟩ => ⟨S32x256x5632, .f32⟩
  | .hbm, ⟨74, _⟩ => ⟨S32x256x5632, .f32⟩
  | .hbm, ⟨75, _⟩ => ⟨S32x256x5632, .f32⟩
  | .hbm, ⟨76, _⟩ => ⟨S1x5632, .f32⟩
  | .hbm, ⟨77, _⟩ => ⟨S5632, .f32⟩
  | .hbm, ⟨78, _⟩ => ⟨S1x1x5632, .f32⟩
  | .hbm, ⟨79, _⟩ => ⟨S32x256x5632, .f32⟩
  | .hbm, ⟨80, _⟩ => ⟨S32x256x5632, .f32⟩
  | .hbm, ⟨81, _⟩ => ⟨S32x256x5632, .f32⟩
  | .hbm, ⟨82, _⟩ => ⟨S32x256x5632, .f32⟩
  | .hbm, ⟨83, _⟩ => ⟨S1x5632, .f32⟩
  | .hbm, ⟨84, _⟩ => ⟨S5632, .f32⟩
  | .hbm, ⟨85, _⟩ => ⟨S1x1x5632, .f32⟩
  | .hbm, ⟨86, _⟩ => ⟨S32x256x5632, .f32⟩
  | .hbm, ⟨87, _⟩ => ⟨S32x256x5632, .f32⟩
  | .hbm, ⟨88, _⟩ => ⟨S32x256x5632, .f32⟩
  | .hbm, ⟨89, _⟩ => ⟨S1x1x5632, .f32⟩
  | .hbm, ⟨90, _⟩ => ⟨S32x256x5632, .f32⟩
  | .hbm, ⟨91, _⟩ => ⟨S32x256x5632, .f32⟩
  | .hbm, ⟨92, _⟩ => ⟨S32x256x2816, .f32⟩
  | .hbm, ⟨93, _⟩ => ⟨S32x256x2816, .f32⟩
  | .hbm, ⟨94, _⟩ => ⟨S32x256x2816, .f32⟩
  | .hbm, ⟨95, _⟩ => ⟨S32x256x2816, .f32⟩
  | .hbm, ⟨96, _⟩ => ⟨S_, .f32⟩
  | .hbm, ⟨97, _⟩ => ⟨S32x256x2816, .f32⟩
  | .hbm, ⟨98, _⟩ => ⟨S32x256x2816, .f32⟩
  | .hbm, ⟨99, _⟩ => ⟨S_, .f32⟩
  | .hbm, ⟨100, _⟩ => ⟨S32x256x2816, .f32⟩
  | .hbm, ⟨101, _⟩ => ⟨S32x256x2816, .f32⟩
  | .hbm, ⟨102, _⟩ => ⟨S32x256x2816, .f32⟩
  | .hbm, ⟨103, _⟩ => ⟨S32x256x2816, .f32⟩
  | .hbm, ⟨104, _⟩ => ⟨S32x256x1024, .f32⟩
  | .hbm, ⟨105, _⟩ => ⟨S32x256x1024, .f32⟩
  | .hbm, ⟨106, _⟩ => ⟨S32x256x1024, .f32⟩
  | .hbm, ⟨107, _⟩ => ⟨S32x256x1024, .f32⟩
  | .hbm, ⟨108, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_cst_0 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_c : Ref sig .tc := ⟨.hbm, 63, rfl⟩
abbrev main_call0_v0 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_call1_v5 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩

abbrev nD : Nat := 1
abbrev τ : Topo := Topo.v7x

variable {F : FTy → Type} [FloatOps F]
-- ==== PreEven.lean ====
abbrev S8192x1024 : Shape := ⟨2, ![8192, 1024]⟩
abbrev S2x16x6x1024 : Shape := ⟨4, ![2, 16, 6, 1024]⟩
abbrev S1x1024x1792 : Shape := ⟨3, ![1, 1024, 1792]⟩
abbrev S1x64 : Shape := ⟨2, ![1, 64]⟩
abbrev S1x512 : Shape := ⟨2, ![1, 512]⟩
abbrev S1x4x128x128 : Shape := ⟨4, ![1, 4, 128, 128]⟩
abbrev S1x4x128 : Shape := ⟨3, ![1, 4, 128]⟩
abbrev S256x256 : Shape := ⟨2, ![256, 256]⟩
abbrev S64 : Shape := ⟨1, ![64]⟩
abbrev S512 : Shape := ⟨1, ![512]⟩
abbrev S4x128x128 : Shape := ⟨3, ![4, 128, 128]⟩
abbrev S4x128 : Shape := ⟨2, ![4, 128]⟩
abbrev S4x128x1 : Shape := ⟨3, ![4, 128, 1]⟩
abbrev S8x64 : Shape := ⟨2, ![8, 64]⟩
abbrev S_ : Shape := ⟨0, ![]⟩
abbrev S2x64 : Shape := ⟨2, ![2, 64]⟩
abbrev S128 : Shape := ⟨1, ![128]⟩
abbrev S1x128 : Shape := ⟨2, ![1, 128]⟩
abbrev S1024x1792 : Shape := ⟨2, ![1024, 1792]⟩
abbrev S8192x512 : Shape := ⟨2, ![8192, 512]⟩
abbrev S8192x128 : Shape := ⟨2, ![8192, 128]⟩
abbrev S32x128x256 : Shape := ⟨3, ![32, 128, 256]⟩
abbrev S1024x1024 : Shape := ⟨2, ![1024, 1024]⟩
abbrev S1x1x6x1024 : Shape := ⟨4, ![1, 1, 6, 1024]⟩
abbrev S1024x512 : Shape := ⟨2, ![1024, 512]⟩
abbrev S1024x128 : Shape := ⟨2, ![1024, 128]⟩
abbrev S4x128x256 : Shape := ⟨3, ![4, 128, 256]⟩
abbrev S6x1024 : Shape := ⟨2, ![6, 1024]⟩
abbrev S1024 : Shape := ⟨1, ![1024]⟩
abbrev S1024x1 : Shape := ⟨2, ![1024, 1]⟩
abbrev S1x1024 : Shape := ⟨2, ![1, 1024]⟩
abbrev S1024x256 : Shape := ⟨2, ![1024, 256]⟩
abbrev S128x128 : Shape := ⟨2, ![128, 128]⟩
abbrev S256x128 : Shape := ⟨2, ![256, 128]⟩
abbrev S128x256 : Shape := ⟨2, ![128, 256]⟩
abbrev S1x128x256 : Shape := ⟨3, ![1, 128, 256]⟩
abbrev S128x1024 : Shape := ⟨2, ![128, 1024]⟩
abbrev S1x128x128 : Shape := ⟨3, ![1, 128, 128]⟩
abbrev S32x2x64x256 : Shape := ⟨4, ![32, 2, 64, 256]⟩
abbrev S32x256x2x64 : Shape := ⟨4, ![32, 256, 2, 64]⟩
abbrev S32x1x256x2x64 : Shape := ⟨5, ![32, 1, 256, 2, 64]⟩

abbrev nBuf : Space → Nat
  | .hbm => 42
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S2x16x6x1024, .f32⟩
  | .hbm, ⟨2, _⟩ => ⟨S1x1024x1792, .f32⟩
  | .hbm, ⟨3, _⟩ => ⟨S1x64, .f32⟩
  | .hbm, ⟨4, _⟩ => ⟨S1x64, .f32⟩
  | .hbm, ⟨5, _⟩ => ⟨S1x512, .f32⟩
  | .hbm, ⟨6, _⟩ => ⟨S1x4x128x128, .f32⟩
  | .hbm, ⟨7, _⟩ => ⟨S1x4x128, .f32⟩
  | .hbm, ⟨8, _⟩ => ⟨S256x256, .bf16⟩
  | .hbm, ⟨9, _⟩ => ⟨S64, .f32⟩
  | .hbm, ⟨10, _⟩ => ⟨S64, .f32⟩
  | .hbm, ⟨11, _⟩ => ⟨S512, .f32⟩
  | .hbm, ⟨12, _⟩ => ⟨S1x512, .f32⟩
  | .hbm, ⟨13, _⟩ => ⟨S4x128x128, .f32⟩
  | .hbm, ⟨14, _⟩ => ⟨S4x128x128, .bf16⟩
  | .hbm, ⟨15, _⟩ => ⟨S4x128, .f32⟩
  | .hbm, ⟨16, _⟩ => ⟨S4x128x1, .f32⟩
  | .hbm, ⟨17, _⟩ => ⟨S4x128x128, .f32⟩
  | .hbm, ⟨18, _⟩ => ⟨S1x64, .f32⟩
  | .hbm, ⟨19, _⟩ => ⟨S8x64, .f32⟩
  | .hbm, ⟨20, _⟩ => ⟨S512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x64, .f32⟩
  | .hbm, ⟨26, _⟩ => ⟨S2x64, .f32⟩
  | .hbm, ⟨27, _⟩ => ⟨S128, .f32⟩
  | .hbm, ⟨28, _⟩ => ⟨S1x128, .f32⟩
  | .hbm, ⟨29, _⟩ => ⟨S1024x1792, .f32⟩
  | .hbm, ⟨30, _⟩ => ⟨S1024x1792, .bf16⟩
  | .hbm, ⟨31, _⟩ => ⟨S8192x512, .bf16⟩
  | .hbm, ⟨32, _⟩ => ⟨S8192x128, .bf16⟩
  | .hbm, ⟨33, _⟩ => ⟨S8192x512, .bf16⟩
  | .hbm, ⟨34, _⟩ => ⟨S32x128x256, .f32⟩
  | .hbm, ⟨35, _⟩ => ⟨S32x128x256, .f32⟩
  | .hbm, ⟨36, _⟩ => ⟨S32x2x64x256, .f32⟩
  | .hbm, ⟨37, _⟩ => ⟨S32x256x2x64, .f32⟩
  | .hbm, ⟨38, _⟩ => ⟨S32x2x64x256, .f32⟩
  | .hbm, ⟨39, _⟩ => ⟨S32x256x2x64, .f32⟩
  | .hbm, ⟨40, _⟩ => ⟨S32x1x256x2x64, .f32⟩
  | .hbm, ⟨41, _⟩ => ⟨S32x1x256x2x64, .f32⟩
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1024x1792, .bf16⟩
  | .local _ .vmem, ⟨4, _⟩ => ⟨S256x256, .bf16⟩
  | .local _ .vmem, ⟨5, _⟩ => ⟨S1x512, .f32⟩
  | .local _ .vmem, ⟨6, _⟩ => ⟨S1x128, .f32⟩
  | .local _ .vmem, ⟨7, _⟩ => ⟨S1x512, .f32⟩
  | .local _ .vmem, ⟨8, _⟩ => ⟨S4x128x128, .bf16⟩
  | .local _ .vmem, ⟨9, _⟩ => ⟨S4x128x128, .f32⟩
  | .local _ .vmem, ⟨10, _⟩ => ⟨S1024x512, .bf16⟩
  | .local _ .vmem, ⟨11, _⟩ => ⟨S1024x512, .bf16⟩
  | .local _ .vmem, ⟨12, _⟩ => ⟨S1024x128, .bf16⟩
  | .local _ .vmem, ⟨13, _⟩ => ⟨S1024x128, .bf16⟩
  | .local _ .vmem, ⟨14, _⟩ => ⟨S1024x512, .bf16⟩
  | .local _ .vmem, ⟨15, _⟩ => ⟨S1024x512, .bf16⟩
  | .local _ .vmem, ⟨16, _⟩ => ⟨S4x128x256, .f32⟩
  | .local _ .vmem, ⟨17, _⟩ => ⟨S4x128x256, .f32⟩
  | .local _ .vmem, ⟨18, _⟩ => ⟨S4x128x256, .f32⟩
  | .local _ .vmem, ⟨19, _⟩ => ⟨S4x128x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== PreEvenRefIdeal.lean ====
abbrev S8192x1024 : Shape := ⟨2, ![8192, 1024]⟩
abbrev S2x16x6x1024 : Shape := ⟨4, ![2, 16, 6, 1024]⟩
abbrev S1x1024x1792 : Shape := ⟨3, ![1, 1024, 1792]⟩
abbrev S1x64 : Shape := ⟨2, ![1, 64]⟩
abbrev S1x512 : Shape := ⟨2, ![1, 512]⟩
abbrev S1x4x128x128 : Shape := ⟨4, ![1, 4, 128, 128]⟩
abbrev S1x4x128 : Shape := ⟨3, ![1, 4, 128]⟩
abbrev S32x256x1024 : Shape := ⟨3, ![32, 256, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S1024x1792 : Shape := ⟨2, ![1024, 1792]⟩
abbrev S32x256x1792 : Shape := ⟨3, ![32, 256, 1792]⟩
abbrev S32x256x512 : Shape := ⟨3, ![32, 256, 512]⟩
abbrev S32x256x128 : Shape := ⟨3, ![32, 256, 128]⟩
abbrev S32x256x8x64 : Shape := ⟨4, ![32, 256, 8, 64]⟩
abbrev S64 : Shape := ⟨1, ![64]⟩
abbrev S32x256x8 : Shape := ⟨3, ![32, 256, 8]⟩
abbrev S32x256x8x1 : Shape := ⟨4, ![32, 256, 8, 1]⟩
abbrev S1x1x1x64 : Shape := ⟨4, ![1, 1, 1, 64]⟩
abbrev S32x256x2x64 : Shape := ⟨4, ![32, 256, 2, 64]⟩
abbrev S32x256x2 : Shape := ⟨3, ![32, 256, 2]⟩
abbrev S32x256x2x1 : Shape := ⟨4, ![32, 256, 2, 1]⟩
abbrev S512 : Shape := ⟨1, ![512]⟩
abbrev S4x128x128 : Shape := ⟨3, ![4, 128, 128]⟩
abbrev S4x128 : Shape := ⟨2, ![4, 128]⟩
abbrev S1x1x512 : Shape := ⟨3, ![1, 1, 512]⟩
abbrev S32x2x128x4x128 : Shape := ⟨5, ![32, 2, 128, 4, 128]⟩
abbrev S4x32x2x128x128 : Shape := ⟨5, ![4, 32, 2, 128, 128]⟩
abbrev S128x4 : Shape := ⟨2, ![128, 4]⟩
abbrev S1x1x128x4x1 : Shape := ⟨5, ![1, 1, 128, 4, 1]⟩
abbrev S8192x512 : Shape := ⟨2, ![8192, 512]⟩
abbrev S8192x128 : Shape := ⟨2, ![8192, 128]⟩
abbrev S32x1x256x2x64 : Shape := ⟨5, ![32, 1, 256, 2, 64]⟩

abbrev nBuf : Space → Nat
  | .hbm => 152
  | .vmem => 0
  | .smem => 0
  | _ => 0

abbrev hbmTy0_0 (i : Nat) : BufTy := match i % 128 with
  | 0 => ⟨S8192x1024, .f32⟩
  | 1 => ⟨S2x16x6x1024, .f32⟩
  | 2 => ⟨S1x1024x1792, .f32⟩
  | 3 => ⟨S1x64, .f32⟩
  | 4 => ⟨S1x64, .f32⟩
  | 5 => ⟨S1x512, .f32⟩
  | 6 => ⟨S1x4x128x128, .f32⟩
  | 7 => ⟨S1x4x128, .f32⟩
  | 8 => ⟨S32x256x1024, .f32⟩
  | 9 => ⟨S1x1x1x1024, .f32⟩
  | 10 => ⟨S1x1024, .f32⟩
  | 11 => ⟨S1x1x1024, .f32⟩
  | 12 => ⟨S1x1x1x1024, .f32⟩
  | 13 => ⟨S1x1024, .f32⟩
  | 14 => ⟨S1x1x1024, .f32⟩
  | 15 => ⟨S32x256x1024, .f32⟩
  | 16 => ⟨S_, .f32⟩
  | 17 => ⟨S32x256, .f32⟩
  | 18 => ⟨S32x256x1, .f32⟩
  | 19 => ⟨S_, .f32⟩
  | 20 => ⟨S32x256x1, .f32⟩
  | 21 => ⟨S32x256x1, .f32⟩
  | 22 => ⟨S_, .f32⟩
  | 23 => ⟨S32x256x1, .f32⟩
  | 24 => ⟨S32x256x1, .f32⟩
  | 25 => ⟨S32x256x1, .f32⟩
  | 26 => ⟨S32x256x1024, .f32⟩
  | 27 => ⟨S32x256x1024, .f32⟩
  | 28 => ⟨S_, .f32⟩
  | 29 => ⟨S1x1x1024, .f32⟩
  | 30 => ⟨S1x1x1024, .f32⟩
  | 31 => ⟨S32x256x1024, .f32⟩
  | 32 => ⟨S32x256x1024, .f32⟩
  | 33 => ⟨S32x256x1024, .f32⟩
  | 34 => ⟨S32x256x1024, .f32⟩
  | 35 => ⟨S1024x1792, .f32⟩
  | 36 => ⟨S32x256x1792, .f32⟩
  | 37 => ⟨S32x256x512, .f32⟩
  | 38 => ⟨S32x256x128, .f32⟩
  | 39 => ⟨S32x256x128, .f32⟩
  | 40 => ⟨S32x256x512, .f32⟩
  | 41 => ⟨S32x256x512, .f32⟩
  | 42 => ⟨S32x256x8x64, .f32⟩
  | 43 => ⟨S64, .f32⟩
  | 44 => ⟨S32x256x8x64, .f32⟩
  | 45 => ⟨S_, .f32⟩
  | 46 => ⟨S32x256x8, .f32⟩
  | 47 => ⟨S32x256x8x1, .f32⟩
  | 48 => ⟨S_, .f32⟩
  | 49 => ⟨S32x256x8x1, .f32⟩
  | 50 => ⟨S32x256x8x1, .f32⟩
  | 51 => ⟨S_, .f32⟩
  | 52 => ⟨S32x256x8x1, .f32⟩
  | 53 => ⟨S32x256x8x1, .f32⟩
  | 54 => ⟨S32x256x8x1, .f32⟩
  | 55 => ⟨S32x256x8x64, .f32⟩
  | 56 => ⟨S32x256x8x64, .f32⟩
  | 57 => ⟨S1x1x1x64, .f32⟩
  | 58 => ⟨S32x256x8x64, .f32⟩
  | 59 => ⟨S32x256x8x64, .f32⟩
  | 60 => ⟨S_, .f32⟩
  | 61 => ⟨S32x256x8x64, .f32⟩
  | 62 => ⟨S32x256x8x64, .f32⟩
  | 63 => ⟨S32x256x2x64, .f32⟩
  | 64 => ⟨S64, .f32⟩
  | 65 => ⟨S32x256x2x64, .f32⟩
  | 66 => ⟨S_, .f32⟩
  | 67 => ⟨S32x256x2, .f32⟩
  | 68 => ⟨S32x256x2x1, .f32⟩
  | 69 => ⟨S_, .f32⟩
  | 70 => ⟨S32x256x2x1, .f32⟩
  | 71 => ⟨S32x256x2x1, .f32⟩
  | 72 => ⟨S_, .f32⟩
  | 73 => ⟨S32x256x2x1, .f32⟩
  | 74 => ⟨S32x256x2x1, .f32⟩
  | 75 => ⟨S32x256x2x1, .f32⟩
  | 76 => ⟨S32x256x2x64, .f32⟩
  | 77 => ⟨S32x256x2x64, .f32⟩
  | 78 => ⟨S1x1x1x64, .f32⟩
  | 79 => ⟨S32x256x2x64, .f32⟩
  | 80 => ⟨S32x256x2x64, .f32⟩
  | 81 => ⟨S32x256x2x64, .f32⟩
  | 82 => ⟨S32x256x512, .f32⟩
  | 83 => ⟨S32x256x512, .f32⟩
  | 84 => ⟨S_, .f32⟩
  | 85 => ⟨S32x256x512, .f32⟩
  | 86 => ⟨S32x256x512, .f32⟩
  | 87 => ⟨S32x256x512, .f32⟩
  | 88 => ⟨S_, .f32⟩
  | 89 => ⟨S32x256x512, .f32⟩
  | 90 => ⟨S32x256x512, .f32⟩
  | 91 => ⟨S32x256x512, .f32⟩
  | 92 => ⟨S_, .f32⟩
  | 93 => ⟨S32x256x512, .f32⟩
  | 94 => ⟨S32x256x512, .f32⟩
  | 95 => ⟨S_, .f32⟩
  | 96 => ⟨S32x256x512, .f32⟩
  | 97 => ⟨S32x256x512, .f32⟩
  | 98 => ⟨S32x256x512, .f32⟩
  | 99 => ⟨S32x256x512, .f32⟩
  | 100 => ⟨S32x256x512, .f32⟩
  | 101 => ⟨S_, .f32⟩
  | 102 => ⟨S32x256x512, .f32⟩
  | 103 => ⟨S32x256x512, .f32⟩
  | 104 => ⟨S32x256x512, .f32⟩
  | 105 => ⟨S_, .f32⟩
  | 106 => ⟨S32x256x512, .f32⟩
  | 107 => ⟨S32x256x512, .f32⟩
  | 108 => ⟨S32x256x512, .f32⟩
  | 109 => ⟨S_, .f32⟩
  | 110 => ⟨S32x256x512, .f32⟩
  | 111 => ⟨S32x256x512, .f32⟩
  | 112 => ⟨S_, .f32⟩
  | 113 => ⟨S32x256x512, .f32⟩
  | 114 => ⟨S32x256x512, .f32⟩
  | 115 => ⟨S32x256x512, .f32⟩
  | 116 => ⟨S512, .f32⟩
  | 117 => ⟨S4x128x128, .f32⟩
  | 118 => ⟨S4x128, .f32⟩
  | 119 => ⟨S32x256x512, .f32⟩
  | 120 => ⟨S_, .f32⟩
  | 121 => ⟨S32x256, .f32⟩
  | 122 => ⟨S32x256x1, .f32⟩
  | 123 => ⟨S_, .f32⟩
  | 124 => ⟨S32x256x1, .f32⟩
  | 125 => ⟨S32x256x1, .f32⟩
  | 126 => ⟨S_, .f32⟩
  | 127 => ⟨S32x256x1, .f32⟩
  | _ => ⟨S8192x1024, .f32⟩

abbrev hbmTy0_1 (i : Nat) : BufTy := match i % 128 with
  | 0 => ⟨S32x256x1, .f32⟩
  | 1 => ⟨S32x256x1, .f32⟩
  | 2 => ⟨S32x256x512, .f32⟩
  | 3 => ⟨S32x256x512, .f32⟩
  | 4 => ⟨S1x1x512, .f32⟩
  | 5 => ⟨S32x256x512, .f32⟩
  | 6 => ⟨S32x256x512, .f32⟩
  | 7 => ⟨S32x2x128x4x128, .f32⟩
  | 8 => ⟨S4x32x2x128x128, .f32⟩
  | 9 => ⟨S32x2x128x4x128, .f32⟩
  | 10 => ⟨S128x4, .f32⟩
  | 11 => ⟨S1x1x128x4x1, .f32⟩
  | 12 => ⟨S32x2x128x4x128, .f32⟩
  | 13 => ⟨S32x2x128x4x128, .f32⟩
  | 14 => ⟨S32x256x512, .f32⟩
  | 15 => ⟨S32x256x512, .f32⟩
  | 16 => ⟨S8192x512, .f32⟩
  | 17 => ⟨S8192x512, .bf16⟩
  | 18 => ⟨S8192x128, .f32⟩
  | 19 => ⟨S8192x128, .bf16⟩
  | 20 => ⟨S8192x512, .f32⟩
  | 21 => ⟨S8192x512, .bf16⟩
  | 22 => ⟨S32x1x256x2x64, .f32⟩
  | 23 => ⟨S32x1x256x2x64, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_10 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_11 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_cst_13 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_14 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_15 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_16 : Ref sig .tc := ⟨.hbm, 109, rfl⟩
abbrev main_v84 : Ref sig .tc := ⟨.hbm, 110, rfl⟩
abbrev main_v85 : Ref sig .tc := ⟨.hbm, 111, rfl⟩
abbrev main_cst_17 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_18 : Ref sig .tc := ⟨.hbm, 120, rfl⟩
abbrev main_v93 : Ref sig .tc := ⟨.hbm, 121, rfl⟩
abbrev main_v94 : Ref sig .tc := ⟨.hbm, 122, rfl⟩
abbrev main_cst_19 : Ref sig .tc := ⟨.hbm, 123, rfl⟩
abbrev main_v95 : Ref sig .tc := ⟨.hbm, 124, rfl⟩
abbrev main_v96 : Ref sig .tc := ⟨.hbm, 125, rfl⟩
abbrev main_cst_20 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩

abbrev nD : Nat := 1
abbrev τ : Topo := Topo.v7x

variable {F : FTy → Type} [FloatOps F]
-- ==== PreOdd.lean ====
abbrev S8192x1024 : Shape := ⟨2, ![8192, 1024]⟩
abbrev S2x16x6x1024 : Shape := ⟨4, ![2, 16, 6, 1024]⟩
abbrev S1x1024x1536 : Shape := ⟨3, ![1, 1024, 1536]⟩
abbrev S1x64 : Shape := ⟨2, ![1, 64]⟩
abbrev S256x256 : Shape := ⟨2, ![256, 256]⟩
abbrev S64 : Shape := ⟨1, ![64]⟩
abbrev S16x64 : Shape := ⟨2, ![16, 64]⟩
abbrev S1024 : Shape := ⟨1, ![1024]⟩
abbrev S1x1024 : Shape := ⟨2, ![1, 1024]⟩
abbrev S_ : Shape := ⟨0, ![]⟩
abbrev S4x64 : Shape := ⟨2, ![4, 64]⟩
abbrev S256 : Shape := ⟨1, ![256]⟩
abbrev S1x256 : Shape := ⟨2, ![1, 256]⟩
abbrev S1024x1536 : Shape := ⟨2, ![1024, 1536]⟩
abbrev S8192x256 : Shape := ⟨2, ![8192, 256]⟩
abbrev S32x256x256 : Shape := ⟨3, ![32, 256, 256]⟩
abbrev S1024x1024 : Shape := ⟨2, ![1024, 1024]⟩
abbrev S1x1x6x1024 : Shape := ⟨4, ![1, 1, 6, 1024]⟩
abbrev S1024x256 : Shape := ⟨2, ![1024, 256]⟩
abbrev S4x256x256 : Shape := ⟨3, ![4, 256, 256]⟩
abbrev S6x1024 : Shape := ⟨2, ![6, 1024]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S512x256 : Shape := ⟨2, ![512, 256]⟩
abbrev S1x256x256 : Shape := ⟨3, ![1, 256, 256]⟩
abbrev S32x4x64x256 : Shape := ⟨4, ![32, 4, 64, 256]⟩
abbrev S32x256x4x64 : Shape := ⟨4, ![32, 256, 4, 64]⟩
abbrev S32x1x256x4x64 : Shape := ⟨5, ![32, 1, 256, 4, 64]⟩

abbrev nBuf : Space → Nat
  | .hbm => 31
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S2x16x6x1024, .f32⟩
  | .hbm, ⟨2, _⟩ => ⟨S1x1024x1536, .f32⟩
  | .hbm, ⟨3, _⟩ => ⟨S1x64, .f32⟩
  | .hbm, ⟨4, _⟩ => ⟨S1x64, .f32⟩
  | .hbm, ⟨5, _⟩ => ⟨S256x256, .bf16⟩
  | .hbm, ⟨6, _⟩ => ⟨S64, .f32⟩
  | .hbm, ⟨7, _⟩ => ⟨S64, .f32⟩
  | .hbm, ⟨8, _⟩ => ⟨S1x64, .f32⟩
  | .hbm, ⟨9, _⟩ => ⟨S16x64, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S1x64, .f32⟩
  | .hbm, ⟨16, _⟩ => ⟨S4x64, .f32⟩
  | .hbm, ⟨17, _⟩ => ⟨S256, .f32⟩
  | .hbm, ⟨18, _⟩ => ⟨S1x256, .f32⟩
  | .hbm, ⟨19, _⟩ => ⟨S1024x1536, .f32⟩
  | .hbm, ⟨20, _⟩ => ⟨S1024x1536, .bf16⟩
  | .hbm, ⟨21, _⟩ => ⟨S8192x1024, .bf16⟩
  | .hbm, ⟨22, _⟩ => ⟨S8192x256, .bf16⟩
  | .hbm, ⟨23, _⟩ => ⟨S32x256x256, .f32⟩
  | .hbm, ⟨24, _⟩ => ⟨S32x256x256, .f32⟩
  | .hbm, ⟨25, _⟩ => ⟨S32x4x64x256, .f32⟩
  | .hbm, ⟨26, _⟩ => ⟨S32x256x4x64, .f32⟩
  | .hbm, ⟨27, _⟩ => ⟨S32x4x64x256, .f32⟩
  | .hbm, ⟨28, _⟩ => ⟨S32x256x4x64, .f32⟩
  | .hbm, ⟨29, _⟩ => ⟨S32x1x256x4x64, .f32⟩
  | .hbm, ⟨30, _⟩ => ⟨S32x1x256x4x64, .f32⟩
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1024x1536, .bf16⟩
  | .local _ .vmem, ⟨4, _⟩ => ⟨S256x256, .bf16⟩
  | .local _ .vmem, ⟨5, _⟩ => ⟨S1x1024, .f32⟩
  | .local _ .vmem, ⟨6, _⟩ => ⟨S1x256, .f32⟩
  | .local _ .vmem, ⟨7, _⟩ => ⟨S1024x1024, .bf16⟩
  | .local _ .vmem, ⟨8, _⟩ => ⟨S1024x1024, .bf16⟩
  | .local _ .vmem, ⟨9, _⟩ => ⟨S1024x256, .bf16⟩
  | .local _ .vmem, ⟨10, _⟩ => ⟨S1024x256, .bf16⟩
  | .local _ .vmem, ⟨11, _⟩ => ⟨S4x256x256, .f32⟩
  | .local _ .vmem, ⟨12, _⟩ => ⟨S4x256x256, .f32⟩
  | .local _ .vmem, ⟨13, _⟩ => ⟨S4x256x256, .f32⟩
  | .local _ .vmem, ⟨14, _⟩ => ⟨S4x256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PreOddRefIdeal.lean ====
abbrev S8192x1024 : Shape := ⟨2, ![8192, 1024]⟩
abbrev S2x16x6x1024 : Shape := ⟨4, ![2, 16, 6, 1024]⟩
abbrev S1x1024x1536 : Shape := ⟨3, ![1, 1024, 1536]⟩
abbrev S1x64 : Shape := ⟨2, ![1, 64]⟩
abbrev S32x256x1024 : Shape := ⟨3, ![32, 256, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S1024x1536 : Shape := ⟨2, ![1024, 1536]⟩
abbrev S32x256x1536 : Shape := ⟨3, ![32, 256, 1536]⟩
abbrev S32x256x256 : Shape := ⟨3, ![32, 256, 256]⟩
abbrev S32x256x16x64 : Shape := ⟨4, ![32, 256, 16, 64]⟩
abbrev S64 : Shape := ⟨1, ![64]⟩
abbrev S32x256x16 : Shape := ⟨3, ![32, 256, 16]⟩
abbrev S32x256x16x1 : Shape := ⟨4, ![32, 256, 16, 1]⟩
abbrev S1x1x1x64 : Shape := ⟨4, ![1, 1, 1, 64]⟩
abbrev S32x256x4x64 : Shape := ⟨4, ![32, 256, 4, 64]⟩
abbrev S32x256x4 : Shape := ⟨3, ![32, 256, 4]⟩
abbrev S32x256x4x1 : Shape := ⟨4, ![32, 256, 4, 1]⟩
abbrev S8192x256 : Shape := ⟨2, ![8192, 256]⟩
abbrev S32x1x256x4x64 : Shape := ⟨5, ![32, 1, 256, 4, 64]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x16x6x1024, .f32⟩
  | .hbm, ⟨2, _⟩ => ⟨S1x1024x1536, .f32⟩
  | .hbm, ⟨3, _⟩ => ⟨S1x64, .f32⟩
  | .hbm, ⟨4, _⟩ => ⟨S1x64, .f32⟩
  | .hbm, ⟨5, _⟩ => ⟨S32x256x1024, .f32⟩
  | .hbm, ⟨6, _⟩ => ⟨S1x1x1x1024, .f32⟩
  | .hbm, ⟨7, _⟩ => ⟨S1x1024, .f32⟩
  | .hbm, ⟨8, _⟩ => ⟨S1x1x1024, .f32⟩
  | .hbm, ⟨9, _⟩ => ⟨S1x1x1x1024, .f32⟩
  | .hbm, ⟨10, _⟩ => ⟨S1x1024, .f32⟩
  | .hbm, ⟨11, _⟩ => ⟨S1x1x1024, .f32⟩
  | .hbm, ⟨12, _⟩ => ⟨S32x256x1024, .f32⟩
  | .hbm, ⟨13, _⟩ => ⟨S_, .f32⟩
  | .hbm, ⟨14, _⟩ => ⟨S32x256, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S32x256x1, .f32⟩
  | .hbm, ⟨23, _⟩ => ⟨S32x256x1024, .f32⟩
  | .hbm, ⟨24, _⟩ => ⟨S32x256x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S32x256x1024, .f32⟩
  | .hbm, ⟨29, _⟩ => ⟨S32x256x1024, .f32⟩
  | .hbm, ⟨30, _⟩ => ⟨S32x256x1024, .f32⟩
  | .hbm, ⟨31, _⟩ => ⟨S32x256x1024, .f32⟩
  | .hbm, ⟨32, _⟩ => ⟨S1024x1536, .f32⟩
  | .hbm, ⟨33, _⟩ => ⟨S32x256x1536, .f32⟩
  | .hbm, ⟨34, _⟩ => ⟨S32x256x1024, .f32⟩
  | .hbm, ⟨35, _⟩ => ⟨S32x256x256, .f32⟩
  | .hbm, ⟨36, _⟩ => ⟨S32x256x256, .f32⟩
  | .hbm, ⟨37, _⟩ => ⟨S32x256x16x64, .f32⟩
  | .hbm, ⟨38, _⟩ => ⟨S64, .f32⟩
  | .hbm, ⟨39, _⟩ => ⟨S32x256x16x64, .f32⟩
  | .hbm, ⟨40, _⟩ => ⟨S_, .f32⟩
  | .hbm, ⟨41, _⟩ => ⟨S32x256x16, .f32⟩
  | .hbm, ⟨42, _⟩ => ⟨S32x256x16x1, .f32⟩
  | .hbm, ⟨43, _⟩ => ⟨S_, .f32⟩
  | .hbm, ⟨44, _⟩ => ⟨S32x256x16x1, .f32⟩
  | .hbm, ⟨45, _⟩ => ⟨S32x256x16x1, .f32⟩
  | .hbm, ⟨46, _⟩ => ⟨S_, .f32⟩
  | .hbm, ⟨47, _⟩ => ⟨S32x256x16x1, .f32⟩
  | .hbm, ⟨48, _⟩ => ⟨S32x256x16x1, .f32⟩
  | .hbm, ⟨49, _⟩ => ⟨S32x256x16x1, .f32⟩
  | .hbm, ⟨50, _⟩ => ⟨S32x256x16x64, .f32⟩
  | .hbm, ⟨51, _⟩ => ⟨S32x256x16x64, .f32⟩
  | .hbm, ⟨52, _⟩ => ⟨S1x1x1x64, .f32⟩
  | .hbm, ⟨53, _⟩ => ⟨S32x256x16x64, .f32⟩
  | .hbm, ⟨54, _⟩ => ⟨S32x256x16x64, .f32⟩
  | .hbm, ⟨55, _⟩ => ⟨S_, .f32⟩
  | .hbm, ⟨56, _⟩ => ⟨S32x256x16x64, .f32⟩
  | .hbm, ⟨57, _⟩ => ⟨S32x256x16x64, .f32⟩
  | .hbm, ⟨58, _⟩ => ⟨S32x256x4x64, .f32⟩
  | .hbm, ⟨59, _⟩ => ⟨S64, .f32⟩
  | .hbm, ⟨60, _⟩ => ⟨S32x256x4x64, .f32⟩
  | .hbm, ⟨61, _⟩ => ⟨S_, .f32⟩
  | .hbm, ⟨62, _⟩ => ⟨S32x256x4, .f32⟩
  | .hbm, ⟨63, _⟩ => ⟨S32x256x4x1, .f32⟩
  | .hbm, ⟨64, _⟩ => ⟨S_, .f32⟩
  | .hbm, ⟨65, _⟩ => ⟨S32x256x4x1, .f32⟩
  | .hbm, ⟨66, _⟩ => ⟨S32x256x4x1, .f32⟩
  | .hbm, ⟨67, _⟩ => ⟨S_, .f32⟩
  | .hbm, ⟨68, _⟩ => ⟨S32x256x4x1, .f32⟩
  | .hbm, ⟨69, _⟩ => ⟨S32x256x4x1, .f32⟩
  | .hbm, ⟨70, _⟩ => ⟨S32x256x4x1, .f32⟩
  | .hbm, ⟨71, _⟩ => ⟨S32x256x4x64, .f32⟩
  | .hbm, ⟨72, _⟩ => ⟨S32x256x4x64, .f32⟩
  | .hbm, ⟨73, _⟩ => ⟨S1x1x1x64, .f32⟩
  | .hbm, ⟨74, _⟩ => ⟨S32x256x4x64, .f32⟩
  | .hbm, ⟨75, _⟩ => ⟨S32x256x4x64, .f32⟩
  | .hbm, ⟨76, _⟩ => ⟨S32x256x4x64, .f32⟩
  | .hbm, ⟨77, _⟩ => ⟨S8192x1024, .f32⟩
  | .hbm, ⟨78, _⟩ => ⟨S8192x1024, .bf16⟩
  | .hbm, ⟨79, _⟩ => ⟨S8192x256, .f32⟩
  | .hbm, ⟨80, _⟩ => ⟨S8192x256, .bf16⟩
  | .hbm, ⟨81, _⟩ => ⟨S32x1x256x4x64, .f32⟩
  | .hbm, ⟨82, _⟩ => ⟨S32x1x256x4x64, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩

abbrev nD : Nat := 1
abbrev τ : Topo := Topo.v7x

variable {F : FTy → Type} [FloatOps F]
-- ==== PostEven.lean ====
abbrev S16384x1024 : Shape := ⟨2, ![16384, 1024]⟩
abbrev S16384x512 : Shape := ⟨2, ![16384, 512]⟩
abbrev S2x16x6x1024 : Shape := ⟨4, ![2, 16, 6, 1024]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x1x5632 : Shape := ⟨3, ![2, 1, 5632]⟩
abbrev S2x11x256x1024 : Shape := ⟨4, ![2, 11, 256, 1024]⟩
abbrev S1024x1024 : Shape := ⟨2, ![1024, 1024]⟩
abbrev S512x1024 : Shape := ⟨2, ![512, 1024]⟩
abbrev S16x1024 : Shape := ⟨2, ![16, 1024]⟩
abbrev S512x512 : Shape := ⟨2, ![512, 512]⟩
abbrev S16x512 : Shape := ⟨2, ![16, 512]⟩
abbrev S1x1x6x1024 : Shape := ⟨4, ![1, 1, 6, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x11x256x1024 : Shape := ⟨4, ![1, 11, 256, 1024]⟩
abbrev S544x1024 : Shape := ⟨2, ![544, 1024]⟩
abbrev S544x256 : Shape := ⟨2, ![544, 256]⟩
abbrev S6x1024 : Shape := ⟨2, ![6, 1024]⟩
abbrev S544x512 : Shape := ⟨2, ![544, 512]⟩
abbrev S272x1024 : Shape := ⟨2, ![272, 1024]⟩
abbrev S1x1024 : Shape := ⟨2, ![1, 1024]⟩
abbrev S272 : Shape := ⟨1, ![272]⟩
abbrev S272x1 : Shape := ⟨2, ![272, 1]⟩
abbrev S256x1024 : Shape := ⟨2, ![256, 1024]⟩
abbrev S1x1024x256 : Shape := ⟨3, ![1, 1024, 256]⟩
abbrev S1024x256 : Shape := ⟨2, ![1024, 256]⟩
abbrev S512x256 : Shape := ⟨2, ![512, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩
abbrev S1x1x256x1024 : Shape := ⟨4, ![1, 1, 256, 1024]⟩

abbrev nBuf : Space → Nat
  | .hbm => 16
  | .vmem => 34
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S2x16x6x1024, .f32⟩
  | .hbm, ⟨4, _⟩ => ⟨S1x1024x1024, .f32⟩
  | .hbm, ⟨5, _⟩ => ⟨S2x1024x5632, .f32⟩
  | .hbm, ⟨6, _⟩ => ⟨S2x3x5632, .f32⟩
  | .hbm, ⟨7, _⟩ => ⟨S2x5632, .f32⟩
  | .hbm, ⟨8, _⟩ => ⟨S2x2816x1024, .f32⟩
  | .hbm, ⟨9, _⟩ => ⟨S2x1024x5632, .bf16⟩
  | .hbm, ⟨10, _⟩ => ⟨S2x1x5632, .f32⟩
  | .hbm, ⟨11, _⟩ => ⟨S2x2816x1024, .bf16⟩
  | .hbm, ⟨12, _⟩ => ⟨S2x11x256x1024, .bf16⟩
  | .hbm, ⟨13, _⟩ => ⟨S1024x1024, .f32⟩
  | .hbm, ⟨14, _⟩ => ⟨S1024x1024, .bf16⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S512x512, .bf16⟩
  | .local _ .vmem, ⟨13, _⟩ => ⟨S512x512, .bf16⟩
  | .local _ .vmem, ⟨14, _⟩ => ⟨S16x512, .bf16⟩
  | .local _ .vmem, ⟨15, _⟩ => ⟨S16x512, .bf16⟩
  | .local _ .vmem, ⟨16, _⟩ => ⟨S16x512, .bf16⟩
  | .local _ .vmem, ⟨17, _⟩ => ⟨S16x512, .bf16⟩
  | .local _ .vmem, ⟨18, _⟩ => ⟨S1x1x6x1024, .f32⟩
  | .local _ .vmem, ⟨19, _⟩ => ⟨S1x1x6x1024, .f32⟩
  | .local _ .vmem, ⟨20, _⟩ => ⟨S1024x1024, .bf16⟩
  | .local _ .vmem, ⟨21, _⟩ => ⟨S1x1024x5632, .bf16⟩
  | .local _ .vmem, ⟨22, _⟩ => ⟨S1x3x5632, .f32⟩
  | .local _ .vmem, ⟨23, _⟩ => ⟨S1x1x5632, .f32⟩
  | .local _ .vmem, ⟨24, _⟩ => ⟨S1x11x256x1024, .bf16⟩
  | .local _ .vmem, ⟨25, _⟩ => ⟨S512x1024, .f32⟩
  | .local _ .vmem, ⟨26, _⟩ => ⟨S512x1024, .f32⟩
  | .local _ .vmem, ⟨27, _⟩ => ⟨S544x1024, .bf16⟩
  | .local _ .vmem, ⟨28, _⟩ => ⟨S512x1024, .f32⟩
  | .local _ .vmem, ⟨29, _⟩ => ⟨S512x1024, .f32⟩
  | .local _ .vmem, ⟨30, _⟩ => ⟨S544x256, .f32⟩
  | .local _ .vmem, ⟨31, _⟩ => ⟨S544x256, .f32⟩
  | .local _ .vmem, ⟨32, _⟩ => ⟨S544x256, .f32⟩
  | .local _ .vmem, ⟨33, _⟩ => ⟨S544x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  let c0_i32_8 : BitVec 32 := 0#32
  ![c0_i32_5.toNat, v17.toNat, c0_i32_6.toNat, c0_i32_7.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x6x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x11x256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== PostEvenRefIdeal.lean ====
abbrev S16384x1024 : Shape := ⟨2, ![16384, 1024]⟩
abbrev S16384x512 : Shape := ⟨2, ![16384, 512]⟩
abbrev S2x16x6x1024 : Shape := ⟨4, ![2, 16, 6, 1024]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S8x2048x1024 : Shape := ⟨3, ![8, 2048, 1024]⟩
abbrev S8x2048x512 : Shape := ⟨3, ![8, 2048, 512]⟩
abbrev S1x8x1x1024 : Shape := ⟨4, ![1, 8, 1, 1024]⟩
abbrev S8x1024 : Shape := ⟨2, ![8, 1024]⟩
abbrev S8x1x1024 : Shape := ⟨3, ![8, 1, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S8x2050x5632 : Shape := ⟨3, ![8, 2050, 5632]⟩
abbrev S1x1x5632 : Shape := ⟨3, ![1, 1, 5632]⟩
abbrev S8x2048x2816 : Shape := ⟨3, ![8, 2048, 2816]⟩

abbrev nBuf : Space → Nat
  | .hbm => 113
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S2x16x6x1024, .f32⟩
  | .hbm, ⟨4, _⟩ => ⟨S1x1024x1024, .f32⟩
  | .hbm, ⟨5, _⟩ => ⟨S2x1024x5632, .f32⟩
  | .hbm, ⟨6, _⟩ => ⟨S2x3x5632, .f32⟩
  | .hbm, ⟨7, _⟩ => ⟨S2x5632, .f32⟩
  | .hbm, ⟨8, _⟩ => ⟨S2x2816x1024, .f32⟩
  | .hbm, ⟨9, _⟩ => ⟨S8x2048x1024, .f32⟩
  | .hbm, ⟨10, _⟩ => ⟨S16384x512, .f32⟩
  | .hbm, ⟨11, _⟩ => ⟨S8x2048x512, .f32⟩
  | .hbm, ⟨12, _⟩ => ⟨S16384x512, .f32⟩
  | .hbm, ⟨13, _⟩ => ⟨S8x2048x512, .f32⟩
  | .hbm, ⟨14, _⟩ => ⟨S1x8x1x1024, .f32⟩
  | .hbm, ⟨15, _⟩ => ⟨S8x1024, .f32⟩
  | .hbm, ⟨16, _⟩ => ⟨S8x1x1024, .f32⟩
  | .hbm, ⟨17, _⟩ => ⟨S1x8x1x1024, .f32⟩
  | .hbm, ⟨18, _⟩ => ⟨S8x1024, .f32⟩
  | .hbm, ⟨19, _⟩ => ⟨S8x1x1024, .f32⟩
  | .hbm, ⟨20, _⟩ => ⟨S1x8x1x1024, .f32⟩
  | .hbm, ⟨21, _⟩ => ⟨S8x1024, .f32⟩
  | .hbm, ⟨22, _⟩ => ⟨S8x1x1024, .f32⟩
  | .hbm, ⟨23, _⟩ => ⟨S1x8x1x1024, .f32⟩
  | .hbm, ⟨24, _⟩ => ⟨S8x1024, .f32⟩
  | .hbm, ⟨25, _⟩ => ⟨S8x1x1024, .f32⟩
  | .hbm, ⟨26, _⟩ => ⟨S1x8x1x1024, .f32⟩
  | .hbm, ⟨27, _⟩ => ⟨S8x1024, .f32⟩
  | .hbm, ⟨28, _⟩ => ⟨S8x1x1024, .f32⟩
  | .hbm, ⟨29, _⟩ => ⟨S1x8x1x1024, .f32⟩
  | .hbm, ⟨30, _⟩ => ⟨S8x1024, .f32⟩
  | .hbm, ⟨31, _⟩ => ⟨S8x1x1024, .f32⟩
  | .hbm, ⟨32, _⟩ => ⟨S8x2048x1024, .f32⟩
  | .hbm, ⟨33, _⟩ => ⟨S1024x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S8x2048x1, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x1x1024, .f32⟩
  | .hbm, ⟨53, _⟩ => ⟨S8x1x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S1x1024x5632, .f32⟩
  | .hbm, ⟨59, _⟩ => ⟨S1024x5632, .f32⟩
  | .hbm, ⟨60, _⟩ => ⟨S1x3x5632, .f32⟩
  | .hbm, ⟨61, _⟩ => ⟨S3x5632, .f32⟩
  | .hbm, ⟨62, _⟩ => ⟨S1x5632, .f32⟩
  | .hbm, ⟨63, _⟩ => ⟨S5632, .f32⟩
  | .hbm, ⟨64, _⟩ => ⟨S1x2816x1024, .f32⟩
  | .hbm, ⟨65, _⟩ => ⟨S2816x1024, .f32⟩
  | .hbm, ⟨66, _⟩ => ⟨S8x2048x5632, .f32⟩
  | .hbm, ⟨67, _⟩ => ⟨S_, .i32⟩
  | .hbm, ⟨68, _⟩ => ⟨S_, .f32⟩
  | .hbm, ⟨69, _⟩ => ⟨S8x2050x5632, .f32⟩
  | .hbm, ⟨70, _⟩ => ⟨S8x2048x5632, .f32⟩
  | .hbm, ⟨71, _⟩ => ⟨S1x5632, .f32⟩
  | .hbm, ⟨72, _⟩ => ⟨S5632, .f32⟩
  | .hbm, ⟨73, _⟩ => ⟨S1x1x5632, .f32⟩
  | .hbm, ⟨74, _⟩ => ⟨S8x2048x5632, .f32⟩
  | .hbm, ⟨75, _⟩ => ⟨S8x2048x5632, .f32⟩
  | .hbm, ⟨76, _⟩ => ⟨S_, .f32⟩
  | .hbm, ⟨77, _⟩ => ⟨S8x2048x5632, .f32⟩
  | .hbm, ⟨78, _⟩ => ⟨S8x2048x5632, .f32⟩
  | .hbm, ⟨79, _⟩ => ⟨S8x2048x5632, .f32⟩
  | .hbm, ⟨80, _⟩ => ⟨S1x5632, .f32⟩
  | .hbm, ⟨81, _⟩ => ⟨S5632, .f32⟩
  | .hbm, ⟨82, _⟩ => ⟨S1x1x5632, .f32⟩
  | .hbm, ⟨83, _⟩ => ⟨S8x2048x5632, .f32⟩
  | .hbm, ⟨84, _⟩ => ⟨S8x2048x5632, .f32⟩
  | .hbm, ⟨85, _⟩ => ⟨S8x2048x5632, .f32⟩
  | .hbm, ⟨86, _⟩ => ⟨S8x2048x5632, .f32⟩
  | .hbm, ⟨87, _⟩ => ⟨S1x5632, .f32⟩
  | .hbm, ⟨88, _⟩ => ⟨S5632, .f32⟩
  | .hbm, ⟨89, _⟩ => ⟨S1x1x5632, .f32⟩
  | .hbm, ⟨90, _⟩ => ⟨S8x2048x5632, .f32⟩
  | .hbm, ⟨91, _⟩ => ⟨S8x2048x5632, .f32⟩
  | .hbm, ⟨92, _⟩ => ⟨S8x2048x5632, .f32⟩
  | .hbm, ⟨93, _⟩ => ⟨S1x1x5632, .f32⟩
  | .hbm, ⟨94, _⟩ => ⟨S8x2048x5632, .f32⟩
  | .hbm, ⟨95, _⟩ => ⟨S8x2048x5632, .f32⟩
  | .hbm, ⟨96, _⟩ => ⟨S8x2048x2816, .f32⟩
  | .hbm, ⟨97, _⟩ => ⟨S8x2048x2816, .f32⟩
  | .hbm, ⟨98, _⟩ => ⟨S8x2048x2816, .f32⟩
  | .hbm, ⟨99, _⟩ => ⟨S8x2048x2816, .f32⟩
  | .hbm, ⟨100, _⟩ => ⟨S_, .f32⟩
  | .hbm, ⟨101, _⟩ => ⟨S8x2048x2816, .f32⟩
  | .hbm, ⟨102, _⟩ => ⟨S8x2048x2816, .f32⟩
  | .hbm, ⟨103, _⟩ => ⟨S_, .f32⟩
  | .hbm, ⟨104, _⟩ => ⟨S8x2048x2816, .f32⟩
  | .hbm, ⟨105, _⟩ => ⟨S8x2048x2816, .f32⟩
  | .hbm, ⟨106, _⟩ => ⟨S8x2048x2816, .f32⟩
  | .hbm, ⟨107, _⟩ => ⟨S8x2048x2816, .f32⟩
  | .hbm, ⟨108, _⟩ => ⟨S8x2048x1024, .f32⟩
  | .hbm, ⟨109, _⟩ => ⟨S8x2048x1024, .f32⟩
  | .hbm, ⟨110, _⟩ => ⟨S8x2048x1024, .f32⟩
  | .hbm, ⟨111, _⟩ => ⟨S8x2048x1024, .f32⟩
  | .hbm, ⟨112, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_cst_0 : Ref sig .tc := ⟨.hbm, 42, rfl⟩
abbrev main_v32 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_c : Ref sig .tc := ⟨.hbm, 67, rfl⟩
abbrev main_call0_v0 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_3 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_call1_v0 : Ref sig .tc := ⟨.hbm, 98, rfl⟩
abbrev main_call1_v1 : Ref sig .tc := ⟨.hbm, 99, rfl⟩
abbrev main_call1_cst : Ref sig .tc := ⟨.hbm, 100, rfl⟩
abbrev main_call1_v2 : Ref sig .tc := ⟨.hbm, 101, rfl⟩
abbrev main_call1_v3 : Ref sig .tc := ⟨.hbm, 102, rfl⟩
abbrev main_call1_cst_0 : Ref sig .tc := ⟨.hbm, 103, rfl⟩
abbrev main_call1_v4 : Ref sig .tc := ⟨.hbm, 104, rfl⟩
abbrev main_call1_v5 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩

abbrev nD : Nat := 1
abbrev τ : Topo := Topo.v7x

variable {F : FTy → Type} [FloatOps F]
-- ==== PostEvenCtx.lean ====
abbrev S8192x1024 : Shape := ⟨2, ![8192, 1024]⟩
abbrev S8192x512 : Shape := ⟨2, ![8192, 512]⟩
abbrev S2x16x6x1024 : Shape := ⟨4, ![2, 16, 6, 1024]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x1x5632 : Shape := ⟨3, ![2, 1, 5632]⟩
abbrev S2x11x256x1024 : Shape := ⟨4, ![2, 11, 256, 1024]⟩
abbrev S1024x1024 : Shape := ⟨2, ![1024, 1024]⟩
abbrev S512x1024 : Shape := ⟨2, ![512, 1024]⟩
abbrev S512x512 : Shape := ⟨2, ![512, 512]⟩
abbrev S1x1x6x1024 : Shape := ⟨4, ![1, 1, 6, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x11x256x1024 : Shape := ⟨4, ![1, 11, 256, 1024]⟩
abbrev S512x256 : Shape := ⟨2, ![512, 256]⟩
abbrev S6x1024 : Shape := ⟨2, ![6, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩
abbrev S1x1x256x1024 : Shape := ⟨4, ![1, 1, 256, 1024]⟩

abbrev nBuf : Space → Nat
  | .hbm => 16
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S2x16x6x1024, .f32⟩
  | .hbm, ⟨4, _⟩ => ⟨S1x1024x1024, .f32⟩
  | .hbm, ⟨5, _⟩ => ⟨S2x1024x5632, .f32⟩
  | .hbm, ⟨6, _⟩ => ⟨S2x3x5632, .f32⟩
  | .hbm, ⟨7, _⟩ => ⟨S2x5632, .f32⟩
  | .hbm, ⟨8, _⟩ => ⟨S2x2816x1024, .f32⟩
  | .hbm, ⟨9, _⟩ => ⟨S2x1024x5632, .bf16⟩
  | .hbm, ⟨10, _⟩ => ⟨S2x1x5632, .f32⟩
  | .hbm, ⟨11, _⟩ => ⟨S2x2816x1024, .bf16⟩
  | .hbm, ⟨12, _⟩ => ⟨S2x11x256x1024, .bf16⟩
  | .hbm, ⟨13, _⟩ => ⟨S1024x1024, .f32⟩
  | .hbm, ⟨14, _⟩ => ⟨S1024x1024, .bf16⟩
  | .hbm, ⟨15, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1x6x1024, .f32⟩
  | .local _ .vmem, ⟨7, _⟩ => ⟨S1024x1024, .bf16⟩
  | .local _ .vmem, ⟨8, _⟩ => ⟨S1x1024x5632, .bf16⟩
  | .local _ .vmem, ⟨9, _⟩ => ⟨S1x3x5632, .f32⟩
  | .local _ .vmem, ⟨10, _⟩ => ⟨S1x1x5632, .f32⟩
  | .local _ .vmem, ⟨11, _⟩ => ⟨S1x11x256x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x11x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PostEvenCtxRefIdeal.lean ====
abbrev S8192x1024 : Shape := ⟨2, ![8192, 1024]⟩
abbrev S8192x512 : Shape := ⟨2, ![8192, 512]⟩
abbrev S2x16x6x1024 : Shape := ⟨4, ![2, 16, 6, 1024]⟩
abbrev S1x1024x1024 : Shape := ⟨3, ![1, 1024, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S32x256x1024 : Shape := ⟨3, ![32, 256, 1024]⟩
abbrev S32x256x512 : Shape := ⟨3, ![32, 256, 512]⟩
abbrev S1x1x1x1024 : Shape := ⟨4, ![1, 1, 1, 1024]⟩
abbrev S1x1024 : Shape := ⟨2, ![1, 1024]⟩
abbrev S1x1x1024 : Shape := ⟨3, ![1, 1, 1024]⟩
abbrev S1024x1024 : Shape := ⟨2, ![1024, 1024]⟩
abbrev S_ : Shape := ⟨0, ![]⟩
abbrev S32x256 : Shape := ⟨2, ![32, 256]⟩
abbrev S32x256x1 : Shape := ⟨3, ![32, 256, 1]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S32x256x5632 : Shape := ⟨3, ![32, 256, 5632]⟩
abbrev S32x258x5632 : Shape := ⟨3, ![32, 258, 5632]⟩
abbrev S1x1x5632 : Shape := ⟨3, ![1, 1, 5632]⟩
abbrev S32x256x2816 : Shape := ⟨3, ![32, 256, 2816]⟩

abbrev nBuf : Space → Nat
  | .hbm => 113
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S2x16x6x1024, .f32⟩
  | .hbm, ⟨4, _⟩ => ⟨S1x1024x1024, .f32⟩
  | .hbm, ⟨5, _⟩ => ⟨S2x1024x5632, .f32⟩
  | .hbm, ⟨6, _⟩ => ⟨S2x3x5632, .f32⟩
  | .hbm, ⟨7, _⟩ => ⟨S2x5632, .f32⟩
  | .hbm, ⟨8, _⟩ => ⟨S2x2816x1024, .f32⟩
  | .hbm, ⟨9, _⟩ => ⟨S32x256x1024, .f32⟩
  | .hbm, ⟨10, _⟩ => ⟨S8192x512, .f32⟩
  | .hbm, ⟨11, _⟩ => ⟨S32x256x512, .f32⟩
  | .hbm, ⟨12, _⟩ => ⟨S8192x512, .f32⟩
  | .hbm, ⟨13, _⟩ => ⟨S32x256x512, .f32⟩
  | .hbm, ⟨14, _⟩ => ⟨S1x1x1x1024, .f32⟩
  | .hbm, ⟨15, _⟩ => ⟨S1x1024, .f32⟩
  | .hbm, ⟨16, _⟩ => ⟨S1x1x1024, .f32⟩
  | .hbm, ⟨17, _⟩ => ⟨S1x1x1x1024, .f32⟩
  | .hbm, ⟨18, _⟩ => ⟨S1x1024, .f32⟩
  | .hbm, ⟨19, _⟩ => ⟨S1x1x1024, .f32⟩
  | .hbm, ⟨20, _⟩ => ⟨S1x1x1x1024, .f32⟩
  | .hbm, ⟨21, _⟩ => ⟨S1x1024, .f32⟩
  | .hbm, ⟨22, _⟩ => ⟨S1x1x1024, .f32⟩
  | .hbm, ⟨23, _⟩ => ⟨S1x1x1x1024, .f32⟩
  | .hbm, ⟨24, _⟩ => ⟨S1x1024, .f32⟩
  | .hbm, ⟨25, _⟩ => ⟨S1x1x1024, .f32⟩
  | .hbm, ⟨26, _⟩ => ⟨S1x1x1x1024, .f32⟩
  | .hbm, ⟨27, _⟩ => ⟨S1x1024, .f32⟩
  | .hbm, ⟨28, _⟩ => ⟨S1x1x1024, .f32⟩
  | .hbm, ⟨29, _⟩ => ⟨S1x1x1x1024, .f32⟩
  | .hbm, ⟨30, _⟩ => ⟨S1x1024, .f32⟩
  | .hbm, ⟨31, _⟩ => ⟨S1x1x1024, .f32⟩
  | .hbm, ⟨32, _⟩ => ⟨S32x256x1024, .f32⟩
  | .hbm, ⟨33, _⟩ => ⟨S1024x1024, .f32⟩
  | .hbm, ⟨34, _⟩ => ⟨S32x256x1024, .f32⟩
  | .hbm, ⟨35, _⟩ => ⟨S32x256x1024, .f32⟩
  | .hbm, ⟨36, _⟩ => ⟨S32x256x1024, .f32⟩
  | .hbm, ⟨37, _⟩ => ⟨S32x256x1024, .f32⟩
  | .hbm, ⟨38, _⟩ => ⟨S32x256x1024, .f32⟩
  | .hbm, ⟨39, _⟩ => ⟨S_, .f32⟩
  | .hbm, ⟨40, _⟩ => ⟨S32x256, .f32⟩
  | .hbm, ⟨41, _⟩ => ⟨S32x256x1, .f32⟩
  | .hbm, ⟨42, _⟩ => ⟨S_, .f32⟩
  | .hbm, ⟨43, _⟩ => ⟨S32x256x1, .f32⟩
  | .hbm, ⟨44, _⟩ => ⟨S32x256x1, .f32⟩
  | .hbm, ⟨45, _⟩ => ⟨S_, .f32⟩
  | .hbm, ⟨46, _⟩ => ⟨S32x256x1, .f32⟩
  | .hbm, ⟨47, _⟩ => ⟨S32x256x1, .f32⟩
  | .hbm, ⟨48, _⟩ => ⟨S32x256x1, .f32⟩
  | .hbm, ⟨49, _⟩ => ⟨S32x256x1024, .f32⟩
  | .hbm, ⟨50, _⟩ => ⟨S32x256x1024, .f32⟩
  | .hbm, ⟨51, _⟩ => ⟨S_, .f32⟩
  | .hbm, ⟨52, _⟩ => ⟨S1x1x1024, .f32⟩
  | .hbm, ⟨53, _⟩ => ⟨S1x1x1024, .f32⟩
  | .hbm, ⟨54, _⟩ => ⟨S32x256x1024, .f32⟩
  | .hbm, ⟨55, _⟩ => ⟨S32x256x1024, .f32⟩
  | .hbm, ⟨56, _⟩ => ⟨S32x256x1024, .f32⟩
  | .hbm, ⟨57, _⟩ => ⟨S32x256x1024, .f32⟩
  | .hbm, ⟨58, _⟩ => ⟨S1x1024x5632, .f32⟩
  | .hbm, ⟨59, _⟩ => ⟨S1024x5632, .f32⟩
  | .hbm, ⟨60, _⟩ => ⟨S1x3x5632, .f32⟩
  | .hbm, ⟨61, _⟩ => ⟨S3x5632, .f32⟩
  | .hbm, ⟨62, _⟩ => ⟨S1x5632, .f32⟩
  | .hbm, ⟨63, _⟩ => ⟨S5632, .f32⟩
  | .hbm, ⟨64, _⟩ => ⟨S1x2816x1024, .f32⟩
  | .hbm, ⟨65, _⟩ => ⟨S2816x1024, .f32⟩
  | .hbm, ⟨66, _⟩ => ⟨S32x256x5632, .f32⟩
  | .hbm, ⟨67, _⟩ => ⟨S_, .i32⟩
  | .hbm, ⟨68, _⟩ => ⟨S_, .f32⟩
  | .hbm, ⟨69, _⟩ => ⟨S32x258x5632, .f32⟩
  | .hbm, ⟨70, _⟩ => ⟨S32x256x5632, .f32⟩
  | .hbm, ⟨71, _⟩ => ⟨S1x5632, .f32⟩
  | .hbm, ⟨72, _⟩ => ⟨S5632, .f32⟩
  | .hbm, ⟨73, _⟩ => ⟨S1x1x5632, .f32⟩
  | .hbm, ⟨74, _⟩ => ⟨S32x256x5632, .f32⟩
  | .hbm, ⟨75, _⟩ => ⟨S32x256x5632, .f32⟩
  | .hbm, ⟨76, _⟩ => ⟨S_, .f32⟩
  | .hbm, ⟨77, _⟩ => ⟨S32x256x5632, .f32⟩
  | .hbm, ⟨78, _⟩ => ⟨S32x256x5632, .f32⟩
  | .hbm, ⟨79, _⟩ => ⟨S32x256x5632, .f32⟩
  | .hbm, ⟨80, _⟩ => ⟨S1x5632, .f32⟩
  | .hbm, ⟨81, _⟩ => ⟨S5632, .f32⟩
  | .hbm, ⟨82, _⟩ => ⟨S1x1x5632, .f32⟩
  | .hbm, ⟨83, _⟩ => ⟨S32x256x5632, .f32⟩
  | .hbm, ⟨84, _⟩ => ⟨S32x256x5632, .f32⟩
  | .hbm, ⟨85, _⟩ => ⟨S32x256x5632, .f32⟩
  | .hbm, ⟨86, _⟩ => ⟨S32x256x5632, .f32⟩
  | .hbm, ⟨87, _⟩ => ⟨S1x5632, .f32⟩
  | .hbm, ⟨88, _⟩ => ⟨S5632, .f32⟩
  | .hbm, ⟨89, _⟩ => ⟨S1x1x5632, .f32⟩
  | .hbm, ⟨90, _⟩ => ⟨S32x256x5632, .f32⟩
  | .hbm, ⟨91, _⟩ => ⟨S32x256x5632, .f32⟩
  | .hbm, ⟨92, _⟩ => ⟨S32x256x5632, .f32⟩
  | .hbm, ⟨93, _⟩ => ⟨S1x1x5632, .f32⟩
  | .hbm, ⟨94, _⟩ => ⟨S32x256x5632, .f32⟩
  | .hbm, ⟨95, _⟩ => ⟨S32x256x5632, .f32⟩
  | .hbm, ⟨96, _⟩ => ⟨S32x256x2816, .f32⟩
  | .hbm, ⟨97, _⟩ => ⟨S32x256x2816, .f32⟩
  | .hbm, ⟨98, _⟩ => ⟨S32x256x2816, .f32⟩
  | .hbm, ⟨99, _⟩ => ⟨S32x256x2816, .f32⟩
  | .hbm, ⟨100, _⟩ => ⟨S_, .f32⟩
  | .hbm, ⟨101, _⟩ => ⟨S32x256x2816, .f32⟩
  | .hbm, ⟨102, _⟩ => ⟨S32x256x2816, .f32⟩
  | .hbm, ⟨103, _⟩ => ⟨S_, .f32⟩
  | .hbm, ⟨104, _⟩ => ⟨S32x256x2816, .f32⟩
  | .hbm, ⟨105, _⟩ => ⟨S32x256x2816, .f32⟩
  | .hbm, ⟨106, _⟩ => ⟨S32x256x2816, .f32⟩
  | .hbm, ⟨107, _⟩ => ⟨S32x256x2816, .f32⟩
  | .hbm, ⟨108, _⟩ => ⟨S32x256x1024, .f32⟩
  | .hbm, ⟨109, _⟩ => ⟨S32x256x1024, .f32⟩
  | .hbm, ⟨110, _⟩ => ⟨S32x256x1024, .f32⟩
  | .hbm, ⟨111, _⟩ => ⟨S32x256x1024, .f32⟩
  | .hbm, ⟨112, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_cst_0 : Ref sig .tc := ⟨.hbm, 42, rfl⟩
abbrev main_v32 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_c : Ref sig .tc := ⟨.hbm, 67, rfl⟩
abbrev main_call0_v0 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_3 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_call1_v0 : Ref sig .tc := ⟨.hbm, 98, rfl⟩
abbrev main_call1_v1 : Ref sig .tc := ⟨.hbm, 99, rfl⟩
abbrev main_call1_cst : Ref sig .tc := ⟨.hbm, 100, rfl⟩
abbrev main_call1_v2 : Ref sig .tc := ⟨.hbm, 101, rfl⟩
abbrev main_call1_v3 : Ref sig .tc := ⟨.hbm, 102, rfl⟩
abbrev main_call1_cst_0 : Ref sig .tc := ⟨.hbm, 103, rfl⟩
abbrev main_call1_v4 : Ref sig .tc := ⟨.hbm, 104, rfl⟩
abbrev main_call1_v5 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩

abbrev nD : Nat := 1
abbrev τ : Topo := Topo.v7x

variable {F : FTy → Type} [FloatOps F]
-- ==== PreOddLat.lean ====
abbrev S16384x1024 : Shape := ⟨2, ![16384, 1024]⟩
abbrev S2x16x6x1024 : Shape := ⟨4, ![2, 16, 6, 1024]⟩
abbrev S1x1024x1536 : Shape := ⟨3, ![1, 1024, 1536]⟩
abbrev S1x64 : Shape := ⟨2, ![1, 64]⟩
abbrev S2048x32 : Shape := ⟨2, ![2048, 32]⟩
abbrev S256x256 : Shape := ⟨2, ![256, 256]⟩
abbrev S64 : Shape := ⟨1, ![64]⟩
abbrev S16x64 : Shape := ⟨2, ![16, 64]⟩
abbrev S1024 : Shape := ⟨1, ![1024]⟩
abbrev S1x1024 : Shape := ⟨2, ![1, 1024]⟩
abbrev S_ : Shape := ⟨0, ![]⟩
abbrev S4x64 : Shape := ⟨2, ![4, 64]⟩
abbrev S256 : Shape := ⟨1, ![256]⟩
abbrev S1x256 : Shape := ⟨2, ![1, 256]⟩
abbrev S1024x1536 : Shape := ⟨2, ![1024, 1536]⟩
abbrev S2048x32x2 : Shape := ⟨3, ![2048, 32, 2]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16384x256 : Shape := ⟨2, ![16384, 256]⟩
abbrev S1024x1024 : Shape := ⟨2, ![1024, 1024]⟩
abbrev S1x1x6x1024 : Shape := ⟨4, ![1, 1, 6, 1024]⟩
abbrev S1024x128 : Shape := ⟨2, ![1024, 128]⟩
abbrev S1024x256 : Shape := ⟨2, ![1024, 256]⟩
abbrev S6x1024 : Shape := ⟨2, ![6, 1024]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S512x256 : Shape := ⟨2, ![512, 256]⟩
abbrev S512x128 : Shape := ⟨2, ![512, 128]⟩

abbrev nBuf : Space → Nat
  | .hbm => 40
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S2x16x6x1024, .f32⟩
  | .hbm, ⟨2, _⟩ => ⟨S1x1024x1536, .f32⟩
  | .hbm, ⟨3, _⟩ => ⟨S1x64, .f32⟩
  | .hbm, ⟨4, _⟩ => ⟨S1x64, .f32⟩
  | .hbm, ⟨5, _⟩ => ⟨S2048x32, .f32⟩
  | .hbm, ⟨6, _⟩ => ⟨S2048x32, .f32⟩
  | .hbm, ⟨7, _⟩ => ⟨S256x256, .bf16⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1x64, .f32⟩
  | .hbm, ⟨12, _⟩ => ⟨S16x64, .f32⟩
  | .hbm, ⟨13, _⟩ => ⟨S1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x64, .f32⟩
  | .hbm, ⟨19, _⟩ => ⟨S4x64, .f32⟩
  | .hbm, ⟨20, _⟩ => ⟨S256, .f32⟩
  | .hbm, ⟨21, _⟩ => ⟨S1x256, .f32⟩
  | .hbm, ⟨22, _⟩ => ⟨S1024x1536, .f32⟩
  | .hbm, ⟨23, _⟩ => ⟨S1024x1536, .bf16⟩
  | .hbm, ⟨24, _⟩ => ⟨S2048x32x2, .f32⟩
  | .hbm, ⟨25, _⟩ => ⟨S2048x64, .f32⟩
  | .hbm, ⟨26, _⟩ => ⟨S2048x32x2, .f32⟩
  | .hbm, ⟨27, _⟩ => ⟨S2048x64, .f32⟩
  | .hbm, ⟨28, _⟩ => ⟨S1x2048x1x64, .f32⟩
  | .hbm, ⟨29, _⟩ => ⟨S1x2048x2x64, .f32⟩
  | .hbm, ⟨30, _⟩ => ⟨S2048x128, .f32⟩
  | .hbm, ⟨31, _⟩ => ⟨S1x64, .f32⟩
  | .hbm, ⟨32, _⟩ => ⟨S2048x64, .f32⟩
  | .hbm, ⟨33, _⟩ => ⟨S2048x64, .f32⟩
  | .hbm, ⟨34, _⟩ => ⟨S1x2048x1x64, .f32⟩
  | .hbm, ⟨35, _⟩ => ⟨S1x2048x2x64, .f32⟩
  | .hbm, ⟨36, _⟩ => ⟨S2048x128, .f32⟩
  | .hbm, ⟨37, _⟩ => ⟨S16384x1024, .bf16⟩
  | .hbm, ⟨38, _⟩ => ⟨S16384x256, .bf16⟩
  | .hbm, ⟨39, _⟩ => ⟨S16384x256, .bf16⟩
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1024x1536, .bf16⟩
  | .local _ .vmem, ⟨5, _⟩ => ⟨S256x256, .bf16⟩
  | .local _ .vmem, ⟨6, _⟩ => ⟨S1x1024, .f32⟩
  | .local _ .vmem, ⟨7, _⟩ => ⟨S1x256, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x1024, .bf16⟩
  | .local _ .vmem, ⟨13, _⟩ => ⟨S1024x1024, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev main_v27_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c1_i32_5 : BitVec 32 := 1#32
  let c0_i32_6 : BitVec 32 := 0#32
  let c0_i32_7 : BitVec 32 := 0#32
  let c0_i32_8 : BitVec 32 := 0#32
  ![c1_i32_5.toNat, v17.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PreOddLatRefIdeal.lean ====
abbrev S16384x1024 : Shape := ⟨2, ![16384, 1024]⟩
abbrev S2x16x6x1024 : Shape := ⟨4, ![2, 16, 6, 1024]⟩
abbrev S1x1024x1536 : Shape := ⟨3, ![1, 1024, 1536]⟩
abbrev S1x64 : Shape := ⟨2, ![1, 64]⟩
abbrev S2048x32 : Shape := ⟨2, ![2048, 32]⟩
abbrev S8x2048x1024 : Shape := ⟨3, ![8, 2048, 1024]⟩
abbrev S1x8x1x1024 : Shape := ⟨4, ![1, 8, 1, 1024]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1024x1536 : Shape := ⟨2, ![1024, 1536]⟩
abbrev S8x2048x1536 : Shape := ⟨3, ![8, 2048, 1536]⟩
abbrev S8x2048x256 : Shape := ⟨3, ![8, 2048, 256]⟩
abbrev S8x2048x16x64 : Shape := ⟨4, ![8, 2048, 16, 64]⟩
abbrev S64 : Shape := ⟨1, ![64]⟩
abbrev S8x2048x16 : Shape := ⟨3, ![8, 2048, 16]⟩
abbrev S8x2048x16x1 : Shape := ⟨4, ![8, 2048, 16, 1]⟩
abbrev S1x1x1x64 : Shape := ⟨4, ![1, 1, 1, 64]⟩
abbrev S8x2048x4x64 : Shape := ⟨4, ![8, 2048, 4, 64]⟩
abbrev S8x2048x4 : Shape := ⟨3, ![8, 2048, 4]⟩
abbrev S8x2048x4x1 : Shape := ⟨4, ![8, 2048, 4, 1]⟩
abbrev S8x2048x16x32x2 : Shape := ⟨5, ![8, 2048, 16, 32, 2]⟩
abbrev S8x2048x16x32x1 : Shape := ⟨5, ![8, 2048, 16, 32, 1]⟩
abbrev S8x2048x16x32 : Shape := ⟨4, ![8, 2048, 16, 32]⟩
abbrev S1x2048x1x32 : Shape := ⟨4, ![1, 2048, 1, 32]⟩
abbrev S8x2048x4x32x2 : Shape := ⟨5, ![8, 2048, 4, 32, 2]⟩
abbrev S8x2048x4x32x1 : Shape := ⟨5, ![8, 2048, 4, 32, 1]⟩
abbrev S8x2048x4x32 : Shape := ⟨4, ![8, 2048, 4, 32]⟩
abbrev S16384x256 : Shape := ⟨2, ![16384, 256]⟩

abbrev nBuf : Space → Nat
  | .hbm => 126
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x16x6x1024, .f32⟩
  | .hbm, ⟨2, _⟩ => ⟨S1x1024x1536, .f32⟩
  | .hbm, ⟨3, _⟩ => ⟨S1x64, .f32⟩
  | .hbm, ⟨4, _⟩ => ⟨S1x64, .f32⟩
  | .hbm, ⟨5, _⟩ => ⟨S2048x32, .f32⟩
  | .hbm, ⟨6, _⟩ => ⟨S2048x32, .f32⟩
  | .hbm, ⟨7, _⟩ => ⟨S8x2048x1024, .f32⟩
  | .hbm, ⟨8, _⟩ => ⟨S1x8x1x1024, .f32⟩
  | .hbm, ⟨9, _⟩ => ⟨S8x1024, .f32⟩
  | .hbm, ⟨10, _⟩ => ⟨S8x1x1024, .f32⟩
  | .hbm, ⟨11, _⟩ => ⟨S1x8x1x1024, .f32⟩
  | .hbm, ⟨12, _⟩ => ⟨S8x1024, .f32⟩
  | .hbm, ⟨13, _⟩ => ⟨S8x1x1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S1024x1536, .f32⟩
  | .hbm, ⟨35, _⟩ => ⟨S8x2048x1536, .f32⟩
  | .hbm, ⟨36, _⟩ => ⟨S8x2048x1024, .f32⟩
  | .hbm, ⟨37, _⟩ => ⟨S8x2048x256, .f32⟩
  | .hbm, ⟨38, _⟩ => ⟨S8x2048x256, .f32⟩
  | .hbm, ⟨39, _⟩ => ⟨S8x2048x16x64, .f32⟩
  | .hbm, ⟨40, _⟩ => ⟨S64, .f32⟩
  | .hbm, ⟨41, _⟩ => ⟨S8x2048x16x64, .f32⟩
  | .hbm, ⟨42, _⟩ => ⟨S_, .f32⟩
  | .hbm, ⟨43, _⟩ => ⟨S8x2048x16, .f32⟩
  | .hbm, ⟨44, _⟩ => ⟨S8x2048x16x1, .f32⟩
  | .hbm, ⟨45, _⟩ => ⟨S_, .f32⟩
  | .hbm, ⟨46, _⟩ => ⟨S8x2048x16x1, .f32⟩
  | .hbm, ⟨47, _⟩ => ⟨S8x2048x16x1, .f32⟩
  | .hbm, ⟨48, _⟩ => ⟨S_, .f32⟩
  | .hbm, ⟨49, _⟩ => ⟨S8x2048x16x1, .f32⟩
  | .hbm, ⟨50, _⟩ => ⟨S8x2048x16x1, .f32⟩
  | .hbm, ⟨51, _⟩ => ⟨S8x2048x16x1, .f32⟩
  | .hbm, ⟨52, _⟩ => ⟨S8x2048x16x64, .f32⟩
  | .hbm, ⟨53, _⟩ => ⟨S8x2048x16x64, .f32⟩
  | .hbm, ⟨54, _⟩ => ⟨S1x1x1x64, .f32⟩
  | .hbm, ⟨55, _⟩ => ⟨S8x2048x16x64, .f32⟩
  | .hbm, ⟨56, _⟩ => ⟨S8x2048x16x64, .f32⟩
  | .hbm, ⟨57, _⟩ => ⟨S8x2048x4x64, .f32⟩
  | .hbm, ⟨58, _⟩ => ⟨S64, .f32⟩
  | .hbm, ⟨59, _⟩ => ⟨S8x2048x4x64, .f32⟩
  | .hbm, ⟨60, _⟩ => ⟨S_, .f32⟩
  | .hbm, ⟨61, _⟩ => ⟨S8x2048x4, .f32⟩
  | .hbm, ⟨62, _⟩ => ⟨S8x2048x4x1, .f32⟩
  | .hbm, ⟨63, _⟩ => ⟨S_, .f32⟩
  | .hbm, ⟨64, _⟩ => ⟨S8x2048x4x1, .f32⟩
  | .hbm, ⟨65, _⟩ => ⟨S8x2048x4x1, .f32⟩
  | .hbm, ⟨66, _⟩ => ⟨S_, .f32⟩
  | .hbm, ⟨67, _⟩ => ⟨S8x2048x4x1, .f32⟩
  | .hbm, ⟨68, _⟩ => ⟨S8x2048x4x1, .f32⟩
  | .hbm, ⟨69, _⟩ => ⟨S8x2048x4x1, .f32⟩
  | .hbm, ⟨70, _⟩ => ⟨S8x2048x4x64, .f32⟩
  | .hbm, ⟨71, _⟩ => ⟨S8x2048x4x64, .f32⟩
  | .hbm, ⟨72, _⟩ => ⟨S1x1x1x64, .f32⟩
  | .hbm, ⟨73, _⟩ => ⟨S8x2048x4x64, .f32⟩
  | .hbm, ⟨74, _⟩ => ⟨S8x2048x4x64, .f32⟩
  | .hbm, ⟨75, _⟩ => ⟨S8x2048x16x32x2, .f32⟩
  | .hbm, ⟨76, _⟩ => ⟨S8x2048x16x32x1, .f32⟩
  | .hbm, ⟨77, _⟩ => ⟨S8x2048x16x32, .f32⟩
  | .hbm, ⟨78, _⟩ => ⟨S8x2048x16x32x1, .f32⟩
  | .hbm, ⟨79, _⟩ => ⟨S8x2048x16x32, .f32⟩
  | .hbm, ⟨80, _⟩ => ⟨S1x2048x1x32, .f32⟩
  | .hbm, ⟨81, _⟩ => ⟨S1x2048x1x32, .f32⟩
  | .hbm, ⟨82, _⟩ => ⟨S8x2048x16x32, .f32⟩
  | .hbm, ⟨83, _⟩ => ⟨S8x2048x16x32, .f32⟩
  | .hbm, ⟨84, _⟩ => ⟨S8x2048x16x32, .f32⟩
  | .hbm, ⟨85, _⟩ => ⟨S8x2048x16x32, .f32⟩
  | .hbm, ⟨86, _⟩ => ⟨S8x2048x16x32, .f32⟩
  | .hbm, ⟨87, _⟩ => ⟨S8x2048x16x32, .f32⟩
  | .hbm, ⟨88, _⟩ => ⟨S8x2048x16x32, .f32⟩
  | .hbm, ⟨89, _⟩ => ⟨S8x2048x16x32, .f32⟩
  | .hbm, ⟨90, _⟩ => ⟨S8x2048x16x32, .f32⟩
  | .hbm, ⟨91, _⟩ => ⟨S8x2048x16x32, .f32⟩
  | .hbm, ⟨92, _⟩ => ⟨S8x2048x16x32x1, .f32⟩
  | .hbm, ⟨93, _⟩ => ⟨S8x2048x16x32x1, .f32⟩
  | .hbm, ⟨94, _⟩ => ⟨S8x2048x16x32x2, .f32⟩
  | .hbm, ⟨95, _⟩ => ⟨S8x2048x16x64, .f32⟩
  | .hbm, ⟨96, _⟩ => ⟨S_, .f32⟩
  | .hbm, ⟨97, _⟩ => ⟨S8x2048x16x64, .f32⟩
  | .hbm, ⟨98, _⟩ => ⟨S8x2048x16x64, .f32⟩
  | .hbm, ⟨99, _⟩ => ⟨S8x2048x4x32x2, .f32⟩
  | .hbm, ⟨100, _⟩ => ⟨S8x2048x4x32x1, .f32⟩
  | .hbm, ⟨101, _⟩ => ⟨S8x2048x4x32, .f32⟩
  | .hbm, ⟨102, _⟩ => ⟨S8x2048x4x32x1, .f32⟩
  | .hbm, ⟨103, _⟩ => ⟨S8x2048x4x32, .f32⟩
  | .hbm, ⟨104, _⟩ => ⟨S1x2048x1x32, .f32⟩
  | .hbm, ⟨105, _⟩ => ⟨S1x2048x1x32, .f32⟩
  | .hbm, ⟨106, _⟩ => ⟨S8x2048x4x32, .f32⟩
  | .hbm, ⟨107, _⟩ => ⟨S8x2048x4x32, .f32⟩
  | .hbm, ⟨108, _⟩ => ⟨S8x2048x4x32, .f32⟩
  | .hbm, ⟨109, _⟩ => ⟨S8x2048x4x32, .f32⟩
  | .hbm, ⟨110, _⟩ => ⟨S8x2048x4x32, .f32⟩
  | .hbm, ⟨111, _⟩ => ⟨S8x2048x4x32, .f32⟩
  | .hbm, ⟨112, _⟩ => ⟨S8x2048x4x32, .f32⟩
  | .hbm, ⟨113, _⟩ => ⟨S8x2048x4x32, .f32⟩
  | .hbm, ⟨114, _⟩ => ⟨S8x2048x4x32, .f32⟩
  | .hbm, ⟨115, _⟩ => ⟨S8x2048x4x32, .f32⟩
  | .hbm, ⟨116, _⟩ => ⟨S8x2048x4x32x1, .f32⟩
  | .hbm, ⟨117, _⟩ => ⟨S8x2048x4x32x1, .f32⟩
  | .hbm, ⟨118, _⟩ => ⟨S8x2048x4x32x2, .f32⟩
  | .hbm, ⟨119, _⟩ => ⟨S8x2048x4x64, .f32⟩
  | .hbm, ⟨120, _⟩ => ⟨S16384x1024, .f32⟩
  | .hbm, ⟨121, _⟩ => ⟨S16384x1024, .bf16⟩
  | .hbm, ⟨122, _⟩ => ⟨S16384x256, .f32⟩
  | .hbm, ⟨123, _⟩ => ⟨S16384x256, .bf16⟩
  | .hbm, ⟨124, _⟩ => ⟨S16384x256, .f32⟩
  | .hbm, ⟨125, _⟩ => ⟨S16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_9 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩

abbrev nD : Nat := 1
abbrev τ : Topo := Topo.v7x

variable {F : FTy → Type} [FloatOps F]
-- ==== PreEvenLat.lean ====
abbrev S16384x1024 : Shape := ⟨2, ![16384, 1024]⟩
abbrev S2x16x6x1024 : Shape := ⟨4, ![2, 16, 6, 1024]⟩
abbrev S1x1024x1792 : Shape := ⟨3, ![1, 1024, 1792]⟩
abbrev S1x64 : Shape := ⟨2, ![1, 64]⟩
abbrev S1x512 : Shape := ⟨2, ![1, 512]⟩
abbrev S1x4x128x128 : Shape := ⟨4, ![1, 4, 128, 128]⟩
abbrev S1x4x128 : Shape := ⟨3, ![1, 4, 128]⟩
abbrev S2048x32 : Shape := ⟨2, ![2048, 32]⟩
abbrev S256x256 : Shape := ⟨2, ![256, 256]⟩
abbrev S64 : Shape := ⟨1, ![64]⟩
abbrev S512 : Shape := ⟨1, ![512]⟩
abbrev S4x128x128 : Shape := ⟨3, ![4, 128, 128]⟩
abbrev S4x128 : Shape := ⟨2, ![4, 128]⟩
abbrev S4x128x1 : Shape := ⟨3, ![4, 128, 1]⟩
abbrev S8x64 : Shape := ⟨2, ![8, 64]⟩
abbrev S_ : Shape := ⟨0, ![]⟩
abbrev S2x64 : Shape := ⟨2, ![2, 64]⟩
abbrev S128 : Shape := ⟨1, ![128]⟩
abbrev S1x128 : Shape := ⟨2, ![1, 128]⟩
abbrev S1024x1792 : Shape := ⟨2, ![1024, 1792]⟩
abbrev S2048x32x2 : Shape := ⟨3, ![2048, 32, 2]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16384x512 : Shape := ⟨2, ![16384, 512]⟩
abbrev S16384x128 : Shape := ⟨2, ![16384, 128]⟩
abbrev S1024x1024 : Shape := ⟨2, ![1024, 1024]⟩
abbrev S1x1x6x1024 : Shape := ⟨4, ![1, 1, 6, 1024]⟩
abbrev S1024x128 : Shape := ⟨2, ![1024, 128]⟩
abbrev S1024x512 : Shape := ⟨2, ![1024, 512]⟩
abbrev S6x1024 : Shape := ⟨2, ![6, 1024]⟩
abbrev S1024 : Shape := ⟨1, ![1024]⟩
abbrev S1024x1 : Shape := ⟨2, ![1024, 1]⟩
abbrev S1x1024 : Shape := ⟨2, ![1, 1024]⟩
abbrev S1024x256 : Shape := ⟨2, ![1024, 256]⟩
abbrev S128x128 : Shape := ⟨2, ![128, 128]⟩
abbrev S128x1024 : Shape := ⟨2, ![128, 1024]⟩
abbrev S1x128x128 : Shape := ⟨3, ![1, 128, 128]⟩

abbrev nBuf : Space → Nat
  | .hbm => 51
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S2x16x6x1024, .f32⟩
  | .hbm, ⟨2, _⟩ => ⟨S1x1024x1792, .f32⟩
  | .hbm, ⟨3, _⟩ => ⟨S1x64, .f32⟩
  | .hbm, ⟨4, _⟩ => ⟨S1x64, .f32⟩
  | .hbm, ⟨5, _⟩ => ⟨S1x512, .f32⟩
  | .hbm, ⟨6, _⟩ => ⟨S1x4x128x128, .f32⟩
  | .hbm, ⟨7, _⟩ => ⟨S1x4x128, .f32⟩
  | .hbm, ⟨8, _⟩ => ⟨S2048x32, .f32⟩
  | .hbm, ⟨9, _⟩ => ⟨S2048x32, .f32⟩
  | .hbm, ⟨10, _⟩ => ⟨S256x256, .bf16⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S512, .f32⟩
  | .hbm, ⟨15, _⟩ => ⟨S1x512, .f32⟩
  | .hbm, ⟨16, _⟩ => ⟨S4x128x128, .f32⟩
  | .hbm, ⟨17, _⟩ => ⟨S4x128x128, .bf16⟩
  | .hbm, ⟨18, _⟩ => ⟨S4x128, .f32⟩
  | .hbm, ⟨19, _⟩ => ⟨S4x128x1, .f32⟩
  | .hbm, ⟨20, _⟩ => ⟨S4x128x128, .f32⟩
  | .hbm, ⟨21, _⟩ => ⟨S1x64, .f32⟩
  | .hbm, ⟨22, _⟩ => ⟨S8x64, .f32⟩
  | .hbm, ⟨23, _⟩ => ⟨S512, .f32⟩
  | .hbm, ⟨24, _⟩ => ⟨S1x512, .f32⟩
  | .hbm, ⟨25, _⟩ => ⟨S_, .f32⟩
  | .hbm, ⟨26, _⟩ => ⟨S1x512, .f32⟩
  | .hbm, ⟨27, _⟩ => ⟨S1x512, .f32⟩
  | .hbm, ⟨28, _⟩ => ⟨S1x64, .f32⟩
  | .hbm, ⟨29, _⟩ => ⟨S2x64, .f32⟩
  | .hbm, ⟨30, _⟩ => ⟨S128, .f32⟩
  | .hbm, ⟨31, _⟩ => ⟨S1x128, .f32⟩
  | .hbm, ⟨32, _⟩ => ⟨S1024x1792, .f32⟩
  | .hbm, ⟨33, _⟩ => ⟨S1024x1792, .bf16⟩
  | .hbm, ⟨34, _⟩ => ⟨S2048x32x2, .f32⟩
  | .hbm, ⟨35, _⟩ => ⟨S2048x64, .f32⟩
  | .hbm, ⟨36, _⟩ => ⟨S2048x32x2, .f32⟩
  | .hbm, ⟨37, _⟩ => ⟨S2048x64, .f32⟩
  | .hbm, ⟨38, _⟩ => ⟨S1x2048x1x64, .f32⟩
  | .hbm, ⟨39, _⟩ => ⟨S1x2048x2x64, .f32⟩
  | .hbm, ⟨40, _⟩ => ⟨S2048x128, .f32⟩
  | .hbm, ⟨41, _⟩ => ⟨S1x64, .f32⟩
  | .hbm, ⟨42, _⟩ => ⟨S2048x64, .f32⟩
  | .hbm, ⟨43, _⟩ => ⟨S2048x64, .f32⟩
  | .hbm, ⟨44, _⟩ => ⟨S1x2048x1x64, .f32⟩
  | .hbm, ⟨45, _⟩ => ⟨S1x2048x2x64, .f32⟩
  | .hbm, ⟨46, _⟩ => ⟨S2048x128, .f32⟩
  | .hbm, ⟨47, _⟩ => ⟨S16384x512, .bf16⟩
  | .hbm, ⟨48, _⟩ => ⟨S16384x128, .bf16⟩
  | .hbm, ⟨49, _⟩ => ⟨S16384x128, .bf16⟩
  | .hbm, ⟨50, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1024x1792, .bf16⟩
  | .local _ .vmem, ⟨5, _⟩ => ⟨S256x256, .bf16⟩
  | .local _ .vmem, ⟨6, _⟩ => ⟨S1x512, .f32⟩
  | .local _ .vmem, ⟨7, _⟩ => ⟨S1x128, .f32⟩
  | .local _ .vmem, ⟨8, _⟩ => ⟨S1x512, .f32⟩
  | .local _ .vmem, ⟨9, _⟩ => ⟨S4x128x128, .bf16⟩
  | .local _ .vmem, ⟨10, _⟩ => ⟨S4x128x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x512, .bf16⟩
  | .local _ .vmem, ⟨16, _⟩ => ⟨S1024x512, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x512, .bf16⟩
  | .local _ .vmem, ⟨22, _⟩ => ⟨S1024x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34_0 : Ref sig .tc := ⟨.hbm, 47, rfl⟩
abbrev main_v34_1 : Ref sig .tc := ⟨.hbm, 48, rfl⟩
abbrev main_v34_2 : Ref sig .tc := ⟨.hbm, 49, rfl⟩
abbrev main_v34_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  let c0_i32_8 : BitVec 32 := 0#32
  ![c0_i32_5.toNat, v17.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PreEvenLatRefIdeal.lean ====
abbrev S16384x1024 : Shape := ⟨2, ![16384, 1024]⟩
abbrev S2x16x6x1024 : Shape := ⟨4, ![2, 16, 6, 1024]⟩
abbrev S1x1024x1792 : Shape := ⟨3, ![1, 1024, 1792]⟩
abbrev S1x64 : Shape := ⟨2, ![1, 64]⟩
abbrev S1x512 : Shape := ⟨2, ![1, 512]⟩
abbrev S1x4x128x128 : Shape := ⟨4, ![1, 4, 128, 128]⟩
abbrev S1x4x128 : Shape := ⟨3, ![1, 4, 128]⟩
abbrev S2048x32 : Shape := ⟨2, ![2048, 32]⟩
abbrev S256x256 : Shape := ⟨2, ![256, 256]⟩
abbrev S8x2048x1024 : Shape := ⟨3, ![8, 2048, 1024]⟩
abbrev S1x8x1x1024 : Shape := ⟨4, ![1, 8, 1, 1024]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1024x1792 : Shape := ⟨2, ![1024, 1792]⟩
abbrev S8x2048x1792 : Shape := ⟨3, ![8, 2048, 1792]⟩
abbrev S8x2048x512 : Shape := ⟨3, ![8, 2048, 512]⟩
abbrev S8x2048x128 : Shape := ⟨3, ![8, 2048, 128]⟩
abbrev S8x2048x8x64 : Shape := ⟨4, ![8, 2048, 8, 64]⟩
abbrev S64 : Shape := ⟨1, ![64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x2048x2x64 : Shape := ⟨4, ![8, 2048, 2, 64]⟩
abbrev S8x2048x2 : Shape := ⟨3, ![8, 2048, 2]⟩
abbrev S8x2048x2x1 : Shape := ⟨4, ![8, 2048, 2, 1]⟩
abbrev S8x2048x8x32x2 : Shape := ⟨5, ![8, 2048, 8, 32, 2]⟩
abbrev S8x2048x8x32x1 : Shape := ⟨5, ![8, 2048, 8, 32, 1]⟩
abbrev S8x2048x8x32 : Shape := ⟨4, ![8, 2048, 8, 32]⟩
abbrev S1x2048x1x32 : Shape := ⟨4, ![1, 2048, 1, 32]⟩
abbrev S8x2048x2x32x2 : Shape := ⟨5, ![8, 2048, 2, 32, 2]⟩
abbrev S8x2048x2x32x1 : Shape := ⟨5, ![8, 2048, 2, 32, 1]⟩
abbrev S8x2048x2x32 : Shape := ⟨4, ![8, 2048, 2, 32]⟩
abbrev S512 : Shape := ⟨1, ![512]⟩
abbrev S4x128x128 : Shape := ⟨3, ![4, 128, 128]⟩
abbrev S4x128 : Shape := ⟨2, ![4, 128]⟩
abbrev S1x1x512 : Shape := ⟨3, ![1, 1, 512]⟩
abbrev S8x16x128x4x128 : Shape := ⟨5, ![8, 16, 128, 4, 128]⟩
abbrev S4x8x16x128x128 : Shape := ⟨5, ![4, 8, 16, 128, 128]⟩
abbrev S128x4 : Shape := ⟨2, ![128, 4]⟩
abbrev S1x1x128x4x1 : Shape := ⟨5, ![1, 1, 128, 4, 1]⟩
abbrev S16384x512 : Shape := ⟨2, ![16384, 512]⟩
abbrev S16384x128 : Shape := ⟨2, ![16384, 128]⟩

abbrev nBuf : Space → Nat
  | .hbm => 196
  | .vmem => 0
  | .smem => 0
  | _ => 0

abbrev hbmTy0_0 (i : Nat) : BufTy := match i % 128 with
  | 0 => ⟨S16384x1024, .f32⟩
  | 1 => ⟨S2x16x6x1024, .f32⟩
  | 2 => ⟨S1x1024x1792, .f32⟩
  | 3 => ⟨S1x64, .f32⟩
  | 4 => ⟨S1x64, .f32⟩
  | 5 => ⟨S1x512, .f32⟩
  | 6 => ⟨S1x4x128x128, .f32⟩
  | 7 => ⟨S1x4x128, .f32⟩
  | 8 => ⟨S2048x32, .f32⟩
  | 9 => ⟨S2048x32, .f32⟩
  | 10 => ⟨S256x256, .bf16⟩
  | 11 => ⟨S8x2048x1024, .f32⟩
  | 12 => ⟨S1x8x1x1024, .f32⟩
  | 13 => ⟨S8x1024, .f32⟩
  | 14 => ⟨S8x1x1024, .f32⟩
  | 15 => ⟨S1x8x1x1024, .f32⟩
  | 16 => ⟨S8x1024, .f32⟩
  | 17 => ⟨S8x1x1024, .f32⟩
  | 18 => ⟨S8x2048x1024, .f32⟩
  | 19 => ⟨S_, .f32⟩
  | 20 => ⟨S8x2048, .f32⟩
  | 21 => ⟨S8x2048x1, .f32⟩
  | 22 => ⟨S_, .f32⟩
  | 23 => ⟨S8x2048x1, .f32⟩
  | 24 => ⟨S8x2048x1, .f32⟩
  | 25 => ⟨S_, .f32⟩
  | 26 => ⟨S8x2048x1, .f32⟩
  | 27 => ⟨S8x2048x1, .f32⟩
  | 28 => ⟨S8x2048x1, .f32⟩
  | 29 => ⟨S8x2048x1024, .f32⟩
  | 30 => ⟨S8x2048x1024, .f32⟩
  | 31 => ⟨S_, .f32⟩
  | 32 => ⟨S8x1x1024, .f32⟩
  | 33 => ⟨S8x1x1024, .f32⟩
  | 34 => ⟨S8x2048x1024, .f32⟩
  | 35 => ⟨S8x2048x1024, .f32⟩
  | 36 => ⟨S8x2048x1024, .f32⟩
  | 37 => ⟨S8x2048x1024, .f32⟩
  | 38 => ⟨S1024x1792, .f32⟩
  | 39 => ⟨S8x2048x1792, .f32⟩
  | 40 => ⟨S8x2048x512, .f32⟩
  | 41 => ⟨S8x2048x128, .f32⟩
  | 42 => ⟨S8x2048x128, .f32⟩
  | 43 => ⟨S8x2048x512, .f32⟩
  | 44 => ⟨S8x2048x512, .f32⟩
  | 45 => ⟨S8x2048x8x64, .f32⟩
  | 46 => ⟨S64, .f32⟩
  | 47 => ⟨S8x2048x8x64, .f32⟩
  | 48 => ⟨S_, .f32⟩
  | 49 => ⟨S8x2048x8, .f32⟩
  | 50 => ⟨S8x2048x8x1, .f32⟩
  | 51 => ⟨S_, .f32⟩
  | 52 => ⟨S8x2048x8x1, .f32⟩
  | 53 => ⟨S8x2048x8x1, .f32⟩
  | 54 => ⟨S_, .f32⟩
  | 55 => ⟨S8x2048x8x1, .f32⟩
  | 56 => ⟨S8x2048x8x1, .f32⟩
  | 57 => ⟨S8x2048x8x1, .f32⟩
  | 58 => ⟨S8x2048x8x64, .f32⟩
  | 59 => ⟨S8x2048x8x64, .f32⟩
  | 60 => ⟨S1x1x1x64, .f32⟩
  | 61 => ⟨S8x2048x8x64, .f32⟩
  | 62 => ⟨S8x2048x8x64, .f32⟩
  | 63 => ⟨S8x2048x2x64, .f32⟩
  | 64 => ⟨S64, .f32⟩
  | 65 => ⟨S8x2048x2x64, .f32⟩
  | 66 => ⟨S_, .f32⟩
  | 67 => ⟨S8x2048x2, .f32⟩
  | 68 => ⟨S8x2048x2x1, .f32⟩
  | 69 => ⟨S_, .f32⟩
  | 70 => ⟨S8x2048x2x1, .f32⟩
  | 71 => ⟨S8x2048x2x1, .f32⟩
  | 72 => ⟨S_, .f32⟩
  | 73 => ⟨S8x2048x2x1, .f32⟩
  | 74 => ⟨S8x2048x2x1, .f32⟩
  | 75 => ⟨S8x2048x2x1, .f32⟩
  | 76 => ⟨S8x2048x2x64, .f32⟩
  | 77 => ⟨S8x2048x2x64, .f32⟩
  | 78 => ⟨S1x1x1x64, .f32⟩
  | 79 => ⟨S8x2048x2x64, .f32⟩
  | 80 => ⟨S8x2048x2x64, .f32⟩
  | 81 => ⟨S8x2048x8x32x2, .f32⟩
  | 82 => ⟨S8x2048x8x32x1, .f32⟩
  | 83 => ⟨S8x2048x8x32, .f32⟩
  | 84 => ⟨S8x2048x8x32x1, .f32⟩
  | 85 => ⟨S8x2048x8x32, .f32⟩
  | 86 => ⟨S1x2048x1x32, .f32⟩
  | 87 => ⟨S1x2048x1x32, .f32⟩
  | 88 => ⟨S8x2048x8x32, .f32⟩
  | 89 => ⟨S8x2048x8x32, .f32⟩
  | 90 => ⟨S8x2048x8x32, .f32⟩
  | 91 => ⟨S8x2048x8x32, .f32⟩
  | 92 => ⟨S8x2048x8x32, .f32⟩
  | 93 => ⟨S8x2048x8x32, .f32⟩
  | 94 => ⟨S8x2048x8x32, .f32⟩
  | 95 => ⟨S8x2048x8x32, .f32⟩
  | 96 => ⟨S8x2048x8x32, .f32⟩
  | 97 => ⟨S8x2048x8x32, .f32⟩
  | 98 => ⟨S8x2048x8x32x1, .f32⟩
  | 99 => ⟨S8x2048x8x32x1, .f32⟩
  | 100 => ⟨S8x2048x8x32x2, .f32⟩
  | 101 => ⟨S8x2048x8x64, .f32⟩
  | 102 => ⟨S_, .f32⟩
  | 103 => ⟨S8x2048x8x64, .f32⟩
  | 104 => ⟨S8x2048x8x64, .f32⟩
  | 105 => ⟨S8x2048x2x32x2, .f32⟩
  | 106 => ⟨S8x2048x2x32x1, .f32⟩
  | 107 => ⟨S8x2048x2x32, .f32⟩
  | 108 => ⟨S8x2048x2x32x1, .f32⟩
  | 109 => ⟨S8x2048x2x32, .f32⟩
  | 110 => ⟨S1x2048x1x32, .f32⟩
  | 111 => ⟨S1x2048x1x32, .f32⟩
  | 112 => ⟨S8x2048x2x32, .f32⟩
  | 113 => ⟨S8x2048x2x32, .f32⟩
  | 114 => ⟨S8x2048x2x32, .f32⟩
  | 115 => ⟨S8x2048x2x32, .f32⟩
  | 116 => ⟨S8x2048x2x32, .f32⟩
  | 117 => ⟨S8x2048x2x32, .f32⟩
  | 118 => ⟨S8x2048x2x32, .f32⟩
  | 119 => ⟨S8x2048x2x32, .f32⟩
  | 120 => ⟨S8x2048x2x32, .f32⟩
  | 121 => ⟨S8x2048x2x32, .f32⟩
  | 122 => ⟨S8x2048x2x32x1, .f32⟩
  | 123 => ⟨S8x2048x2x32x1, .f32⟩
  | 124 => ⟨S8x2048x2x32x2, .f32⟩
  | 125 => ⟨S8x2048x2x64, .f32⟩
  | 126 => ⟨S8x2048x512, .f32⟩
  | 127 => ⟨S8x2048x512, .f32⟩
  | _ => ⟨S16384x1024, .f32⟩

abbrev hbmTy0_1 (i : Nat) : BufTy := match i % 128 with
  | 0 => ⟨S_, .f32⟩
  | 1 => ⟨S8x2048x512, .f32⟩
  | 2 => ⟨S8x2048x512, .f32⟩
  | 3 => ⟨S8x2048x512, .f32⟩
  | 4 => ⟨S_, .f32⟩
  | 5 => ⟨S8x2048x512, .f32⟩
  | 6 => ⟨S8x2048x512, .f32⟩
  | 7 => ⟨S8x2048x512, .f32⟩
  | 8 => ⟨S_, .f32⟩
  | 9 => ⟨S8x2048x512, .f32⟩
  | 10 => ⟨S8x2048x512, .f32⟩
  | 11 => ⟨S_, .f32⟩
  | 12 => ⟨S8x2048x512, .f32⟩
  | 13 => ⟨S8x2048x512, .f32⟩
  | 14 => ⟨S8x2048x512, .f32⟩
  | 15 => ⟨S8x2048x512, .f32⟩
  | 16 => ⟨S8x2048x512, .f32⟩
  | 17 => ⟨S_, .f32⟩
  | 18 => ⟨S8x2048x512, .f32⟩
  | 19 => ⟨S8x2048x512, .f32⟩
  | 20 => ⟨S8x2048x512, .f32⟩
  | 21 => ⟨S_, .f32⟩
  | 22 => ⟨S8x2048x512, .f32⟩
  | 23 => ⟨S8x2048x512, .f32⟩
  | 24 => ⟨S8x2048x512, .f32⟩
  | 25 => ⟨S_, .f32⟩
  | 26 => ⟨S8x2048x512, .f32⟩
  | 27 => ⟨S8x2048x512, .f32⟩
  | 28 => ⟨S_, .f32⟩
  | 29 => ⟨S8x2048x512, .f32⟩
  | 30 => ⟨S8x2048x512, .f32⟩
  | 31 => ⟨S8x2048x512, .f32⟩
  | 32 => ⟨S512, .f32⟩
  | 33 => ⟨S4x128x128, .f32⟩
  | 34 => ⟨S4x128, .f32⟩
  | 35 => ⟨S8x2048x512, .f32⟩
  | 36 => ⟨S_, .f32⟩
  | 37 => ⟨S8x2048, .f32⟩
  | 38 => ⟨S8x2048x1, .f32⟩
  | 39 => ⟨S_, .f32⟩
  | 40 => ⟨S8x2048x1, .f32⟩
  | 41 => ⟨S8x2048x1, .f32⟩
  | 42 => ⟨S_, .f32⟩
  | 43 => ⟨S8x2048x1, .f32⟩
  | 44 => ⟨S8x2048x1, .f32⟩
  | 45 => ⟨S8x2048x1, .f32⟩
  | 46 => ⟨S8x2048x512, .f32⟩
  | 47 => ⟨S8x2048x512, .f32⟩
  | 48 => ⟨S1x1x512, .f32⟩
  | 49 => ⟨S8x2048x512, .f32⟩
  | 50 => ⟨S8x2048x512, .f32⟩
  | 51 => ⟨S8x16x128x4x128, .f32⟩
  | 52 => ⟨S4x8x16x128x128, .f32⟩
  | 53 => ⟨S8x16x128x4x128, .f32⟩
  | 54 => ⟨S128x4, .f32⟩
  | 55 => ⟨S1x1x128x4x1, .f32⟩
  | 56 => ⟨S8x16x128x4x128, .f32⟩
  | 57 => ⟨S8x16x128x4x128, .f32⟩
  | 58 => ⟨S8x2048x512, .f32⟩
  | 59 => ⟨S8x2048x512, .f32⟩
  | 60 => ⟨S16384x512, .f32⟩
  | 61 => ⟨S16384x512, .bf16⟩
  | 62 => ⟨S16384x128, .f32⟩
  | 63 => ⟨S16384x128, .bf16⟩
  | 64 => ⟨S16384x128, .f32⟩
  | 65 => ⟨S16384x128, .bf16⟩
  | 66 => ⟨S16384x512, .f32⟩
  | 67 => ⟨S16384x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_9 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_10 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_cst_11 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_12 : Ref sig .tc := ⟨.hbm, 136, rfl⟩
abbrev main_v112 : Ref sig .tc := ⟨.hbm, 137, rfl⟩
abbrev main_v113 : Ref sig .tc := ⟨.hbm, 138, rfl⟩
abbrev main_cst_13 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_cst_14 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_cst_15 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_cst_16 : Ref sig .tc := ⟨.hbm, 153, rfl⟩
abbrev main_v125 : Ref sig .tc := ⟨.hbm, 154, rfl⟩
abbrev main_v126 : Ref sig .tc := ⟨.hbm, 155, rfl⟩
abbrev main_cst_17 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_cst_18 : Ref sig .tc := ⟨.hbm, 164, rfl⟩
abbrev main_v134 : Ref sig .tc := ⟨.hbm, 165, rfl⟩
abbrev main_v135 : Ref sig .tc := ⟨.hbm, 166, rfl⟩
abbrev main_cst_19 : Ref sig .tc := ⟨.hbm, 167, rfl⟩
abbrev main_v136 : Ref sig .tc := ⟨.hbm, 168, rfl⟩
abbrev main_v137 : Ref sig .tc := ⟨.hbm, 169, rfl⟩
abbrev main_cst_20 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩

abbrev nD : Nat := 1
abbrev τ : Topo := Topo.v7x

variable {F : FTy → Type} [FloatOps F]
-- ==== Proof.Attn.Softmax.lean ====
/-
  The softmax of one row of real scores, as extended reals: the powers of two of the differences with the maximum, divided by
  their sum after the weighted sum of the values, are the softmax of the scores times `log 2`, taken before it.
-/
module

public import Idealize.ShloMosaic.PureOps.Ideal
public import Idealize.ShloMosaic.Lib.Pointwise
public import Idealize.ShloMosaic.Lib.IdealHost

@[expose] public section

noncomputable section

namespace Cert.Attn

open Idealize.ShloMosaic

variable {n : ℕ}

/-- The largest score of a row. -/
def top (s : Fin n → EReal) : EReal := Finset.univ.fold max ⊥ s

/-- The softmax of a row of scores, weighting a row of values. -/
def softRow (s v : Fin n → EReal) : EReal :=
  ∑ j, Ideal.div (Ideal.exp (s j - top s)) (∑ k, Ideal.exp (s k - top s)) * v j

/-- The power of two of a score's difference with the row's maximum. -/
def pow2 (s : Fin n → EReal) (j : Fin n) : EReal := Ideal.exp2 (s j - top s)

/-- The maximum of a nonempty row of reals is one of them. -/
theorem top_mem [NeZero n] (s : Fin n → EReal) : ∃ j, top s = s j := by
  have h : top s = Finset.univ.sup s := rfl
  obtain ⟨j, -, hj⟩ := Finset.exists_mem_eq_sup Finset.univ (Finset.univ_nonempty (α := Fin n)) s
  exact ⟨j, h.trans hj⟩

/-- Multiplication by a nonnegative real moves the maximum of a row with it. -/
theorem top_mul [NeZero n] (s : Fin n → EReal) (c : ℝ) (hc : 0 ≤ c) (r : Fin n → ℝ) (hr : ∀ j, s j = r j) :
    top (fun j => s j * (c : EReal)) = top s * (c : EReal) := by
  apply le_antisymm
  · obtain ⟨j, hj⟩ := top_mem (fun j => s j * (c : EReal))
    rw [hj]
    refine mul_le_mul_of_nonneg_right ?_ (EReal.coe_nonneg.mpr hc)
    exact Finset.le_sup (f := s) (Finset.mem_univ j)
  · obtain ⟨j, hj⟩ := top_mem s
    rw [hj]
    exact Finset.le_sup (f := fun j => s j * (c : EReal)) (Finset.mem_univ j)

/-- A sum of reals, read as extended reals. -/
theorem coe_sum {ι : Type} (u : Finset ι) (f : ι → ℝ) : ∑ j ∈ u, (f j : EReal) = ((∑ j ∈ u, f j : ℝ) : EReal) := by
  classical
  induction u using Finset.induction_on with
  | empty => simp
  | insert a u ha ih => rw [Finset.sum_insert ha, Finset.sum_insert ha, ih, EReal.coe_add]

/-- The row's weights, computed in base two and divided after, against the softmax of the scores times `log 2`. -/
theorem weights [NeZero n] (s : Fin n → EReal) (r : Fin n → ℝ) (hr : ∀ j, s j = r j) :
    ∃ c : ℝ, 0 ≤ c ∧ Ideal.div 1 (∑ j, pow2 s j) = c ∧
      ∀ j, Ideal.div (Ideal.exp (s j * (Real.log 2 : ℝ) - top (fun k => s k * (Real.log 2 : ℝ))))
          (∑ k, Ideal.exp (s k * (Real.log 2 : ℝ) - top (fun l => s l * (Real.log 2 : ℝ)))) = pow2 s j * c := by
  obtain ⟨p, hp⟩ := top_mem s
  have e2 : ∀ j, pow2 s j = ((Real.rpow 2 (r j - r p) : ℝ) : EReal) := fun j => by
    rw [pow2, hp, hr, hr, ← EReal.coe_sub]; rfl
  have ee : ∀ j, Ideal.exp (s j * (Real.log 2 : ℝ) - top (fun k => s k * (Real.log 2 : ℝ)))
      = ((Real.rpow 2 (r j - r p) : ℝ) : EReal) := fun j => by
    rw [top_mul s _ (Real.log_nonneg (by norm_num)) r hr, hp, hr, hr, ← EReal.coe_mul, ← EReal.coe_mul, ← EReal.coe_sub]
    show ((Real.exp _ : ℝ) : EReal) = _
    congr 1
    show _ = (2 : ℝ) ^ (r j - r p)
    rw [Real.rpow_def_of_pos (by norm_num)]
    congr 1
    ring
  have pos : ∀ j, 0 < Real.rpow 2 (r j - r p) := fun j => Real.rpow_pos_of_pos (by norm_num) _
  have hsum : ∑ j, ((Real.rpow 2 (r j - r p) : ℝ) : EReal) = ((∑ j, Real.rpow 2 (r j - r p) : ℝ) : EReal) := by
    exact coe_sum Finset.univ _
  have hD : 0 < ∑ j, Real.rpow 2 (r j - r p) :=
    Finset.sum_pos (fun j _ => pos j) (Finset.univ_nonempty (α := Fin n))
  have hdiv : ∀ x : EReal, Ideal.div x ((∑ j, Real.rpow 2 (r j - r p) : ℝ) : EReal)
      = x * (((∑ j, Real.rpow 2 (r j - r p))⁻¹ : ℝ) : EReal) := fun x => by
    rw [Ideal.div, if_neg (by exact_mod_cast hD.ne'), EReal.coe_inv]
  refine ⟨(∑ j, Real.rpow 2 (r j - r p))⁻¹, inv_nonneg.mpr hD.le, ?_, fun j => ?_⟩
  · simp only [e2]
    rw [hsum, hdiv, one_mul]
  · simp only [ee, e2]
    rw [hsum, hdiv]

/-- A nonnegative real factor goes into a sum of extended reals. -/
theorem sum_mul_coe {m : ℕ} (f : Fin m → EReal) (c : ℝ) (hc : 0 ≤ c) :
    (∑ j, f j) * (c : EReal) = ∑ j, f j * (c : EReal) := by
  induction m with
  | zero => simp
  | succ m ih =>
    rw [Fin.sum_univ_castSucc, Fin.sum_univ_castSucc,
      EReal.right_distrib_of_nonneg_of_ne_top (EReal.coe_nonneg.mpr hc) (EReal.coe_ne_top c), ih]

/-- The kernel's three partial weighted sums, each multiplied by the reciprocal of the sum, are the softmax. -/
theorem parts (s v : Fin 2560 → EReal) (r : Fin 2560 → ℝ) (hr : ∀ j, s j = r j) :
    (∑ j : Fin 1024, pow2 s ⟨j, by omega⟩ * v ⟨j, by omega⟩) * Ideal.div 1 (∑ j, pow2 s j)
      + (∑ j : Fin 1024, pow2 s ⟨1024 + j, by omega⟩ * v ⟨1024 + j, by omega⟩) * Ideal.div 1 (∑ j, pow2 s j)
      + (∑ j : Fin 512, pow2 s ⟨2048 + j, by omega⟩ * v ⟨2048 + j, by omega⟩) * Ideal.div 1 (∑ j, pow2 s j)
    = softRow (fun j => s j * (Real.log 2 : ℝ)) v := by
  obtain ⟨c, hc, hdiv, hw⟩ := weights s r hr
  rw [hdiv, sum_mul_coe _ c hc, sum_mul_coe _ c hc, sum_mul_coe _ c hc]
  have cut : ∀ f : Fin 2560 → EReal, ∑ j, f j = ∑ j : Fin 1024, f ⟨j, by omega⟩ + ∑ j : Fin 1024, f ⟨1024 + j, by omega⟩
      + ∑ j : Fin 512, f ⟨2048 + j, by omega⟩ := fun f => by
    rw [Fin.sum_univ_add (a := 2048) (b := 512) f, Fin.sum_univ_add (a := 1024) (b := 1024)]
    rfl
  rw [softRow, cut]
  simp only [hw]
  simp only [mul_right_comm]

end Cert.Attn

end
-- ==== Proof.Attn.Body.lean ====
/-
  What one run of the dense attention's body stores, over the vectors it loads: a stack of the four query heads that share a
  key head, its scores against the two halves of the latent keys and against the context, the softmax's three partial sums,
  and the layout of the result.
-/
module

public import proofs.«01_k».proof.Proof.Gen.KernelIdeal.Value
public import proofs.«01_k».proof.Proof.Attn.Softmax
public import Idealize.ShloMosaic.Lib.Pipeline.ValueKit

@[expose] public section

set_option maxRecDepth 16384

noncomputable section

namespace Cert.Attn

open Cert.KernelIdeal Cert.KernelIdeal.Gen Idealize.ShloMosaic Idealize.ShloMosaic.TcCoe Idealize.SL.Sem

/-- The four query heads of a group, one under the other. -/
def quad (g : FVec Ideal S128x256 .bf16) : FVec Ideal S512x64 .bf16 :=
  concatenate S512x64 0
    [⟨S128x64, extractStridedSlice S128x64 ![0, 0] g slices_S128x256_o0_0_S128x64⟩,
     ⟨S128x64, extractStridedSlice S128x64 ![0, 64] g slices_S128x256_o0_64_S128x64⟩,
     ⟨S128x64, extractStridedSlice S128x64 ![0, 128] g slices_S128x256_o0_128_S128x64⟩,
     ⟨S128x64, extractStridedSlice S128x64 ![0, 192] g slices_S128x256_o0_192_S128x64⟩]
    concatenates_S128x64_S128x64_S128x64_S128x64_S512x64_d0

/-- The scores of a stack of queries against the two halves of the keys and the context's. -/
def scores (q : FVec Ideal S512x64 .bf16) (k₁ k₂ : FVec Ideal S1024x64 .bf16) (kc : FVec Ideal S64x512 .bf16) :
    FVec Ideal S512x2560 .f32 :=
  concatenate S512x2560 1
    [⟨S512x1024, matmul dot_S512x64_S1024x64_S512x1024_1_1_0_0_n_n none q k₁ (constant S512x1024 .f32 0x00000000#32)⟩,
     ⟨S512x1024, matmul dot_S512x64_S1024x64_S512x1024_1_1_0_0_n_n none q k₂ (constant S512x1024 .f32 0x00000000#32)⟩,
     ⟨S512x512, matmul dot_S512x64_S64x512_S512x512_1_0_0_1_n_n none q kc (constant S512x512 .f32 0x00000000#32)⟩]
    concatenates_S512x1024_S512x1024_S512x512_S512x2560_d1

/-- The powers of two of the scores' differences with their row's maximum. -/
def powers (s : FVec Ideal S512x2560 .f32) : FVec Ideal S512x2560 .f32 :=
  exp2 (subf s (broadcastTo S512x2560 (shapeCast S512x1
    (multiReduction .maximumf [1] S512 s 0xFF800000#32 reduces_S512x2560_S512 (.inl rfl) rfl) shapeCasts_S512_S512x1)
    broadcasts_S512x1_S512x2560))

/-- The reciprocal of each row's sum, along the result's lanes. -/
def recip (p : FVec Ideal S512x2560 .f32) : FVec Ideal S512x64 .f32 :=
  broadcastTo S512x64 (divf (broadcast S512x1 (Scalar.ofBits .f32 0x3F800000#32)) (shapeCast S512x1
    (multiReduction .add [1] S512 p 0x00000000#32 reduces_S512x2560_S512 (.inl rfl) rfl) shapeCasts_S512_S512x1))
    broadcasts_S512x1_S512x64

/-- The weighted values, the three parts each multiplied by the reciprocal. -/
def mixed (p : FVec Ideal S512x2560 .f32) (v₁ v₂ : FVec Ideal S1024x64 .bf16) (vc : FVec Ideal S64x512 .bf16) :
    FVec Ideal S512x64 .f32 :=
  addf (addf
    (mulf (matmul dot_S512x1024_S1024x64_S512x64_1_0_0_1_n_n none
      (extractStridedSlice S512x1024 ![0, 0] (truncf .bf16 p bitsLt_bf16_f32 : FVec Ideal S512x2560 .bf16)
        slices_S512x2560_o0_0_S512x1024) v₁ (constant S512x64 .f32 0x00000000#32)) (recip p))
    (mulf (matmul dot_S512x1024_S1024x64_S512x64_1_0_0_1_n_n none
      (extractStridedSlice S512x1024 ![0, 1024] (truncf .bf16 p bitsLt_bf16_f32 : FVec Ideal S512x2560 .bf16)
        slices_S512x2560_o0_1024_S512x1024) v₂ (constant S512x64 .f32 0x00000000#32)) (recip p)))
    (mulf (matmul dot_S512x512_S64x512_S512x64_1_1_0_0_n_n none
      (extractStridedSlice S512x512 ![0, 2048] (truncf .bf16 p bitsLt_bf16_f32 : FVec Ideal S512x2560 .bf16)
        slices_S512x2560_o0_2048_S512x512) vc (constant S512x64 .f32 0x00000000#32)) (recip p))

/-- One group of heads: `mixed` of the powers of the scores. -/
def group (g : FVec Ideal S128x256 .bf16) (k₁ k₂ : FVec Ideal S1024x64 .bf16) (kc : FVec Ideal S64x512 .bf16)
    (v₁ v₂ : FVec Ideal S1024x64 .bf16) (vc : FVec Ideal S64x512 .bf16) : FVec Ideal S512x64 .f32 :=
  mixed (powers (scores (quad g) k₁ k₂ kc)) v₁ v₂ vc

/-- Two groups side by side, each head in its own lanes. -/
def lanes (a b : FVec Ideal S512x64 .f32) : FVec Ideal S128x512 .f32 :=
  concatenate S128x512 1
    [⟨S128x64, extractStridedSlice S128x64 ![0, 0] a slices_S512x64_o0_0_S128x64⟩,
     ⟨S128x64, extractStridedSlice S128x64 ![128, 0] a slices_S512x64_o128_0_S128x64⟩,
     ⟨S128x64, extractStridedSlice S128x64 ![256, 0] a slices_S512x64_o256_0_S128x64⟩,
     ⟨S128x64, extractStridedSlice S128x64 ![384, 0] a slices_S512x64_o384_0_S128x64⟩,
     ⟨S128x64, extractStridedSlice S128x64 ![0, 0] b slices_S512x64_o0_0_S128x64⟩,
     ⟨S128x64, extractStridedSlice S128x64 ![128, 0] b slices_S512x64_o128_0_S128x64⟩,
     ⟨S128x64, extractStridedSlice S128x64 ![256, 0] b slices_S512x64_o256_0_S128x64⟩,
     ⟨S128x64, extractStridedSlice S128x64 ![384, 0] b slices_S512x64_o384_0_S128x64⟩]
    concatenates_S128x64_S128x64_S128x64_S128x64_S128x64_S128x64_S128x64_S128x64_S128x512_d1

/-- The attention of 128 query rows. -/
def slab (q : FVec Ideal S128x512 .bf16) (k v : FVec Ideal S2048x128 .bf16) (kc vc : FVec Ideal S1x128x512 .bf16) :
    FVec Ideal S128x512 .f32 :=
  lanes
    (group (extractStridedSlice S128x256 ![0, 0] q slices_S128x512_o0_0_S128x256)
      (extractStridedSlice S1024x64 ![0, 0] k slices_S2048x128_o0_0_S1024x64)
      (extractStridedSlice S1024x64 ![1024, 0] k slices_S2048x128_o1024_0_S1024x64)
      (extractStridedSlice S64x512 ![0, 0] (shapeCast S128x512 kc shapeCasts_S1x128x512_S128x512)
        slices_S128x512_o0_0_S64x512)
      (extractStridedSlice S1024x64 ![0, 0] v slices_S2048x128_o0_0_S1024x64)
      (extractStridedSlice S1024x64 ![1024, 0] v slices_S2048x128_o1024_0_S1024x64)
      (extractStridedSlice S64x512 ![0, 0] (shapeCast S128x512 vc shapeCasts_S1x128x512_S128x512)
        slices_S128x512_o0_0_S64x512))
    (group (extractStridedSlice S128x256 ![0, 256] q slices_S128x512_o0_256_S128x256)
      (extractStridedSlice S1024x64 ![0, 64] k slices_S2048x128_o0_64_S1024x64)
      (extractStridedSlice S1024x64 ![1024, 64] k slices_S2048x128_o1024_64_S1024x64)
      (extractStridedSlice S64x512 ![64, 0] (shapeCast S128x512 kc shapeCasts_S1x128x512_S128x512)
        slices_S128x512_o64_0_S64x512)
      (extractStridedSlice S1024x64 ![0, 64] v slices_S2048x128_o0_64_S1024x64)
      (extractStridedSlice S1024x64 ![1024, 64] v slices_S2048x128_o1024_64_S1024x64)
      (extractStridedSlice S64x512 ![64, 0] (shapeCast S128x512 vc shapeCasts_S1x128x512_S128x512)
        slices_S128x512_o64_0_S64x512))

/-- The stored block: four slabs of 128 rows. -/
def block (q₀ q₁ q₂ q₃ : FVec Ideal S128x512 .bf16) (k v : FVec Ideal S2048x128 .bf16)
    (kc vc : FVec Ideal S1x128x512 .bf16) : FVec Ideal S512x512 .bf16 :=
  truncf .bf16 (concatenate S512x512 0
    [⟨S128x512, slab q₀ k v kc vc⟩, ⟨S128x512, slab q₁ k v kc vc⟩, ⟨S128x512, slab q₂ k v kc vc⟩,
     ⟨S128x512, slab q₃ k v kc vc⟩]
    concatenates_S128x512_S128x512_S128x512_S128x512_S512x512_d0) bitsLt_bf16_f32

/-- The body's stored block is `block` of what it loads. -/
theorem out_eq (x0 : Vec Ideal S512x512 .bf16) (x1 x2 : Vec Ideal S2048x128 .bf16) (x3 x4 : Vec Ideal S1x128x512 .bf16)
    (i : S512x512.Idx) :
    out0_5 (F := Ideal) x0 x1 x2 x3 x4 i
      = block (View.ld x0 r0_2) (View.ld x0 r0_3) (View.ld x0 r0_4) (View.ld x0 r0_5) x1 x2 x3 x4 i := by
  unfold_out out0_5
  frame_out
  rfl

end Cert.Attn

end
-- ==== Proof.Attn.Rows.lean ====
/-
  The stored block of the dense attention read at an index: a softmax of one row of scores over all keys, latent and context.
-/
module

public import proofs.«01_k».proof.Proof.Attn.Body
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.SL.Sem

/-- The pattern of minus infinity. -/
theorem ofBits_bot : Ideal.ofBits .f32 0xFF800000#32 = ⊥ := by
  simp [Ideal.ofBits, Ideal.ieee]

/-- A column of the keys' or the values' two halves and the context's, in one row. -/
def joined (a b : FVec Ideal S1024x64 .bf16) (c : FVec Ideal S64x512 .bf16) (d : Fin 64) (j : Fin 2560) : EReal :=
  if h : (j : ℕ) < 1024 then a (ix2 ⟨j, h⟩ d)
  else if h' : (j : ℕ) < 2048 then b (ix2 ⟨j - 1024, by omega⟩ d) else c (ix2 d ⟨j - 2048, by omega⟩)

theorem scores_apply (q : FVec Ideal S512x64 .bf16) (k₁ k₂ : FVec Ideal S1024x64 .bf16) (kc : FVec Ideal S64x512 .bf16)
    (r : Fin 512) (j : Fin 2560) :
    scores q k₁ k₂ kc (ix2 r j) = ∑ d : Fin 64, q (ix2 r d) * joined k₁ k₂ kc d j := by
  pointwise [scores]
  unfold joined
  by_cases h : (j : ℕ) < 1024
  · simp only [dif_pos h]
  · by_cases h' : (j : ℕ) < 2048
    · simp only [dif_neg h, dif_pos h', dif_pos (show (j : ℕ) - 1024 < 1024 by omega)]
    · simp only [dif_neg h, dif_neg h', dif_neg (show ¬ (j : ℕ) - 1024 < 1024 by omega), Nat.sub_sub]

theorem powers_apply (s : FVec Ideal S512x2560 .f32) (r : Fin 512) (j : Fin 2560) :
    powers s (ix2 r j) = pow2 (fun j => s (ix2 r j)) j := by
  pointwise [powers]
  rw [ofBits_bot]
  rfl

theorem mixed_apply (p : FVec Ideal S512x2560 .f32) (v₁ v₂ : FVec Ideal S1024x64 .bf16) (vc : FVec Ideal S64x512 .bf16)
    (r : Fin 512) (d : Fin 64) : mixed p v₁ v₂ vc (ix2 r d)
      = (∑ j : Fin 1024, p (ix2 r ⟨j, by omega⟩) * v₁ (ix2 j d)) * Ideal.div 1 (∑ j, p (ix2 r j))
        + (∑ j : Fin 1024, p (ix2 r ⟨1024 + j, by omega⟩) * v₂ (ix2 j d)) * Ideal.div 1 (∑ j, p (ix2 r j))
        + (∑ j : Fin 512, p (ix2 r ⟨2048 + j, by omega⟩) * vc (ix2 d j)) * Ideal.div 1 (∑ j, p (ix2 r j)) := by
  pointwise [mixed, recip]

/-- One group's result: the softmax of the scores times `log 2`, weighting the values. -/
theorem group_apply (g : FVec Ideal S128x256 .bf16) (k₁ k₂ : FVec Ideal S1024x64 .bf16) (kc : FVec Ideal S64x512 .bf16)
    (v₁ v₂ : FVec Ideal S1024x64 .bf16) (vc : FVec Ideal S64x512 .bf16) (r : Fin 512) (d : Fin 64)
    (x : Fin 2560 → ℝ) (hx : ∀ j, ∑ e : Fin 64, quad g (ix2 r e) * joined k₁ k₂ kc e j = x j) :
    group g k₁ k₂ kc v₁ v₂ vc (ix2 r d)
      = softRow (fun j => (∑ e : Fin 64, quad g (ix2 r e) * joined k₁ k₂ kc e j) * (Real.log 2 : ℝ))
          (joined v₁ v₂ vc d) := by
  rw [← parts _ _ x hx, group, mixed_apply]
  simp only [powers_apply, scores_apply]
  have e₁ : ∀ j : Fin 1024, joined v₁ v₂ vc d ⟨j, by omega⟩ = v₁ (ix2 j d) := fun j => by
    unfold joined
    rw [dif_pos j.isLt]
  have e₂ : ∀ j : Fin 1024, joined v₁ v₂ vc d ⟨1024 + j, by omega⟩ = v₂ (ix2 j d) := fun j => by
    unfold joined
    rw [dif_neg (by simp), dif_pos (by simp; omega)]
    simp
  have e₃ : ∀ j : Fin 512, joined v₁ v₂ vc d ⟨2048 + j, by omega⟩ = vc (ix2 d j) := fun j => by
    unfold joined
    rw [dif_neg (by simp; omega), dif_neg (by simp)]
    simp
  simp only [e₁, e₂, e₃]

theorem quad_apply (g : FVec Ideal S128x256 .bf16) (h : Fin 4) (r : Fin 128) (d : Fin 64) :
    quad g (ix2 ⟨128 * h + r, by omega⟩ d) = g (ix2 r ⟨64 * h + d, by omega⟩) := by
  fin_cases h <;> pointwise [quad] <;>
    (repeat' first | rw [dif_pos (by omega)] | rw [dif_neg (by omega)]) <;> blk_ext []

theorem lanes_apply (a b : FVec Ideal S512x64 .f32) (g : Fin 2) (h : Fin 4) (r : Fin 128) (d : Fin 64) :
    lanes a b (ix2 r ⟨256 * g + 64 * h + d, by omega⟩)
      = if g = 0 then a (ix2 ⟨128 * h + r, by omega⟩ d) else b (ix2 ⟨128 * h + r, by omega⟩ d) := by
  fin_cases g <;> fin_cases h <;> pointwise [lanes] <;>
    (repeat' first | rw [dif_pos (by omega)] | rw [dif_neg (by omega)]) <;> blk_ext []

/-- The key or the value of a key head: a latent row of the block or a column of the cached context. -/
def entry (k : FVec Ideal S2048x128 .bf16) (kc : FVec Ideal S1x128x512 .bf16) (g : Fin 2) (d : Fin 64) (j : Fin 2560) :
    EReal :=
  if h : (j : ℕ) < 2048 then k (ix2 ⟨j, h⟩ ⟨64 * g + d, by omega⟩)
  else kc (ix3 0 ⟨64 * g + d, by omega⟩ ⟨j - 2048, by omega⟩)

theorem joined_zero (k : FVec Ideal S2048x128 .bf16) (kc : FVec Ideal S1x128x512 .bf16) (d : Fin 64) (j : Fin 2560) :
    joined (extractStridedSlice S1024x64 ![0, 0] k slices_S2048x128_o0_0_S1024x64)
      (extractStridedSlice S1024x64 ![1024, 0] k slices_S2048x128_o1024_0_S1024x64)
      (extractStridedSlice S64x512 ![0, 0] (shapeCast S128x512 kc shapeCasts_S1x128x512_S128x512)
        slices_S128x512_o0_0_S64x512) d j = entry k kc 0 d j := by
  unfold joined entry
  by_cases h : (j : ℕ) < 1024
  · rw [dif_pos h, dif_pos (by omega)]
    pointwise
    blk_ext []
  · by_cases h' : (j : ℕ) < 2048
    · rw [dif_neg h, dif_pos h', dif_pos h']
      pointwise
      blk_ext []
    · rw [dif_neg h, dif_neg h', dif_neg h']
      pointwise
      blk_ext []

theorem joined_one (k : FVec Ideal S2048x128 .bf16) (kc : FVec Ideal S1x128x512 .bf16) (d : Fin 64) (j : Fin 2560) :
    joined (extractStridedSlice S1024x64 ![0, 64] k slices_S2048x128_o0_64_S1024x64)
      (extractStridedSlice S1024x64 ![1024, 64] k slices_S2048x128_o1024_64_S1024x64)
      (extractStridedSlice S64x512 ![64, 0] (shapeCast S128x512 kc shapeCasts_S1x128x512_S128x512)
        slices_S128x512_o64_0_S64x512) d j = entry k kc 1 d j := by
  unfold joined entry
  by_cases h : (j : ℕ) < 1024
  · rw [dif_pos h, dif_pos (by omega)]
    pointwise
    blk_ext []
  · by_cases h' : (j : ℕ) < 2048
    · rw [dif_neg h, dif_pos h', dif_pos h']
      pointwise
      blk_ext []
    · rw [dif_neg h, dif_neg h', dif_neg h']
      pointwise
      blk_ext []

/-- A slab's result: head `h` of group `g` at row `r`, lane `d`. -/
theorem slab_apply (q : FVec Ideal S128x512 .bf16) (k v : FVec Ideal S2048x128 .bf16) (kc vc : FVec Ideal S1x128x512 .bf16)
    (g : Fin 2) (h : Fin 4) (r : Fin 128) (d : Fin 64) (x : Fin 2560 → ℝ)
    (hx : ∀ j, ∑ e : Fin 64, q (ix2 r ⟨256 * g + 64 * h + e, by omega⟩) * entry k kc g e j = x j) :
    slab q k v kc vc (ix2 r ⟨256 * g + 64 * h + d, by omega⟩)
      = softRow (fun j => (∑ e : Fin 64, q (ix2 r ⟨256 * g + 64 * h + e, by omega⟩) * entry k kc g e j) * (Real.log 2 : ℝ))
          (entry v vc g d) := by
  rw [slab, lanes_apply]
  have e₀ : ∀ e : Fin 64, extractStridedSlice S128x256 ![0, 0] q slices_S128x512_o0_0_S128x256
      (ix2 r ⟨64 * h + e, by omega⟩) = q (ix2 r ⟨256 * (0 : Fin 2) + 64 * h + e, by simp; omega⟩) := fun e => by
    pointwise
    blk_ext []
  have e₁ : ∀ e : Fin 64, extractStridedSlice S128x256 ![0, 256] q slices_S128x512_o0_256_S128x256
      (ix2 r ⟨64 * h + e, by omega⟩) = q (ix2 r ⟨256 * (1 : Fin 2) + 64 * h + e, by simp; omega⟩) := fun e => by
    pointwise
    blk_ext []
  obtain rfl | rfl : g = 0 ∨ g = 1 := by omega
  · rw [if_pos rfl, group_apply _ _ _ _ _ _ _ _ _ x (fun j => by simp only [quad_apply, joined_zero, e₀]; exact hx j)]
    simp only [quad_apply, joined_zero, e₀]
    exact congrArg _ (funext fun j => joined_zero v vc d j)
  · rw [if_neg (by decide), group_apply _ _ _ _ _ _ _ _ _ x (fun j => by simp only [quad_apply, joined_one, e₁]; exact hx j)]
    simp only [quad_apply, joined_one, e₁]
    exact congrArg _ (funext fun j => joined_one v vc d j)

/-- The stored block is its slabs, one under the other. -/
theorem block_apply (q : Fin 4 → FVec Ideal S128x512 .bf16) (k v : FVec Ideal S2048x128 .bf16)
    (kc vc : FVec Ideal S1x128x512 .bf16) (b : Fin 4) (r : Fin 128) (l : Fin 512) :
    block (q 0) (q 1) (q 2) (q 3) k v kc vc (ix2 ⟨128 * b + r, by omega⟩ l) = slab (q b) k v kc vc (ix2 r l) := by
  fin_cases b <;> pointwise [block] <;>
    (repeat' first | rw [dif_pos (by omega)] | rw [dif_neg (by omega)]) <;> blk_ext []

end Cert.Attn

end
-- ==== Proof.Attn.Ref.lean ====
/-
  The dense attention's reference read at an index: the softmax of the row's scores times `log 2`, weighting the values.
-/
module

public import proofs.«01_k».proof.Proof.Gen.ReferenceIdeal.Run
public import proofs.«01_k».proof.Proof.Gen.ReferenceIdeal.Read
public import proofs.«01_k».proof.Proof.Attn.Softmax
public import Idealize.ShloMosaic.Lib.Pointwise
public import Idealize.ShloMosaic.Lib.Pipeline.ValueKit

@[expose] public section

set_option maxRecDepth 16384

noncomputable section

namespace Cert.AttnRef

open Cert.ReferenceIdeal Cert.ReferenceIdeal.Gen Cert.ReferenceIdeal.Read Idealize.ShloMosaic Idealize.ShloMosaic.TcCoe Idealize.SL.Sem

/-- A key (or a value) of one sequence and key head: a latent row, then the cached context. -/
def key (k : FVec Ideal S16384x128 .bf16) (kc : FVec Ideal S8x512x2x64 .f32) (b : Fin 8) (g : Fin 2) (d : Fin 64)
    (j : Fin 2560) : EReal :=
  if h : (j : ℕ) < 2048 then k (ix2 ⟨2048 * b + j, by omega⟩ ⟨64 * g + d, by omega⟩)
  else kc (ix4 b ⟨j - 2048, by omega⟩ g d)

theorem keys_apply (k : FVec Ideal S16384x128 .bf16) (kc : FVec Ideal S8x512x2x64 .f32) (b : Fin 8) (g : Fin 2) (d : Fin 64)
    (j : Fin 2560) : val_main_v4 (F := Ideal) k kc (ix4 b j g d) = key k kc b g d j := by
  pointwise [val_main_v4, val_main_v3, val_main_v2]
  unfold key
  by_cases h : (j : ℕ) < 2048
  · rw [dif_pos h, dif_pos h]
    blk_ext []
  · rw [dif_neg h, dif_neg h]

theorem values_apply (k : FVec Ideal S16384x128 .bf16) (kc : FVec Ideal S8x512x2x64 .f32) (b : Fin 8) (g : Fin 2)
    (d : Fin 64) (j : Fin 2560) : val_main_v7 (F := Ideal) k kc (ix4 b j g d) = key k kc b g d j :=
  keys_apply k kc b g d j

/-- The pattern of minus infinity. -/
theorem ofBits_bot : Ideal.ofBits .f32 0xFF800000#32 = ⊥ := by
  simp [Ideal.ofBits, Ideal.ieee]

/-- The pattern of the number two, and its logarithm. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]
    norm_num
  rw [h]
  show (if (2 : ℝ) ≤ 0 then (⊥ : EReal) else ((Real.log 2 : ℝ) : EReal)) = _
  rw [if_neg (by norm_num)]

theorem scores_apply (q : FVec Ideal S16384x512 .bf16) (k : FVec Ideal S16384x128 .bf16) (kc : FVec Ideal S8x512x2x64 .f32)
    (b : Fin 8) (g : Fin 2) (h : Fin 4) (t : Fin 2048) (j : Fin 2560) :
    val_main_v13 (F := Ideal) q k kc (ix5 b g h t j)
      = (∑ e : Fin 64, q (ix2 ⟨2048 * b + t, by omega⟩ ⟨256 * g + 64 * h + e, by omega⟩) * key k kc b g e j)
        * (Real.log 2 : ℝ) := by
  pointwise [val_main_v13, val_main_v12, val_main_v11, val_main_v10, val_main_cst, val_main_v9, val_main_v8, val_main_v1, val_main_v0]
  refine Ideal.mul_congr (Finset.sum_congr rfl fun e _ => ?_) log_two
  rw [keys_apply, mul_comm]
  exact Ideal.mul_congr (by blk_ext []) rfl

theorem layout_apply (q : FVec Ideal S16384x512 .bf16) (k v : FVec Ideal S16384x128 .bf16) (kc vc : FVec Ideal S8x512x2x64 .f32)
    (b : Fin 8) (g : Fin 2) (h : Fin 4) (t : Fin 2048) (d : Fin 64) :
    val_main_v28 (F := Ideal) q k v kc vc (ix2 ⟨2048 * b + t, by omega⟩ ⟨256 * g + 64 * h + d, by omega⟩)
      = val_main_v26 (F := Ideal) q k v kc vc (ix5 b t g h d) := by
  pointwise [val_main_v28, val_main_v27]

theorem mixed_apply (q : FVec Ideal S16384x512 .bf16) (k v : FVec Ideal S16384x128 .bf16) (kc vc : FVec Ideal S8x512x2x64 .f32)
    (b : Fin 8) (g : Fin 2) (h : Fin 4) (t : Fin 2048) (d : Fin 64) :
    val_main_v26 (F := Ideal) q k v kc vc (ix5 b t g h d)
      = ∑ j, val_main_v24 (F := Ideal) q k kc (ix5 b g h t j) * key v vc b g d j := by
  pointwise [val_main_v26, val_main_v25]
  exact Finset.sum_congr rfl fun j _ => by rw [values_apply, mul_comm]

/-- A maximum over the last of five axes, from an initial value. -/
theorem reduceMax_last {n₀ n₁ n₂ n₃ n₄ : ℕ} {u : Shape}
    (h : (⟨5, ![n₀, n₁, n₂, n₃, n₄]⟩ : Shape).ReducesTo [4] (⟨4, ![n₀, n₁, n₂, n₃]⟩ : Shape))
    (x : FVec Ideal (⟨5, ![n₀, n₁, n₂, n₃, n₄]⟩ : Shape) .f32) (z : FVec Ideal u .f32) (hu : 0 < u.numel)
    (a : Fin n₀) (b : Fin n₁) (c : Fin n₂) (d : Fin n₃) :
    Host.reduce FloatOps.maximumf x z h hu (ix4 a b c d)
      = Finset.univ.fold max (z (Shape.Idx.first hu)) fun k => x (ix5 a b c d k) := by
  rw [Host.reduce_eq_fold, h.fold_fiber_r5_a4]
  rfl

theorem reduce_apply (q : FVec Ideal S16384x512 .bf16) (k : FVec Ideal S16384x128 .bf16) (kc : FVec Ideal S8x512x2x64 .f32)
    (b : Fin 8) (g : Fin 2) (h : Fin 4) (t : Fin 2048) :
    val_main_v14 (F := Ideal) q k kc (ix4 b g h t) = Cert.Attn.top fun j => val_main_v13 (F := Ideal) q k kc (ix5 b g h t j) := by
  unfold val_main_v14
  generalize val_main_v13 (F := Ideal) q k kc = y
  refine (reduceMax_last reducesTo_S8x2x4x2048x2560_S8x2x4x2048_d4 y _ h_S_ b g h t).trans ?_
  exact congrArg (fun z => Finset.univ.fold max z _) ofBits_bot

theorem top_max (x : EReal) : max (Ideal.ofBits .f32 0xFF800000#32) x = x := by
  rw [ofBits_bot]
  exact max_eq_right bot_le

theorem cap_apply (i : S8x2x4x2048.Idx) : val_main_v15 (F := Ideal) i = Ideal.ofBits .f32 0xFF800000#32 := by
  rw [val_main_v15_apply]
  rfl

theorem top_apply (q : FVec Ideal S16384x512 .bf16) (k : FVec Ideal S16384x128 .bf16) (kc : FVec Ideal S8x512x2x64 .f32)
    (i : S8x2x4x2048.Idx) :
    val_main_v16 (F := Ideal) q k kc i = val_main_v14 (F := Ideal) q k kc i := by
  rw [val_main_v16_apply, cap_apply]
  generalize val_main_v14 (F := Ideal) q k kc i = y
  exact top_max y

theorem exp_apply (q : FVec Ideal S16384x512 .bf16) (k : FVec Ideal S16384x128 .bf16) (kc : FVec Ideal S8x512x2x64 .f32)
    (b : Fin 8) (g : Fin 2) (h : Fin 4) (t : Fin 2048) (j : Fin 2560) :
    val_main_v20 (F := Ideal) q k kc (ix5 b g h t j)
      = Ideal.exp (val_main_v13 (F := Ideal) q k kc (ix5 b g h t j)
        - Cert.Attn.top fun j => val_main_v13 (F := Ideal) q k kc (ix5 b g h t j)) := by
  pointwise [val_main_v20, val_main_v19, val_main_v18, val_main_v17]
  rw [top_apply, reduce_apply]

theorem weight_apply (q : FVec Ideal S16384x512 .bf16) (k : FVec Ideal S16384x128 .bf16) (kc : FVec Ideal S8x512x2x64 .f32)
    (b : Fin 8) (g : Fin 2) (h : Fin 4) (t : Fin 2048) (j : Fin 2560) :
    val_main_v24 (F := Ideal) q k kc (ix5 b g h t j)
      = Ideal.div (val_main_v20 (F := Ideal) q k kc (ix5 b g h t j)) (∑ l, val_main_v20 (F := Ideal) q k kc (ix5 b g h t l)) := by
  pointwise [val_main_v24, val_main_v23, val_main_v22, val_main_v21, val_main_cst_2]

/-- The reference's result: head `h` of group `g` at row `t` of sequence `b`, lane `d`. -/
theorem res_apply (q : FVec Ideal S16384x512 .bf16) (k v : FVec Ideal S16384x128 .bf16) (kc vc : FVec Ideal S8x512x2x64 .f32)
    (b : Fin 8) (g : Fin 2) (h : Fin 4) (t : Fin 2048) (d : Fin 64) :
    val_main_v28 (F := Ideal) q k v kc vc (ix2 ⟨2048 * b + t, by omega⟩ ⟨256 * g + 64 * h + d, by omega⟩)
      = Cert.Attn.softRow (fun j => (∑ e : Fin 64, q (ix2 ⟨2048 * b + t, by omega⟩ ⟨256 * g + 64 * h + e, by omega⟩)
          * key k kc b g e j) * (Real.log 2 : ℝ)) (key v vc b g d) := by
  rw [layout_apply, mixed_apply]
  simp only [weight_apply, exp_apply, scores_apply]
  rfl

end Cert.AttnRef

end
-- ==== Proof.Attn.Finite.lean ====
/- What the precondition of the attention says at the ideal instance: the queries, the keys and the cached keys are
   real numbers, so each of the sums of products that make the scores is one. -/
module

public import proofs.«01_k».proof.Defs
public import proofs.«01_k».proof.Proof.Gen.ReferenceIdeal
public import proofs.«01_k».proof.Proof.Attn.Softmax

@[expose] public section

set_option maxRecDepth 16384

noncomputable section

namespace Cert.Attn

open Idealize.ShloMosaic Idealize.ShloMosaic.Pointwise

/-- The shapes the precondition states fit together. -/
instance finite_facts : Cert.Pre_finite_keys.Facts where
  bitsLt_bf16_f32 := by decide
  bcast_S_S16384x512 := by decide
  bcast_S_S16384x128 := by decide
  bcast_S_S8x512x2x64 := by decide

/-- A number whose absolute value is below infinity is real. -/
theorem real_of_abs_lt (x : EReal) (h : max x (-x) < ⊤) : ∃ r : ℝ, x = r := by
  induction x using EReal.rec with
  | bot => simp at h
  | coe r => exact ⟨r, rfl⟩
  | top => simp at h

/-- Every entry is a real number. -/
def AllReal {ι : Type} (x : ι → EReal) : Prop := ∀ i, ∃ r : ℝ, x i = r

theorem sum_real {n : ℕ} (f g : Fin n → EReal) (hf : ∀ i, ∃ r : ℝ, f i = r) (hg : ∀ i, ∃ r : ℝ, g i = r) :
    ∃ r : ℝ, ∑ i, f i * g i = r := by
  choose a ha using hf
  choose b hb using hg
  refine ⟨∑ i, a i * b i, ?_⟩
  rw [← coe_sum]
  exact Finset.sum_congr rfl fun i _ => by rw [ha, hb, EReal.coe_mul]

theorem ofBits_top : Ideal.ofBits .f32 0x7F800000#32 = ⊤ := by
  simp [Ideal.ofBits, Ideal.ieee]

theorem lt_of_bit (a b : EReal) (h : BitVec.ofBool (decide (a < b)) = 1#1) : a < b := by
  by_contra h'
  simp [h'] at h

theorem finite_at (q : FVec Ideal Cert.Pre_finite_keys.S16384x512 .bf16)
    (k v : FVec Ideal Cert.Pre_finite_keys.S16384x128 .bf16) (kc vc : FVec Ideal Cert.Pre_finite_keys.S8x512x2x64 .f32)
    (h₀ : (Cert.Pre_finite_keys.fn (F := Ideal) q k v kc vc).1 = fun _ => 1#1)
    (h₁ : (Cert.Pre_finite_keys.fn (F := Ideal) q k v kc vc).2.1 = fun _ => 1#1)
    (h₂ : (Cert.Pre_finite_keys.fn (F := Ideal) q k v kc vc).2.2 = fun _ => 1#1) :
    AllReal q ∧ AllReal k ∧ AllReal kc := by
  refine ⟨fun i => real_of_abs_lt _ ?_, fun i => real_of_abs_lt _ ?_, fun i => real_of_abs_lt _ ?_⟩
  · have h := congrFun h₀ i
    revert h
    pointwise [Cert.Pre_finite_keys.fn]
    rw [ofBits_top]
    exact lt_of_bit _ _
  · have h := congrFun h₁ i
    revert h
    pointwise [Cert.Pre_finite_keys.fn]
    rw [ofBits_top]
    exact lt_of_bit _ _
  · have h := congrFun h₂ i
    revert h
    pointwise [Cert.Pre_finite_keys.fn]
    rw [ofBits_top]
    exact lt_of_bit _ _

end Cert.Attn

end
-- ==== Proof.Attn.Equation.lean ====
/- The attention's final array is the reference's: each grid point reads its own 512 query rows and the keys, values and
   cached keys and values of the sequence these rows belong to. -/
module

public import proofs.«01_k».proof.Proof.Gen.KernelIdeal.Value
public import proofs.«01_k».proof.Proof.Attn.Rows
public import proofs.«01_k».proof.Proof.Attn.Ref
public import proofs.«01_k».proof.Proof.Attn.Finite

@[expose] public section

set_option maxRecDepth 16384

noncomputable section

namespace Cert.Attn

open Idealize.ShloMosaic Idealize.ShloMosaic.Pointwise Idealize.ShloMosaic.Pipeline Idealize.SL.Sem
open Cert.KernelIdeal Cert.KernelIdeal.Gen

variable (m : (ℓ : Loc nD τ sig) → Buf (Elt Ideal) ℓ) (c : Dev nD)

theorem idx : ∀ t : Fin cfg0.N, win0_0.index t = ![t.val, 0] ∧ win0_1.index t = ![t.val / 4, 0]
    ∧ win0_2.index t = ![t.val / 4, 0] ∧ win0_3.index t = ![t.val / 4, 0, 0] ∧ win0_4.index t = ![t.val / 4, 0, 0]
    ∧ win0_5.index t = ![t.val, 0] :=
  (by decide +kernel : ∀ t : Fin grid0.N, _)

/-- The rows of the queries that one of the four parts of a block reads. -/
def rowsOf (t : Fin cfg0.N) : Fin 4 → FVec Ideal S128x512 .bf16 :=
  ![View.ld (iblk m c 0 t) r0_2, View.ld (iblk m c 0 t) r0_3, View.ld (iblk m c 0 t) r0_4, View.ld (iblk m c 0 t) r0_5]

theorem rowsOf_apply (t : Fin cfg0.N) (b : Fin 4) (r : Fin 128) (l : Fin 512) :
    rowsOf m c t b (ix2 r l)
      = m ((c.tc : Thread nD τ).loc main_arg0) (ix2 ⟨512 * t + 128 * b + r, by have : (t : ℕ) < 32 := N_0 ▸ t.isLt; omega⟩ l) := by
  fin_cases b <;> pointwise [rowsOf] <;> blk_ext [iblk, V, idx t]

/-- The cache as the kernel is given it: one column for each context token. -/
theorem cache_apply (x : FVec Ideal S8x512x2x64 .f32) (b : Fin 8) (g : Fin 2) (d : Fin 64) (j : Fin 512) :
    shapeCast S8x128x512 (transpose S8x2x64x512 [0, 2, 3, 1] (truncf .bf16 x bitsLt_bf16_f32)
      transposes_S8x512x2x64_S8x2x64x512_0_2_3_1) shapeCasts_S8x2x64x512_S8x128x512
        (ix3 b ⟨64 * g + d, by omega⟩ j) = x (ix4 b j g d) := by
  pointwise
  blk_ext []

theorem key_read (t : Fin cfg0.N) (b : Fin 8) (hb : (b : ℕ) = t / 4) (g : Fin 2) (d : Fin 64) (j : Fin 2560) :
    entry (iblk m c 1 t) (iblk m c 3 t) g d j
      = Cert.AttnRef.key (m ((c.tc : Thread nD τ).loc main_arg1)) (m ((c.tc : Thread nD τ).loc main_arg3)) b g d j := by
  unfold entry Cert.AttnRef.key
  split
  · blk_ext [iblk, V, idx t]
  · unfold iblk
    entry_read
    refine (congrArg _ (show (win0_3.blk t).view.emb (ix3 0 ⟨64 * g + d, by omega⟩ ⟨j - 2048, by omega⟩)
      = ix3 b ⟨64 * g + d, by omega⟩ ⟨j - 2048, by omega⟩ by blk_ext [idx t])).trans (cache_apply _ _ _ _ _)

theorem value_read (t : Fin cfg0.N) (b : Fin 8) (hb : (b : ℕ) = t / 4) (g : Fin 2) (d : Fin 64) (j : Fin 2560) :
    entry (iblk m c 2 t) (iblk m c 4 t) g d j
      = Cert.AttnRef.key (m ((c.tc : Thread nD τ).loc main_arg2)) (m ((c.tc : Thread nD τ).loc main_arg4)) b g d j := by
  unfold entry Cert.AttnRef.key
  split
  · blk_ext [iblk, V, idx t]
  · unfold iblk
    entry_read
    refine (congrArg _ (show (win0_4.blk t).view.emb (ix3 0 ⟨64 * g + d, by omega⟩ ⟨j - 2048, by omega⟩)
      = ix3 b ⟨64 * g + d, by omega⟩ ⟨j - 2048, by omega⟩ by blk_ext [idx t])).trans (cache_apply _ _ _ _ _)

theorem key_real (k : FVec Ideal S16384x128 .bf16) (kc : FVec Ideal S8x512x2x64 .f32) (hk : AllReal k)
    (hc : AllReal kc) (b : Fin 8) (g : Fin 2) (e : Fin 64) (j : Fin 2560) :
    ∃ r : ℝ, Cert.AttnRef.key k kc b g e j = r := by
  unfold Cert.AttnRef.key
  split
  · exact hk _
  · exact hc _

/-- What a grid point writes is its block of the reference's result. -/
theorem point (hq : AllReal (ι := S16384x512.Idx) (m ((c.tc : Thread nD τ).loc main_arg0)))
    (hk : AllReal (ι := S16384x128.Idx) (m ((c.tc : Thread nD τ).loc main_arg1)))
    (hc : AllReal (ι := S8x512x2x64.Idx) (m ((c.tc : Thread nD τ).loc main_arg3)))
    (t : Fin cfg0.N) (b h : Fin 4) (g : Fin 2) (r : Fin 128) (d : Fin 64) (s : Fin 8) (p : Fin 2048) (hs : (s : ℕ) = t / 4)
    (hp : (p : ℕ) = 512 * (t % 4) + 128 * b + r) :
    out0_5 (iblk m c 0 t) (iblk m c 1 t) (iblk m c 2 t) (iblk m c 3 t) (iblk m c 4 t)
        (ix2 ⟨128 * b + r, by omega⟩ ⟨256 * g + 64 * h + d, by omega⟩)
      = Cert.ReferenceIdeal.Read.val_main_v28 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (ix2 ⟨2048 * s + p, by omega⟩ ⟨256 * g + 64 * h + d, by omega⟩) := by
  have ht : (t : ℕ) < 32 := N_0 ▸ t.isLt
  have e : ∀ l : Fin 512, rowsOf m c t b (ix2 r l)
      = m ((c.tc : Thread nD τ).loc main_arg0) (ix2 ⟨2048 * s + p, by omega⟩ l) := fun l => by
    rw [rowsOf_apply]
    blk_ext []
  have hx : ∀ j : Fin 2560, ∃ x : ℝ, ∑ e : Fin 64, rowsOf m c t b (ix2 r ⟨256 * g + 64 * h + e, by omega⟩)
      * entry (iblk m c 1 t) (iblk m c 3 t) g e j = x := fun j =>
    sum_real _ _ (fun i => by rw [e]; exact hq _) fun i => by rw [key_read m c t s hs]; exact key_real _ _ hk hc _ _ _ _
  choose x hx using hx
  rw [out_eq, Cert.AttnRef.res_apply]
  refine (block_apply (rowsOf m c t) _ _ _ _ b r _).trans ?_
  rw [slab_apply _ _ _ _ _ g h r d x hx]
  simp only [e, key_read m c t s hs]
  congr 1
  funext j
  exact value_read m c t s hs g d j

/-- The final array: the reference's result. -/
theorem final (hq : AllReal (ι := S16384x512.Idx) (m ((c.tc : Thread nD τ).loc main_arg0)))
    (hk : AllReal (ι := S16384x128.Idx) (m ((c.tc : Thread nD τ).loc main_arg1)))
    (hc : AllReal (ι := S8x512x2x64.Idx) (m ((c.tc : Thread nD τ).loc main_arg3))) :
    (dats m 0 c).arrAt 5 cfg0.N
      = Cert.ReferenceIdeal.Read.val_main_v28 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4)) := by
  refine (dats m 0 c).arrAt_eq_of_covers 5 _ (by decide +kernel) fun t _ y => ?_
  blk_simp
  rw [after0_5]
  have ht : (t : ℕ) < 32 := N_0 ▸ t.isLt
  have h₀ : (y 0 : ℕ) < 512 := (y 0).isLt
  have h₁ : (y 1 : ℕ) < 512 := (y 1).isLt
  have h := point m c hq hk hc t ⟨y 0 / 128, by omega⟩ ⟨y 1 % 256 / 64, by omega⟩ ⟨y 1 / 256, by omega⟩
    ⟨y 0 % 128, by omega⟩ ⟨y 1 % 64, by omega⟩ ⟨t / 4, by omega⟩
    ⟨512 * (t % 4) + 128 * (y 0 / 128) + y 0 % 128, by omega⟩ rfl rfl
  refine Eq.trans ?_ (h.trans ?_)
  · refine congrArg _ ?_
    blk_ext []
  · refine congrArg _ ?_
    blk_ext [idx t]

end Cert.Attn

end
-- ==== Proof.Attn.Claim.lean ====
/- The claims about the attention: the frames, and the equality of the final array with the reference's result. -/
module

public import proofs.«01_k».proof.Defs
public import proofs.«01_k».proof.Proof.Gen.Kernel.Frame
public import proofs.«01_k».proof.Proof.Gen.ReferenceIdeal.Run
public import proofs.«01_k».proof.Proof.Attn.Equation
public import Idealize.ShloMosaic.Adequacy
public import Idealize.ShloMosaic.Init

@[expose] public section

noncomputable section

namespace Cert.Attn

open Idealize.ShloMosaic Idealize.SL.Sem

theorem frame_p : Cert.quiescent_Kernel (hKernel := Cert.Kernel.Gen.facts) :=
  fun m ρ _ => Cert.Kernel.Gen.frame m ρ

theorem frame_pi : Cert.quiescent_KernelIdeal (hKernelIdeal := Cert.KernelIdeal.Gen.facts) :=
  fun m ρ _ => Cert.KernelIdeal.Gen.frame m ρ

theorem frame_pi_pre : Cert.quiescent_KernelIdeal_pre_finite_keys (hKernelIdeal := Cert.KernelIdeal.Gen.facts)
    (hPre_finite_keys := finite_facts) :=
  fun m ρ _ => Cert.KernelIdeal.Gen.frame m ρ

theorem frame_ri : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_ri_pre : Cert.quiescent_ReferenceIdeal_pre_finite_keys (hReferenceIdeal := Cert.ReferenceIdeal.Gen.facts)
    (hPre_finite_keys := finite_facts) := fun m ρ _ => frame_ri m ρ trivial

theorem algebraic : Cert.algebraic_KernelIdeal_ReferenceIdeal_pre_finite_keys (hKernelIdeal := Cert.KernelIdeal.Gen.facts)
    (hReferenceIdeal := Cert.ReferenceIdeal.Gen.facts) (hPre_finite_keys := finite_facts) := by
  intro m ρ m' ρ' hpre hagree
  refine ⟨_, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  obtain ⟨h₀, h₁, h₂, h₃, h₄⟩ := hagree c
  obtain ⟨p₀, p₁, p₂⟩ := hpre c
  obtain ⟨hq, hk, hc⟩ := finite_at _ _ _ _ _ p₀ p₁ p₂
  rw [Cert.ReferenceIdeal.Read.val_main_v28_eq, h₀, h₁, h₂, h₃, h₄]
  exact (final m c hq hk hc).symm

end Cert.Attn

end
-- ==== Proof.Post.Body.lean ====
/-
  What one run of the body of the layer's second half stores, over the vectors it loads: the residual with the attention's
  output projection, the normalised and modulated rows with the rows beyond a sequence's ends set to zero, and the gated
  convolutional feed-forward in eleven chunks of its hidden width.
-/
module

public import proofs.«01_k».proof.Proof.Gen.PostIdeal.Value
public import Idealize.ShloMosaic.Lib.Pointwise
public import Idealize.ShloMosaic.Lib.IdealHost
public import Idealize.ShloMosaic.Lib.Pipeline.ValueKit

@[expose] public section

set_option maxRecDepth 16384

noncomputable section

namespace Cert.Post2

open Cert.PostIdeal Cert.PostIdeal.Gen Idealize.ShloMosaic Idealize.ShloMosaic.TcCoe Idealize.SL.Sem

/-- A load of a whole buffer reads the contents the stores have left. -/
theorem readCov_whole {Val : EltTy → Type} [∀ e, Nonempty (Val e)] {sg : RefSig} {κ : Kind} {sp : Space} {S : Shape} {e : EltTy}
    (v : View sg κ sp S e) (L : List (View.Piece Val S e)) (off : Fin S.rank → ℕ) (h : off = fun _ => 0)
    (inb : ∀ a, off a + S.size a ≤ S.size a) : v.readCov L (Rect.unit off S.size inb).toLoadRect = View.canon L := by
  subst h
  rw [View.readCov_eq_canon']
  funext j
  refine congrArg _ (funext fun a => Fin.ext ?_)
  show 0 + 1 * (j a).val = _
  omega

theorem zero₂ : (![0, 0] : Fin 2 → ℕ) = fun _ => 0 := by decide

theorem readCov_input {sg : RefSig} {κ : Kind} {sp : Space} (v : View sg κ sp S544x1024 .bf16)
    (L : List (View.Piece (Elt Ideal) S544x1024 .bf16)) (inb) :
    v.readCov L (Rect.unit (s := S544x1024) ![0, 0] ![544, 1024] inb).toLoadRect = View.canon L :=
  readCov_whole v L _ zero₂ inb

theorem readCov_own {sg : RefSig} {κ : Kind} {sp : Space} (v : View sg κ sp S512x1024 .f32)
    (L : List (View.Piece (Elt Ideal) S512x1024 .f32)) (inb) :
    v.readCov L (Rect.unit (s := S512x1024) ![0, 0] ![512, 1024] inb).toLoadRect = View.canon L :=
  readCov_whole v L _ zero₂ inb

/-- The modulation's six rows. -/
def mods (v : Vec Ideal S1x1x6x1024 .f32) : FVec Ideal S6x1024 .f32 :=
  shapeCast S6x1024 v shapeCasts_S1x1x6x1024_S6x1024

/-- A tile between its two halos. -/
def extend {e : FTy} (p : FVec Ideal S16x1024 e) (v : FVec Ideal S512x1024 e) (n : FVec Ideal S16x1024 e) :
    FVec Ideal S544x1024 e :=
  concatenate S544x1024 0 [⟨S16x1024, p⟩, ⟨S512x1024, v⟩, ⟨S16x1024, n⟩]
    concatenates_S16x1024_S512x1024_S16x1024_S544x1024_d0

/-- The residual after the attention: the stream's rows with the modulated projection added. -/
def residual (md : FVec Ideal S6x1024 .f32) (x : FVec Ideal S272x1024 .f32) (a : FVec Ideal S272x1024 .bf16)
    (w : FVec Ideal S1024x1024 .bf16) : FVec Ideal S272x1024 .f32 :=
  addf x (mulf (broadcastTo S272x1024 (extractStridedSlice S1x1024 ![2, 0] md slices_S6x1024_o2_0_S1x1024)
      broadcasts_S1x1024_S272x1024)
    (matmul dot_S272x1024_S1024x1024_S272x1024_1_0_0_1_n_n none a
      (shapeCast S1024x1024 w shapeCasts_S1024x1024_S1024x1024) (constant S272x1024 .f32 0x00000000#32)))

/-- The rows divided by the root of their mean square, then scaled and shifted by the modulation. -/
def normed (md : FVec Ideal S6x1024 .f32) (x : FVec Ideal S272x1024 .f32) : FVec Ideal S272x1024 .f32 :=
  addf (mulf (mulf x (broadcastTo S272x1024 (rsqrt (addf (divf (shapeCast S272x1
        (multiReduction .add [1] S272 (mulf x x) 0x00000000#32 reduces_S272x1024_S272 (.inl rfl) rfl)
        shapeCasts_S272_S272x1) (broadcast S272x1 (Scalar.ofBits .f32 0x44800000#32)))
        (broadcast S272x1 (Scalar.ofBits .f32 0x358637BD#32)))) broadcasts_S272x1_S272x1024))
      (broadcastTo S272x1024 (addf (broadcast S1x1024 (Scalar.ofBits .f32 0x3F800000#32))
        (extractStridedSlice S1x1024 ![4, 0] md slices_S6x1024_o4_0_S1x1024)) broadcasts_S1x1024_S272x1024))
    (broadcastTo S272x1024 (extractStridedSlice S1x1024 ![3, 0] md slices_S6x1024_o3_0_S1x1024)
      broadcasts_S1x1024_S272x1024)

/-- The tile's number within its sequence, as the body computes it from the grid coordinate. -/
def tileNo (i : BitVec 32) : BitVec 32 :=
  let d : BitVec 32 := Scalar.select (Scalar.cmpi .eq 4#32 0#32) 1#32 4#32
  let r : BitVec 32 := Scalar.remsi i d
  Scalar.select (Scalar.andi (Scalar.xori (Scalar.cmpi .slt r 0#32) (Scalar.cmpi .slt d 0#32)) (Scalar.cmpi .ne r 0#32))
    (Scalar.addi r d) r

/-- The rows that belong to the tile's own sequence: `r₀` is the number of the first row. -/
def keep (i r₀ : BitVec 32) : IVec S272x1 1 :=
  let row : IVec S272x1 32 := addi (broadcast S272x1 r₀) (iota .tc S272x1 32 [0] iota_S272x1_d0_w32)
  andi (ori (cmpi .sge row (broadcast S272x1 16#32)) (broadcast S272x1 (Scalar.cmpi .ne (tileNo i) 0#32)))
    (ori (cmpi .slt row (broadcast S272x1 528#32)) (broadcast S272x1 (Scalar.cmpi .ne (tileNo i) 3#32)))

/-- Half of the feed-forward's input: zero on the rows outside the sequence. -/
def masked (k : IVec S272x1 1) (h : FVec Ideal S272x1024 .f32) : FVec Ideal S272x1024 .bf16 :=
  shapeCast S272x1024 (truncf .bf16 (select (broadcastTo S272x1024 (shapeCast S272x1 k shapeCasts_S272x1_S272x1)
      broadcasts_S272x1_S272x1024) h (broadcast S272x1024 (Scalar.ofBits .f32 0x00000000#32))) bitsLt_bf16_f32 :
      FVec Ideal S272x1024 .bf16) shapeCasts_S272x1024_S272x1024

/-- One chunk of the hidden layer: the rows times 256 of the weight's columns. -/
def hidden (h : FVec Ideal S544x1024 .bf16) (w : FVec Ideal S1x1024x256 .bf16) : FVec Ideal S544x256 .f32 :=
  shapeCast S544x256 (matmul dot_S544x1024_S1024x256_S544x256_1_0_0_1_n_n none h
    (shapeCast S1024x256 w shapeCasts_S1x1024x256_S1024x256) (constant S544x256 .f32 0x00000000#32))
    shapeCasts_S544x256_S544x256

/-- The convolution along the rows, with its bias. -/
def conv (z : FVec Ideal S544x256 .f32) (cw : FVec Ideal S1x3x256 .f32) (cb : FVec Ideal S1x1x256 .f32) :
    FVec Ideal S512x256 .f32 :=
  let w : FVec Ideal S3x256 .f32 := shapeCast S3x256 cw shapeCasts_S1x3x256_S3x256
  addf (broadcastTo S512x256 (shapeCast S1x256 cb shapeCasts_S1x1x256_S1x256) broadcasts_S1x256_S512x256)
    (addf (addf
      (mulf (broadcastTo S512x256 (extractStridedSlice S1x256 ![0, 0] w slices_S3x256_o0_0_S1x256)
          broadcasts_S1x256_S512x256)
        (extractStridedSlice S512x256 ![16, 0] (dynamicRotate 0 1#32 none z rotates_S544x256_d0)
          slices_S544x256_o16_0_S512x256))
      (mulf (broadcastTo S512x256 (extractStridedSlice S1x256 ![1, 0] w slices_S3x256_o1_0_S1x256)
          broadcasts_S1x256_S512x256)
        (extractStridedSlice S512x256 ![16, 0] z slices_S544x256_o16_0_S512x256)))
      (mulf (broadcastTo S512x256 (extractStridedSlice S1x256 ![2, 0] w slices_S3x256_o2_0_S1x256)
          broadcasts_S1x256_S512x256)
        (extractStridedSlice S512x256 ![16, 0] (dynamicRotate 0 543#32 none z rotates_S544x256_d0)
          slices_S544x256_o16_0_S512x256)))

/-- The gated product of the two convolved halves: `a · (g · 1 / (1 + exp (0 − g)))`. -/
def gated (a g : FVec Ideal S512x256 .f32) : FVec Ideal S512x256 .f32 :=
  mulf a (mulf g (divf (broadcast S512x256 (Scalar.ofBits .f32 0x3F800000#32))
    (addf (broadcast S512x256 (Scalar.ofBits .f32 0x3F800000#32))
      (exp (subf (broadcast S512x256 (Scalar.ofBits .f32 0x00000000#32)) g)))))

/-- The accumulator after one more chunk. -/
def step (acc : FVec Ideal S512x1024 .f32) (s : FVec Ideal S512x256 .f32) (w : FVec Ideal S1x1x256x1024 .bf16) :
    FVec Ideal S512x1024 .f32 :=
  shapeCast S512x1024 (addf acc (matmul dot_S512x256_S256x1024_S512x1024_1_0_0_1_n_n none
    (truncf .bf16 s bitsLt_bf16_f32) (shapeCast S256x1024 w shapeCasts_S1x1x256x1024_S256x1024)
    (constant S512x1024 .f32 0x00000000#32))) shapeCasts_S512x1024_S512x1024

theorem up_inb (b j : ℕ) (hb : b ≤ 1) (hj : j < 11) : ∀ a, (![0, 0, 2816 * b + 256 * j] : Fin 3 → Nat) a
    + S1x1024x256.size a ≤ S1x1024x5632.size a := by
  intro a; fin_cases a <;> simp <;> omega

theorem cw_inb (b j : ℕ) (hb : b ≤ 1) (hj : j < 11) : ∀ a, (![0, 0, 2816 * b + 256 * j] : Fin 3 → Nat) a
    + S1x3x256.size a ≤ S1x3x5632.size a := by
  intro a; fin_cases a <;> simp <;> omega

theorem cb_inb (b j : ℕ) (hb : b ≤ 1) (hj : j < 11) : ∀ a, (![0, 0, 2816 * b + 256 * j] : Fin 3 → Nat) a
    + S1x1x256.size a ≤ S1x1x5632.size a := by
  intro a; fin_cases a <;> simp <;> omega

theorem down_inb (j : ℕ) (hj : j < 11) : ∀ a, (![0, j, 0, 0] : Fin 4 → Nat) a
    + S1x1x256x1024.size a ≤ S1x11x256x1024.size a := by
  intro a; fin_cases a <;> simp <;> omega

/-- One half (`b`) of chunk `j`, convolved. -/
def lane (h : FVec Ideal S544x1024 .bf16) (wu : Vec Ideal S1x1024x5632 .bf16) (cw : Vec Ideal S1x3x5632 .f32)
    (cb : Vec Ideal S1x1x5632 .f32) (b j : ℕ) (hb : b ≤ 1) (hj : j < 11) : FVec Ideal S512x256 .f32 :=
  conv (hidden h (View.ld wu (Rect.unit ![0, 0, 2816 * b + 256 * j] S1x1024x256.size (up_inb b j hb hj))))
    (View.ld cw (Rect.unit ![0, 0, 2816 * b + 256 * j] S1x3x256.size (cw_inb b j hb hj)))
    (View.ld cb (Rect.unit ![0, 0, 2816 * b + 256 * j] S1x1x256.size (cb_inb b j hb hj)))

/-- The accumulator after the first `n` chunks. -/
def accum (h : FVec Ideal S544x1024 .bf16) (wu : Vec Ideal S1x1024x5632 .bf16) (cw : Vec Ideal S1x3x5632 .f32)
    (cb : Vec Ideal S1x1x5632 .f32) (wd : Vec Ideal S1x11x256x1024 .bf16) : (n : ℕ) → n ≤ 11 → FVec Ideal S512x1024 .f32
  | 0, _ => shapeCast S512x1024 (broadcast S512x1024 (Scalar.ofBits .f32 0x00000000#32)) shapeCasts_S512x1024_S512x1024
  | n + 1, hn => step (accum h wu cw cb wd n (by omega))
      (gated (lane h wu cw cb 0 n (by omega) (by omega)) (lane h wu cw cb 1 n (by omega) (by omega)))
      (View.ld wd (Rect.unit ![0, n, 0, 0] S1x1x256x1024.size (down_inb n (by omega))))

/-- The stored tile: the residual and the modulated feed-forward. -/
def result (md : FVec Ideal S6x1024 .f32) (h : FVec Ideal S544x1024 .bf16) (x : FVec Ideal S512x1024 .f32)
    (wu : Vec Ideal S1x1024x5632 .bf16) (cw : Vec Ideal S1x3x5632 .f32)
    (cb : Vec Ideal S1x1x5632 .f32) (wd : Vec Ideal S1x11x256x1024 .bf16) : FVec Ideal S512x1024 .f32 :=
  addf x (mulf (broadcastTo S512x1024 (extractStridedSlice S1x1024 ![5, 0] md slices_S6x1024_o5_0_S1x1024)
    broadcasts_S1x1024_S512x1024) (accum h wu cw cb wd 11 (le_refl _)))

/-- The lower and the upper half of the extended tile. -/
def lower {e : FTy} (v : FVec Ideal S544x1024 e) : FVec Ideal S272x1024 e :=
  extractStridedSlice S272x1024 ![0, 0] v slices_S544x1024_o0_0_S272x1024
@[inherit_doc lower]
def upper {e : FTy} (v : FVec Ideal S544x1024 e) : FVec Ideal S272x1024 e :=
  extractStridedSlice S272x1024 ![272, 0] v slices_S544x1024_o272_0_S272x1024

/-- The two halves of the feed-forward's input, as the body's buffer holds them. -/
def input (i : BitVec 32) (md : FVec Ideal S6x1024 .f32) (xe : FVec Ideal S544x1024 .f32) (me : FVec Ideal S544x1024 .bf16)
    (w : FVec Ideal S1024x1024 .bf16) : Vec Ideal S544x1024 .bf16 :=
  View.canon (Val := Elt Ideal) (e := .bf16)
    [⟨Rect.unit (s := S544x1024) ![272, 0] S272x1024.size inb_S544x1024_S272x1024_272_0,
        masked (keep i 272#32) (normed md (residual md (upper xe) (upper me) w))⟩,
     ⟨Rect.unit (s := S544x1024) ![0, 0] S272x1024.size inb_S544x1024_S272x1024_0_0,
        masked (keep i 0#32) (normed md (residual md (lower xe) (lower me) w))⟩]

/-- The tile's own rows of the residual, as the body's buffer holds them. -/
def own (md : FVec Ideal S6x1024 .f32) (xe : FVec Ideal S544x1024 .f32) (me : FVec Ideal S544x1024 .bf16)
    (w : FVec Ideal S1024x1024 .bf16) : Vec Ideal S512x1024 .f32 :=
  View.canon (Val := Elt Ideal) (e := .f32)
    [⟨Rect.unit (s := S512x1024) ![256, 0] S256x1024.size inb_S512x1024_S256x1024_256_0,
        shapeCast S256x1024 (extractStridedSlice S256x1024 ![0, 0] (residual md (upper xe) (upper me) w)
          slices_S272x1024_o0_0_S256x1024) shapeCasts_S256x1024_S256x1024⟩,
     ⟨Rect.unit (s := S512x1024) ![0, 0] S256x1024.size inb_S512x1024_S256x1024_0_0,
        shapeCast S256x1024 (extractStridedSlice S256x1024 ![16, 0] (residual md (lower xe) (lower me) w)
          slices_S272x1024_o16_0_S256x1024) shapeCasts_S256x1024_S256x1024⟩]

variable (m : (ℓ : Loc nD τ sig) → Buf (Elt Ideal) ℓ) (c : Dev nD)

theorem out_eq (t : Fin cfg0.N) (y : S512x1024.Idx) :
    outsAt0 m c t y = result (mods (iblk m c 6 t))
      (input (BitVec.ofNat 32 (grid0.coords t 0)) (mods (iblk m c 6 t)) (extend (iblk m c 1 t) (iblk m c 0 t) (iblk m c 2 t))
        (extend (iblk m c 4 t) (iblk m c 3 t) (iblk m c 5 t)) (iblk m c 7 t))
      (own (mods (iblk m c 6 t)) (extend (iblk m c 1 t) (iblk m c 0 t) (iblk m c 2 t))
        (extend (iblk m c 4 t) (iblk m c 3 t) (iblk m c 5 t)) (iblk m c 7 t))
      (iblk m c 8 t) (iblk m c 9 t) (iblk m c 10 t) (iblk m c 11 t) y := by
  unfold outsAt0
  frame_out
  simp only [readCov_input, readCov_own]
  rfl

end Cert.Post2
end
-- ==== Proof.Post.Spec.lean ====
/-
  The second half of a layer on one row: the rows' normalisation, the convolution along the rows, and the gated feed-forward,
  over plain functions of indices.
-/
module

public import Idealize.ShloMosaic.Lib.Pointwise
public import Idealize.ShloMosaic.Lib.IdealHost

@[expose] public section

noncomputable section

namespace Cert.Ffn

open Idealize.ShloMosaic

/-- A row divided by the root of its mean square (with the usual small constant), scaled and shifted. -/
def normRow (sc sh x : Fin 1024 → EReal) (k : Fin 1024) : EReal :=
  x k * Ideal.rsqrt (Ideal.div (∑ l, x l * x l) (Ideal.ofBits .f32 0x44800000#32) + Ideal.ofBits .f32 0x358637BD#32)
    * (1 + sc k) + sh k

/-- One hidden unit's convolution: its bias and the three weighted products of the previous, the own and the next row. -/
def convAt (wu : Fin 1024 → EReal) (cw : Fin 3 → EReal) (cb : EReal) (hp h hn : Fin 1024 → EReal) : EReal :=
  cb + (cw 0 * (∑ k, hp k * wu k) + cw 1 * (∑ k, h k * wu k) + cw 2 * ∑ k, hn k * wu k)

/-- The gated product `a · (g · 1 / (1 + exp (−g)))`. -/
def gate (a g : EReal) : EReal := a * (g * Ideal.div 1 (1 + Ideal.exp (-g)))

/-- The hidden unit `n` after the gate: its first half is gated by the second. -/
def unit (wu : Fin 1024 → Fin 5632 → EReal) (cw : Fin 3 → Fin 5632 → EReal) (cb : Fin 5632 → EReal)
    (hp h hn : Fin 1024 → EReal) (n : Fin 2816) : EReal :=
  gate (convAt (fun k => wu k ⟨n, by omega⟩) (fun i => cw i ⟨n, by omega⟩) (cb ⟨n, by omega⟩) hp h hn)
    (convAt (fun k => wu k ⟨2816 + n, by omega⟩) (fun i => cw i ⟨2816 + n, by omega⟩) (cb ⟨2816 + n, by omega⟩) hp h hn)

/-- The feed-forward's result for one row. -/
def ffn (wu : Fin 1024 → Fin 5632 → EReal) (cw : Fin 3 → Fin 5632 → EReal) (cb : Fin 5632 → EReal)
    (wd : Fin 2816 → Fin 1024 → EReal) (hp h hn : Fin 1024 → EReal) (c : Fin 1024) : EReal :=
  ∑ n, unit wu cw cb hp h hn n * wd n c

/-- The residual's row after the attention. -/
def resRow (x md : Fin 1024 → EReal) (a : Fin 1024 → EReal) (w : Fin 1024 → Fin 1024 → EReal) (c : Fin 1024) : EReal :=
  x c + md c * ∑ k, a k * w k c

/-- The feed-forward's input in one sequence of `len` rows, numbered from one: zero before the first and after the last. -/
def padded {len : ℕ} (sc sh : Fin 1024 → EReal) (X : Fin len → Fin 1024 → EReal) (s : ℕ) (k : Fin 1024) : EReal :=
  if h : 1 ≤ s ∧ s ≤ len then normRow sc sh (X ⟨s - 1, by omega⟩) k else 0

end Cert.Ffn
end
-- ==== Proof.Post.Rows.lean ====
/-
  The stored tile read at an index: the residual and the feed-forward of the row and its two neighbours.
-/
module

public import proofs.«01_k».proof.Proof.Post.Body
public import proofs.«01_k».proof.Proof.Post.Spec

@[expose] public section

set_option maxRecDepth 16384

noncomputable section

namespace Cert.Post2

open Cert.PostIdeal Cert.PostIdeal.Gen Idealize.ShloMosaic Idealize.ShloMosaic.TcCoe Idealize.SL.Sem Cert.Ffn

theorem residual_apply (md : FVec Ideal S6x1024 .f32) (x : FVec Ideal S272x1024 .f32) (a : FVec Ideal S272x1024 .bf16)
    (w : FVec Ideal S1024x1024 .bf16) (r : Fin 272) (c : Fin 1024) : residual md x a w (ix2 r c)
      = resRow (fun k => x (ix2 r k)) (fun k => md (ix2 2 k)) (fun k => a (ix2 r k)) (fun k c => w (ix2 k c)) c := by
  pointwise [residual]
  rfl

theorem normed_apply (md : FVec Ideal S6x1024 .f32) (x : FVec Ideal S272x1024 .f32) (r : Fin 272) (c : Fin 1024) :
    normed md x (ix2 r c)
      = normRow (fun k => md (ix2 4 k)) (fun k => md (ix2 3 k)) (fun k => x (ix2 r k)) c := by
  pointwise [normed]
  rfl

theorem tileNo_eq : ∀ t : Fin 32, tileNo (BitVec.ofNat 32 t) = BitVec.ofNat 32 (t % 4) := by decide +kernel

theorem sge_lower : ∀ r : Fin 272, IntOp.cmpi .sge (IntOp.addi 0#32 (BitVec.ofNat 32 r)) 16#32 = if 16 ≤ (r : ℕ) then 1#1 else 0#1 := by
  decide +kernel
theorem slt_lower : ∀ r : Fin 272, IntOp.cmpi .slt (IntOp.addi 0#32 (BitVec.ofNat 32 r)) 528#32 = 1#1 := by
  decide +kernel
theorem sge_upper : ∀ r : Fin 272, IntOp.cmpi .sge (IntOp.addi 272#32 (BitVec.ofNat 32 r)) 16#32 = 1#1 := by
  decide +kernel
theorem slt_upper : ∀ r : Fin 272, IntOp.cmpi .slt (IntOp.addi 272#32 (BitVec.ofNat 32 r)) 528#32
    = if 272 + (r : ℕ) < 528 then 1#1 else 0#1 := by
  decide +kernel
theorem ne_first : ∀ t : Fin 4, Scalar.cmpi .ne (BitVec.ofNat 32 t) 0#32 = if (t : ℕ) ≠ 0 then 1#1 else 0#1 := by
  decide +kernel
theorem ne_last : ∀ t : Fin 4, Scalar.cmpi .ne (BitVec.ofNat 32 t) 3#32 = if (t : ℕ) ≠ 3 then 1#1 else 0#1 := by
  decide +kernel

theorem one_or : ∀ x : BitVec 1, 1#1 ||| x = 1#1 := by decide

theorem keep_lower (t : Fin 32) (r : Fin 272) : keep (BitVec.ofNat 32 t) 0#32 (ix2 r 0)
    = if 16 ≤ (r : ℕ) ∨ (t : ℕ) % 4 ≠ 0 then 1#1 else 0#1 := by
  pointwise [keep]
  rw [tileNo_eq, sge_lower, slt_lower, ne_first ⟨t % 4, by omega⟩]
  by_cases h : 16 ≤ (r : ℕ) <;> by_cases h' : (t : ℕ) % 4 = 0 <;> simp [h, h', IntOp.andi, IntOp.ori, one_or]

theorem keep_upper (t : Fin 32) (r : Fin 272) : keep (BitVec.ofNat 32 t) 272#32 (ix2 r 0)
    = if 272 + (r : ℕ) < 528 ∨ (t : ℕ) % 4 ≠ 3 then 1#1 else 0#1 := by
  pointwise [keep]
  rw [tileNo_eq, sge_upper, slt_upper, ne_last ⟨t % 4, by omega⟩]
  by_cases h : 272 + (r : ℕ) < 528 <;> by_cases h' : (t : ℕ) % 4 = 3 <;> simp [h, h', IntOp.andi, IntOp.ori, one_or]

theorem masked_apply (k : IVec S272x1 1) (h : FVec Ideal S272x1024 .f32) (r : Fin 272) (c : Fin 1024) :
    masked k h (ix2 r c) = if k (ix2 r 0) = 1#1 then h (ix2 r c) else 0 := by
  pointwise [masked]
  unfold Scalar.select
  split <;> simp_all

theorem hidden_apply (h : FVec Ideal S544x1024 .bf16) (w : FVec Ideal S1x1024x256 .bf16) (r : Fin 544) (c : Fin 256) :
    hidden h w (ix2 r c) = ∑ k, h (ix2 r k) * w (ix3 0 k c) := by
  pointwise [hidden]

theorem conv_apply (z : FVec Ideal S544x256 .f32) (cw : FVec Ideal S1x3x256 .f32) (cb : FVec Ideal S1x1x256 .f32)
    (r : Fin 512) (c : Fin 256) : conv z cw cb (ix2 r c)
      = cb (ix3 0 0 c) + (cw (ix3 0 0 c) * z (ix2 ⟨15 + r, by omega⟩ c) + cw (ix3 0 1 c) * z (ix2 ⟨16 + r, by omega⟩ c)
        + cw (ix3 0 2 c) * z (ix2 ⟨17 + r, by omega⟩ c)) := by
  pointwise [conv]
  have h₁ : (16 + (r : ℕ) + 544 - 1) % 544 = 15 + r := by omega
  have h₂ : (16 + (r : ℕ) + 544 - 543) % 544 = 17 + r := by omega
  simp only [h₁, h₂]

theorem gated_apply (a g : FVec Ideal S512x256 .f32) (r : Fin 512) (c : Fin 256) :
    gated a g (ix2 r c) = gate (a (ix2 r c)) (g (ix2 r c)) := by
  pointwise [gated]
  unfold gate
  rw [zero_sub]

theorem step_apply (acc : FVec Ideal S512x1024 .f32) (s : FVec Ideal S512x256 .f32) (w : FVec Ideal S1x1x256x1024 .bf16)
    (r : Fin 512) (c : Fin 1024) :
    step acc s w (ix2 r c) = acc (ix2 r c) + ∑ k, s (ix2 r k) * w (ix4 0 0 k c) := by
  pointwise [step]

theorem extend_apply {e : FTy} (p : FVec Ideal S16x1024 e) (v : FVec Ideal S512x1024 e) (n : FVec Ideal S16x1024 e)
    (r : Fin 544) (c : Fin 1024) : extend p v n (ix2 r c)
      = if h : (r : ℕ) < 16 then p (ix2 ⟨r, h⟩ c) else if h' : (r : ℕ) < 528 then v (ix2 ⟨r - 16, by omega⟩ c)
        else n (ix2 ⟨r - 528, by omega⟩ c) := by
  pointwise [extend]
  by_cases h : (r : ℕ) < 16
  · simp only [dif_pos h]
  · by_cases h' : (r : ℕ) < 528
    · simp only [dif_neg h, dif_pos h', dif_pos (show (r : ℕ) - 16 < 512 by omega)]
    · simp only [dif_neg h, dif_neg h', dif_neg (show ¬ (r : ℕ) - 16 < 512 by omega), Nat.sub_sub]

/-- The hidden columns of half `b` of chunk `j`. -/
theorem lane_apply (h : FVec Ideal S544x1024 .bf16) (wu : Vec Ideal S1x1024x5632 .bf16) (cw : Vec Ideal S1x3x5632 .f32)
    (cb : Vec Ideal S1x1x5632 .f32) (b j : ℕ) (hb : b ≤ 1) (hj : j < 11) (r : Fin 512) (k : Fin 256) :
    lane h wu cw cb b j hb hj (ix2 r k)
      = convAt (fun l => wu (ix3 0 l ⟨2816 * b + 256 * j + k, by omega⟩))
          (fun i => cw (ix3 0 i ⟨2816 * b + 256 * j + k, by omega⟩)) (cb (ix3 0 0 ⟨2816 * b + 256 * j + k, by omega⟩))
          (fun l => h (ix2 ⟨15 + r, by omega⟩ l)) (fun l => h (ix2 ⟨16 + r, by omega⟩ l))
          (fun l => h (ix2 ⟨17 + r, by omega⟩ l)) := by
  unfold lane
  rw [conv_apply]
  simp only [hidden_apply]
  have e₁ : ∀ l : Fin 1024, View.ld wu (Rect.unit ![0, 0, 2816 * b + 256 * j] S1x1024x256.size (up_inb b j hb hj)) (ix3 0 l k)
      = wu (ix3 0 l ⟨2816 * b + 256 * j + k, by omega⟩) := fun l => by
    rw [View.ld_unit]
    pointwise []
  have e₂ : ∀ i : Fin 3, View.ld cw (Rect.unit ![0, 0, 2816 * b + 256 * j] S1x3x256.size (cw_inb b j hb hj)) (ix3 0 i k)
      = cw (ix3 0 i ⟨2816 * b + 256 * j + k, by omega⟩) := fun i => by
    rw [View.ld_unit]
    pointwise []
  have e₃ : View.ld cb (Rect.unit ![0, 0, 2816 * b + 256 * j] S1x1x256.size (cb_inb b j hb hj)) (ix3 0 0 k)
      = cb (ix3 0 0 ⟨2816 * b + 256 * j + k, by omega⟩) := by
    rw [View.ld_unit]
    pointwise []
  simp only [e₁, e₂, e₃]
  rfl

section accumulate

variable (h : FVec Ideal S544x1024 .bf16) (wu : Vec Ideal S1x1024x5632 .bf16) (cw : Vec Ideal S1x3x5632 .f32)
  (cb : Vec Ideal S1x1x5632 .f32) (wd : Vec Ideal S1x11x256x1024 .bf16) (r : Fin 512) (c : Fin 1024)

/-- The hidden unit `n` of row `r` of the tile. -/
def tileUnit (n : Fin 2816) : EReal :=
  unit (fun l n => wu (ix3 0 l n)) (fun i n => cw (ix3 0 i n)) (fun n => cb (ix3 0 0 n))
    (fun l => h (ix2 ⟨15 + r, by omega⟩ l)) (fun l => h (ix2 ⟨16 + r, by omega⟩ l))
    (fun l => h (ix2 ⟨17 + r, by omega⟩ l)) n

theorem accum_apply : ∀ (n : ℕ) (hn : n ≤ 11), accum h wu cw cb wd n hn (ix2 r c)
    = ∑ j : Fin n, ∑ k : Fin 256, tileUnit h wu cw cb r ⟨j * 256 + k, by omega⟩ * wd (ix4 0 ⟨j, by omega⟩ k c)
  | 0, _ => by
    simp only [accum, Finset.univ_eq_empty, Finset.sum_empty]
    pointwise []
  | n + 1, hn => by
    rw [accum, step_apply, accum_apply n (by omega)]
    refine Eq.trans ?_ (Fin.sum_univ_castSucc _).symm
    refine Ideal.add_congr rfl (Finset.sum_congr rfl fun k _ => ?_)
    rw [gated_apply, lane_apply, lane_apply]
    refine Ideal.mul_congr ?_ (by rw [View.ld_unit]; pointwise []; rfl)
    unfold tileUnit unit
    have e₁ : 2816 * 0 + 256 * n + (k : ℕ) = n * 256 + k := by omega
    have e₂ : 2816 * 1 + 256 * n + (k : ℕ) = 2816 + (n * 256 + k) := by omega
    simp only [e₁, e₂]
    rfl

theorem accum_eq : accum h wu cw cb wd 11 (le_refl _) (ix2 r c)
    = ffn (fun l n => wu (ix3 0 l n)) (fun i n => cw (ix3 0 i n)) (fun n => cb (ix3 0 0 n))
        (fun n c => wd (ix4 0 ⟨n / 256, by omega⟩ ⟨n % 256, by omega⟩ c))
        (fun l => h (ix2 ⟨15 + r, by omega⟩ l)) (fun l => h (ix2 ⟨16 + r, by omega⟩ l))
        (fun l => h (ix2 ⟨17 + r, by omega⟩ l)) c := by
  rw [accum_apply]
  unfold ffn
  refine Fin.sum_mul_add_congr fun j k hl => ?_
  have e₁ : ((j : ℕ) * 256 + k) / 256 = j := by omega
  have e₂ : ((j : ℕ) * 256 + k) % 256 = k := by omega
  simp only [e₁, e₂]
  rfl

end accumulate

theorem result_apply (md : FVec Ideal S6x1024 .f32) (h : FVec Ideal S544x1024 .bf16) (x : FVec Ideal S512x1024 .f32)
    (wu : Vec Ideal S1x1024x5632 .bf16) (cw : Vec Ideal S1x3x5632 .f32)
    (cb : Vec Ideal S1x1x5632 .f32) (wd : Vec Ideal S1x11x256x1024 .bf16) (r : Fin 512) (c : Fin 1024) :
    result md h x wu cw cb wd (ix2 r c) = x (ix2 r c) + md (ix2 5 c) *
      ffn (fun l n => wu (ix3 0 l n)) (fun i n => cw (ix3 0 i n)) (fun n => cb (ix3 0 0 n))
        (fun n c => wd (ix4 0 ⟨n / 256, by omega⟩ ⟨n % 256, by omega⟩ c))
        (fun l => h (ix2 ⟨15 + r, by omega⟩ l)) (fun l => h (ix2 ⟨16 + r, by omega⟩ l))
        (fun l => h (ix2 ⟨17 + r, by omega⟩ l)) c := by
  rw [← accum_eq]
  pointwise [result]

/-- A buffer filled by two stores, the rows from `A` on and the rows before them. -/
theorem stacked {e : EltTy} {R A B C : ℕ} (hR : R = A + B)
    (inb₁ : ∀ a, (![A, 0] : Fin 2 → ℕ) a + (![B, C] : Fin 2 → ℕ) a ≤ (⟨2, ![R, C]⟩ : Shape).size a)
    (inb₀ : ∀ a, (![0, 0] : Fin 2 → ℕ) a + (![A, C] : Fin 2 → ℕ) a ≤ (⟨2, ![R, C]⟩ : Shape).size a)
    (hi : (⟨2, ![B, C]⟩ : Shape).Idx → Elt Ideal e) (lo : (⟨2, ![A, C]⟩ : Shape).Idx → Elt Ideal e)
    (G : Fin R → Fin C → Elt Ideal e) (hhi : ∀ (r : Fin B) (k : Fin C), hi (ix2 r k) = G ⟨A + r, by omega⟩ k)
    (hlo : ∀ (r : Fin A) (k : Fin C), lo (ix2 r k) = G ⟨r, by omega⟩ k) (x : Fin R) (k : Fin C) :
    View.canon (Val := Elt Ideal) [⟨Rect.unit (s := ⟨2, ![R, C]⟩) ![A, 0] ![B, C] inb₁, hi⟩,
      ⟨Rect.unit (s := ⟨2, ![R, C]⟩) ![0, 0] ![A, C] inb₀, lo⟩] (ix2 x k) = G x k := by
  refine View.canon_apply_of_pieces (Val := Elt Ideal) (e := e) (fun y : (⟨2, ![R, C]⟩ : Shape).Idx => G (y 0) (y 1)) _ ?_
    (ix2 x k) ?_
  · intro p hp y
    rcases List.mem_cons.mp hp with rfl | hp
    · have hy : y = ix2 (y 0) (y 1) := by funext a; match a with | ⟨0, _⟩ => rfl | ⟨1, _⟩ => rfl
      refine (congrArg hi hy).trans ((hhi (y 0) (y 1)).trans ?_)
      refine congrArg₂ G (Fin.ext ?_) (Fin.ext ?_)
      · show A + (y 0).val = A + 1 * (y 0).val
        omega
      · show (y 1).val = 0 + 1 * (y 1).val
        omega
    · rw [List.mem_singleton] at hp
      subst hp
      have hy : y = ix2 (y 0) (y 1) := by funext a; match a with | ⟨0, _⟩ => rfl | ⟨1, _⟩ => rfl
      refine (congrArg lo hy).trans ((hlo (y 0) (y 1)).trans ?_)
      refine congrArg₂ G (Fin.ext ?_) (Fin.ext ?_)
      · show (y 0).val = 0 + 1 * (y 0).val
        omega
      · show (y 1).val = 0 + 1 * (y 1).val
        omega
  · by_cases h : (x : ℕ) < A
    · refine ⟨_, List.mem_cons_of_mem _ (List.mem_singleton_self _), ?_⟩
      refine (Rect.mem_set_unit (inb := inb₀)).mpr fun a => ?_
      match a with
      | ⟨0, _⟩ => exact ⟨Nat.zero_le _, show (x : ℕ) < 0 + A by omega⟩
      | ⟨1, _⟩ => exact ⟨Nat.zero_le _, show (k : ℕ) < 0 + C by omega⟩
    · refine ⟨_, List.mem_cons_self, ?_⟩
      refine (Rect.mem_set_unit (inb := inb₁)).mpr fun a => ?_
      match a with
      | ⟨0, _⟩ => exact ⟨show A ≤ (x : ℕ) by omega, show (x : ℕ) < A + B by omega⟩
      | ⟨1, _⟩ => exact ⟨Nat.zero_le _, show (k : ℕ) < 0 + C by omega⟩

/-- Row `e` of the extended tile's residual. -/
def extRow (md : FVec Ideal S6x1024 .f32) (xe : FVec Ideal S544x1024 .f32) (me : FVec Ideal S544x1024 .bf16)
    (w : FVec Ideal S1024x1024 .bf16) (e : Fin 544) : Fin 1024 → EReal :=
  resRow (fun k => xe (ix2 e k)) (fun k => md (ix2 2 k)) (fun k => me (ix2 e k)) (fun k c => w (ix2 k c))

section buffers

variable (md : FVec Ideal S6x1024 .f32) (xe : FVec Ideal S544x1024 .f32) (me : FVec Ideal S544x1024 .bf16)
  (w : FVec Ideal S1024x1024 .bf16)

theorem residual_lower (r : Fin 272) (c : Fin 1024) :
    residual md (lower xe) (lower me) w (ix2 r c) = extRow md xe me w ⟨r, by omega⟩ c := by
  rw [residual_apply]
  pointwise [lower]
  rfl

theorem residual_upper (r : Fin 272) (c : Fin 1024) :
    residual md (upper xe) (upper me) w (ix2 r c) = extRow md xe me w ⟨272 + r, by omega⟩ c := by
  rw [residual_apply]
  pointwise [upper]
  rfl

/-- Whether row `e` of the extended tile `t` lies in the tile's sequence. -/
def inside (t : Fin 32) (e : Fin 544) : Prop := (16 ≤ (e : ℕ) ∨ (t : ℕ) % 4 ≠ 0) ∧ ((e : ℕ) < 528 ∨ (t : ℕ) % 4 ≠ 3)

instance (t : Fin 32) (e : Fin 544) : Decidable (inside t e) := by unfold inside; infer_instance

/-- Row `e` of the feed-forward's input. -/
def inputRow (t : Fin 32) (e : Fin 544) (c : Fin 1024) : EReal :=
  if inside t e then normRow (fun k => md (ix2 4 k)) (fun k => md (ix2 3 k)) (extRow md xe me w e) c else 0

theorem input_apply (t : Fin 32) (e : Fin 544) (c : Fin 1024) :
    input (BitVec.ofNat 32 t) md xe me w (ix2 e c) = inputRow md xe me w t e c := by
  unfold input
  refine stacked (e := .bf16) (R := 544) (A := 272) (B := 272) (C := 1024) rfl _ _ _ _ (inputRow md xe me w t) ?_ ?_ e c
  · intro r k
    refine (masked_apply _ _ r k).trans ?_
    rw [keep_upper, normed_apply]
    simp only [residual_upper]
    unfold inputRow inside
    by_cases h : 272 + (r : ℕ) < 528 <;> by_cases h' : (t : ℕ) % 4 = 3 <;>
      simp [h, h', show 16 ≤ 272 + (r : ℕ) by omega] <;> rfl
  · intro r k
    refine (masked_apply _ _ r k).trans ?_
    rw [keep_lower, normed_apply]
    simp only [residual_lower]
    unfold inputRow inside
    by_cases h : 16 ≤ (r : ℕ) <;> by_cases h' : (t : ℕ) % 4 = 0 <;>
      simp [h, h', show (r : ℕ) < 528 by omega] <;> rfl

theorem own_apply (r : Fin 512) (c : Fin 1024) :
    own md xe me w (ix2 r c) = extRow md xe me w ⟨16 + r, by omega⟩ c := by
  unfold own
  refine stacked (e := .f32) (R := 512) (A := 256) (B := 256) (C := 1024) rfl _ _ _ _
    (fun r c => extRow md xe me w ⟨16 + r, by omega⟩ c) ?_ ?_ r c
  · intro r k
    refine Eq.trans ?_ (residual_upper md xe me w ⟨r, by omega⟩ k |>.trans ?_)
    · pointwise []
    · exact congrArg (fun e => extRow md xe me w e k) (Fin.ext (show 272 + (r : ℕ) = 16 + (256 + r) by omega))
  · intro r k
    refine Eq.trans ?_ (residual_lower md xe me w ⟨16 + r, by omega⟩ k)
    pointwise []

end buffers

end Cert.Post2
end
-- ==== Proof.Post.Ref.lean ====
/-
  The reference of the layer's second half read at an index.
-/
module

public import proofs.«01_k».proof.Proof.Gen.PostRefIdeal.Run
public import proofs.«01_k».proof.Proof.Gen.PostRefIdeal.Read
public import proofs.«01_k».proof.Proof.Post.Spec
public import Idealize.ShloMosaic.Lib.Pointwise
public import Idealize.ShloMosaic.Lib.Pipeline.ValueKit

@[expose] public section

set_option maxRecDepth 16384

noncomputable section

namespace Cert.PostRef2

open Cert.PostRefIdeal Cert.PostRefIdeal.Gen Cert.PostRefIdeal.Read Idealize.ShloMosaic Idealize.ShloMosaic.TcCoe Idealize.SL.Sem Cert.Ffn

variable (x : FVec Ideal S16384x1024 .f32) (a : FVec Ideal S16384x1024 .bf16) (md : FVec Ideal S2x16x6x1024 .f32)
  (wo : FVec Ideal S1x1024x1024 .f32) (wu : FVec Ideal S2x1024x5632 .f32) (cw : FVec Ideal S2x3x5632 .f32)
  (cb : FVec Ideal S2x5632 .f32) (wd : FVec Ideal S2x2816x1024 .f32)

/-- The residual of sequence `b`. -/
def stream (b : Fin 8) (s : Fin 2048) : Fin 1024 → EReal :=
  resRow (fun k => x (ix2 ⟨2048 * b + s, by omega⟩ k)) (fun k => md (ix4 1 ⟨1 + b, by omega⟩ 2 k))
    (fun k => a (ix2 ⟨2048 * b + s, by omega⟩ k)) (fun k c => wo (ix3 0 k c))

theorem residual_apply (b : Fin 8) (s : Fin 2048) (c : Fin 1024) :
    val_main_v25 (F := Ideal) x a md wo (ix3 b s c) = stream x a md wo b s c := by
  pointwise [val_main_v25, val_main_v24, val_main_v23, val_main_v22, val_main_v21, val_main_v11, val_main_v10, val_main_v9,
    val_main_v2, val_main_v1, val_main_v0]
  unfold stream resRow
  simp only [Nat.mul_comm 2048]

theorem normed_apply (b : Fin 8) (s : Fin 2048) (c : Fin 1024) :
    val_main_v41 (F := Ideal) x a md wo (ix3 b s c)
      = normRow (fun k => md (ix4 1 ⟨1 + b, by omega⟩ 4 k)) (fun k => md (ix4 1 ⟨1 + b, by omega⟩ 3 k))
          (stream x a md wo b s) c := by
  have h := residual_apply x a md wo b s
  pointwise [val_main_v41, val_main_v40, val_main_v39, val_main_v38, val_main_v37, val_main_v36, val_main_v35, val_main_v34,
    val_main_v33, val_main_v32, val_main_v31, val_main_v30, val_main_v29, val_main_v28, val_main_v27, val_main_v26,
    val_main_cst, val_main_cst_0, val_main_cst_1, val_main_cst_2, val_main_v17, val_main_v16, val_main_v15, val_main_v14,
    val_main_v13, val_main_v12]
  simp only [h]
  rfl

/-- The feed-forward's input of sequence `b`, rows numbered from one. -/
def inRow (b : Fin 8) (s : ℕ) : Fin 1024 → EReal :=
  padded (fun k => md (ix4 1 ⟨1 + b, by omega⟩ 4 k)) (fun k => md (ix4 1 ⟨1 + b, by omega⟩ 3 k)) (stream x a md wo b) s

theorem ofInt_zero : val_main_call0_v0 (F := Ideal) (Shape.Idx.first h_S_) = 0 := by
  pointwise [val_main_call0_v0, val_main_c]
  show (((0#32 : BitVec 32).toInt : ℝ) : EReal) = 0
  simp

theorem padded_apply (b : Fin 8) (s : Fin 2050) (n : Fin 5632) :
    val_main_v51 (F := Ideal) x a md wo wu (ix3 b s n)
      = ∑ k, inRow x a md wo b s k * wu (ix3 1 k n) := by
  pointwise [val_main_v51, val_main_v50, val_main_v43, val_main_v42]
  unfold inRow padded
  by_cases h : 1 ≤ (s : ℕ) ∧ (s : ℕ) ≤ 2048
  · rw [dif_pos ⟨h.1, by omega⟩]
    simp only [dif_pos h, normed_apply]
  · rw [dif_neg (by omega), ofInt_zero]
    simp only [dif_neg h, zero_mul, Finset.sum_const_zero]

theorem conv_apply (b : Fin 8) (s : Fin 2048) (n : Fin 5632) :
    val_main_v76 (F := Ideal) x a md wo wu cw cb (ix3 b s n)
      = convAt (fun k => wu (ix3 1 k n)) (fun i => cw (ix3 1 i n)) (cb (ix2 1 n)) (inRow x a md wo b s)
          (inRow x a md wo b (s + 1)) (inRow x a md wo b (s + 2)) := by
  pointwise [val_main_v76, val_main_v75, val_main_v74, val_main_v73, val_main_v72, val_main_v71, val_main_v70, val_main_v69,
    val_main_v68, val_main_v67, val_main_v66, val_main_v65, val_main_v64, val_main_v63, val_main_v62, val_main_v61,
    val_main_v60, val_main_v59, val_main_v58, val_main_v57, val_main_v56, val_main_v55, val_main_v54, val_main_v53,
    val_main_v52, val_main_cst_3, val_main_v47, val_main_v46, val_main_v45, val_main_v44]
  simp only [padded_apply, Nat.add_comm _ (s : ℕ)]
  unfold convAt
  simp only [mul_comm (cw _)]

theorem gated_apply (b : Fin 8) (s : Fin 2048) (n : Fin 2816) :
    val_main_v80 (F := Ideal) x a md wo wu cw cb (ix3 b s n)
      = unit (fun k n => wu (ix3 1 k n)) (fun i n => cw (ix3 1 i n)) (fun n => cb (ix2 1 n)) (inRow x a md wo b s)
          (inRow x a md wo b (s + 1)) (inRow x a md wo b (s + 2)) n := by
  pointwise [val_main_v80, val_main_v79, val_main_v78, val_main_v77, val_main_call1_v5, val_main_call1_v4, val_main_call1_v3,
    val_main_call1_v2, val_main_call1_v1, val_main_call1_v0, val_main_call1_cst, val_main_call1_cst_0]
  simp only [conv_apply]
  rfl

/-- The result's row `s` of sequence `b`. -/
def value (b : Fin 8) (s : Fin 2048) (c : Fin 1024) : EReal :=
  stream x a md wo b s c + md (ix4 1 ⟨1 + b, by omega⟩ 5 c) *
    ffn (fun k n => wu (ix3 1 k n)) (fun i n => cw (ix3 1 i n)) (fun n => cb (ix2 1 n)) (fun n c => wd (ix3 1 n c))
      (inRow x a md wo b s) (inRow x a md wo b (s + 1)) (inRow x a md wo b (s + 2)) c

theorem result_apply (b : Fin 8) (s : Fin 2048) (c : Fin 1024) :
    val_main_v85 (F := Ideal) x a md wo wu cw cb wd (ix2 ⟨2048 * b + s, by omega⟩ c)
      = value x a md wo wu cw cb wd b s c := by
  pointwise [val_main_v85, val_main_v84, val_main_v83, val_main_v82, val_main_v81, val_main_v49, val_main_v48, val_main_v20,
    val_main_v19, val_main_v18]
  simp only [residual_apply, gated_apply]
  rfl

end Cert.PostRef2
end
-- ==== Proof.Post.Equation.lean ====
/- The final array of the layer's second half is the reference's: each grid point reads its own 512 rows, the sixteen rows
   before and after them, and the whole of the weights. -/
module

public import proofs.«01_k».proof.Proof.Post.Rows
public import proofs.«01_k».proof.Proof.Post.Ref

@[expose] public section

set_option maxRecDepth 16384

noncomputable section

namespace Cert.Post2

open Idealize.ShloMosaic Idealize.ShloMosaic.Pointwise Idealize.ShloMosaic.Pipeline Idealize.SL.Sem
open Cert.PostIdeal Cert.PostIdeal.Gen Cert.Ffn

variable (m : (ℓ : Loc nD τ sig) → Buf (Elt Ideal) ℓ) (c : Dev nD)

theorem idx : ∀ t : Fin cfg0.N, win0_0.index t = ![t.val, 0] ∧ win0_1.index t = ![32 * t.val - 1, 0]
    ∧ win0_2.index t = ![min (32 * t.val + 32) 1023, 0] ∧ win0_3.index t = ![t.val, 0]
    ∧ win0_4.index t = ![32 * t.val - 1, 0] ∧ win0_5.index t = ![min (32 * t.val + 32) 1023, 0]
    ∧ win0_6.index t = ![1, 1 + t.val / 4, 0, 0] ∧ win0_7.index t = ![0, 0] ∧ win0_8.index t = ![1, 0, 0]
    ∧ win0_9.index t = ![1, 0, 0] ∧ win0_10.index t = ![1, 0, 0] ∧ win0_11.index t = ![1, 0, 0, 0]
    ∧ win0_12.index t = ![t.val, 0] :=
  (by decide +kernel : ∀ t : Fin grid0.N, _)

theorem coord : ∀ t : Fin cfg0.N, (grid0.coords t 0 : ℕ) = t.val :=
  (by decide +kernel : ∀ t : Fin grid0.N, _)

variable (t : Fin cfg0.N)

/-- The grid point's number. -/
def pt : Fin 32 := ⟨t, N_0 ▸ t.isLt⟩

theorem mods_read (b : Fin 8) (hb : (b : ℕ) = t / 4) (i : Fin 6) (k : Fin 1024) :
    mods (iblk m c 6 t) (ix2 i k) = m ((c.tc : Thread nD τ).loc main_arg2) (ix4 1 ⟨1 + b, by omega⟩ i k) := by
  pointwise [mods]
  blk_ext [iblk, V, idx t]

theorem x_read (e : Fin 544) (he : inside (pt t) e) (p : Fin 16384) (hp : (p : ℕ) + 16 = 512 * t + e) (k : Fin 1024) :
    extend (e := .f32) (iblk m c 1 t) (iblk m c 0 t) (iblk m c 2 t) (ix2 e k)
      = m ((c.tc : Thread nD τ).loc main_arg0) (ix2 p k) := by
  have ht : (t : ℕ) < 32 := N_0 ▸ t.isLt
  obtain ⟨h₁, h₂⟩ : (16 ≤ (e : ℕ) ∨ (t : ℕ) % 4 ≠ 0) ∧ ((e : ℕ) < 528 ∨ (t : ℕ) % 4 ≠ 3) := he
  rw [extend_apply]
  split
  · blk_ext [iblk, V, idx t]
  · split
    · blk_ext [iblk, V, idx t]
    · blk_ext [iblk, V, idx t]

theorem a_read (e : Fin 544) (he : inside (pt t) e) (p : Fin 16384) (hp : (p : ℕ) + 16 = 512 * t + e) (k : Fin 1024) :
    extend (e := .bf16) (iblk m c 4 t) (iblk m c 3 t) (iblk m c 5 t) (ix2 e k)
      = m ((c.tc : Thread nD τ).loc main_arg1) (ix2 p k) := by
  have ht : (t : ℕ) < 32 := N_0 ▸ t.isLt
  obtain ⟨h₁, h₂⟩ : (16 ≤ (e : ℕ) ∨ (t : ℕ) % 4 ≠ 0) ∧ ((e : ℕ) < 528 ∨ (t : ℕ) % 4 ≠ 3) := he
  rw [extend_apply]
  split
  · blk_ext [iblk, V, idx t]
  · split
    · blk_ext [iblk, V, idx t]
    · blk_ext [iblk, V, idx t]

theorem wo_apply (x : FVec Ideal S1x1024x1024 .f32) (k n : Fin 1024) :
    (truncf .bf16 (shapeCast S1024x1024 x shapeCasts_S1x1024x1024_S1024x1024) bitsLt_bf16_f32 : FVec Ideal S1024x1024 .bf16)
      (ix2 k n) = x (ix3 0 k n) := by
  pointwise []

theorem wo_read (k n : Fin 1024) :
    iblk m c 7 t (ix2 k n) = m ((c.tc : Thread nD τ).loc main_arg3) (ix3 0 k n) := by
  unfold iblk
  entry_read
  exact (congrArg _ (show (win0_7.blk t).view.emb (ix2 k n) = ix2 k n by blk_ext [idx t])).trans (wo_apply _ _ _)

theorem wu_read (k : Fin 1024) (n : Fin 5632) :
    iblk m c 8 t (ix3 0 k n) = m ((c.tc : Thread nD τ).loc main_arg4) (ix3 1 k n) := by
  unfold iblk
  entry_read
  exact congrArg (m ((c.tc : Thread nD τ).loc main_arg4))
    (show (win0_8.blk t).view.emb (ix3 0 k n) = ix3 1 k n by blk_ext [idx t])

theorem cw_read (k : Fin 3) (n : Fin 5632) :
    iblk m c 9 t (ix3 0 k n) = m ((c.tc : Thread nD τ).loc main_arg5) (ix3 1 k n) := by
  blk_ext [iblk, V, idx t]

theorem cb_apply (x : FVec Ideal S2x5632 .f32) (l : Fin 2) (n : Fin 5632) :
    broadcastInDim S2x1x5632 ![0, 2] bcast_S2x5632_S2x1x5632_0_2 x (ix3 l 0 n) = x (ix2 l n) := by
  pointwise []

theorem cb_read (n : Fin 5632) :
    iblk m c 10 t (ix3 0 0 n) = m ((c.tc : Thread nD τ).loc main_arg6) (ix2 1 n) := by
  unfold iblk
  entry_read
  exact (congrArg _ (show (win0_10.blk t).view.emb (ix3 0 0 n) = ix3 1 0 n by blk_ext [idx t])).trans (cb_apply _ _ _)

theorem wd_apply (x : FVec Ideal S2x2816x1024 .f32) (l : Fin 2) (n : Fin 2816) (k : Fin 1024) :
    shapeCast S2x11x256x1024 (truncf .bf16 x bitsLt_bf16_f32 : FVec Ideal S2x2816x1024 .bf16)
      shapeCasts_S2x2816x1024_S2x11x256x1024 (ix4 l ⟨n / 256, by omega⟩ ⟨n % 256, by omega⟩ k) = x (ix3 l n k) := by
  pointwise []
  blk_ext []

theorem wd_read (n : Fin 2816) (k : Fin 1024) :
    iblk m c 11 t (ix4 0 ⟨n / 256, by omega⟩ ⟨n % 256, by omega⟩ k) = m ((c.tc : Thread nD τ).loc main_arg7) (ix3 1 n k) := by
  unfold iblk
  entry_read
  exact (congrArg _ (show (win0_11.blk t).view.emb (ix4 0 ⟨n / 256, by omega⟩ ⟨n % 256, by omega⟩ k)
    = ix4 1 ⟨n / 256, by omega⟩ ⟨n % 256, by omega⟩ k by blk_ext [idx t])).trans (wd_apply _ _ _ _)

/-- The residual's row that row `e` of the extended tile is. -/
theorem row_read (b : Fin 8) (hb : (b : ℕ) = t / 4) (e : Fin 544) (he : inside (pt t) e) (s : Fin 2048)
    (hs : 2048 * (b : ℕ) + s + 16 = 512 * t + e) (k : Fin 1024) :
    extRow (mods (iblk m c 6 t)) (extend (e := .f32) (iblk m c 1 t) (iblk m c 0 t) (iblk m c 2 t))
        (extend (e := .bf16) (iblk m c 4 t) (iblk m c 3 t) (iblk m c 5 t)) (iblk m c 7 t) e k
      = Cert.PostRef2.stream (m ((c.tc : Thread nD τ).loc main_arg0)) (m ((c.tc : Thread nD τ).loc main_arg1))
          (m ((c.tc : Thread nD τ).loc main_arg2)) (m ((c.tc : Thread nD τ).loc main_arg3)) b s k := by
  unfold extRow Cert.PostRef2.stream
  simp only [mods_read m c t b hb, wo_read, x_read m c t e he ⟨2048 * b + s, by omega⟩ hs,
    a_read m c t e he ⟨2048 * b + s, by omega⟩ hs]

/-- The feed-forward's input at row `15 + p` of the extended tile. -/
theorem input_read (b : Fin 8) (hb : (b : ℕ) = t / 4) (p : ℕ) (hp : p ≤ 513) (e : Fin 544) (he : (e : ℕ) = 15 + p)
    (k : Fin 1024) :
    inputRow (mods (iblk m c 6 t)) (extend (e := .f32) (iblk m c 1 t) (iblk m c 0 t) (iblk m c 2 t))
        (extend (e := .bf16) (iblk m c 4 t) (iblk m c 3 t) (iblk m c 5 t)) (iblk m c 7 t) (pt t) e k
      = Cert.PostRef2.inRow (m ((c.tc : Thread nD τ).loc main_arg0)) (m ((c.tc : Thread nD τ).loc main_arg1))
          (m ((c.tc : Thread nD τ).loc main_arg2)) (m ((c.tc : Thread nD τ).loc main_arg3)) b (512 * (t % 4) + p) k := by
  have ht : (t : ℕ) < 32 := N_0 ▸ t.isLt
  unfold inputRow Cert.PostRef2.inRow padded
  by_cases h : 1 ≤ 512 * ((t : ℕ) % 4) + p ∧ 512 * ((t : ℕ) % 4) + p ≤ 2048
  · have hi : inside (pt t) e := by
      show (16 ≤ (e : ℕ) ∨ (t : ℕ) % 4 ≠ 0) ∧ ((e : ℕ) < 528 ∨ (t : ℕ) % 4 ≠ 3)
      omega
    rw [if_pos hi, dif_pos h]
    simp only [mods_read m c t b hb]
    congr 1
    funext l
    exact row_read m c t b hb e hi _ (by show 2048 * (b : ℕ) + (512 * ((t : ℕ) % 4) + p - 1) + 16 = 512 * t + e; omega) l
  · have hi : ¬ inside (pt t) e := by
      show ¬ ((16 ≤ (e : ℕ) ∨ (t : ℕ) % 4 ≠ 0) ∧ ((e : ℕ) < 528 ∨ (t : ℕ) % 4 ≠ 3))
      omega
    rw [if_neg hi, dif_neg h]

/-- What a grid point writes is its rows of the reference's result. -/
theorem point (b : Fin 8) (hb : (b : ℕ) = t / 4) (r : Fin 512) (s : Fin 2048) (hs : (s : ℕ) = 512 * (t % 4) + r)
    (k : Fin 1024) :
    outsAt0 m c t (ix2 r k)
      = Cert.PostRefIdeal.Read.val_main_v85 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (ix2 ⟨2048 * b + s, by omega⟩ k) := by
  have ht : (t : ℕ) < 32 := N_0 ▸ t.isLt
  have hi : inside (pt t) ⟨16 + r, by omega⟩ := by
    show (16 ≤ 16 + (r : ℕ) ∨ (t : ℕ) % 4 ≠ 0) ∧ (16 + (r : ℕ) < 528 ∨ (t : ℕ) % 4 ≠ 3)
    omega
  have hc : (grid0.coords t 0 : ℕ) = (pt t : ℕ) := coord t
  rw [out_eq, hc, Cert.PostRef2.result_apply]
  refine (result_apply _ _ _ _ _ _ _ r k).trans ?_
  unfold Cert.PostRef2.value
  rw [mods_read m c t b hb, own_apply, row_read m c t b hb _ hi s (by show 2048 * (b : ℕ) + s + 16 = 512 * t + (16 + r); omega)]
  simp only [input_apply, wu_read, cw_read, cb_read, wd_read]
  have e₀ := input_read m c t b hb r (by omega) ⟨15 + r, by omega⟩ rfl
  have e₁ := input_read m c t b hb (r + 1) (by omega) ⟨16 + r, by omega⟩ (by show 16 + (r : ℕ) = _; omega)
  have e₂ := input_read m c t b hb (r + 2) (by omega) ⟨17 + r, by omega⟩ (by show 17 + (r : ℕ) = _; omega)
  simp only [e₀, e₁, e₂, hs, Nat.add_assoc]

/-- The final array: the reference's result. -/
theorem final : (dats m 0 c).arrAt 12 cfg0.N
      = Cert.PostRefIdeal.Read.val_main_v85 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) := by
  refine (dats m 0 c).arrAt_eq_of_covers 12 _ (by decide +kernel) fun t _ y => ?_
  blk_simp
  rw [after0_12]
  have ht : (t : ℕ) < 32 := N_0 ▸ t.isLt
  have h₀ : (y 0 : ℕ) < 512 := (y 0).isLt
  have h₁ : (y 1 : ℕ) < 1024 := (y 1).isLt
  have h := point m c t ⟨t / 4, by omega⟩ rfl ⟨y 0, h₀⟩ ⟨512 * (t % 4) + y 0, by omega⟩ rfl ⟨y 1, h₁⟩
  refine Eq.trans ?_ (h.trans ?_)
  · refine congrArg _ ?_
    blk_ext []
  · refine congrArg _ ?_
    blk_ext [idx t]

end Cert.Post2
end
-- ==== Proof.Post.Claim.lean ====
/- The claims of the layer's second half: the runs leave the arguments unchanged, and the kernel's result is the
   reference's. -/
module

public import proofs.«01_k».proof.Defs
public import proofs.«01_k».proof.Proof.Gen.Post.Frame
public import proofs.«01_k».proof.Proof.Gen.PostRefIdeal.Run
public import proofs.«01_k».proof.Proof.Post.Equation
public import Idealize.ShloMosaic.Adequacy
public import Idealize.ShloMosaic.Init

@[expose] public section

noncomputable section

namespace Cert.Post2

open Idealize.ShloMosaic Idealize.SL.Sem

theorem frame_p : Cert.quiescent_Post (hPost := Cert.Post.Gen.facts) :=
  fun m ρ _ => Cert.Post.Gen.frame m ρ

theorem frame_pi : Cert.quiescent_PostIdeal (hPostIdeal := Cert.PostIdeal.Gen.facts) :=
  fun m ρ _ => Cert.PostIdeal.Gen.frame m ρ

theorem frame_ri : Cert.quiescent_PostRefIdeal (hPostRefIdeal := Cert.PostRefIdeal.Gen.facts) := fun m ρ _ =>
  (θ_run Cert.PostRefIdeal.defs _ _).mono
    (fun r h => ⟨fun c => (h c).2, Idealize.ShloMosaic.sem_eq_zero_of_no_sems (by decide) r.2⟩)
    (Cert.PostRefIdeal.Value.run (F := Ideal) m ρ)

theorem algebraic : Cert.algebraic_PostIdeal_PostRefIdeal (hPostIdeal := Cert.PostIdeal.Gen.facts)
    (hPostRefIdeal := Cert.PostRefIdeal.Gen.facts) := by
  intro m ρ m' ρ' _ hagree
  refine ⟨_, Cert.PostIdeal.Value.run_blocks m ρ, ?_⟩
  refine (θ_run Cert.PostRefIdeal.defs _ _).mono (fun _ h c => ⟨(h c).1.trans ?_, (h c).2⟩)
    (Cert.PostRefIdeal.Value.run (F := Ideal) m' ρ')
  obtain ⟨h₀, h₁, h₂, h₃, h₄, h₅, h₆, h₇⟩ := hagree c
  rw [Cert.PostRefIdeal.Read.val_main_v85_eq, h₀, h₁, h₂, h₃, h₄, h₅, h₆, h₇]
  exact (final m c).symm

end Cert.Post2

end
-- ==== Proof.PostCtx.Body.lean ====
/-
  What one run of the body of the layer's second half stores over the context tokens, whose tile holds two whole sequences:
  no halos, and the convolution's neighbours beyond a sequence's ends replaced by zero.
-/
module

public import proofs.«01_k».proof.Proof.Gen.PostCtxIdeal.Value
public import proofs.«01_k».proof.Proof.Post.Rows

@[expose] public section

set_option maxRecDepth 16384

noncomputable section

namespace Cert.PostC

open Cert.PostCtxIdeal Cert.PostCtxIdeal.Gen Idealize.ShloMosaic Idealize.ShloMosaic.TcCoe Idealize.SL.Sem
open Cert.Post2 (mods gated step up_inb cw_inb cb_inb down_inb readCov_whole zero₂)

theorem readCov_input {sg : RefSig} {κ : Kind} {sp : Space} (v : View sg κ sp S512x1024 .bf16)
    (L : List (View.Piece (Elt Ideal) S512x1024 .bf16)) (inb) :
    v.readCov L (Rect.unit (s := S512x1024) ![0, 0] ![512, 1024] inb).toLoadRect = View.canon L :=
  readCov_whole v L _ zero₂ inb

theorem readCov_own {sg : RefSig} {κ : Kind} {sp : Space} (v : View sg κ sp S512x1024 .f32)
    (L : List (View.Piece (Elt Ideal) S512x1024 .f32)) (inb) :
    v.readCov L (Rect.unit (s := S512x1024) ![0, 0] ![512, 1024] inb).toLoadRect = View.canon L :=
  readCov_whole v L _ zero₂ inb

/-- The residual after the attention: the stream's rows with the modulated projection added. -/
def residual (md : FVec Ideal S6x1024 .f32) (x : FVec Ideal S256x1024 .f32) (a : FVec Ideal S256x1024 .bf16)
    (w : FVec Ideal S1024x1024 .bf16) : FVec Ideal S256x1024 .f32 :=
  addf x (mulf (broadcastTo S256x1024 (extractStridedSlice S1x1024 ![2, 0] md slices_S6x1024_o2_0_S1x1024)
      broadcasts_S1x1024_S256x1024)
    (matmul dot_S256x1024_S1024x1024_S256x1024_1_0_0_1_n_n none a
      (shapeCast S1024x1024 w shapeCasts_S1024x1024_S1024x1024) (constant S256x1024 .f32 0x00000000#32)))

/-- The rows divided by the root of their mean square, then scaled and shifted by the modulation. -/
def normed (md : FVec Ideal S6x1024 .f32) (x : FVec Ideal S256x1024 .f32) : FVec Ideal S256x1024 .f32 :=
  addf (mulf (mulf x (broadcastTo S256x1024 (rsqrt (addf (divf (shapeCast S256x1
        (multiReduction .add [1] S256 (mulf x x) 0x00000000#32 reduces_S256x1024_S256 (.inl rfl) rfl)
        shapeCasts_S256_S256x1) (broadcast S256x1 (Scalar.ofBits .f32 0x44800000#32)))
        (broadcast S256x1 (Scalar.ofBits .f32 0x358637BD#32)))) broadcasts_S256x1_S256x1024))
      (broadcastTo S256x1024 (addf (broadcast S1x1024 (Scalar.ofBits .f32 0x3F800000#32))
        (extractStridedSlice S1x1024 ![4, 0] md slices_S6x1024_o4_0_S1x1024)) broadcasts_S1x1024_S256x1024))
    (broadcastTo S256x1024 (extractStridedSlice S1x1024 ![3, 0] md slices_S6x1024_o3_0_S1x1024)
      broadcasts_S1x1024_S256x1024)

/-- One sequence of the feed-forward's input, as it is stored. -/
def stored (h : FVec Ideal S256x1024 .f32) : FVec Ideal S256x1024 .bf16 :=
  shapeCast S256x1024 (truncf .bf16 h bitsLt_bf16_f32 : FVec Ideal S256x1024 .bf16) shapeCasts_S256x1024_S256x1024

/-- One chunk of the hidden layer: the rows times 256 of the weight's columns. -/
def hidden (h : FVec Ideal S512x1024 .bf16) (w : FVec Ideal S1x1024x256 .bf16) : FVec Ideal S512x256 .f32 :=
  shapeCast S512x256 (matmul dot_S512x1024_S1024x256_S512x256_1_0_0_1_n_n none h
    (shapeCast S1024x256 w shapeCasts_S1x1024x256_S1024x256) (constant S512x256 .f32 0x00000000#32))
    shapeCasts_S512x256_S512x256

/-- The rows' positions within their sequences. -/
def position : IVec S512x256 32 := andi (iota .tc S512x256 32 [0] iota_S512x256_d0_w32) (broadcast S512x256 255#32)

/-- A neighbour's values, zero on the rows at position `e`. -/
def maskedAt (e : BitVec 32) (z : FVec Ideal S512x256 .f32) : FVec Ideal S512x256 .f32 :=
  select (cmpi .ne position (broadcast S512x256 e)) z (broadcast S512x256 (Scalar.ofBits .f32 0x00000000#32))

/-- The convolution along the rows, with its bias. -/
def conv (z : FVec Ideal S512x256 .f32) (cw : FVec Ideal S1x3x256 .f32) (cb : FVec Ideal S1x1x256 .f32) :
    FVec Ideal S512x256 .f32 :=
  let w : FVec Ideal S3x256 .f32 := shapeCast S3x256 cw shapeCasts_S1x3x256_S3x256
  addf (broadcastTo S512x256 (shapeCast S1x256 cb shapeCasts_S1x1x256_S1x256) broadcasts_S1x256_S512x256)
    (addf (addf
      (mulf (broadcastTo S512x256 (extractStridedSlice S1x256 ![0, 0] w slices_S3x256_o0_0_S1x256)
          broadcasts_S1x256_S512x256)
        (maskedAt 0#32 (dynamicRotate 0 1#32 none z rotates_S512x256_d0)))
      (mulf (broadcastTo S512x256 (extractStridedSlice S1x256 ![1, 0] w slices_S3x256_o1_0_S1x256)
          broadcasts_S1x256_S512x256) z))
      (mulf (broadcastTo S512x256 (extractStridedSlice S1x256 ![2, 0] w slices_S3x256_o2_0_S1x256)
          broadcasts_S1x256_S512x256)
        (maskedAt 255#32 (dynamicRotate 0 511#32 none z rotates_S512x256_d0))))

/-- One half (`b`) of chunk `j`, convolved. -/
def lane (h : FVec Ideal S512x1024 .bf16) (wu : Vec Ideal S1x1024x5632 .bf16) (cw : Vec Ideal S1x3x5632 .f32)
    (cb : Vec Ideal S1x1x5632 .f32) (b j : ℕ) (hb : b ≤ 1) (hj : j < 11) : FVec Ideal S512x256 .f32 :=
  conv (hidden h (View.ld wu (Rect.unit ![0, 0, 2816 * b + 256 * j] S1x1024x256.size (up_inb b j hb hj))))
    (View.ld cw (Rect.unit ![0, 0, 2816 * b + 256 * j] S1x3x256.size (cw_inb b j hb hj)))
    (View.ld cb (Rect.unit ![0, 0, 2816 * b + 256 * j] S1x1x256.size (cb_inb b j hb hj)))

/-- The accumulator after the first `n` chunks. -/
def accum (h : FVec Ideal S512x1024 .bf16) (wu : Vec Ideal S1x1024x5632 .bf16) (cw : Vec Ideal S1x3x5632 .f32)
    (cb : Vec Ideal S1x1x5632 .f32) (wd : Vec Ideal S1x11x256x1024 .bf16) : (n : ℕ) → n ≤ 11 → FVec Ideal S512x1024 .f32
  | 0, _ => shapeCast S512x1024 (broadcast S512x1024 (Scalar.ofBits .f32 0x00000000#32)) shapeCasts_S512x1024_S512x1024
  | n + 1, hn => step (accum h wu cw cb wd n (by omega))
      (gated (lane h wu cw cb 0 n (by omega) (by omega)) (lane h wu cw cb 1 n (by omega) (by omega)))
      (View.ld wd (Rect.unit ![0, n, 0, 0] S1x1x256x1024.size (down_inb n (by omega))))

/-- The stored tile: the residual and the modulated feed-forward. -/
def result (md : FVec Ideal S6x1024 .f32) (h : FVec Ideal S512x1024 .bf16) (x : FVec Ideal S512x1024 .f32)
    (wu : Vec Ideal S1x1024x5632 .bf16) (cw : Vec Ideal S1x3x5632 .f32)
    (cb : Vec Ideal S1x1x5632 .f32) (wd : Vec Ideal S1x11x256x1024 .bf16) : FVec Ideal S512x1024 .f32 :=
  addf x (mulf (broadcastTo S512x1024 (extractStridedSlice S1x1024 ![5, 0] md slices_S6x1024_o5_0_S1x1024)
    broadcasts_S1x1024_S512x1024) (accum h wu cw cb wd 11 (le_refl _)))

/-- The first and the second sequence of the tile. -/
def lower {e : FTy} (v : FVec Ideal S512x1024 e) : FVec Ideal S256x1024 e :=
  extractStridedSlice S256x1024 ![0, 0] v slices_S512x1024_o0_0_S256x1024
@[inherit_doc lower]
def upper {e : FTy} (v : FVec Ideal S512x1024 e) : FVec Ideal S256x1024 e :=
  extractStridedSlice S256x1024 ![256, 0] v slices_S512x1024_o256_0_S256x1024

/-- The feed-forward's input, as the body's buffer holds it. -/
def input (md : FVec Ideal S6x1024 .f32) (x : FVec Ideal S512x1024 .f32) (a : FVec Ideal S512x1024 .bf16)
    (w : FVec Ideal S1024x1024 .bf16) : Vec Ideal S512x1024 .bf16 :=
  View.canon (Val := Elt Ideal) (e := .bf16)
    [⟨Rect.unit (s := S512x1024) ![256, 0] S256x1024.size inb_S512x1024_S256x1024_256_0,
        stored (normed md (residual md (upper x) (upper a) w))⟩,
     ⟨Rect.unit (s := S512x1024) ![0, 0] S256x1024.size inb_S512x1024_S256x1024_0_0,
        stored (normed md (residual md (lower x) (lower a) w))⟩]

/-- The residual, as the body's buffer holds it. -/
def own (md : FVec Ideal S6x1024 .f32) (x : FVec Ideal S512x1024 .f32) (a : FVec Ideal S512x1024 .bf16)
    (w : FVec Ideal S1024x1024 .bf16) : Vec Ideal S512x1024 .f32 :=
  View.canon (Val := Elt Ideal) (e := .f32)
    [⟨Rect.unit (s := S512x1024) ![256, 0] S256x1024.size inb_S512x1024_S256x1024_256_0,
        shapeCast S256x1024 (residual md (upper x) (upper a) w) shapeCasts_S256x1024_S256x1024⟩,
     ⟨Rect.unit (s := S512x1024) ![0, 0] S256x1024.size inb_S512x1024_S256x1024_0_0,
        shapeCast S256x1024 (residual md (lower x) (lower a) w) shapeCasts_S256x1024_S256x1024⟩]

variable (m : (ℓ : Loc nD τ sig) → Buf (Elt Ideal) ℓ) (c : Dev nD)

theorem out_eq (t : Fin cfg0.N) (y : S512x1024.Idx) :
    outsAt0 m c t y = result (mods (iblk m c 2 t))
      (input (mods (iblk m c 2 t)) (iblk m c 0 t) (iblk m c 1 t) (iblk m c 3 t))
      (own (mods (iblk m c 2 t)) (iblk m c 0 t) (iblk m c 1 t) (iblk m c 3 t))
      (iblk m c 4 t) (iblk m c 5 t) (iblk m c 6 t) (iblk m c 7 t) y := by
  unfold outsAt0
  frame_out
  simp only [readCov_input, readCov_own]
  rfl

end Cert.PostC
end
-- ==== Proof.PostCtx.Rows.lean ====
/-
  The stored tile of the context tokens read at an index.
-/
module

public import proofs.«01_k».proof.Proof.PostCtx.Body

@[expose] public section

set_option maxRecDepth 16384

noncomputable section

namespace Cert.PostC

open Cert.PostCtxIdeal Cert.PostCtxIdeal.Gen Idealize.ShloMosaic Idealize.ShloMosaic.TcCoe Idealize.SL.Sem Cert.Ffn
open Cert.Post2 (mods gated step up_inb cw_inb cb_inb down_inb gated_apply step_apply stacked)

theorem residual_apply (md : FVec Ideal S6x1024 .f32) (x : FVec Ideal S256x1024 .f32) (a : FVec Ideal S256x1024 .bf16)
    (w : FVec Ideal S1024x1024 .bf16) (r : Fin 256) (c : Fin 1024) : residual md x a w (ix2 r c)
      = resRow (fun k => x (ix2 r k)) (fun k => md (ix2 2 k)) (fun k => a (ix2 r k)) (fun k c => w (ix2 k c)) c := by
  pointwise [residual]
  rfl

theorem normed_apply (md : FVec Ideal S6x1024 .f32) (x : FVec Ideal S256x1024 .f32) (r : Fin 256) (c : Fin 1024) :
    normed md x (ix2 r c)
      = normRow (fun k => md (ix2 4 k)) (fun k => md (ix2 3 k)) (fun k => x (ix2 r k)) c := by
  pointwise [normed]
  rfl

theorem stored_apply (h : FVec Ideal S256x1024 .f32) (r : Fin 256) (c : Fin 1024) : stored h (ix2 r c) = h (ix2 r c) := by
  pointwise [stored]

theorem hidden_apply (h : FVec Ideal S512x1024 .bf16) (w : FVec Ideal S1x1024x256 .bf16) (r : Fin 512) (c : Fin 256) :
    hidden h w (ix2 r c) = ∑ k, h (ix2 r k) * w (ix3 0 k c) := by
  pointwise [hidden]

theorem first_bit : ∀ r : Fin 512, IntOp.cmpi .ne (IntOp.andi (BitVec.ofNat 32 r) 255#32) 0#32
    = if (r : ℕ) % 256 ≠ 0 then 1#1 else 0#1 := by decide +kernel
theorem last_bit : ∀ r : Fin 512, IntOp.cmpi .ne (IntOp.andi (BitVec.ofNat 32 r) 255#32) 255#32
    = if (r : ℕ) % 256 ≠ 255 then 1#1 else 0#1 := by decide +kernel

theorem first_apply (z : FVec Ideal S512x256 .f32) (r : Fin 512) (c : Fin 256) :
    maskedAt 0#32 z (ix2 r c) = if (r : ℕ) % 256 ≠ 0 then z (ix2 r c) else 0 := by
  pointwise [maskedAt, position]
  rw [first_bit]
  unfold Scalar.select
  split <;> simp_all

theorem last_apply (z : FVec Ideal S512x256 .f32) (r : Fin 512) (c : Fin 256) :
    maskedAt 255#32 z (ix2 r c) = if (r : ℕ) % 256 ≠ 255 then z (ix2 r c) else 0 := by
  pointwise [maskedAt, position]
  rw [last_bit]
  unfold Scalar.select
  split <;> simp_all

theorem prev_apply (z : FVec Ideal S512x256 .f32) (r : Fin 512) (c : Fin 256) :
    dynamicRotate 0 1#32 none z rotates_S512x256_d0 (ix2 r c) = z (ix2 ⟨(r + 511) % 512, by omega⟩ c) := by
  pointwise []
  rfl

theorem next_apply (z : FVec Ideal S512x256 .f32) (r : Fin 512) (c : Fin 256) :
    dynamicRotate 0 511#32 none z rotates_S512x256_d0 (ix2 r c) = z (ix2 ⟨(r + 1) % 512, by omega⟩ c) := by
  pointwise []
  rfl

theorem conv_apply (z : FVec Ideal S512x256 .f32) (cw : FVec Ideal S1x3x256 .f32) (cb : FVec Ideal S1x1x256 .f32)
    (r : Fin 512) (c : Fin 256) : conv z cw cb (ix2 r c)
      = cb (ix3 0 0 c) + (cw (ix3 0 0 c) * (if (r : ℕ) % 256 ≠ 0 then z (ix2 ⟨(r + 511) % 512, by omega⟩ c) else 0)
        + cw (ix3 0 1 c) * z (ix2 r c)
        + cw (ix3 0 2 c) * (if (r : ℕ) % 256 ≠ 255 then z (ix2 ⟨(r + 1) % 512, by omega⟩ c) else 0)) := by
  pointwise [conv]
  rw [first_apply, last_apply, prev_apply, next_apply]

/-- The row before row `r` of the tile, zero at a sequence's start. -/
def before (h : FVec Ideal S512x1024 .bf16) (r : Fin 512) (l : Fin 1024) : EReal :=
  if (r : ℕ) % 256 ≠ 0 then h (ix2 ⟨(r + 511) % 512, by omega⟩ l) else 0
/-- The row after row `r` of the tile, zero at a sequence's end. -/
def after (h : FVec Ideal S512x1024 .bf16) (r : Fin 512) (l : Fin 1024) : EReal :=
  if (r : ℕ) % 256 ≠ 255 then h (ix2 ⟨(r + 1) % 512, by omega⟩ l) else 0

theorem sum_ite {n : ℕ} (p : Prop) [Decidable p] (f g : Fin n → EReal) :
    (∑ k, (if p then f k else 0) * g k) = if p then ∑ k, f k * g k else 0 := by
  split <;> simp

/-- The hidden columns of half `b` of chunk `j`. -/
theorem lane_apply (h : FVec Ideal S512x1024 .bf16) (wu : Vec Ideal S1x1024x5632 .bf16) (cw : Vec Ideal S1x3x5632 .f32)
    (cb : Vec Ideal S1x1x5632 .f32) (b j : ℕ) (hb : b ≤ 1) (hj : j < 11) (r : Fin 512) (k : Fin 256) :
    lane h wu cw cb b j hb hj (ix2 r k)
      = convAt (fun l => wu (ix3 0 l ⟨2816 * b + 256 * j + k, by omega⟩))
          (fun i => cw (ix3 0 i ⟨2816 * b + 256 * j + k, by omega⟩)) (cb (ix3 0 0 ⟨2816 * b + 256 * j + k, by omega⟩))
          (before h r) (fun l => h (ix2 r l)) (after h r) := by
  unfold lane
  rw [conv_apply]
  simp only [hidden_apply]
  have e₁ : ∀ l : Fin 1024, View.ld wu (Rect.unit ![0, 0, 2816 * b + 256 * j] S1x1024x256.size (up_inb b j hb hj)) (ix3 0 l k)
      = wu (ix3 0 l ⟨2816 * b + 256 * j + k, by omega⟩) := fun l => by
    rw [View.ld_unit]
    pointwise []
  have e₂ : ∀ i : Fin 3, View.ld cw (Rect.unit ![0, 0, 2816 * b + 256 * j] S1x3x256.size (cw_inb b j hb hj)) (ix3 0 i k)
      = cw (ix3 0 i ⟨2816 * b + 256 * j + k, by omega⟩) := fun i => by
    rw [View.ld_unit]
    pointwise []
  have e₃ : View.ld cb (Rect.unit ![0, 0, 2816 * b + 256 * j] S1x1x256.size (cb_inb b j hb hj)) (ix3 0 0 k)
      = cb (ix3 0 0 ⟨2816 * b + 256 * j + k, by omega⟩) := by
    rw [View.ld_unit]
    pointwise []
  simp only [e₁, e₂, e₃]
  unfold convAt before after
  simp only [sum_ite]

section accumulate

variable (h : FVec Ideal S512x1024 .bf16) (wu : Vec Ideal S1x1024x5632 .bf16) (cw : Vec Ideal S1x3x5632 .f32)
  (cb : Vec Ideal S1x1x5632 .f32) (wd : Vec Ideal S1x11x256x1024 .bf16) (r : Fin 512) (c : Fin 1024)

/-- The hidden unit `n` of row `r` of the tile. -/
def tileUnit (n : Fin 2816) : EReal :=
  unit (fun l n => wu (ix3 0 l n)) (fun i n => cw (ix3 0 i n)) (fun n => cb (ix3 0 0 n))
    (before h r) (fun l => h (ix2 r l)) (after h r) n

theorem accum_apply : ∀ (n : ℕ) (hn : n ≤ 11), accum h wu cw cb wd n hn (ix2 r c)
    = ∑ j : Fin n, ∑ k : Fin 256, tileUnit h wu cw cb r ⟨j * 256 + k, by omega⟩ * wd (ix4 0 ⟨j, by omega⟩ k c)
  | 0, _ => by
    simp only [accum, Finset.univ_eq_empty, Finset.sum_empty]
    pointwise []
  | n + 1, hn => by
    rw [accum, step_apply, accum_apply n (by omega)]
    refine Eq.trans ?_ (Fin.sum_univ_castSucc _).symm
    refine Ideal.add_congr rfl (Finset.sum_congr rfl fun k _ => ?_)
    rw [gated_apply, lane_apply, lane_apply]
    refine Ideal.mul_congr ?_ (by rw [View.ld_unit]; pointwise []; rfl)
    unfold tileUnit unit
    have e₁ : 2816 * 0 + 256 * n + (k : ℕ) = n * 256 + k := by omega
    have e₂ : 2816 * 1 + 256 * n + (k : ℕ) = 2816 + (n * 256 + k) := by omega
    simp only [e₁, e₂]
    rfl

theorem accum_eq : accum h wu cw cb wd 11 (le_refl _) (ix2 r c)
    = ffn (fun l n => wu (ix3 0 l n)) (fun i n => cw (ix3 0 i n)) (fun n => cb (ix3 0 0 n))
        (fun n c => wd (ix4 0 ⟨n / 256, by omega⟩ ⟨n % 256, by omega⟩ c))
        (before h r) (fun l => h (ix2 r l)) (after h r) c := by
  rw [accum_apply]
  unfold ffn
  refine Fin.sum_mul_add_congr fun j k hl => ?_
  have e₁ : ((j : ℕ) * 256 + k) / 256 = j := by omega
  have e₂ : ((j : ℕ) * 256 + k) % 256 = k := by omega
  simp only [e₁, e₂]
  rfl

end accumulate

theorem result_apply (md : FVec Ideal S6x1024 .f32) (h : FVec Ideal S512x1024 .bf16) (x : FVec Ideal S512x1024 .f32)
    (wu : Vec Ideal S1x1024x5632 .bf16) (cw : Vec Ideal S1x3x5632 .f32)
    (cb : Vec Ideal S1x1x5632 .f32) (wd : Vec Ideal S1x11x256x1024 .bf16) (r : Fin 512) (c : Fin 1024) :
    result md h x wu cw cb wd (ix2 r c) = x (ix2 r c) + md (ix2 5 c) *
      ffn (fun l n => wu (ix3 0 l n)) (fun i n => cw (ix3 0 i n)) (fun n => cb (ix3 0 0 n))
        (fun n c => wd (ix4 0 ⟨n / 256, by omega⟩ ⟨n % 256, by omega⟩ c))
        (before h r) (fun l => h (ix2 r l)) (after h r) c := by
  rw [← accum_eq]
  pointwise [result]

/-- Row `e` of the tile's residual. -/
def tileRow (md : FVec Ideal S6x1024 .f32) (x : FVec Ideal S512x1024 .f32) (a : FVec Ideal S512x1024 .bf16)
    (w : FVec Ideal S1024x1024 .bf16) (e : Fin 512) : Fin 1024 → EReal :=
  resRow (fun k => x (ix2 e k)) (fun k => md (ix2 2 k)) (fun k => a (ix2 e k)) (fun k c => w (ix2 k c))

section buffers

variable (md : FVec Ideal S6x1024 .f32) (x : FVec Ideal S512x1024 .f32) (a : FVec Ideal S512x1024 .bf16)
  (w : FVec Ideal S1024x1024 .bf16)

theorem residual_lower (r : Fin 256) (c : Fin 1024) :
    residual md (lower x) (lower a) w (ix2 r c) = tileRow md x a w ⟨r, by omega⟩ c := by
  rw [residual_apply]
  pointwise [lower]
  rfl

theorem residual_upper (r : Fin 256) (c : Fin 1024) :
    residual md (upper x) (upper a) w (ix2 r c) = tileRow md x a w ⟨256 + r, by omega⟩ c := by
  rw [residual_apply]
  pointwise [upper]
  rfl

theorem input_apply (e : Fin 512) (c : Fin 1024) :
    input md x a w (ix2 e c) = normRow (fun k => md (ix2 4 k)) (fun k => md (ix2 3 k)) (tileRow md x a w e) c := by
  unfold input
  refine stacked (e := .bf16) (R := 512) (A := 256) (B := 256) (C := 1024) rfl _ _ _ _
    (fun e => normRow (fun k => md (ix2 4 k)) (fun k => md (ix2 3 k)) (tileRow md x a w e)) ?_ ?_ e c
  · intro r k
    refine (stored_apply _ r k).trans ?_
    rw [normed_apply]
    simp only [residual_upper]
  · intro r k
    refine (stored_apply _ r k).trans ?_
    rw [normed_apply]
    simp only [residual_lower]

theorem own_apply (r : Fin 512) (c : Fin 1024) : own md x a w (ix2 r c) = tileRow md x a w r c := by
  unfold own
  refine stacked (e := .f32) (R := 512) (A := 256) (B := 256) (C := 1024) rfl _ _ _ _ (tileRow md x a w) ?_ ?_ r c
  · intro r k
    refine Eq.trans ?_ (residual_upper md x a w r k)
    pointwise []
  · intro r k
    refine Eq.trans ?_ (residual_lower md x a w r k)
    pointwise []

end buffers

end Cert.PostC
end
-- ==== Proof.PostCtx.Ref.lean ====
/-
  The reference of the layer's second half over the context tokens, read at an index.
-/
module

public import proofs.«01_k».proof.Proof.Gen.PostCtxRefIdeal.Run
public import proofs.«01_k».proof.Proof.Gen.PostCtxRefIdeal.Read
public import proofs.«01_k».proof.Proof.Post.Spec
public import Idealize.ShloMosaic.Lib.Pointwise
public import Idealize.ShloMosaic.Lib.Pipeline.ValueKit

@[expose] public section

set_option maxRecDepth 16384

noncomputable section

namespace Cert.PostCRef

open Cert.PostCtxRefIdeal Cert.PostCtxRefIdeal.Gen Cert.PostCtxRefIdeal.Read Idealize.ShloMosaic Idealize.ShloMosaic.TcCoe Idealize.SL.Sem Cert.Ffn

variable (x : FVec Ideal S8192x1024 .f32) (a : FVec Ideal S8192x1024 .bf16) (md : FVec Ideal S2x16x6x1024 .f32)
  (wo : FVec Ideal S1x1024x1024 .f32) (wu : FVec Ideal S2x1024x5632 .f32) (cw : FVec Ideal S2x3x5632 .f32)
  (cb : FVec Ideal S2x5632 .f32) (wd : FVec Ideal S2x2816x1024 .f32)

/-- The residual of sequence `b`. -/
def stream (b : Fin 32) (s : Fin 256) : Fin 1024 → EReal :=
  resRow (fun k => x (ix2 ⟨256 * b + s, by omega⟩ k)) (fun k => md (ix4 1 0 2 k))
    (fun k => a (ix2 ⟨256 * b + s, by omega⟩ k)) (fun k c => wo (ix3 0 k c))

theorem residual_apply (b : Fin 32) (s : Fin 256) (c : Fin 1024) :
    val_main_v25 (F := Ideal) x a md wo (ix3 b s c) = stream x a md wo b s c := by
  pointwise [val_main_v25, val_main_v24, val_main_v23, val_main_v22, val_main_v21, val_main_v11, val_main_v10, val_main_v9,
    val_main_v2, val_main_v1, val_main_v0]
  unfold stream resRow
  simp only [Nat.mul_comm 256]

theorem normed_apply (b : Fin 32) (s : Fin 256) (c : Fin 1024) :
    val_main_v41 (F := Ideal) x a md wo (ix3 b s c)
      = normRow (fun k => md (ix4 1 0 4 k)) (fun k => md (ix4 1 0 3 k))
          (stream x a md wo b s) c := by
  have h := residual_apply x a md wo b s
  pointwise [val_main_v41, val_main_v40, val_main_v39, val_main_v38, val_main_v37, val_main_v36, val_main_v35, val_main_v34,
    val_main_v33, val_main_v32, val_main_v31, val_main_v30, val_main_v29, val_main_v28, val_main_v27, val_main_v26,
    val_main_cst, val_main_cst_0, val_main_cst_1, val_main_cst_2, val_main_v17, val_main_v16, val_main_v15, val_main_v14,
    val_main_v13, val_main_v12]
  simp only [h]
  rfl

/-- The feed-forward's input of sequence `b`, rows numbered from one. -/
def inRow (b : Fin 32) (s : ℕ) : Fin 1024 → EReal :=
  padded (fun k => md (ix4 1 0 4 k)) (fun k => md (ix4 1 0 3 k)) (stream x a md wo b) s

theorem ofInt_zero : val_main_call0_v0 (F := Ideal) (Shape.Idx.first h_S_) = 0 := by
  pointwise [val_main_call0_v0, val_main_c]
  show (((0#32 : BitVec 32).toInt : ℝ) : EReal) = 0
  simp

theorem padded_apply (b : Fin 32) (s : Fin 258) (n : Fin 5632) :
    val_main_v51 (F := Ideal) x a md wo wu (ix3 b s n)
      = ∑ k, inRow x a md wo b s k * wu (ix3 1 k n) := by
  pointwise [val_main_v51, val_main_v50, val_main_v43, val_main_v42]
  unfold inRow padded
  by_cases h : 1 ≤ (s : ℕ) ∧ (s : ℕ) ≤ 256
  · rw [dif_pos ⟨h.1, by omega⟩]
    simp only [dif_pos h, normed_apply]
  · rw [dif_neg (by omega), ofInt_zero]
    simp only [dif_neg h, zero_mul, Finset.sum_const_zero]

theorem conv_apply (b : Fin 32) (s : Fin 256) (n : Fin 5632) :
    val_main_v76 (F := Ideal) x a md wo wu cw cb (ix3 b s n)
      = convAt (fun k => wu (ix3 1 k n)) (fun i => cw (ix3 1 i n)) (cb (ix2 1 n)) (inRow x a md wo b s)
          (inRow x a md wo b (s + 1)) (inRow x a md wo b (s + 2)) := by
  pointwise [val_main_v76, val_main_v75, val_main_v74, val_main_v73, val_main_v72, val_main_v71, val_main_v70, val_main_v69,
    val_main_v68, val_main_v67, val_main_v66, val_main_v65, val_main_v64, val_main_v63, val_main_v62, val_main_v61,
    val_main_v60, val_main_v59, val_main_v58, val_main_v57, val_main_v56, val_main_v55, val_main_v54, val_main_v53,
    val_main_v52, val_main_cst_3, val_main_v47, val_main_v46, val_main_v45, val_main_v44]
  simp only [padded_apply, Nat.add_comm _ (s : ℕ)]
  unfold convAt
  simp only [mul_comm (cw _)]

theorem gated_apply (b : Fin 32) (s : Fin 256) (n : Fin 2816) :
    val_main_v80 (F := Ideal) x a md wo wu cw cb (ix3 b s n)
      = unit (fun k n => wu (ix3 1 k n)) (fun i n => cw (ix3 1 i n)) (fun n => cb (ix2 1 n)) (inRow x a md wo b s)
          (inRow x a md wo b (s + 1)) (inRow x a md wo b (s + 2)) n := by
  pointwise [val_main_v80, val_main_v79, val_main_v78, val_main_v77, val_main_call1_v5, val_main_call1_v4, val_main_call1_v3,
    val_main_call1_v2, val_main_call1_v1, val_main_call1_v0, val_main_call1_cst, val_main_call1_cst_0]
  simp only [conv_apply]
  rfl

/-- The result's row `s` of sequence `b`. -/
def value (b : Fin 32) (s : Fin 256) (c : Fin 1024) : EReal :=
  stream x a md wo b s c + md (ix4 1 0 5 c) *
    ffn (fun k n => wu (ix3 1 k n)) (fun i n => cw (ix3 1 i n)) (fun n => cb (ix2 1 n)) (fun n c => wd (ix3 1 n c))
      (inRow x a md wo b s) (inRow x a md wo b (s + 1)) (inRow x a md wo b (s + 2)) c

theorem result_apply (b : Fin 32) (s : Fin 256) (c : Fin 1024) :
    val_main_v85 (F := Ideal) x a md wo wu cw cb wd (ix2 ⟨256 * b + s, by omega⟩ c)
      = value x a md wo wu cw cb wd b s c := by
  pointwise [val_main_v85, val_main_v84, val_main_v83, val_main_v82, val_main_v81, val_main_v49, val_main_v48, val_main_v20,
    val_main_v19, val_main_v18]
  simp only [residual_apply, gated_apply]
  rfl

end Cert.PostCRef
end
-- ==== Proof.PostCtx.Equation.lean ====
/- The final array of the layer's second half over the context tokens is the reference's: each grid point reads its own 512
   rows, two whole sequences, and the whole of the weights. -/
module

public import proofs.«01_k».proof.Proof.PostCtx.Rows
public import proofs.«01_k».proof.Proof.PostCtx.Ref

@[expose] public section

set_option maxRecDepth 16384

noncomputable section

namespace Cert.PostC

open Idealize.ShloMosaic Idealize.ShloMosaic.Pointwise Idealize.ShloMosaic.Pipeline Idealize.SL.Sem
open Cert.PostCtxIdeal Cert.PostCtxIdeal.Gen Cert.Ffn
open Cert.Post2 (mods)

variable (m : (ℓ : Loc nD τ sig) → Buf (Elt Ideal) ℓ) (c : Dev nD)

theorem idx : ∀ t : Fin cfg0.N, win0_0.index t = ![t.val, 0] ∧ win0_1.index t = ![t.val, 0]
    ∧ win0_2.index t = ![1, 0, 0, 0] ∧ win0_3.index t = ![0, 0] ∧ win0_4.index t = ![1, 0, 0]
    ∧ win0_5.index t = ![1, 0, 0] ∧ win0_6.index t = ![1, 0, 0] ∧ win0_7.index t = ![1, 0, 0, 0]
    ∧ win0_8.index t = ![t.val, 0] :=
  (by decide +kernel : ∀ t : Fin grid0.N, _)

variable (t : Fin cfg0.N)

theorem mods_read (i : Fin 6) (k : Fin 1024) :
    mods (iblk m c 2 t) (ix2 i k) = m ((c.tc : Thread nD τ).loc main_arg2) (ix4 1 0 i k) := by
  pointwise [mods]
  blk_ext [iblk, V, idx t]

theorem x_read (e : Fin 512) (p : Fin 8192) (hp : (p : ℕ) = 512 * t + e) (k : Fin 1024) :
    iblk m c 0 t (ix2 e k) = m ((c.tc : Thread nD τ).loc main_arg0) (ix2 p k) := by
  blk_ext [iblk, V, idx t]

theorem a_read (e : Fin 512) (p : Fin 8192) (hp : (p : ℕ) = 512 * t + e) (k : Fin 1024) :
    iblk m c 1 t (ix2 e k) = m ((c.tc : Thread nD τ).loc main_arg1) (ix2 p k) := by
  blk_ext [iblk, V, idx t]

theorem wo_apply (x : FVec Ideal S1x1024x1024 .f32) (k n : Fin 1024) :
    (truncf .bf16 (shapeCast S1024x1024 x shapeCasts_S1x1024x1024_S1024x1024) bitsLt_bf16_f32 : FVec Ideal S1024x1024 .bf16)
      (ix2 k n) = x (ix3 0 k n) := by
  pointwise []

theorem wo_read (k n : Fin 1024) :
    iblk m c 3 t (ix2 k n) = m ((c.tc : Thread nD τ).loc main_arg3) (ix3 0 k n) := by
  unfold iblk
  entry_read
  exact (congrArg _ (show (win0_3.blk t).view.emb (ix2 k n) = ix2 k n by blk_ext [idx t])).trans (wo_apply _ _ _)

theorem wu_read (k : Fin 1024) (n : Fin 5632) :
    iblk m c 4 t (ix3 0 k n) = m ((c.tc : Thread nD τ).loc main_arg4) (ix3 1 k n) := by
  unfold iblk
  entry_read
  exact congrArg (m ((c.tc : Thread nD τ).loc main_arg4))
    (show (win0_4.blk t).view.emb (ix3 0 k n) = ix3 1 k n by blk_ext [idx t])

theorem cw_read (k : Fin 3) (n : Fin 5632) :
    iblk m c 5 t (ix3 0 k n) = m ((c.tc : Thread nD τ).loc main_arg5) (ix3 1 k n) := by
  blk_ext [iblk, V, idx t]

theorem cb_apply (x : FVec Ideal S2x5632 .f32) (l : Fin 2) (n : Fin 5632) :
    broadcastInDim S2x1x5632 ![0, 2] bcast_S2x5632_S2x1x5632_0_2 x (ix3 l 0 n) = x (ix2 l n) := by
  pointwise []

theorem cb_read (n : Fin 5632) :
    iblk m c 6 t (ix3 0 0 n) = m ((c.tc : Thread nD τ).loc main_arg6) (ix2 1 n) := by
  unfold iblk
  entry_read
  exact (congrArg _ (show (win0_6.blk t).view.emb (ix3 0 0 n) = ix3 1 0 n by blk_ext [idx t])).trans (cb_apply _ _ _)

theorem wd_apply (x : FVec Ideal S2x2816x1024 .f32) (l : Fin 2) (n : Fin 2816) (k : Fin 1024) :
    shapeCast S2x11x256x1024 (truncf .bf16 x bitsLt_bf16_f32 : FVec Ideal S2x2816x1024 .bf16)
      shapeCasts_S2x2816x1024_S2x11x256x1024 (ix4 l ⟨n / 256, by omega⟩ ⟨n % 256, by omega⟩ k) = x (ix3 l n k) := by
  pointwise []
  blk_ext []

theorem wd_read (n : Fin 2816) (k : Fin 1024) :
    iblk m c 7 t (ix4 0 ⟨n / 256, by omega⟩ ⟨n % 256, by omega⟩ k) = m ((c.tc : Thread nD τ).loc main_arg7) (ix3 1 n k) := by
  unfold iblk
  entry_read
  exact (congrArg _ (show (win0_7.blk t).view.emb (ix4 0 ⟨n / 256, by omega⟩ ⟨n % 256, by omega⟩ k)
    = ix4 1 ⟨n / 256, by omega⟩ ⟨n % 256, by omega⟩ k by blk_ext [idx t])).trans (wd_apply _ _ _ _)

/-- The residual's row that row `e` of the tile is. -/
theorem row_read (b : Fin 32) (e : Fin 512) (s : Fin 256) (hs : 256 * (b : ℕ) + s = 512 * t + e) (k : Fin 1024) :
    tileRow (mods (iblk m c 2 t)) (iblk m c 0 t) (iblk m c 1 t) (iblk m c 3 t) e k
      = Cert.PostCRef.stream (m ((c.tc : Thread nD τ).loc main_arg0)) (m ((c.tc : Thread nD τ).loc main_arg1))
          (m ((c.tc : Thread nD τ).loc main_arg2)) (m ((c.tc : Thread nD τ).loc main_arg3)) b s k := by
  unfold tileRow Cert.PostCRef.stream
  simp only [mods_read m c t, wo_read, x_read m c t e ⟨256 * b + s, by omega⟩ hs, a_read m c t e ⟨256 * b + s, by omega⟩ hs]

/-- The feed-forward's input at row `e` of the tile. -/
theorem input_read (b : Fin 32) (p : ℕ) (hp : 1 ≤ p ∧ p ≤ 256) (e : Fin 512) (he : 256 * (b : ℕ) + p = 512 * t + e + 1)
    (k : Fin 1024) :
    input (mods (iblk m c 2 t)) (iblk m c 0 t) (iblk m c 1 t) (iblk m c 3 t) (ix2 e k)
      = Cert.PostCRef.inRow (m ((c.tc : Thread nD τ).loc main_arg0)) (m ((c.tc : Thread nD τ).loc main_arg1))
          (m ((c.tc : Thread nD τ).loc main_arg2)) (m ((c.tc : Thread nD τ).loc main_arg3)) b p k := by
  refine (input_apply _ _ _ _ e k).trans ?_
  unfold Cert.PostCRef.inRow padded
  rw [dif_pos hp]
  simp only [mods_read m c t]
  congr 1
  funext l
  exact row_read m c t b e _ (by show 256 * (b : ℕ) + (p - 1) = 512 * t + e; omega) l

/-- What a grid point writes is its rows of the reference's result. -/
theorem point (b : Fin 32) (r : Fin 512) (s : Fin 256) (hs : 256 * (b : ℕ) + s = 512 * t + r) (k : Fin 1024) :
    outsAt0 m c t (ix2 r k)
      = Cert.PostCtxRefIdeal.Read.val_main_v85 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (ix2 ⟨256 * b + s, by omega⟩ k) := by
  have ht : (t : ℕ) < 16 := N_0 ▸ t.isLt
  rw [out_eq, Cert.PostCRef.result_apply]
  refine (result_apply _ _ _ _ _ _ _ r k).trans ?_
  unfold Cert.PostCRef.value
  have e₀ : before (input (mods (iblk m c 2 t)) (iblk m c 0 t) (iblk m c 1 t) (iblk m c 3 t)) r
      = Cert.PostCRef.inRow (m ((c.tc : Thread nD τ).loc main_arg0)) (m ((c.tc : Thread nD τ).loc main_arg1))
          (m ((c.tc : Thread nD τ).loc main_arg2)) (m ((c.tc : Thread nD τ).loc main_arg3)) b s := by
    funext l
    unfold before
    by_cases h : (r : ℕ) % 256 = 0
    · rw [if_neg (by omega)]
      unfold Cert.PostCRef.inRow padded
      rw [dif_neg (by omega)]
    · rw [if_pos h]
      exact input_read m c t b s (by omega) _ (by show 256 * (b : ℕ) + s = 512 * t + (r + 511) % 512 + 1; omega) l
  have e₁ := input_read m c t b (s + 1) (by omega) r (by omega)
  have e₂ : after (input (mods (iblk m c 2 t)) (iblk m c 0 t) (iblk m c 1 t) (iblk m c 3 t)) r
      = Cert.PostCRef.inRow (m ((c.tc : Thread nD τ).loc main_arg0)) (m ((c.tc : Thread nD τ).loc main_arg1))
          (m ((c.tc : Thread nD τ).loc main_arg2)) (m ((c.tc : Thread nD τ).loc main_arg3)) b (s + 2) := by
    funext l
    unfold after
    by_cases h : (r : ℕ) % 256 = 255
    · rw [if_neg (by omega)]
      unfold Cert.PostCRef.inRow padded
      rw [dif_neg (by omega)]
    · rw [if_pos h]
      exact input_read m c t b (s + 2) (by omega) _ (by show 256 * (b : ℕ) + (s + 2) = 512 * t + (r + 1) % 512 + 1; omega) l
  rw [mods_read, own_apply, row_read m c t b r s hs, e₀, e₂]
  simp only [wu_read, cw_read, cb_read, wd_read, e₁]

/-- The final array: the reference's result. -/
theorem final : (dats m 0 c).arrAt 8 cfg0.N
      = Cert.PostCtxRefIdeal.Read.val_main_v85 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) := by
  refine (dats m 0 c).arrAt_eq_of_covers 8 _ (by decide +kernel) fun t _ y => ?_
  blk_simp
  rw [after0_8]
  have ht : (t : ℕ) < 16 := N_0 ▸ t.isLt
  have h₀ : (y 0 : ℕ) < 512 := (y 0).isLt
  have h₁ : (y 1 : ℕ) < 1024 := (y 1).isLt
  have h := point m c t ⟨2 * t + y 0 / 256, by omega⟩ ⟨y 0, h₀⟩ ⟨y 0 % 256, by omega⟩
    (by show 256 * (2 * (t : ℕ) + y 0 / 256) + y 0 % 256 = 512 * t + y 0; omega) ⟨y 1, h₁⟩
  refine Eq.trans ?_ (h.trans ?_)
  · refine congrArg _ ?_
    blk_ext []
  · refine congrArg _ ?_
    blk_ext [idx t]

end Cert.PostC
end
-- ==== Proof.PostCtx.Claim.lean ====
/- The claims of the layer's second half over the context tokens: the runs leave the arguments unchanged, and the kernel's result is the
   reference's. -/
module

public import proofs.«01_k».proof.Defs
public import proofs.«01_k».proof.Proof.Gen.PostCtx.Frame
public import proofs.«01_k».proof.Proof.Gen.PostCtxRefIdeal.Run
public import proofs.«01_k».proof.Proof.PostCtx.Equation
public import Idealize.ShloMosaic.Adequacy
public import Idealize.ShloMosaic.Init

@[expose] public section

noncomputable section

namespace Cert.PostC

open Idealize.ShloMosaic Idealize.SL.Sem

theorem frame_p : Cert.quiescent_PostCtx (hPostCtx := Cert.PostCtx.Gen.facts) :=
  fun m ρ _ => Cert.PostCtx.Gen.frame m ρ

theorem frame_pi : Cert.quiescent_PostCtxIdeal (hPostCtxIdeal := Cert.PostCtxIdeal.Gen.facts) :=
  fun m ρ _ => Cert.PostCtxIdeal.Gen.frame m ρ

theorem frame_ri : Cert.quiescent_PostCtxRefIdeal (hPostCtxRefIdeal := Cert.PostCtxRefIdeal.Gen.facts) := fun m ρ _ =>
  (θ_run Cert.PostCtxRefIdeal.defs _ _).mono
    (fun r h => ⟨fun c => (h c).2, Idealize.ShloMosaic.sem_eq_zero_of_no_sems (by decide) r.2⟩)
    (Cert.PostCtxRefIdeal.Value.run (F := Ideal) m ρ)

theorem algebraic : Cert.algebraic_PostCtxIdeal_PostCtxRefIdeal (hPostCtxIdeal := Cert.PostCtxIdeal.Gen.facts)
    (hPostCtxRefIdeal := Cert.PostCtxRefIdeal.Gen.facts) := by
  intro m ρ m' ρ' _ hagree
  refine ⟨_, Cert.PostCtxIdeal.Value.run_blocks m ρ, ?_⟩
  refine (θ_run Cert.PostCtxRefIdeal.defs _ _).mono (fun _ h c => ⟨(h c).1.trans ?_, (h c).2⟩)
    (Cert.PostCtxRefIdeal.Value.run (F := Ideal) m' ρ')
  obtain ⟨h₀, h₁, h₂, h₃, h₄, h₅, h₆, h₇⟩ := hagree c
  rw [Cert.PostCtxRefIdeal.Read.val_main_v85_eq, h₀, h₁, h₂, h₃, h₄, h₅, h₆, h₇]
  exact (final m c).symm

end Cert.PostC

end
-- ==== Proof.Pre.Spec.lean ====
/-
  The first half of a layer on one row: the projection's groups of 64 columns, each divided by the root of its mean square,
  and the same mean taken as a product with a table of ones-over-64.
-/
module

public import proofs.«01_k».proof.Proof.Post.Spec
public import Idealize.ShloMosaic.Lib.Pipeline.ValueKit

@[expose] public section

noncomputable section

namespace Cert.Pre

open Idealize.ShloMosaic

/-- Column `n` of the projection of a normalised row. -/
def proj {N : ℕ} (sc sh x : Fin 1024 → EReal) (w : Fin 1024 → Fin N → EReal) (n : Fin N) : EReal :=
  ∑ k, Cert.Ffn.normRow sc sh x k * w k n

/-- Column `d` of the group of 64 that column `n` is in. -/
def mate (M : ℕ) {N : ℕ} (h : N = 64 * M) (n : Fin N) (d : Fin 64) : Fin N := ⟨64 * (n / 64) + d, by omega⟩

/-- The mean square of the group of 64 columns that column `n` is in. -/
def headSq (M : ℕ) {N : ℕ} (h : N = 64 * M) (z : Fin N → EReal) (n : Fin N) : EReal :=
  Ideal.div (∑ d, z (mate M h n d) * z (mate M h n d)) (Ideal.ofBits .f32 0x42800000#32)

/-- A column divided by the root of its group's mean square (with the usual small constant). -/
def headNorm (M : ℕ) {N : ℕ} (h : N = 64 * M) (z : Fin N → EReal) (n : Fin N) : EReal :=
  z n * Ideal.rsqrt (headSq M h z n + Ideal.ofBits .f32 0x358637BD#32)

theorem ofBits_64 : Ideal.ofBits .f32 0x42800000#32 = ((64 : ℝ) : EReal) := by
  simp [Ideal.ofBits, Ideal.ieee, -EReal.coe_mul]; norm_num

theorem ofBits_64th : Ideal.ofBits .bf16 0x3C80#16 = (((1 : ℝ) / 64 : ℝ) : EReal) := by
  simp [Ideal.ofBits, Ideal.ieee, -EReal.coe_mul]; norm_num

theorem sq_nonneg (x : EReal) : 0 ≤ x * x := by
  induction x with
  | bot => simp
  | top => simp
  | coe r => exact_mod_cast mul_self_nonneg r

/-- A product with one number passes through a sum of terms that are not negative. -/
theorem sum_mul {n : ℕ} (f : Fin n → EReal) (hf : ∀ i, 0 ≤ f i) (c : EReal) : ∑ i, f i * c = (∑ i, f i) * c := by
  induction n with
  | zero => simp
  | succ n ih =>
    rw [Fin.sum_univ_succ, Fin.sum_univ_succ, ih _ fun i => hf _,
      EReal.right_distrib_of_nonneg (hf 0) (Finset.sum_nonneg fun i _ => hf _)]

/-- The product with the table whose entries are 1/64 within a group of 64 and zero outside is the mean over the group. -/
theorem table_mean (P : ℕ) {L : ℕ} (hL : L = P * 64) (f : Fin L → EReal) (hf : ∀ k, 0 ≤ f k) (tb : Fin L → EReal) (j : Fin L)
    (htb : ∀ k : Fin L, tb k = if (k : ℕ) / 64 = j / 64 then Ideal.ofBits .bf16 0x3C80#16 else 0) :
    ∑ k, f k * tb k
      = Ideal.div (∑ d : Fin 64, f ⟨64 * (j / 64) + d, by omega⟩) (Ideal.ofBits .f32 0x42800000#32) := by
  rw [ofBits_64, Ideal.div_coe (by norm_num), ← sum_mul _ fun d => hf _,
    ← Fin.sum_mul_add_fin P 64 (fun k => f k * tb k) hL,
    Finset.sum_eq_single (⟨j / 64, by omega⟩ : Fin P)]
  · refine Finset.sum_congr rfl fun d _ => ?_
    rw [htb, if_pos (by show (j / 64 * 64 + d : ℕ) / 64 = j / 64; omega), ofBits_64th]
    congr 2
    exact Fin.ext (by show (j / 64 * 64 + d : ℕ) = 64 * (j / 64) + d; omega)
  · intro b _ hb
    refine Finset.sum_eq_zero fun d _ => ?_
    rw [htb, if_neg, mul_zero]
    intro h
    exact hb (Fin.ext (by show (b : ℕ) = j / 64; simp only at h; omega))
  · intro h
    exact absurd (Finset.mem_univ _) h

/-- The normalisation of a stretch of columns starting at a multiple of 64, its means taken by the table. -/
theorem headNorm_table (M : ℕ) {N : ℕ} (h : N = 64 * M) (z : Fin N → EReal) (P : ℕ) {L : ℕ} (hL : L = P * 64) (o : ℕ)
    (hoN : 64 * o + L ≤ N) (tb : Fin L → EReal) (j : Fin L)
    (htb : ∀ k : Fin L, tb k = if (k : ℕ) / 64 = j / 64 then Ideal.ofBits .bf16 0x3C80#16 else 0) :
    z ⟨64 * o + j, by omega⟩ * Ideal.rsqrt ((∑ k : Fin L, z ⟨64 * o + k, by omega⟩ * z ⟨64 * o + k, by omega⟩ * tb k)
        + Ideal.ofBits .f32 0x358637BD#32)
      = headNorm M h z ⟨64 * o + j, by omega⟩ := by
  rw [table_mean P hL (fun k => z ⟨64 * o + k, by omega⟩ * z ⟨64 * o + k, by omega⟩) (fun k => sq_nonneg _) tb j htb]
  unfold headNorm headSq mate
  congr 4
  refine Finset.sum_congr rfl fun d _ => ?_
  have e : 64 * o + (64 * ((j : ℕ) / 64) + d) = 64 * ((64 * o + j) / 64) + d := by omega
  simp only [e]

end Cert.Pre
end
-- ==== Proof.Pre.Gate.lean ====
/-
  The even layer's spatial gate on one token: the smooth unit, the normalisation of its second half, and the mixing of the
  tokens of one chunk of 128.
-/
module

public import proofs.«01_k».proof.Proof.Pre.Spec

@[expose] public section

noncomputable section

namespace Cert.Pre

open Idealize.ShloMosaic

/-- The smooth unit `x · (½ · (1 + tanh (√(2/π) · (x + 0.044715 · x³))))`, its constants as rounded. -/
def smooth (x : EReal) : EReal :=
  x * (Ideal.ofBits .f32 0x3F000000#32
    * (1 + Ideal.tanh (Ideal.ofBits .f32 0x3F4C422A#32 * (x + Ideal.ofBits .f32 0x3D372713#32 * (x * x * x)))))

/-- The smooth unit with its half taken into the other factor. -/
theorem smooth_eq (x : EReal) : Ideal.ofBits .f32 0x3F000000#32 * x
      * (1 + Ideal.tanh (Ideal.ofBits .f32 0x3F4C422A#32 * (x + Ideal.ofBits .f32 0x3D372713#32 * (x * x * x))))
    = smooth x := by
  unfold smooth
  rw [mul_comm (Ideal.ofBits .f32 0x3F000000#32) x, mul_assoc]

/-- 512 columns through the smooth unit, divided by the root of their mean square and times a gain. -/
def smoothNorm (v g : Fin 512 → EReal) (n : Fin 512) : EReal :=
  smooth (v n) * Ideal.rsqrt (Ideal.div (∑ l, smooth (v l) * smooth (v l)) (Ideal.ofBits .f32 0x44000000#32)
    + Ideal.ofBits .f32 0x358637BD#32) * g n

/-- A token's gate: its own unit times the mixed units of its chunk and a bias. -/
def mixGate (u b : EReal) (ws vn : Fin 128 → EReal) : EReal := u * ((∑ q, ws q * vn q) + b)

end Cert.Pre
end
-- ==== Proof.PreEven.Rows.lean ====
/-
  What the body of the even layer's projections computes, read at an index: the projections, the normalised queries and keys,
  and the two halves of the gate.
-/
module

public import proofs.«01_k».proof.Proof.Gen.PreEvenIdeal.Frame
public import proofs.«01_k».proof.Proof.Pre.Gate

@[expose] public section

set_option maxRecDepth 16384

noncomputable section

namespace Cert.PreE

open Cert.PreEvenIdeal Cert.PreEvenIdeal.Gen Idealize.ShloMosaic Idealize.ShloMosaic.TcCoe Idealize.SL.Sem Cert.Pre

/-- Row `r` of a tile projected, from the block's modulation, rows and weight. -/
def row (md : FVec Ideal S1x1x6x1024 .f32) (x : FVec Ideal S1024x1024 .f32) (w : FVec Ideal S1024x1792 .bf16)
    (r : Fin 1024) : Fin 1792 → EReal :=
  proj (fun k => md (ix4 0 0 1 k)) (fun k => md (ix4 0 0 0 k)) (fun k => x (ix2 r k)) (fun k n => w (ix2 k n))

/-- The table holds 1/64 within a group of 64 and zero outside. -/
def IsTable (tb : FVec Ideal S256x256 .bf16) : Prop :=
  ∀ k j : Fin 256, tb (ix2 k j) = if (k : ℕ) / 64 = j / 64 then Ideal.ofBits .bf16 0x3C80#16 else 0

variable (md : FVec Ideal S1x1x6x1024 .f32) (x : FVec Ideal S1024x1024 .f32) (w : FVec Ideal S1024x1792 .bf16)
  (tb : FVec Ideal S256x256 .bf16) (z : FVec Ideal S1024x1792 .f32) (r : Fin 1024)

theorem tile_proj (n : Fin 1792) : k0_pay2 (F := Ideal) md x w (ix2 r n) = row md x w r n := by
  pointwise [k0_pay2]
  rfl

theorem tile_v (c : Fin 128) : k0_pay3 (F := Ideal) md x w (ix2 r c) = row md x w r ⟨640 + c, by omega⟩ := by
  rw [← tile_proj]
  pointwise [k0_pay3]

theorem tile_k (hT : IsTable tb) (g : FVec Ideal S1x128 .f32) (c : Fin 128) :
    k0_pay8 (F := Ideal) tb z g (ix2 r c)
      = headNorm 28 rfl (fun n => z (ix2 r n)) ⟨512 + c, by omega⟩ * g (ix2 0 c) := by
  have h := headNorm_table 28 rfl (fun n => z (ix2 r n)) 2 rfl 8 (by omega)
    (fun k : Fin 128 => tb (ix2 ⟨k, by omega⟩ ⟨c, by omega⟩)) c fun k => hT _ _
  refine Eq.trans ?_ (congrArg (· * (g (ix2 0 c) : EReal)) h)
  pointwise [k0_pay8]

theorem tile_q (hT : IsTable tb) (g : FVec Ideal S1x512 .f32) (a : Fin 2) (c : Fin 256) :
    k0_pay9 (F := Ideal) (k0_pay5 md tb x w) (k0_pay6 md x w) (k0_pay7 md tb x w)
        (Scalar.ofBits .f32 0x358637BD#32) g (ix2 r ⟨256 * a + c, by omega⟩)
      = headNorm 28 rfl (fun n => k0_pay2 (F := Ideal) md x w (ix2 r n)) ⟨256 * a + c, by omega⟩ * g (ix2 0 ⟨256 * a + c, by omega⟩) := by
  have h := headNorm_table 28 rfl (fun n => k0_pay2 (F := Ideal) md x w (ix2 r n)) 4 rfl (4 * a) (by omega)
    (fun k : Fin 256 => tb (ix2 k c)) c fun k => hT k c
  have e : ∀ n : ℕ, 64 * (4 * (a : ℕ)) + n = 256 * a + n := fun n => by omega
  simp only [e] at h
  rw [← h]
  generalize hz : k0_pay2 (F := Ideal) md x w = z
  pointwise [k0_pay9, k0_pay4, k0_pay5, k0_pay6, k0_pay7, hz]
  refine Ideal.mul_congr ?_ rfl
  obtain ha | ha : (a : ℕ) = 0 ∨ (a : ℕ) = 1 := by omega
  · rw [dif_pos (by omega)]
    simp only [ha, Nat.mul_zero, Nat.zero_add]
  · rw [dif_neg (by omega)]
    simp only [ha, Nat.mul_one, Nat.add_sub_cancel_left]

theorem tile_u (n : Fin 512) :
    k0_pay23 (F := Ideal) (k0_pay21 z) (k0_pay22 z) (ix2 r n) = smooth (z (ix2 r ⟨768 + n, by omega⟩)) := by
  rw [← smooth_eq]
  pointwise [k0_pay23, k0_pay21, k0_pay22, k0_pay20]

theorem tile_vn (g : FVec Ideal S1x512 .f32) (n : Fin 512) :
    k0_pay24 (F := Ideal) z g (ix2 r n)
      = smoothNorm (fun l => z (ix2 r ⟨1280 + l, by omega⟩)) (fun l => g (ix2 0 l)) n := by
  unfold smoothNorm
  simp only [← smooth_eq]
  pointwise [k0_pay24]

/-- One sequence of a tile's columns, transposed. -/
theorem turned (o : ℕ) (ho : o + 256 ≤ 1024) (y : FVec Ideal S1024x128 .f32) (c : Fin 128) (s : Fin 256)
    (h : S1024x128.Slices ![o, 0] S256x128) :
    shapeCast S1x128x256 (transpose S128x256 [1, 0] (extractStridedSlice S256x128 ![o, 0] y h)
      transposes_S256x128_p1_0_S128x256) shapeCasts_S128x256_S1x128x256 (ix3 0 c s) = y (ix2 ⟨o + s, by omega⟩ c) := by
  pointwise []

/-- Eight chunks side by side, times the mixing matrix: at a chunk's own columns the product is the chunk's. -/
theorem mixed (o : ℕ) (ho : o + 128 ≤ 512) (ws : FVec Ideal S128x128 .bf16) (v : FVec Ideal S1024x512 .bf16)
    (h₀ : S1024x512.Slices ![0, o] S128x128) (h₁ : S1024x512.Slices ![128, o] S128x128)
    (h₂ : S1024x512.Slices ![256, o] S128x128) (h₃ : S1024x512.Slices ![384, o] S128x128)
    (h₄ : S1024x512.Slices ![512, o] S128x128) (h₅ : S1024x512.Slices ![640, o] S128x128)
    (h₆ : S1024x512.Slices ![768, o] S128x128) (h₇ : S1024x512.Slices ![896, o] S128x128) (a : Fin 8) (p c : Fin 128) :
    matmul dot_S128x128_S128x1024_S128x1024_1_0_0_1_n_n none ws
        (concatenate S128x1024 1 [⟨S128x128, extractStridedSlice S128x128 ![0, o] v h₀⟩,
          ⟨S128x128, extractStridedSlice S128x128 ![128, o] v h₁⟩, ⟨S128x128, extractStridedSlice S128x128 ![256, o] v h₂⟩,
          ⟨S128x128, extractStridedSlice S128x128 ![384, o] v h₃⟩, ⟨S128x128, extractStridedSlice S128x128 ![512, o] v h₄⟩,
          ⟨S128x128, extractStridedSlice S128x128 ![640, o] v h₅⟩, ⟨S128x128, extractStridedSlice S128x128 ![768, o] v h₆⟩,
          ⟨S128x128, extractStridedSlice S128x128 ![896, o] v h₇⟩]
          concatenates_S128x128_S128x128_S128x128_S128x128_S128x128_S128x128_S128x128_S128x128_S128x1024_d1)
        (constant S128x1024 .f32 0x00000000#32) (ix2 p ⟨128 * a + c, by omega⟩)
      = ∑ q : Fin 128, ws (ix2 p q) * v (ix2 ⟨128 * a + q, by omega⟩ ⟨o + c, by omega⟩) := by
  pointwise []
  refine Finset.sum_congr rfl fun q _ => Ideal.mul_congr rfl ?_
  obtain ha | ha | ha | ha | ha | ha | ha | ha : (a : ℕ) = 0 ∨ (a : ℕ) = 1 ∨ (a : ℕ) = 2 ∨ (a : ℕ) = 3 ∨ (a : ℕ) = 4
      ∨ (a : ℕ) = 5 ∨ (a : ℕ) = 6 ∨ (a : ℕ) = 7 := by omega
  · rw [dif_pos (by omega)]
    blk_ext [ha]
  · rw [dif_neg (by omega), dif_pos (by omega)]
    blk_ext [ha]
  · iterate 2 rw [dif_neg (by omega)]
    rw [dif_pos (by omega)]
    blk_ext [ha]
  · iterate 3 rw [dif_neg (by omega)]
    rw [dif_pos (by omega)]
    blk_ext [ha]
  · iterate 4 rw [dif_neg (by omega)]
    rw [dif_pos (by omega)]
    blk_ext [ha]
  · iterate 5 rw [dif_neg (by omega)]
    rw [dif_pos (by omega)]
    blk_ext [ha]
  · iterate 6 rw [dif_neg (by omega)]
    rw [dif_pos (by omega)]
    blk_ext [ha]
  · iterate 7 rw [dif_neg (by omega)]
    blk_ext [ha]

/-- One chunk's gate, from the two halves, the mixed chunks and the bias. -/
theorem cell (a o : ℕ) (ha : a + 128 ≤ 1024) (ho : o + 128 ≤ 512) (u : FVec Ideal S1024x512 .f32) (M : FVec Ideal S128x1024 .f32)
    (b : FVec Ideal S1x128x128 .f32) (h₁ : S1024x512.Slices ![a, o] S128x128) (h₂ : S128x1024.Slices ![0, a] S128x128)
    (p c : Fin 128) :
    (truncf .bf16 (mulf (extractStridedSlice S128x128 ![a, o] u h₁) (addf (extractStridedSlice S128x128 ![0, a] M h₂)
        (shapeCast S128x128 b shapeCasts_S1x128x128_S128x128))) bitsLt_bf16_f32 : FVec Ideal S128x128 .bf16) (ix2 p c)
      = u (ix2 ⟨a + p, by omega⟩ ⟨o + c, by omega⟩) * (M (ix2 p ⟨a + c, by omega⟩) + b (ix3 0 p c)) := by
  pointwise []

end Cert.PreE
end
-- ==== Proof.PreEven.Tiles.lean ====
/-
  What a grid point of the even layer's projections leaves in its five results' buffers, read at an index.
-/
module

public import proofs.«01_k».proof.Proof.PreEven.Rows

@[expose] public section

set_option maxRecDepth 16384

noncomputable section

namespace Cert.PreE

open Cert.PreEvenIdeal Cert.PreEvenIdeal.Gen Idealize.ShloMosaic Idealize.ShloMosaic.TcCoe Idealize.SL.Sem Cert.Pre

section blocks

variable (x0 : Vec Ideal S1024x1024 .f32) (x1 : Vec Ideal S1x1x6x1024 .f32) (x2 : Vec Ideal S1024x1792 .bf16)
  (x3 : Vec Ideal S256x256 .bf16) (x4 : Vec Ideal S1x512 .f32) (x5 : Vec Ideal S1x128 .f32) (x6 : Vec Ideal S1x512 .f32)
  (x7 : Vec Ideal S4x128x128 .bf16) (x8 : Vec Ideal S4x128x128 .f32)

theorem ld_rows : View.ld x0 r0_2 = x0 :=
  View.ld_unit_zero (by funext a; fin_cases a <;> rfl) _ _
theorem ld_md : View.ld x1 r0_0 = x1 :=
  View.ld_unit_zero (by funext a; fin_cases a <;> rfl) _ _
theorem ld_weight : View.ld x2 r0_3 = x2 :=
  View.ld_unit_zero (by funext a; fin_cases a <;> rfl) _ _
theorem ld_table : View.ld x3 r0_1 = x3 :=
  View.ld_unit_zero (by funext a; fin_cases a <;> rfl) _ _
theorem ld_gain : View.ld x4 r0_4 = x4 :=
  View.ld_unit_zero (by funext a; fin_cases a <;> rfl) _ _
theorem ld_kgain : View.ld x5 r0_5 = x5 :=
  View.ld_unit_zero (by funext a; fin_cases a <;> rfl) _ _

theorem proj_out (r : Fin 1024) (n : Fin 1792) : k0_pay76 (F := Ideal) x0 x1 x2 x3 x4 x5 x6 x7 x8 (ix2 r n) = row x1 x0 x2 r n := by
  unfold k0_pay76
  rw [ld_rows, ld_md, ld_weight]
  exact tile_proj x1 x0 x2 r n

/-- The keys and the values of row `r` of a tile. -/
def kAt (r : Fin 1024) (c : Fin 128) : EReal := headNorm 28 rfl (row x1 x0 x2 r) ⟨512 + c, by omega⟩ * x5 (ix2 0 c)
@[inherit_doc kAt]
def vAt (r : Fin 1024) (c : Fin 128) : EReal := row x1 x0 x2 r ⟨640 + c, by omega⟩

theorem key_out (hT : IsTable x3) (r : Fin 1024) (c : Fin 128) :
    k0_pay8 (F := Ideal) (View.ld x3 r0_1) (k0_pay76 x0 x1 x2 x3 x4 x5 x6 x7 x8) (View.ld x5 r0_5) (ix2 r c) = kAt x0 x1 x2 x5 r c := by
  rw [ld_table, ld_kgain]
  refine (tile_k x3 _ r hT x5 c).trans ?_
  unfold kAt
  simp only [proj_out]

theorem value_out (r : Fin 1024) (c : Fin 128) : k0_pay77 (F := Ideal) x0 x1 x2 x3 x4 x5 x6 x7 x8 (ix2 r c) = vAt x0 x1 x2 r c := by
  unfold k0_pay77
  rw [ld_rows, ld_md, ld_weight]
  exact tile_v x1 x0 x2 r c

theorem whole_q (z : FVec Ideal S1024x512 .bf16) : View.canon (Val := Elt Ideal) (e := .bf16) [⟨r0_6, z⟩] = z :=
  View.canon_unit_zero (by funext a; fin_cases a <;> rfl) _ _
theorem whole_k (z : FVec Ideal S1024x128 .bf16) : View.canon (Val := Elt Ideal) (e := .bf16) [⟨r0_7, z⟩] = z :=
  View.canon_unit_zero (by funext a; fin_cases a <;> rfl) _ _

theorem out_q (hT : IsTable x3) (r : Fin 1024) (n : Fin 512) : out0_9 (F := Ideal) x0 x1 x2 x3 x4 x5 x6 x7 x8 (ix2 r n)
      = headNorm 28 rfl (row x1 x0 x2 r) ⟨n, by omega⟩ * x4 (ix2 0 n) := by
  unfold out0_9
  rw [whole_q, ld_rows, ld_md, ld_weight, ld_table, ld_gain]
  obtain ⟨a, c, rfl⟩ : ∃ (a : Fin 2) (c : Fin 256), n = ⟨256 * a + c, by omega⟩ :=
    ⟨⟨n / 256, by omega⟩, ⟨n % 256, by omega⟩, Fin.ext (Nat.div_add_mod _ _).symm⟩
  refine (tile_q x1 x0 x2 x3 r hT x4 a c).trans ?_
  simp only [tile_proj]

theorem out_k (hT : IsTable x3) (r : Fin 1024) (c : Fin 128) :
    out0_10 (F := Ideal) x0 x1 x2 x3 x4 x5 x6 x7 x8 (ix2 r c) = kAt x0 x1 x2 x5 r c := by
  unfold out0_10
  rw [whole_k]
  exact key_out x0 x1 x2 x3 x4 x5 x6 x7 x8 hT r c

/-- A buffer of four sequences filled by four stores. -/
theorem four (p : Fin 4 → FVec Ideal S1x128x256 .f32) (G : Fin 4 → Fin 128 → Fin 256 → EReal)
    (hG : ∀ b c s, p b (ix3 0 c s) = G b c s) (b : Fin 4) (c : Fin 128) (s : Fin 256) :
    View.canon (Val := Elt Ideal) (e := .f32) [⟨r0_11, p 3⟩, ⟨r0_10, p 2⟩, ⟨r0_9, p 1⟩, ⟨r0_8, p 0⟩] (ix3 b c s) = G b c s := by
  have one : ∀ (n : Fin 4) (inb : ∀ a : Fin 3, (![(n : ℕ), 0, 0] : Fin 3 → ℕ) a + S1x128x256.size a ≤ S4x128x256.size a)
      (y : S1x128x256.Idx), p n y = (fun y : S4x128x256.Idx => G (y 0) (y 1) (y 2))
        ((Rect.unit (s := S4x128x256) ![(n : ℕ), 0, 0] S1x128x256.size inb).emb y) := fun n inb y => by
    obtain ⟨u, c, s, rfl⟩ : ∃ (u : Fin 1) (c : Fin 128) (s : Fin 256), y = ix3 u c s :=
      ⟨y 0, y 1, y 2, by funext a; fin_cases a <;> rfl⟩
    have hu : u = 0 := Subsingleton.elim _ _
    subst hu
    have h₀ : (⟨n + 1 * 0, by omega⟩ : Fin 4) = n := Fin.ext (by show (n : ℕ) + 1 * 0 = n; omega)
    have h₁ : (⟨0 + 1 * c, by omega⟩ : Fin 128) = c := Fin.ext (by show 0 + 1 * (c : ℕ) = c; omega)
    have h₂ : (⟨0 + 1 * s, by omega⟩ : Fin 256) = s := Fin.ext (by show 0 + 1 * (s : ℕ) = s; omega)
    rw [hG]
    show _ = G ⟨n + 1 * 0, _⟩ ⟨0 + 1 * c, _⟩ ⟨0 + 1 * s, _⟩
    rw [h₀, h₁, h₂]
  refine View.canon_apply_of_pieces (Val := Elt Ideal) (e := .f32) (fun y : S4x128x256.Idx => G (y 0) (y 1) (y 2)) _ ?_
    (ix3 b c s) (cover0_12 _ _ _ _ _)
  exact List.forall_mem_cons.2 ⟨one 3 inb_S4x128x256_S1x128x256_3_0_0, List.forall_mem_cons.2 ⟨one 2 inb_S4x128x256_S1x128x256_2_0_0, List.forall_mem_cons.2 ⟨one 1 inb_S4x128x256_S1x128x256_1_0_0,
    List.forall_mem_cons.2 ⟨one 0 inb_S4x128x256_S1x128x256_0_0_0, List.forall_mem_nil _⟩⟩⟩⟩

theorem out_kf (hT : IsTable x3) (b : Fin 4) (c : Fin 128) (s : Fin 256) :
    out0_12 (F := Ideal) x0 x1 x2 x3 x4 x5 x6 x7 x8 (ix3 b c s) = kAt x0 x1 x2 x5 ⟨256 * b + s, by omega⟩ c := by
  unfold out0_12
  refine four ![k0_pay11 (View.ld x3 r0_1) (k0_pay76 x0 x1 x2 x3 x4 x5 x6 x7 x8) (View.ld x5 r0_5),
    k0_pay14 (k0_pay13 (View.ld x3 r0_1) (k0_pay76 x0 x1 x2 x3 x4 x5 x6 x7 x8) (View.ld x5 r0_5)),
    k0_pay16 (k0_pay78 x0 x1 x2 x3 x4 x5 x6 x7 x8), k0_pay18 (k0_pay78 x0 x1 x2 x3 x4 x5 x6 x7 x8)]
    (fun b c s => kAt x0 x1 x2 x5 ⟨256 * b + s, by omega⟩ c) (fun b c s => ?_) b c s
  match b with
  | 0 => exact (turned 0 (by omega) _ c s slices_S1024x128_o0_0_S256x128).trans ((key_out x0 x1 x2 x3 x4 x5 x6 x7 x8 hT _ c).trans (by simp))
  | 1 => exact (turned 256 (by omega) _ c s slices_S1024x128_o256_0_S256x128).trans (key_out x0 x1 x2 x3 x4 x5 x6 x7 x8 hT _ c)
  | 2 => exact (turned 512 (by omega) _ c s slices_S1024x128_o512_0_S256x128).trans (key_out x0 x1 x2 x3 x4 x5 x6 x7 x8 hT _ c)
  | 3 => exact (turned 768 (by omega) _ c s slices_S1024x128_o768_0_S256x128).trans (key_out x0 x1 x2 x3 x4 x5 x6 x7 x8 hT _ c)

theorem out_vf (b : Fin 4) (c : Fin 128) (s : Fin 256) :
    out0_13 (F := Ideal) x0 x1 x2 x3 x4 x5 x6 x7 x8 (ix3 b c s) = vAt x0 x1 x2 ⟨256 * b + s, by omega⟩ c := by
  unfold out0_13
  refine four ![k0_pay12 (k0_pay77 x0 x1 x2 x3 x4 x5 x6 x7 x8), k0_pay15 (k0_pay77 x0 x1 x2 x3 x4 x5 x6 x7 x8), k0_pay17 (k0_pay77 x0 x1 x2 x3 x4 x5 x6 x7 x8), k0_pay19 (k0_pay77 x0 x1 x2 x3 x4 x5 x6 x7 x8)]
    (fun b c s => vAt x0 x1 x2 ⟨256 * b + s, by omega⟩ c) (fun b c s => ?_) b c s
  match b with
  | 0 => exact (turned 0 (by omega) _ c s slices_S1024x128_o0_0_S256x128).trans ((value_out x0 x1 x2 x3 x4 x5 x6 x7 x8 _ c).trans (by simp))
  | 1 => exact (turned 256 (by omega) _ c s slices_S1024x128_o256_0_S256x128).trans (value_out x0 x1 x2 x3 x4 x5 x6 x7 x8 _ c)
  | 2 => exact (turned 512 (by omega) _ c s slices_S1024x128_o512_0_S256x128).trans (value_out x0 x1 x2 x3 x4 x5 x6 x7 x8 _ c)
  | 3 => exact (turned 768 (by omega) _ c s slices_S1024x128_o768_0_S256x128).trans (value_out x0 x1 x2 x3 x4 x5 x6 x7 x8 _ c)

end blocks

end Cert.PreE
end
-- ==== Proof.PreEven.Mix.lean ====
/-
  The gate that a grid point of the even layer's projections leaves, read at an index: 32 stores, one for each chunk of 128 tokens
  and each group of 128 columns.
-/
module

public import proofs.«01_k».proof.Proof.PreEven.Tiles

@[expose] public section

set_option maxRecDepth 16384

noncomputable section

namespace Cert.PreE

open Cert.PreEvenIdeal Cert.PreEvenIdeal.Gen Idealize.ShloMosaic Idealize.ShloMosaic.TcCoe Idealize.SL.Sem Cert.Pre

/-- The gate at row `128 · a + p` and column `128 · g + c`, from the two halves of the tile. -/
def gateAt (u : FVec Ideal S1024x512 .f32) (v : FVec Ideal S1024x512 .bf16) (ws : FVec Ideal S4x128x128 .bf16)
    (bs : FVec Ideal S4x128x128 .f32) (a : Fin 8) (p : Fin 128) (g : Fin 4) (c : Fin 128) : EReal :=
  mixGate (u (ix2 ⟨128 * a + p, by omega⟩ ⟨128 * g + c, by omega⟩)) (bs (ix3 g p c)) (fun q => ws (ix3 g p q))
    (fun q => v (ix2 ⟨128 * a + q, by omega⟩ ⟨128 * g + c, by omega⟩))

/-- The chunks of the group `g`, mixed. -/
def Mixed (v : FVec Ideal S1024x512 .bf16) (ws : FVec Ideal S4x128x128 .bf16) (g : Fin 4) (M : FVec Ideal S128x1024 .f32) : Prop :=
  ∀ (a : Fin 8) (p c : Fin 128), M (ix2 p ⟨128 * a + c, by omega⟩)
    = ∑ q : Fin 128, ws (ix3 g p q) * v (ix2 ⟨128 * a + q, by omega⟩ ⟨128 * g + c, by omega⟩)

section pieces

variable (u : FVec Ideal S1024x512 .f32) (v : FVec Ideal S1024x512 .bf16) (ws : FVec Ideal S4x128x128 .bf16)
  (bs : FVec Ideal S4x128x128 .f32)

/-- The gate of a tile as a function of the index. -/
def gateTile : S1024x512.Idx → EReal := fun y =>
  gateAt u v ws bs ⟨(y 0).val / 128, by have h : (y 0).val < 1024 := (y 0).isLt; omega⟩ ⟨(y 0).val % 128, by omega⟩
    ⟨(y 1).val / 128, by have h : (y 1).val < 512 := (y 1).isLt; omega⟩ ⟨(y 1).val % 128, by omega⟩

theorem gateTile_apply (a : Fin 8) (p : Fin 128) (g : Fin 4) (c : Fin 128) (y : S1024x512.Idx)
    (h₀ : (y 0).val = 128 * a + p) (h₁ : (y 1).val = 128 * g + c) : gateTile u v ws bs y = gateAt u v ws bs a p g c := by
  have e₀ : (⟨(y 0).val / 128, by have h : (y 0).val < 1024 := (y 0).isLt; omega⟩ : Fin 8) = a := Fin.ext (by show (y 0).val / 128 = a; omega)
  have e₁ : (⟨(y 0).val % 128, by omega⟩ : Fin 128) = p := Fin.ext (by show (y 0).val % 128 = p; omega)
  have e₂ : (⟨(y 1).val / 128, by have h : (y 1).val < 512 := (y 1).isLt; omega⟩ : Fin 4) = g := Fin.ext (by show (y 1).val / 128 = g; omega)
  have e₃ : (⟨(y 1).val % 128, by omega⟩ : Fin 128) = c := Fin.ext (by show (y 1).val % 128 = c; omega)
  unfold gateTile
  rw [e₀, e₁, e₂, e₃]

/-- One store's contents are the gate at the store's place. -/
theorem piece (a : Fin 8) (g : Fin 4) (A O : ℕ) (hA : A = 128 * a) (hO : O = 128 * g)
    (h₁ : S1024x512.Slices ![A, O] S128x128) (h₂ : S128x1024.Slices ![0, A] S128x128)
    (inb : ∀ i : Fin 2, (![A, O] : Fin 2 → ℕ) i + S128x128.size i ≤ S1024x512.size i)
    (M : FVec Ideal S128x1024 .f32) (hM : Mixed v ws g M) (b : FVec Ideal S1x128x128 .f32)
    (hb : ∀ p c : Fin 128, b (ix3 0 p c) = bs (ix3 g p c)) (y : S128x128.Idx) :
    (truncf .bf16 (mulf (extractStridedSlice S128x128 ![A, O] u h₁) (addf (extractStridedSlice S128x128 ![0, A] M h₂)
        (shapeCast S128x128 b shapeCasts_S1x128x128_S128x128))) bitsLt_bf16_f32 : FVec Ideal S128x128 .bf16) y
      = gateTile u v ws bs ((Rect.unit (s := S1024x512) ![A, O] S128x128.size inb).emb y) := by
  subst hA hO
  obtain ⟨p, c, rfl⟩ : ∃ (p c : Fin 128), y = ix2 p c := ⟨y 0, y 1, by funext i; fin_cases i <;> rfl⟩
  rw [gateTile_apply u v ws bs a p g c _ (by show 128 * (a : ℕ) + 1 * p = _; omega) (by show 128 * (g : ℕ) + 1 * c = _; omega)]
  refine (cell _ _ (by omega) (by omega) u M b h₁ h₂ p c).trans ?_
  unfold gateAt mixGate
  rw [hM, hb]

end pieces

section blocks

variable (x0 : Vec Ideal S1024x1024 .f32) (x1 : Vec Ideal S1x1x6x1024 .f32) (x2 : Vec Ideal S1024x1792 .bf16)
  (x3 : Vec Ideal S256x256 .bf16) (x4 : Vec Ideal S1x512 .f32) (x5 : Vec Ideal S1x128 .f32) (x6 : Vec Ideal S1x512 .f32)
  (x7 : Vec Ideal S4x128x128 .bf16) (x8 : Vec Ideal S4x128x128 .f32)

theorem bias_0 (p c : Fin 128) : (View.ld x8 r0_12 : Vec Ideal S1x128x128 .f32) (ix3 0 p c) = x8 (ix3 0 p c) := by pointwise []
theorem bias_1 (p c : Fin 128) : (View.ld x8 r0_21 : Vec Ideal S1x128x128 .f32) (ix3 0 p c) = x8 (ix3 1 p c) := by pointwise []
theorem bias_2 (p c : Fin 128) : (View.ld x8 r0_30 : Vec Ideal S1x128x128 .f32) (ix3 0 p c) = x8 (ix3 2 p c) := by pointwise []
theorem bias_3 (p c : Fin 128) : (View.ld x8 r0_39 : Vec Ideal S1x128x128 .f32) (ix3 0 p c) = x8 (ix3 3 p c) := by pointwise []

theorem matrix_0 (p q : Fin 128) : (shapeCast S128x128 (View.ld x7 r0_12 : Vec Ideal S1x128x128 .bf16)
    shapeCasts_S1x128x128_S128x128 : Vec Ideal S128x128 .bf16) (ix2 p q) = x7 (ix3 0 p q) := by pointwise []
theorem matrix_1 (p q : Fin 128) : (shapeCast S128x128 (View.ld x7 r0_21 : Vec Ideal S1x128x128 .bf16)
    shapeCasts_S1x128x128_S128x128 : Vec Ideal S128x128 .bf16) (ix2 p q) = x7 (ix3 1 p q) := by pointwise []
theorem matrix_2 (p q : Fin 128) : (shapeCast S128x128 (View.ld x7 r0_30 : Vec Ideal S1x128x128 .bf16)
    shapeCasts_S1x128x128_S128x128 : Vec Ideal S128x128 .bf16) (ix2 p q) = x7 (ix3 2 p q) := by pointwise []
theorem matrix_3 (p q : Fin 128) : (shapeCast S128x128 (View.ld x7 r0_39 : Vec Ideal S1x128x128 .bf16)
    shapeCasts_S1x128x128_S128x128 : Vec Ideal S128x128 .bf16) (ix2 p q) = x7 (ix3 3 p q) := by pointwise []

theorem mix_0 : Mixed (k0_pay80 (F := Ideal) x0 x1 x2 x3 x4 x5 x6 x7 x8) x7 0 (k0_pay83 (F := Ideal) x0 x1 x2 x3 x4 x5 x6 x7 x8) := fun a p c => by
  refine (mixed 0 (by omega) _ (k0_pay80 (F := Ideal) x0 x1 x2 x3 x4 x5 x6 x7 x8) slices_S1024x512_o0_0_S128x128 slices_S1024x512_o128_0_S128x128 slices_S1024x512_o256_0_S128x128 slices_S1024x512_o384_0_S128x128 slices_S1024x512_o512_0_S128x128 slices_S1024x512_o640_0_S128x128 slices_S1024x512_o768_0_S128x128 slices_S1024x512_o896_0_S128x128 a p c).trans ?_
  refine Finset.sum_congr rfl fun q _ => Ideal.mul_congr (matrix_0 x7 p q) ?_
  simp

theorem mix_1 : Mixed (k0_pay80 (F := Ideal) x0 x1 x2 x3 x4 x5 x6 x7 x8) x7 1 (k0_pay90 (F := Ideal) x0 x1 x2 x3 x4 x5 x6 x7 x8) := fun a p c => by
  refine (mixed 128 (by omega) _ (k0_pay80 (F := Ideal) x0 x1 x2 x3 x4 x5 x6 x7 x8) slices_S1024x512_o0_128_S128x128 slices_S1024x512_o128_128_S128x128 slices_S1024x512_o256_128_S128x128 slices_S1024x512_o384_128_S128x128 slices_S1024x512_o512_128_S128x128 slices_S1024x512_o640_128_S128x128 slices_S1024x512_o768_128_S128x128 slices_S1024x512_o896_128_S128x128 a p c).trans ?_
  refine Finset.sum_congr rfl fun q _ => Ideal.mul_congr (matrix_1 x7 p q) ?_
  rfl

theorem mix_2 : Mixed (k0_pay80 (F := Ideal) x0 x1 x2 x3 x4 x5 x6 x7 x8) x7 2 (k0_pay91 (F := Ideal) x0 x1 x2 x3 x4 x5 x6 x7 x8) := fun a p c => by
  refine (mixed 256 (by omega) _ (k0_pay80 (F := Ideal) x0 x1 x2 x3 x4 x5 x6 x7 x8) slices_S1024x512_o0_256_S128x128 slices_S1024x512_o128_256_S128x128 slices_S1024x512_o256_256_S128x128 slices_S1024x512_o384_256_S128x128 slices_S1024x512_o512_256_S128x128 slices_S1024x512_o640_256_S128x128 slices_S1024x512_o768_256_S128x128 slices_S1024x512_o896_256_S128x128 a p c).trans ?_
  refine Finset.sum_congr rfl fun q _ => Ideal.mul_congr (matrix_2 x7 p q) ?_
  rfl

theorem mix_3 : Mixed (k0_pay80 (F := Ideal) x0 x1 x2 x3 x4 x5 x6 x7 x8) x7 3 (k0_pay92 (F := Ideal) x0 x1 x2 x3 x4 x5 x6 x7 x8) := fun a p c => by
  refine (mixed 384 (by omega) _ (k0_pay80 (F := Ideal) x0 x1 x2 x3 x4 x5 x6 x7 x8) slices_S1024x512_o0_384_S128x128 slices_S1024x512_o128_384_S128x128 slices_S1024x512_o256_384_S128x128 slices_S1024x512_o384_384_S128x128 slices_S1024x512_o512_384_S128x128 slices_S1024x512_o640_384_S128x128 slices_S1024x512_o768_384_S128x128 slices_S1024x512_o896_384_S128x128 a p c).trans ?_
  refine Finset.sum_congr rfl fun q _ => Ideal.mul_congr (matrix_3 x7 p q) ?_
  rfl

theorem out_tile (y : S1024x512.Idx) : out0_11 (F := Ideal) x0 x1 x2 x3 x4 x5 x6 x7 x8 y
      = gateTile (k0_pay79 (F := Ideal) x0 x1 x2 x3 x4 x5 x6 x7 x8) (k0_pay80 (F := Ideal) x0 x1 x2 x3 x4 x5 x6 x7 x8) x7 x8 y := by
  unfold out0_11
  refine View.canon_apply_of_pieces (Val := Elt Ideal) (e := .bf16)
    (gateTile (k0_pay79 (F := Ideal) x0 x1 x2 x3 x4 x5 x6 x7 x8) (k0_pay80 (F := Ideal) x0 x1 x2 x3 x4 x5 x6 x7 x8) x7 x8) _ ?_ y
    (cover0_11 _ _ _ _ _ _ _ _ _ _ _ _ _ _ _ _ _ _ _ _ _ _ _ _ _ _ _ _ _ _ _ _ _)
  exact
    List.forall_mem_cons.2 ⟨piece (k0_pay79 (F := Ideal) x0 x1 x2 x3 x4 x5 x6 x7 x8) (k0_pay80 (F := Ideal) x0 x1 x2 x3 x4 x5 x6 x7 x8) x7 x8 7 3 896 384 rfl rfl slices_S1024x512_o896_384_S128x128
      slices_S128x1024_o0_896_S128x128 inb_S1024x512_S128x128_896_384 _ (mix_3 x0 x1 x2 x3 x4 x5 x6 x7 x8) _ (bias_3 x8),
    List.forall_mem_cons.2 ⟨piece (k0_pay79 (F := Ideal) x0 x1 x2 x3 x4 x5 x6 x7 x8) (k0_pay80 (F := Ideal) x0 x1 x2 x3 x4 x5 x6 x7 x8) x7 x8 6 3 768 384 rfl rfl slices_S1024x512_o768_384_S128x128
      slices_S128x1024_o0_768_S128x128 inb_S1024x512_S128x128_768_384 _ (mix_3 x0 x1 x2 x3 x4 x5 x6 x7 x8) _ (bias_3 x8),
    List.forall_mem_cons.2 ⟨piece (k0_pay79 (F := Ideal) x0 x1 x2 x3 x4 x5 x6 x7 x8) (k0_pay80 (F := Ideal) x0 x1 x2 x3 x4 x5 x6 x7 x8) x7 x8 5 3 640 384 rfl rfl slices_S1024x512_o640_384_S128x128
      slices_S128x1024_o0_640_S128x128 inb_S1024x512_S128x128_640_384 _ (mix_3 x0 x1 x2 x3 x4 x5 x6 x7 x8) _ (bias_3 x8),
    List.forall_mem_cons.2 ⟨piece (k0_pay79 (F := Ideal) x0 x1 x2 x3 x4 x5 x6 x7 x8) (k0_pay80 (F := Ideal) x0 x1 x2 x3 x4 x5 x6 x7 x8) x7 x8 4 3 512 384 rfl rfl slices_S1024x512_o512_384_S128x128
      slices_S128x1024_o0_512_S128x128 inb_S1024x512_S128x128_512_384 _ (mix_3 x0 x1 x2 x3 x4 x5 x6 x7 x8) _ (bias_3 x8),
    List.forall_mem_cons.2 ⟨piece (k0_pay79 (F := Ideal) x0 x1 x2 x3 x4 x5 x6 x7 x8) (k0_pay80 (F := Ideal) x0 x1 x2 x3 x4 x5 x6 x7 x8) x7 x8 3 3 384 384 rfl rfl slices_S1024x512_o384_384_S128x128
      slices_S128x1024_o0_384_S128x128 inb_S1024x512_S128x128_384_384 _ (mix_3 x0 x1 x2 x3 x4 x5 x6 x7 x8) _ (bias_3 x8),
    List.forall_mem_cons.2 ⟨piece (k0_pay79 (F := Ideal) x0 x1 x2 x3 x4 x5 x6 x7 x8) (k0_pay80 (F := Ideal) x0 x1 x2 x3 x4 x5 x6 x7 x8) x7 x8 2 3 256 384 rfl rfl slices_S1024x512_o256_384_S128x128
      slices_S128x1024_o0_256_S128x128 inb_S1024x512_S128x128_256_384 _ (mix_3 x0 x1 x2 x3 x4 x5 x6 x7 x8) _ (bias_3 x8),
    List.forall_mem_cons.2 ⟨piece (k0_pay79 (F := Ideal) x0 x1 x2 x3 x4 x5 x6 x7 x8) (k0_pay80 (F := Ideal) x0 x1 x2 x3 x4 x5 x6 x7 x8) x7 x8 1 3 128 384 rfl rfl slices_S1024x512_o128_384_S128x128
      slices_S128x1024_o0_128_S128x128 inb_S1024x512_S128x128_128_384 _ (mix_3 x0 x1 x2 x3 x4 x5 x6 x7 x8) _ (bias_3 x8),
    List.forall_mem_cons.2 ⟨piece (k0_pay79 (F := Ideal) x0 x1 x2 x3 x4 x5 x6 x7 x8) (k0_pay80 (F := Ideal) x0 x1 x2 x3 x4 x5 x6 x7 x8) x7 x8 0 3 0 384 rfl rfl slices_S1024x512_o0_384_S128x128
      slices_S128x1024_o0_0_S128x128 inb_S1024x512_S128x128_0_384 _ (mix_3 x0 x1 x2 x3 x4 x5 x6 x7 x8) _ (bias_3 x8),
    List.forall_mem_cons.2 ⟨piece (k0_pay79 (F := Ideal) x0 x1 x2 x3 x4 x5 x6 x7 x8) (k0_pay80 (F := Ideal) x0 x1 x2 x3 x4 x5 x6 x7 x8) x7 x8 7 2 896 256 rfl rfl slices_S1024x512_o896_256_S128x128
      slices_S128x1024_o0_896_S128x128 inb_S1024x512_S128x128_896_256 _ (mix_2 x0 x1 x2 x3 x4 x5 x6 x7 x8) _ (bias_2 x8),
    List.forall_mem_cons.2 ⟨piece (k0_pay79 (F := Ideal) x0 x1 x2 x3 x4 x5 x6 x7 x8) (k0_pay80 (F := Ideal) x0 x1 x2 x3 x4 x5 x6 x7 x8) x7 x8 6 2 768 256 rfl rfl slices_S1024x512_o768_256_S128x128
      slices_S128x1024_o0_768_S128x128 inb_S1024x512_S128x128_768_256 _ (mix_2 x0 x1 x2 x3 x4 x5 x6 x7 x8) _ (bias_2 x8),
    List.forall_mem_cons.2 ⟨piece (k0_pay79 (F := Ideal) x0 x1 x2 x3 x4 x5 x6 x7 x8) (k0_pay80 (F := Ideal) x0 x1 x2 x3 x4 x5 x6 x7 x8) x7 x8 5 2 640 256 rfl rfl slices_S1024x512_o640_256_S128x128
      slices_S128x1024_o0_640_S128x128 inb_S1024x512_S128x128_640_256 _ (mix_2 x0 x1 x2 x3 x4 x5 x6 x7 x8) _ (bias_2 x8),
    List.forall_mem_cons.2 ⟨piece (k0_pay79 (F := Ideal) x0 x1 x2 x3 x4 x5 x6 x7 x8) (k0_pay80 (F := Ideal) x0 x1 x2 x3 x4 x5 x6 x7 x8) x7 x8 4 2 512 256 rfl rfl slices_S1024x512_o512_256_S128x128
      slices_S128x1024_o0_512_S128x128 inb_S1024x512_S128x128_512_256 _ (mix_2 x0 x1 x2 x3 x4 x5 x6 x7 x8) _ (bias_2 x8),
    List.forall_mem_cons.2 ⟨piece (k0_pay79 (F := Ideal) x0 x1 x2 x3 x4 x5 x6 x7 x8) (k0_pay80 (F := Ideal) x0 x1 x2 x3 x4 x5 x6 x7 x8) x7 x8 3 2 384 256 rfl rfl slices_S1024x512_o384_256_S128x128
      slices_S128x1024_o0_384_S128x128 inb_S1024x512_S128x128_384_256 _ (mix_2 x0 x1 x2 x3 x4 x5 x6 x7 x8) _ (bias_2 x8),
    List.forall_mem_cons.2 ⟨piece (k0_pay79 (F := Ideal) x0 x1 x2 x3 x4 x5 x6 x7 x8) (k0_pay80 (F := Ideal) x0 x1 x2 x3 x4 x5 x6 x7 x8) x7 x8 2 2 256 256 rfl rfl slices_S1024x512_o256_256_S128x128
      slices_S128x1024_o0_256_S128x128 inb_S1024x512_S128x128_256_256 _ (mix_2 x0 x1 x2 x3 x4 x5 x6 x7 x8) _ (bias_2 x8),
    List.forall_mem_cons.2 ⟨piece (k0_pay79 (F := Ideal) x0 x1 x2 x3 x4 x5 x6 x7 x8) (k0_pay80 (F := Ideal) x0 x1 x2 x3 x4 x5 x6 x7 x8) x7 x8 1 2 128 256 rfl rfl slices_S1024x512_o128_256_S128x128
      slices_S128x1024_o0_128_S128x128 inb_S1024x512_S128x128_128_256 _ (mix_2 x0 x1 x2 x3 x4 x5 x6 x7 x8) _ (bias_2 x8),
    List.forall_mem_cons.2 ⟨piece (k0_pay79 (F := Ideal) x0 x1 x2 x3 x4 x5 x6 x7 x8) (k0_pay80 (F := Ideal) x0 x1 x2 x3 x4 x5 x6 x7 x8) x7 x8 0 2 0 256 rfl rfl slices_S1024x512_o0_256_S128x128
      slices_S128x1024_o0_0_S128x128 inb_S1024x512_S128x128_0_256 _ (mix_2 x0 x1 x2 x3 x4 x5 x6 x7 x8) _ (bias_2 x8),
    List.forall_mem_cons.2 ⟨piece (k0_pay79 (F := Ideal) x0 x1 x2 x3 x4 x5 x6 x7 x8) (k0_pay80 (F := Ideal) x0 x1 x2 x3 x4 x5 x6 x7 x8) x7 x8 7 1 896 128 rfl rfl slices_S1024x512_o896_128_S128x128
      slices_S128x1024_o0_896_S128x128 inb_S1024x512_S128x128_896_128 _ (mix_1 x0 x1 x2 x3 x4 x5 x6 x7 x8) _ (bias_1 x8),
    List.forall_mem_cons.2 ⟨piece (k0_pay79 (F := Ideal) x0 x1 x2 x3 x4 x5 x6 x7 x8) (k0_pay80 (F := Ideal) x0 x1 x2 x3 x4 x5 x6 x7 x8) x7 x8 6 1 768 128 rfl rfl slices_S1024x512_o768_128_S128x128
      slices_S128x1024_o0_768_S128x128 inb_S1024x512_S128x128_768_128 _ (mix_1 x0 x1 x2 x3 x4 x5 x6 x7 x8) _ (bias_1 x8),
    List.forall_mem_cons.2 ⟨piece (k0_pay79 (F := Ideal) x0 x1 x2 x3 x4 x5 x6 x7 x8) (k0_pay80 (F := Ideal) x0 x1 x2 x3 x4 x5 x6 x7 x8) x7 x8 5 1 640 128 rfl rfl slices_S1024x512_o640_128_S128x128
      slices_S128x1024_o0_640_S128x128 inb_S1024x512_S128x128_640_128 _ (mix_1 x0 x1 x2 x3 x4 x5 x6 x7 x8) _ (bias_1 x8),
    List.forall_mem_cons.2 ⟨piece (k0_pay79 (F := Ideal) x0 x1 x2 x3 x4 x5 x6 x7 x8) (k0_pay80 (F := Ideal) x0 x1 x2 x3 x4 x5 x6 x7 x8) x7 x8 4 1 512 128 rfl rfl slices_S1024x512_o512_128_S128x128
      slices_S128x1024_o0_512_S128x128 inb_S1024x512_S128x128_512_128 _ (mix_1 x0 x1 x2 x3 x4 x5 x6 x7 x8) _ (bias_1 x8),
    List.forall_mem_cons.2 ⟨piece (k0_pay79 (F := Ideal) x0 x1 x2 x3 x4 x5 x6 x7 x8) (k0_pay80 (F := Ideal) x0 x1 x2 x3 x4 x5 x6 x7 x8) x7 x8 3 1 384 128 rfl rfl slices_S1024x512_o384_128_S128x128
      slices_S128x1024_o0_384_S128x128 inb_S1024x512_S128x128_384_128 _ (mix_1 x0 x1 x2 x3 x4 x5 x6 x7 x8) _ (bias_1 x8),
    List.forall_mem_cons.2 ⟨piece (k0_pay79 (F := Ideal) x0 x1 x2 x3 x4 x5 x6 x7 x8) (k0_pay80 (F := Ideal) x0 x1 x2 x3 x4 x5 x6 x7 x8) x7 x8 2 1 256 128 rfl rfl slices_S1024x512_o256_128_S128x128
      slices_S128x1024_o0_256_S128x128 inb_S1024x512_S128x128_256_128 _ (mix_1 x0 x1 x2 x3 x4 x5 x6 x7 x8) _ (bias_1 x8),
    List.forall_mem_cons.2 ⟨piece (k0_pay79 (F := Ideal) x0 x1 x2 x3 x4 x5 x6 x7 x8) (k0_pay80 (F := Ideal) x0 x1 x2 x3 x4 x5 x6 x7 x8) x7 x8 1 1 128 128 rfl rfl slices_S1024x512_o128_128_S128x128
      slices_S128x1024_o0_128_S128x128 inb_S1024x512_S128x128_128_128 _ (mix_1 x0 x1 x2 x3 x4 x5 x6 x7 x8) _ (bias_1 x8),
    List.forall_mem_cons.2 ⟨piece (k0_pay79 (F := Ideal) x0 x1 x2 x3 x4 x5 x6 x7 x8) (k0_pay80 (F := Ideal) x0 x1 x2 x3 x4 x5 x6 x7 x8) x7 x8 0 1 0 128 rfl rfl slices_S1024x512_o0_128_S128x128
      slices_S128x1024_o0_0_S128x128 inb_S1024x512_S128x128_0_128 _ (mix_1 x0 x1 x2 x3 x4 x5 x6 x7 x8) _ (bias_1 x8),
    List.forall_mem_cons.2 ⟨piece (k0_pay79 (F := Ideal) x0 x1 x2 x3 x4 x5 x6 x7 x8) (k0_pay80 (F := Ideal) x0 x1 x2 x3 x4 x5 x6 x7 x8) x7 x8 7 0 896 0 rfl rfl slices_S1024x512_o896_0_S128x128
      slices_S128x1024_o0_896_S128x128 inb_S1024x512_S128x128_896_0 _ (mix_0 x0 x1 x2 x3 x4 x5 x6 x7 x8) _ (bias_0 x8),
    List.forall_mem_cons.2 ⟨piece (k0_pay79 (F := Ideal) x0 x1 x2 x3 x4 x5 x6 x7 x8) (k0_pay80 (F := Ideal) x0 x1 x2 x3 x4 x5 x6 x7 x8) x7 x8 6 0 768 0 rfl rfl slices_S1024x512_o768_0_S128x128
      slices_S128x1024_o0_768_S128x128 inb_S1024x512_S128x128_768_0 _ (mix_0 x0 x1 x2 x3 x4 x5 x6 x7 x8) _ (bias_0 x8),
    List.forall_mem_cons.2 ⟨piece (k0_pay79 (F := Ideal) x0 x1 x2 x3 x4 x5 x6 x7 x8) (k0_pay80 (F := Ideal) x0 x1 x2 x3 x4 x5 x6 x7 x8) x7 x8 5 0 640 0 rfl rfl slices_S1024x512_o640_0_S128x128
      slices_S128x1024_o0_640_S128x128 inb_S1024x512_S128x128_640_0 _ (mix_0 x0 x1 x2 x3 x4 x5 x6 x7 x8) _ (bias_0 x8),
    List.forall_mem_cons.2 ⟨piece (k0_pay79 (F := Ideal) x0 x1 x2 x3 x4 x5 x6 x7 x8) (k0_pay80 (F := Ideal) x0 x1 x2 x3 x4 x5 x6 x7 x8) x7 x8 4 0 512 0 rfl rfl slices_S1024x512_o512_0_S128x128
      slices_S128x1024_o0_512_S128x128 inb_S1024x512_S128x128_512_0 _ (mix_0 x0 x1 x2 x3 x4 x5 x6 x7 x8) _ (bias_0 x8),
    List.forall_mem_cons.2 ⟨piece (k0_pay79 (F := Ideal) x0 x1 x2 x3 x4 x5 x6 x7 x8) (k0_pay80 (F := Ideal) x0 x1 x2 x3 x4 x5 x6 x7 x8) x7 x8 3 0 384 0 rfl rfl slices_S1024x512_o384_0_S128x128
      slices_S128x1024_o0_384_S128x128 inb_S1024x512_S128x128_384_0 _ (mix_0 x0 x1 x2 x3 x4 x5 x6 x7 x8) _ (bias_0 x8),
    List.forall_mem_cons.2 ⟨piece (k0_pay79 (F := Ideal) x0 x1 x2 x3 x4 x5 x6 x7 x8) (k0_pay80 (F := Ideal) x0 x1 x2 x3 x4 x5 x6 x7 x8) x7 x8 2 0 256 0 rfl rfl slices_S1024x512_o256_0_S128x128
      slices_S128x1024_o0_256_S128x128 inb_S1024x512_S128x128_256_0 _ (mix_0 x0 x1 x2 x3 x4 x5 x6 x7 x8) _ (bias_0 x8),
    List.forall_mem_cons.2 ⟨piece (k0_pay79 (F := Ideal) x0 x1 x2 x3 x4 x5 x6 x7 x8) (k0_pay80 (F := Ideal) x0 x1 x2 x3 x4 x5 x6 x7 x8) x7 x8 1 0 128 0 rfl rfl slices_S1024x512_o128_0_S128x128
      slices_S128x1024_o0_128_S128x128 inb_S1024x512_S128x128_128_0 _ (mix_0 x0 x1 x2 x3 x4 x5 x6 x7 x8) _ (bias_0 x8),
    List.forall_mem_cons.2 ⟨piece (k0_pay79 (F := Ideal) x0 x1 x2 x3 x4 x5 x6 x7 x8) (k0_pay80 (F := Ideal) x0 x1 x2 x3 x4 x5 x6 x7 x8) x7 x8 0 0 0 0 rfl rfl slices_S1024x512_o0_0_S128x128
      slices_S128x1024_o0_0_S128x128 inb_S1024x512_S128x128_0_0 _ (mix_0 x0 x1 x2 x3 x4 x5 x6 x7 x8) _ (bias_0 x8),
    List.forall_mem_nil _⟩⟩⟩⟩⟩⟩⟩⟩⟩⟩⟩⟩⟩⟩⟩⟩⟩⟩⟩⟩⟩⟩⟩⟩⟩⟩⟩⟩⟩⟩⟩⟩

theorem own_half (r : Fin 1024) (n : Fin 512) : k0_pay79 (F := Ideal) x0 x1 x2 x3 x4 x5 x6 x7 x8 (ix2 r n) = smooth (row x1 x0 x2 r ⟨768 + n, by omega⟩) := by
  unfold k0_pay79
  rw [tile_u, proj_out]

theorem mixed_half (r : Fin 1024) (n : Fin 512) : k0_pay80 (F := Ideal) x0 x1 x2 x3 x4 x5 x6 x7 x8 (ix2 r n)
      = smoothNorm (fun l => row x1 x0 x2 r ⟨1280 + l, by omega⟩) (fun l => x6 (ix2 0 l)) n := by
  unfold k0_pay80
  rw [ld_gain, tile_vn]
  simp only [proj_out]

theorem out_gate (a : Fin 8) (p : Fin 128) (g : Fin 4) (c : Fin 128) :
    out0_11 (F := Ideal) x0 x1 x2 x3 x4 x5 x6 x7 x8 (ix2 ⟨128 * a + p, by omega⟩ ⟨128 * g + c, by omega⟩)
      = mixGate (smooth (row x1 x0 x2 ⟨128 * a + p, by omega⟩ ⟨768 + (128 * g + c), by omega⟩)) (x8 (ix3 g p c))
          (fun q => x7 (ix3 g p q))
          (fun q => smoothNorm (fun l => row x1 x0 x2 ⟨128 * a + q, by omega⟩ ⟨1280 + l, by omega⟩) (fun l => x6 (ix2 0 l))
            ⟨128 * g + c, by omega⟩) := by
  refine (out_tile x0 x1 x2 x3 x4 x5 x6 x7 x8 _).trans ((gateTile_apply _ _ x7 x8 a p g c _ rfl rfl).trans ?_)
  unfold gateAt
  simp only [own_half, mixed_half]

end blocks

end Cert.PreE
end
-- ==== Proof.PreOdd.Table.lean ====
/-
  The table of group means, read at an index: each stretch of 128 entries is one of three.
-/
module

public import proofs.«01_k».proof.Proof.Gen.PreOddIdeal.Frame

@[expose] public section

set_option maxRecDepth 16384

noncomputable section

namespace Cert.PreO

open Cert.PreOddIdeal Idealize.ShloMosaic

/-- Stretch `c` of the table: half `c % 2` of row `c / 2`. -/
def stretch (c : ℕ) (i : ℕ) : BitVec 16 :=
  if c % 2 = c / 256 then (if c / 128 % 2 = 0 then lit0t0_0 i else lit0t0_128 i) else lit0t0_1 i

theorem digit_0 (b : Fin 128) (i : ℕ) (h : i / 128 % 128 = b) : lit0t1_0 i = stretch (0 + b) i := by
  unfold lit0t1_0
  generalize i / 128 % 128 = x at h
  subst h
  fin_cases b <;> rfl

theorem digit_1 (b : Fin 128) (i : ℕ) (h : i / 128 % 128 = b) : lit0t1_1 i = stretch (128 + b) i := by
  unfold lit0t1_1
  generalize i / 128 % 128 = x at h
  subst h
  fin_cases b <;> rfl

theorem digit_2 (b : Fin 128) (i : ℕ) (h : i / 128 % 128 = b) : lit0t1_2 i = stretch (256 + b) i := by
  unfold lit0t1_2
  generalize i / 128 % 128 = x at h
  subst h
  fin_cases b <;> rfl

theorem digit_3 (b : Fin 128) (i : ℕ) (h : i / 128 % 128 = b) : lit0t1_3 i = stretch (384 + b) i := by
  unfold lit0t1_3
  generalize i / 128 % 128 = x at h
  subst h
  fin_cases b <;> rfl

theorem digits (c : Fin 512) (i : ℕ) (h : i / 128 = c) : lit0t i = stretch c i := by
  have h₁ : i / 16384 = c / 128 := by omega
  unfold lit0t
  obtain h₂ | h₂ | h₂ | h₂ : i / 16384 = 0 ∨ i / 16384 = 1 ∨ i / 16384 = 2 ∨ i / 16384 = 3 := by omega
  · rw [h₂]
    exact (digit_0 ⟨c % 128, by omega⟩ i (by show _ = (c : ℕ) % 128; omega)).trans
      (congrArg (stretch · i) (by show 0 + (c : ℕ) % 128 = c; omega))
  · rw [h₂]
    exact (digit_1 ⟨c % 128, by omega⟩ i (by show _ = (c : ℕ) % 128; omega)).trans
      (congrArg (stretch · i) (by show 128 + (c : ℕ) % 128 = c; omega))
  · rw [h₂]
    exact (digit_2 ⟨c % 128, by omega⟩ i (by show _ = (c : ℕ) % 128; omega)).trans
      (congrArg (stretch · i) (by show 256 + (c : ℕ) % 128 = c; omega))
  · rw [h₂]
    exact (digit_3 ⟨c % 128, by omega⟩ i (by show _ = (c : ℕ) % 128; omega)).trans
      (congrArg (stretch · i) (by show 384 + (c : ℕ) % 128 = c; omega))

theorem first_half (l : Fin 128) (i : ℕ) (h : i % 128 = l) : lit0t0_0 i = if (l : ℕ) < 64 then 0x3C80#16 else 0#16 := by
  unfold lit0t0_0
  generalize i % 128 = x at h
  subst h
  fin_cases l <;> rfl

theorem second_half (l : Fin 128) (i : ℕ) (h : i % 128 = l) : lit0t0_128 i = if (l : ℕ) < 64 then 0#16 else 0x3C80#16 := by
  unfold lit0t0_128
  generalize i % 128 = x at h
  subst h
  fin_cases l <;> rfl

theorem neither_half (l : Fin 128) (i : ℕ) (h : i % 128 = l) : lit0t0_1 i = 0#16 := by
  unfold lit0t0_1
  generalize i % 128 = x at h
  subst h
  fin_cases l <;> rfl

theorem table_entry (k j : Fin 256) : lit0t (256 * k + j) = if (k : ℕ) / 64 = j / 64 then 0x3C80#16 else 0#16 := by
  rw [digits ⟨2 * k + j / 128, by omega⟩ _ (by show _ = 2 * (k : ℕ) + j / 128; omega)]
  unfold stretch
  have e : (256 * (k : ℕ) + j) % 128 = j % 128 := by omega
  simp only [first_half ⟨j % 128, by omega⟩ _ e, second_half ⟨j % 128, by omega⟩ _ e, neither_half ⟨j % 128, by omega⟩ _ e]
  obtain hj | hj : (j : ℕ) / 128 = 0 ∨ (j : ℕ) / 128 = 1 := by omega
  all_goals obtain hk | hk : (k : ℕ) / 128 = 0 ∨ (k : ℕ) / 128 = 1 := by omega
  all_goals
    simp only [hj]
    split_ifs <;> first | rfl | omega

end Cert.PreO
end
-- ==== Proof.PreEven.Table.lean ====
/-
  The table of group means of the even layer's projections: the odd layer's table.
-/
module

public import proofs.«01_k».proof.Proof.Gen.PreEvenIdeal.Frame
public import proofs.«01_k».proof.Proof.PreOdd.Table

@[expose] public section

set_option maxRecDepth 16384

noncomputable section

namespace Cert.PreE

open Cert.PreEvenIdeal Idealize.ShloMosaic

theorem same_table (i : ℕ) : lit0t i = Cert.PreOddIdeal.lit0t i := rfl

theorem table_entry (k j : Fin 256) : lit0t (256 * k + j) = if (k : ℕ) / 64 = j / 64 then 0x3C80#16 else 0#16 :=
  (same_table _).trans (Cert.PreO.table_entry k j)

end Cert.PreE
end
-- ==== Proof.PreEven.Ref.lean ====
/-
  The reference of the even layer's projections over the context tokens, read at an index.
-/
module

public import proofs.«01_k».proof.Proof.Gen.PreEvenRefIdeal.Run
public import proofs.«01_k».proof.Proof.Gen.PreEvenRefIdeal.Read
public import proofs.«01_k».proof.Proof.Pre.Gate
public import Idealize.ShloMosaic.Lib.Pointwise
public import Idealize.ShloMosaic.Lib.Pipeline.ValueKit

@[expose] public section

set_option maxRecDepth 16384

noncomputable section

namespace Cert.PreERef

open Cert.PreEvenRefIdeal Cert.PreEvenRefIdeal.Gen Cert.PreEvenRefIdeal.Read Idealize.ShloMosaic Idealize.ShloMosaic.TcCoe Idealize.SL.Sem Cert.Pre

variable (x : FVec Ideal S8192x1024 .f32) (md : FVec Ideal S2x16x6x1024 .f32) (w : FVec Ideal S1x1024x1792 .f32)
  (gq gk : FVec Ideal S1x64 .f32) (gn : FVec Ideal S1x512 .f32) (ws : FVec Ideal S1x4x128x128 .f32) (bs : FVec Ideal S1x4x128 .f32)

/-- The projection of token `p`. -/
def token (p : Fin 8192) : Fin 1792 → EReal :=
  proj (fun k => md (ix4 0 0 1 k)) (fun k => md (ix4 0 0 0 k)) (fun k => x (ix2 p k)) (fun k n => w (ix3 0 k n))

theorem normed_apply (b : Fin 32) (s : Fin 256) (c : Fin 1024) :
    val_main_v22 (F := Ideal) x md (ix3 b s c)
      = Cert.Ffn.normRow (fun k => md (ix4 0 0 1 k)) (fun k => md (ix4 0 0 0 k)) (fun k => x (ix2 ⟨256 * b + s, by omega⟩ k)) c := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [Nat.mul_comm 256]
  rfl

theorem proj_apply (b : Fin 32) (s : Fin 256) (n : Fin 1792) :
    val_main_v24 (F := Ideal) x md w (ix3 b s n) = token x md w ⟨256 * b + s, by omega⟩ n := by
  pointwise [val_main_v24, val_main_v23]
  simp only [normed_apply]
  rfl

theorem query_apply (b : Fin 32) (s : Fin 256) (g : Fin 8) (d : Fin 64) :
    val_main_v30 (F := Ideal) x md w (ix4 b s g d) = token x md w ⟨256 * b + s, by omega⟩ ⟨64 * g + d, by omega⟩ := by
  rw [← proj_apply]
  pointwise [val_main_v30, val_main_v25]
  blk_ext []

theorem key_apply (b : Fin 32) (s : Fin 256) (g : Fin 2) (d : Fin 64) :
    val_main_v47 (F := Ideal) x md w (ix4 b s g d) = token x md w ⟨256 * b + s, by omega⟩ ⟨512 + (64 * g + d), by omega⟩ := by
  rw [← proj_apply]
  pointwise [val_main_v47, val_main_v26]
  blk_ext []

theorem value_apply (b : Fin 32) (s : Fin 256) (g : Fin 2) (d : Fin 64) :
    val_main_v62 (F := Ideal) x md w (ix4 b s g d) = token x md w ⟨256 * b + s, by omega⟩ ⟨640 + (64 * g + d), by omega⟩ := by
  rw [← proj_apply]
  pointwise [val_main_v62, val_main_v27]
  blk_ext []

theorem query_scaled (b : Fin 32) (s : Fin 256) (g : Fin 8) (d : Fin 64) :
    val_main_v46 (F := Ideal) x md w gq (ix4 b s g d)
      = headNorm 28 rfl (token x md w ⟨256 * b + s, by omega⟩) ⟨64 * g + d, by omega⟩ * gq (ix2 0 d)
          * Ideal.ofBits .f32 0x3E38AA3B#32 := by
  pointwise [val_main_v46, val_main_v45, val_main_v44, val_main_v43, val_main_v42, val_main_v41, val_main_v40, val_main_v39, val_main_v38, val_main_v37, val_main_v36, val_main_v35, val_main_v34, val_main_v33, val_main_v32, val_main_v31, val_main_cst_3, val_main_cst_4, val_main_cst_5, val_main_cst_6]
  simp only [query_apply]
  unfold headNorm headSq mate
  have e : ∀ d' : Fin 64, 64 * ((64 * (g : ℕ) + d) / 64) + d' = 64 * g + d' := fun d' => by omega
  simp only [e]

theorem key_scaled (b : Fin 32) (s : Fin 256) (g : Fin 2) (d : Fin 64) :
    val_main_v61 (F := Ideal) x md w gk (ix4 b s g d)
      = headNorm 28 rfl (token x md w ⟨256 * b + s, by omega⟩) ⟨512 + (64 * g + d), by omega⟩ * gk (ix2 0 d) := by
  pointwise [val_main_v61, val_main_v60, val_main_v59, val_main_v58, val_main_v57, val_main_v56, val_main_v55, val_main_v54, val_main_v53, val_main_v52, val_main_v51, val_main_v50, val_main_v49, val_main_v48, val_main_cst_7, val_main_cst_8, val_main_cst_9]
  simp only [key_apply]
  unfold headNorm headSq mate
  have e : ∀ d' : Fin 64, 64 * ((512 + (64 * (g : ℕ) + d)) / 64) + d' = 512 + (64 * g + d') := fun d' => by omega
  simp only [e]

theorem unit_apply (b : Fin 32) (s : Fin 256) (n : Fin 512) :
    val_main_v75 (F := Ideal) x md w (ix3 b s n) = smooth (token x md w ⟨256 * b + s, by omega⟩ ⟨768 + n, by omega⟩) := by
  rw [← proj_apply]
  unfold smooth
  generalize hz : val_main_v24 (F := Ideal) x md w = z
  pointwise [val_main_v75, val_main_v74, val_main_v73, val_main_v72, val_main_v71, val_main_v70, val_main_v69, val_main_v68, val_main_v67, val_main_v66, val_main_v65, val_main_v64, val_main_v63, val_main_v28, val_main_cst_10, val_main_cst_11, val_main_cst_12, val_main_cst_13, hz]

theorem inner_unit (b : Fin 32) (s : Fin 256) (n : Fin 512) :
    val_main_v88 (F := Ideal) x md w (ix3 b s n) = smooth (token x md w ⟨256 * b + s, by omega⟩ ⟨1280 + n, by omega⟩) := by
  rw [← proj_apply]
  unfold smooth
  generalize hz : val_main_v24 (F := Ideal) x md w = z
  pointwise [val_main_v88, val_main_v87, val_main_v86, val_main_v85, val_main_v84, val_main_v83, val_main_v82, val_main_v81, val_main_v80, val_main_v79, val_main_v78, val_main_v77, val_main_v76, val_main_v29, val_main_cst_14, val_main_cst_15, val_main_cst_16, val_main_cst_17, hz]

theorem inner_normed (b : Fin 32) (s : Fin 256) (n : Fin 512) :
    val_main_v104 (F := Ideal) x md w gn (ix3 b s n)
      = smoothNorm (fun l => token x md w ⟨256 * b + s, by omega⟩ ⟨1280 + l, by omega⟩) (fun l => gn (ix2 0 l)) n := by
  unfold smoothNorm
  simp only [← inner_unit]
  generalize hz : val_main_v88 (F := Ideal) x md w = z
  pointwise [val_main_v104, val_main_v103, val_main_v102, val_main_v101, val_main_v100, val_main_v99, val_main_v98, val_main_v97, val_main_v96, val_main_v95, val_main_v94, val_main_v93, val_main_v92, val_main_v89, val_main_cst_18, val_main_cst_19, val_main_cst_20, hz]

/-- The gate of token `p` at column `128 · g + c`. -/
def gateOf (p : Fin 8192) (g : Fin 4) (c : Fin 128) : EReal :=
  mixGate (smooth (token x md w p ⟨768 + (128 * g + c), by omega⟩)) (bs (ix3 0 g ⟨p % 128, by omega⟩))
    (fun q => ws (ix4 0 g ⟨p % 128, by omega⟩ q))
    (fun q => smoothNorm (fun l => token x md w ⟨128 * (p / 128) + q, by omega⟩ ⟨1280 + l, by omega⟩) (fun l => gn (ix2 0 l))
      ⟨128 * g + c, by omega⟩)

theorem mixed_apply (b : Fin 32) (h : Fin 2) (p : Fin 128) (g : Fin 4) (c : Fin 128) :
    val_main_v111 (F := Ideal) x md w gn ws bs (ix5 b h p g c)
      = (∑ q : Fin 128, ws (ix4 0 g p q) * smoothNorm (fun l => token x md w ⟨256 * b + (128 * h + q), by omega⟩ ⟨1280 + l, by omega⟩)
          (fun l => gn (ix2 0 l)) ⟨128 * g + c, by omega⟩) + bs (ix3 0 g p) := by
  have e : ∀ q : Fin 128, smoothNorm (fun l => token x md w ⟨256 * b + (128 * h + q), by omega⟩ ⟨1280 + l, by omega⟩)
      (fun l => gn (ix2 0 l)) ⟨128 * g + c, by omega⟩
        = val_main_v104 (F := Ideal) x md w gn (ix3 b ⟨128 * h + q, by omega⟩ ⟨128 * g + c, by omega⟩) :=
    fun q => (inner_normed x md w gn b ⟨128 * h + q, by omega⟩ ⟨128 * g + c, by omega⟩).symm
  simp only [e]
  generalize hz : val_main_v104 (F := Ideal) x md w gn = z
  pointwise [val_main_v111, val_main_v110, val_main_v109, val_main_v108, val_main_v107, val_main_v106, val_main_v105, val_main_v91, val_main_v90, hz]
  refine Ideal.add_congr (Finset.sum_congr rfl fun q _ => ?_) rfl
  rw [mul_comm]
  refine Ideal.mul_congr rfl ?_
  blk_ext []

theorem gate_apply (b : Fin 32) (h : Fin 2) (p : Fin 128) (g : Fin 4) (c : Fin 128) :
    val_main_v113 (F := Ideal) x md w gn ws bs (ix3 b ⟨128 * h + p, by omega⟩ ⟨128 * g + c, by omega⟩)
      = gateOf x md w gn ws bs ⟨256 * b + (128 * h + p), by omega⟩ g c := by
  have h₁ := mixed_apply x md w gn ws bs b h p g c
  have h₂ := unit_apply x md w b ⟨128 * h + p, by omega⟩ ⟨128 * g + c, by omega⟩
  have e₁ : (256 * (b : ℕ) + (128 * h + p)) % 128 = p := by omega
  have e₂ : ∀ q : Fin 128, 128 * ((256 * (b : ℕ) + (128 * h + p)) / 128) + q = 256 * b + (128 * h + q) := fun q => by omega
  unfold gateOf mixGate
  simp only [e₁, e₂]
  refine Eq.trans ?_ (Ideal.mul_congr h₂ h₁)
  generalize hz : val_main_v111 (F := Ideal) x md w gn ws bs = z
  pointwise [val_main_v113, val_main_v112, hz]
  blk_ext []

theorem result_q (p : Fin 8192) (n : Fin 512) :
    val_main_v115 (F := Ideal) x md w gq (ix2 p n)
      = headNorm 28 rfl (token x md w p) ⟨n, by omega⟩ * gq (ix2 0 ⟨n % 64, by omega⟩) * Ideal.ofBits .f32 0x3E38AA3B#32 := by
  have h := query_scaled x md w gq ⟨p / 256, by omega⟩ ⟨p % 256, by omega⟩ ⟨n / 64, by omega⟩ ⟨n % 64, by omega⟩
  simp only [Nat.div_add_mod] at h
  rw [← h]
  pointwise [val_main_v115, val_main_v114]
  blk_ext []

theorem result_k (p : Fin 8192) (n : Fin 128) :
    val_main_v117 (F := Ideal) x md w gk (ix2 p n)
      = headNorm 28 rfl (token x md w p) ⟨512 + n, by omega⟩ * gk (ix2 0 ⟨n % 64, by omega⟩) := by
  have h := key_scaled x md w gk ⟨p / 256, by omega⟩ ⟨p % 256, by omega⟩ ⟨n / 64, by omega⟩ ⟨n % 64, by omega⟩
  simp only [Nat.div_add_mod] at h
  rw [← h]
  pointwise [val_main_v117, val_main_v116]
  blk_ext []

theorem result_gate (p : Fin 8192) (g : Fin 4) (c : Fin 128) :
    val_main_v119 (F := Ideal) x md w gn ws bs (ix2 p ⟨128 * g + c, by omega⟩) = gateOf x md w gn ws bs p g c := by
  have h := gate_apply x md w gn ws bs ⟨p / 256, by omega⟩ ⟨p % 256 / 128, by omega⟩ ⟨p % 128, by omega⟩ g c
  have e : 256 * ((p : ℕ) / 256) + (128 * (p % 256 / 128) + p % 128) = p := by omega
  simp only [e] at h
  rw [← h]
  pointwise [val_main_v119, val_main_v118]
  blk_ext []

end Cert.PreERef
end
-- ==== Proof.PreEven.Equation.lean ====
/-
  The final arrays of the even layer's projections over the context tokens: each grid point reads its own 1024 tokens, four whole
  sequences, and the whole of the weights, the table and the gains.
-/
module

public import proofs.«01_k».proof.Proof.PreEven.Mix
public import proofs.«01_k».proof.Proof.PreEven.Table
public import proofs.«01_k».proof.Proof.PreEven.Ref
public import Idealize.ShloMosaic.Lib.Claim

@[expose] public section

set_option maxRecDepth 16384

noncomputable section

namespace Cert.PreE

open Idealize.ShloMosaic Idealize.ShloMosaic.Pointwise Idealize.ShloMosaic.Pipeline Idealize.SL.Sem
open Cert.PreEvenIdeal Cert.PreEvenIdeal.Gen Cert.Pre

variable (m : (ℓ : Loc nD τ sig) → Buf (Elt Ideal) ℓ) (c : Dev nD)

theorem idx : ∀ t : Fin cfg0.N, win0_0.index t = ![t.val, 0] ∧ win0_1.index t = ![0, 0, 0, 0]
    ∧ win0_2.index t = ![0, 0] ∧ win0_3.index t = ![0, 0] ∧ win0_4.index t = ![0, 0] ∧ win0_5.index t = ![0, 0]
    ∧ win0_6.index t = ![0, 0] ∧ win0_7.index t = ![0, 0, 0] ∧ win0_8.index t = ![0, 0, 0]
    ∧ win0_9.index t = ![t.val, 0] ∧ win0_10.index t = ![t.val, 0] ∧ win0_11.index t = ![t.val, 0]
    ∧ win0_12.index t = ![t.val, 0, 0] ∧ win0_13.index t = ![t.val, 0, 0] :=
  (by decide +kernel : ∀ t : Fin grid0.N, _)

variable (t : Fin cfg0.N)

theorem x_read (r : Fin 1024) (p : Fin 8192) (hp : (p : ℕ) = 1024 * t + r) (k : Fin 1024) :
    iblk m c 0 t (ix2 r k) = m ((c.tc : Thread nD τ).loc main_arg0) (ix2 p k) := by
  blk_ext [iblk, V, idx t]

theorem md_read (i : Fin 6) (k : Fin 1024) :
    iblk m c 1 t (ix4 0 0 i k) = m ((c.tc : Thread nD τ).loc main_arg1) (ix4 0 0 i k) := by
  blk_ext [iblk, V, idx t]

theorem weight_apply (x : FVec Ideal S1x1024x1792 .f32) (k : Fin 1024) (n : Fin 1792) :
    (truncf .bf16 (shapeCast S1024x1792 x shapeCasts_S1x1024x1792_S1024x1792) bitsLt_bf16_f32 : FVec Ideal S1024x1792 .bf16)
      (ix2 k n) = x (ix3 0 k n) := by
  pointwise []

theorem weight_read (k : Fin 1024) (n : Fin 1792) :
    iblk m c 2 t (ix2 k n) = m ((c.tc : Thread nD τ).loc main_arg2) (ix3 0 k n) := by
  unfold iblk
  entry_read
  exact (congrArg _ (show (win0_2.blk t).view.emb (ix2 k n) = ix2 k n by blk_ext [idx t])).trans (weight_apply _ _ _)

theorem ofBits_zero : Ideal.ofBits .bf16 0#16 = 0 := by
  simp [Ideal.ofBits, Ideal.ieee, -EReal.coe_mul]

theorem entry_apply (k j : Fin 256) :
    Ideal.ofBits .bf16 (lit0 (S256x256.rowMajor (ix2 k j)))
      = if (k : ℕ) / 64 = j / 64 then Ideal.ofBits .bf16 0x3C80#16 else 0 := by
  have h : ((S256x256.rowMajor (ix2 k j)) : ℕ) = 256 * k + j := by
    rw [Shape.rowMajor_val_two]
    show (k : ℕ) * 256 + j = _
    omega
  show Ideal.ofBits .bf16 (lit0t ((S256x256.rowMajor (ix2 k j)) : ℕ)) = _
  rw [h, table_entry]
  split_ifs
  · rfl
  · exact ofBits_zero

theorem table_entries : V m c main_cst = fun i => Ideal.ofBits .bf16 (lit0 (S256x256.rowMajor i)) := by
  entry_read
  rfl

theorem table_read : IsTable (iblk m c 3 t) := fun k j => by
  show V m c main_cst ((win0_3.blk t).view.emb (ix2 k j)) = _
  rw [show (win0_3.blk t).view.emb (ix2 k j) = ix2 k j by blk_ext [idx t], table_entries]
  exact entry_apply k j

/-- The queries' gain at column `n`, times the constant the attention takes the queries with. -/
def qGain (x : FVec Ideal S1x64 .f32) (n : Fin 512) : EReal :=
  x (ix2 0 ⟨n % 64, by omega⟩) * Ideal.ofBits .f32 0x3E38AA3B#32

/-- The queries' gains, one for each column, as the program prepares them. -/
def tiledGain (x : FVec Ideal S1x64 .f32) : FVec Ideal S1x512 .f32 :=
  mulf (broadcastInDim S1x512 ![1] bcast_S512_S1x512_1 (shapeCast S512 (broadcastInDim S8x64 ![0, 1] bcast_S1x64_S8x64_0_1
      (shapeCast S1x64 (shapeCast S64 x shapeCasts_S1x64_S64) shapeCasts_S64_S1x64)) shapeCasts_S8x64_S512))
    (broadcastInDim S1x512 ![] bcast_S_S1x512 (constant S_ .f32 0x3E38AA3B#32))

theorem tiledGain_apply (x : FVec Ideal S1x64 .f32) (n : Fin 512) : tiledGain x (ix2 0 n) = qGain x n := by
  pointwise [tiledGain]
  rfl

theorem tiledGain_entry : V m c main_v14 = tiledGain (m ((c.tc : Thread nD τ).loc main_arg3)) := by
  entry_read
  rfl

theorem qgain_read (n : Fin 512) :
    iblk m c 4 t (ix2 0 n) = qGain (m ((c.tc : Thread nD τ).loc main_arg3)) n := by
  show V m c main_v14 ((win0_4.blk t).view.emb (ix2 0 n)) = _
  rw [tiledGain_entry]
  exact (congrArg (tiledGain _) (show (win0_4.blk t).view.emb (ix2 0 n) = ix2 0 n by blk_ext [idx t])).trans
    (tiledGain_apply _ n)

theorem kgain_apply (x : FVec Ideal S1x64 .f32) (n : Fin 128) :
    broadcastInDim S1x128 ![1] bcast_S128_S1x128_1 (shapeCast S128 (broadcastInDim S2x64 ![0, 1] bcast_S1x64_S2x64_0_1
      (shapeCast S1x64 (shapeCast S64 x shapeCasts_S1x64_S64) shapeCasts_S64_S1x64)) shapeCasts_S2x64_S128) (ix2 0 n)
      = x (ix2 0 ⟨n % 64, by omega⟩) := by
  pointwise []

theorem kgain_read (n : Fin 128) :
    iblk m c 5 t (ix2 0 n) = m ((c.tc : Thread nD τ).loc main_arg4) (ix2 0 ⟨n % 64, by omega⟩) := by
  unfold iblk
  entry_read
  exact (congrArg _ (show (win0_5.blk t).view.emb (ix2 0 n) = ix2 0 n by blk_ext [idx t])).trans (kgain_apply (m ((c.tc : Thread nD τ).loc main_arg4)) n)

theorem vgain_apply (x : FVec Ideal S1x512 .f32) (n : Fin 512) :
    broadcastInDim S1x512 ![1] bcast_S512_S1x512_1 (shapeCast S512 x shapeCasts_S1x512_S512) (ix2 0 n) = x (ix2 0 n) := by
  pointwise []

theorem vgain_read (n : Fin 512) : iblk m c 6 t (ix2 0 n) = m ((c.tc : Thread nD τ).loc main_arg5) (ix2 0 n) := by
  unfold iblk
  entry_read
  exact (congrArg _ (show (win0_6.blk t).view.emb (ix2 0 n) = ix2 0 n by blk_ext [idx t])).trans
    (vgain_apply (m ((c.tc : Thread nD τ).loc main_arg5)) n)

theorem matrix_apply (x : FVec Ideal S1x4x128x128 .f32) (g : Fin 4) (p q : Fin 128) :
    (truncf .bf16 (shapeCast S4x128x128 x shapeCasts_S1x4x128x128_S4x128x128) bitsLt_bf16_f32 : FVec Ideal S4x128x128 .bf16)
      (ix3 g p q) = x (ix4 0 g p q) := by
  pointwise []

theorem matrix_read (g : Fin 4) (p q : Fin 128) :
    iblk m c 7 t (ix3 g p q) = m ((c.tc : Thread nD τ).loc main_arg6) (ix4 0 g p q) := by
  unfold iblk
  entry_read
  exact (congrArg _ (show (win0_7.blk t).view.emb (ix3 g p q) = ix3 g p q by blk_ext [idx t])).trans
    (matrix_apply (m ((c.tc : Thread nD τ).loc main_arg6)) g p q)

theorem bias_apply (x : FVec Ideal S1x4x128 .f32) (g : Fin 4) (p q : Fin 128) :
    broadcastInDim S4x128x128 ![0, 1, 2] bcast_S4x128x1_S4x128x128_0_1_2 (broadcastInDim S4x128x1 ![0, 1]
      bcast_S4x128_S4x128x1_0_1 (shapeCast S4x128 x shapeCasts_S1x4x128_S4x128)) (ix3 g p q) = x (ix3 0 g p) := by
  pointwise []

theorem bias_read (g : Fin 4) (p q : Fin 128) :
    iblk m c 8 t (ix3 g p q) = m ((c.tc : Thread nD τ).loc main_arg7) (ix3 0 g p) := by
  unfold iblk
  entry_read
  exact (congrArg _ (show (win0_8.blk t).view.emb (ix3 g p q) = ix3 g p q by blk_ext [idx t])).trans
    (bias_apply (m ((c.tc : Thread nD τ).loc main_arg7)) g p q)

theorem row_read (r : Fin 1024) (p : Fin 8192) (hp : (p : ℕ) = 1024 * t + r) :
    row (iblk m c 1 t) (iblk m c 0 t) (iblk m c 2 t) r = Cert.PreERef.token (m ((c.tc : Thread nD τ).loc main_arg0)) (m ((c.tc : Thread nD τ).loc main_arg1)) (m ((c.tc : Thread nD τ).loc main_arg2)) p := by
  funext n
  unfold row Cert.PreERef.token
  simp only [md_read m c t, weight_read m c t, x_read m c t r p hp]

theorem q_point (r : Fin 1024) (n : Fin 512) (p : Fin 8192) (hp : (p : ℕ) = 1024 * t + r) :
    out0_9 (F := Ideal) (iblk m c 0 t) (iblk m c 1 t) (iblk m c 2 t) (iblk m c 3 t) (iblk m c 4 t) (iblk m c 5 t) (iblk m c 6 t) (iblk m c 7 t) (iblk m c 8 t) (ix2 r n)
      = Cert.PreEvenRefIdeal.Read.val_main_v115 (F := Ideal) (m ((c.tc : Thread nD τ).loc main_arg0)) (m ((c.tc : Thread nD τ).loc main_arg1)) (m ((c.tc : Thread nD τ).loc main_arg2)) (m ((c.tc : Thread nD τ).loc main_arg3)) (ix2 p n) := by
  rw [Cert.PreERef.result_q]
  refine (out_q _ _ _ _ _ _ _ _ _ (table_read m c t) r n).trans ?_
  rw [row_read m c t r p hp, qgain_read]
  exact (mul_assoc _ _ _).symm

theorem k_point (r : Fin 1024) (n : Fin 128) (p : Fin 8192) (hp : (p : ℕ) = 1024 * t + r) :
    out0_10 (F := Ideal) (iblk m c 0 t) (iblk m c 1 t) (iblk m c 2 t) (iblk m c 3 t) (iblk m c 4 t) (iblk m c 5 t) (iblk m c 6 t) (iblk m c 7 t) (iblk m c 8 t) (ix2 r n)
      = Cert.PreEvenRefIdeal.Read.val_main_v117 (F := Ideal) (m ((c.tc : Thread nD τ).loc main_arg0)) (m ((c.tc : Thread nD τ).loc main_arg1)) (m ((c.tc : Thread nD τ).loc main_arg2)) (m ((c.tc : Thread nD τ).loc main_arg4)) (ix2 p n) := by
  rw [Cert.PreERef.result_k]
  refine (out_k _ _ _ _ _ _ _ _ _ (table_read m c t) r n).trans ?_
  unfold kAt
  rw [row_read m c t r p hp, kgain_read]

theorem gate_cell (a : Fin 8) (s : Fin 128) (g : Fin 4) (d : Fin 128) (p : Fin 8192) (hp : (p : ℕ) = 1024 * t + (128 * a + s)) :
    out0_11 (F := Ideal) (iblk m c 0 t) (iblk m c 1 t) (iblk m c 2 t) (iblk m c 3 t) (iblk m c 4 t) (iblk m c 5 t) (iblk m c 6 t) (iblk m c 7 t) (iblk m c 8 t) (ix2 ⟨128 * a + s, by omega⟩ ⟨128 * g + d, by omega⟩)
      = Cert.PreEvenRefIdeal.Read.val_main_v119 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (ix2 p ⟨128 * g + d, by omega⟩) := by
  have e : (⟨p % 128, by omega⟩ : Fin 128) = s := Fin.ext (by show (p : ℕ) % 128 = s; omega)
  have hq : ∀ q : Fin 128, ((⟨128 * ((p : ℕ) / 128) + q, by omega⟩ : Fin 8192) : ℕ) = 1024 * t + (⟨128 * a + q, by omega⟩ : Fin 1024) :=
    fun q => by show 128 * ((p : ℕ) / 128) + q = 1024 * t + (128 * a + q); omega
  rw [Cert.PreERef.result_gate]
  refine (out_gate _ _ _ _ _ _ _ _ _ a s g d).trans ?_
  unfold Cert.PreERef.gateOf
  rw [row_read m c t ⟨128 * a + s, by omega⟩ p hp, e]
  simp only [fun q : Fin 128 => row_read m c t ⟨128 * a + q, by omega⟩ ⟨128 * ((p : ℕ) / 128) + q, by omega⟩ (hq q), bias_read, matrix_read,
    vgain_read]

theorem gate_point (r : Fin 1024) (n : Fin 512) (p : Fin 8192) (hp : (p : ℕ) = 1024 * t + r) :
    out0_11 (F := Ideal) (iblk m c 0 t) (iblk m c 1 t) (iblk m c 2 t) (iblk m c 3 t) (iblk m c 4 t) (iblk m c 5 t) (iblk m c 6 t) (iblk m c 7 t) (iblk m c 8 t) (ix2 r n)
      = Cert.PreEvenRefIdeal.Read.val_main_v119 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (ix2 p n) := by
  have h := gate_cell m c t ⟨r / 128, by omega⟩ ⟨r % 128, by omega⟩ ⟨n / 128, by omega⟩ ⟨n % 128, by omega⟩ p
    (hp.trans (congrArg _ (Nat.div_add_mod (r : ℕ) 128).symm))
  simpa only [Nat.div_add_mod] using h

/-- The final queries. -/
theorem final_q : (dats m 0 c).arrAt 9 cfg0.N = Cert.PreEvenRefIdeal.Read.val_main_v115 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 9 _ (by decide +kernel) fun t _ y => ?_
  blk_simp
  rw [after0_9]
  have ht : (t : ℕ) < 8 := N_0 ▸ t.isLt
  have h₀ : (y 0 : ℕ) < 1024 := (y 0).isLt
  have h₁ : (y 1 : ℕ) < 512 := (y 1).isLt
  refine Eq.trans ?_ ((q_point m c t ⟨y 0, h₀⟩ ⟨y 1, h₁⟩ ⟨1024 * t + y 0, by omega⟩ rfl).trans ?_)
  · refine congrArg _ ?_
    blk_ext []
  · refine congrArg _ ?_
    blk_ext [idx t]

/-- The final keys. -/
theorem final_k : (dats m 0 c).arrAt 10 cfg0.N = Cert.PreEvenRefIdeal.Read.val_main_v117 (F := Ideal) (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 10 _ (by decide +kernel) fun t _ y => ?_
  blk_simp
  rw [after0_10]
  have ht : (t : ℕ) < 8 := N_0 ▸ t.isLt
  have h₀ : (y 0 : ℕ) < 1024 := (y 0).isLt
  have h₁ : (y 1 : ℕ) < 128 := (y 1).isLt
  refine Eq.trans ?_ ((k_point m c t ⟨y 0, h₀⟩ ⟨y 1, h₁⟩ ⟨1024 * t + y 0, by omega⟩ rfl).trans ?_)
  · refine congrArg _ ?_
    blk_ext []
  · refine congrArg _ ?_
    blk_ext [idx t]

/-- The final gate. -/
theorem final_gate : (dats m 0 c).arrAt 11 cfg0.N = Cert.PreEvenRefIdeal.Read.val_main_v119 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) := by
  refine (dats m 0 c).arrAt_eq_of_covers 11 _ (by decide +kernel) fun t _ y => ?_
  blk_simp
  rw [after0_11]
  have ht : (t : ℕ) < 8 := N_0 ▸ t.isLt
  have h₀ : (y 0 : ℕ) < 1024 := (y 0).isLt
  have h₁ : (y 1 : ℕ) < 512 := (y 1).isLt
  refine Eq.trans ?_ ((gate_point m c t ⟨y 0, h₀⟩ ⟨y 1, h₁⟩ ⟨1024 * t + y 0, by omega⟩ rfl).trans ?_)
  · refine congrArg _ ?_
    blk_ext []
  · refine congrArg _ ?_
    blk_ext [idx t]

/-- The keys of every sequence, columns first: what the fourth result's array holds. -/
def turnedKeys : S32x128x256.Idx → EReal := fun i =>
  headNorm 28 rfl (Cert.PreERef.token (m ((c.tc : Thread nD τ).loc main_arg0)) (m ((c.tc : Thread nD τ).loc main_arg1)) (m ((c.tc : Thread nD τ).loc main_arg2)) ⟨256 * (i 0).val + (i 2).val, by
      have h₀ : (i 0).val < 32 := (i 0).isLt
      have h₂ : (i 2).val < 256 := (i 2).isLt
      omega⟩) ⟨512 + (i 1).val, by
      have h₁ : (i 1).val < 128 := (i 1).isLt
      omega⟩
    * (m ((c.tc : Thread nD τ).loc main_arg4) (ix2 0 ⟨(i 1).val % 64, by omega⟩) : EReal)

/-- The values of every sequence, columns first: what the fifth result's array holds. -/
def turnedValues : S32x128x256.Idx → EReal := fun i =>
  Cert.PreERef.token (m ((c.tc : Thread nD τ).loc main_arg0)) (m ((c.tc : Thread nD τ).loc main_arg1)) (m ((c.tc : Thread nD τ).loc main_arg2)) ⟨256 * (i 0).val + (i 2).val, by
      have h₀ : (i 0).val < 32 := (i 0).isLt
      have h₂ : (i 2).val < 256 := (i 2).isLt
      omega⟩ ⟨640 + (i 1).val, by
      have h₁ : (i 1).val < 128 := (i 1).isLt
      omega⟩

theorem kf_point (b : Fin 4) (n : Fin 128) (s : Fin 256) (q : Fin 32) (hq : (q : ℕ) = 4 * t + b) :
    out0_12 (F := Ideal) (iblk m c 0 t) (iblk m c 1 t) (iblk m c 2 t) (iblk m c 3 t) (iblk m c 4 t) (iblk m c 5 t) (iblk m c 6 t) (iblk m c 7 t) (iblk m c 8 t) (ix3 b n s) = turnedKeys m c (ix3 q n s) := by
  refine (out_kf _ _ _ _ _ _ _ _ _ (table_read m c t) b n s).trans ?_
  unfold kAt
  rw [row_read m c t _ ⟨256 * q + s, by omega⟩ (by show 256 * (q : ℕ) + s = 1024 * t + (256 * b + s); omega), kgain_read]
  rfl

theorem vf_point (b : Fin 4) (n : Fin 128) (s : Fin 256) (q : Fin 32) (hq : (q : ℕ) = 4 * t + b) :
    out0_13 (F := Ideal) (iblk m c 0 t) (iblk m c 1 t) (iblk m c 2 t) (iblk m c 3 t) (iblk m c 4 t) (iblk m c 5 t) (iblk m c 6 t) (iblk m c 7 t) (iblk m c 8 t) (ix3 b n s) = turnedValues m c (ix3 q n s) := by
  refine (out_vf _ _ _ _ _ _ _ _ _ b n s).trans ?_
  unfold vAt
  rw [row_read m c t _ ⟨256 * q + s, by omega⟩ (by show 256 * (q : ℕ) + s = 1024 * t + (256 * b + s); omega)]
  rfl

theorem final_kf : (dats m 0 c).arrAt 12 cfg0.N = turnedKeys m c := by
  refine (dats m 0 c).arrAt_eq_of_covers 12 _ (by decide +kernel) fun t _ y => ?_
  blk_simp
  rw [after0_12]
  have ht : (t : ℕ) < 8 := N_0 ▸ t.isLt
  have h₀ : (y 0 : ℕ) < 4 := (y 0).isLt
  have h₁ : (y 1 : ℕ) < 128 := (y 1).isLt
  have h₂ : (y 2 : ℕ) < 256 := (y 2).isLt
  refine Eq.trans ?_ ((kf_point m c t ⟨y 0, h₀⟩ ⟨y 1, h₁⟩ ⟨y 2, h₂⟩ ⟨4 * t + y 0, by omega⟩ rfl).trans ?_)
  · refine congrArg _ ?_
    blk_ext []
  · refine congrArg _ ?_
    blk_ext [idx t]

theorem final_vf : (dats m 0 c).arrAt 13 cfg0.N = turnedValues m c := by
  refine (dats m 0 c).arrAt_eq_of_covers 13 _ (by decide +kernel) fun t _ y => ?_
  blk_simp
  rw [after0_13]
  have ht : (t : ℕ) < 8 := N_0 ▸ t.isLt
  have h₀ : (y 0 : ℕ) < 4 := (y 0).isLt
  have h₁ : (y 1 : ℕ) < 128 := (y 1).isLt
  have h₂ : (y 2 : ℕ) < 256 := (y 2).isLt
  refine Eq.trans ?_ ((vf_point m c t ⟨y 0, h₀⟩ ⟨y 1, h₁⟩ ⟨y 2, h₂⟩ ⟨4 * t + y 0, by omega⟩ rfl).trans ?_)
  · refine congrArg _ ?_
    blk_ext []
  · refine congrArg _ ?_
    blk_ext [idx t]

/-- The fourth result is the reference's: the program turns its keys back to positions first. -/
theorem keys_back : broadcastInDim S32x1x256x2x64 ![0, 2, 3, 4] bcast_S32x256x2x64_S32x1x256x2x64_0_2_3_4
      (transpose S32x256x2x64 [0, 3, 1, 2] (shapeCast S32x2x64x256 (turnedKeys m c) shapeCasts_S32x128x256_S32x2x64x256)
        transposes_S32x2x64x256_S32x256x2x64_0_3_1_2)
      = Cert.PreEvenRefIdeal.Read.val_main_v120 (F := Ideal) (m ((c.tc : Thread nD τ).loc main_arg0)) (m ((c.tc : Thread nD τ).loc main_arg1)) (m ((c.tc : Thread nD τ).loc main_arg2)) (m ((c.tc : Thread nD τ).loc main_arg4)) := by
  funext i
  obtain ⟨b, u, s, g, d, rfl⟩ : ∃ (b : Fin 32) (u : Fin 1) (s : Fin 256) (g : Fin 2) (d : Fin 64), i = ix5 b u s g d :=
    ⟨i 0, i 1, i 2, i 3, i 4, by funext a; fin_cases a <;> rfl⟩
  have e₁ : (g : ℕ) * 64 + d = 64 * g + d := by omega
  have e₂ : (64 * (g : ℕ) + d) % 64 = d := by omega
  have h := Cert.PreERef.key_scaled (m ((c.tc : Thread nD τ).loc main_arg0)) (m ((c.tc : Thread nD τ).loc main_arg1))
    (m ((c.tc : Thread nD τ).loc main_arg2)) (m ((c.tc : Thread nD τ).loc main_arg4)) b s g d
  pointwise [Cert.PreEvenRefIdeal.Read.val_main_v120]
  refine Eq.trans ?_ h.symm
  unfold turnedKeys
  show headNorm 28 rfl _ ⟨512 + ((g : ℕ) * 64 + d), _⟩ * m ((c.tc : Thread nD τ).loc main_arg4) (ix2 0 ⟨((g : ℕ) * 64 + d) % 64, _⟩) = _
  simp only [e₁, e₂]
  rfl

/-- The fifth result is the reference's. -/
theorem values_back : broadcastInDim S32x1x256x2x64 ![0, 2, 3, 4] bcast_S32x256x2x64_S32x1x256x2x64_0_2_3_4
      (transpose S32x256x2x64 [0, 3, 1, 2] (shapeCast S32x2x64x256 (turnedValues m c) shapeCasts_S32x128x256_S32x2x64x256)
        transposes_S32x2x64x256_S32x256x2x64_0_3_1_2)
      = Cert.PreEvenRefIdeal.Read.val_main_v121 (F := Ideal) (m ((c.tc : Thread nD τ).loc main_arg0))
          (m ((c.tc : Thread nD τ).loc main_arg1)) (m ((c.tc : Thread nD τ).loc main_arg2)) := by
  funext i
  obtain ⟨b, u, s, g, d, rfl⟩ : ∃ (b : Fin 32) (u : Fin 1) (s : Fin 256) (g : Fin 2) (d : Fin 64), i = ix5 b u s g d :=
    ⟨i 0, i 1, i 2, i 3, i 4, by funext a; fin_cases a <;> rfl⟩
  have e₁ : (g : ℕ) * 64 + d = 64 * g + d := by omega
  have h := Cert.PreERef.value_apply (m ((c.tc : Thread nD τ).loc main_arg0)) (m ((c.tc : Thread nD τ).loc main_arg1))
    (m ((c.tc : Thread nD τ).loc main_arg2)) b s g d
  pointwise [Cert.PreEvenRefIdeal.Read.val_main_v121]
  refine Eq.trans ?_ h.symm
  unfold turnedValues
  show Cert.PreERef.token _ _ _ _ ⟨640 + ((g : ℕ) * 64 + d), _⟩ = _
  simp only [e₁]
  rfl

/-- What the program returns fourth is the reference's keys. -/
theorem fourth_result : afterTail₀ cfgs (dats m) 0 (V0 m) [hostOps1] c main_v26
      = Cert.PreEvenRefIdeal.Read.val_main_v120 (F := Ideal) (m ((c.tc : Thread nD τ).loc main_arg0)) (m ((c.tc : Thread nD τ).loc main_arg1)) (m ((c.tc : Thread nD τ).loc main_arg2)) (m ((c.tc : Thread nD τ).loc main_arg4)) := by
  have e : withArrays (cfgs 0).spec c (V0 m c) (fun w => (dats m 0 c).arrAt w (cfgs 0).N) (Proc.devRef .tc main_v21_3)
      = (dats m 0 c).arrAt 12 cfg0.N := withArrays_arr spec0 launch0.win.arr_inj c (V0 m c) _ 12
  rw [← keys_back, ← final_kf]
  unfold afterTail₀
  simp only [hostOps1, List.flatten_cons, List.flatten_nil, List.append_nil, List.cons_append, List.nil_append]
  after_results
  rw [e]
  rfl

/-- What the program returns fifth is the reference's values. -/
theorem fifth_result : afterTail₀ cfgs (dats m) 0 (V0 m) [hostOps1] c main_v27
      = Cert.PreEvenRefIdeal.Read.val_main_v121 (F := Ideal) (m ((c.tc : Thread nD τ).loc main_arg0)) (m ((c.tc : Thread nD τ).loc main_arg1)) (m ((c.tc : Thread nD τ).loc main_arg2)) := by
  have e : withArrays (cfgs 0).spec c (V0 m c) (fun w => (dats m 0 c).arrAt w (cfgs 0).N) (Proc.devRef .tc main_v21_4)
      = (dats m 0 c).arrAt 13 cfg0.N := withArrays_arr spec0 launch0.win.arr_inj c (V0 m c) _ 13
  rw [← values_back, ← final_vf]
  unfold afterTail₀
  simp only [hostOps1, List.flatten_cons, List.flatten_nil, List.append_nil, List.cons_append, List.nil_append]
  after_results
  rw [e]
  rfl

end Cert.PreE
end
-- ==== Proof.PreEven.Claim.lean ====
/-
  The claims of the even layer's projections over the context tokens: the runs leave the arguments unchanged, and the five results
  are the reference's.
-/
module

public import proofs.«01_k».proof.Defs
public import proofs.«01_k».proof.Proof.Gen.PreEven.Frame
public import proofs.«01_k».proof.Proof.Gen.PreEvenRefIdeal.Run
public import proofs.«01_k».proof.Proof.PreEven.Equation
public import Idealize.ShloMosaic.Lib.Claim
public import Idealize.ShloMosaic.Adequacy
public import Idealize.ShloMosaic.Init

@[expose] public section

set_option maxRecDepth 16384

noncomputable section

namespace Cert.PreE

open Idealize.ShloMosaic Idealize.SL.Sem

theorem frame_p : Cert.quiescent_PreEven (hPreEven := Cert.PreEven.Gen.facts) :=
  fun m ρ _ => Cert.PreEven.Gen.frame m ρ

theorem frame_pi : Cert.quiescent_PreEvenIdeal (hPreEvenIdeal := Cert.PreEvenIdeal.Gen.facts) :=
  fun m ρ _ => Cert.PreEvenIdeal.Gen.frame m ρ

theorem frame_ri : Cert.quiescent_PreEvenRefIdeal (hPreEvenRefIdeal := Cert.PreEvenRefIdeal.Gen.facts) := fun m ρ _ =>
  (θ_run Cert.PreEvenRefIdeal.defs _ _).mono
    (fun r h => ⟨fun c => (h c).2.2.2.2.2, Idealize.ShloMosaic.sem_eq_zero_of_no_sems (by decide) r.2⟩)
    (Cert.PreEvenRefIdeal.Value.run (F := Ideal) m ρ)

theorem algebraic : Cert.algebraic_PreEvenIdeal_PreEvenRefIdeal (hPreEvenIdeal := Cert.PreEvenIdeal.Gen.facts)
    (hPreEvenRefIdeal := Cert.PreEvenRefIdeal.Gen.facts) := by
  intro m ρ m' ρ' _ hagree
  refine ⟨fun c => Cert.PreEvenRefIdeal.Read.val_main_v115 (F := Ideal) (m ((c.tc : Thread _ _).loc Cert.PreEvenIdeal.main_arg0)) (m ((c.tc : Thread _ _).loc Cert.PreEvenIdeal.main_arg1)) (m ((c.tc : Thread _ _).loc Cert.PreEvenIdeal.main_arg2)) (m ((c.tc : Thread _ _).loc Cert.PreEvenIdeal.main_arg3)),
    fun c => Cert.PreEvenRefIdeal.Read.val_main_v117 (F := Ideal) (m ((c.tc : Thread _ _).loc Cert.PreEvenIdeal.main_arg0)) (m ((c.tc : Thread _ _).loc Cert.PreEvenIdeal.main_arg1)) (m ((c.tc : Thread _ _).loc Cert.PreEvenIdeal.main_arg2)) (m ((c.tc : Thread _ _).loc Cert.PreEvenIdeal.main_arg4)),
    fun c => Cert.PreEvenRefIdeal.Read.val_main_v119 (F := Ideal) (m ((c.tc : Thread _ _).loc Cert.PreEvenIdeal.main_arg0)) (m ((c.tc : Thread _ _).loc Cert.PreEvenIdeal.main_arg1)) (m ((c.tc : Thread _ _).loc Cert.PreEvenIdeal.main_arg2)) (m ((c.tc : Thread _ _).loc Cert.PreEvenIdeal.main_arg5)) (m ((c.tc : Thread _ _).loc Cert.PreEvenIdeal.main_arg6)) (m ((c.tc : Thread _ _).loc Cert.PreEvenIdeal.main_arg7)),
    fun c => Cert.PreEvenRefIdeal.Read.val_main_v120 (F := Ideal) (m ((c.tc : Thread _ _).loc Cert.PreEvenIdeal.main_arg0)) (m ((c.tc : Thread _ _).loc Cert.PreEvenIdeal.main_arg1)) (m ((c.tc : Thread _ _).loc Cert.PreEvenIdeal.main_arg2)) (m ((c.tc : Thread _ _).loc Cert.PreEvenIdeal.main_arg4)),
    fun c => Cert.PreEvenRefIdeal.Read.val_main_v121 (F := Ideal) (m ((c.tc : Thread _ _).loc Cert.PreEvenIdeal.main_arg0)) (m ((c.tc : Thread _ _).loc Cert.PreEvenIdeal.main_arg1)) (m ((c.tc : Thread _ _).loc Cert.PreEvenIdeal.main_arg2)), ?_, ?_⟩
  · refine (θ_run Cert.PreEvenIdeal.defs _ _).mono (fun r h c => ⟨?_, ?_, ?_, ?_, ?_, h.2.1 c⟩)
      (θ_run_and (Cert.PreEvenIdeal.Gen.run_main m ρ) (Cert.PreEvenIdeal.Gen.frame m ρ))
    · exact ((h.1 c).1 9).trans (final_q m c)
    · exact ((h.1 c).1 10).trans (final_k m c)
    · exact ((h.1 c).1 11).trans (final_gate m c)
    · exact ((h.1 c).2 Cert.PreEvenIdeal.main_v26 (Pipeline.mem_restRefs_of _ (by decide) (by decide))).trans (fourth_result m c)
    · exact ((h.1 c).2 Cert.PreEvenIdeal.main_v27 (Pipeline.mem_restRefs_of _ (by decide) (by decide))).trans (fifth_result m c)
  · refine (θ_run Cert.PreEvenRefIdeal.defs _ _).mono (fun _ h c => ?_) (Cert.PreEvenRefIdeal.Value.run (F := Ideal) m' ρ')
    obtain ⟨h₀, h₁, h₂, h₃, h₄, h₅, h₆, h₇⟩ := hagree c
    refine ⟨(h c).1.trans ?_, (h c).2.1.trans ?_, (h c).2.2.1.trans ?_, (h c).2.2.2.1.trans ?_, (h c).2.2.2.2.1.trans ?_,
      (h c).2.2.2.2.2⟩
    · rw [Cert.PreEvenRefIdeal.Read.val_main_v115_eq, h₀, h₁, h₂, h₃]
    · rw [Cert.PreEvenRefIdeal.Read.val_main_v117_eq, h₀, h₁, h₂, h₄]
    · rw [Cert.PreEvenRefIdeal.Read.val_main_v119_eq, h₀, h₁, h₂, h₅, h₆, h₇]
    · rw [Cert.PreEvenRefIdeal.Read.val_main_v120_eq, h₀, h₁, h₂, h₄]
    · rw [Cert.PreEvenRefIdeal.Read.val_main_v121_eq, h₀, h₁, h₂]

end Cert.PreE

end
-- ==== Proof.PreOdd.Rows.lean ====
/-
  The stored tiles of the projections, read at an index: the body's two halves of 512 rows.
-/
module

public import proofs.«01_k».proof.Proof.Gen.PreOddIdeal.Frame
public import proofs.«01_k».proof.Proof.Pre.Spec
public import proofs.«01_k».proof.Proof.Post.Rows

@[expose] public section

set_option maxRecDepth 16384

noncomputable section

namespace Cert.PreO

open Cert.PreOddIdeal Cert.PreOddIdeal.Gen Idealize.ShloMosaic Idealize.ShloMosaic.TcCoe Idealize.SL.Sem Cert.Ffn Cert.Pre

/-- Row `r` of a tile projected, from the block's modulation, rows and weight. -/
def row {R : ℕ} (md : FVec Ideal S1x1x6x1024 .f32) (x : FVec Ideal ⟨2, ![R, 1024]⟩ .f32) (w : FVec Ideal S1024x1536 .bf16)
    (r : Fin R) : Fin 1536 → EReal :=
  proj (fun k => md (ix4 0 0 1 k)) (fun k => md (ix4 0 0 0 k)) (fun k => x (ix2 r k)) (fun k n => w (ix2 k n))

/-- The table holds 1/64 within a group of 64 and zero outside. -/
def IsTable (tb : FVec Ideal S256x256 .bf16) : Prop :=
  ∀ k j : Fin 256, tb (ix2 k j) = if (k : ℕ) / 64 = j / 64 then Ideal.ofBits .bf16 0x3C80#16 else 0

section halves

variable (md : FVec Ideal S1x1x6x1024 .f32) (x : FVec Ideal S512x1024 .f32) (w : FVec Ideal S1024x1536 .bf16)
  (tb : FVec Ideal S256x256 .bf16) (r : Fin 512)

theorem lower_proj (n : Fin 1536) : k0_pay2 (F := Ideal) md x w (ix2 r n) = row md x w r n := by
  pointwise [k0_pay2, k0_pay1]
  rfl

theorem upper_proj (n : Fin 1536) :
    k0_pay17 (F := Ideal) (k0_pay16 (k0_pay1 md) x) w (ix2 r n) = row md x w r n := by
  pointwise [k0_pay17, k0_pay16, k0_pay1]
  rfl

/-- A stretch of 256 columns from `64 · o`, normalised by groups. -/
theorem slab (hT : IsTable tb) (z : Fin 1536 → EReal) (o : ℕ) (ho : 64 * o + 256 ≤ 1536) (j : Fin 256) :
    z ⟨64 * o + j, by omega⟩ * Ideal.rsqrt ((∑ k : Fin 256, z ⟨64 * o + k, by omega⟩ * z ⟨64 * o + k, by omega⟩ * tb (ix2 k j))
        + Ideal.ofBits .f32 0x358637BD#32)
      = headNorm 24 rfl z ⟨64 * o + j, by omega⟩ :=
  headNorm_table 24 rfl z 4 rfl o ho (fun k => tb (ix2 k j)) j fun k => hT k j

theorem lower_k (hT : IsTable tb) (z : FVec Ideal S512x1536 .f32) (g : FVec Ideal S1x256 .f32) (c : Fin 256) :
    k0_pay8 (F := Ideal) tb z g (ix2 r c)
      = headNorm 24 rfl (fun n => z (ix2 r n)) ⟨1024 + c, by omega⟩ * g (ix2 0 c) := by
  rw [← slab tb hT (fun n => z (ix2 r n)) 16 (by omega) c]
  pointwise [k0_pay8]

theorem upper_k (hT : IsTable tb) (h : FVec Ideal S512x1024 .bf16) (g : FVec Ideal S1x256 .f32) (c : Fin 256) :
    k0_pay22 (F := Ideal) (k0_pay20 h w) (k0_pay21 tb h w) (Scalar.ofBits .f32 0x358637BD#32) g (ix2 r c)
      = headNorm 24 rfl (fun n => k0_pay17 (F := Ideal) h w (ix2 r n)) ⟨1024 + c, by omega⟩ * g (ix2 0 c) := by
  rw [← slab tb hT (fun n => k0_pay17 (F := Ideal) h w (ix2 r n)) 16 (by omega) c]
  generalize hz : k0_pay17 (F := Ideal) h w = z
  pointwise [k0_pay22, k0_pay20, k0_pay21, hz]

theorem lower_q (hT : IsTable tb) (g : FVec Ideal S1x1024 .f32) (a : Fin 4) (c : Fin 256) :
    k0_pay9 (F := Ideal) tb (k0_pay4 md x w) (k0_pay5 md tb x w) (k0_pay6 md x w) (k0_pay7 md tb x w)
        (Scalar.ofBits .f32 0x358637BD#32) g (ix2 r ⟨256 * a + c, by omega⟩)
      = headNorm 24 rfl (fun n => k0_pay2 (F := Ideal) md x w (ix2 r n)) ⟨256 * a + c, by omega⟩ * g (ix2 0 ⟨256 * a + c, by omega⟩) := by
  have h := slab tb hT (fun n => k0_pay2 (F := Ideal) md x w (ix2 r n)) (4 * a) (by omega) c
  have e : ∀ n : ℕ, 64 * (4 * (a : ℕ)) + n = 256 * a + n := fun n => by omega
  simp only [e] at h
  rw [← h]
  generalize hz : k0_pay2 (F := Ideal) md x w = z
  pointwise [k0_pay9, k0_pay4, k0_pay5, k0_pay6, k0_pay7, hz]
  refine Ideal.mul_congr ?_ rfl
  obtain ha | ha | ha | ha : (a : ℕ) = 0 ∨ (a : ℕ) = 1 ∨ (a : ℕ) = 2 ∨ (a : ℕ) = 3 := by omega
  · rw [dif_pos (by omega)]
    simp only [ha, Nat.mul_zero, Nat.zero_add]
  · rw [dif_neg (by omega), dif_pos (by omega)]
    simp only [ha, Nat.mul_one, Nat.add_sub_cancel_left]
  · have hc : 256 * 2 + (c : ℕ) - 256 - 256 = c := by omega
    rw [dif_neg (by omega), dif_neg (by omega), dif_pos (by omega)]
    simp only [ha, hc]
  · have hc : 256 * 3 + (c : ℕ) - 256 - 256 - 256 = c := by omega
    rw [dif_neg (by omega), dif_neg (by omega), dif_neg (by omega)]
    simp only [ha, hc]

theorem upper_q (hT : IsTable tb) (h : FVec Ideal S512x1024 .bf16) (g : FVec Ideal S1x1024 .f32) (a : Fin 4) (c : Fin 256) :
    k0_pay23 (F := Ideal) (k0_pay19 tb h w g) (ix2 r ⟨256 * a + c, by omega⟩)
      = headNorm 24 rfl (fun n => k0_pay17 (F := Ideal) h w (ix2 r n)) ⟨256 * a + c, by omega⟩ * g (ix2 0 ⟨256 * a + c, by omega⟩) := by
  have h' := slab tb hT (fun n => k0_pay17 (F := Ideal) h w (ix2 r n)) (4 * a) (by omega) c
  have e : ∀ n : ℕ, 64 * (4 * (a : ℕ)) + n = 256 * a + n := fun n => by omega
  simp only [e] at h'
  rw [← h']
  generalize hz : k0_pay17 (F := Ideal) h w = z
  pointwise [k0_pay23, k0_pay19, hz]
  refine Ideal.mul_congr ?_ rfl
  obtain ha | ha | ha | ha : (a : ℕ) = 0 ∨ (a : ℕ) = 1 ∨ (a : ℕ) = 2 ∨ (a : ℕ) = 3 := by omega
  · rw [dif_pos (by omega)]
    simp only [ha, Nat.mul_zero, Nat.zero_add]
  · rw [dif_neg (by omega), dif_pos (by omega)]
    simp only [ha, Nat.mul_one, Nat.add_sub_cancel_left]
  · have hc : 256 * 2 + (c : ℕ) - 256 - 256 = c := by omega
    rw [dif_neg (by omega), dif_neg (by omega), dif_pos (by omega)]
    simp only [ha, hc]
  · have hc : 256 * 3 + (c : ℕ) - 256 - 256 - 256 = c := by omega
    rw [dif_neg (by omega), dif_neg (by omega), dif_neg (by omega)]
    simp only [ha, hc]

/-- One sequence of a half's columns, transposed. -/
theorem turned (o : ℕ) (ho : o + 256 ≤ 512) (z : FVec Ideal S512x256 .f32) (c s : Fin 256)
    (h : S512x256.Slices ![o, 0] S256x256) :
    shapeCast S1x256x256 (transpose S256x256 [1, 0] (extractStridedSlice S256x256 ![o, 0] z h)
      transposes_S256x256_p1_0_S256x256) shapeCasts_S256x256_S1x256x256 (ix3 0 c s) = z (ix2 ⟨o + s, by omega⟩ c) := by
  pointwise []

end halves

end Cert.PreO
end
-- ==== Proof.PreOdd.Tiles.lean ====
/-
  The stored tiles of the projections, read at an index: what a grid point leaves in its four results' buffers.
-/
module

public import proofs.«01_k».proof.Proof.PreOdd.Rows

@[expose] public section

set_option maxRecDepth 16384

noncomputable section

namespace Cert.PreO

open Cert.PreOddIdeal Cert.PreOddIdeal.Gen Idealize.ShloMosaic Idealize.ShloMosaic.TcCoe Idealize.SL.Sem Cert.Ffn Cert.Pre

section blocks

variable (x0 : Vec Ideal S1024x1024 .f32) (x1 : Vec Ideal S1x1x6x1024 .f32) (x2 : Vec Ideal S1024x1536 .bf16)
  (x3 : Vec Ideal S256x256 .bf16) (x4 : Vec Ideal S1x1024 .f32) (x5 : Vec Ideal S1x256 .f32)

theorem ld_md : View.ld x1 r0_0 = x1 :=
  View.ld_unit_zero (by funext a; fin_cases a <;> rfl) _ _
theorem ld_weight : View.ld x2 r0_3 = x2 :=
  View.ld_unit_zero (by funext a; fin_cases a <;> rfl) _ _
theorem ld_table : View.ld x3 r0_1 = x3 :=
  View.ld_unit_zero (by funext a; fin_cases a <;> rfl) _ _
theorem ld_qgain : View.ld x4 r0_4 = x4 :=
  View.ld_unit_zero (by funext a; fin_cases a <;> rfl) _ _
theorem ld_kgain : View.ld x5 r0_5 = x5 :=
  View.ld_unit_zero (by funext a; fin_cases a <;> rfl) _ _

/-- The two halves of a tile's rows. -/
def lower : FVec Ideal S512x1024 .f32 := View.ld x0 r0_2
@[inherit_doc lower]
def upper : FVec Ideal S512x1024 .f32 := View.ld x0 r0_9

theorem lower_eq : View.ld x0 r0_2 = lower x0 := rfl
theorem upper_eq : View.ld x0 r0_9 = upper x0 := rfl

theorem row_lower (r : Fin 512) : row x1 (lower x0) x2 r = row x1 x0 x2 ⟨r, by omega⟩ := by
  funext n
  pointwise [row, lower]

theorem row_upper (r : Fin 512) : row x1 (upper x0) x2 r = row x1 x0 x2 ⟨512 + r, by omega⟩ := by
  funext n
  pointwise [row, upper]

/-- The four results of row `r` of a tile. -/
def qAt (r n : Fin 1024) : EReal := headNorm 24 rfl (row x1 x0 x2 r) ⟨n, by omega⟩ * x4 (ix2 0 n)
@[inherit_doc qAt]
def kAt (r : Fin 1024) (c : Fin 256) : EReal := headNorm 24 rfl (row x1 x0 x2 r) ⟨1024 + c, by omega⟩ * x5 (ix2 0 c)
@[inherit_doc qAt]
def vAt (r : Fin 1024) (c : Fin 256) : EReal := row x1 x0 x2 r ⟨1280 + c, by omega⟩

theorem col (n : Fin 1024) : ∃ (a : Fin 4) (c : Fin 256), n = ⟨256 * a + c, by omega⟩ :=
  ⟨⟨n / 256, by omega⟩, ⟨n % 256, by omega⟩, Fin.ext (Nat.div_add_mod _ _).symm⟩

theorem out_q (hT : IsTable x3) (r n : Fin 1024) : out0_6 (F := Ideal) x0 x1 x2 x3 x4 x5 (ix2 r n) = qAt x0 x1 x2 x4 r n := by
  unfold_out out0_6
  rw [ld_md, ld_weight, ld_table, ld_qgain, lower_eq, upper_eq]
  refine Cert.Post2.stacked (e := .bf16) (R := 1024) (A := 512) (B := 512) (C := 1024) rfl _ _ _ _ (qAt x0 x1 x2 x4) (fun r n => ?_) (fun r n => ?_) r n
  · obtain ⟨a, c, rfl⟩ := col n
    refine (upper_q x2 x3 r hT _ x4 a c).trans ?_
    unfold qAt
    simp only [upper_proj, row_upper]
  · obtain ⟨a, c, rfl⟩ := col n
    refine (lower_q x1 _ x2 x3 r hT x4 a c).trans ?_
    unfold qAt
    simp only [lower_proj, row_lower]

theorem upper_kv (hT : IsTable x3) (r : Fin 512) (c : Fin 256) :
    k0_pay22 (F := Ideal) (k0_pay33 x0 x1 x2 x3 x4 x5) (k0_pay34 x0 x1 x2 x3 x4 x5) (Scalar.ofBits .f32 0x358637BD#32)
      (View.ld x5 r0_5) (ix2 r c) = kAt x0 x1 x2 x5 ⟨512 + r, by omega⟩ c := by
  unfold k0_pay33 k0_pay34 k0_pay31
  rw [ld_md, ld_weight, ld_table, ld_kgain, upper_eq]
  refine (upper_k x2 x3 r hT _ x5 c).trans ?_
  unfold kAt
  simp only [upper_proj, row_upper]

theorem lower_kv (hT : IsTable x3) (r : Fin 512) (c : Fin 256) :
    k0_pay8 (F := Ideal) (View.ld x3 r0_1) (k0_pay29 x0 x1 x2 x3 x4 x5) (View.ld x5 r0_5) (ix2 r c)
      = kAt x0 x1 x2 x5 ⟨r, by omega⟩ c := by
  unfold k0_pay29
  rw [ld_md, ld_weight, ld_table, ld_kgain, lower_eq]
  refine (lower_k x3 r hT _ x5 c).trans ?_
  unfold kAt
  simp only [lower_proj, row_lower]

theorem upper_v (r : Fin 512) (c : Fin 256) :
    k0_pay32 (F := Ideal) x0 x1 x2 x3 x4 x5 (ix2 r c) = vAt x0 x1 x2 ⟨512 + r, by omega⟩ c := by
  unfold k0_pay32 k0_pay31
  rw [ld_md, ld_weight, upper_eq]
  unfold vAt
  rw [← row_upper, ← upper_proj]
  pointwise [k0_pay18]

theorem lower_v (r : Fin 512) (c : Fin 256) :
    k0_pay30 (F := Ideal) x0 x1 x2 x3 x4 x5 (ix2 r c) = vAt x0 x1 x2 ⟨r, by omega⟩ c := by
  unfold k0_pay30
  rw [ld_md, ld_weight, lower_eq]
  unfold vAt
  rw [← row_lower, ← lower_proj]
  pointwise [k0_pay3]

theorem out_k (hT : IsTable x3) (r : Fin 1024) (c : Fin 256) :
    out0_7 (F := Ideal) x0 x1 x2 x3 x4 x5 (ix2 r c) = kAt x0 x1 x2 x5 r c := by
  unfold out0_7
  refine Cert.Post2.stacked (e := .bf16) (R := 1024) (A := 512) (B := 512) (C := 256) rfl _ _ _ _ (kAt x0 x1 x2 x5) (fun r c => ?_) (fun r c => ?_) r c
  · exact upper_kv x0 x1 x2 x3 x4 x5 hT r c
  · exact lower_kv x0 x1 x2 x3 x4 x5 hT r c

/-- A buffer of four sequences filled by four stores. -/
theorem four (p : Fin 4 → FVec Ideal S1x256x256 .f32) (G : Fin 4 → Fin 256 → Fin 256 → EReal)
    (hG : ∀ b c s, p b (ix3 0 c s) = G b c s) (b : Fin 4) (c s : Fin 256) :
    View.canon (Val := Elt Ideal) (e := .f32) [⟨r0_12, p 3⟩, ⟨r0_11, p 2⟩, ⟨r0_8, p 1⟩, ⟨r0_7, p 0⟩] (ix3 b c s) = G b c s := by
  refine View.canon_apply_of_pieces (Val := Elt Ideal) (e := .f32) (fun y : S4x256x256.Idx => G (y 0) (y 1) (y 2)) _ ?_
    (ix3 b c s) ?_
  · intro q hq y
    have key : ∀ (n : Fin 4) (y : S1x256x256.Idx), p n y = G n (y 1) (y 2) := fun n y => by
      refine Eq.trans (congrArg (p n) ?_) (hG n (y 1) (y 2))
      funext a
      match a with
      | ⟨0, _⟩ => exact Fin.ext (by have h : (y 0).val < 1 := (y 0).isLt; show (y 0).val = 0; omega)
      | ⟨1, _⟩ => rfl
      | ⟨2, _⟩ => rfl
    have cg : ∀ {a a' : Fin 4} {b b' c c' : Fin 256}, a = a' → b = b' → c = c' → G a b c = G a' b' c' := by
      rintro _ _ _ _ _ _ rfl rfl rfl
      rfl
    have one : ∀ (n : Fin 4) (y : S1x256x256.Idx)
        (y0 : Fin 4) (y1 y2 : Fin 256), (n : ℕ) = y0 → (y 1 : ℕ) = y1 → (y 2 : ℕ) = y2 → p n y = G y0 y1 y2 :=
      fun n y y0 y1 y2 h₀ h₁ h₂ => (key n y).trans (cg (Fin.ext h₀) (Fin.ext h₁) (Fin.ext h₂))
    have z : ∀ y : S1x256x256.Idx, (y 0).val = 0 := fun y => by have h : (y 0).val < 1 := (y 0).isLt; omega
    simp only [List.mem_cons, List.not_mem_nil, or_false] at hq
    rcases hq with rfl | rfl | rfl | rfl
    · exact one 3 y _ _ _ (by show 3 = 3 + 1 * (y 0).val; rw [z]) (by show (y 1).val = 0 + 1 * (y 1).val; omega)
        (by show (y 2).val = 0 + 1 * (y 2).val; omega)
    · exact one 2 y _ _ _ (by show 2 = 2 + 1 * (y 0).val; rw [z]) (by show (y 1).val = 0 + 1 * (y 1).val; omega)
        (by show (y 2).val = 0 + 1 * (y 2).val; omega)
    · exact one 1 y _ _ _ (by show 1 = 1 + 1 * (y 0).val; rw [z]) (by show (y 1).val = 0 + 1 * (y 1).val; omega)
        (by show (y 2).val = 0 + 1 * (y 2).val; omega)
    · exact one 0 y _ _ _ (by show 0 = 0 + 1 * (y 0).val; rw [z]) (by show (y 1).val = 0 + 1 * (y 1).val; omega)
        (by show (y 2).val = 0 + 1 * (y 2).val; omega)
  · exact cover0_8 _ _ _ _ _

theorem out_kf (hT : IsTable x3) (b : Fin 4) (c s : Fin 256) :
    out0_8 (F := Ideal) x0 x1 x2 x3 x4 x5 (ix3 b c s) = kAt x0 x1 x2 x5 ⟨256 * b + s, by omega⟩ c := by
  unfold out0_8
  refine four ![k0_pay12 (k0_pay11 (View.ld x3 r0_1) (k0_pay29 x0 x1 x2 x3 x4 x5) (View.ld x5 r0_5)),
    k0_pay14 (k0_pay8 (View.ld x3 r0_1) (k0_pay29 x0 x1 x2 x3 x4 x5) (View.ld x5 r0_5)),
    k0_pay25 (k0_pay33 x0 x1 x2 x3 x4 x5) (k0_pay34 x0 x1 x2 x3 x4 x5) (Scalar.ofBits .f32 0x358637BD#32) (View.ld x5 r0_5),
    k0_pay27 (k0_pay33 x0 x1 x2 x3 x4 x5) (k0_pay34 x0 x1 x2 x3 x4 x5) (Scalar.ofBits .f32 0x358637BD#32) (View.ld x5 r0_5)]
    (fun b c s => kAt x0 x1 x2 x5 ⟨256 * b + s, by omega⟩ c) (fun b c s => ?_) b c s
  match b with
  | 0 => exact (turned 0 (by omega) _ c s slices_S512x256_o0_0_S256x256).trans ((lower_kv x0 x1 x2 x3 x4 x5 hT _ c).trans (by simp))
  | 1 => exact (turned 256 (by omega) _ c s slices_S512x256_o256_0_S256x256).trans (lower_kv x0 x1 x2 x3 x4 x5 hT _ c)
  | 2 => exact (turned 0 (by omega) _ c s slices_S512x256_o0_0_S256x256).trans ((upper_kv x0 x1 x2 x3 x4 x5 hT _ c).trans (by simp))
  | 3 => exact (turned 256 (by omega) _ c s slices_S512x256_o256_0_S256x256).trans ((upper_kv x0 x1 x2 x3 x4 x5 hT _ c).trans
      (congrArg (kAt x0 x1 x2 x5 · c) (Fin.ext (by show 512 + (256 + (s : ℕ)) = 256 * 3 + s; omega))))

theorem out_vf (b : Fin 4) (c s : Fin 256) :
    out0_9 (F := Ideal) x0 x1 x2 x3 x4 x5 (ix3 b c s) = vAt x0 x1 x2 ⟨256 * b + s, by omega⟩ c := by
  unfold out0_9
  refine four ![k0_pay13 (k0_pay30 x0 x1 x2 x3 x4 x5), k0_pay15 (k0_pay30 x0 x1 x2 x3 x4 x5),
    k0_pay26 (k0_pay32 x0 x1 x2 x3 x4 x5), k0_pay28 (k0_pay32 x0 x1 x2 x3 x4 x5)]
    (fun b c s => vAt x0 x1 x2 ⟨256 * b + s, by omega⟩ c) (fun b c s => ?_) b c s
  match b with
  | 0 => exact (turned 0 (by omega) _ c s slices_S512x256_o0_0_S256x256).trans ((lower_v x0 x1 x2 x3 x4 x5 _ c).trans (by simp))
  | 1 => exact (turned 256 (by omega) _ c s slices_S512x256_o256_0_S256x256).trans (lower_v x0 x1 x2 x3 x4 x5 _ c)
  | 2 => exact (turned 0 (by omega) _ c s slices_S512x256_o0_0_S256x256).trans ((upper_v x0 x1 x2 x3 x4 x5 _ c).trans (by simp))
  | 3 => exact (turned 256 (by omega) _ c s slices_S512x256_o256_0_S256x256).trans ((upper_v x0 x1 x2 x3 x4 x5 _ c).trans
      (congrArg (vAt x0 x1 x2 · c) (Fin.ext (by show 512 + (256 + (s : ℕ)) = 256 * 3 + s; omega))))

end blocks

end Cert.PreO
end
-- ==== Proof.PreOdd.Ref.lean ====
/-
  The reference of the odd layer's projections over the context tokens, read at an index.
-/
module

public import proofs.«01_k».proof.Proof.Gen.PreOddRefIdeal.Run
public import proofs.«01_k».proof.Proof.Gen.PreOddRefIdeal.Read
public import proofs.«01_k».proof.Proof.Pre.Spec
public import Idealize.ShloMosaic.Lib.Pointwise
public import Idealize.ShloMosaic.Lib.Pipeline.ValueKit

@[expose] public section

set_option maxRecDepth 16384

noncomputable section

namespace Cert.PreORef

open Cert.PreOddRefIdeal Cert.PreOddRefIdeal.Gen Cert.PreOddRefIdeal.Read Idealize.ShloMosaic Idealize.ShloMosaic.TcCoe Idealize.SL.Sem Cert.Pre

variable (x : FVec Ideal S8192x1024 .f32) (md : FVec Ideal S2x16x6x1024 .f32) (w : FVec Ideal S1x1024x1536 .f32)
  (gq gk : FVec Ideal S1x64 .f32)

/-- The projection of token `p`. -/
def token (p : Fin 8192) : Fin 1536 → EReal :=
  proj (fun k => md (ix4 1 0 1 k)) (fun k => md (ix4 1 0 0 k)) (fun k => x (ix2 p k)) (fun k n => w (ix3 0 k n))

theorem normed_apply (b : Fin 32) (s : Fin 256) (c : Fin 1024) :
    val_main_v22 (F := Ideal) x md (ix3 b s c)
      = Cert.Ffn.normRow (fun k => md (ix4 1 0 1 k)) (fun k => md (ix4 1 0 0 k)) (fun k => x (ix2 ⟨256 * b + s, by omega⟩ k)) c := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [Nat.mul_comm 256]
  rfl

theorem proj_apply (b : Fin 32) (s : Fin 256) (n : Fin 1536) :
    val_main_v24 (F := Ideal) x md w (ix3 b s n) = token x md w ⟨256 * b + s, by omega⟩ n := by
  pointwise [val_main_v24, val_main_v23]
  simp only [normed_apply]
  rfl

theorem query_apply (b : Fin 32) (s : Fin 256) (g : Fin 16) (d : Fin 64) :
    val_main_v28 (F := Ideal) x md w (ix4 b s g d) = token x md w ⟨256 * b + s, by omega⟩ ⟨64 * g + d, by omega⟩ := by
  rw [← proj_apply]
  pointwise [val_main_v28, val_main_v25]
  blk_ext []

theorem key_apply (b : Fin 32) (s : Fin 256) (g : Fin 4) (d : Fin 64) :
    val_main_v45 (F := Ideal) x md w (ix4 b s g d) = token x md w ⟨256 * b + s, by omega⟩ ⟨1024 + (64 * g + d), by omega⟩ := by
  rw [← proj_apply]
  pointwise [val_main_v45, val_main_v26]
  blk_ext []

theorem value_apply (b : Fin 32) (s : Fin 256) (g : Fin 4) (d : Fin 64) :
    val_main_v60 (F := Ideal) x md w (ix4 b s g d) = token x md w ⟨256 * b + s, by omega⟩ ⟨1280 + (64 * g + d), by omega⟩ := by
  rw [← proj_apply]
  pointwise [val_main_v60, val_main_v27]
  blk_ext []

theorem query_scaled (b : Fin 32) (s : Fin 256) (g : Fin 16) (d : Fin 64) :
    val_main_v44 (F := Ideal) x md w gq (ix4 b s g d)
      = headNorm 24 rfl (token x md w ⟨256 * b + s, by omega⟩) ⟨64 * g + d, by omega⟩ * gq (ix2 0 d)
          * Ideal.ofBits .f32 0x3E38AA3B#32 := by
  pointwise [val_main_v44, val_main_v43, val_main_v42, val_main_v41, val_main_v40, val_main_v39, val_main_v38, val_main_v37, val_main_v36, val_main_v35, val_main_v34, val_main_v33, val_main_v32, val_main_v31, val_main_v30, val_main_v29, val_main_cst_3, val_main_cst_4, val_main_cst_5, val_main_cst_6]
  simp only [query_apply]
  unfold headNorm headSq mate
  have e : ∀ d' : Fin 64, 64 * ((64 * (g : ℕ) + d) / 64) + d' = 64 * g + d' := fun d' => by omega
  simp only [e]

theorem key_scaled (b : Fin 32) (s : Fin 256) (g : Fin 4) (d : Fin 64) :
    val_main_v59 (F := Ideal) x md w gk (ix4 b s g d)
      = headNorm 24 rfl (token x md w ⟨256 * b + s, by omega⟩) ⟨1024 + (64 * g + d), by omega⟩ * gk (ix2 0 d) := by
  pointwise [val_main_v59, val_main_v58, val_main_v57, val_main_v56, val_main_v55, val_main_v54, val_main_v53, val_main_v52, val_main_v51, val_main_v50, val_main_v49, val_main_v48, val_main_v47, val_main_v46, val_main_cst_7, val_main_cst_8, val_main_cst_9]
  simp only [key_apply]
  unfold headNorm headSq mate
  have e : ∀ d' : Fin 64, 64 * ((1024 + (64 * (g : ℕ) + d)) / 64) + d' = 1024 + (64 * g + d') := fun d' => by omega
  simp only [e]

theorem result_q (p : Fin 8192) (n : Fin 1024) :
    val_main_v62 (F := Ideal) x md w gq (ix2 p n)
      = headNorm 24 rfl (token x md w p) ⟨n, by omega⟩ * gq (ix2 0 ⟨n % 64, by omega⟩) * Ideal.ofBits .f32 0x3E38AA3B#32 := by
  have h := query_scaled x md w gq ⟨p / 256, by omega⟩ ⟨p % 256, by omega⟩ ⟨n / 64, by omega⟩ ⟨n % 64, by omega⟩
  simp only [Nat.div_add_mod] at h
  rw [← h]
  pointwise [val_main_v62, val_main_v61]
  blk_ext []

theorem result_k (p : Fin 8192) (n : Fin 256) :
    val_main_v64 (F := Ideal) x md w gk (ix2 p n)
      = headNorm 24 rfl (token x md w p) ⟨1024 + n, by omega⟩ * gk (ix2 0 ⟨n % 64, by omega⟩) := by
  have h := key_scaled x md w gk ⟨p / 256, by omega⟩ ⟨p % 256, by omega⟩ ⟨n / 64, by omega⟩ ⟨n % 64, by omega⟩
  simp only [Nat.div_add_mod] at h
  rw [← h]
  pointwise [val_main_v64, val_main_v63]
  blk_ext []

end Cert.PreORef
end
-- ==== Proof.PreOdd.Equation.lean ====
/-
  The final arrays of the odd layer's projections over the context tokens: each grid point reads its own 1024 tokens, four whole
  sequences, and the whole of the weights, the table and the gains.
-/
module

public import proofs.«01_k».proof.Proof.PreOdd.Tiles
public import proofs.«01_k».proof.Proof.PreOdd.Table
public import proofs.«01_k».proof.Proof.PreOdd.Ref
public import Idealize.ShloMosaic.Lib.Claim

@[expose] public section

set_option maxRecDepth 16384

noncomputable section

namespace Cert.PreO

open Idealize.ShloMosaic Idealize.ShloMosaic.Pointwise Idealize.ShloMosaic.Pipeline Idealize.SL.Sem
open Cert.PreOddIdeal Cert.PreOddIdeal.Gen Cert.Pre

variable (m : (ℓ : Loc nD τ sig) → Buf (Elt Ideal) ℓ) (c : Dev nD)

theorem idx : ∀ t : Fin cfg0.N, win0_0.index t = ![t.val, 0] ∧ win0_1.index t = ![1, 0, 0, 0]
    ∧ win0_2.index t = ![0, 0] ∧ win0_3.index t = ![0, 0] ∧ win0_4.index t = ![0, 0] ∧ win0_5.index t = ![0, 0]
    ∧ win0_6.index t = ![t.val, 0] ∧ win0_7.index t = ![t.val, 0] ∧ win0_8.index t = ![t.val, 0, 0]
    ∧ win0_9.index t = ![t.val, 0, 0] :=
  (by decide +kernel : ∀ t : Fin grid0.N, _)

variable (t : Fin cfg0.N)

theorem x_read (r : Fin 1024) (p : Fin 8192) (hp : (p : ℕ) = 1024 * t + r) (k : Fin 1024) :
    iblk m c 0 t (ix2 r k) = m ((c.tc : Thread nD τ).loc main_arg0) (ix2 p k) := by
  blk_ext [iblk, V, idx t]

theorem md_read (i : Fin 6) (k : Fin 1024) :
    iblk m c 1 t (ix4 0 0 i k) = m ((c.tc : Thread nD τ).loc main_arg1) (ix4 1 0 i k) := by
  blk_ext [iblk, V, idx t]

theorem weight_apply (x : FVec Ideal S1x1024x1536 .f32) (k : Fin 1024) (n : Fin 1536) :
    (truncf .bf16 (shapeCast S1024x1536 x shapeCasts_S1x1024x1536_S1024x1536) bitsLt_bf16_f32 : FVec Ideal S1024x1536 .bf16)
      (ix2 k n) = x (ix3 0 k n) := by
  pointwise []

theorem weight_read (k : Fin 1024) (n : Fin 1536) :
    iblk m c 2 t (ix2 k n) = m ((c.tc : Thread nD τ).loc main_arg2) (ix3 0 k n) := by
  unfold iblk
  entry_read
  exact (congrArg _ (show (win0_2.blk t).view.emb (ix2 k n) = ix2 k n by blk_ext [idx t])).trans (weight_apply _ _ _)

theorem ofBits_zero : Ideal.ofBits .bf16 0#16 = 0 := by
  simp [Ideal.ofBits, Ideal.ieee, -EReal.coe_mul]

theorem entry_apply (k j : Fin 256) :
    Ideal.ofBits .bf16 (lit0 (S256x256.rowMajor (ix2 k j)))
      = if (k : ℕ) / 64 = j / 64 then Ideal.ofBits .bf16 0x3C80#16 else 0 := by
  have h : ((S256x256.rowMajor (ix2 k j)) : ℕ) = 256 * k + j := by
    rw [Shape.rowMajor_val_two]
    show (k : ℕ) * 256 + j = _
    omega
  show Ideal.ofBits .bf16 (lit0t ((S256x256.rowMajor (ix2 k j)) : ℕ)) = _
  rw [h, table_entry]
  split_ifs
  · rfl
  · exact ofBits_zero

theorem table_entries : V m c main_cst = fun i => Ideal.ofBits .bf16 (lit0 (S256x256.rowMajor i)) := by
  entry_read
  rfl

theorem table_read : IsTable (iblk m c 3 t) := fun k j => by
  show V m c main_cst ((win0_3.blk t).view.emb (ix2 k j)) = _
  rw [show (win0_3.blk t).view.emb (ix2 k j) = ix2 k j by blk_ext [idx t], table_entries]
  exact entry_apply k j

/-- The queries' gain at column `n`, times the constant the attention takes the queries with. -/
def qGain (x : FVec Ideal S1x64 .f32) (n : Fin 1024) : EReal :=
  x (ix2 0 ⟨n % 64, by omega⟩) * Ideal.ofBits .f32 0x3E38AA3B#32

/-- The queries' gains, one for each column, as the program prepares them. -/
def tiledGain (x : FVec Ideal S1x64 .f32) : FVec Ideal S1x1024 .f32 :=
  mulf (broadcastInDim S1x1024 ![1] bcast_S1024_S1x1024_1 (shapeCast S1024 (broadcastInDim S16x64 ![0, 1] bcast_S1x64_S16x64_0_1
      (shapeCast S1x64 (shapeCast S64 x shapeCasts_S1x64_S64) shapeCasts_S64_S1x64)) shapeCasts_S16x64_S1024))
    (broadcastInDim S1x1024 ![] bcast_S_S1x1024 (constant S_ .f32 0x3E38AA3B#32))

theorem tiledGain_apply (x : FVec Ideal S1x64 .f32) (n : Fin 1024) : tiledGain x (ix2 0 n) = qGain x n := by
  pointwise [tiledGain]
  rfl

theorem tiledGain_entry : V m c main_v7 = tiledGain (m ((c.tc : Thread nD τ).loc main_arg3)) := by
  entry_read
  rfl

theorem qgain_read (n : Fin 1024) :
    iblk m c 4 t (ix2 0 n) = qGain (m ((c.tc : Thread nD τ).loc main_arg3)) n := by
  show V m c main_v7 ((win0_4.blk t).view.emb (ix2 0 n)) = _
  rw [tiledGain_entry]
  exact (congrArg (tiledGain _) (show (win0_4.blk t).view.emb (ix2 0 n) = ix2 0 n by blk_ext [idx t])).trans
    (tiledGain_apply _ n)

theorem kgain_apply (x : FVec Ideal S1x64 .f32) (n : Fin 256) :
    broadcastInDim S1x256 ![1] bcast_S256_S1x256_1 (shapeCast S256 (broadcastInDim S4x64 ![0, 1] bcast_S1x64_S4x64_0_1
      (shapeCast S1x64 (shapeCast S64 x shapeCasts_S1x64_S64) shapeCasts_S64_S1x64)) shapeCasts_S4x64_S256) (ix2 0 n)
      = x (ix2 0 ⟨n % 64, by omega⟩) := by
  pointwise []

theorem kgain_read (n : Fin 256) :
    iblk m c 5 t (ix2 0 n) = m ((c.tc : Thread nD τ).loc main_arg4) (ix2 0 ⟨n % 64, by omega⟩) := by
  unfold iblk
  entry_read
  exact (congrArg _ (show (win0_5.blk t).view.emb (ix2 0 n) = ix2 0 n by blk_ext [idx t])).trans (kgain_apply (m ((c.tc : Thread nD τ).loc main_arg4)) n)

theorem row_read (r : Fin 1024) (p : Fin 8192) (hp : (p : ℕ) = 1024 * t + r) :
    row (iblk m c 1 t) (iblk m c 0 t) (iblk m c 2 t) r = Cert.PreORef.token (m ((c.tc : Thread nD τ).loc main_arg0)) (m ((c.tc : Thread nD τ).loc main_arg1)) (m ((c.tc : Thread nD τ).loc main_arg2)) p := by
  funext n
  unfold row Cert.PreORef.token
  simp only [md_read m c t, weight_read m c t, x_read m c t r p hp]

theorem q_point (r n : Fin 1024) (p : Fin 8192) (hp : (p : ℕ) = 1024 * t + r) :
    out0_6 (F := Ideal) (iblk m c 0 t) (iblk m c 1 t) (iblk m c 2 t) (iblk m c 3 t) (iblk m c 4 t) (iblk m c 5 t) (ix2 r n)
      = Cert.PreOddRefIdeal.Read.val_main_v62 (F := Ideal) (m ((c.tc : Thread nD τ).loc main_arg0)) (m ((c.tc : Thread nD τ).loc main_arg1)) (m ((c.tc : Thread nD τ).loc main_arg2)) (m ((c.tc : Thread nD τ).loc main_arg3)) (ix2 p n) := by
  rw [Cert.PreORef.result_q]
  refine (out_q _ _ _ _ _ _ (table_read m c t) r n).trans ?_
  unfold qAt
  rw [row_read m c t r p hp, qgain_read]
  exact (mul_assoc _ _ _).symm

theorem k_point (r : Fin 1024) (n : Fin 256) (p : Fin 8192) (hp : (p : ℕ) = 1024 * t + r) :
    out0_7 (F := Ideal) (iblk m c 0 t) (iblk m c 1 t) (iblk m c 2 t) (iblk m c 3 t) (iblk m c 4 t) (iblk m c 5 t) (ix2 r n)
      = Cert.PreOddRefIdeal.Read.val_main_v64 (F := Ideal) (m ((c.tc : Thread nD τ).loc main_arg0)) (m ((c.tc : Thread nD τ).loc main_arg1)) (m ((c.tc : Thread nD τ).loc main_arg2)) (m ((c.tc : Thread nD τ).loc main_arg4)) (ix2 p n) := by
  rw [Cert.PreORef.result_k]
  refine (out_k _ _ _ _ _ _ (table_read m c t) r n).trans ?_
  unfold kAt
  rw [row_read m c t r p hp, kgain_read]

/-- The final queries. -/
theorem final_q : (dats m 0 c).arrAt 6 cfg0.N = Cert.PreOddRefIdeal.Read.val_main_v62 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t _ y => ?_
  blk_simp
  rw [after0_6]
  have ht : (t : ℕ) < 8 := N_0 ▸ t.isLt
  have h₀ : (y 0 : ℕ) < 1024 := (y 0).isLt
  have h₁ : (y 1 : ℕ) < 1024 := (y 1).isLt
  refine Eq.trans ?_ ((q_point m c t ⟨y 0, h₀⟩ ⟨y 1, h₁⟩ ⟨1024 * t + y 0, by omega⟩ rfl).trans ?_)
  · refine congrArg _ ?_
    blk_ext []
  · refine congrArg _ ?_
    blk_ext [idx t]

/-- The final keys. -/
theorem final_k : (dats m 0 c).arrAt 7 cfg0.N = Cert.PreOddRefIdeal.Read.val_main_v64 (F := Ideal) (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 7 _ (by decide +kernel) fun t _ y => ?_
  blk_simp
  rw [after0_7]
  have ht : (t : ℕ) < 8 := N_0 ▸ t.isLt
  have h₀ : (y 0 : ℕ) < 1024 := (y 0).isLt
  have h₁ : (y 1 : ℕ) < 256 := (y 1).isLt
  refine Eq.trans ?_ ((k_point m c t ⟨y 0, h₀⟩ ⟨y 1, h₁⟩ ⟨1024 * t + y 0, by omega⟩ rfl).trans ?_)
  · refine congrArg _ ?_
    blk_ext []
  · refine congrArg _ ?_
    blk_ext [idx t]

/-- The keys of every sequence, columns first: what the third result's array holds. -/
def turnedKeys : S32x256x256.Idx → EReal := fun i =>
  headNorm 24 rfl (Cert.PreORef.token (m ((c.tc : Thread nD τ).loc main_arg0)) (m ((c.tc : Thread nD τ).loc main_arg1)) (m ((c.tc : Thread nD τ).loc main_arg2)) ⟨256 * (i 0).val + (i 2).val, by
      have h₀ : (i 0).val < 32 := (i 0).isLt
      have h₂ : (i 2).val < 256 := (i 2).isLt
      omega⟩) ⟨1024 + (i 1).val, by
      have h₁ : (i 1).val < 256 := (i 1).isLt
      omega⟩
    * (m ((c.tc : Thread nD τ).loc main_arg4) (ix2 0 ⟨(i 1).val % 64, by omega⟩) : EReal)

/-- The values of every sequence, columns first: what the fourth result's array holds. -/
def turnedValues : S32x256x256.Idx → EReal := fun i =>
  Cert.PreORef.token (m ((c.tc : Thread nD τ).loc main_arg0)) (m ((c.tc : Thread nD τ).loc main_arg1)) (m ((c.tc : Thread nD τ).loc main_arg2)) ⟨256 * (i 0).val + (i 2).val, by
      have h₀ : (i 0).val < 32 := (i 0).isLt
      have h₂ : (i 2).val < 256 := (i 2).isLt
      omega⟩ ⟨1280 + (i 1).val, by
      have h₁ : (i 1).val < 256 := (i 1).isLt
      omega⟩

theorem kf_point (b : Fin 4) (n s : Fin 256) (q : Fin 32) (hq : (q : ℕ) = 4 * t + b) :
    out0_8 (F := Ideal) (iblk m c 0 t) (iblk m c 1 t) (iblk m c 2 t) (iblk m c 3 t) (iblk m c 4 t) (iblk m c 5 t) (ix3 b n s) = turnedKeys m c (ix3 q n s) := by
  refine (out_kf _ _ _ _ _ _ (table_read m c t) b n s).trans ?_
  unfold kAt
  rw [row_read m c t _ ⟨256 * q + s, by omega⟩ (by show 256 * (q : ℕ) + s = 1024 * t + (256 * b + s); omega), kgain_read]
  rfl

theorem vf_point (b : Fin 4) (n s : Fin 256) (q : Fin 32) (hq : (q : ℕ) = 4 * t + b) :
    out0_9 (F := Ideal) (iblk m c 0 t) (iblk m c 1 t) (iblk m c 2 t) (iblk m c 3 t) (iblk m c 4 t) (iblk m c 5 t) (ix3 b n s) = turnedValues m c (ix3 q n s) := by
  refine (out_vf _ _ _ _ _ _ b n s).trans ?_
  unfold vAt
  rw [row_read m c t _ ⟨256 * q + s, by omega⟩ (by show 256 * (q : ℕ) + s = 1024 * t + (256 * b + s); omega)]
  rfl

theorem final_kf : (dats m 0 c).arrAt 8 cfg0.N = turnedKeys m c := by
  refine (dats m 0 c).arrAt_eq_of_covers 8 _ (by decide +kernel) fun t _ y => ?_
  blk_simp
  rw [after0_8]
  have ht : (t : ℕ) < 8 := N_0 ▸ t.isLt
  have h₀ : (y 0 : ℕ) < 4 := (y 0).isLt
  have h₁ : (y 1 : ℕ) < 256 := (y 1).isLt
  have h₂ : (y 2 : ℕ) < 256 := (y 2).isLt
  refine Eq.trans ?_ ((kf_point m c t ⟨y 0, h₀⟩ ⟨y 1, h₁⟩ ⟨y 2, h₂⟩ ⟨4 * t + y 0, by omega⟩ rfl).trans ?_)
  · refine congrArg _ ?_
    blk_ext []
  · refine congrArg _ ?_
    blk_ext [idx t]

theorem final_vf : (dats m 0 c).arrAt 9 cfg0.N = turnedValues m c := by
  refine (dats m 0 c).arrAt_eq_of_covers 9 _ (by decide +kernel) fun t _ y => ?_
  blk_simp
  rw [after0_9]
  have ht : (t : ℕ) < 8 := N_0 ▸ t.isLt
  have h₀ : (y 0 : ℕ) < 4 := (y 0).isLt
  have h₁ : (y 1 : ℕ) < 256 := (y 1).isLt
  have h₂ : (y 2 : ℕ) < 256 := (y 2).isLt
  refine Eq.trans ?_ ((vf_point m c t ⟨y 0, h₀⟩ ⟨y 1, h₁⟩ ⟨y 2, h₂⟩ ⟨4 * t + y 0, by omega⟩ rfl).trans ?_)
  · refine congrArg _ ?_
    blk_ext []
  · refine congrArg _ ?_
    blk_ext [idx t]

/-- The third result is the reference's: the program turns its keys back to positions first. -/
theorem keys_back : broadcastInDim S32x1x256x4x64 ![0, 2, 3, 4] bcast_S32x256x4x64_S32x1x256x4x64_0_2_3_4
      (transpose S32x256x4x64 [0, 3, 1, 2] (shapeCast S32x4x64x256 (turnedKeys m c) shapeCasts_S32x256x256_S32x4x64x256)
        transposes_S32x4x64x256_S32x256x4x64_0_3_1_2)
      = Cert.PreOddRefIdeal.Read.val_main_v65 (F := Ideal) (m ((c.tc : Thread nD τ).loc main_arg0)) (m ((c.tc : Thread nD τ).loc main_arg1)) (m ((c.tc : Thread nD τ).loc main_arg2)) (m ((c.tc : Thread nD τ).loc main_arg4)) := by
  funext i
  obtain ⟨b, u, s, g, d, rfl⟩ : ∃ (b : Fin 32) (u : Fin 1) (s : Fin 256) (g : Fin 4) (d : Fin 64), i = ix5 b u s g d :=
    ⟨i 0, i 1, i 2, i 3, i 4, by funext a; fin_cases a <;> rfl⟩
  have e₁ : (g : ℕ) * 64 + d = 64 * g + d := by omega
  have e₂ : (64 * (g : ℕ) + d) % 64 = d := by omega
  have h := Cert.PreORef.key_scaled (m ((c.tc : Thread nD τ).loc main_arg0)) (m ((c.tc : Thread nD τ).loc main_arg1))
    (m ((c.tc : Thread nD τ).loc main_arg2)) (m ((c.tc : Thread nD τ).loc main_arg4)) b s g d
  pointwise [Cert.PreOddRefIdeal.Read.val_main_v65]
  refine Eq.trans ?_ h.symm
  unfold turnedKeys
  show headNorm 24 rfl _ ⟨1024 + ((g : ℕ) * 64 + d), _⟩ * m ((c.tc : Thread nD τ).loc main_arg4) (ix2 0 ⟨((g : ℕ) * 64 + d) % 64, _⟩) = _
  simp only [e₁, e₂]
  rfl

/-- The fourth result is the reference's. -/
theorem values_back : broadcastInDim S32x1x256x4x64 ![0, 2, 3, 4] bcast_S32x256x4x64_S32x1x256x4x64_0_2_3_4
      (transpose S32x256x4x64 [0, 3, 1, 2] (shapeCast S32x4x64x256 (turnedValues m c) shapeCasts_S32x256x256_S32x4x64x256)
        transposes_S32x4x64x256_S32x256x4x64_0_3_1_2)
      = Cert.PreOddRefIdeal.Read.val_main_v66 (F := Ideal) (m ((c.tc : Thread nD τ).loc main_arg0))
          (m ((c.tc : Thread nD τ).loc main_arg1)) (m ((c.tc : Thread nD τ).loc main_arg2)) := by
  funext i
  obtain ⟨b, u, s, g, d, rfl⟩ : ∃ (b : Fin 32) (u : Fin 1) (s : Fin 256) (g : Fin 4) (d : Fin 64), i = ix5 b u s g d :=
    ⟨i 0, i 1, i 2, i 3, i 4, by funext a; fin_cases a <;> rfl⟩
  have e₁ : (g : ℕ) * 64 + d = 64 * g + d := by omega
  have h := Cert.PreORef.value_apply (m ((c.tc : Thread nD τ).loc main_arg0)) (m ((c.tc : Thread nD τ).loc main_arg1))
    (m ((c.tc : Thread nD τ).loc main_arg2)) b s g d
  pointwise [Cert.PreOddRefIdeal.Read.val_main_v66]
  refine Eq.trans ?_ h.symm
  unfold turnedValues
  show Cert.PreORef.token _ _ _ _ ⟨1280 + ((g : ℕ) * 64 + d), _⟩ = _
  simp only [e₁]
  rfl

/-- What the program returns third is the reference's keys. -/
theorem third_result : afterTail₀ cfgs (dats m) 0 (V0 m) [hostOps1] c main_v19
      = Cert.PreOddRefIdeal.Read.val_main_v65 (F := Ideal) (m ((c.tc : Thread nD τ).loc main_arg0)) (m ((c.tc : Thread nD τ).loc main_arg1)) (m ((c.tc : Thread nD τ).loc main_arg2)) (m ((c.tc : Thread nD τ).loc main_arg4)) := by
  have e : withArrays (cfgs 0).spec c (V0 m c) (fun w => (dats m 0 c).arrAt w (cfgs 0).N) (Proc.devRef .tc main_v14_2)
      = (dats m 0 c).arrAt 8 cfg0.N := withArrays_arr spec0 launch0.win.arr_inj c (V0 m c) _ 8
  rw [← keys_back, ← final_kf]
  unfold afterTail₀
  simp only [hostOps1, List.flatten_cons, List.flatten_nil, List.append_nil, List.cons_append, List.nil_append]
  after_results
  rw [e]
  rfl

/-- What the program returns fourth is the reference's values. -/
theorem fourth_result : afterTail₀ cfgs (dats m) 0 (V0 m) [hostOps1] c main_v20
      = Cert.PreOddRefIdeal.Read.val_main_v66 (F := Ideal) (m ((c.tc : Thread nD τ).loc main_arg0)) (m ((c.tc : Thread nD τ).loc main_arg1)) (m ((c.tc : Thread nD τ).loc main_arg2)) := by
  have e : withArrays (cfgs 0).spec c (V0 m c) (fun w => (dats m 0 c).arrAt w (cfgs 0).N) (Proc.devRef .tc main_v14_3)
      = (dats m 0 c).arrAt 9 cfg0.N := withArrays_arr spec0 launch0.win.arr_inj c (V0 m c) _ 9
  rw [← values_back, ← final_vf]
  unfold afterTail₀
  simp only [hostOps1, List.flatten_cons, List.flatten_nil, List.append_nil, List.cons_append, List.nil_append]
  after_results
  rw [e]
  rfl

end Cert.PreO
end
-- ==== Proof.PreOdd.Claim.lean ====
/-
  The claims of the odd layer's projections over the context tokens: the runs leave the arguments unchanged, and the four results
  are the reference's.
-/
module

public import proofs.«01_k».proof.Defs
public import proofs.«01_k».proof.Proof.Gen.PreOdd.Frame
public import proofs.«01_k».proof.Proof.Gen.PreOddRefIdeal.Run
public import proofs.«01_k».proof.Proof.PreOdd.Equation
public import Idealize.ShloMosaic.Lib.Claim
public import Idealize.ShloMosaic.Adequacy
public import Idealize.ShloMosaic.Init

@[expose] public section

set_option maxRecDepth 16384

noncomputable section

namespace Cert.PreO

open Idealize.ShloMosaic Idealize.SL.Sem

theorem frame_p : Cert.quiescent_PreOdd (hPreOdd := Cert.PreOdd.Gen.facts) :=
  fun m ρ _ => Cert.PreOdd.Gen.frame m ρ

theorem frame_pi : Cert.quiescent_PreOddIdeal (hPreOddIdeal := Cert.PreOddIdeal.Gen.facts) :=
  fun m ρ _ => Cert.PreOddIdeal.Gen.frame m ρ

theorem frame_ri : Cert.quiescent_PreOddRefIdeal (hPreOddRefIdeal := Cert.PreOddRefIdeal.Gen.facts) := fun m ρ _ =>
  (θ_run Cert.PreOddRefIdeal.defs _ _).mono
    (fun r h => ⟨fun c => (h c).2.2.2.2, Idealize.ShloMosaic.sem_eq_zero_of_no_sems (by decide) r.2⟩)
    (Cert.PreOddRefIdeal.Value.run (F := Ideal) m ρ)

theorem algebraic : Cert.algebraic_PreOddIdeal_PreOddRefIdeal (hPreOddIdeal := Cert.PreOddIdeal.Gen.facts)
    (hPreOddRefIdeal := Cert.PreOddRefIdeal.Gen.facts) := by
  intro m ρ m' ρ' _ hagree
  refine ⟨fun c => Cert.PreOddRefIdeal.Read.val_main_v62 (F := Ideal) (m ((c.tc : Thread _ _).loc Cert.PreOddIdeal.main_arg0)) (m ((c.tc : Thread _ _).loc Cert.PreOddIdeal.main_arg1)) (m ((c.tc : Thread _ _).loc Cert.PreOddIdeal.main_arg2)) (m ((c.tc : Thread _ _).loc Cert.PreOddIdeal.main_arg3)),
    fun c => Cert.PreOddRefIdeal.Read.val_main_v64 (F := Ideal) (m ((c.tc : Thread _ _).loc Cert.PreOddIdeal.main_arg0)) (m ((c.tc : Thread _ _).loc Cert.PreOddIdeal.main_arg1)) (m ((c.tc : Thread _ _).loc Cert.PreOddIdeal.main_arg2)) (m ((c.tc : Thread _ _).loc Cert.PreOddIdeal.main_arg4)),
    fun c => Cert.PreOddRefIdeal.Read.val_main_v65 (F := Ideal) (m ((c.tc : Thread _ _).loc Cert.PreOddIdeal.main_arg0)) (m ((c.tc : Thread _ _).loc Cert.PreOddIdeal.main_arg1)) (m ((c.tc : Thread _ _).loc Cert.PreOddIdeal.main_arg2)) (m ((c.tc : Thread _ _).loc Cert.PreOddIdeal.main_arg4)),
    fun c => Cert.PreOddRefIdeal.Read.val_main_v66 (F := Ideal) (m ((c.tc : Thread _ _).loc Cert.PreOddIdeal.main_arg0)) (m ((c.tc : Thread _ _).loc Cert.PreOddIdeal.main_arg1)) (m ((c.tc : Thread _ _).loc Cert.PreOddIdeal.main_arg2)), ?_, ?_⟩
  · refine (θ_run Cert.PreOddIdeal.defs _ _).mono (fun r h c => ⟨?_, ?_, ?_, ?_, h.2.1 c⟩)
      (θ_run_and (Cert.PreOddIdeal.Gen.run_main m ρ) (Cert.PreOddIdeal.Gen.frame m ρ))
    · exact ((h.1 c).1 6).trans (final_q m c)
    · exact ((h.1 c).1 7).trans (final_k m c)
    · exact ((h.1 c).2 Cert.PreOddIdeal.main_v19 (Pipeline.mem_restRefs_of _ (by decide) (by decide))).trans (third_result m c)
    · exact ((h.1 c).2 Cert.PreOddIdeal.main_v20 (Pipeline.mem_restRefs_of _ (by decide) (by decide))).trans (fourth_result m c)
  · refine (θ_run Cert.PreOddRefIdeal.defs _ _).mono (fun _ h c => ?_) (Cert.PreOddRefIdeal.Value.run (F := Ideal) m' ρ')
    obtain ⟨h₀, h₁, h₂, h₃, h₄⟩ := hagree c
    refine ⟨(h c).1.trans ?_, (h c).2.1.trans ?_, (h c).2.2.1.trans ?_, (h c).2.2.2.1.trans ?_, (h c).2.2.2.2⟩
    · rw [Cert.PreOddRefIdeal.Read.val_main_v62_eq, h₀, h₁, h₂, h₃]
    · rw [Cert.PreOddRefIdeal.Read.val_main_v64_eq, h₀, h₁, h₂, h₄]
    · rw [Cert.PreOddRefIdeal.Read.val_main_v65_eq, h₀, h₁, h₂, h₄]
    · rw [Cert.PreOddRefIdeal.Read.val_main_v66_eq, h₀, h₁, h₂]

end Cert.PreO

end
-- ==== Proof.PostEven.Body.lean ====
/-
  What one run of the body stores when a gate stands beside the attention: the second half of the layer over the vectors it
  loads, with the attention and the gate joined column after column before the output projection.
-/
module

public import proofs.«01_k».proof.Proof.Gen.PostEvenIdeal.Value
public import proofs.«01_k».proof.Proof.Post.Rows

@[expose] public section

set_option maxRecDepth 16384

noncomputable section

namespace Cert.PostE

open Cert.PostEvenIdeal Cert.PostEvenIdeal.Gen Idealize.ShloMosaic Idealize.ShloMosaic.TcCoe Idealize.SL.Sem

/-- A tile of half the width between its two halos. -/
def extendHalf {e : FTy} (p : FVec Ideal S16x512 e) (v : FVec Ideal S512x512 e) (n : FVec Ideal S16x512 e) :
    FVec Ideal S544x512 e :=
  concatenate S544x512 0 [⟨S16x512, p⟩, ⟨S512x512, v⟩, ⟨S16x512, n⟩] concatenates_S16x512_S512x512_S16x512_S544x512_d0

/-- The attention's columns and then the gate's. -/
def joinCols {e : FTy} (a g : FVec Ideal S544x512 e) : FVec Ideal S544x1024 e :=
  concatenate S544x1024 1 [⟨S544x512, a⟩, ⟨S544x512, g⟩] concatenates_S544x512_S544x512_S544x1024_d1

theorem readCov_input {sg : RefSig} {κ : Kind} {sp : Space} (v : View sg κ sp S544x1024 .bf16)
    (L : List (View.Piece (Elt Ideal) S544x1024 .bf16)) (inb) :
    v.readCov L (Rect.unit (s := S544x1024) ![0, 0] ![544, 1024] inb).toLoadRect = View.canon L :=
  Cert.Post2.readCov_whole v L _ Cert.Post2.zero₂ inb

theorem readCov_own {sg : RefSig} {κ : Kind} {sp : Space} (v : View sg κ sp S512x1024 .f32)
    (L : List (View.Piece (Elt Ideal) S512x1024 .f32)) (inb) :
    v.readCov L (Rect.unit (s := S512x1024) ![0, 0] ![512, 1024] inb).toLoadRect = View.canon L :=
  Cert.Post2.readCov_whole v L _ Cert.Post2.zero₂ inb

variable (m : (ℓ : Loc nD τ sig) → Buf (Elt Ideal) ℓ) (c : Dev nD) (t : Fin cfg0.N)

/-- The grid point's extended tile of the stream. -/
def xTile : FVec Ideal S544x1024 .f32 := Cert.Post2.extend (e := .f32) (iblk m c 1 t) (iblk m c 0 t) (iblk m c 2 t)

/-- The grid point's extended tile of the attention and the gate. -/
def aTile : FVec Ideal S544x1024 .bf16 :=
  joinCols (extendHalf (e := .bf16) (iblk m c 4 t) (iblk m c 3 t) (iblk m c 5 t))
    (extendHalf (e := .bf16) (iblk m c 7 t) (iblk m c 6 t) (iblk m c 8 t))

theorem out_eq (y : S512x1024.Idx) :
    outsAt0 m c t y = Cert.Post2.result (Cert.Post2.mods (iblk m c 9 t))
      (Cert.Post2.input (BitVec.ofNat 32 (grid0.coords t 0)) (Cert.Post2.mods (iblk m c 9 t)) (xTile m c t) (aTile m c t)
        (iblk m c 10 t))
      (Cert.Post2.own (Cert.Post2.mods (iblk m c 9 t)) (xTile m c t) (aTile m c t) (iblk m c 10 t))
      (iblk m c 11 t) (iblk m c 12 t) (iblk m c 13 t) (iblk m c 14 t) y := by
  unfold outsAt0
  frame_out
  simp only [readCov_input, readCov_own]
  rfl

theorem extendHalf_apply {e : FTy} (p : FVec Ideal S16x512 e) (v : FVec Ideal S512x512 e) (n : FVec Ideal S16x512 e)
    (r : Fin 544) (c : Fin 512) : extendHalf p v n (ix2 r c)
      = if h : (r : ℕ) < 16 then p (ix2 ⟨r, h⟩ c) else if h' : (r : ℕ) < 528 then v (ix2 ⟨r - 16, by omega⟩ c)
        else n (ix2 ⟨r - 528, by omega⟩ c) := by
  pointwise [extendHalf]
  by_cases h : (r : ℕ) < 16
  · simp only [dif_pos h]
  · by_cases h' : (r : ℕ) < 528
    · simp only [dif_neg h, dif_pos h', dif_pos (show (r : ℕ) - 16 < 512 by omega)]
    · simp only [dif_neg h, dif_neg h', dif_neg (show ¬ (r : ℕ) - 16 < 512 by omega), Nat.sub_sub]

theorem joinCols_apply {e : FTy} (a g : FVec Ideal S544x512 e) (r : Fin 544) (k : Fin 1024) : joinCols a g (ix2 r k)
      = if h : (k : ℕ) < 512 then a (ix2 r ⟨k, h⟩) else g (ix2 r ⟨k - 512, by omega⟩) := by
  pointwise [joinCols]

end Cert.PostE
end
-- ==== Proof.PostEven.Ref.lean ====
/-
  The reference of the gated layer's second half read at an index.
-/
module

public import proofs.«01_k».proof.Proof.Gen.PostEvenRefIdeal.Run
public import proofs.«01_k».proof.Proof.Gen.PostEvenRefIdeal.Read
public import proofs.«01_k».proof.Proof.Post.Spec
public import Idealize.ShloMosaic.Lib.Pointwise
public import Idealize.ShloMosaic.Lib.Pipeline.ValueKit

@[expose] public section

set_option maxRecDepth 16384

noncomputable section

namespace Cert.PostERef

open Cert.PostEvenRefIdeal Cert.PostEvenRefIdeal.Gen Cert.PostEvenRefIdeal.Read Idealize.ShloMosaic Idealize.ShloMosaic.TcCoe Idealize.SL.Sem Cert.Ffn

variable (x : FVec Ideal S16384x1024 .f32) (a g : FVec Ideal S16384x512 .bf16) (md : FVec Ideal S2x16x6x1024 .f32)
  (wo : FVec Ideal S1x1024x1024 .f32) (wu : FVec Ideal S2x1024x5632 .f32) (cw : FVec Ideal S2x3x5632 .f32)
  (cb : FVec Ideal S2x5632 .f32) (wd : FVec Ideal S2x2816x1024 .f32)

/-- The attention's columns and then the gate's, of row `p`. -/
def joined (p : Fin 16384) (k : Fin 1024) : EReal :=
  if h : (k : ℕ) < 512 then a (ix2 p ⟨k, h⟩) else g (ix2 p ⟨k - 512, by omega⟩)

theorem joined_apply (b : Fin 8) (s : Fin 2048) (k : Fin 1024) :
    val_main_v23 (F := Ideal) a g (ix3 b s k) = joined a g ⟨2048 * b + s, by omega⟩ k := by
  pointwise [val_main_v23, val_main_v4, val_main_v3, val_main_v2, val_main_v1]
  unfold joined
  simp only [Nat.mul_comm 2048]

/-- The residual of sequence `b`. -/
def stream (b : Fin 8) (s : Fin 2048) : Fin 1024 → EReal :=
  resRow (fun k => x (ix2 ⟨2048 * b + s, by omega⟩ k)) (fun k => md (ix4 0 ⟨1 + b, by omega⟩ 2 k))
    (joined a g ⟨2048 * b + s, by omega⟩) (fun k c => wo (ix3 0 k c))

theorem residual_apply (b : Fin 8) (s : Fin 2048) (c : Fin 1024) :
    val_main_v28 (F := Ideal) x a g md wo (ix3 b s c) = stream x a g md wo b s c := by
  pointwise [val_main_v28, val_main_v27, val_main_v26, val_main_v25, val_main_v24, val_main_v13, val_main_v12, val_main_v11,
    val_main_v0]
  simp only [joined_apply]
  unfold stream resRow
  simp only [Nat.mul_comm 2048]

theorem normed_apply (b : Fin 8) (s : Fin 2048) (c : Fin 1024) :
    val_main_v44 (F := Ideal) x a g md wo (ix3 b s c)
      = normRow (fun k => md (ix4 0 ⟨1 + b, by omega⟩ 4 k)) (fun k => md (ix4 0 ⟨1 + b, by omega⟩ 3 k))
          (stream x a g md wo b s) c := by
  have h := residual_apply x a g md wo b s
  pointwise [val_main_v44, val_main_v43, val_main_v42, val_main_v41, val_main_v40, val_main_v39, val_main_v38, val_main_v37,
    val_main_v36, val_main_v35, val_main_v34, val_main_v33, val_main_v32, val_main_v31, val_main_v30, val_main_v29,
    val_main_cst, val_main_cst_0, val_main_cst_1, val_main_cst_2, val_main_v19, val_main_v18, val_main_v17, val_main_v16,
    val_main_v15, val_main_v14]
  simp only [h]
  rfl

/-- The feed-forward's input of sequence `b`, rows numbered from one. -/
def inRow (b : Fin 8) (s : ℕ) : Fin 1024 → EReal :=
  padded (fun k => md (ix4 0 ⟨1 + b, by omega⟩ 4 k)) (fun k => md (ix4 0 ⟨1 + b, by omega⟩ 3 k)) (stream x a g md wo b) s

theorem ofInt_zero : val_main_call0_v0 (F := Ideal) (Shape.Idx.first h_S_) = 0 := by
  pointwise [val_main_call0_v0, val_main_c]
  show (((0#32 : BitVec 32).toInt : ℝ) : EReal) = 0
  simp

theorem padded_apply (b : Fin 8) (s : Fin 2050) (n : Fin 5632) :
    val_main_v54 (F := Ideal) x a g md wo wu (ix3 b s n)
      = ∑ k, inRow x a g md wo b s k * wu (ix3 0 k n) := by
  pointwise [val_main_v54, val_main_v53, val_main_v46, val_main_v45]
  unfold inRow padded
  by_cases h : 1 ≤ (s : ℕ) ∧ (s : ℕ) ≤ 2048
  · rw [dif_pos ⟨h.1, by omega⟩]
    simp only [dif_pos h, normed_apply]
  · rw [dif_neg (by omega), ofInt_zero]
    simp only [dif_neg h, zero_mul, Finset.sum_const_zero]

theorem conv_apply (b : Fin 8) (s : Fin 2048) (n : Fin 5632) :
    val_main_v79 (F := Ideal) x a g md wo wu cw cb (ix3 b s n)
      = convAt (fun k => wu (ix3 0 k n)) (fun i => cw (ix3 0 i n)) (cb (ix2 0 n)) (inRow x a g md wo b s)
          (inRow x a g md wo b (s + 1)) (inRow x a g md wo b (s + 2)) := by
  pointwise [val_main_v79, val_main_v78, val_main_v77, val_main_v76, val_main_v75, val_main_v74, val_main_v73, val_main_v72,
    val_main_v71, val_main_v70, val_main_v69, val_main_v68, val_main_v67, val_main_v66, val_main_v65, val_main_v64,
    val_main_v63, val_main_v62, val_main_v61, val_main_v60, val_main_v59, val_main_v58, val_main_v57, val_main_v56,
    val_main_v55, val_main_cst_3, val_main_v50, val_main_v49, val_main_v48, val_main_v47]
  simp only [padded_apply, Nat.add_comm _ (s : ℕ)]
  unfold convAt
  simp only [mul_comm (cw _)]

theorem gated_apply (b : Fin 8) (s : Fin 2048) (n : Fin 2816) :
    val_main_v83 (F := Ideal) x a g md wo wu cw cb (ix3 b s n)
      = unit (fun k n => wu (ix3 0 k n)) (fun i n => cw (ix3 0 i n)) (fun n => cb (ix2 0 n)) (inRow x a g md wo b s)
          (inRow x a g md wo b (s + 1)) (inRow x a g md wo b (s + 2)) n := by
  pointwise [val_main_v83, val_main_v82, val_main_v81, val_main_v80, val_main_call1_v5, val_main_call1_v4, val_main_call1_v3,
    val_main_call1_v2, val_main_call1_v1, val_main_call1_v0, val_main_call1_cst, val_main_call1_cst_0]
  simp only [conv_apply]
  rfl

/-- The result's row `s` of sequence `b`. -/
def value (b : Fin 8) (s : Fin 2048) (c : Fin 1024) : EReal :=
  stream x a g md wo b s c + md (ix4 0 ⟨1 + b, by omega⟩ 5 c) *
    ffn (fun k n => wu (ix3 0 k n)) (fun i n => cw (ix3 0 i n)) (fun n => cb (ix2 0 n)) (fun n c => wd (ix3 0 n c))
      (inRow x a g md wo b s) (inRow x a g md wo b (s + 1)) (inRow x a g md wo b (s + 2)) c

theorem result_apply (b : Fin 8) (s : Fin 2048) (c : Fin 1024) :
    val_main_v88 (F := Ideal) x a g md wo wu cw cb wd (ix2 ⟨2048 * b + s, by omega⟩ c)
      = value x a g md wo wu cw cb wd b s c := by
  pointwise [val_main_v88, val_main_v87, val_main_v86, val_main_v85, val_main_v84, val_main_v52, val_main_v51, val_main_v22,
    val_main_v21, val_main_v20]
  simp only [residual_apply, gated_apply]
  rfl

end Cert.PostERef
end
-- ==== Proof.PostEven.Equation.lean ====
/- The final array of the gated layer's second half is the reference's: each grid point reads its own 512 rows, the sixteen
   rows before and after them, and the whole of the weights. -/
module

public import proofs.«01_k».proof.Proof.PostEven.Body
public import proofs.«01_k».proof.Proof.PostEven.Ref

@[expose] public section

set_option maxRecDepth 16384

noncomputable section

namespace Cert.PostE

open Idealize.ShloMosaic Idealize.ShloMosaic.Pointwise Idealize.ShloMosaic.Pipeline Idealize.SL.Sem
open Cert.PostEvenIdeal Cert.PostEvenIdeal.Gen Cert.Ffn
open Cert.Post2 (inside extRow inputRow mods extend extend_apply own_apply input_apply result_apply)

variable (m : (ℓ : Loc nD τ sig) → Buf (Elt Ideal) ℓ) (c : Dev nD)

theorem idx : ∀ t : Fin cfg0.N, win0_0.index t = ![t.val, 0] ∧ win0_1.index t = ![32 * t.val - 1, 0]
    ∧ win0_2.index t = ![min (32 * t.val + 32) 1023, 0] ∧ win0_3.index t = ![t.val, 0]
    ∧ win0_4.index t = ![32 * t.val - 1, 0] ∧ win0_5.index t = ![min (32 * t.val + 32) 1023, 0]
    ∧ win0_6.index t = ![t.val, 0]
    ∧ win0_7.index t = ![32 * t.val - 1, 0] ∧ win0_8.index t = ![min (32 * t.val + 32) 1023, 0]
    ∧ win0_9.index t = ![0, 1 + t.val / 4, 0, 0] ∧ win0_10.index t = ![0, 0] ∧ win0_11.index t = ![0, 0, 0]
    ∧ win0_12.index t = ![0, 0, 0] ∧ win0_13.index t = ![0, 0, 0] ∧ win0_14.index t = ![0, 0, 0, 0]
    ∧ win0_15.index t = ![t.val, 0] :=
  (by decide +kernel : ∀ t : Fin grid0.N, _)

theorem coord : ∀ t : Fin cfg0.N, (grid0.coords t 0 : ℕ) = t.val :=
  (by decide +kernel : ∀ t : Fin grid0.N, _)

variable (t : Fin cfg0.N)

/-- The grid point's number. -/
def pt : Fin 32 := ⟨t, N_0 ▸ t.isLt⟩

theorem mods_read (b : Fin 8) (hb : (b : ℕ) = t / 4) (i : Fin 6) (k : Fin 1024) :
    mods (iblk m c 9 t) (ix2 i k) = m ((c.tc : Thread nD τ).loc main_arg3) (ix4 0 ⟨1 + b, by omega⟩ i k) := by
  pointwise [mods]
  blk_ext [iblk, V, idx t]

theorem x_read (e : Fin 544) (he : inside (pt t) e) (p : Fin 16384) (hp : (p : ℕ) + 16 = 512 * t + e) (k : Fin 1024) :
    xTile m c t (ix2 e k)
      = m ((c.tc : Thread nD τ).loc main_arg0) (ix2 p k) := by
  have ht : (t : ℕ) < 32 := N_0 ▸ t.isLt
  obtain ⟨h₁, h₂⟩ : (16 ≤ (e : ℕ) ∨ (t : ℕ) % 4 ≠ 0) ∧ ((e : ℕ) < 528 ∨ (t : ℕ) % 4 ≠ 3) := he
  unfold xTile
  rw [extend_apply]
  split
  · blk_ext [iblk, V, idx t]
  · split
    · blk_ext [iblk, V, idx t]
    · blk_ext [iblk, V, idx t]

/-- Row `e` of the extended tile of the attention and the gate. -/
theorem a_read (e : Fin 544) (he : inside (pt t) e) (p : Fin 16384) (hp : (p : ℕ) + 16 = 512 * t + e) (k : Fin 1024) :
    aTile m c t (ix2 e k) = Cert.PostERef.joined (m ((c.tc : Thread nD τ).loc main_arg1))
      (m ((c.tc : Thread nD τ).loc main_arg2)) p k := by
  have ht : (t : ℕ) < 32 := N_0 ▸ t.isLt
  obtain ⟨h₁, h₂⟩ : (16 ≤ (e : ℕ) ∨ (t : ℕ) % 4 ≠ 0) ∧ ((e : ℕ) < 528 ∨ (t : ℕ) % 4 ≠ 3) := he
  unfold aTile Cert.PostERef.joined
  rw [joinCols_apply]
  simp only [extendHalf_apply]
  by_cases hk : (k : ℕ) < 512
  · rw [dif_pos hk, dif_pos hk]
    split
    · blk_ext [iblk, V, idx t]
    · split
      · blk_ext [iblk, V, idx t]
      · blk_ext [iblk, V, idx t]
  · rw [dif_neg hk, dif_neg hk]
    split
    · blk_ext [iblk, V, idx t]
    · split
      · blk_ext [iblk, V, idx t]
      · blk_ext [iblk, V, idx t]

theorem wo_apply (x : FVec Ideal S1x1024x1024 .f32) (k n : Fin 1024) :
    (truncf .bf16 (shapeCast S1024x1024 x shapeCasts_S1x1024x1024_S1024x1024) bitsLt_bf16_f32 : FVec Ideal S1024x1024 .bf16)
      (ix2 k n) = x (ix3 0 k n) := by
  pointwise []

theorem wo_read (k n : Fin 1024) :
    iblk m c 10 t (ix2 k n) = m ((c.tc : Thread nD τ).loc main_arg4) (ix3 0 k n) := by
  unfold iblk
  entry_read
  exact (congrArg _ (show (win0_10.blk t).view.emb (ix2 k n) = ix2 k n by blk_ext [idx t])).trans (wo_apply _ _ _)

theorem wu_read (k : Fin 1024) (n : Fin 5632) :
    iblk m c 11 t (ix3 0 k n) = m ((c.tc : Thread nD τ).loc main_arg5) (ix3 0 k n) := by
  unfold iblk
  entry_read
  exact congrArg (m ((c.tc : Thread nD τ).loc main_arg5))
    (show (win0_11.blk t).view.emb (ix3 0 k n) = ix3 0 k n by blk_ext [idx t])

theorem cw_read (k : Fin 3) (n : Fin 5632) :
    iblk m c 12 t (ix3 0 k n) = m ((c.tc : Thread nD τ).loc main_arg6) (ix3 0 k n) := by
  blk_ext [iblk, V, idx t]

theorem cb_apply (x : FVec Ideal S2x5632 .f32) (l : Fin 2) (n : Fin 5632) :
    broadcastInDim S2x1x5632 ![0, 2] bcast_S2x5632_S2x1x5632_0_2 x (ix3 l 0 n) = x (ix2 l n) := by
  pointwise []

theorem cb_read (n : Fin 5632) :
    iblk m c 13 t (ix3 0 0 n) = m ((c.tc : Thread nD τ).loc main_arg7) (ix2 0 n) := by
  unfold iblk
  entry_read
  exact (congrArg _ (show (win0_13.blk t).view.emb (ix3 0 0 n) = ix3 0 0 n by blk_ext [idx t])).trans (cb_apply _ _ _)

theorem wd_apply (x : FVec Ideal S2x2816x1024 .f32) (l : Fin 2) (n : Fin 2816) (k : Fin 1024) :
    shapeCast S2x11x256x1024 (truncf .bf16 x bitsLt_bf16_f32 : FVec Ideal S2x2816x1024 .bf16)
      shapeCasts_S2x2816x1024_S2x11x256x1024 (ix4 l ⟨n / 256, by omega⟩ ⟨n % 256, by omega⟩ k) = x (ix3 l n k) := by
  pointwise []
  blk_ext []

theorem wd_read (n : Fin 2816) (k : Fin 1024) :
    iblk m c 14 t (ix4 0 ⟨n / 256, by omega⟩ ⟨n % 256, by omega⟩ k) = m ((c.tc : Thread nD τ).loc main_arg8) (ix3 0 n k) := by
  unfold iblk
  entry_read
  exact (congrArg _ (show (win0_14.blk t).view.emb (ix4 0 ⟨n / 256, by omega⟩ ⟨n % 256, by omega⟩ k)
    = ix4 0 ⟨n / 256, by omega⟩ ⟨n % 256, by omega⟩ k by blk_ext [idx t])).trans (wd_apply _ _ _ _)

/-- The residual's row that row `e` of the extended tile is. -/
theorem row_read (b : Fin 8) (hb : (b : ℕ) = t / 4) (e : Fin 544) (he : inside (pt t) e) (s : Fin 2048)
    (hs : 2048 * (b : ℕ) + s + 16 = 512 * t + e) (k : Fin 1024) :
    extRow (mods (iblk m c 9 t)) (xTile m c t)
        (aTile m c t) (iblk m c 10 t) e k
      = Cert.PostERef.stream (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b s k := by
  unfold extRow Cert.PostERef.stream
  simp only [mods_read m c t b hb, wo_read, x_read m c t e he ⟨2048 * b + s, by omega⟩ hs,
    a_read m c t e he ⟨2048 * b + s, by omega⟩ hs]

/-- The feed-forward's input at row `15 + p` of the extended tile. -/
theorem input_read (b : Fin 8) (hb : (b : ℕ) = t / 4) (p : ℕ) (hp : p ≤ 513) (e : Fin 544) (he : (e : ℕ) = 15 + p)
    (k : Fin 1024) :
    inputRow (mods (iblk m c 9 t)) (xTile m c t)
        (aTile m c t) (iblk m c 10 t) (pt t) e k
      = Cert.PostERef.inRow (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b (512 * (t % 4) + p) k := by
  have ht : (t : ℕ) < 32 := N_0 ▸ t.isLt
  unfold inputRow Cert.PostERef.inRow padded
  by_cases h : 1 ≤ 512 * ((t : ℕ) % 4) + p ∧ 512 * ((t : ℕ) % 4) + p ≤ 2048
  · have hi : inside (pt t) e := by
      show (16 ≤ (e : ℕ) ∨ (t : ℕ) % 4 ≠ 0) ∧ ((e : ℕ) < 528 ∨ (t : ℕ) % 4 ≠ 3)
      omega
    rw [if_pos hi, dif_pos h]
    simp only [mods_read m c t b hb]
    congr 1
    funext l
    exact row_read m c t b hb e hi _ (by show 2048 * (b : ℕ) + (512 * ((t : ℕ) % 4) + p - 1) + 16 = 512 * t + e; omega) l
  · have hi : ¬ inside (pt t) e := by
      show ¬ ((16 ≤ (e : ℕ) ∨ (t : ℕ) % 4 ≠ 0) ∧ ((e : ℕ) < 528 ∨ (t : ℕ) % 4 ≠ 3))
      omega
    rw [if_neg hi, dif_neg h]

/-- What a grid point writes is its rows of the reference's result. -/
theorem point (b : Fin 8) (hb : (b : ℕ) = t / 4) (r : Fin 512) (s : Fin 2048) (hs : (s : ℕ) = 512 * (t % 4) + r)
    (k : Fin 1024) :
    outsAt0 m c t (ix2 r k)
      = Cert.PostEvenRefIdeal.Read.val_main_v88 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (ix2 ⟨2048 * b + s, by omega⟩ k) := by
  have ht : (t : ℕ) < 32 := N_0 ▸ t.isLt
  have hi : inside (pt t) ⟨16 + r, by omega⟩ := by
    show (16 ≤ 16 + (r : ℕ) ∨ (t : ℕ) % 4 ≠ 0) ∧ (16 + (r : ℕ) < 528 ∨ (t : ℕ) % 4 ≠ 3)
    omega
  have hc : (grid0.coords t 0 : ℕ) = (pt t : ℕ) := coord t
  rw [out_eq, hc, Cert.PostERef.result_apply]
  refine (result_apply _ _ _ _ _ _ _ r k).trans ?_
  unfold Cert.PostERef.value
  rw [mods_read m c t b hb, own_apply, row_read m c t b hb _ hi s (by show 2048 * (b : ℕ) + s + 16 = 512 * t + (16 + r); omega)]
  simp only [input_apply, wu_read, cw_read, cb_read, wd_read]
  have e₀ := input_read m c t b hb r (by omega) ⟨15 + r, by omega⟩ rfl
  have e₁ := input_read m c t b hb (r + 1) (by omega) ⟨16 + r, by omega⟩ (by show 16 + (r : ℕ) = _; omega)
  have e₂ := input_read m c t b hb (r + 2) (by omega) ⟨17 + r, by omega⟩ (by show 17 + (r : ℕ) = _; omega)
  simp only [e₀, e₁, e₂, hs, Nat.add_assoc]

/-- The final array: the reference's result. -/
theorem final : (dats m 0 c).arrAt 15 cfg0.N
      = Cert.PostEvenRefIdeal.Read.val_main_v88 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  refine (dats m 0 c).arrAt_eq_of_covers 15 _ (by decide +kernel) fun t _ y => ?_
  blk_simp
  rw [after0_15]
  have ht : (t : ℕ) < 32 := N_0 ▸ t.isLt
  have h₀ : (y 0 : ℕ) < 512 := (y 0).isLt
  have h₁ : (y 1 : ℕ) < 1024 := (y 1).isLt
  have h := point m c t ⟨t / 4, by omega⟩ rfl ⟨y 0, h₀⟩ ⟨512 * (t % 4) + y 0, by omega⟩ rfl ⟨y 1, h₁⟩
  refine Eq.trans ?_ (h.trans ?_)
  · refine congrArg _ ?_
    blk_ext []
  · refine congrArg _ ?_
    blk_ext [idx t]

end Cert.PostE
end
-- ==== Proof.PostEven.Claim.lean ====
/- The claims of the gated layer's second half: the runs leave the arguments unchanged, and the kernel's result is the
   reference's. -/
module

public import proofs.«01_k».proof.Defs
public import proofs.«01_k».proof.Proof.Gen.PostEven.Frame
public import proofs.«01_k».proof.Proof.Gen.PostEvenRefIdeal.Run
public import proofs.«01_k».proof.Proof.PostEven.Equation
public import Idealize.ShloMosaic.Adequacy
public import Idealize.ShloMosaic.Init

@[expose] public section

noncomputable section

namespace Cert.PostE

open Idealize.ShloMosaic Idealize.SL.Sem

theorem frame_p : Cert.quiescent_PostEven (hPostEven := Cert.PostEven.Gen.facts) :=
  fun m ρ _ => Cert.PostEven.Gen.frame m ρ

theorem frame_pi : Cert.quiescent_PostEvenIdeal (hPostEvenIdeal := Cert.PostEvenIdeal.Gen.facts) :=
  fun m ρ _ => Cert.PostEvenIdeal.Gen.frame m ρ

theorem frame_ri : Cert.quiescent_PostEvenRefIdeal (hPostEvenRefIdeal := Cert.PostEvenRefIdeal.Gen.facts) := fun m ρ _ =>
  (θ_run Cert.PostEvenRefIdeal.defs _ _).mono
    (fun r h => ⟨fun c => (h c).2, Idealize.ShloMosaic.sem_eq_zero_of_no_sems (by decide) r.2⟩)
    (Cert.PostEvenRefIdeal.Value.run (F := Ideal) m ρ)

theorem algebraic : Cert.algebraic_PostEvenIdeal_PostEvenRefIdeal (hPostEvenIdeal := Cert.PostEvenIdeal.Gen.facts)
    (hPostEvenRefIdeal := Cert.PostEvenRefIdeal.Gen.facts) := by
  intro m ρ m' ρ' _ hagree
  refine ⟨_, Cert.PostEvenIdeal.Value.run_blocks m ρ, ?_⟩
  refine (θ_run Cert.PostEvenRefIdeal.defs _ _).mono (fun _ h c => ⟨(h c).1.trans ?_, (h c).2⟩)
    (Cert.PostEvenRefIdeal.Value.run (F := Ideal) m' ρ')
  obtain ⟨h₀, h₁, h₂, h₃, h₄, h₅, h₆, h₇, h₈⟩ := hagree c
  rw [Cert.PostEvenRefIdeal.Read.val_main_v88_eq, h₀, h₁, h₂, h₃, h₄, h₅, h₆, h₇, h₈]
  exact (final m c).symm

end Cert.PostE

end
-- ==== Proof.PostEvenCtx.Body.lean ====
/-
  What one run of the body stores over the context tokens when a gate stands beside the attention: the ungated body's result
  over the attention's and the gate's columns joined.
-/
module

public import proofs.«01_k».proof.Proof.Gen.PostEvenCtxIdeal.Value
public import proofs.«01_k».proof.Proof.PostCtx.Rows

@[expose] public section

set_option maxRecDepth 16384

noncomputable section

namespace Cert.PostEC

open Cert.PostEvenCtxIdeal Cert.PostEvenCtxIdeal.Gen Idealize.ShloMosaic Idealize.ShloMosaic.TcCoe Idealize.SL.Sem

/-- The attention's columns and then the gate's. -/
def joinCols {e : FTy} (a g : FVec Ideal S512x512 e) : FVec Ideal S512x1024 e :=
  concatenate S512x1024 1 [⟨S512x512, a⟩, ⟨S512x512, g⟩] concatenates_S512x512_S512x512_S512x1024_d1

theorem readCov_input {sg : RefSig} {κ : Kind} {sp : Space} (v : View sg κ sp S512x1024 .bf16)
    (L : List (View.Piece (Elt Ideal) S512x1024 .bf16)) (inb) :
    v.readCov L (Rect.unit (s := S512x1024) ![0, 0] ![512, 1024] inb).toLoadRect = View.canon L :=
  Cert.Post2.readCov_whole v L _ Cert.Post2.zero₂ inb

theorem readCov_own {sg : RefSig} {κ : Kind} {sp : Space} (v : View sg κ sp S512x1024 .f32)
    (L : List (View.Piece (Elt Ideal) S512x1024 .f32)) (inb) :
    v.readCov L (Rect.unit (s := S512x1024) ![0, 0] ![512, 1024] inb).toLoadRect = View.canon L :=
  Cert.Post2.readCov_whole v L _ Cert.Post2.zero₂ inb

variable (m : (ℓ : Loc nD τ sig) → Buf (Elt Ideal) ℓ) (c : Dev nD) (t : Fin cfg0.N)

/-- The grid point's tile of the attention and the gate. -/
def aTile : FVec Ideal S512x1024 .bf16 := joinCols (e := .bf16) (iblk m c 1 t) (iblk m c 2 t)

theorem out_eq (y : S512x1024.Idx) :
    outsAt0 m c t y = Cert.PostC.result (Cert.Post2.mods (iblk m c 3 t))
      (Cert.PostC.input (Cert.Post2.mods (iblk m c 3 t)) (iblk m c 0 t) (aTile m c t) (iblk m c 4 t))
      (Cert.PostC.own (Cert.Post2.mods (iblk m c 3 t)) (iblk m c 0 t) (aTile m c t) (iblk m c 4 t))
      (iblk m c 5 t) (iblk m c 6 t) (iblk m c 7 t) (iblk m c 8 t) y := by
  unfold outsAt0
  frame_out
  simp only [readCov_input, readCov_own]
  rfl

theorem joinCols_apply {e : FTy} (a g : FVec Ideal S512x512 e) (r : Fin 512) (k : Fin 1024) : joinCols a g (ix2 r k)
      = if h : (k : ℕ) < 512 then a (ix2 r ⟨k, h⟩) else g (ix2 r ⟨k - 512, by omega⟩) := by
  pointwise [joinCols]

end Cert.PostEC
end
-- ==== Proof.PostEvenCtx.Ref.lean ====
/-
  The reference of the gated layer's second half over the context tokens, read at an index.
-/
module

public import proofs.«01_k».proof.Proof.Gen.PostEvenCtxRefIdeal.Run
public import proofs.«01_k».proof.Proof.Gen.PostEvenCtxRefIdeal.Read
public import proofs.«01_k».proof.Proof.Post.Spec
public import Idealize.ShloMosaic.Lib.Pointwise
public import Idealize.ShloMosaic.Lib.Pipeline.ValueKit

@[expose] public section

set_option maxRecDepth 16384

noncomputable section

namespace Cert.PostECRef

open Cert.PostEvenCtxRefIdeal Cert.PostEvenCtxRefIdeal.Gen Cert.PostEvenCtxRefIdeal.Read Idealize.ShloMosaic Idealize.ShloMosaic.TcCoe Idealize.SL.Sem Cert.Ffn

variable (x : FVec Ideal S8192x1024 .f32) (a g : FVec Ideal S8192x512 .bf16) (md : FVec Ideal S2x16x6x1024 .f32)
  (wo : FVec Ideal S1x1024x1024 .f32) (wu : FVec Ideal S2x1024x5632 .f32) (cw : FVec Ideal S2x3x5632 .f32)
  (cb : FVec Ideal S2x5632 .f32) (wd : FVec Ideal S2x2816x1024 .f32)

/-- The attention's columns and then the gate's, of row `p`. -/
def joined (p : Fin 8192) (k : Fin 1024) : EReal :=
  if h : (k : ℕ) < 512 then a (ix2 p ⟨k, h⟩) else g (ix2 p ⟨k - 512, by omega⟩)

theorem joined_apply (b : Fin 32) (s : Fin 256) (k : Fin 1024) :
    val_main_v23 (F := Ideal) a g (ix3 b s k) = joined a g ⟨256 * b + s, by omega⟩ k := by
  pointwise [val_main_v23, val_main_v4, val_main_v3, val_main_v2, val_main_v1]
  unfold joined
  simp only [Nat.mul_comm 256]

/-- The residual of sequence `b`. -/
def stream (b : Fin 32) (s : Fin 256) : Fin 1024 → EReal :=
  resRow (fun k => x (ix2 ⟨256 * b + s, by omega⟩ k)) (fun k => md (ix4 0 0 2 k))
    (joined a g ⟨256 * b + s, by omega⟩) (fun k c => wo (ix3 0 k c))

theorem residual_apply (b : Fin 32) (s : Fin 256) (c : Fin 1024) :
    val_main_v28 (F := Ideal) x a g md wo (ix3 b s c) = stream x a g md wo b s c := by
  pointwise [val_main_v28, val_main_v27, val_main_v26, val_main_v25, val_main_v24, val_main_v13, val_main_v12, val_main_v11,
    val_main_v0]
  simp only [joined_apply]
  unfold stream resRow
  simp only [Nat.mul_comm 256]

theorem normed_apply (b : Fin 32) (s : Fin 256) (c : Fin 1024) :
    val_main_v44 (F := Ideal) x a g md wo (ix3 b s c)
      = normRow (fun k => md (ix4 0 0 4 k)) (fun k => md (ix4 0 0 3 k))
          (stream x a g md wo b s) c := by
  have h := residual_apply x a g md wo b s
  pointwise [val_main_v44, val_main_v43, val_main_v42, val_main_v41, val_main_v40, val_main_v39, val_main_v38, val_main_v37,
    val_main_v36, val_main_v35, val_main_v34, val_main_v33, val_main_v32, val_main_v31, val_main_v30, val_main_v29,
    val_main_cst, val_main_cst_0, val_main_cst_1, val_main_cst_2, val_main_v19, val_main_v18, val_main_v17, val_main_v16,
    val_main_v15, val_main_v14]
  simp only [h]
  rfl

/-- The feed-forward's input of sequence `b`, rows numbered from one. -/
def inRow (b : Fin 32) (s : ℕ) : Fin 1024 → EReal :=
  padded (fun k => md (ix4 0 0 4 k)) (fun k => md (ix4 0 0 3 k)) (stream x a g md wo b) s

theorem ofInt_zero : val_main_call0_v0 (F := Ideal) (Shape.Idx.first h_S_) = 0 := by
  pointwise [val_main_call0_v0, val_main_c]
  show (((0#32 : BitVec 32).toInt : ℝ) : EReal) = 0
  simp

theorem padded_apply (b : Fin 32) (s : Fin 258) (n : Fin 5632) :
    val_main_v54 (F := Ideal) x a g md wo wu (ix3 b s n)
      = ∑ k, inRow x a g md wo b s k * wu (ix3 0 k n) := by
  pointwise [val_main_v54, val_main_v53, val_main_v46, val_main_v45]
  unfold inRow padded
  by_cases h : 1 ≤ (s : ℕ) ∧ (s : ℕ) ≤ 256
  · rw [dif_pos ⟨h.1, by omega⟩]
    simp only [dif_pos h, normed_apply]
  · rw [dif_neg (by omega), ofInt_zero]
    simp only [dif_neg h, zero_mul, Finset.sum_const_zero]

theorem conv_apply (b : Fin 32) (s : Fin 256) (n : Fin 5632) :
    val_main_v79 (F := Ideal) x a g md wo wu cw cb (ix3 b s n)
      = convAt (fun k => wu (ix3 0 k n)) (fun i => cw (ix3 0 i n)) (cb (ix2 0 n)) (inRow x a g md wo b s)
          (inRow x a g md wo b (s + 1)) (inRow x a g md wo b (s + 2)) := by
  pointwise [val_main_v79, val_main_v78, val_main_v77, val_main_v76, val_main_v75, val_main_v74, val_main_v73, val_main_v72,
    val_main_v71, val_main_v70, val_main_v69, val_main_v68, val_main_v67, val_main_v66, val_main_v65, val_main_v64,
    val_main_v63, val_main_v62, val_main_v61, val_main_v60, val_main_v59, val_main_v58, val_main_v57, val_main_v56,
    val_main_v55, val_main_cst_3, val_main_v50, val_main_v49, val_main_v48, val_main_v47]
  simp only [padded_apply, Nat.add_comm _ (s : ℕ)]
  unfold convAt
  simp only [mul_comm (cw _)]

theorem gated_apply (b : Fin 32) (s : Fin 256) (n : Fin 2816) :
    val_main_v83 (F := Ideal) x a g md wo wu cw cb (ix3 b s n)
      = unit (fun k n => wu (ix3 0 k n)) (fun i n => cw (ix3 0 i n)) (fun n => cb (ix2 0 n)) (inRow x a g md wo b s)
          (inRow x a g md wo b (s + 1)) (inRow x a g md wo b (s + 2)) n := by
  pointwise [val_main_v83, val_main_v82, val_main_v81, val_main_v80, val_main_call1_v5, val_main_call1_v4, val_main_call1_v3,
    val_main_call1_v2, val_main_call1_v1, val_main_call1_v0, val_main_call1_cst, val_main_call1_cst_0]
  simp only [conv_apply]
  rfl

/-- The result's row `s` of sequence `b`. -/
def value (b : Fin 32) (s : Fin 256) (c : Fin 1024) : EReal :=
  stream x a g md wo b s c + md (ix4 0 0 5 c) *
    ffn (fun k n => wu (ix3 0 k n)) (fun i n => cw (ix3 0 i n)) (fun n => cb (ix2 0 n)) (fun n c => wd (ix3 0 n c))
      (inRow x a g md wo b s) (inRow x a g md wo b (s + 1)) (inRow x a g md wo b (s + 2)) c

theorem result_apply (b : Fin 32) (s : Fin 256) (c : Fin 1024) :
    val_main_v88 (F := Ideal) x a g md wo wu cw cb wd (ix2 ⟨256 * b + s, by omega⟩ c)
      = value x a g md wo wu cw cb wd b s c := by
  pointwise [val_main_v88, val_main_v87, val_main_v86, val_main_v85, val_main_v84, val_main_v52, val_main_v51, val_main_v22,
    val_main_v21, val_main_v20]
  simp only [residual_apply, gated_apply]
  rfl

end Cert.PostECRef
end
-- ==== Proof.PostEvenCtx.Equation.lean ====
/- The final array of the layer's second half over the context tokens is the reference's: each grid point reads its own 512
   rows, two whole sequences, and the whole of the weights. -/
module

public import proofs.«01_k».proof.Proof.PostEvenCtx.Body
public import proofs.«01_k».proof.Proof.PostEvenCtx.Ref

@[expose] public section

set_option maxRecDepth 16384

noncomputable section

namespace Cert.PostEC

open Idealize.ShloMosaic Idealize.ShloMosaic.Pointwise Idealize.ShloMosaic.Pipeline Idealize.SL.Sem
open Cert.PostEvenCtxIdeal Cert.PostEvenCtxIdeal.Gen Cert.Ffn
open Cert.Post2 (mods)
open Cert.PostC (input input_apply own_apply result_apply tileRow before after)

variable (m : (ℓ : Loc nD τ sig) → Buf (Elt Ideal) ℓ) (c : Dev nD)

theorem idx : ∀ t : Fin cfg0.N, win0_0.index t = ![t.val, 0] ∧ win0_1.index t = ![t.val, 0]
    ∧ win0_2.index t = ![t.val, 0]
    ∧ win0_3.index t = ![0, 0, 0, 0] ∧ win0_4.index t = ![0, 0] ∧ win0_5.index t = ![0, 0, 0]
    ∧ win0_6.index t = ![0, 0, 0] ∧ win0_7.index t = ![0, 0, 0] ∧ win0_8.index t = ![0, 0, 0, 0]
    ∧ win0_9.index t = ![t.val, 0] :=
  (by decide +kernel : ∀ t : Fin grid0.N, _)

variable (t : Fin cfg0.N)

theorem mods_read (i : Fin 6) (k : Fin 1024) :
    mods (iblk m c 3 t) (ix2 i k) = m ((c.tc : Thread nD τ).loc main_arg3) (ix4 0 0 i k) := by
  pointwise [mods]
  blk_ext [iblk, V, idx t]

theorem x_read (e : Fin 512) (p : Fin 8192) (hp : (p : ℕ) = 512 * t + e) (k : Fin 1024) :
    iblk m c 0 t (ix2 e k) = m ((c.tc : Thread nD τ).loc main_arg0) (ix2 p k) := by
  blk_ext [iblk, V, idx t]

/-- Row `e` of the tile of the attention and the gate. -/
theorem a_read (e : Fin 512) (p : Fin 8192) (hp : (p : ℕ) = 512 * t + e) (k : Fin 1024) :
    aTile m c t (ix2 e k) = Cert.PostECRef.joined (m ((c.tc : Thread nD τ).loc main_arg1))
      (m ((c.tc : Thread nD τ).loc main_arg2)) p k := by
  unfold aTile Cert.PostECRef.joined
  rw [joinCols_apply]
  split
  · blk_ext [iblk, V, idx t]
  · blk_ext [iblk, V, idx t]

theorem wo_apply (x : FVec Ideal S1x1024x1024 .f32) (k n : Fin 1024) :
    (truncf .bf16 (shapeCast S1024x1024 x shapeCasts_S1x1024x1024_S1024x1024) bitsLt_bf16_f32 : FVec Ideal S1024x1024 .bf16)
      (ix2 k n) = x (ix3 0 k n) := by
  pointwise []

theorem wo_read (k n : Fin 1024) :
    iblk m c 4 t (ix2 k n) = m ((c.tc : Thread nD τ).loc main_arg4) (ix3 0 k n) := by
  unfold iblk
  entry_read
  exact (congrArg _ (show (win0_4.blk t).view.emb (ix2 k n) = ix2 k n by blk_ext [idx t])).trans (wo_apply _ _ _)

theorem wu_read (k : Fin 1024) (n : Fin 5632) :
    iblk m c 5 t (ix3 0 k n) = m ((c.tc : Thread nD τ).loc main_arg5) (ix3 0 k n) := by
  unfold iblk
  entry_read
  exact congrArg (m ((c.tc : Thread nD τ).loc main_arg5))
    (show (win0_5.blk t).view.emb (ix3 0 k n) = ix3 0 k n by blk_ext [idx t])

theorem cw_read (k : Fin 3) (n : Fin 5632) :
    iblk m c 6 t (ix3 0 k n) = m ((c.tc : Thread nD τ).loc main_arg6) (ix3 0 k n) := by
  blk_ext [iblk, V, idx t]

theorem cb_apply (x : FVec Ideal S2x5632 .f32) (l : Fin 2) (n : Fin 5632) :
    broadcastInDim S2x1x5632 ![0, 2] bcast_S2x5632_S2x1x5632_0_2 x (ix3 l 0 n) = x (ix2 l n) := by
  pointwise []

theorem cb_read (n : Fin 5632) :
    iblk m c 7 t (ix3 0 0 n) = m ((c.tc : Thread nD τ).loc main_arg7) (ix2 0 n) := by
  unfold iblk
  entry_read
  exact (congrArg _ (show (win0_7.blk t).view.emb (ix3 0 0 n) = ix3 0 0 n by blk_ext [idx t])).trans (cb_apply _ _ _)

theorem wd_apply (x : FVec Ideal S2x2816x1024 .f32) (l : Fin 2) (n : Fin 2816) (k : Fin 1024) :
    shapeCast S2x11x256x1024 (truncf .bf16 x bitsLt_bf16_f32 : FVec Ideal S2x2816x1024 .bf16)
      shapeCasts_S2x2816x1024_S2x11x256x1024 (ix4 l ⟨n / 256, by omega⟩ ⟨n % 256, by omega⟩ k) = x (ix3 l n k) := by
  pointwise []
  blk_ext []

theorem wd_read (n : Fin 2816) (k : Fin 1024) :
    iblk m c 8 t (ix4 0 ⟨n / 256, by omega⟩ ⟨n % 256, by omega⟩ k) = m ((c.tc : Thread nD τ).loc main_arg8) (ix3 0 n k) := by
  unfold iblk
  entry_read
  exact (congrArg _ (show (win0_8.blk t).view.emb (ix4 0 ⟨n / 256, by omega⟩ ⟨n % 256, by omega⟩ k)
    = ix4 0 ⟨n / 256, by omega⟩ ⟨n % 256, by omega⟩ k by blk_ext [idx t])).trans (wd_apply _ _ _ _)

/-- The residual's row that row `e` of the tile is. -/
theorem row_read (b : Fin 32) (e : Fin 512) (s : Fin 256) (hs : 256 * (b : ℕ) + s = 512 * t + e) (k : Fin 1024) :
    tileRow (mods (iblk m c 3 t)) (iblk m c 0 t) (aTile m c t) (iblk m c 4 t) e k
      = Cert.PostECRef.stream (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b s k := by
  unfold tileRow Cert.PostECRef.stream
  simp only [mods_read m c t, wo_read, x_read m c t e ⟨256 * b + s, by omega⟩ hs, a_read m c t e ⟨256 * b + s, by omega⟩ hs]

/-- The feed-forward's input at row `e` of the tile. -/
theorem input_read (b : Fin 32) (p : ℕ) (hp : 1 ≤ p ∧ p ≤ 256) (e : Fin 512) (he : 256 * (b : ℕ) + p = 512 * t + e + 1)
    (k : Fin 1024) :
    input (mods (iblk m c 3 t)) (iblk m c 0 t) (aTile m c t) (iblk m c 4 t) (ix2 e k)
      = Cert.PostECRef.inRow (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b p k := by
  refine (input_apply _ _ _ _ e k).trans ?_
  unfold Cert.PostECRef.inRow padded
  rw [dif_pos hp]
  simp only [mods_read m c t]
  congr 1
  funext l
  exact row_read m c t b e _ (by show 256 * (b : ℕ) + (p - 1) = 512 * t + e; omega) l

/-- What a grid point writes is its rows of the reference's result. -/
theorem point (b : Fin 32) (r : Fin 512) (s : Fin 256) (hs : 256 * (b : ℕ) + s = 512 * t + r) (k : Fin 1024) :
    outsAt0 m c t (ix2 r k)
      = Cert.PostEvenCtxRefIdeal.Read.val_main_v88 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (ix2 ⟨256 * b + s, by omega⟩ k) := by
  have ht : (t : ℕ) < 16 := N_0 ▸ t.isLt
  rw [out_eq, Cert.PostECRef.result_apply]
  refine (result_apply _ _ _ _ _ _ _ r k).trans ?_
  unfold Cert.PostECRef.value
  have e₀ : before (input (mods (iblk m c 3 t)) (iblk m c 0 t) (aTile m c t) (iblk m c 4 t)) r
      = Cert.PostECRef.inRow (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b s := by
    funext l
    unfold before
    by_cases h : (r : ℕ) % 256 = 0
    · rw [if_neg (by omega)]
      unfold Cert.PostECRef.inRow padded
      rw [dif_neg (by omega)]
    · rw [if_pos h]
      exact input_read m c t b s (by omega) _ (by show 256 * (b : ℕ) + s = 512 * t + (r + 511) % 512 + 1; omega) l
  have e₁ := input_read m c t b (s + 1) (by omega) r (by omega)
  have e₂ : after (input (mods (iblk m c 3 t)) (iblk m c 0 t) (aTile m c t) (iblk m c 4 t)) r
      = Cert.PostECRef.inRow (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b (s + 2) := by
    funext l
    unfold after
    by_cases h : (r : ℕ) % 256 = 255
    · rw [if_neg (by omega)]
      unfold Cert.PostECRef.inRow padded
      rw [dif_neg (by omega)]
    · rw [if_pos h]
      exact input_read m c t b (s + 2) (by omega) _ (by show 256 * (b : ℕ) + (s + 2) = 512 * t + (r + 1) % 512 + 1; omega) l
  rw [mods_read, own_apply, row_read m c t b r s hs, e₀, e₂]
  simp only [wu_read, cw_read, cb_read, wd_read, e₁]

/-- The final array: the reference's result. -/
theorem final : (dats m 0 c).arrAt 9 cfg0.N
      = Cert.PostEvenCtxRefIdeal.Read.val_main_v88 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  refine (dats m 0 c).arrAt_eq_of_covers 9 _ (by decide +kernel) fun t _ y => ?_
  blk_simp
  rw [after0_9]
  have ht : (t : ℕ) < 16 := N_0 ▸ t.isLt
  have h₀ : (y 0 : ℕ) < 512 := (y 0).isLt
  have h₁ : (y 1 : ℕ) < 1024 := (y 1).isLt
  have h := point m c t ⟨2 * t + y 0 / 256, by omega⟩ ⟨y 0, h₀⟩ ⟨y 0 % 256, by omega⟩
    (by show 256 * (2 * (t : ℕ) + y 0 / 256) + y 0 % 256 = 512 * t + y 0; omega) ⟨y 1, h₁⟩
  refine Eq.trans ?_ (h.trans ?_)
  · refine congrArg _ ?_
    blk_ext []
  · refine congrArg _ ?_
    blk_ext [idx t]

end Cert.PostEC
end
-- ==== Proof.PostEvenCtx.Claim.lean ====
/- The claims of the gated layer's second half over the context tokens: the runs leave the arguments unchanged, and the kernel's result is the
   reference's. -/
module

public import proofs.«01_k».proof.Defs
public import proofs.«01_k».proof.Proof.Gen.PostEvenCtx.Frame
public import proofs.«01_k».proof.Proof.Gen.PostEvenCtxRefIdeal.Run
public import proofs.«01_k».proof.Proof.PostEvenCtx.Equation
public import Idealize.ShloMosaic.Adequacy
public import Idealize.ShloMosaic.Init

@[expose] public section

noncomputable section

namespace Cert.PostEC

open Idealize.ShloMosaic Idealize.SL.Sem

theorem frame_p : Cert.quiescent_PostEvenCtx (hPostEvenCtx := Cert.PostEvenCtx.Gen.facts) :=
  fun m ρ _ => Cert.PostEvenCtx.Gen.frame m ρ

theorem frame_pi : Cert.quiescent_PostEvenCtxIdeal (hPostEvenCtxIdeal := Cert.PostEvenCtxIdeal.Gen.facts) :=
  fun m ρ _ => Cert.PostEvenCtxIdeal.Gen.frame m ρ

theorem frame_ri : Cert.quiescent_PostEvenCtxRefIdeal (hPostEvenCtxRefIdeal := Cert.PostEvenCtxRefIdeal.Gen.facts) := fun m ρ _ =>
  (θ_run Cert.PostEvenCtxRefIdeal.defs _ _).mono
    (fun r h => ⟨fun c => (h c).2, Idealize.ShloMosaic.sem_eq_zero_of_no_sems (by decide) r.2⟩)
    (Cert.PostEvenCtxRefIdeal.Value.run (F := Ideal) m ρ)

theorem algebraic : Cert.algebraic_PostEvenCtxIdeal_PostEvenCtxRefIdeal (hPostEvenCtxIdeal := Cert.PostEvenCtxIdeal.Gen.facts)
    (hPostEvenCtxRefIdeal := Cert.PostEvenCtxRefIdeal.Gen.facts) := by
  intro m ρ m' ρ' _ hagree
  refine ⟨_, Cert.PostEvenCtxIdeal.Value.run_blocks m ρ, ?_⟩
  refine (θ_run Cert.PostEvenCtxRefIdeal.defs _ _).mono (fun _ h c => ⟨(h c).1.trans ?_, (h c).2⟩)
    (Cert.PostEvenCtxRefIdeal.Value.run (F := Ideal) m' ρ')
  obtain ⟨h₀, h₁, h₂, h₃, h₄, h₅, h₆, h₇, h₈⟩ := hagree c
  rw [Cert.PostEvenCtxRefIdeal.Read.val_main_v88_eq, h₀, h₁, h₂, h₃, h₄, h₅, h₆, h₇, h₈]
  exact (final m c).symm

end Cert.PostEC

end
-- ==== Proof.Pre.Turn.lean ====
/-
  Pairs of columns turned by an angle: the turn on one row, and the kernel's form of it, which works on stretches of 128 columns
  with tables of cosines and signed sines and fetches each column's partner by rotating the stretch one way or the other.
-/
module

public import proofs.«01_k».proof.Proof.Pre.Spec
public import Idealize.ShloMosaic.Lib.Pointwise

@[expose] public section

set_option maxRecDepth 16384

noncomputable section

namespace Cert.Pre

open Idealize.ShloMosaic Idealize.ShloMosaic.Pointwise

/-- The other column of a column's pair. -/
def partner (M : ℕ) {N : ℕ} (h : N = 2 * M) (n : Fin N) : Fin N :=
  ⟨if (n : ℕ) % 2 = 0 then n + 1 else n - 1, by have := n.isLt; split <;> omega⟩

/-- Column `n` after its pair is turned; pair `i` of a head of 64 columns turns by the angle whose cosine is `cs i`. -/
def turn (M : ℕ) {N : ℕ} (h : N = 2 * M) (z : Fin N → EReal) (cs sn : Fin 32 → EReal) (n : Fin N) : EReal :=
  if (n : ℕ) % 2 = 0 then z n * cs ⟨n / 2 % 32, by omega⟩ - z (partner M h n) * sn ⟨n / 2 % 32, by omega⟩
  else z (partner M h n) * sn ⟨n / 2 % 32, by omega⟩ + z n * cs ⟨n / 2 % 32, by omega⟩

/-- The same from tables over 128 columns, the sines carrying the sign. -/
def tableTurn (M : ℕ) {N : ℕ} (h : N = 2 * M) (z : Fin N → EReal) (cw sw : Fin 128 → EReal) (n : Fin N) : EReal :=
  z n * cw ⟨n % 128, by omega⟩ + z (partner M h n) * sw ⟨n % 128, by omega⟩

theorem tableTurn_eq (M : ℕ) {N : ℕ} (h : N = 2 * M) (z : Fin N → EReal) (cw sw : Fin 128 → EReal) (cs sn : Fin 32 → EReal)
    (hc : ∀ l : Fin 128, cw l = cs ⟨l / 2 % 32, by omega⟩)
    (hs : ∀ l : Fin 128, sw l = sn ⟨l / 2 % 32, by omega⟩ * (if (l : ℕ) % 2 = 0 then -1 else 1)) (n : Fin N) :
    tableTurn M h z cw sw n = turn M h z cs sn n := by
  unfold tableTurn turn
  rw [hc, hs]
  have e₁ : (n : ℕ) % 128 / 2 % 32 = n / 2 % 32 := by omega
  have e₂ : (n : ℕ) % 128 % 2 = n % 2 := by omega
  simp only [e₁, e₂]
  split_ifs
  · rw [mul_neg_one, mul_neg, sub_eq_add_neg]
  · rw [mul_one, add_comm]

theorem ofBits_factor : ∃ r : ℝ, 0 ≤ r ∧ Ideal.ofBits .f32 0x3E38AA3B#32 = (r : EReal) := by
  refine ⟨_, ?_, by simp only [Ideal.ofBits, Ideal.ieee]; rfl⟩
  rw [if_neg (by decide)]
  positivity

/-- A factor that is a number and not negative passes through the turn. -/
theorem turn_scale (M : ℕ) {N : ℕ} (h : N = 2 * M) (z : Fin N → EReal) (cs sn : Fin 32 → EReal) (n : Fin N) :
    turn M h (fun n => z n * Ideal.ofBits .f32 0x3E38AA3B#32) cs sn n
      = turn M h z cs sn n * Ideal.ofBits .f32 0x3E38AA3B#32 := by
  obtain ⟨r, h₀, hr⟩ := ofBits_factor
  rw [hr]
  have hn : (0 : EReal) ≤ (r : EReal) := by exact_mod_cast h₀
  unfold turn
  split_ifs
  · rw [sub_eq_add_neg, sub_eq_add_neg, EReal.right_distrib_of_nonneg_of_ne_top hn (EReal.coe_ne_top r), neg_mul,
      mul_right_comm, mul_right_comm (z (partner M h n))]
  · rw [EReal.right_distrib_of_nonneg_of_ne_top hn (EReal.coe_ne_top r), mul_right_comm, mul_right_comm (z n)]

theorem lane_bit : ∀ l : Fin 128, IntOp.cmpi .eq (IntOp.andi (BitVec.ofNat 32 l) 1#32) 0#32
    = if (l : ℕ) % 2 = 0 then 1#1 else 0#1 := by decide +kernel

/-- Whether a column of a stretch is the first of its pair. -/
def firsts (R : ℕ) (hi : Shape.Iotas ⟨2, ![R, 128]⟩ .tc 32 [1]) : IVec ⟨2, ![R, 128]⟩ 1 :=
  cmpi .eq (andi (iota .tc ⟨2, ![R, 128]⟩ 32 [1] hi) (broadcast ⟨2, ![R, 128]⟩ 1#32)) (broadcast ⟨2, ![R, 128]⟩ 0#32)

/-- The kernel's turn of one stretch of 128 columns. -/
def stretch (R : ℕ) (hi : Shape.Iotas ⟨2, ![R, 128]⟩ .tc 32 [1]) (hr : Shape.Rotates ⟨2, ![R, 128]⟩ 1 none)
    (z cw sw : FVec Ideal ⟨2, ![R, 128]⟩ .f32) : FVec Ideal ⟨2, ![R, 128]⟩ .f32 :=
  addf (mulf z cw)
    (mulf (select (firsts R hi) (dynamicRotate 1 127#32 none z hr) (dynamicRotate 1 1#32 none z hr)) sw)

theorem rotate_left {R : ℕ} (hr : Shape.Rotates ⟨2, ![R, 128]⟩ 1 none) (z : FVec Ideal ⟨2, ![R, 128]⟩ .f32) (r : Fin R)
    (l : Fin 128) : dynamicRotate 1 127#32 none z hr (ix2 r l) = z (ix2 r ⟨(l + 1) % 128, Nat.mod_lt _ (by decide)⟩) := by
  pointwise []
  refine congrArg z ?_
  refine ((Shape.Idx.norm_def _).trans ?_)
  funext b
  match b with
  | ⟨0, _⟩ => rfl
  | ⟨1, _⟩ => rfl

theorem rotate_right {R : ℕ} (hr : Shape.Rotates ⟨2, ![R, 128]⟩ 1 none) (z : FVec Ideal ⟨2, ![R, 128]⟩ .f32) (r : Fin R)
    (l : Fin 128) : dynamicRotate 1 1#32 none z hr (ix2 r l) = z (ix2 r ⟨(l + 127) % 128, Nat.mod_lt _ (by decide)⟩) := by
  pointwise []
  refine congrArg z ?_
  refine ((Shape.Idx.norm_def _).trans ?_)
  funext b
  match b with
  | ⟨0, _⟩ => rfl
  | ⟨1, _⟩ => rfl

theorem firsts_apply {R : ℕ} (hi : Shape.Iotas ⟨2, ![R, 128]⟩ .tc 32 [1]) (r : Fin R) (l : Fin 128) :
    firsts R hi (ix2 r l) = if (l : ℕ) % 2 = 0 then 1#1 else 0#1 := by
  rw [← lane_bit]
  pointwise [firsts]

theorem stretch_apply {R : ℕ} (hi : Shape.Iotas ⟨2, ![R, 128]⟩ .tc 32 [1]) (hr : Shape.Rotates ⟨2, ![R, 128]⟩ 1 none)
    (z cw sw : FVec Ideal ⟨2, ![R, 128]⟩ .f32) (r : Fin R) (l : Fin 128) :
    stretch R hi hr z cw sw (ix2 r l) = z (ix2 r l) * cw (ix2 r l) + z (ix2 r (partner 64 rfl l)) * sw (ix2 r l) := by
  have hsel : select (firsts R hi) (dynamicRotate 1 127#32 none z hr) (dynamicRotate 1 1#32 none z hr) (ix2 r l)
      = z (ix2 r (partner 64 rfl l)) := by
    show Scalar.select (firsts R hi (ix2 r l)) (dynamicRotate 1 127#32 none z hr (ix2 r l))
      (dynamicRotate 1 1#32 none z hr (ix2 r l)) = _
    rw [firsts_apply, rotate_left, rotate_right]
    have hl := l.isLt
    unfold Scalar.select partner
    split
    · refine congrArg (fun j => z (ix2 r j)) (Fin.ext ?_)
      simp_all
      omega
    · refine congrArg (fun j => z (ix2 r j)) (Fin.ext ?_)
      simp_all
      omega
  show z (ix2 r l) * cw (ix2 r l) + select (firsts R hi) (dynamicRotate 1 127#32 none z hr)
    (dynamicRotate 1 1#32 none z hr) (ix2 r l) * sw (ix2 r l) = _
  rw [hsel]

/-- A stretch cut out of wider rows, from column `o`: the turn of the whole row at the stretch's columns. -/
theorem stretch_cut (M : ℕ) {R N : ℕ} (hN : N = 2 * M) (hi : Shape.Iotas ⟨2, ![R, 128]⟩ .tc 32 [1])
    (hr : Shape.Rotates ⟨2, ![R, 128]⟩ 1 none) (v : FVec Ideal ⟨2, ![R, N]⟩ .f32) (s cw sw : FVec Ideal ⟨2, ![R, 128]⟩ .f32)
    (a : ℕ) (ha : 128 * a + 128 ≤ N)
    (hs : ∀ (r : Fin R) (l : Fin 128), s (ix2 r l) = v (ix2 r ⟨128 * a + l, by omega⟩)) (r : Fin R) (l : Fin 128) :
    stretch R hi hr s cw sw (ix2 r l)
      = tableTurn M hN (fun n => v (ix2 r n)) (fun j => cw (ix2 r j)) (fun j => sw (ix2 r j)) ⟨128 * a + l, by omega⟩ := by
  have hl := l.isLt
  rw [stretch_apply, hs, hs]
  unfold tableTurn
  have e : (⟨(128 * a + l) % 128, by omega⟩ : Fin 128) = l := Fin.ext (by show (128 * a + (l : ℕ)) % 128 = l; omega)
  have p : (⟨128 * a + partner 64 rfl l, by have := (partner 64 rfl l).isLt; omega⟩ : Fin N)
      = partner M hN ⟨128 * a + l, by omega⟩ := by
    refine Fin.ext ?_
    have e' : (128 * a + (l : ℕ)) % 2 = l % 2 := by omega
    simp only [partner, e']
    split <;> omega
  rw [p]
  simp only [e]

end Cert.Pre
end
-- ==== Proof.PreOddLat.Rows.lean ====
/-
  The odd layer's projections over the latent tokens, read at an index: the body's two halves of 512 rows.
-/
module

public import proofs.«01_k».proof.Proof.Gen.PreOddLatIdeal.Frame
public import proofs.«01_k».proof.Proof.Pre.Turn
public import proofs.«01_k».proof.Proof.PreOdd.Rows

@[expose] public section

set_option maxRecDepth 16384

noncomputable section

namespace Cert.PreOL

open Cert.PreOddLatIdeal Cert.PreOddLatIdeal.Gen Idealize.ShloMosaic Idealize.ShloMosaic.TcCoe Idealize.SL.Sem Cert.Ffn Cert.Pre
open Cert.PreO (row IsTable slab)

variable (md : FVec Ideal S1x1x6x1024 .f32) (x : FVec Ideal S512x1024 .f32) (w : FVec Ideal S1024x1536 .bf16)
  (tb : FVec Ideal S256x256 .bf16) (r : Fin 512)

theorem lower_proj (n : Fin 1536) : k0_pay5 (F := Ideal) md x w (ix2 r n) = row md x w r n := by
  pointwise [k0_pay5, k0_pay4]
  rfl

theorem upper_proj (n : Fin 1536) :
    k0_pay29 (F := Ideal) (k0_pay4 md) x (k0_pay28 x) w (ix2 r n) = row md x w r n := by
  pointwise [k0_pay29, k0_pay28, k0_pay4]
  rfl

theorem lower_k (hT : IsTable tb) (z : FVec Ideal S512x1536 .f32) (g : FVec Ideal S1x256 .f32) (c : Fin 256) :
    k0_pay12 (F := Ideal) tb z g (ix2 r c)
      = headNorm 24 rfl (fun n => z (ix2 r n)) ⟨1024 + c, by omega⟩ * g (ix2 0 c) := by
  rw [← slab tb hT (fun n => z (ix2 r n)) 16 (by omega) c]
  pointwise [k0_pay12]

theorem upper_k (hT : IsTable tb) (z : FVec Ideal S512x1536 .f32) (g : FVec Ideal S1x256 .f32) (c : Fin 256) :
    k0_pay36 (F := Ideal) tb z g (ix2 r c)
      = headNorm 24 rfl (fun n => z (ix2 r n)) ⟨1024 + c, by omega⟩ * g (ix2 0 c) := by
  rw [← slab tb hT (fun n => z (ix2 r n)) 16 (by omega) c]
  pointwise [k0_pay36]

theorem lower_q (hT : IsTable tb) (g : FVec Ideal S1x1024 .f32) (a : Fin 4) (c : Fin 256) :
    k0_pay11 (F := Ideal) tb (k0_pay7 md x w) (k0_pay8 md tb x w) (k0_pay9 md x w) (k0_pay10 md tb x w)
        (Scalar.ofBits .f32 0x358637BD#32) g (ix2 r ⟨256 * a + c, by omega⟩)
      = headNorm 24 rfl (fun n => k0_pay5 (F := Ideal) md x w (ix2 r n)) ⟨256 * a + c, by omega⟩ * g (ix2 0 ⟨256 * a + c, by omega⟩) := by
  have h := slab tb hT (fun n => k0_pay5 (F := Ideal) md x w (ix2 r n)) (4 * a) (by omega) c
  have e : ∀ n : ℕ, 64 * (4 * (a : ℕ)) + n = 256 * a + n := fun n => by omega
  simp only [e] at h
  rw [← h]
  generalize hz : k0_pay5 (F := Ideal) md x w = z
  pointwise [k0_pay11, k0_pay7, k0_pay8, k0_pay9, k0_pay10, hz]
  refine Ideal.mul_congr ?_ rfl
  obtain ha | ha | ha | ha : (a : ℕ) = 0 ∨ (a : ℕ) = 1 ∨ (a : ℕ) = 2 ∨ (a : ℕ) = 3 := by omega
  · rw [dif_pos (by omega)]
    simp only [ha, Nat.mul_zero, Nat.zero_add]
  · rw [dif_neg (by omega), dif_pos (by omega)]
    simp only [ha, Nat.mul_one, Nat.add_sub_cancel_left]
  · have hc : 256 * 2 + (c : ℕ) - 256 - 256 = c := by omega
    rw [dif_neg (by omega), dif_neg (by omega), dif_pos (by omega)]
    simp only [ha, hc]
  · have hc : 256 * 3 + (c : ℕ) - 256 - 256 - 256 = c := by omega
    rw [dif_neg (by omega), dif_neg (by omega), dif_neg (by omega)]
    simp only [ha, hc]

theorem upper_q (hT : IsTable tb) (m : FVec Ideal S6x1024 .f32) (x' : FVec Ideal S512x1024 .f32) (g : FVec Ideal S1x1024 .f32)
    (a : Fin 4) (c : Fin 256) :
    k0_pay35 (F := Ideal) tb (k0_pay31 m x x' w) (k0_pay32 m tb x x' w) (k0_pay33 m tb x x' w) (k0_pay34 m tb x x' w) g
        (ix2 r ⟨256 * a + c, by omega⟩)
      = headNorm 24 rfl (fun n => k0_pay29 (F := Ideal) m x x' w (ix2 r n)) ⟨256 * a + c, by omega⟩ * g (ix2 0 ⟨256 * a + c, by omega⟩) := by
  have h := slab tb hT (fun n => k0_pay29 (F := Ideal) m x x' w (ix2 r n)) (4 * a) (by omega) c
  have e : ∀ n : ℕ, 64 * (4 * (a : ℕ)) + n = 256 * a + n := fun n => by omega
  simp only [e] at h
  rw [← h]
  generalize hz : k0_pay29 (F := Ideal) m x x' w = z
  pointwise [k0_pay35, k0_pay31, k0_pay32, k0_pay33, k0_pay34, hz]
  refine Ideal.mul_congr ?_ rfl
  obtain ha | ha | ha | ha : (a : ℕ) = 0 ∨ (a : ℕ) = 1 ∨ (a : ℕ) = 2 ∨ (a : ℕ) = 3 := by omega
  · rw [dif_pos (by omega)]
    simp only [ha, Nat.mul_zero, Nat.zero_add]
  · rw [dif_neg (by omega), dif_pos (by omega)]
    simp only [ha, Nat.mul_one, Nat.add_sub_cancel_left]
  · have hc : 256 * 2 + (c : ℕ) - 256 - 256 = c := by omega
    rw [dif_neg (by omega), dif_neg (by omega), dif_pos (by omega)]
    simp only [ha, hc]
  · have hc : 256 * 3 + (c : ℕ) - 256 - 256 - 256 = c := by omega
    rw [dif_neg (by omega), dif_neg (by omega), dif_neg (by omega)]
    simp only [ha, hc]

section turned

variable (z : FVec Ideal S512x1024 .f32) (k : FVec Ideal S512x256 .f32) (cw sw : FVec Ideal S512x128 .f32)

/-- A stretch of 128 columns turned. -/
def piece (s : FVec Ideal S512x128 .f32) : FVec Ideal S512x128 .f32 :=
  stretch 512 iota_S512x128_d1_w32 rotates_S512x128_d1 s cw sw

/-- All the queries of a half, turned stretch by stretch. -/
def turnedQueries : FVec Ideal S512x1024 .bf16 :=
  truncf .bf16 (concatenate S512x1024 1
    [⟨S512x128, piece cw sw (extractStridedSlice S512x128 ![0, 0] z slices_S512x1024_o0_0_S512x128)⟩,
     ⟨S512x128, piece cw sw (extractStridedSlice S512x128 ![0, 128] z slices_S512x1024_o0_128_S512x128)⟩,
     ⟨S512x128, piece cw sw (extractStridedSlice S512x128 ![0, 256] z slices_S512x1024_o0_256_S512x128)⟩,
     ⟨S512x128, piece cw sw (extractStridedSlice S512x128 ![0, 384] z slices_S512x1024_o0_384_S512x128)⟩,
     ⟨S512x128, piece cw sw (extractStridedSlice S512x128 ![0, 512] z slices_S512x1024_o0_512_S512x128)⟩,
     ⟨S512x128, piece cw sw (extractStridedSlice S512x128 ![0, 640] z slices_S512x1024_o0_640_S512x128)⟩,
     ⟨S512x128, piece cw sw (extractStridedSlice S512x128 ![0, 768] z slices_S512x1024_o0_768_S512x128)⟩,
     ⟨S512x128, piece cw sw (extractStridedSlice S512x128 ![0, 896] z slices_S512x1024_o0_896_S512x128)⟩]
    concatenates_S512x128_S512x128_S512x128_S512x128_S512x128_S512x128_S512x128_S512x128_S512x1024_d1) bitsLt_bf16_f32

theorem lower_turned :
    k0_pay25 (F := Ideal) z cw sw (k0_pay16 k0_pay15 0#32) (k0_pay17 z cw sw k0_pay15 0#32) (k0_pay18 z cw sw k0_pay15 0#32)
        (k0_pay19 z cw sw k0_pay15 0#32) (k0_pay20 z cw sw k0_pay15 0#32) (k0_pay21 z cw sw k0_pay15 0#32)
        (k0_pay22 z cw sw k0_pay15 0#32) (k0_pay23 z) (k0_pay24 z) 1#32
      = turnedQueries z cw sw := rfl

theorem upper_turned (z₁ : FVec Ideal S512x1024 .f32) (z₂ z₃ z₄ : FVec Ideal S512x256 .f32) (g : FVec Ideal S1x1024 .f32)
    (hz : k0_pay35 (F := Ideal) tb z₁ z₂ z₃ z₄ g = z) :
    k0_pay1 (F := Ideal) (k0_pay40 tb z₁ z₂ z₃ z₄ g cw sw)
        (k0_pay43 (k0_pay37 cw) (k0_pay38 sw) k0_pay39 (k0_pay41 tb z₁ z₂ z₃ z₄ g) (k0_pay42 tb z₁ z₂ z₃ z₄ g))
        (k0_pay44 z (k0_pay37 cw) (k0_pay38 sw) k0_pay39) (k0_pay45 z (k0_pay37 cw) (k0_pay38 sw) k0_pay39)
        (k0_pay46 z (k0_pay37 cw) (k0_pay38 sw) k0_pay39) (k0_pay47 z (k0_pay37 cw) (k0_pay38 sw) k0_pay39)
        (k0_pay48 z (k0_pay37 cw) (k0_pay38 sw) k0_pay39) (k0_pay49 z (k0_pay37 cw) (k0_pay38 sw) k0_pay39)
      = turnedQueries z (k0_pay37 cw) (k0_pay38 sw) := by
  subst hz
  rfl

theorem cast_same (y : FVec Ideal S512x128 .f32) : k0_pay13 (F := Ideal) y = y ∧ k0_pay14 (F := Ideal) y = y
    ∧ k0_pay37 (F := Ideal) y = y ∧ k0_pay38 (F := Ideal) y = y := by
  refine ⟨?_, ?_, ?_, ?_⟩ <;> exact shapeCast_self _ _

/-- All the keys of a half, turned stretch by stretch. -/
def turnedKeys : FVec Ideal S512x256 .bf16 :=
  truncf .bf16 (concatenate S512x256 1
    [⟨S512x128, piece cw sw (extractStridedSlice S512x128 ![0, 0] k slices_S512x256_o0_0_S512x128)⟩,
     ⟨S512x128, piece cw sw (extractStridedSlice S512x128 ![0, 128] k slices_S512x256_o0_128_S512x128)⟩]
    concatenates_S512x128_S512x128_S512x256_d1) bitsLt_bf16_f32

theorem lower_turned_k : k0_pay26 (F := Ideal) k cw sw = turnedKeys k cw sw := rfl
theorem upper_turned_k : k0_pay2 (F := Ideal) k cw sw = turnedKeys k cw sw := rfl

theorem piece_cut {N : ℕ} (M : ℕ) (hN : N = 2 * M) (v : FVec Ideal ⟨2, ![512, N]⟩ .f32) (s : FVec Ideal S512x128 .f32)
    (a : ℕ) (ha : 128 * a + 128 ≤ N)
    (hs : ∀ (r : Fin 512) (l : Fin 128), s (ix2 r l) = v (ix2 r ⟨128 * a + l, by omega⟩)) (l : Fin 128) :
    piece cw sw s (ix2 r l)
      = tableTurn M hN (fun n => v (ix2 r n)) (fun j => cw (ix2 r j)) (fun j => sw (ix2 r j)) ⟨128 * a + l, by omega⟩ :=
  stretch_cut M hN _ _ v s cw sw a ha hs r l

theorem turnedKeys_apply (a : Fin 2) (l : Fin 128) :
    turnedKeys k cw sw (ix2 r ⟨128 * a + l, by omega⟩)
      = tableTurn 128 rfl (fun n => k (ix2 r n)) (fun j => cw (ix2 r j)) (fun j => sw (ix2 r j)) ⟨128 * a + l, by omega⟩ := by
  have hl := l.isLt
  have h₀ := piece_cut r cw sw 128 rfl k _ 0 (by omega)
    (fun r l => show extractStridedSlice S512x128 ![0, 0] k slices_S512x256_o0_0_S512x128 (ix2 r l) = _ by pointwise [])
  have h₁ := piece_cut r cw sw 128 rfl k _ 1 (by omega)
    (fun r l => show extractStridedSlice S512x128 ![0, 128] k slices_S512x256_o0_128_S512x128 (ix2 r l) = _ by pointwise [])
  unfold turnedKeys
  generalize piece cw sw (extractStridedSlice S512x128 ![0, 0] k slices_S512x256_o0_0_S512x128) = p₀ at h₀ ⊢
  generalize piece cw sw (extractStridedSlice S512x128 ![0, 128] k slices_S512x256_o0_128_S512x128) = p₁ at h₁ ⊢
  match a with
  | 0 => exact Eq.trans (by pointwise []) (h₀ l)
  | 1 => exact Eq.trans (by pointwise []) (h₁ l)

theorem joined (p : Fin 8 → FVec Ideal S512x128 .f32) (a : Fin 8) (l : Fin 128) :
    (truncf .bf16 (concatenate S512x1024 1 [⟨S512x128, p 0⟩, ⟨S512x128, p 1⟩, ⟨S512x128, p 2⟩, ⟨S512x128, p 3⟩,
        ⟨S512x128, p 4⟩, ⟨S512x128, p 5⟩, ⟨S512x128, p 6⟩, ⟨S512x128, p 7⟩]
      concatenates_S512x128_S512x128_S512x128_S512x128_S512x128_S512x128_S512x128_S512x128_S512x1024_d1) bitsLt_bf16_f32
        : FVec Ideal S512x1024 .bf16) (ix2 r ⟨128 * a + l, by omega⟩) = p a (ix2 r l) := by
  match a with
  | 0 =>
    pointwise []
  | 1 =>
    pointwise []
  | 2 =>
    pointwise []
    rw [dif_neg (by omega), dif_neg (by omega), dif_pos (by omega)]
    exact congrArg (fun j => p 2 (ix2 r j)) (Fin.ext (show 256 + (l : ℕ) - 128 - 128 = l by omega))
  | 3 =>
    pointwise []
    rw [dif_neg (by omega), dif_neg (by omega), dif_neg (by omega), dif_pos (by omega)]
    exact congrArg (fun j => p 3 (ix2 r j)) (Fin.ext (show 384 + (l : ℕ) - 128 - 128 - 128 = l by omega))
  | 4 =>
    pointwise []
    rw [dif_neg (by omega), dif_neg (by omega), dif_neg (by omega), dif_neg (by omega), dif_pos (by omega)]
    exact congrArg (fun j => p 4 (ix2 r j)) (Fin.ext (show 512 + (l : ℕ) - 128 - 128 - 128 - 128 = l by omega))
  | 5 =>
    pointwise []
    rw [dif_neg (by omega), dif_neg (by omega), dif_neg (by omega), dif_neg (by omega), dif_neg (by omega), dif_pos (by omega)]
    exact congrArg (fun j => p 5 (ix2 r j)) (Fin.ext (show 640 + (l : ℕ) - 128 - 128 - 128 - 128 - 128 = l by omega))
  | 6 =>
    pointwise []
    rw [dif_neg (by omega), dif_neg (by omega), dif_neg (by omega), dif_neg (by omega), dif_neg (by omega), dif_neg (by omega), dif_pos (by omega)]
    exact congrArg (fun j => p 6 (ix2 r j)) (Fin.ext (show 768 + (l : ℕ) - 128 - 128 - 128 - 128 - 128 - 128 = l by omega))
  | 7 =>
    pointwise []
    rw [dif_neg (by omega), dif_neg (by omega), dif_neg (by omega), dif_neg (by omega), dif_neg (by omega), dif_neg (by omega), dif_neg (by omega)]
    exact congrArg (fun j => p 7 (ix2 r j)) (Fin.ext (show 896 + (l : ℕ) - 128 - 128 - 128 - 128 - 128 - 128 - 128 = l by omega))

theorem turnedQueries_apply (a : Fin 8) (l : Fin 128) :
    turnedQueries z cw sw (ix2 r ⟨128 * a + l, by omega⟩)
      = tableTurn 512 rfl (fun n => z (ix2 r n)) (fun j => cw (ix2 r j)) (fun j => sw (ix2 r j)) ⟨128 * a + l, by omega⟩ := by
  have hl := l.isLt
  refine (joined r ![piece cw sw (extractStridedSlice S512x128 ![0, 0] z slices_S512x1024_o0_0_S512x128),
    piece cw sw (extractStridedSlice S512x128 ![0, 128] z slices_S512x1024_o0_128_S512x128),
    piece cw sw (extractStridedSlice S512x128 ![0, 256] z slices_S512x1024_o0_256_S512x128),
    piece cw sw (extractStridedSlice S512x128 ![0, 384] z slices_S512x1024_o0_384_S512x128),
    piece cw sw (extractStridedSlice S512x128 ![0, 512] z slices_S512x1024_o0_512_S512x128),
    piece cw sw (extractStridedSlice S512x128 ![0, 640] z slices_S512x1024_o0_640_S512x128),
    piece cw sw (extractStridedSlice S512x128 ![0, 768] z slices_S512x1024_o0_768_S512x128),
    piece cw sw (extractStridedSlice S512x128 ![0, 896] z slices_S512x1024_o0_896_S512x128)] a l).trans ?_
  match a with
  | 0 => exact piece_cut r cw sw 512 rfl z _ 0 (by omega) (fun r l => by pointwise []) l
  | 1 => exact piece_cut r cw sw 512 rfl z _ 1 (by omega) (fun r l => by pointwise []) l
  | 2 => exact piece_cut r cw sw 512 rfl z _ 2 (by omega) (fun r l => by pointwise []) l
  | 3 => exact piece_cut r cw sw 512 rfl z _ 3 (by omega) (fun r l => by pointwise []) l
  | 4 => exact piece_cut r cw sw 512 rfl z _ 4 (by omega) (fun r l => by pointwise []) l
  | 5 => exact piece_cut r cw sw 512 rfl z _ 5 (by omega) (fun r l => by pointwise []) l
  | 6 => exact piece_cut r cw sw 512 rfl z _ 6 (by omega) (fun r l => by pointwise []) l
  | 7 => exact piece_cut r cw sw 512 rfl z _ 7 (by omega) (fun r l => by pointwise []) l

end turned

end Cert.PreOL
end
-- ==== Proof.PreOddLat.Tiles.lean ====
/-
  The odd layer's projections over the latent tokens: what a grid point leaves in its three results' buffers.
-/
module

public import proofs.«01_k».proof.Proof.PreOddLat.Rows
public import proofs.«01_k».proof.Proof.PreOdd.Tiles

@[expose] public section

set_option maxRecDepth 16384

noncomputable section

namespace Cert.PreOL

open Cert.PreOddLatIdeal Cert.PreOddLatIdeal.Gen Idealize.ShloMosaic Idealize.ShloMosaic.TcCoe Idealize.SL.Sem Cert.Ffn Cert.Pre
open Cert.PreO (row IsTable slab)

variable (x0 : Vec Ideal S1024x1024 .f32) (x1 : Vec Ideal S1x1x6x1024 .f32) (x2 : Vec Ideal S1024x1536 .bf16)
  (x3 : Vec Ideal S256x256 .bf16) (x4 : Vec Ideal S1x1024 .f32) (x5 : Vec Ideal S1x256 .f32)
  (x6 x7 : Vec Ideal S1024x128 .f32)

theorem ld_md : View.ld x1 r0_0 = x1 :=
  View.ld_unit_zero (by funext a; fin_cases a <;> rfl) _ _
theorem ld_weight : View.ld x2 r0_3 = x2 :=
  View.ld_unit_zero (by funext a; fin_cases a <;> rfl) _ _
theorem ld_table : View.ld x3 r0_1 = x3 :=
  View.ld_unit_zero (by funext a; fin_cases a <;> rfl) _ _
theorem ld_qgain : View.ld x4 r0_4 = x4 :=
  View.ld_unit_zero (by funext a; fin_cases a <;> rfl) _ _
theorem ld_kgain : View.ld x5 r0_5 = x5 :=
  View.ld_unit_zero (by funext a; fin_cases a <;> rfl) _ _

/-- The two halves of a tile's rows. -/
def lower : FVec Ideal S512x1024 .f32 := View.ld x0 r0_2
@[inherit_doc lower]
def upper : FVec Ideal S512x1024 .f32 := View.ld x0 r0_8

theorem lower_eq : View.ld x0 r0_2 = lower x0 := rfl
theorem upper_eq : View.ld x0 r0_8 = upper x0 := rfl

theorem row_lower (r : Fin 512) : row x1 (lower x0) x2 r = row x1 x0 x2 ⟨r, by omega⟩ := by
  funext n
  pointwise [row, lower]

theorem row_upper (r : Fin 512) : row x1 (upper x0) x2 r = row x1 x0 x2 ⟨512 + r, by omega⟩ := by
  funext n
  pointwise [row, upper]

theorem angles_lower (r : Fin 512) (j : Fin 128) : (k0_pay13 (F := Ideal) (View.ld x6 r0_6)) (ix2 r j) = x6 (ix2 ⟨r, by omega⟩ j)
    ∧ (k0_pay14 (F := Ideal) (View.ld x6 r0_6)) (ix2 r j) = x6 (ix2 ⟨r, by omega⟩ j) := by
  rw [(cast_same _).1, (cast_same _).2.1]
  constructor <;> pointwise []

theorem angles_upper (r : Fin 512) (j : Fin 128) : (k0_pay37 (F := Ideal) (View.ld x6 r0_9)) (ix2 r j) = x6 (ix2 ⟨512 + r, by omega⟩ j)
    ∧ (k0_pay38 (F := Ideal) (View.ld x6 r0_9)) (ix2 r j) = x6 (ix2 ⟨512 + r, by omega⟩ j) := by
  rw [(cast_same _).2.2.1, (cast_same _).2.2.2]
  constructor <;> pointwise []

/-- The queries and the keys of row `r` of a tile before they are turned. -/
def qRaw (r n : Fin 1024) : EReal := headNorm 24 rfl (row x1 x0 x2 r) ⟨n, by omega⟩ * x4 (ix2 0 n)
@[inherit_doc qRaw]
def kRaw (r : Fin 1024) (c : Fin 256) : EReal := headNorm 24 rfl (row x1 x0 x2 r) ⟨1024 + c, by omega⟩ * x5 (ix2 0 c)

/-- The three results of row `r` of a tile. -/
def qAt (r n : Fin 1024) : EReal :=
  tableTurn 512 rfl (qRaw x0 x1 x2 x4 r) (fun j => x6 (ix2 r j)) (fun j => x7 (ix2 r j)) n
@[inherit_doc qAt]
def kAt (r : Fin 1024) (c : Fin 256) : EReal :=
  tableTurn 128 rfl (kRaw x0 x1 x2 x5 r) (fun j => x6 (ix2 r j)) (fun j => x7 (ix2 r j)) c
@[inherit_doc qAt]
def vAt (r : Fin 1024) (c : Fin 256) : EReal := row x1 x0 x2 r ⟨1280 + c, by omega⟩

theorem col (n : Fin 1024) : ∃ (a : Fin 8) (l : Fin 128), n = ⟨128 * a + l, by omega⟩ :=
  ⟨⟨n / 128, by omega⟩, ⟨n % 128, by omega⟩, Fin.ext (Nat.div_add_mod _ _).symm⟩

theorem kcol (n : Fin 256) : ∃ (a : Fin 2) (l : Fin 128), n = ⟨128 * a + l, by omega⟩ :=
  ⟨⟨n / 128, by omega⟩, ⟨n % 128, by omega⟩, Fin.ext (Nat.div_add_mod _ _).symm⟩

theorem lower_queries (hT : IsTable x3) (r : Fin 512) (n : Fin 1024) :
    k0_pay51 (F := Ideal) x0 x1 x2 x3 x4 x5 x6 x7 (ix2 r n) = qRaw x0 x1 x2 x4 ⟨r, by omega⟩ n := by
  unfold k0_pay51
  rw [ld_md, ld_weight, ld_table, ld_qgain, lower_eq]
  obtain ⟨a, c, rfl⟩ := Cert.PreO.col n
  refine (lower_q x1 _ x2 x3 r hT x4 a c).trans ?_
  unfold qRaw
  simp only [lower_proj, row_lower]

theorem upper_queries (hT : IsTable x3) (r : Fin 512) (n : Fin 1024) :
    k0_pay60 (F := Ideal) x0 x1 x2 x3 x4 x5 x6 x7 (ix2 r n) = qRaw x0 x1 x2 x4 ⟨512 + r, by omega⟩ n := by
  unfold k0_pay60 k0_pay56 k0_pay57 k0_pay58 k0_pay59 k0_pay50 k0_pay55
  rw [ld_md, ld_weight, ld_table, ld_qgain, upper_eq]
  obtain ⟨a, c, rfl⟩ := Cert.PreO.col n
  refine (upper_q _ x2 x3 r hT _ _ x4 a c).trans ?_
  unfold qRaw
  simp only [upper_proj, row_upper]

theorem lower_keys (hT : IsTable x3) (r : Fin 512) (c : Fin 256) :
    k0_pay12 (F := Ideal) (View.ld x3 r0_1) (k0_pay5 (View.ld x1 r0_0) (View.ld x0 r0_2) (View.ld x2 r0_3)) (View.ld x5 r0_5)
      (ix2 r c) = kRaw x0 x1 x2 x5 ⟨r, by omega⟩ c := by
  rw [ld_md, ld_weight, ld_table, ld_kgain, lower_eq]
  refine (lower_k x3 r hT _ x5 c).trans ?_
  unfold kRaw
  simp only [lower_proj, row_lower]

theorem upper_keys (hT : IsTable x3) (r : Fin 512) (c : Fin 256) :
    k0_pay36 (F := Ideal) (View.ld x3 r0_1) (k0_pay29 (k0_pay4 (View.ld x1 r0_0)) (View.ld x0 r0_8) (k0_pay28 (View.ld x0 r0_8))
      (View.ld x2 r0_3)) (View.ld x5 r0_5) (ix2 r c) = kRaw x0 x1 x2 x5 ⟨512 + r, by omega⟩ c := by
  rw [ld_md, ld_weight, ld_table, ld_kgain, upper_eq]
  refine (upper_k x3 r hT _ x5 c).trans ?_
  unfold kRaw
  simp only [upper_proj, row_upper]

theorem out_q (hT : IsTable x3) (r n : Fin 1024) :
    out0_8 (F := Ideal) x0 x1 x2 x3 x4 x5 x6 x7 (ix2 r n) = qAt x0 x1 x2 x4 x6 x7 r n := by
  unfold out0_8
  refine Cert.Post2.stacked (e := .bf16) (R := 1024) (A := 512) (B := 512) (C := 1024) rfl _ _ _ _ (qAt x0 x1 x2 x4 x6 x7)
    (fun r n => ?_) (fun r n => ?_) r n
  · refine (congrFun (upper_turned (View.ld x3 r0_1) (k0_pay60 x0 x1 x2 x3 x4 x5 x6 x7) (View.ld x6 r0_9) (View.ld x7 r0_9)
      (k0_pay56 x0 x1 x2 x3 x4 x5 x6 x7) (k0_pay57 x0 x1 x2 x3 x4 x5 x6 x7) (k0_pay58 x0 x1 x2 x3 x4 x5 x6 x7)
      (k0_pay59 x0 x1 x2 x3 x4 x5 x6 x7) (View.ld x4 r0_4) rfl) _).trans ?_
    obtain ⟨a, c, rfl⟩ := col n
    refine (turnedQueries_apply r _ _ _ a c).trans ?_
    simp only [upper_queries x0 x1 x2 x3 x4 x5 x6 x7 hT, (angles_upper _ _ _).1, (angles_upper _ _ _).2]
    rfl
  · refine (congrFun (lower_turned (k0_pay51 x0 x1 x2 x3 x4 x5 x6 x7) (k0_pay13 (View.ld x6 r0_6))
      (k0_pay14 (View.ld x7 r0_6))) _).trans ?_
    obtain ⟨a, c, rfl⟩ := col n
    refine (turnedQueries_apply r _ _ _ a c).trans ?_
    simp only [lower_queries x0 x1 x2 x3 x4 x5 x6 x7 hT, (angles_lower _ _ _).1, (angles_lower _ _ _).2]
    rfl

theorem out_k (hT : IsTable x3) (r : Fin 1024) (c : Fin 256) :
    out0_9 (F := Ideal) x0 x1 x2 x3 x4 x5 x6 x7 (ix2 r c) = kAt x0 x1 x2 x5 x6 x7 r c := by
  unfold out0_9
  refine Cert.Post2.stacked (e := .bf16) (R := 1024) (A := 512) (B := 512) (C := 256) rfl _ _ _ _ (kAt x0 x1 x2 x5 x6 x7)
    (fun r n => ?_) (fun r n => ?_) r c
  · refine (congrFun (upper_turned_k (k0_pay36 (View.ld x3 r0_1) (k0_pay29 (k0_pay4 (View.ld x1 r0_0)) (View.ld x0 r0_8)
      (k0_pay28 (View.ld x0 r0_8)) (View.ld x2 r0_3)) (View.ld x5 r0_5)) (k0_pay37 (View.ld x6 r0_9))
      (k0_pay38 (View.ld x7 r0_9))) _).trans ?_
    obtain ⟨a, c, rfl⟩ := kcol n
    refine (turnedKeys_apply r _ _ _ a c).trans ?_
    simp only [upper_keys x0 x1 x2 x3 x5 hT, (angles_upper _ _ _).1, (angles_upper _ _ _).2]
    rfl
  · refine (congrFun (lower_turned_k (k0_pay12 (View.ld x3 r0_1) (k0_pay5 (View.ld x1 r0_0) (View.ld x0 r0_2) (View.ld x2 r0_3))
      (View.ld x5 r0_5)) (k0_pay13 (View.ld x6 r0_6)) (k0_pay14 (View.ld x7 r0_6))) _).trans ?_
    obtain ⟨a, c, rfl⟩ := kcol n
    refine (turnedKeys_apply r _ _ _ a c).trans ?_
    simp only [lower_keys x0 x1 x2 x3 x5 hT, (angles_lower _ _ _).1, (angles_lower _ _ _).2]
    rfl

theorem upper_v (r : Fin 512) (c : Fin 256) :
    k0_pay3 (F := Ideal) (k0_pay30 (k0_pay4 x1) (upper x0) (k0_pay28 (upper x0)) x2) (ix2 r c) = vAt x0 x1 x2 ⟨512 + r, by omega⟩ c := by
  unfold vAt
  rw [← row_upper, ← upper_proj]
  pointwise [k0_pay30, k0_pay3]

theorem lower_v (r : Fin 512) (c : Fin 256) :
    k0_pay27 (F := Ideal) (k0_pay6 x1 (lower x0) x2) (ix2 r c) = vAt x0 x1 x2 ⟨r, by omega⟩ c := by
  unfold vAt
  rw [← row_lower, ← lower_proj]
  pointwise [k0_pay6, k0_pay27]

theorem out_v (r : Fin 1024) (c : Fin 256) :
    out0_10 (F := Ideal) x0 x1 x2 x3 x4 x5 x6 x7 (ix2 r c) = vAt x0 x1 x2 r c := by
  unfold out0_10 k0_pay50 k0_pay55
  rw [ld_md, ld_weight, lower_eq, upper_eq]
  exact Cert.Post2.stacked (e := .bf16) (R := 1024) (A := 512) (B := 512) (C := 256) rfl _ _ _ _ (vAt x0 x1 x2)
    (fun r c => upper_v x0 x1 x2 r c) (fun r c => lower_v x0 x1 x2 r c) r c

end Cert.PreOL
end
-- ==== Proof.PreOddLat.Table.lean ====
/-
  The tables of the odd layer's projections over the latent tokens: the group means, and the signs of the sines.
-/
module

public import proofs.«01_k».proof.Proof.Gen.PreOddLatIdeal.Frame
public import proofs.«01_k».proof.Proof.PreOdd.Table
public import proofs.«01_k».proof.Proof.Pre.Spec

@[expose] public section

set_option maxRecDepth 16384

noncomputable section

namespace Cert.PreOL

open Cert.PreOddLatIdeal Idealize.ShloMosaic

theorem same_table (i : ℕ) : lit0t i = Cert.PreOddIdeal.lit0t i := rfl

theorem table_entry (k j : Fin 256) : lit0t (256 * k + j) = if (k : ℕ) / 64 = j / 64 then 0x3C80#16 else 0#16 :=
  (same_table _).trans (Cert.PreO.table_entry k j)

theorem sign_entry : ∀ j : Fin 64, lit1 j = if (j : ℕ) % 2 = 0 then 0xBF800000#32 else 0x3F800000#32 := by decide +kernel

theorem ofBits_one : Ideal.ofBits .f32 0x3F800000#32 = 1 := by
  simp [Ideal.ofBits, Ideal.ieee, -EReal.coe_mul]; norm_num

theorem ofBits_minus_one : Ideal.ofBits .f32 0xBF800000#32 = -1 := by
  simp [Ideal.ofBits, Ideal.ieee, -EReal.coe_mul]; norm_num

theorem sign_apply (j : Fin 64) : Ideal.ofBits .f32 (lit1 j) = if (j : ℕ) % 2 = 0 then -1 else 1 := by
  rw [sign_entry]
  split_ifs
  · exact ofBits_minus_one
  · exact ofBits_one

end Cert.PreOL
end
-- ==== Proof.PreOddLat.Ref.lean ====
/-
  The reference of the odd layer's projections over the latent tokens, read at an index.
-/
module

public import proofs.«01_k».proof.Proof.Gen.PreOddLatRefIdeal.Run
public import proofs.«01_k».proof.Proof.Gen.PreOddLatRefIdeal.Read
public import proofs.«01_k».proof.Proof.Pre.Turn
public import Idealize.ShloMosaic.Lib.Pointwise
public import Idealize.ShloMosaic.Lib.Pipeline.ValueKit

@[expose] public section

set_option maxRecDepth 16384

noncomputable section

namespace Cert.PreOLRef

open Cert.PreOddLatRefIdeal Cert.PreOddLatRefIdeal.Gen Cert.PreOddLatRefIdeal.Read Idealize.ShloMosaic Idealize.ShloMosaic.TcCoe Idealize.SL.Sem Cert.Pre

variable (x : FVec Ideal S16384x1024 .f32) (md : FVec Ideal S2x16x6x1024 .f32) (w : FVec Ideal S1x1024x1536 .f32)
  (gq gk : FVec Ideal S1x64 .f32) (cos sin : FVec Ideal S2048x32 .f32)

/-- The projection of token `p`; the tokens of sequence `b` take the modulation of row `1 + b`. -/
def token (p : Fin 16384) : Fin 1536 → EReal :=
  proj (fun k => md (ix4 1 ⟨1 + p / 2048, by omega⟩ 1 k)) (fun k => md (ix4 1 ⟨1 + p / 2048, by omega⟩ 0 k)) (fun k => x (ix2 p k)) (fun k n => w (ix3 0 k n))

theorem normed_apply (b : Fin 8) (s : Fin 2048) (c : Fin 1024) :
    val_main_v22 (F := Ideal) x md (ix3 b s c)
      = Cert.Ffn.normRow (fun k => md (ix4 1 ⟨1 + b, by omega⟩ 1 k)) (fun k => md (ix4 1 ⟨1 + b, by omega⟩ 0 k)) (fun k => x (ix2 ⟨2048 * b + s, by omega⟩ k)) c := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [Nat.mul_comm 2048]
  rfl

theorem proj_apply (b : Fin 8) (s : Fin 2048) (n : Fin 1536) :
    val_main_v24 (F := Ideal) x md w (ix3 b s n) = token x md w ⟨2048 * b + s, by omega⟩ n := by
  pointwise [val_main_v24, val_main_v23]
  simp only [normed_apply]
  have e : (2048 * (b : ℕ) + s) / 2048 = b := by omega
  unfold token proj
  simp only [e]

theorem query_apply (b : Fin 8) (s : Fin 2048) (g : Fin 16) (d : Fin 64) :
    val_main_v28 (F := Ideal) x md w (ix4 b s g d) = token x md w ⟨2048 * b + s, by omega⟩ ⟨64 * g + d, by omega⟩ := by
  rw [← proj_apply]
  pointwise [val_main_v28, val_main_v25]
  blk_ext []

theorem key_apply (b : Fin 8) (s : Fin 2048) (g : Fin 4) (d : Fin 64) :
    val_main_v43 (F := Ideal) x md w (ix4 b s g d) = token x md w ⟨2048 * b + s, by omega⟩ ⟨1024 + (64 * g + d), by omega⟩ := by
  rw [← proj_apply]
  pointwise [val_main_v43, val_main_v26]
  blk_ext []

/-- The queries and the keys of token `p` before they are turned. -/
def qNorm (p : Fin 16384) (n : Fin 1024) : EReal :=
  headNorm 24 rfl (token x md w p) ⟨n, by omega⟩ * gq (ix2 0 ⟨n % 64, by omega⟩)
@[inherit_doc qNorm]
def kNorm (p : Fin 16384) (n : Fin 256) : EReal :=
  headNorm 24 rfl (token x md w p) ⟨1024 + n, by omega⟩ * gk (ix2 0 ⟨n % 64, by omega⟩)

theorem query_scaled (b : Fin 8) (s : Fin 2048) (g : Fin 16) (d : Fin 64) :
    val_main_v42 (F := Ideal) x md w gq (ix4 b s g d)
      = qNorm x md w gq ⟨2048 * b + s, by omega⟩ ⟨64 * g + d, by omega⟩ := by
  pointwise [val_main_v42, val_main_v41, val_main_v40, val_main_v39, val_main_v38, val_main_v37, val_main_v36, val_main_v35, val_main_v34, val_main_v33, val_main_v32, val_main_v31, val_main_v30, val_main_v29, val_main_cst_3, val_main_cst_4, val_main_cst_5]
  simp only [query_apply]
  unfold qNorm headNorm headSq mate
  have e : ∀ d' : Fin 64, 64 * ((64 * (g : ℕ) + d) / 64) + d' = 64 * g + d' := fun d' => by omega
  have e' : (64 * (g : ℕ) + d) % 64 = d := by omega
  simp only [e, e']

theorem key_scaled (b : Fin 8) (s : Fin 2048) (g : Fin 4) (d : Fin 64) :
    val_main_v57 (F := Ideal) x md w gk (ix4 b s g d)
      = kNorm x md w gk ⟨2048 * b + s, by omega⟩ ⟨64 * g + d, by omega⟩ := by
  pointwise [val_main_v57, val_main_v56, val_main_v55, val_main_v54, val_main_v53, val_main_v52, val_main_v51, val_main_v50, val_main_v49, val_main_v48, val_main_v47, val_main_v46, val_main_v45, val_main_v44, val_main_cst_6, val_main_cst_7, val_main_cst_8]
  simp only [key_apply]
  unfold kNorm headNorm headSq mate
  have e : ∀ d' : Fin 64, 64 * ((1024 + (64 * (g : ℕ) + d)) / 64) + d' = 1024 + (64 * g + d') := fun d' => by omega
  have e' : (64 * (g : ℕ) + d) % 64 = d := by omega
  simp only [e, e']

/-- The angles of token `p`: those of its position in its sequence. -/
def angle (p : Fin 16384) (i : Fin 32) : EReal := cos (ix2 ⟨p % 2048, by omega⟩ i)

theorem query_first (b : Fin 8) (s : Fin 2048) (g : Fin 16) (i : Fin 32) :
    val_main_v60 (F := Ideal) x md w gq (ix4 b s g i) = val_main_v42 (F := Ideal) x md w gq (ix4 b s g ⟨2 * i, by omega⟩) := by
  pointwise [val_main_v60, val_main_v59, val_main_v58]
  blk_ext []

theorem query_second (b : Fin 8) (s : Fin 2048) (g : Fin 16) (i : Fin 32) :
    val_main_v62 (F := Ideal) x md w gq (ix4 b s g i) = val_main_v42 (F := Ideal) x md w gq (ix4 b s g ⟨2 * i + 1, by omega⟩) := by
  pointwise [val_main_v62, val_main_v61, val_main_v58]
  blk_ext []

theorem query_even (b : Fin 8) (s : Fin 2048) (g : Fin 16) (i : Fin 32) :
    val_main_v69 (F := Ideal) x md w gq cos sin (ix4 b s g i)
      = val_main_v42 (F := Ideal) x md w gq (ix4 b s g ⟨2 * i, by omega⟩) * cos (ix2 s i)
        - val_main_v42 (F := Ideal) x md w gq (ix4 b s g ⟨2 * i + 1, by omega⟩) * sin (ix2 s i) := by
  rw [← query_first, ← query_second]
  pointwise [val_main_v69, val_main_v68, val_main_v67, val_main_v66, val_main_v65, val_main_v64, val_main_v63]

theorem query_odd (b : Fin 8) (s : Fin 2048) (g : Fin 16) (i : Fin 32) :
    val_main_v74 (F := Ideal) x md w gq cos sin (ix4 b s g i)
      = val_main_v42 (F := Ideal) x md w gq (ix4 b s g ⟨2 * i, by omega⟩) * sin (ix2 s i)
        + val_main_v42 (F := Ideal) x md w gq (ix4 b s g ⟨2 * i + 1, by omega⟩) * cos (ix2 s i) := by
  rw [← query_first, ← query_second]
  pointwise [val_main_v74, val_main_v73, val_main_v72, val_main_v71, val_main_v70, val_main_v64, val_main_v63]

theorem query_pair (b : Fin 8) (s : Fin 2048) (g : Fin 16) (i : Fin 32) (e : Fin 2) :
    val_main_v77 (F := Ideal) x md w gq cos sin (ix5 b s g i e)
      = if (e : ℕ) = 0 then val_main_v69 (F := Ideal) x md w gq cos sin (ix4 b s g i)
        else val_main_v74 (F := Ideal) x md w gq cos sin (ix4 b s g i) := by
  match e with
  | 0 => pointwise [val_main_v77, val_main_v75, val_main_v76]
  | 1 => pointwise [val_main_v77, val_main_v75, val_main_v76]

theorem query_turned (b : Fin 8) (s : Fin 2048) (g : Fin 16) (d : Fin 64) :
    val_main_v78 (F := Ideal) x md w gq cos sin (ix4 b s g d)
      = turn 512 rfl (qNorm x md w gq ⟨2048 * b + s, by omega⟩) (fun i => cos (ix2 s i)) (fun i => sin (ix2 s i)) ⟨64 * g + d, by omega⟩ := by
  have h : val_main_v78 (F := Ideal) x md w gq cos sin (ix4 b s g d)
      = val_main_v77 (F := Ideal) x md w gq cos sin (ix5 b s g ⟨d / 2, by omega⟩ ⟨d % 2, by omega⟩) := by
    pointwise [val_main_v78]
    blk_ext []
  rw [h, query_pair, query_even, query_odd]
  simp only [query_scaled]
  unfold turn partner
  have e₁ : (64 * (g : ℕ) + d) % 2 = d % 2 := by omega
  have e₂ : (64 * (g : ℕ) + d) / 2 % 32 = d / 2 := by omega
  simp only [e₁, e₂]
  obtain hd | hd : (d : ℕ) % 2 = 0 ∨ (d : ℕ) % 2 = 1 := by omega
  · have e₃ : 2 * ((d : ℕ) / 2) = d := by omega
    simp only [hd, e₃, if_true]
    rfl
  · have e₃ : 2 * ((d : ℕ) / 2) + 1 = d := by omega
    have e₄ : 64 * (g : ℕ) + 2 * ((d : ℕ) / 2) = 64 * g + d - 1 := by omega
    simp only [hd, e₃, e₄, one_ne_zero, if_false]

theorem key_first (b : Fin 8) (s : Fin 2048) (g : Fin 4) (i : Fin 32) :
    val_main_v83 (F := Ideal) x md w gk (ix4 b s g i) = val_main_v57 (F := Ideal) x md w gk (ix4 b s g ⟨2 * i, by omega⟩) := by
  pointwise [val_main_v83, val_main_v82, val_main_v81]
  blk_ext []

theorem key_second (b : Fin 8) (s : Fin 2048) (g : Fin 4) (i : Fin 32) :
    val_main_v85 (F := Ideal) x md w gk (ix4 b s g i) = val_main_v57 (F := Ideal) x md w gk (ix4 b s g ⟨2 * i + 1, by omega⟩) := by
  pointwise [val_main_v85, val_main_v84, val_main_v81]
  blk_ext []

theorem key_even (b : Fin 8) (s : Fin 2048) (g : Fin 4) (i : Fin 32) :
    val_main_v92 (F := Ideal) x md w gk cos sin (ix4 b s g i)
      = val_main_v57 (F := Ideal) x md w gk (ix4 b s g ⟨2 * i, by omega⟩) * cos (ix2 s i)
        - val_main_v57 (F := Ideal) x md w gk (ix4 b s g ⟨2 * i + 1, by omega⟩) * sin (ix2 s i) := by
  rw [← key_first, ← key_second]
  pointwise [val_main_v92, val_main_v91, val_main_v90, val_main_v89, val_main_v88, val_main_v87, val_main_v86]

theorem key_odd (b : Fin 8) (s : Fin 2048) (g : Fin 4) (i : Fin 32) :
    val_main_v97 (F := Ideal) x md w gk cos sin (ix4 b s g i)
      = val_main_v57 (F := Ideal) x md w gk (ix4 b s g ⟨2 * i, by omega⟩) * sin (ix2 s i)
        + val_main_v57 (F := Ideal) x md w gk (ix4 b s g ⟨2 * i + 1, by omega⟩) * cos (ix2 s i) := by
  rw [← key_first, ← key_second]
  pointwise [val_main_v97, val_main_v96, val_main_v95, val_main_v94, val_main_v93, val_main_v87, val_main_v86]

theorem key_pair (b : Fin 8) (s : Fin 2048) (g : Fin 4) (i : Fin 32) (e : Fin 2) :
    val_main_v100 (F := Ideal) x md w gk cos sin (ix5 b s g i e)
      = if (e : ℕ) = 0 then val_main_v92 (F := Ideal) x md w gk cos sin (ix4 b s g i)
        else val_main_v97 (F := Ideal) x md w gk cos sin (ix4 b s g i) := by
  match e with
  | 0 => pointwise [val_main_v100, val_main_v98, val_main_v99]
  | 1 => pointwise [val_main_v100, val_main_v98, val_main_v99]

theorem key_turned (b : Fin 8) (s : Fin 2048) (g : Fin 4) (d : Fin 64) :
    val_main_v101 (F := Ideal) x md w gk cos sin (ix4 b s g d)
      = turn 128 rfl (kNorm x md w gk ⟨2048 * b + s, by omega⟩) (fun i => cos (ix2 s i)) (fun i => sin (ix2 s i)) ⟨64 * g + d, by omega⟩ := by
  have h : val_main_v101 (F := Ideal) x md w gk cos sin (ix4 b s g d)
      = val_main_v100 (F := Ideal) x md w gk cos sin (ix5 b s g ⟨d / 2, by omega⟩ ⟨d % 2, by omega⟩) := by
    pointwise [val_main_v101]
    blk_ext []
  rw [h, key_pair, key_even, key_odd]
  simp only [key_scaled]
  unfold turn partner
  have e₁ : (64 * (g : ℕ) + d) % 2 = d % 2 := by omega
  have e₂ : (64 * (g : ℕ) + d) / 2 % 32 = d / 2 := by omega
  simp only [e₁, e₂]
  obtain hd | hd : (d : ℕ) % 2 = 0 ∨ (d : ℕ) % 2 = 1 := by omega
  · have e₃ : 2 * ((d : ℕ) / 2) = d := by omega
    simp only [hd, e₃, if_true]
    rfl
  · have e₃ : 2 * ((d : ℕ) / 2) + 1 = d := by omega
    have e₄ : 64 * (g : ℕ) + 2 * ((d : ℕ) / 2) = 64 * g + d - 1 := by omega
    simp only [hd, e₃, e₄, one_ne_zero, if_false]

theorem result_q (p : Fin 16384) (n : Fin 1024) :
    val_main_v103 (F := Ideal) x md w gq cos sin (ix2 p n)
      = turn 512 rfl (qNorm x md w gq p) (angle cos p) (angle sin p) n * Ideal.ofBits .f32 0x3E38AA3B#32 := by
  have h := query_turned x md w gq cos sin ⟨p / 2048, by omega⟩ ⟨p % 2048, by omega⟩ ⟨n / 64, by omega⟩ ⟨n % 64, by omega⟩
  simp only [Nat.div_add_mod] at h
  refine Eq.trans ?_ (congrArg (· * Ideal.ofBits .f32 0x3E38AA3B#32) h)
  pointwise [val_main_v103, val_main_v102, val_main_v80, val_main_v79, val_main_cst_9]
  blk_ext []

theorem result_k (p : Fin 16384) (n : Fin 256) :
    val_main_v105 (F := Ideal) x md w gk cos sin (ix2 p n)
      = turn 128 rfl (kNorm x md w gk p) (angle cos p) (angle sin p) n := by
  have h := key_turned x md w gk cos sin ⟨p / 2048, by omega⟩ ⟨p % 2048, by omega⟩ ⟨n / 64, by omega⟩ ⟨n % 64, by omega⟩
  simp only [Nat.div_add_mod] at h
  refine Eq.trans ?_ h
  pointwise [val_main_v105, val_main_v104]
  blk_ext []

theorem result_v (p : Fin 16384) (n : Fin 256) :
    val_main_v107 (F := Ideal) x md w (ix2 p n) = token x md w p ⟨1280 + n, by omega⟩ := by
  have h := proj_apply x md w ⟨p / 2048, by omega⟩ ⟨p % 2048, by omega⟩ ⟨1280 + n, by omega⟩
  simp only [Nat.div_add_mod] at h
  refine Eq.trans ?_ h
  pointwise [val_main_v107, val_main_v106, val_main_v27]
  blk_ext []

end Cert.PreOLRef
end
-- ==== Proof.PreOddLat.Equation.lean ====
/-
  The final arrays of the odd layer's projections over the latent tokens: each grid point reads its own 1024 tokens, half of a
  sequence, that sequence's modulation, the angles of its positions, and the whole of the weights, the table and the gains.
-/
module

public import proofs.«01_k».proof.Proof.PreOddLat.Tiles
public import proofs.«01_k».proof.Proof.PreOddLat.Table
public import proofs.«01_k».proof.Proof.PreOddLat.Ref
public import Idealize.ShloMosaic.Lib.Claim

@[expose] public section

set_option maxRecDepth 16384

noncomputable section

namespace Cert.PreOL

open Idealize.ShloMosaic Idealize.ShloMosaic.Pointwise Idealize.ShloMosaic.Pipeline Idealize.SL.Sem
open Cert.PreOddLatIdeal Cert.PreOddLatIdeal.Gen Cert.Pre
open Cert.PreO (row IsTable)

variable (m : (ℓ : Loc nD τ sig) → Buf (Elt Ideal) ℓ) (c : Dev nD)

theorem idx : ∀ t : Fin cfg0.N, win0_0.index t = ![t.val, 0] ∧ win0_1.index t = ![1, 1 + t.val / 2, 0, 0]
    ∧ win0_2.index t = ![0, 0] ∧ win0_3.index t = ![0, 0] ∧ win0_4.index t = ![0, 0] ∧ win0_5.index t = ![0, 0]
    ∧ win0_6.index t = ![t.val % 2, 0] ∧ win0_7.index t = ![t.val % 2, 0] ∧ win0_8.index t = ![t.val, 0]
    ∧ win0_9.index t = ![t.val, 0] ∧ win0_10.index t = ![t.val, 0] :=
  (by decide +kernel : ∀ t : Fin grid0.N, _)

variable (t : Fin cfg0.N)

theorem x_read (r : Fin 1024) (p : Fin 16384) (hp : (p : ℕ) = 1024 * t + r) (k : Fin 1024) :
    iblk m c 0 t (ix2 r k) = m ((c.tc : Thread nD τ).loc main_arg0) (ix2 p k) := by
  blk_ext [iblk, V, idx t]

theorem md_read (b : Fin 16) (hb : (b : ℕ) = 1 + t / 2) (i : Fin 6) (k : Fin 1024) :
    iblk m c 1 t (ix4 0 0 i k) = m ((c.tc : Thread nD τ).loc main_arg1) (ix4 1 b i k) := by
  blk_ext [iblk, V, idx t]

theorem weight_apply (x : FVec Ideal S1x1024x1536 .f32) (k : Fin 1024) (n : Fin 1536) :
    (truncf .bf16 (shapeCast S1024x1536 x shapeCasts_S1x1024x1536_S1024x1536) bitsLt_bf16_f32 : FVec Ideal S1024x1536 .bf16)
      (ix2 k n) = x (ix3 0 k n) := by
  pointwise []

theorem weight_read (k : Fin 1024) (n : Fin 1536) :
    iblk m c 2 t (ix2 k n) = m ((c.tc : Thread nD τ).loc main_arg2) (ix3 0 k n) := by
  unfold iblk
  entry_read
  exact (congrArg _ (show (win0_2.blk t).view.emb (ix2 k n) = ix2 k n by blk_ext [idx t])).trans (weight_apply _ _ _)

theorem ofBits_zero : Ideal.ofBits .bf16 0#16 = 0 := by
  simp [Ideal.ofBits, Ideal.ieee, -EReal.coe_mul]

theorem entry_apply (k j : Fin 256) :
    Ideal.ofBits .bf16 (lit0 (S256x256.rowMajor (ix2 k j)))
      = if (k : ℕ) / 64 = j / 64 then Ideal.ofBits .bf16 0x3C80#16 else 0 := by
  have h : ((S256x256.rowMajor (ix2 k j)) : ℕ) = 256 * k + j := by
    rw [Shape.rowMajor_val_two]
    show (k : ℕ) * 256 + j = _
    omega
  show Ideal.ofBits .bf16 (lit0t ((S256x256.rowMajor (ix2 k j)) : ℕ)) = _
  rw [h, table_entry]
  split_ifs
  · rfl
  · exact ofBits_zero

theorem table_entries : V m c main_cst = fun i => Ideal.ofBits .bf16 (lit0 (S256x256.rowMajor i)) := by
  entry_read
  rfl

theorem table_read : IsTable (iblk m c 3 t) := fun k j => by
  show V m c main_cst ((win0_3.blk t).view.emb (ix2 k j)) = _
  rw [show (win0_3.blk t).view.emb (ix2 k j) = ix2 k j by blk_ext [idx t], table_entries]
  exact entry_apply k j

/-- The queries' gain at column `n`, times the constant the attention takes the queries with. -/
def qGain (x : FVec Ideal S1x64 .f32) (n : Fin 1024) : EReal :=
  x (ix2 0 ⟨n % 64, by omega⟩) * Ideal.ofBits .f32 0x3E38AA3B#32

/-- The queries' gains, one for each column, as the program prepares them. -/
def tiledGain (x : FVec Ideal S1x64 .f32) : FVec Ideal S1x1024 .f32 :=
  mulf (broadcastInDim S1x1024 ![1] bcast_S1024_S1x1024_1 (shapeCast S1024 (broadcastInDim S16x64 ![0, 1] bcast_S1x64_S16x64_0_1
      (shapeCast S1x64 (shapeCast S64 x shapeCasts_S1x64_S64) shapeCasts_S64_S1x64)) shapeCasts_S16x64_S1024))
    (broadcastInDim S1x1024 ![] bcast_S_S1x1024 (constant S_ .f32 0x3E38AA3B#32))

theorem tiledGain_apply (x : FVec Ideal S1x64 .f32) (n : Fin 1024) : tiledGain x (ix2 0 n) = qGain x n := by
  pointwise [tiledGain]
  rfl

theorem tiledGain_entry : V m c main_v7 = tiledGain (m ((c.tc : Thread nD τ).loc main_arg3)) := by
  entry_read
  rfl

theorem qgain_read (n : Fin 1024) :
    iblk m c 4 t (ix2 0 n) = qGain (m ((c.tc : Thread nD τ).loc main_arg3)) n := by
  show V m c main_v7 ((win0_4.blk t).view.emb (ix2 0 n)) = _
  rw [tiledGain_entry]
  exact (congrArg (tiledGain _) (show (win0_4.blk t).view.emb (ix2 0 n) = ix2 0 n by blk_ext [idx t])).trans
    (tiledGain_apply _ n)

theorem kgain_apply (x : FVec Ideal S1x64 .f32) (n : Fin 256) :
    broadcastInDim S1x256 ![1] bcast_S256_S1x256_1 (shapeCast S256 (broadcastInDim S4x64 ![0, 1] bcast_S1x64_S4x64_0_1
      (shapeCast S1x64 (shapeCast S64 x shapeCasts_S1x64_S64) shapeCasts_S64_S1x64)) shapeCasts_S4x64_S256) (ix2 0 n)
      = x (ix2 0 ⟨n % 64, by omega⟩) := by
  pointwise []

theorem kgain_read (n : Fin 256) :
    iblk m c 5 t (ix2 0 n) = m ((c.tc : Thread nD τ).loc main_arg4) (ix2 0 ⟨n % 64, by omega⟩) := by
  unfold iblk
  entry_read
  exact (congrArg _ (show (win0_5.blk t).view.emb (ix2 0 n) = ix2 0 n by blk_ext [idx t])).trans (kgain_apply (m ((c.tc : Thread nD τ).loc main_arg4)) n)

/-- The cosines laid out over 128 columns, as the program prepares them. -/
def laidCos (x : FVec Ideal S2048x32 .f32) : FVec Ideal S2048x128 .f32 :=
  shapeCast S2048x128 (broadcastInDim S1x2048x2x64 ![0, 1, 2, 3] bcast_S1x2048x1x64_S1x2048x2x64_0_1_2_3
    (shapeCast S1x2048x1x64 (shapeCast S2048x64 (broadcastInDim S2048x32x2 ![0, 1] bcast_S2048x32_S2048x32x2_0_1 x)
      shapeCasts_S2048x32x2_S2048x64) shapeCasts_S2048x64_S1x2048x1x64)) shapeCasts_S1x2048x2x64_S2048x128

/-- The sines laid out over 128 columns, with the sign of the first of each pair turned. -/
def laidSin (x : FVec Ideal S2048x32 .f32) : FVec Ideal S2048x128 .f32 :=
  shapeCast S2048x128 (broadcastInDim S1x2048x2x64 ![0, 1, 2, 3] bcast_S1x2048x1x64_S1x2048x2x64_0_1_2_3
    (shapeCast S1x2048x1x64 (mulf (shapeCast S2048x64 (broadcastInDim S2048x32x2 ![0, 1] bcast_S2048x32_S2048x32x2_0_1 x)
      shapeCasts_S2048x32x2_S2048x64) (broadcastInDim S2048x64 ![0, 1] bcast_S1x64_S2048x64_0_1
        (broadcastInDim S1x64 ![1] bcast_S64_S1x64_1 (fun i => Ideal.ofBits .f32 (lit1 (S64.rowMajor i))))))
      shapeCasts_S2048x64_S1x2048x1x64)) shapeCasts_S1x2048x2x64_S2048x128

theorem laidCos_apply (x : FVec Ideal S2048x32 .f32) (s : Fin 2048) (l : Fin 128) :
    laidCos x (ix2 s l) = x (ix2 s ⟨l / 2 % 32, by omega⟩) := by
  pointwise [laidCos]
  blk_ext []

theorem signs_apply (s : Fin 2048) (j : Fin 64) :
    (broadcastInDim S2048x64 ![0, 1] bcast_S1x64_S2048x64_0_1
        (broadcastInDim S1x64 ![1] bcast_S64_S1x64_1 (fun i => Ideal.ofBits .f32 (lit1 (S64.rowMajor i)))) : FVec Ideal S2048x64 .f32)
      (ix2 s j) = if (j : ℕ) % 2 = 0 then -1 else 1 := by
  rw [← sign_apply]
  pointwise []
  refine congrArg (fun i => Ideal.ofBits .f32 (lit1 i)) (Fin.ext ?_)
  exact Shape.rowMajor_val_one _

theorem laidSin_apply (x : FVec Ideal S2048x32 .f32) (s : Fin 2048) (l : Fin 128) :
    laidSin x (ix2 s l) = x (ix2 s ⟨l / 2 % 32, by omega⟩) * (if (l : ℕ) % 2 = 0 then -1 else 1) := by
  have e : (l : ℕ) % 64 % 2 = l % 2 := by omega
  have h := signs_apply s ⟨l % 64, by omega⟩
  simp only [e] at h
  rw [← h]
  unfold laidSin
  generalize (broadcastInDim S2048x64 ![0, 1] bcast_S1x64_S2048x64_0_1
        (broadcastInDim S1x64 ![1] bcast_S64_S1x64_1 (fun i => Ideal.ofBits .f32 (lit1 (S64.rowMajor i)))) : FVec Ideal S2048x64 .f32) = g
  pointwise []
  refine Ideal.mul_congr ?_ ?_
  · blk_ext []
  · blk_ext []

theorem cos_entry : V m c main_v20 = laidCos (m ((c.tc : Thread nD τ).loc main_arg5)) := by
  entry_read
  rfl

theorem sin_entry : V m c main_v26 = laidSin (m ((c.tc : Thread nD τ).loc main_arg6)) := by
  entry_read
  rfl

theorem cos_read (r : Fin 1024) (s : Fin 2048) (hs : (s : ℕ) = 1024 * (t % 2) + r) (l : Fin 128) :
    iblk m c 6 t (ix2 r l) = m ((c.tc : Thread nD τ).loc main_arg5) (ix2 s ⟨l / 2 % 32, by omega⟩) := by
  show V m c main_v20 ((win0_6.blk t).view.emb (ix2 r l)) = _
  rw [cos_entry]
  exact (congrArg (laidCos _) (show (win0_6.blk t).view.emb (ix2 r l) = ix2 s l by blk_ext [idx t])).trans (laidCos_apply _ s l)

theorem sin_read (r : Fin 1024) (s : Fin 2048) (hs : (s : ℕ) = 1024 * (t % 2) + r) (l : Fin 128) :
    iblk m c 7 t (ix2 r l) = laidSin (m ((c.tc : Thread nD τ).loc main_arg6)) (ix2 s l) := by
  show V m c main_v26 ((win0_7.blk t).view.emb (ix2 r l)) = _
  rw [sin_entry]
  exact congrArg (laidSin _) (show (win0_7.blk t).view.emb (ix2 r l) = ix2 s l by blk_ext [idx t])

theorem row_read (r : Fin 1024) (p : Fin 16384) (hp : (p : ℕ) = 1024 * t + r) :
    row (iblk m c 1 t) (iblk m c 0 t) (iblk m c 2 t) r = Cert.PreOLRef.token (m ((c.tc : Thread nD τ).loc main_arg0)) (m ((c.tc : Thread nD τ).loc main_arg1)) (m ((c.tc : Thread nD τ).loc main_arg2)) p := by
  funext n
  unfold row Cert.PreOLRef.token
  simp only [md_read m c t ⟨1 + p / 2048, by omega⟩ (by show 1 + (p : ℕ) / 2048 = _; omega), weight_read m c t,
    x_read m c t r p hp]

theorem q_point (r n : Fin 1024) (p : Fin 16384) (hp : (p : ℕ) = 1024 * t + r) :
    out0_8 (F := Ideal) (iblk m c 0 t) (iblk m c 1 t) (iblk m c 2 t) (iblk m c 3 t) (iblk m c 4 t) (iblk m c 5 t) (iblk m c 6 t) (iblk m c 7 t) (ix2 r n)
      = Cert.PreOddLatRefIdeal.Read.val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (ix2 p n) := by
  have hs : (p : ℕ) % 2048 = 1024 * (t % 2) + r := by omega
  rw [Cert.PreOLRef.result_q, ← turn_scale]
  refine (out_q _ _ _ _ _ _ _ _ (table_read m c t) r n).trans ?_
  unfold qAt
  rw [tableTurn_eq 512 rfl _ _ _ (Cert.PreOLRef.angle (m ((c.tc : Thread nD τ).loc main_arg5)) p) (Cert.PreOLRef.angle (m ((c.tc : Thread nD τ).loc main_arg6)) p)
    (fun l => cos_read m c t r ⟨p % 2048, by omega⟩ hs l) (fun l => (sin_read m c t r ⟨p % 2048, by omega⟩ hs l).trans (laidSin_apply _ _ l))]
  refine congrArg (fun z => turn 512 rfl z _ _ n) (funext fun n => ?_)
  unfold qRaw Cert.PreOLRef.qNorm
  rw [row_read m c t r p hp, qgain_read]
  exact (mul_assoc _ _ _).symm

theorem k_point (r : Fin 1024) (n : Fin 256) (p : Fin 16384) (hp : (p : ℕ) = 1024 * t + r) :
    out0_9 (F := Ideal) (iblk m c 0 t) (iblk m c 1 t) (iblk m c 2 t) (iblk m c 3 t) (iblk m c 4 t) (iblk m c 5 t) (iblk m c 6 t) (iblk m c 7 t) (ix2 r n)
      = Cert.PreOddLatRefIdeal.Read.val_main_v105 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (ix2 p n) := by
  have hs : (p : ℕ) % 2048 = 1024 * (t % 2) + r := by omega
  rw [Cert.PreOLRef.result_k]
  refine (out_k _ _ _ _ _ _ _ _ (table_read m c t) r n).trans ?_
  unfold kAt
  rw [tableTurn_eq 128 rfl _ _ _ (Cert.PreOLRef.angle (m ((c.tc : Thread nD τ).loc main_arg5)) p) (Cert.PreOLRef.angle (m ((c.tc : Thread nD τ).loc main_arg6)) p)
    (fun l => cos_read m c t r ⟨p % 2048, by omega⟩ hs l) (fun l => (sin_read m c t r ⟨p % 2048, by omega⟩ hs l).trans (laidSin_apply _ _ l))]
  refine congrArg (fun z => turn 128 rfl z _ _ n) (funext fun n => ?_)
  unfold kRaw Cert.PreOLRef.kNorm
  rw [row_read m c t r p hp, kgain_read]

theorem v_point (r : Fin 1024) (n : Fin 256) (p : Fin 16384) (hp : (p : ℕ) = 1024 * t + r) :
    out0_10 (F := Ideal) (iblk m c 0 t) (iblk m c 1 t) (iblk m c 2 t) (iblk m c 3 t) (iblk m c 4 t) (iblk m c 5 t) (iblk m c 6 t) (iblk m c 7 t) (ix2 r n)
      = Cert.PreOddLatRefIdeal.Read.val_main_v107 (F := Ideal) (m ((c.tc : Thread nD τ).loc main_arg0)) (m ((c.tc : Thread nD τ).loc main_arg1)) (m ((c.tc : Thread nD τ).loc main_arg2)) (ix2 p n) := by
  rw [Cert.PreOLRef.result_v]
  refine (out_v _ _ _ _ _ _ _ _ r n).trans ?_
  unfold vAt
  rw [row_read m c t r p hp]

/-- The final queries. -/
theorem final_q : (dats m 0 c).arrAt 8 cfg0.N = Cert.PreOddLatRefIdeal.Read.val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) := by
  refine (dats m 0 c).arrAt_eq_of_covers 8 _ (by decide +kernel) fun t _ y => ?_
  blk_simp
  rw [after0_8]
  have ht : (t : ℕ) < 16 := N_0 ▸ t.isLt
  have h₀ : (y 0 : ℕ) < 1024 := (y 0).isLt
  have h₁ : (y 1 : ℕ) < 1024 := (y 1).isLt
  refine Eq.trans ?_ ((q_point m c t ⟨y 0, h₀⟩ ⟨y 1, h₁⟩ ⟨1024 * t + y 0, by omega⟩ rfl).trans ?_)
  · refine congrArg _ ?_
    blk_ext []
  · refine congrArg _ ?_
    blk_ext [idx t]

/-- The final keys. -/
theorem final_k : (dats m 0 c).arrAt 9 cfg0.N = Cert.PreOddLatRefIdeal.Read.val_main_v105 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  refine (dats m 0 c).arrAt_eq_of_covers 9 _ (by decide +kernel) fun t _ y => ?_
  blk_simp
  rw [after0_9]
  have ht : (t : ℕ) < 16 := N_0 ▸ t.isLt
  have h₀ : (y 0 : ℕ) < 1024 := (y 0).isLt
  have h₁ : (y 1 : ℕ) < 256 := (y 1).isLt
  refine Eq.trans ?_ ((k_point m c t ⟨y 0, h₀⟩ ⟨y 1, h₁⟩ ⟨1024 * t + y 0, by omega⟩ rfl).trans ?_)
  · refine congrArg _ ?_
    blk_ext []
  · refine congrArg _ ?_
    blk_ext [idx t]

/-- The final values. -/
theorem final_v : (dats m 0 c).arrAt 10 cfg0.N = Cert.PreOddLatRefIdeal.Read.val_main_v107 (F := Ideal) (m ((c.tc : Thread nD τ).loc main_arg0)) (m ((c.tc : Thread nD τ).loc main_arg1)) (m ((c.tc : Thread nD τ).loc main_arg2)) := by
  refine (dats m 0 c).arrAt_eq_of_covers 10 _ (by decide +kernel) fun t _ y => ?_
  blk_simp
  rw [after0_10]
  have ht : (t : ℕ) < 16 := N_0 ▸ t.isLt
  have h₀ : (y 0 : ℕ) < 1024 := (y 0).isLt
  have h₁ : (y 1 : ℕ) < 256 := (y 1).isLt
  refine Eq.trans ?_ ((v_point m c t ⟨y 0, h₀⟩ ⟨y 1, h₁⟩ ⟨1024 * t + y 0, by omega⟩ rfl).trans ?_)
  · refine congrArg _ ?_
    blk_ext []
  · refine congrArg _ ?_
    blk_ext [idx t]

end Cert.PreOL
end
-- ==== Proof.PreOddLat.Claim.lean ====
/-
  The claims of the odd layer's projections over the latent tokens: the runs leave the arguments unchanged, and the three results
  are the reference's.
-/
module

public import proofs.«01_k».proof.Defs
public import proofs.«01_k».proof.Proof.Gen.PreOddLat.Frame
public import proofs.«01_k».proof.Proof.Gen.PreOddLatRefIdeal.Run
public import proofs.«01_k».proof.Proof.PreOddLat.Equation
public import Idealize.ShloMosaic.Lib.Claim
public import Idealize.ShloMosaic.Adequacy
public import Idealize.ShloMosaic.Init

@[expose] public section

set_option maxRecDepth 16384

noncomputable section

namespace Cert.PreOL

open Idealize.ShloMosaic Idealize.SL.Sem

theorem frame_p : Cert.quiescent_PreOddLat (hPreOddLat := Cert.PreOddLat.Gen.facts) :=
  fun m ρ _ => Cert.PreOddLat.Gen.frame m ρ

theorem frame_pi : Cert.quiescent_PreOddLatIdeal (hPreOddLatIdeal := Cert.PreOddLatIdeal.Gen.facts) :=
  fun m ρ _ => Cert.PreOddLatIdeal.Gen.frame m ρ

theorem frame_ri : Cert.quiescent_PreOddLatRefIdeal (hPreOddLatRefIdeal := Cert.PreOddLatRefIdeal.Gen.facts) := fun m ρ _ =>
  (θ_run Cert.PreOddLatRefIdeal.defs _ _).mono
    (fun r h => ⟨fun c => (h c).2.2.2, Idealize.ShloMosaic.sem_eq_zero_of_no_sems (by decide) r.2⟩)
    (Cert.PreOddLatRefIdeal.Value.run (F := Ideal) m ρ)

theorem algebraic : Cert.algebraic_PreOddLatIdeal_PreOddLatRefIdeal (hPreOddLatIdeal := Cert.PreOddLatIdeal.Gen.facts)
    (hPreOddLatRefIdeal := Cert.PreOddLatRefIdeal.Gen.facts) := by
  intro m ρ m' ρ' _ hagree
  refine ⟨fun c => Cert.PreOddLatRefIdeal.Read.val_main_v103 (F := Ideal) (m ((c.tc : Thread _ _).loc Cert.PreOddLatIdeal.main_arg0)) (m ((c.tc : Thread _ _).loc Cert.PreOddLatIdeal.main_arg1)) (m ((c.tc : Thread _ _).loc Cert.PreOddLatIdeal.main_arg2)) (m ((c.tc : Thread _ _).loc Cert.PreOddLatIdeal.main_arg3)) (m ((c.tc : Thread _ _).loc Cert.PreOddLatIdeal.main_arg5)) (m ((c.tc : Thread _ _).loc Cert.PreOddLatIdeal.main_arg6)),
    fun c => Cert.PreOddLatRefIdeal.Read.val_main_v105 (F := Ideal) (m ((c.tc : Thread _ _).loc Cert.PreOddLatIdeal.main_arg0)) (m ((c.tc : Thread _ _).loc Cert.PreOddLatIdeal.main_arg1)) (m ((c.tc : Thread _ _).loc Cert.PreOddLatIdeal.main_arg2)) (m ((c.tc : Thread _ _).loc Cert.PreOddLatIdeal.main_arg4)) (m ((c.tc : Thread _ _).loc Cert.PreOddLatIdeal.main_arg5)) (m ((c.tc : Thread _ _).loc Cert.PreOddLatIdeal.main_arg6)),
    fun c => Cert.PreOddLatRefIdeal.Read.val_main_v107 (F := Ideal) (m ((c.tc : Thread _ _).loc Cert.PreOddLatIdeal.main_arg0)) (m ((c.tc : Thread _ _).loc Cert.PreOddLatIdeal.main_arg1)) (m ((c.tc : Thread _ _).loc Cert.PreOddLatIdeal.main_arg2)), ?_, ?_⟩
  · refine (θ_run Cert.PreOddLatIdeal.defs _ _).mono (fun r h c => ⟨?_, ?_, ?_, h.2.1 c⟩)
      (θ_run_and (Cert.PreOddLatIdeal.Gen.run_main m ρ) (Cert.PreOddLatIdeal.Gen.frame m ρ))
    · exact ((h.1 c).1 8).trans (final_q m c)
    · exact ((h.1 c).1 9).trans (final_k m c)
    · exact ((h.1 c).1 10).trans (final_v m c)
  · refine (θ_run Cert.PreOddLatRefIdeal.defs _ _).mono (fun _ h c => ?_) (Cert.PreOddLatRefIdeal.Value.run (F := Ideal) m' ρ')
    obtain ⟨h₀, h₁, h₂, h₃, h₄, h₅, h₆⟩ := hagree c
    refine ⟨(h c).1.trans ?_, (h c).2.1.trans ?_, (h c).2.2.1.trans ?_, (h c).2.2.2⟩
    · rw [Cert.PreOddLatRefIdeal.Read.val_main_v103_eq, h₀, h₁, h₂, h₃, h₅, h₆]
    · rw [Cert.PreOddLatRefIdeal.Read.val_main_v105_eq, h₀, h₁, h₂, h₄, h₅, h₆]
    · rw [Cert.PreOddLatRefIdeal.Read.val_main_v107_eq, h₀, h₁, h₂]

end Cert.PreOL

end
-- ==== Proof.PreEvenLat.Rows.lean ====
/-
  What the body of the even layer's projections over the latent tokens computes, read at an index: the projections, the queries
  and the keys turned stretch by stretch, and the two halves of the gate. Up to the turn they are those over the context tokens.
-/
module

public import proofs.«01_k».proof.Proof.Gen.PreEvenLatIdeal.Frame
public import proofs.«01_k».proof.Proof.Pre.Turn
public import proofs.«01_k».proof.Proof.PreEven.Rows

@[expose] public section

set_option maxRecDepth 16384

noncomputable section

namespace Cert.PreEL

open Cert.PreEvenLatIdeal Cert.PreEvenLatIdeal.Gen Idealize.ShloMosaic Idealize.ShloMosaic.TcCoe Idealize.SL.Sem Cert.Pre
open Cert.PreE (row IsTable)

variable (md : FVec Ideal S1x1x6x1024 .f32) (x : FVec Ideal S1024x1024 .f32) (w : FVec Ideal S1024x1792 .bf16)
  (tb : FVec Ideal S256x256 .bf16) (z : FVec Ideal S1024x1792 .f32) (r : Fin 1024)

theorem tile_proj (n : Fin 1792) : k0_pay2 (F := Ideal) md x w (ix2 r n) = row md x w r n := by
  pointwise [k0_pay2]
  rfl

theorem tile_v (c : Fin 128) : k0_pay19 (F := Ideal) (k0_pay3 md x w) (ix2 r c) = row md x w r ⟨640 + c, by omega⟩ := by
  rw [← tile_proj]
  pointwise [k0_pay19, k0_pay3]

theorem tile_k (hT : IsTable tb) (g : FVec Ideal S1x128 .f32) (c : Fin 128) :
    k0_pay9 (F := Ideal) tb z g (ix2 r c)
      = headNorm 28 rfl (fun n => z (ix2 r n)) ⟨512 + c, by omega⟩ * g (ix2 0 c) :=
  Eq.trans (by rfl) (Cert.PreE.tile_k tb z r hT g c)

theorem tile_q (hT : IsTable tb) (g : FVec Ideal S1x512 .f32) (a : Fin 2) (c : Fin 256) :
    k0_pay8 (F := Ideal) (k0_pay5 md tb x w) (k0_pay6 md x w) (k0_pay7 md tb x w)
        (Scalar.ofBits .f32 0x358637BD#32) g (ix2 r ⟨256 * a + c, by omega⟩)
      = headNorm 28 rfl (fun n => k0_pay2 (F := Ideal) md x w (ix2 r n)) ⟨256 * a + c, by omega⟩ * g (ix2 0 ⟨256 * a + c, by omega⟩) :=
  Eq.trans (by rfl) (Cert.PreE.tile_q md x w tb r hT g a c)

theorem tile_u (n : Fin 512) :
    k0_pay23 (F := Ideal) (k0_pay21 z) (k0_pay22 z) (ix2 r n) = smooth (z (ix2 r ⟨768 + n, by omega⟩)) :=
  Eq.trans (by rfl) (Cert.PreE.tile_u z r n)

theorem tile_vn (g : FVec Ideal S1x512 .f32) (n : Fin 512) :
    k0_pay24 (F := Ideal) z g (ix2 r n)
      = smoothNorm (fun l => z (ix2 r ⟨1280 + l, by omega⟩)) (fun l => g (ix2 0 l)) n :=
  Eq.trans (by rfl) (Cert.PreE.tile_vn z r g n)

section turned

variable (q : FVec Ideal S1024x512 .f32) (k cw sw : FVec Ideal S1024x128 .f32)

/-- A stretch of 128 columns turned. -/
def piece (s : FVec Ideal S1024x128 .f32) : FVec Ideal S1024x128 .f32 :=
  stretch 1024 iota_S1024x128_d1_w32 rotates_S1024x128_d1 s cw sw

/-- All the queries of a tile, turned stretch by stretch. -/
def turnedQueries : FVec Ideal S1024x512 .bf16 :=
  truncf .bf16 (concatenate S1024x512 1
    [⟨S1024x128, piece cw sw (extractStridedSlice S1024x128 ![0, 0] q slices_S1024x512_o0_0_S1024x128)⟩,
     ⟨S1024x128, piece cw sw (extractStridedSlice S1024x128 ![0, 128] q slices_S1024x512_o0_128_S1024x128)⟩,
     ⟨S1024x128, piece cw sw (extractStridedSlice S1024x128 ![0, 256] q slices_S1024x512_o0_256_S1024x128)⟩,
     ⟨S1024x128, piece cw sw (extractStridedSlice S1024x128 ![0, 384] q slices_S1024x512_o0_384_S1024x128)⟩]
    concatenates_S1024x128_S1024x128_S1024x128_S1024x128_S1024x512_d1) bitsLt_bf16_f32

theorem whole_turned (z₁ z₂ z₃ : FVec Ideal S1024x256 .f32) (e : Ideal .f32) (g : FVec Ideal S1x512 .f32) :
    k0_pay17 (F := Ideal) (k0_pay8 z₁ z₂ z₃ e g) (k0_pay10 cw) (k0_pay11 sw) k0_pay12 (k0_pay13 z₁ z₂ z₃ e g cw sw)
        (k0_pay15 z₁ z₂ z₃ e g cw) (k0_pay16 z₁ z₂ z₃ e g sw)
      = turnedQueries (k0_pay8 z₁ z₂ z₃ e g) (k0_pay10 cw) (k0_pay11 sw) := rfl

theorem whole_turned_k : k0_pay18 (F := Ideal) k cw sw = truncf .bf16 (piece cw sw k) bitsLt_bf16_f32 := rfl

theorem cast_same (y : FVec Ideal S1024x128 .f32) : k0_pay10 (F := Ideal) y = y ∧ k0_pay11 (F := Ideal) y = y := by
  constructor <;> exact shapeCast_self _ _

theorem piece_cut {N : ℕ} (M : ℕ) (hN : N = 2 * M) (v : FVec Ideal ⟨2, ![1024, N]⟩ .f32) (s : FVec Ideal S1024x128 .f32)
    (a : ℕ) (ha : 128 * a + 128 ≤ N)
    (hs : ∀ (r : Fin 1024) (l : Fin 128), s (ix2 r l) = v (ix2 r ⟨128 * a + l, by omega⟩)) (l : Fin 128) :
    piece cw sw s (ix2 r l)
      = tableTurn M hN (fun n => v (ix2 r n)) (fun j => cw (ix2 r j)) (fun j => sw (ix2 r j)) ⟨128 * a + l, by omega⟩ :=
  stretch_cut M hN _ _ v s cw sw a ha hs r l

theorem turnedKeys_apply (l : Fin 128) :
    k0_pay18 (F := Ideal) k cw sw (ix2 r l)
      = tableTurn 64 rfl (fun n => k (ix2 r n)) (fun j => cw (ix2 r j)) (fun j => sw (ix2 r j)) l := by
  rw [whole_turned_k]
  refine (piece_cut r cw sw 64 rfl k k 0 (by omega) (fun r l => by simp) l).trans ?_
  simp

theorem joined (p : Fin 4 → FVec Ideal S1024x128 .f32) (a : Fin 4) (l : Fin 128) :
    (truncf .bf16 (concatenate S1024x512 1 [⟨S1024x128, p 0⟩, ⟨S1024x128, p 1⟩, ⟨S1024x128, p 2⟩, ⟨S1024x128, p 3⟩]
      concatenates_S1024x128_S1024x128_S1024x128_S1024x128_S1024x512_d1) bitsLt_bf16_f32
        : FVec Ideal S1024x512 .bf16) (ix2 r ⟨128 * a + l, by omega⟩) = p a (ix2 r l) := by
  match a with
  | 0 =>
    pointwise []
  | 1 =>
    pointwise []
  | 2 =>
    pointwise []
    rw [dif_neg (by omega), dif_neg (by omega), dif_pos (by omega)]
    exact congrArg (fun j => p 2 (ix2 r j)) (Fin.ext (show 256 + (l : ℕ) - 128 - 128 = l by omega))
  | 3 =>
    pointwise []
    rw [dif_neg (by omega), dif_neg (by omega), dif_neg (by omega)]
    exact congrArg (fun j => p 3 (ix2 r j)) (Fin.ext (show 384 + (l : ℕ) - 128 - 128 - 128 = l by omega))

theorem turnedQueries_apply (a : Fin 4) (l : Fin 128) :
    turnedQueries q cw sw (ix2 r ⟨128 * a + l, by omega⟩)
      = tableTurn 256 rfl (fun n => q (ix2 r n)) (fun j => cw (ix2 r j)) (fun j => sw (ix2 r j)) ⟨128 * a + l, by omega⟩ := by
  have hl := l.isLt
  refine (joined r ![piece cw sw (extractStridedSlice S1024x128 ![0, 0] q slices_S1024x512_o0_0_S1024x128),
    piece cw sw (extractStridedSlice S1024x128 ![0, 128] q slices_S1024x512_o0_128_S1024x128),
    piece cw sw (extractStridedSlice S1024x128 ![0, 256] q slices_S1024x512_o0_256_S1024x128),
    piece cw sw (extractStridedSlice S1024x128 ![0, 384] q slices_S1024x512_o0_384_S1024x128)] a l).trans ?_
  match a with
  | 0 => exact piece_cut r cw sw 256 rfl q _ 0 (by omega) (fun r l => by pointwise []) l
  | 1 => exact piece_cut r cw sw 256 rfl q _ 1 (by omega) (fun r l => by pointwise []) l
  | 2 => exact piece_cut r cw sw 256 rfl q _ 2 (by omega) (fun r l => by pointwise []) l
  | 3 => exact piece_cut r cw sw 256 rfl q _ 3 (by omega) (fun r l => by pointwise []) l

end turned

end Cert.PreEL
end
-- ==== Proof.PreEvenLat.Tiles.lean ====
/-
  What a grid point of the even layer's projections over the latent tokens leaves in the buffers of its queries, keys and values,
  read at an index.
-/
module

public import proofs.«01_k».proof.Proof.PreEvenLat.Rows

@[expose] public section

set_option maxRecDepth 16384

noncomputable section

namespace Cert.PreEL

open Cert.PreEvenLatIdeal Cert.PreEvenLatIdeal.Gen Idealize.ShloMosaic Idealize.ShloMosaic.TcCoe Idealize.SL.Sem Cert.Pre
open Cert.PreE (row IsTable)

section blocks

variable (x0 : Vec Ideal S1024x1024 .f32) (x1 : Vec Ideal S1x1x6x1024 .f32) (x2 : Vec Ideal S1024x1792 .bf16)
  (x3 : Vec Ideal S256x256 .bf16) (x4 : Vec Ideal S1x512 .f32) (x5 : Vec Ideal S1x128 .f32) (x6 : Vec Ideal S1x512 .f32)
  (x7 : Vec Ideal S4x128x128 .bf16) (x8 : Vec Ideal S4x128x128 .f32) (x9 x10 : Vec Ideal S1024x128 .f32)

theorem ld_rows : View.ld x0 r0_2 = x0 :=
  View.ld_unit_zero (by funext a; fin_cases a <;> rfl) _ _
theorem ld_md : View.ld x1 r0_0 = x1 :=
  View.ld_unit_zero (by funext a; fin_cases a <;> rfl) _ _
theorem ld_weight : View.ld x2 r0_3 = x2 :=
  View.ld_unit_zero (by funext a; fin_cases a <;> rfl) _ _
theorem ld_table : View.ld x3 r0_1 = x3 :=
  View.ld_unit_zero (by funext a; fin_cases a <;> rfl) _ _
theorem ld_vgain : View.ld x4 r0_4 = x4 :=
  View.ld_unit_zero (by funext a; fin_cases a <;> rfl) _ _
theorem ld_kgain : View.ld x5 r0_5 = x5 :=
  View.ld_unit_zero (by funext a; fin_cases a <;> rfl) _ _
theorem ld_angles : View.ld x9 r0_6 = x9 :=
  View.ld_unit_zero (by funext a; fin_cases a <;> rfl) _ _

theorem proj_out (r : Fin 1024) (n : Fin 1792) : k0_pay76 (F := Ideal) x0 x1 x2 x3 x4 x5 x6 x7 x8 x9 x10 (ix2 r n) = row x1 x0 x2 r n := by
  unfold k0_pay76
  rw [ld_rows, ld_md, ld_weight]
  exact tile_proj x1 x0 x2 r n

/-- The queries and the keys of row `r` of a tile before they are turned. -/
def qRaw (r : Fin 1024) (n : Fin 512) : EReal := headNorm 28 rfl (row x1 x0 x2 r) ⟨n, by omega⟩ * x4 (ix2 0 n)
@[inherit_doc qRaw]
def kRaw (r : Fin 1024) (c : Fin 128) : EReal := headNorm 28 rfl (row x1 x0 x2 r) ⟨512 + c, by omega⟩ * x5 (ix2 0 c)

theorem whole_q (z : FVec Ideal S1024x512 .bf16) : View.canon (Val := Elt Ideal) (e := .bf16) [⟨r0_7, z⟩] = z :=
  View.canon_unit_zero (by funext a; fin_cases a <;> rfl) _ _
theorem whole_k (z : FVec Ideal S1024x128 .bf16) : View.canon (Val := Elt Ideal) (e := .bf16) [⟨r0_6, z⟩] = z :=
  View.canon_unit_zero (by funext a; fin_cases a <;> rfl) _ _

theorem queries (hT : IsTable x3) (r : Fin 1024) (n : Fin 512) :
    k0_pay8 (F := Ideal) (k0_pay77 x0 x1 x2 x3 x4 x5 x6 x7 x8 x9 x10) (k0_pay78 x0 x1 x2 x3 x4 x5 x6 x7 x8 x9 x10)
      (k0_pay79 x0 x1 x2 x3 x4 x5 x6 x7 x8 x9 x10) (Scalar.ofBits .f32 0x358637BD#32) (View.ld x4 r0_4) (ix2 r n) = qRaw x0 x1 x2 x4 r n := by
  unfold k0_pay77 k0_pay78 k0_pay79
  rw [ld_rows, ld_md, ld_weight, ld_table, ld_vgain]
  obtain ⟨a, c, rfl⟩ : ∃ (a : Fin 2) (c : Fin 256), n = ⟨256 * a + c, by omega⟩ :=
    ⟨⟨n / 256, by omega⟩, ⟨n % 256, by omega⟩, Fin.ext (Nat.div_add_mod _ _).symm⟩
  refine (tile_q x1 x0 x2 x3 r hT x4 a c).trans ?_
  unfold qRaw
  simp only [tile_proj]

theorem keys (hT : IsTable x3) (r : Fin 1024) (c : Fin 128) :
    k0_pay9 (F := Ideal) (View.ld x3 r0_1) (k0_pay76 x0 x1 x2 x3 x4 x5 x6 x7 x8 x9 x10) (View.ld x5 r0_5) (ix2 r c)
      = kRaw x0 x1 x2 x5 r c := by
  rw [ld_table, ld_kgain]
  refine (tile_k x3 _ r hT x5 c).trans ?_
  unfold kRaw
  simp only [proj_out]

theorem out_q (hT : IsTable x3) (r : Fin 1024) (n : Fin 512) : out0_11 (F := Ideal) x0 x1 x2 x3 x4 x5 x6 x7 x8 x9 x10 (ix2 r n)
      = tableTurn 256 rfl (qRaw x0 x1 x2 x4 r) (fun j => x9 (ix2 r j)) (fun j => x10 (ix2 r j)) n := by
  unfold out0_11
  rw [whole_q]
  refine (congrFun (whole_turned (View.ld x9 r0_6) (View.ld x10 r0_6) (k0_pay77 x0 x1 x2 x3 x4 x5 x6 x7 x8 x9 x10)
    (k0_pay78 x0 x1 x2 x3 x4 x5 x6 x7 x8 x9 x10) (k0_pay79 x0 x1 x2 x3 x4 x5 x6 x7 x8 x9 x10) (Scalar.ofBits .f32 0x358637BD#32)
    (View.ld x4 r0_4)) _).trans ?_
  rw [(cast_same _).1, (cast_same _).2, ld_angles, ld_angles]
  obtain ⟨a, c, rfl⟩ : ∃ (a : Fin 4) (c : Fin 128), n = ⟨128 * a + c, by omega⟩ :=
    ⟨⟨n / 128, by omega⟩, ⟨n % 128, by omega⟩, Fin.ext (Nat.div_add_mod _ _).symm⟩
  refine (turnedQueries_apply r _ _ _ a c).trans ?_
  simp only [queries x0 x1 x2 x3 x4 x5 x6 x7 x8 x9 x10 hT]

theorem out_k (hT : IsTable x3) (r : Fin 1024) (c : Fin 128) : out0_12 (F := Ideal) x0 x1 x2 x3 x4 x5 x6 x7 x8 x9 x10 (ix2 r c)
      = tableTurn 64 rfl (kRaw x0 x1 x2 x5 r) (fun j => x9 (ix2 r j)) (fun j => x10 (ix2 r j)) c := by
  unfold out0_12 k0_pay80 k0_pay81
  rw [whole_k, (cast_same _).1, (cast_same _).2, ld_angles, ld_angles]
  refine (turnedKeys_apply r _ _ _ c).trans ?_
  simp only [keys x0 x1 x2 x3 x4 x5 x6 x7 x8 x9 x10 hT]

theorem out_v (r : Fin 1024) (c : Fin 128) :
    out0_13 (F := Ideal) x0 x1 x2 x3 x4 x5 x6 x7 x8 x9 x10 (ix2 r c) = row x1 x0 x2 r ⟨640 + c, by omega⟩ := by
  unfold out0_13
  rw [whole_k, ld_rows, ld_md, ld_weight]
  exact tile_v x1 x0 x2 r c

end blocks

end Cert.PreEL
end
-- ==== Proof.PreEvenLat.Mix.lean ====
/-
  The gate that a grid point of the even layer's projections over the latent tokens leaves, read at an index: 32 stores, one for
  each chunk of 128 tokens and each group of 128 columns, as over the context tokens.
-/
module

public import proofs.«01_k».proof.Proof.PreEvenLat.Tiles
public import proofs.«01_k».proof.Proof.PreEven.Mix

@[expose] public section

set_option maxRecDepth 16384

noncomputable section

namespace Cert.PreEL

open Cert.PreEvenLatIdeal Cert.PreEvenLatIdeal.Gen Idealize.ShloMosaic Idealize.ShloMosaic.TcCoe Idealize.SL.Sem Cert.Pre
open Cert.PreE (row IsTable mixed Mixed gateAt gateTile gateTile_apply)

section blocks

variable (x0 : Vec Ideal S1024x1024 .f32) (x1 : Vec Ideal S1x1x6x1024 .f32) (x2 : Vec Ideal S1024x1792 .bf16)
  (x3 : Vec Ideal S256x256 .bf16) (x4 : Vec Ideal S1x512 .f32) (x5 : Vec Ideal S1x128 .f32) (x6 : Vec Ideal S1x512 .f32)
  (x7 : Vec Ideal S4x128x128 .bf16) (x8 : Vec Ideal S4x128x128 .f32) (x9 x10 : Vec Ideal S1024x128 .f32)

theorem bias_0 (p c : Fin 128) : (View.ld x8 r0_8 : Vec Ideal S1x128x128 .f32) (ix3 0 p c) = x8 (ix3 0 p c) := by pointwise []
theorem bias_1 (p c : Fin 128) : (View.ld x8 r0_17 : Vec Ideal S1x128x128 .f32) (ix3 0 p c) = x8 (ix3 1 p c) := by pointwise []
theorem bias_2 (p c : Fin 128) : (View.ld x8 r0_26 : Vec Ideal S1x128x128 .f32) (ix3 0 p c) = x8 (ix3 2 p c) := by pointwise []
theorem bias_3 (p c : Fin 128) : (View.ld x8 r0_35 : Vec Ideal S1x128x128 .f32) (ix3 0 p c) = x8 (ix3 3 p c) := by pointwise []

theorem matrix_0 (p q : Fin 128) : (shapeCast S128x128 (View.ld x7 r0_8 : Vec Ideal S1x128x128 .bf16)
    shapeCasts_S1x128x128_S128x128 : Vec Ideal S128x128 .bf16) (ix2 p q) = x7 (ix3 0 p q) := by pointwise []
theorem matrix_1 (p q : Fin 128) : (shapeCast S128x128 (View.ld x7 r0_17 : Vec Ideal S1x128x128 .bf16)
    shapeCasts_S1x128x128_S128x128 : Vec Ideal S128x128 .bf16) (ix2 p q) = x7 (ix3 1 p q) := by pointwise []
theorem matrix_2 (p q : Fin 128) : (shapeCast S128x128 (View.ld x7 r0_26 : Vec Ideal S1x128x128 .bf16)
    shapeCasts_S1x128x128_S128x128 : Vec Ideal S128x128 .bf16) (ix2 p q) = x7 (ix3 2 p q) := by pointwise []
theorem matrix_3 (p q : Fin 128) : (shapeCast S128x128 (View.ld x7 r0_35 : Vec Ideal S1x128x128 .bf16)
    shapeCasts_S1x128x128_S128x128 : Vec Ideal S128x128 .bf16) (ix2 p q) = x7 (ix3 3 p q) := by pointwise []

theorem mix_0 : Mixed (k0_pay83 (F := Ideal) x0 x1 x2 x3 x4 x5 x6 x7 x8 x9 x10) x7 0 (k0_pay86 (F := Ideal) x0 x1 x2 x3 x4 x5 x6 x7 x8 x9 x10) := fun a p c => by
  refine (mixed 0 (by omega) _ (k0_pay83 (F := Ideal) x0 x1 x2 x3 x4 x5 x6 x7 x8 x9 x10) slices_S1024x512_o0_0_S128x128 slices_S1024x512_o128_0_S128x128 slices_S1024x512_o256_0_S128x128 slices_S1024x512_o384_0_S128x128 slices_S1024x512_o512_0_S128x128 slices_S1024x512_o640_0_S128x128 slices_S1024x512_o768_0_S128x128 slices_S1024x512_o896_0_S128x128 a p c).trans ?_
  refine Finset.sum_congr rfl fun q _ => Ideal.mul_congr (matrix_0 x7 p q) ?_
  simp

theorem mix_1 : Mixed (k0_pay83 (F := Ideal) x0 x1 x2 x3 x4 x5 x6 x7 x8 x9 x10) x7 1 (k0_pay93 (F := Ideal) x0 x1 x2 x3 x4 x5 x6 x7 x8 x9 x10) := fun a p c => by
  refine (mixed 128 (by omega) _ (k0_pay83 (F := Ideal) x0 x1 x2 x3 x4 x5 x6 x7 x8 x9 x10) slices_S1024x512_o0_128_S128x128 slices_S1024x512_o128_128_S128x128 slices_S1024x512_o256_128_S128x128 slices_S1024x512_o384_128_S128x128 slices_S1024x512_o512_128_S128x128 slices_S1024x512_o640_128_S128x128 slices_S1024x512_o768_128_S128x128 slices_S1024x512_o896_128_S128x128 a p c).trans ?_
  refine Finset.sum_congr rfl fun q _ => Ideal.mul_congr (matrix_1 x7 p q) ?_
  rfl

theorem mix_2 : Mixed (k0_pay83 (F := Ideal) x0 x1 x2 x3 x4 x5 x6 x7 x8 x9 x10) x7 2 (k0_pay94 (F := Ideal) x0 x1 x2 x3 x4 x5 x6 x7 x8 x9 x10) := fun a p c => by
  refine (mixed 256 (by omega) _ (k0_pay83 (F := Ideal) x0 x1 x2 x3 x4 x5 x6 x7 x8 x9 x10) slices_S1024x512_o0_256_S128x128 slices_S1024x512_o128_256_S128x128 slices_S1024x512_o256_256_S128x128 slices_S1024x512_o384_256_S128x128 slices_S1024x512_o512_256_S128x128 slices_S1024x512_o640_256_S128x128 slices_S1024x512_o768_256_S128x128 slices_S1024x512_o896_256_S128x128 a p c).trans ?_
  refine Finset.sum_congr rfl fun q _ => Ideal.mul_congr (matrix_2 x7 p q) ?_
  rfl

theorem mix_3 : Mixed (k0_pay83 (F := Ideal) x0 x1 x2 x3 x4 x5 x6 x7 x8 x9 x10) x7 3 (k0_pay95 (F := Ideal) x0 x1 x2 x3 x4 x5 x6 x7 x8 x9 x10) := fun a p c => by
  refine (mixed 384 (by omega) _ (k0_pay83 (F := Ideal) x0 x1 x2 x3 x4 x5 x6 x7 x8 x9 x10) slices_S1024x512_o0_384_S128x128 slices_S1024x512_o128_384_S128x128 slices_S1024x512_o256_384_S128x128 slices_S1024x512_o384_384_S128x128 slices_S1024x512_o512_384_S128x128 slices_S1024x512_o640_384_S128x128 slices_S1024x512_o768_384_S128x128 slices_S1024x512_o896_384_S128x128 a p c).trans ?_
  refine Finset.sum_congr rfl fun q _ => Ideal.mul_congr (matrix_3 x7 p q) ?_
  rfl

theorem out_tile (y : S1024x512.Idx) : out0_14 (F := Ideal) x0 x1 x2 x3 x4 x5 x6 x7 x8 x9 x10 y
      = gateTile (k0_pay82 (F := Ideal) x0 x1 x2 x3 x4 x5 x6 x7 x8 x9 x10) (k0_pay83 (F := Ideal) x0 x1 x2 x3 x4 x5 x6 x7 x8 x9 x10) x7 x8 y := by
  unfold out0_14
  refine View.canon_apply_of_pieces (Val := Elt Ideal) (e := .bf16)
    (gateTile (k0_pay82 (F := Ideal) x0 x1 x2 x3 x4 x5 x6 x7 x8 x9 x10) (k0_pay83 (F := Ideal) x0 x1 x2 x3 x4 x5 x6 x7 x8 x9 x10) x7 x8) _ ?_ y
    (cover0_14 _ _ _ _ _ _ _ _ _ _ _ _ _ _ _ _ _ _ _ _ _ _ _ _ _ _ _ _ _ _ _ _ _)
  exact
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 7 3 896 384 rfl rfl slices_S1024x512_o896_384_S128x128
      slices_S128x1024_o0_896_S128x128 inb_S1024x512_S128x128_896_384 _ (mix_3 x0 x1 x2 x3 x4 x5 x6 x7 x8 x9 x10) _ (bias_3 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 6 3 768 384 rfl rfl slices_S1024x512_o768_384_S128x128
      slices_S128x1024_o0_768_S128x128 inb_S1024x512_S128x128_768_384 _ (mix_3 x0 x1 x2 x3 x4 x5 x6 x7 x8 x9 x10) _ (bias_3 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 5 3 640 384 rfl rfl slices_S1024x512_o640_384_S128x128
      slices_S128x1024_o0_640_S128x128 inb_S1024x512_S128x128_640_384 _ (mix_3 x0 x1 x2 x3 x4 x5 x6 x7 x8 x9 x10) _ (bias_3 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 4 3 512 384 rfl rfl slices_S1024x512_o512_384_S128x128
      slices_S128x1024_o0_512_S128x128 inb_S1024x512_S128x128_512_384 _ (mix_3 x0 x1 x2 x3 x4 x5 x6 x7 x8 x9 x10) _ (bias_3 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 3 3 384 384 rfl rfl slices_S1024x512_o384_384_S128x128
      slices_S128x1024_o0_384_S128x128 inb_S1024x512_S128x128_384_384 _ (mix_3 x0 x1 x2 x3 x4 x5 x6 x7 x8 x9 x10) _ (bias_3 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 2 3 256 384 rfl rfl slices_S1024x512_o256_384_S128x128
      slices_S128x1024_o0_256_S128x128 inb_S1024x512_S128x128_256_384 _ (mix_3 x0 x1 x2 x3 x4 x5 x6 x7 x8 x9 x10) _ (bias_3 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 1 3 128 384 rfl rfl slices_S1024x512_o128_384_S128x128
      slices_S128x1024_o0_128_S128x128 inb_S1024x512_S128x128_128_384 _ (mix_3 x0 x1 x2 x3 x4 x5 x6 x7 x8 x9 x10) _ (bias_3 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 0 3 0 384 rfl rfl slices_S1024x512_o0_384_S128x128
      slices_S128x1024_o0_0_S128x128 inb_S1024x512_S128x128_0_384 _ (mix_3 x0 x1 x2 x3 x4 x5 x6 x7 x8 x9 x10) _ (bias_3 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 7 2 896 256 rfl rfl slices_S1024x512_o896_256_S128x128
      slices_S128x1024_o0_896_S128x128 inb_S1024x512_S128x128_896_256 _ (mix_2 x0 x1 x2 x3 x4 x5 x6 x7 x8 x9 x10) _ (bias_2 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 6 2 768 256 rfl rfl slices_S1024x512_o768_256_S128x128
      slices_S128x1024_o0_768_S128x128 inb_S1024x512_S128x128_768_256 _ (mix_2 x0 x1 x2 x3 x4 x5 x6 x7 x8 x9 x10) _ (bias_2 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 5 2 640 256 rfl rfl slices_S1024x512_o640_256_S128x128
      slices_S128x1024_o0_640_S128x128 inb_S1024x512_S128x128_640_256 _ (mix_2 x0 x1 x2 x3 x4 x5 x6 x7 x8 x9 x10) _ (bias_2 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 4 2 512 256 rfl rfl slices_S1024x512_o512_256_S128x128
      slices_S128x1024_o0_512_S128x128 inb_S1024x512_S128x128_512_256 _ (mix_2 x0 x1 x2 x3 x4 x5 x6 x7 x8 x9 x10) _ (bias_2 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 3 2 384 256 rfl rfl slices_S1024x512_o384_256_S128x128
      slices_S128x1024_o0_384_S128x128 inb_S1024x512_S128x128_384_256 _ (mix_2 x0 x1 x2 x3 x4 x5 x6 x7 x8 x9 x10) _ (bias_2 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 2 2 256 256 rfl rfl slices_S1024x512_o256_256_S128x128
      slices_S128x1024_o0_256_S128x128 inb_S1024x512_S128x128_256_256 _ (mix_2 x0 x1 x2 x3 x4 x5 x6 x7 x8 x9 x10) _ (bias_2 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 1 2 128 256 rfl rfl slices_S1024x512_o128_256_S128x128
      slices_S128x1024_o0_128_S128x128 inb_S1024x512_S128x128_128_256 _ (mix_2 x0 x1 x2 x3 x4 x5 x6 x7 x8 x9 x10) _ (bias_2 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 0 2 0 256 rfl rfl slices_S1024x512_o0_256_S128x128
      slices_S128x1024_o0_0_S128x128 inb_S1024x512_S128x128_0_256 _ (mix_2 x0 x1 x2 x3 x4 x5 x6 x7 x8 x9 x10) _ (bias_2 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 7 1 896 128 rfl rfl slices_S1024x512_o896_128_S128x128
      slices_S128x1024_o0_896_S128x128 inb_S1024x512_S128x128_896_128 _ (mix_1 x0 x1 x2 x3 x4 x5 x6 x7 x8 x9 x10) _ (bias_1 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 6 1 768 128 rfl rfl slices_S1024x512_o768_128_S128x128
      slices_S128x1024_o0_768_S128x128 inb_S1024x512_S128x128_768_128 _ (mix_1 x0 x1 x2 x3 x4 x5 x6 x7 x8 x9 x10) _ (bias_1 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 5 1 640 128 rfl rfl slices_S1024x512_o640_128_S128x128
      slices_S128x1024_o0_640_S128x128 inb_S1024x512_S128x128_640_128 _ (mix_1 x0 x1 x2 x3 x4 x5 x6 x7 x8 x9 x10) _ (bias_1 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 4 1 512 128 rfl rfl slices_S1024x512_o512_128_S128x128
      slices_S128x1024_o0_512_S128x128 inb_S1024x512_S128x128_512_128 _ (mix_1 x0 x1 x2 x3 x4 x5 x6 x7 x8 x9 x10) _ (bias_1 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 3 1 384 128 rfl rfl slices_S1024x512_o384_128_S128x128
      slices_S128x1024_o0_384_S128x128 inb_S1024x512_S128x128_384_128 _ (mix_1 x0 x1 x2 x3 x4 x5 x6 x7 x8 x9 x10) _ (bias_1 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 2 1 256 128 rfl rfl slices_S1024x512_o256_128_S128x128
      slices_S128x1024_o0_256_S128x128 inb_S1024x512_S128x128_256_128 _ (mix_1 x0 x1 x2 x3 x4 x5 x6 x7 x8 x9 x10) _ (bias_1 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 1 1 128 128 rfl rfl slices_S1024x512_o128_128_S128x128
      slices_S128x1024_o0_128_S128x128 inb_S1024x512_S128x128_128_128 _ (mix_1 x0 x1 x2 x3 x4 x5 x6 x7 x8 x9 x10) _ (bias_1 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 0 1 0 128 rfl rfl slices_S1024x512_o0_128_S128x128
      slices_S128x1024_o0_0_S128x128 inb_S1024x512_S128x128_0_128 _ (mix_1 x0 x1 x2 x3 x4 x5 x6 x7 x8 x9 x10) _ (bias_1 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 7 0 896 0 rfl rfl slices_S1024x512_o896_0_S128x128
      slices_S128x1024_o0_896_S128x128 inb_S1024x512_S128x128_896_0 _ (mix_0 x0 x1 x2 x3 x4 x5 x6 x7 x8 x9 x10) _ (bias_0 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 6 0 768 0 rfl rfl slices_S1024x512_o768_0_S128x128
      slices_S128x1024_o0_768_S128x128 inb_S1024x512_S128x128_768_0 _ (mix_0 x0 x1 x2 x3 x4 x5 x6 x7 x8 x9 x10) _ (bias_0 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 5 0 640 0 rfl rfl slices_S1024x512_o640_0_S128x128
      slices_S128x1024_o0_640_S128x128 inb_S1024x512_S128x128_640_0 _ (mix_0 x0 x1 x2 x3 x4 x5 x6 x7 x8 x9 x10) _ (bias_0 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 4 0 512 0 rfl rfl slices_S1024x512_o512_0_S128x128
      slices_S128x1024_o0_512_S128x128 inb_S1024x512_S128x128_512_0 _ (mix_0 x0 x1 x2 x3 x4 x5 x6 x7 x8 x9 x10) _ (bias_0 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 3 0 384 0 rfl rfl slices_S1024x512_o384_0_S128x128
      slices_S128x1024_o0_384_S128x128 inb_S1024x512_S128x128_384_0 _ (mix_0 x0 x1 x2 x3 x4 x5 x6 x7 x8 x9 x10) _ (bias_0 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 2 0 256 0 rfl rfl slices_S1024x512_o256_0_S128x128
      slices_S128x1024_o0_256_S128x128 inb_S1024x512_S128x128_256_0 _ (mix_0 x0 x1 x2 x3 x4 x5 x6 x7 x8 x9 x10) _ (bias_0 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 1 0 128 0 rfl rfl slices_S1024x512_o128_0_S128x128
      slices_S128x1024_o0_128_S128x128 inb_S1024x512_S128x128_128_0 _ (mix_0 x0 x1 x2 x3 x4 x5 x6 x7 x8 x9 x10) _ (bias_0 x8),
    List.forall_mem_cons.2 ⟨Cert.PreE.piece (k0_pay82 (F := Ideal) x0 x1 x2 x3 x4 x5 x6 x7 x8 x9 x10) (k0_pay83 (F := Ideal) x0 x1 x2 x3 x4 x5 x6 x7 x8 x9 x10) x7 x8 0 0 0 0 rfl rfl slices_S1024x512_o0_0_S128x128
      slices_S128x1024_o0_0_S128x128 inb_S1024x512_S128x128_0_0 _ (mix_0 x0 x1 x2 x3 x4 x5 x6 x7 x8 x9 x10) _ (bias_0 x8),
    List.forall_mem_nil _⟩⟩⟩⟩⟩⟩⟩⟩⟩⟩⟩⟩⟩⟩⟩⟩⟩⟩⟩⟩⟩⟩⟩⟩⟩⟩⟩⟩⟩⟩⟩⟩

theorem own_half (r : Fin 1024) (n : Fin 512) : k0_pay82 (F := Ideal) x0 x1 x2 x3 x4 x5 x6 x7 x8 x9 x10 (ix2 r n) = smooth (row x1 x0 x2 r ⟨768 + n, by omega⟩) := by
  unfold k0_pay82
  rw [tile_u, proj_out]

theorem mixed_half (r : Fin 1024) (n : Fin 512) : k0_pay83 (F := Ideal) x0 x1 x2 x3 x4 x5 x6 x7 x8 x9 x10 (ix2 r n)
      = smoothNorm (fun l => row x1 x0 x2 r ⟨1280 + l, by omega⟩) (fun l => x6 (ix2 0 l)) n := by
  unfold k0_pay83
  rw [ld_vgain, tile_vn]
  simp only [proj_out]

theorem out_gate (a : Fin 8) (p : Fin 128) (g : Fin 4) (c : Fin 128) :
    out0_14 (F := Ideal) x0 x1 x2 x3 x4 x5 x6 x7 x8 x9 x10 (ix2 ⟨128 * a + p, by omega⟩ ⟨128 * g + c, by omega⟩)
      = mixGate (smooth (row x1 x0 x2 ⟨128 * a + p, by omega⟩ ⟨768 + (128 * g + c), by omega⟩)) (x8 (ix3 g p c))
          (fun q => x7 (ix3 g p q))
          (fun q => smoothNorm (fun l => row x1 x0 x2 ⟨128 * a + q, by omega⟩ ⟨1280 + l, by omega⟩) (fun l => x6 (ix2 0 l))
            ⟨128 * g + c, by omega⟩) := by
  refine (out_tile x0 x1 x2 x3 x4 x5 x6 x7 x8 x9 x10 _).trans ((gateTile_apply _ _ x7 x8 a p g c _ rfl rfl).trans ?_)
  unfold gateAt
  simp only [own_half, mixed_half]

end blocks

end Cert.PreEL
end
-- ==== Proof.PreEvenLat.Table.lean ====
/-
  The tables of the even layer's projections over the latent tokens: the group means, which are an argument that the
  precondition describes, and the signs of the sines.
-/
module

public import proofs.«01_k».proof.Defs
public import proofs.«01_k».proof.Proof.Gen.PreEvenLatIdeal.Frame
public import proofs.«01_k».proof.Proof.PreEven.Rows
public import proofs.«01_k».proof.Proof.PreOddLat.Table

@[expose] public section

set_option maxRecDepth 16384

noncomputable section

namespace Cert.PreEL

open Cert.PreEvenLatIdeal Idealize.ShloMosaic Idealize.ShloMosaic.Pointwise
open Cert.PreE (IsTable)

/-- The shapes the precondition states fit together. -/
instance mean_facts : Cert.Pre_mean_table.Facts where
  bitsLt_bf16_f32 := by decide
  bcast_S256_S256x1_0 := by decide
  bcast_S256_S1x256_1 := by decide
  bcast_S256x1_S256x256_0_1 := by decide
  bcast_S1x256_S256x256_0_1 := by decide
  bcast_S_S256x256 := by decide

/-- The number of each lane's group of 64. -/
theorem group_entry : ∀ k : Fin 256, Cert.Pre_mean_table.lit0 k = BitVec.ofNat 32 (k / 64) := by decide +kernel

theorem group_eq (k j : Fin 256) :
    Cert.Pre_mean_table.lit0 k = Cert.Pre_mean_table.lit0 j ↔ (k : ℕ) / 64 = j / 64 := by
  rw [group_entry, group_entry]
  constructor
  · intro h
    have h' := congrArg BitVec.toNat h
    simp only [BitVec.toNat_ofNat] at h'
    omega
  · intro h
    rw [h]

theorem lane_at (k : Fin 256) : Cert.Pre_mean_table.lit0 (Cert.Pre_mean_table.S256.rowMajor (ix1 k)) = Cert.Pre_mean_table.lit0 k := by
  refine congrArg _ (Fin.ext ?_)
  rw [Shape.rowMajor_val_one]
  rfl

theorem ofBits_64th : Ideal.ofBits .f32 0x3C800000#32 = Ideal.ofBits .bf16 0x3C80#16 := by
  simp [Ideal.ofBits, Ideal.ieee, -EReal.coe_mul]; norm_num

theorem ofBits_zero : Ideal.ofBits .f32 0#32 = 0 := by
  simp [Ideal.ofBits, Ideal.ieee, -EReal.coe_mul]

theorem eq_of_bit (a b : EReal) (h : BitVec.ofBool (decide (a = b)) = 1#1) : a = b := by
  by_contra h'
  simp [h'] at h

/-- Under the precondition the last argument is the table of the group means. -/
theorem mean_at (a₀ : FVec Ideal Cert.Pre_mean_table.S16384x1024 .f32) (a₁ : FVec Ideal Cert.Pre_mean_table.S2x16x6x1024 .f32)
    (a₂ : FVec Ideal Cert.Pre_mean_table.S1x1024x1792 .f32) (a₃ a₄ : FVec Ideal Cert.Pre_mean_table.S1x64 .f32)
    (a₅ : FVec Ideal Cert.Pre_mean_table.S1x512 .f32) (a₆ : FVec Ideal Cert.Pre_mean_table.S1x4x128x128 .f32)
    (a₇ : FVec Ideal Cert.Pre_mean_table.S1x4x128 .f32) (a₈ a₉ : FVec Ideal Cert.Pre_mean_table.S2048x32 .f32)
    (tb : FVec Ideal Cert.Pre_mean_table.S256x256 .bf16)
    (h : Cert.Pre_mean_table.fn (F := Ideal) a₀ a₁ a₂ a₃ a₄ a₅ a₆ a₇ a₈ a₉ tb = fun _ => 1#1) : IsTable tb := fun k j => by
  have h := congrFun h (ix2 k j)
  revert h
  pointwise [Cert.Pre_mean_table.fn, Cert.Pre_mean_table.fn_where, id]
  rw [lane_at, lane_at]
  intro h
  rw [eq_of_bit _ _ h]
  by_cases hg : (k : ℕ) / 64 = j / 64
  · rw [if_pos hg, (group_eq k j).mpr hg, ← ofBits_64th]
    simp [IntOp.cmpi, Scalar.select]
  · rw [if_neg hg]
    have hn : ¬ Cert.Pre_mean_table.lit0 k = Cert.Pre_mean_table.lit0 j := fun e => hg ((group_eq k j).mp e)
    have hb : (Cert.Pre_mean_table.lit0 k == Cert.Pre_mean_table.lit0 j) = false := beq_eq_false_iff_ne.mpr hn
    unfold Scalar.select IntOp.cmpi
    dsimp only
    rw [hb]
    exact if_neg (by decide)

theorem sign_entry : ∀ j : Fin 64, lit0 j = if (j : ℕ) % 2 = 0 then 0xBF800000#32 else 0x3F800000#32 := by decide +kernel

theorem sign_apply (j : Fin 64) : Ideal.ofBits .f32 (lit0 j) = if (j : ℕ) % 2 = 0 then -1 else 1 := by
  rw [sign_entry]
  split_ifs
  · exact Cert.PreOL.ofBits_minus_one
  · exact Cert.PreOL.ofBits_one

end Cert.PreEL
end
-- ==== Proof.PreEvenLat.Ref.lean ====
/-
  The reference of the even layer's projections over the latent tokens, read at an index.
-/
module

public import proofs.«01_k».proof.Proof.Gen.PreEvenLatRefIdeal.Run
public import proofs.«01_k».proof.Proof.Gen.PreEvenLatRefIdeal.Read
public import proofs.«01_k».proof.Proof.Pre.Turn
public import proofs.«01_k».proof.Proof.Pre.Gate
public import Idealize.ShloMosaic.Lib.Pointwise
public import Idealize.ShloMosaic.Lib.Pipeline.ValueKit

@[expose] public section

set_option maxRecDepth 16384

noncomputable section

namespace Cert.PreELRef

open Cert.PreEvenLatRefIdeal Cert.PreEvenLatRefIdeal.Gen Cert.PreEvenLatRefIdeal.Read Idealize.ShloMosaic Idealize.ShloMosaic.TcCoe Idealize.SL.Sem Cert.Pre

variable (x : FVec Ideal S16384x1024 .f32) (md : FVec Ideal S2x16x6x1024 .f32) (w : FVec Ideal S1x1024x1792 .f32)
  (gq gk : FVec Ideal S1x64 .f32) (cos sin : FVec Ideal S2048x32 .f32)
  (gn : FVec Ideal S1x512 .f32) (ws : FVec Ideal S1x4x128x128 .f32) (bs : FVec Ideal S1x4x128 .f32)

/-- The projection of token `p`; the tokens of sequence `b` take the modulation of row `1 + b`. -/
def token (p : Fin 16384) : Fin 1792 → EReal :=
  proj (fun k => md (ix4 0 ⟨1 + p / 2048, by omega⟩ 1 k)) (fun k => md (ix4 0 ⟨1 + p / 2048, by omega⟩ 0 k)) (fun k => x (ix2 p k)) (fun k n => w (ix3 0 k n))

theorem normed_apply (b : Fin 8) (s : Fin 2048) (c : Fin 1024) :
    val_main_v22 (F := Ideal) x md (ix3 b s c)
      = Cert.Ffn.normRow (fun k => md (ix4 0 ⟨1 + b, by omega⟩ 1 k)) (fun k => md (ix4 0 ⟨1 + b, by omega⟩ 0 k)) (fun k => x (ix2 ⟨2048 * b + s, by omega⟩ k)) c := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [Nat.mul_comm 2048]
  rfl

theorem proj_apply (b : Fin 8) (s : Fin 2048) (n : Fin 1792) :
    val_main_v24 (F := Ideal) x md w (ix3 b s n) = token x md w ⟨2048 * b + s, by omega⟩ n := by
  pointwise [val_main_v24, val_main_v23]
  simp only [normed_apply]
  have e : (2048 * (b : ℕ) + s) / 2048 = b := by omega
  unfold token proj
  simp only [e]

theorem query_apply (b : Fin 8) (s : Fin 2048) (g : Fin 8) (d : Fin 64) :
    val_main_v30 (F := Ideal) x md w (ix4 b s g d) = token x md w ⟨2048 * b + s, by omega⟩ ⟨64 * g + d, by omega⟩ := by
  rw [← proj_apply]
  pointwise [val_main_v30, val_main_v25]
  blk_ext []

theorem key_apply (b : Fin 8) (s : Fin 2048) (g : Fin 2) (d : Fin 64) :
    val_main_v45 (F := Ideal) x md w (ix4 b s g d) = token x md w ⟨2048 * b + s, by omega⟩ ⟨512 + (64 * g + d), by omega⟩ := by
  rw [← proj_apply]
  pointwise [val_main_v45, val_main_v26]
  blk_ext []

/-- The queries and the keys of token `p` before they are turned. -/
def qNorm (p : Fin 16384) (n : Fin 512) : EReal :=
  headNorm 28 rfl (token x md w p) ⟨n, by omega⟩ * gq (ix2 0 ⟨n % 64, by omega⟩)
@[inherit_doc qNorm]
def kNorm (p : Fin 16384) (n : Fin 128) : EReal :=
  headNorm 28 rfl (token x md w p) ⟨512 + n, by omega⟩ * gk (ix2 0 ⟨n % 64, by omega⟩)

theorem query_scaled (b : Fin 8) (s : Fin 2048) (g : Fin 8) (d : Fin 64) :
    val_main_v44 (F := Ideal) x md w gq (ix4 b s g d)
      = qNorm x md w gq ⟨2048 * b + s, by omega⟩ ⟨64 * g + d, by omega⟩ := by
  pointwise [val_main_v44, val_main_v43, val_main_v42, val_main_v41, val_main_v40, val_main_v39, val_main_v38, val_main_v37, val_main_v36, val_main_v35, val_main_v34, val_main_v33, val_main_v32, val_main_v31, val_main_cst_3, val_main_cst_4, val_main_cst_5]
  simp only [query_apply]
  unfold qNorm headNorm headSq mate
  have e : ∀ d' : Fin 64, 64 * ((64 * (g : ℕ) + d) / 64) + d' = 64 * g + d' := fun d' => by omega
  have e' : (64 * (g : ℕ) + d) % 64 = d := by omega
  simp only [e, e']

theorem key_scaled (b : Fin 8) (s : Fin 2048) (g : Fin 2) (d : Fin 64) :
    val_main_v59 (F := Ideal) x md w gk (ix4 b s g d)
      = kNorm x md w gk ⟨2048 * b + s, by omega⟩ ⟨64 * g + d, by omega⟩ := by
  pointwise [val_main_v59, val_main_v58, val_main_v57, val_main_v56, val_main_v55, val_main_v54, val_main_v53, val_main_v52, val_main_v51, val_main_v50, val_main_v49, val_main_v48, val_main_v47, val_main_v46, val_main_cst_6, val_main_cst_7, val_main_cst_8]
  simp only [key_apply]
  unfold kNorm headNorm headSq mate
  have e : ∀ d' : Fin 64, 64 * ((512 + (64 * (g : ℕ) + d)) / 64) + d' = 512 + (64 * g + d') := fun d' => by omega
  have e' : (64 * (g : ℕ) + d) % 64 = d := by omega
  simp only [e, e']

/-- The angles of token `p`: those of its position in its sequence. -/
def angle (p : Fin 16384) (i : Fin 32) : EReal := cos (ix2 ⟨p % 2048, by omega⟩ i)

theorem query_first (b : Fin 8) (s : Fin 2048) (g : Fin 8) (i : Fin 32) :
    val_main_v62 (F := Ideal) x md w gq (ix4 b s g i) = val_main_v44 (F := Ideal) x md w gq (ix4 b s g ⟨2 * i, by omega⟩) := by
  pointwise [val_main_v62, val_main_v61, val_main_v60]
  blk_ext []

theorem query_second (b : Fin 8) (s : Fin 2048) (g : Fin 8) (i : Fin 32) :
    val_main_v64 (F := Ideal) x md w gq (ix4 b s g i) = val_main_v44 (F := Ideal) x md w gq (ix4 b s g ⟨2 * i + 1, by omega⟩) := by
  pointwise [val_main_v64, val_main_v63, val_main_v60]
  blk_ext []

theorem query_even (b : Fin 8) (s : Fin 2048) (g : Fin 8) (i : Fin 32) :
    val_main_v71 (F := Ideal) x md w gq cos sin (ix4 b s g i)
      = val_main_v44 (F := Ideal) x md w gq (ix4 b s g ⟨2 * i, by omega⟩) * cos (ix2 s i)
        - val_main_v44 (F := Ideal) x md w gq (ix4 b s g ⟨2 * i + 1, by omega⟩) * sin (ix2 s i) := by
  rw [← query_first, ← query_second]
  pointwise [val_main_v71, val_main_v70, val_main_v69, val_main_v68, val_main_v67, val_main_v66, val_main_v65]

theorem query_odd (b : Fin 8) (s : Fin 2048) (g : Fin 8) (i : Fin 32) :
    val_main_v76 (F := Ideal) x md w gq cos sin (ix4 b s g i)
      = val_main_v44 (F := Ideal) x md w gq (ix4 b s g ⟨2 * i, by omega⟩) * sin (ix2 s i)
        + val_main_v44 (F := Ideal) x md w gq (ix4 b s g ⟨2 * i + 1, by omega⟩) * cos (ix2 s i) := by
  rw [← query_first, ← query_second]
  pointwise [val_main_v76, val_main_v75, val_main_v74, val_main_v73, val_main_v72, val_main_v66, val_main_v65]

theorem query_pair (b : Fin 8) (s : Fin 2048) (g : Fin 8) (i : Fin 32) (e : Fin 2) :
    val_main_v79 (F := Ideal) x md w gq cos sin (ix5 b s g i e)
      = if (e : ℕ) = 0 then val_main_v71 (F := Ideal) x md w gq cos sin (ix4 b s g i)
        else val_main_v76 (F := Ideal) x md w gq cos sin (ix4 b s g i) := by
  match e with
  | 0 => pointwise [val_main_v79, val_main_v77, val_main_v78]
  | 1 => pointwise [val_main_v79, val_main_v77, val_main_v78]

theorem query_turned (b : Fin 8) (s : Fin 2048) (g : Fin 8) (d : Fin 64) :
    val_main_v80 (F := Ideal) x md w gq cos sin (ix4 b s g d)
      = turn 256 rfl (qNorm x md w gq ⟨2048 * b + s, by omega⟩) (fun i => cos (ix2 s i)) (fun i => sin (ix2 s i)) ⟨64 * g + d, by omega⟩ := by
  have h : val_main_v80 (F := Ideal) x md w gq cos sin (ix4 b s g d)
      = val_main_v79 (F := Ideal) x md w gq cos sin (ix5 b s g ⟨d / 2, by omega⟩ ⟨d % 2, by omega⟩) := by
    pointwise [val_main_v80]
    blk_ext []
  rw [h, query_pair, query_even, query_odd]
  simp only [query_scaled]
  unfold turn partner
  have e₁ : (64 * (g : ℕ) + d) % 2 = d % 2 := by omega
  have e₂ : (64 * (g : ℕ) + d) / 2 % 32 = d / 2 := by omega
  simp only [e₁, e₂]
  obtain hd | hd : (d : ℕ) % 2 = 0 ∨ (d : ℕ) % 2 = 1 := by omega
  · have e₃ : 2 * ((d : ℕ) / 2) = d := by omega
    simp only [hd, e₃, if_true]
    rfl
  · have e₃ : 2 * ((d : ℕ) / 2) + 1 = d := by omega
    have e₄ : 64 * (g : ℕ) + 2 * ((d : ℕ) / 2) = 64 * g + d - 1 := by omega
    simp only [hd, e₃, e₄, one_ne_zero, if_false]

theorem key_first (b : Fin 8) (s : Fin 2048) (g : Fin 2) (i : Fin 32) :
    val_main_v85 (F := Ideal) x md w gk (ix4 b s g i) = val_main_v59 (F := Ideal) x md w gk (ix4 b s g ⟨2 * i, by omega⟩) := by
  pointwise [val_main_v85, val_main_v84, val_main_v83]
  blk_ext []

theorem key_second (b : Fin 8) (s : Fin 2048) (g : Fin 2) (i : Fin 32) :
    val_main_v87 (F := Ideal) x md w gk (ix4 b s g i) = val_main_v59 (F := Ideal) x md w gk (ix4 b s g ⟨2 * i + 1, by omega⟩) := by
  pointwise [val_main_v87, val_main_v86, val_main_v83]
  blk_ext []

theorem key_even (b : Fin 8) (s : Fin 2048) (g : Fin 2) (i : Fin 32) :
    val_main_v94 (F := Ideal) x md w gk cos sin (ix4 b s g i)
      = val_main_v59 (F := Ideal) x md w gk (ix4 b s g ⟨2 * i, by omega⟩) * cos (ix2 s i)
        - val_main_v59 (F := Ideal) x md w gk (ix4 b s g ⟨2 * i + 1, by omega⟩) * sin (ix2 s i) := by
  rw [← key_first, ← key_second]
  pointwise [val_main_v94, val_main_v93, val_main_v92, val_main_v91, val_main_v90, val_main_v89, val_main_v88]

theorem key_odd (b : Fin 8) (s : Fin 2048) (g : Fin 2) (i : Fin 32) :
    val_main_v99 (F := Ideal) x md w gk cos sin (ix4 b s g i)
      = val_main_v59 (F := Ideal) x md w gk (ix4 b s g ⟨2 * i, by omega⟩) * sin (ix2 s i)
        + val_main_v59 (F := Ideal) x md w gk (ix4 b s g ⟨2 * i + 1, by omega⟩) * cos (ix2 s i) := by
  rw [← key_first, ← key_second]
  pointwise [val_main_v99, val_main_v98, val_main_v97, val_main_v96, val_main_v95, val_main_v89, val_main_v88]

theorem key_pair (b : Fin 8) (s : Fin 2048) (g : Fin 2) (i : Fin 32) (e : Fin 2) :
    val_main_v102 (F := Ideal) x md w gk cos sin (ix5 b s g i e)
      = if (e : ℕ) = 0 then val_main_v94 (F := Ideal) x md w gk cos sin (ix4 b s g i)
        else val_main_v99 (F := Ideal) x md w gk cos sin (ix4 b s g i) := by
  match e with
  | 0 => pointwise [val_main_v102, val_main_v100, val_main_v101]
  | 1 => pointwise [val_main_v102, val_main_v100, val_main_v101]

theorem key_turned (b : Fin 8) (s : Fin 2048) (g : Fin 2) (d : Fin 64) :
    val_main_v103 (F := Ideal) x md w gk cos sin (ix4 b s g d)
      = turn 64 rfl (kNorm x md w gk ⟨2048 * b + s, by omega⟩) (fun i => cos (ix2 s i)) (fun i => sin (ix2 s i)) ⟨64 * g + d, by omega⟩ := by
  have h : val_main_v103 (F := Ideal) x md w gk cos sin (ix4 b s g d)
      = val_main_v102 (F := Ideal) x md w gk cos sin (ix5 b s g ⟨d / 2, by omega⟩ ⟨d % 2, by omega⟩) := by
    pointwise [val_main_v103]
    blk_ext []
  rw [h, key_pair, key_even, key_odd]
  simp only [key_scaled]
  unfold turn partner
  have e₁ : (64 * (g : ℕ) + d) % 2 = d % 2 := by omega
  have e₂ : (64 * (g : ℕ) + d) / 2 % 32 = d / 2 := by omega
  simp only [e₁, e₂]
  obtain hd | hd : (d : ℕ) % 2 = 0 ∨ (d : ℕ) % 2 = 1 := by omega
  · have e₃ : 2 * ((d : ℕ) / 2) = d := by omega
    simp only [hd, e₃, if_true]
    rfl
  · have e₃ : 2 * ((d : ℕ) / 2) + 1 = d := by omega
    have e₄ : 64 * (g : ℕ) + 2 * ((d : ℕ) / 2) = 64 * g + d - 1 := by omega
    simp only [hd, e₃, e₄, one_ne_zero, if_false]

theorem result_q (p : Fin 16384) (n : Fin 512) :
    val_main_v156 (F := Ideal) x md w gq cos sin (ix2 p n)
      = turn 256 rfl (qNorm x md w gq p) (angle cos p) (angle sin p) n * Ideal.ofBits .f32 0x3E38AA3B#32 := by
  have h := query_turned x md w gq cos sin ⟨p / 2048, by omega⟩ ⟨p % 2048, by omega⟩ ⟨n / 64, by omega⟩ ⟨n % 64, by omega⟩
  simp only [Nat.div_add_mod] at h
  refine Eq.trans ?_ (congrArg (· * Ideal.ofBits .f32 0x3E38AA3B#32) h)
  pointwise [val_main_v156, val_main_v155, val_main_v82, val_main_v81, val_main_cst_9]
  blk_ext []

theorem result_k (p : Fin 16384) (n : Fin 128) :
    val_main_v158 (F := Ideal) x md w gk cos sin (ix2 p n)
      = turn 64 rfl (kNorm x md w gk p) (angle cos p) (angle sin p) n := by
  have h := key_turned x md w gk cos sin ⟨p / 2048, by omega⟩ ⟨p % 2048, by omega⟩ ⟨n / 64, by omega⟩ ⟨n % 64, by omega⟩
  simp only [Nat.div_add_mod] at h
  refine Eq.trans ?_ h
  pointwise [val_main_v158, val_main_v157]
  blk_ext []

theorem result_v (p : Fin 16384) (n : Fin 128) :
    val_main_v160 (F := Ideal) x md w (ix2 p n) = token x md w p ⟨640 + n, by omega⟩ := by
  have h := proj_apply x md w ⟨p / 2048, by omega⟩ ⟨p % 2048, by omega⟩ ⟨640 + n, by omega⟩
  simp only [Nat.div_add_mod] at h
  refine Eq.trans ?_ h
  pointwise [val_main_v160, val_main_v159, val_main_v27]
  blk_ext []

theorem unit_apply (b : Fin 8) (s : Fin 2048) (n : Fin 512) :
    val_main_v116 (F := Ideal) x md w (ix3 b s n) = smooth (token x md w ⟨2048 * b + s, by omega⟩ ⟨768 + n, by omega⟩) := by
  rw [← proj_apply]
  unfold smooth
  generalize hz : val_main_v24 (F := Ideal) x md w = z
  pointwise [val_main_v116, val_main_v115, val_main_v114, val_main_v113, val_main_v112, val_main_v111, val_main_v110, val_main_v109, val_main_v108, val_main_v107, val_main_v106, val_main_v105, val_main_v104, val_main_v28, val_main_cst_10, val_main_cst_11, val_main_cst_12, val_main_cst_13, hz]

theorem inner_unit (b : Fin 8) (s : Fin 2048) (n : Fin 512) :
    val_main_v129 (F := Ideal) x md w (ix3 b s n) = smooth (token x md w ⟨2048 * b + s, by omega⟩ ⟨1280 + n, by omega⟩) := by
  rw [← proj_apply]
  unfold smooth
  generalize hz : val_main_v24 (F := Ideal) x md w = z
  pointwise [val_main_v129, val_main_v128, val_main_v127, val_main_v126, val_main_v125, val_main_v124, val_main_v123, val_main_v122, val_main_v121, val_main_v120, val_main_v119, val_main_v118, val_main_v117, val_main_v29, val_main_cst_14, val_main_cst_15, val_main_cst_16, val_main_cst_17, hz]

theorem inner_normed (b : Fin 8) (s : Fin 2048) (n : Fin 512) :
    val_main_v145 (F := Ideal) x md w gn (ix3 b s n)
      = smoothNorm (fun l => token x md w ⟨2048 * b + s, by omega⟩ ⟨1280 + l, by omega⟩) (fun l => gn (ix2 0 l)) n := by
  unfold smoothNorm
  simp only [← inner_unit]
  generalize hz : val_main_v129 (F := Ideal) x md w = z
  pointwise [val_main_v145, val_main_v144, val_main_v143, val_main_v142, val_main_v141, val_main_v140, val_main_v139, val_main_v138, val_main_v137, val_main_v136, val_main_v135, val_main_v134, val_main_v133, val_main_v130, val_main_cst_18, val_main_cst_19, val_main_cst_20, hz]

/-- The gate of token `p` at column `128 · g + c`. -/
def gateOf (p : Fin 16384) (g : Fin 4) (c : Fin 128) : EReal :=
  mixGate (smooth (token x md w p ⟨768 + (128 * g + c), by omega⟩)) (bs (ix3 0 g ⟨p % 128, by omega⟩))
    (fun q => ws (ix4 0 g ⟨p % 128, by omega⟩ q))
    (fun q => smoothNorm (fun l => token x md w ⟨128 * (p / 128) + q, by omega⟩ ⟨1280 + l, by omega⟩) (fun l => gn (ix2 0 l))
      ⟨128 * g + c, by omega⟩)

theorem mixed_apply (b : Fin 8) (h : Fin 16) (p : Fin 128) (g : Fin 4) (c : Fin 128) :
    val_main_v152 (F := Ideal) x md w gn ws bs (ix5 b h p g c)
      = (∑ q : Fin 128, ws (ix4 0 g p q) * smoothNorm (fun l => token x md w ⟨2048 * b + (128 * h + q), by omega⟩ ⟨1280 + l, by omega⟩)
          (fun l => gn (ix2 0 l)) ⟨128 * g + c, by omega⟩) + bs (ix3 0 g p) := by
  have e : ∀ q : Fin 128, smoothNorm (fun l => token x md w ⟨2048 * b + (128 * h + q), by omega⟩ ⟨1280 + l, by omega⟩)
      (fun l => gn (ix2 0 l)) ⟨128 * g + c, by omega⟩
        = val_main_v145 (F := Ideal) x md w gn (ix3 b ⟨128 * h + q, by omega⟩ ⟨128 * g + c, by omega⟩) :=
    fun q => (inner_normed x md w gn b ⟨128 * h + q, by omega⟩ ⟨128 * g + c, by omega⟩).symm
  simp only [e]
  generalize hz : val_main_v145 (F := Ideal) x md w gn = z
  pointwise [val_main_v152, val_main_v151, val_main_v150, val_main_v149, val_main_v148, val_main_v147, val_main_v146, val_main_v132, val_main_v131, hz]
  refine Ideal.add_congr (Finset.sum_congr rfl fun q _ => ?_) rfl
  rw [mul_comm]
  refine Ideal.mul_congr rfl ?_
  blk_ext []

theorem gate_apply (b : Fin 8) (h : Fin 16) (p : Fin 128) (g : Fin 4) (c : Fin 128) :
    val_main_v154 (F := Ideal) x md w gn ws bs (ix3 b ⟨128 * h + p, by omega⟩ ⟨128 * g + c, by omega⟩)
      = gateOf x md w gn ws bs ⟨2048 * b + (128 * h + p), by omega⟩ g c := by
  have h₁ := mixed_apply x md w gn ws bs b h p g c
  have h₂ := unit_apply x md w b ⟨128 * h + p, by omega⟩ ⟨128 * g + c, by omega⟩
  have e₁ : (2048 * (b : ℕ) + (128 * h + p)) % 128 = p := by omega
  have e₂ : ∀ q : Fin 128, 128 * ((2048 * (b : ℕ) + (128 * h + p)) / 128) + q = 2048 * b + (128 * h + q) := fun q => by omega
  unfold gateOf mixGate
  simp only [e₁, e₂]
  refine Eq.trans ?_ (Ideal.mul_congr h₂ h₁)
  generalize hz : val_main_v152 (F := Ideal) x md w gn ws bs = z
  pointwise [val_main_v154, val_main_v153, hz]
  blk_ext []

theorem result_gate (p : Fin 16384) (g : Fin 4) (c : Fin 128) :
    val_main_v162 (F := Ideal) x md w gn ws bs (ix2 p ⟨128 * g + c, by omega⟩) = gateOf x md w gn ws bs p g c := by
  have h := gate_apply x md w gn ws bs ⟨p / 2048, by omega⟩ ⟨p % 2048 / 128, by omega⟩ ⟨p % 128, by omega⟩ g c
  have e : 2048 * ((p : ℕ) / 2048) + (128 * (p % 2048 / 128) + p % 128) = p := by omega
  simp only [e] at h
  rw [← h]
  pointwise [val_main_v162, val_main_v161]
  blk_ext []

end Cert.PreELRef
end
-- ==== Proof.PreEvenLat.Equation.lean ====
/-
  The final arrays of the even layer's projections over the latent tokens: each grid point reads its own 1024 tokens, half of a
  sequence, that sequence's modulation, the angles of its positions, and the whole of the weights, the tables and the gains.
-/
module

public import proofs.«01_k».proof.Proof.PreEvenLat.Mix
public import proofs.«01_k».proof.Proof.PreEvenLat.Table
public import proofs.«01_k».proof.Proof.PreEvenLat.Ref
public import Idealize.ShloMosaic.Lib.Claim

@[expose] public section

set_option maxRecDepth 16384

noncomputable section

namespace Cert.PreEL

open Idealize.ShloMosaic Idealize.ShloMosaic.Pointwise Idealize.ShloMosaic.Pipeline Idealize.SL.Sem
open Cert.PreEvenLatIdeal Cert.PreEvenLatIdeal.Gen Cert.Pre
open Cert.PreE (row IsTable)

variable (m : (ℓ : Loc nD τ sig) → Buf (Elt Ideal) ℓ) (c : Dev nD)

theorem idx : ∀ t : Fin cfg0.N, win0_0.index t = ![t.val, 0] ∧ win0_1.index t = ![0, 1 + t.val / 2, 0, 0]
    ∧ win0_2.index t = ![0, 0] ∧ win0_3.index t = ![0, 0] ∧ win0_4.index t = ![0, 0] ∧ win0_5.index t = ![0, 0]
    ∧ win0_6.index t = ![0, 0] ∧ win0_7.index t = ![0, 0, 0] ∧ win0_8.index t = ![0, 0, 0]
    ∧ win0_9.index t = ![t.val % 2, 0] ∧ win0_10.index t = ![t.val % 2, 0]
    ∧ win0_11.index t = ![t.val, 0] ∧ win0_12.index t = ![t.val, 0] ∧ win0_13.index t = ![t.val, 0]
    ∧ win0_14.index t = ![t.val, 0] :=
  (by decide +kernel : ∀ t : Fin grid0.N, _)

variable (t : Fin cfg0.N)

theorem x_read (r : Fin 1024) (p : Fin 16384) (hp : (p : ℕ) = 1024 * t + r) (k : Fin 1024) :
    iblk m c 0 t (ix2 r k) = m ((c.tc : Thread nD τ).loc main_arg0) (ix2 p k) := by
  blk_ext [iblk, V, idx t]

theorem md_read (b : Fin 16) (hb : (b : ℕ) = 1 + t / 2) (i : Fin 6) (k : Fin 1024) :
    iblk m c 1 t (ix4 0 0 i k) = m ((c.tc : Thread nD τ).loc main_arg1) (ix4 0 b i k) := by
  blk_ext [iblk, V, idx t]

theorem weight_apply (x : FVec Ideal S1x1024x1792 .f32) (k : Fin 1024) (n : Fin 1792) :
    (truncf .bf16 (shapeCast S1024x1792 x shapeCasts_S1x1024x1792_S1024x1792) bitsLt_bf16_f32 : FVec Ideal S1024x1792 .bf16)
      (ix2 k n) = x (ix3 0 k n) := by
  pointwise []

theorem weight_read (k : Fin 1024) (n : Fin 1792) :
    iblk m c 2 t (ix2 k n) = m ((c.tc : Thread nD τ).loc main_arg2) (ix3 0 k n) := by
  unfold iblk
  entry_read
  exact (congrArg _ (show (win0_2.blk t).view.emb (ix2 k n) = ix2 k n by blk_ext [idx t])).trans (weight_apply _ _ _)

/-- The table that the program reads is the one it is given. -/
theorem table_read (h : IsTable (m ((c.tc : Thread nD τ).loc main_arg10))) : IsTable (iblk m c 3 t) := fun k j => by
  refine Eq.trans ?_ (h k j)
  blk_ext [iblk, V, idx t]

/-- The queries' gain at column `n`, times the constant the attention takes the queries with. -/
def qGain (x : FVec Ideal S1x64 .f32) (n : Fin 512) : EReal :=
  x (ix2 0 ⟨n % 64, by omega⟩) * Ideal.ofBits .f32 0x3E38AA3B#32

/-- The queries' gains, one for each column, as the program prepares them. -/
def tiledGain (x : FVec Ideal S1x64 .f32) : FVec Ideal S1x512 .f32 :=
  mulf (broadcastInDim S1x512 ![1] bcast_S512_S1x512_1 (shapeCast S512 (broadcastInDim S8x64 ![0, 1] bcast_S1x64_S8x64_0_1
      (shapeCast S1x64 (shapeCast S64 x shapeCasts_S1x64_S64) shapeCasts_S64_S1x64)) shapeCasts_S8x64_S512))
    (broadcastInDim S1x512 ![] bcast_S_S1x512 (constant S_ .f32 0x3E38AA3B#32))

theorem tiledGain_apply (x : FVec Ideal S1x64 .f32) (n : Fin 512) : tiledGain x (ix2 0 n) = qGain x n := by
  pointwise [tiledGain]
  rfl

theorem tiledGain_entry : V m c main_v14 = tiledGain (m ((c.tc : Thread nD τ).loc main_arg3)) := by
  entry_read
  rfl

theorem qgain_read (n : Fin 512) :
    iblk m c 4 t (ix2 0 n) = qGain (m ((c.tc : Thread nD τ).loc main_arg3)) n := by
  show V m c main_v14 ((win0_4.blk t).view.emb (ix2 0 n)) = _
  rw [tiledGain_entry]
  exact (congrArg (tiledGain _) (show (win0_4.blk t).view.emb (ix2 0 n) = ix2 0 n by blk_ext [idx t])).trans
    (tiledGain_apply _ n)

theorem kgain_apply (x : FVec Ideal S1x64 .f32) (n : Fin 128) :
    broadcastInDim S1x128 ![1] bcast_S128_S1x128_1 (shapeCast S128 (broadcastInDim S2x64 ![0, 1] bcast_S1x64_S2x64_0_1
      (shapeCast S1x64 (shapeCast S64 x shapeCasts_S1x64_S64) shapeCasts_S64_S1x64)) shapeCasts_S2x64_S128) (ix2 0 n)
      = x (ix2 0 ⟨n % 64, by omega⟩) := by
  pointwise []

theorem kgain_read (n : Fin 128) :
    iblk m c 5 t (ix2 0 n) = m ((c.tc : Thread nD τ).loc main_arg4) (ix2 0 ⟨n % 64, by omega⟩) := by
  unfold iblk
  entry_read
  exact (congrArg _ (show (win0_5.blk t).view.emb (ix2 0 n) = ix2 0 n by blk_ext [idx t])).trans (kgain_apply (m ((c.tc : Thread nD τ).loc main_arg4)) n)

theorem vgain_apply (x : FVec Ideal S1x512 .f32) (n : Fin 512) :
    broadcastInDim S1x512 ![1] bcast_S512_S1x512_1 (shapeCast S512 x shapeCasts_S1x512_S512) (ix2 0 n) = x (ix2 0 n) := by
  pointwise []

theorem vgain_read (n : Fin 512) : iblk m c 6 t (ix2 0 n) = m ((c.tc : Thread nD τ).loc main_arg5) (ix2 0 n) := by
  unfold iblk
  entry_read
  exact (congrArg _ (show (win0_6.blk t).view.emb (ix2 0 n) = ix2 0 n by blk_ext [idx t])).trans
    (vgain_apply (m ((c.tc : Thread nD τ).loc main_arg5)) n)

theorem matrix_apply (x : FVec Ideal S1x4x128x128 .f32) (g : Fin 4) (p q : Fin 128) :
    (truncf .bf16 (shapeCast S4x128x128 x shapeCasts_S1x4x128x128_S4x128x128) bitsLt_bf16_f32 : FVec Ideal S4x128x128 .bf16)
      (ix3 g p q) = x (ix4 0 g p q) := by
  pointwise []

theorem matrix_read (g : Fin 4) (p q : Fin 128) :
    iblk m c 7 t (ix3 g p q) = m ((c.tc : Thread nD τ).loc main_arg6) (ix4 0 g p q) := by
  unfold iblk
  entry_read
  exact (congrArg _ (show (win0_7.blk t).view.emb (ix3 g p q) = ix3 g p q by blk_ext [idx t])).trans
    (matrix_apply (m ((c.tc : Thread nD τ).loc main_arg6)) g p q)

theorem bias_apply (x : FVec Ideal S1x4x128 .f32) (g : Fin 4) (p q : Fin 128) :
    broadcastInDim S4x128x128 ![0, 1, 2] bcast_S4x128x1_S4x128x128_0_1_2 (broadcastInDim S4x128x1 ![0, 1]
      bcast_S4x128_S4x128x1_0_1 (shapeCast S4x128 x shapeCasts_S1x4x128_S4x128)) (ix3 g p q) = x (ix3 0 g p) := by
  pointwise []

theorem bias_read (g : Fin 4) (p q : Fin 128) :
    iblk m c 8 t (ix3 g p q) = m ((c.tc : Thread nD τ).loc main_arg7) (ix3 0 g p) := by
  unfold iblk
  entry_read
  exact (congrArg _ (show (win0_8.blk t).view.emb (ix3 g p q) = ix3 g p q by blk_ext [idx t])).trans
    (bias_apply (m ((c.tc : Thread nD τ).loc main_arg7)) g p q)

/-- The cosines laid out over 128 columns, as the program prepares them. -/
def laidCos (x : FVec Ideal S2048x32 .f32) : FVec Ideal S2048x128 .f32 :=
  shapeCast S2048x128 (broadcastInDim S1x2048x2x64 ![0, 1, 2, 3] bcast_S1x2048x1x64_S1x2048x2x64_0_1_2_3
    (shapeCast S1x2048x1x64 (shapeCast S2048x64 (broadcastInDim S2048x32x2 ![0, 1] bcast_S2048x32_S2048x32x2_0_1 x)
      shapeCasts_S2048x32x2_S2048x64) shapeCasts_S2048x64_S1x2048x1x64)) shapeCasts_S1x2048x2x64_S2048x128

/-- The sines laid out over 128 columns, with the sign of the first of each pair turned. -/
def laidSin (x : FVec Ideal S2048x32 .f32) : FVec Ideal S2048x128 .f32 :=
  shapeCast S2048x128 (broadcastInDim S1x2048x2x64 ![0, 1, 2, 3] bcast_S1x2048x1x64_S1x2048x2x64_0_1_2_3
    (shapeCast S1x2048x1x64 (mulf (shapeCast S2048x64 (broadcastInDim S2048x32x2 ![0, 1] bcast_S2048x32_S2048x32x2_0_1 x)
      shapeCasts_S2048x32x2_S2048x64) (broadcastInDim S2048x64 ![0, 1] bcast_S1x64_S2048x64_0_1
        (broadcastInDim S1x64 ![1] bcast_S64_S1x64_1 (fun i => Ideal.ofBits .f32 (lit0 (S64.rowMajor i))))))
      shapeCasts_S2048x64_S1x2048x1x64)) shapeCasts_S1x2048x2x64_S2048x128

theorem laidCos_apply (x : FVec Ideal S2048x32 .f32) (s : Fin 2048) (l : Fin 128) :
    laidCos x (ix2 s l) = x (ix2 s ⟨l / 2 % 32, by omega⟩) := by
  pointwise [laidCos]
  blk_ext []

theorem signs_apply (s : Fin 2048) (j : Fin 64) :
    (broadcastInDim S2048x64 ![0, 1] bcast_S1x64_S2048x64_0_1
        (broadcastInDim S1x64 ![1] bcast_S64_S1x64_1 (fun i => Ideal.ofBits .f32 (lit0 (S64.rowMajor i)))) : FVec Ideal S2048x64 .f32)
      (ix2 s j) = if (j : ℕ) % 2 = 0 then -1 else 1 := by
  rw [← sign_apply]
  pointwise []
  refine congrArg (fun i => Ideal.ofBits .f32 (lit0 i)) (Fin.ext ?_)
  exact Shape.rowMajor_val_one _

theorem laidSin_apply (x : FVec Ideal S2048x32 .f32) (s : Fin 2048) (l : Fin 128) :
    laidSin x (ix2 s l) = x (ix2 s ⟨l / 2 % 32, by omega⟩) * (if (l : ℕ) % 2 = 0 then -1 else 1) := by
  have e : (l : ℕ) % 64 % 2 = l % 2 := by omega
  have h := signs_apply s ⟨l % 64, by omega⟩
  simp only [e] at h
  rw [← h]
  unfold laidSin
  generalize (broadcastInDim S2048x64 ![0, 1] bcast_S1x64_S2048x64_0_1
        (broadcastInDim S1x64 ![1] bcast_S64_S1x64_1 (fun i => Ideal.ofBits .f32 (lit0 (S64.rowMajor i)))) : FVec Ideal S2048x64 .f32) = g
  pointwise []
  refine Ideal.mul_congr ?_ ?_
  · blk_ext []
  · blk_ext []

theorem cos_entry : V m c main_v27 = laidCos (m ((c.tc : Thread nD τ).loc main_arg8)) := by
  entry_read
  rfl

theorem sin_entry : V m c main_v33 = laidSin (m ((c.tc : Thread nD τ).loc main_arg9)) := by
  entry_read
  rfl

theorem cos_read (r : Fin 1024) (s : Fin 2048) (hs : (s : ℕ) = 1024 * (t % 2) + r) (l : Fin 128) :
    iblk m c 9 t (ix2 r l) = m ((c.tc : Thread nD τ).loc main_arg8) (ix2 s ⟨l / 2 % 32, by omega⟩) := by
  show V m c main_v27 ((win0_9.blk t).view.emb (ix2 r l)) = _
  rw [cos_entry]
  exact (congrArg (laidCos _) (show (win0_9.blk t).view.emb (ix2 r l) = ix2 s l by blk_ext [idx t])).trans (laidCos_apply _ s l)

theorem sin_read (r : Fin 1024) (s : Fin 2048) (hs : (s : ℕ) = 1024 * (t % 2) + r) (l : Fin 128) :
    iblk m c 10 t (ix2 r l) = laidSin (m ((c.tc : Thread nD τ).loc main_arg9)) (ix2 s l) := by
  show V m c main_v33 ((win0_10.blk t).view.emb (ix2 r l)) = _
  rw [sin_entry]
  exact congrArg (laidSin _) (show (win0_10.blk t).view.emb (ix2 r l) = ix2 s l by blk_ext [idx t])

theorem row_read (r : Fin 1024) (p : Fin 16384) (hp : (p : ℕ) = 1024 * t + r) :
    row (iblk m c 1 t) (iblk m c 0 t) (iblk m c 2 t) r = Cert.PreELRef.token (m ((c.tc : Thread nD τ).loc main_arg0)) (m ((c.tc : Thread nD τ).loc main_arg1)) (m ((c.tc : Thread nD τ).loc main_arg2)) p := by
  funext n
  unfold row Cert.PreELRef.token
  simp only [md_read m c t ⟨1 + p / 2048, by omega⟩ (by show 1 + (p : ℕ) / 2048 = _; omega), weight_read m c t,
    x_read m c t r p hp]

theorem q_point (htb : IsTable (m ((c.tc : Thread nD τ).loc main_arg10))) (r : Fin 1024) (n : Fin 512) (p : Fin 16384) (hp : (p : ℕ) = 1024 * t + r) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n)
      = Cert.PreEvenLatRefIdeal.Read.val_main_v156 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (ix2 p n) := by
  have hs : (p : ℕ) % 2048 = 1024 * (t % 2) + r := by omega
  rw [Cert.PreELRef.result_q, ← turn_scale]
  refine (out_q _ _ _ _ _ _ _ _ _ _ _ (table_read m c t htb) r n).trans ?_
  rw [tableTurn_eq 256 rfl _ _ _ (Cert.PreELRef.angle (m ((c.tc : Thread nD τ).loc main_arg8)) p) (Cert.PreELRef.angle (m ((c.tc : Thread nD τ).loc main_arg9)) p)
    (fun l => cos_read m c t r ⟨p % 2048, by omega⟩ hs l) (fun l => (sin_read m c t r ⟨p % 2048, by omega⟩ hs l).trans (laidSin_apply _ _ l))]
  refine congrArg (fun z => turn 256 rfl z _ _ n) (funext fun n => ?_)
  unfold qRaw Cert.PreELRef.qNorm
  rw [row_read m c t r p hp, qgain_read]
  exact (mul_assoc _ _ _).symm

theorem k_point (htb : IsTable (m ((c.tc : Thread nD τ).loc main_arg10))) (r : Fin 1024) (n : Fin 128) (p : Fin 16384) (hp : (p : ℕ) = 1024 * t + r) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n)
      = Cert.PreEvenLatRefIdeal.Read.val_main_v158 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg8)) (m ((c.tc : Thread nD τ).loc main_arg9)) (ix2 p n) := by
  have hs : (p : ℕ) % 2048 = 1024 * (t % 2) + r := by omega
  rw [Cert.PreELRef.result_k]
  refine (out_k _ _ _ _ _ _ _ _ _ _ _ (table_read m c t htb) r n).trans ?_
  rw [tableTurn_eq 64 rfl _ _ _ (Cert.PreELRef.angle (m ((c.tc : Thread nD τ).loc main_arg8)) p) (Cert.PreELRef.angle (m ((c.tc : Thread nD τ).loc main_arg9)) p)
    (fun l => cos_read m c t r ⟨p % 2048, by omega⟩ hs l) (fun l => (sin_read m c t r ⟨p % 2048, by omega⟩ hs l).trans (laidSin_apply _ _ l))]
  refine congrArg (fun z => turn 64 rfl z _ _ n) (funext fun n => ?_)
  unfold kRaw Cert.PreELRef.kNorm
  rw [row_read m c t r p hp, kgain_read]

theorem v_point (r : Fin 1024) (n : Fin 128) (p : Fin 16384) (hp : (p : ℕ) = 1024 * t + r) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n)
      = Cert.PreEvenLatRefIdeal.Read.val_main_v160 (F := Ideal) (m ((c.tc : Thread nD τ).loc main_arg0)) (m ((c.tc : Thread nD τ).loc main_arg1)) (m ((c.tc : Thread nD τ).loc main_arg2)) (ix2 p n) := by
  rw [Cert.PreELRef.result_v]
  refine (out_v _ _ _ _ _ _ _ _ _ _ _ r n).trans ?_
  rw [row_read m c t r p hp]

theorem gate_cell (a : Fin 8) (s : Fin 128) (g : Fin 4) (d : Fin 128) (p : Fin 16384) (hp : (p : ℕ) = 1024 * t + (128 * a + s)) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 ⟨128 * a + s, by omega⟩ ⟨128 * g + d, by omega⟩)
      = Cert.PreEvenLatRefIdeal.Read.val_main_v162 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (ix2 p ⟨128 * g + d, by omega⟩) := by
  have e : (⟨p % 128, by omega⟩ : Fin 128) = s := Fin.ext (by show (p : ℕ) % 128 = s; omega)
  have hq : ∀ q : Fin 128, ((⟨128 * ((p : ℕ) / 128) + q, by omega⟩ : Fin 16384) : ℕ) = 1024 * t + (⟨128 * a + q, by omega⟩ : Fin 1024) :=
    fun q => by show 128 * ((p : ℕ) / 128) + q = 1024 * t + (128 * a + q); omega
  rw [Cert.PreELRef.result_gate]
  refine (out_gate _ _ _ _ _ _ _ _ _ _ _ a s g d).trans ?_
  unfold Cert.PreELRef.gateOf
  rw [row_read m c t ⟨128 * a + s, by omega⟩ p hp, e]
  simp only [fun q : Fin 128 => row_read m c t ⟨128 * a + q, by omega⟩ ⟨128 * ((p : ℕ) / 128) + q, by omega⟩ (hq q), bias_read, matrix_read,
    vgain_read]

theorem gate_point (r : Fin 1024) (n : Fin 512) (p : Fin 16384) (hp : (p : ℕ) = 1024 * t + r) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n)
      = Cert.PreEvenLatRefIdeal.Read.val_main_v162 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (ix2 p n) := by
  have h := gate_cell m c t ⟨r / 128, by omega⟩ ⟨r % 128, by omega⟩ ⟨n / 128, by omega⟩ ⟨n % 128, by omega⟩ p
    (hp.trans (congrArg _ (Nat.div_add_mod (r : ℕ) 128).symm))
  simpa only [Nat.div_add_mod] using h

/-- The final queries. -/
theorem final_q (htb : IsTable (m ((c.tc : Thread nD τ).loc main_arg10))) : (dats m 0 c).arrAt 11 cfg0.N = Cert.PreEvenLatRefIdeal.Read.val_main_v156 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) := by
  refine (dats m 0 c).arrAt_eq_of_covers 11 _ (by decide +kernel) fun t _ y => ?_
  blk_simp
  rw [after0_11]
  have ht : (t : ℕ) < 16 := N_0 ▸ t.isLt
  have h₀ : (y 0 : ℕ) < 1024 := (y 0).isLt
  have h₁ : (y 1 : ℕ) < 512 := (y 1).isLt
  refine Eq.trans ?_ ((q_point m c t htb ⟨y 0, h₀⟩ ⟨y 1, h₁⟩ ⟨1024 * t + y 0, by omega⟩ rfl).trans ?_)
  · refine congrArg _ ?_
    blk_ext []
  · refine congrArg _ ?_
    blk_ext [idx t]

/-- The final keys. -/
theorem final_k (htb : IsTable (m ((c.tc : Thread nD τ).loc main_arg10))) : (dats m 0 c).arrAt 12 cfg0.N = Cert.PreEvenLatRefIdeal.Read.val_main_v158 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg8)) (m ((c.tc : Thread nD τ).loc main_arg9)) := by
  refine (dats m 0 c).arrAt_eq_of_covers 12 _ (by decide +kernel) fun t _ y => ?_
  blk_simp
  rw [after0_12]
  have ht : (t : ℕ) < 16 := N_0 ▸ t.isLt
  have h₀ : (y 0 : ℕ) < 1024 := (y 0).isLt
  have h₁ : (y 1 : ℕ) < 128 := (y 1).isLt
  refine Eq.trans ?_ ((k_point m c t htb ⟨y 0, h₀⟩ ⟨y 1, h₁⟩ ⟨1024 * t + y 0, by omega⟩ rfl).trans ?_)
  · refine congrArg _ ?_
    blk_ext []
  · refine congrArg _ ?_
    blk_ext [idx t]

/-- The final values. -/
theorem final_v : (dats m 0 c).arrAt 13 cfg0.N = Cert.PreEvenLatRefIdeal.Read.val_main_v160 (F := Ideal) (m ((c.tc : Thread nD τ).loc main_arg0)) (m ((c.tc : Thread nD τ).loc main_arg1)) (m ((c.tc : Thread nD τ).loc main_arg2)) := by
  refine (dats m 0 c).arrAt_eq_of_covers 13 _ (by decide +kernel) fun t _ y => ?_
  blk_simp
  rw [after0_13]
  have ht : (t : ℕ) < 16 := N_0 ▸ t.isLt
  have h₀ : (y 0 : ℕ) < 1024 := (y 0).isLt
  have h₁ : (y 1 : ℕ) < 128 := (y 1).isLt
  refine Eq.trans ?_ ((v_point m c t ⟨y 0, h₀⟩ ⟨y 1, h₁⟩ ⟨1024 * t + y 0, by omega⟩ rfl).trans ?_)
  · refine congrArg _ ?_
    blk_ext []
  · refine congrArg _ ?_
    blk_ext [idx t]

/-- The final gate. -/
theorem final_gate : (dats m 0 c).arrAt 14 cfg0.N = Cert.PreEvenLatRefIdeal.Read.val_main_v162 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) := by
  refine (dats m 0 c).arrAt_eq_of_covers 14 _ (by decide +kernel) fun t _ y => ?_
  blk_simp
  rw [after0_14]
  have ht : (t : ℕ) < 16 := N_0 ▸ t.isLt
  have h₀ : (y 0 : ℕ) < 1024 := (y 0).isLt
  have h₁ : (y 1 : ℕ) < 512 := (y 1).isLt
  refine Eq.trans ?_ ((gate_point m c t ⟨y 0, h₀⟩ ⟨y 1, h₁⟩ ⟨1024 * t + y 0, by omega⟩ rfl).trans ?_)
  · refine congrArg _ ?_
    blk_ext []
  · refine congrArg _ ?_
    blk_ext [idx t]

end Cert.PreEL
end
-- ==== Proof.PreEvenLat.Claim.lean ====
/-
  The claims of the even layer's projections over the latent tokens: the runs leave the arguments unchanged, and the four results
  are the reference's.
-/
module

public import proofs.«01_k».proof.Defs
public import proofs.«01_k».proof.Proof.Gen.PreEvenLat.Frame
public import proofs.«01_k».proof.Proof.Gen.PreEvenLatRefIdeal.Run
public import proofs.«01_k».proof.Proof.PreEvenLat.Equation
public import Idealize.ShloMosaic.Lib.Claim
public import Idealize.ShloMosaic.Adequacy
public import Idealize.ShloMosaic.Init

@[expose] public section

set_option maxRecDepth 16384

noncomputable section

namespace Cert.PreEL

open Idealize.ShloMosaic Idealize.SL.Sem

theorem frame_p : Cert.quiescent_PreEvenLat (hPreEvenLat := Cert.PreEvenLat.Gen.facts) :=
  fun m ρ _ => Cert.PreEvenLat.Gen.frame m ρ

theorem frame_pi : Cert.quiescent_PreEvenLatIdeal (hPreEvenLatIdeal := Cert.PreEvenLatIdeal.Gen.facts) :=
  fun m ρ _ => Cert.PreEvenLatIdeal.Gen.frame m ρ

theorem frame_pi_pre : Cert.quiescent_PreEvenLatIdeal_pre_mean_table (hPreEvenLatIdeal := Cert.PreEvenLatIdeal.Gen.facts)
    (hPre_mean_table := mean_facts) :=
  fun m ρ _ => Cert.PreEvenLatIdeal.Gen.frame m ρ

theorem frame_ri : Cert.quiescent_PreEvenLatRefIdeal (hPreEvenLatRefIdeal := Cert.PreEvenLatRefIdeal.Gen.facts) := fun m ρ _ =>
  (θ_run Cert.PreEvenLatRefIdeal.defs _ _).mono
    (fun r h => ⟨fun c => (h c).2.2.2.2, Idealize.ShloMosaic.sem_eq_zero_of_no_sems (by decide) r.2⟩)
    (Cert.PreEvenLatRefIdeal.Value.run (F := Ideal) m ρ)

theorem frame_ri_pre : Cert.quiescent_PreEvenLatRefIdeal_pre_mean_table
    (hPreEvenLatRefIdeal := Cert.PreEvenLatRefIdeal.Gen.facts) (hPre_mean_table := mean_facts) :=
  fun m ρ _ => frame_ri m ρ trivial

theorem algebraic : Cert.algebraic_PreEvenLatIdeal_PreEvenLatRefIdeal_pre_mean_table
    (hPreEvenLatIdeal := Cert.PreEvenLatIdeal.Gen.facts) (hPreEvenLatRefIdeal := Cert.PreEvenLatRefIdeal.Gen.facts)
    (hPre_mean_table := mean_facts) := by
  intro m ρ m' ρ' hpre hagree
  refine ⟨fun c => Cert.PreEvenLatRefIdeal.Read.val_main_v156 (F := Ideal) (m ((c.tc : Thread _ _).loc Cert.PreEvenLatIdeal.main_arg0)) (m ((c.tc : Thread _ _).loc Cert.PreEvenLatIdeal.main_arg1)) (m ((c.tc : Thread _ _).loc Cert.PreEvenLatIdeal.main_arg2)) (m ((c.tc : Thread _ _).loc Cert.PreEvenLatIdeal.main_arg3)) (m ((c.tc : Thread _ _).loc Cert.PreEvenLatIdeal.main_arg8)) (m ((c.tc : Thread _ _).loc Cert.PreEvenLatIdeal.main_arg9)),
    fun c => Cert.PreEvenLatRefIdeal.Read.val_main_v158 (F := Ideal) (m ((c.tc : Thread _ _).loc Cert.PreEvenLatIdeal.main_arg0)) (m ((c.tc : Thread _ _).loc Cert.PreEvenLatIdeal.main_arg1)) (m ((c.tc : Thread _ _).loc Cert.PreEvenLatIdeal.main_arg2)) (m ((c.tc : Thread _ _).loc Cert.PreEvenLatIdeal.main_arg4)) (m ((c.tc : Thread _ _).loc Cert.PreEvenLatIdeal.main_arg8)) (m ((c.tc : Thread _ _).loc Cert.PreEvenLatIdeal.main_arg9)),
    fun c => Cert.PreEvenLatRefIdeal.Read.val_main_v160 (F := Ideal) (m ((c.tc : Thread _ _).loc Cert.PreEvenLatIdeal.main_arg0)) (m ((c.tc : Thread _ _).loc Cert.PreEvenLatIdeal.main_arg1)) (m ((c.tc : Thread _ _).loc Cert.PreEvenLatIdeal.main_arg2)),
    fun c => Cert.PreEvenLatRefIdeal.Read.val_main_v162 (F := Ideal) (m ((c.tc : Thread _ _).loc Cert.PreEvenLatIdeal.main_arg0)) (m ((c.tc : Thread _ _).loc Cert.PreEvenLatIdeal.main_arg1)) (m ((c.tc : Thread _ _).loc Cert.PreEvenLatIdeal.main_arg2)) (m ((c.tc : Thread _ _).loc Cert.PreEvenLatIdeal.main_arg5)) (m ((c.tc : Thread _ _).loc Cert.PreEvenLatIdeal.main_arg6)) (m ((c.tc : Thread _ _).loc Cert.PreEvenLatIdeal.main_arg7)), ?_, ?_⟩
  · refine (θ_run Cert.PreEvenLatIdeal.defs _ _).mono (fun r h c => ⟨?_, ?_, ?_, ?_, h.2.1 c⟩)
      (θ_run_and (Cert.PreEvenLatIdeal.Gen.run_main m ρ) (Cert.PreEvenLatIdeal.Gen.frame m ρ))
    · exact ((h.1 c).1 11).trans (final_q m c (mean_at _ _ _ _ _ _ _ _ _ _ _ (hpre c)))
    · exact ((h.1 c).1 12).trans (final_k m c (mean_at _ _ _ _ _ _ _ _ _ _ _ (hpre c)))
    · exact ((h.1 c).1 13).trans (final_v m c)
    · exact ((h.1 c).1 14).trans (final_gate m c)
  · refine (θ_run Cert.PreEvenLatRefIdeal.defs _ _).mono (fun _ h c => ?_) (Cert.PreEvenLatRefIdeal.Value.run (F := Ideal) m' ρ')
    obtain ⟨h₀, h₁, h₂, h₃, h₄, h₅, h₆, h₇, h₈, h₉, h₁₀⟩ := hagree c
    refine ⟨(h c).1.trans ?_, (h c).2.1.trans ?_, (h c).2.2.1.trans ?_, (h c).2.2.2.1.trans ?_, (h c).2.2.2.2⟩
    · refine (Cert.PreEvenLatRefIdeal.Read.val_main_v156_eq (StableHlo.launchContents m' c)).trans ?_
      show Cert.PreEvenLatRefIdeal.Read.val_main_v156 (F := Ideal) (m' ((c.tc : Thread _ _).loc Cert.PreEvenLatRefIdeal.main_arg0)) (m' ((c.tc : Thread _ _).loc Cert.PreEvenLatRefIdeal.main_arg1)) (m' ((c.tc : Thread _ _).loc Cert.PreEvenLatRefIdeal.main_arg2)) (m' ((c.tc : Thread _ _).loc Cert.PreEvenLatRefIdeal.main_arg3)) (m' ((c.tc : Thread _ _).loc Cert.PreEvenLatRefIdeal.main_arg8)) (m' ((c.tc : Thread _ _).loc Cert.PreEvenLatRefIdeal.main_arg9))
        = Cert.PreEvenLatRefIdeal.Read.val_main_v156 (F := Ideal) (m ((c.tc : Thread _ _).loc Cert.PreEvenLatIdeal.main_arg0)) (m ((c.tc : Thread _ _).loc Cert.PreEvenLatIdeal.main_arg1)) (m ((c.tc : Thread _ _).loc Cert.PreEvenLatIdeal.main_arg2)) (m ((c.tc : Thread _ _).loc Cert.PreEvenLatIdeal.main_arg3)) (m ((c.tc : Thread _ _).loc Cert.PreEvenLatIdeal.main_arg8)) (m ((c.tc : Thread _ _).loc Cert.PreEvenLatIdeal.main_arg9))
      rw [h₀, h₁, h₂, h₃, h₈, h₉]
    · refine (Cert.PreEvenLatRefIdeal.Read.val_main_v158_eq (StableHlo.launchContents m' c)).trans ?_
      show Cert.PreEvenLatRefIdeal.Read.val_main_v158 (F := Ideal) (m' ((c.tc : Thread _ _).loc Cert.PreEvenLatRefIdeal.main_arg0)) (m' ((c.tc : Thread _ _).loc Cert.PreEvenLatRefIdeal.main_arg1)) (m' ((c.tc : Thread _ _).loc Cert.PreEvenLatRefIdeal.main_arg2)) (m' ((c.tc : Thread _ _).loc Cert.PreEvenLatRefIdeal.main_arg4)) (m' ((c.tc : Thread _ _).loc Cert.PreEvenLatRefIdeal.main_arg8)) (m' ((c.tc : Thread _ _).loc Cert.PreEvenLatRefIdeal.main_arg9))
        = Cert.PreEvenLatRefIdeal.Read.val_main_v158 (F := Ideal) (m ((c.tc : Thread _ _).loc Cert.PreEvenLatIdeal.main_arg0)) (m ((c.tc : Thread _ _).loc Cert.PreEvenLatIdeal.main_arg1)) (m ((c.tc : Thread _ _).loc Cert.PreEvenLatIdeal.main_arg2)) (m ((c.tc : Thread _ _).loc Cert.PreEvenLatIdeal.main_arg4)) (m ((c.tc : Thread _ _).loc Cert.PreEvenLatIdeal.main_arg8)) (m ((c.tc : Thread _ _).loc Cert.PreEvenLatIdeal.main_arg9))
      rw [h₀, h₁, h₂, h₄, h₈, h₉]
    · refine (Cert.PreEvenLatRefIdeal.Read.val_main_v160_eq (StableHlo.launchContents m' c)).trans ?_
      show Cert.PreEvenLatRefIdeal.Read.val_main_v160 (F := Ideal) (m' ((c.tc : Thread _ _).loc Cert.PreEvenLatRefIdeal.main_arg0)) (m' ((c.tc : Thread _ _).loc Cert.PreEvenLatRefIdeal.main_arg1)) (m' ((c.tc : Thread _ _).loc Cert.PreEvenLatRefIdeal.main_arg2))
        = Cert.PreEvenLatRefIdeal.Read.val_main_v160 (F := Ideal) (m ((c.tc : Thread _ _).loc Cert.PreEvenLatIdeal.main_arg0)) (m ((c.tc : Thread _ _).loc Cert.PreEvenLatIdeal.main_arg1)) (m ((c.tc : Thread _ _).loc Cert.PreEvenLatIdeal.main_arg2))
      rw [h₀, h₁, h₂]
    · refine (Cert.PreEvenLatRefIdeal.Read.val_main_v162_eq (StableHlo.launchContents m' c)).trans ?_
      show Cert.PreEvenLatRefIdeal.Read.val_main_v162 (F := Ideal) (m' ((c.tc : Thread _ _).loc Cert.PreEvenLatRefIdeal.main_arg0)) (m' ((c.tc : Thread _ _).loc Cert.PreEvenLatRefIdeal.main_arg1)) (m' ((c.tc : Thread _ _).loc Cert.PreEvenLatRefIdeal.main_arg2)) (m' ((c.tc : Thread _ _).loc Cert.PreEvenLatRefIdeal.main_arg5)) (m' ((c.tc : Thread _ _).loc Cert.PreEvenLatRefIdeal.main_arg6)) (m' ((c.tc : Thread _ _).loc Cert.PreEvenLatRefIdeal.main_arg7))
        = Cert.PreEvenLatRefIdeal.Read.val_main_v162 (F := Ideal) (m ((c.tc : Thread _ _).loc Cert.PreEvenLatIdeal.main_arg0)) (m ((c.tc : Thread _ _).loc Cert.PreEvenLatIdeal.main_arg1)) (m ((c.tc : Thread _ _).loc Cert.PreEvenLatIdeal.main_arg2)) (m ((c.tc : Thread _ _).loc Cert.PreEvenLatIdeal.main_arg5)) (m ((c.tc : Thread _ _).loc Cert.PreEvenLatIdeal.main_arg6)) (m ((c.tc : Thread _ _).loc Cert.PreEvenLatIdeal.main_arg7))
      rw [h₀, h₁, h₂, h₅, h₆, h₇]

end Cert.PreEL

end
-- ==== Proof.lean ====
module

public import proofs.«01_k».proof.Defs
public import proofs.«01_k».proof.Proof.Attn.Claim
public import proofs.«01_k».proof.Proof.Post.Claim
public import proofs.«01_k».proof.Proof.PostCtx.Claim
public import proofs.«01_k».proof.Proof.PreEven.Claim
public import proofs.«01_k».proof.Proof.PreOdd.Claim
public import proofs.«01_k».proof.Proof.PostEven.Claim
public import proofs.«01_k».proof.Proof.PostEvenCtx.Claim
public import proofs.«01_k».proof.Proof.PreOddLat.Claim
public import proofs.«01_k».proof.Proof.PreEvenLat.Claim
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Post.Gen.facts, Cert.PostIdeal.Gen.facts, Cert.PostRefIdeal.Gen.facts,
    Cert.PostCtx.Gen.facts, Cert.PostCtxIdeal.Gen.facts, Cert.PostCtxRefIdeal.Gen.facts,
    Cert.PreEven.Gen.facts, Cert.PreEvenIdeal.Gen.facts, Cert.PreEvenRefIdeal.Gen.facts,
    Cert.PreOdd.Gen.facts, Cert.PreOddIdeal.Gen.facts, Cert.PreOddRefIdeal.Gen.facts,
    Cert.PostEven.Gen.facts, Cert.PostEvenIdeal.Gen.facts, Cert.PostEvenRefIdeal.Gen.facts,
    Cert.PostEvenCtx.Gen.facts, Cert.PostEvenCtxIdeal.Gen.facts, Cert.PostEvenCtxRefIdeal.Gen.facts,
    Cert.PreOddLat.Gen.facts, Cert.PreOddLatIdeal.Gen.facts, Cert.PreOddLatRefIdeal.Gen.facts,
    Cert.PreEvenLat.Gen.facts, Cert.PreEvenLatIdeal.Gen.facts, Cert.PreEvenLatRefIdeal.Gen.facts,
    Cert.Attn.finite_facts, Cert.PreEL.mean_facts,
    Cert.Attn.frame_p, Cert.Attn.frame_pi, Cert.Attn.frame_pi_pre, Cert.Attn.frame_ri, Cert.Attn.frame_ri_pre,
    Cert.Post2.frame_p, Cert.Post2.frame_pi, Cert.Post2.frame_ri,
    Cert.PostC.frame_p, Cert.PostC.frame_pi, Cert.PostC.frame_ri,
    Cert.PreE.frame_p, Cert.PreE.frame_pi, Cert.PreE.frame_ri,
    Cert.PreO.frame_p, Cert.PreO.frame_pi, Cert.PreO.frame_ri,
    Cert.PostE.frame_p, Cert.PostE.frame_pi, Cert.PostE.frame_ri,
    Cert.PostEC.frame_p, Cert.PostEC.frame_pi, Cert.PostEC.frame_ri,
    Cert.PreOL.frame_p, Cert.PreOL.frame_pi, Cert.PreOL.frame_ri,
    Cert.PreEL.frame_p, Cert.PreEL.frame_pi, Cert.PreEL.frame_pi_pre, Cert.PreEL.frame_ri, Cert.PreEL.frame_ri_pre,
    trivial, Cert.Attn.algebraic, trivial, Cert.Post2.algebraic, trivial, Cert.PostC.algebraic, trivial, Cert.PreE.algebraic, trivial, Cert.PreO.algebraic, trivial, Cert.PostE.algebraic, trivial, Cert.PostEC.algebraic, trivial, Cert.PreOL.algebraic, trivial, Cert.PreEL.algebraic⟩

end Cert.Proof

end
